-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_args_finite [hPre_gate_args_finite : Cert.Pre_gate_args_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_args_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_args_finite [hPre_gate_args_finite : Cert.Pre_gate_args_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_args_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DwUpKernel (m : (ℓ : Loc Cert.DwUpKernel.nD Cert.DwUpKernel.τ Cert.DwUpKernel.sig) → Buf (Elt Bits) ℓ) : Prop :=
  True

def Pre_DwUpKernelIdeal (m : (ℓ : Loc Cert.DwUpKernelIdeal.nD Cert.DwUpKernelIdeal.τ Cert.DwUpKernelIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_DwDownKernel (m : (ℓ : Loc Cert.DwDownKernel.nD Cert.DwDownKernel.τ Cert.DwDownKernel.sig) → Buf (Elt Bits) ℓ) : Prop :=
  True

def Pre_DwDownKernelIdeal (m : (ℓ : Loc Cert.DwDownKernelIdeal.nD Cert.DwDownKernelIdeal.τ Cert.DwDownKernelIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DoKernel (m : (ℓ : Loc Cert.DoKernel.nD Cert.DoKernel.τ Cert.DoKernel.sig) → Buf (Elt Bits) ℓ) : Prop :=
  True

def Pre_DoKernelIdeal (m : (ℓ : Loc Cert.DoKernelIdeal.nD Cert.DoKernelIdeal.τ Cert.DoKernelIdeal.sig) → Buf (Elt Ideal) ℓ) : Prop :=
  True

def Pre_DoReferenceIdeal (m : (ℓ : Loc Cert.DoReferenceIdeal.nD Cert.DoReferenceIdeal.τ Cert.DoReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwQkvKernel (m : (ℓ : Loc Cert.DwQkvKernel.nD Cert.DwQkvKernel.τ Cert.DwQkvKernel.sig) → Buf (Elt Bits) ℓ) : Prop :=
  True

def Pre_DwQkvKernelIdeal (m : (ℓ : Loc Cert.DwQkvKernelIdeal.nD Cert.DwQkvKernelIdeal.τ Cert.DwQkvKernelIdeal.sig) → Buf (Elt Ideal) ℓ) : Prop :=
  True

def Pre_DwQkvReferenceIdeal (m : (ℓ : Loc Cert.DwQkvReferenceIdeal.nD Cert.DwQkvReferenceIdeal.τ Cert.DwQkvReferenceIdeal.sig) → Buf (Elt Ideal) ℓ) : Prop :=
  True

def Pre_DnQkvKernel (m : (ℓ : Loc Cert.DnQkvKernel.nD Cert.DnQkvKernel.τ Cert.DnQkvKernel.sig) → Buf (Elt Bits) ℓ) : Prop :=
  True

def Pre_DnQkvKernelIdeal (m : (ℓ : Loc Cert.DnQkvKernelIdeal.nD Cert.DnQkvKernelIdeal.τ Cert.DnQkvKernelIdeal.sig) → Buf (Elt Ideal) ℓ) : Prop :=
  True

def Pre_DnQkvReferenceIdeal (m : (ℓ : Loc Cert.DnQkvReferenceIdeal.nD Cert.DnQkvReferenceIdeal.τ Cert.DnQkvReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_DNormKernel (m : (ℓ : Loc Cert.DNormKernel.nD Cert.DNormKernel.τ Cert.DNormKernel.sig) → Buf (Elt Bits) ℓ) : Prop :=
  True

def Pre_DNormKernelIdeal (m : (ℓ : Loc Cert.DNormKernelIdeal.nD Cert.DNormKernelIdeal.τ Cert.DNormKernelIdeal.sig) → Buf (Elt Ideal) ℓ) : Prop :=
  True

def Pre_DNormKernelIdeal_dnorm_args_finite [hPre_dnorm_args_finite : Cert.Pre_dnorm_args_finite.Facts] (m : (ℓ : Loc Cert.DNormKernelIdeal.nD Cert.DNormKernelIdeal.τ Cert.DNormKernelIdeal.sig) → Buf (Elt Ideal) ℓ) : Prop :=
  ∀ c : Dev Cert.DNormKernelIdeal.nD,
    (Cert.Pre_dnorm_args_finite.fn (F := Ideal) (m ((c.tc : Thread Cert.DNormKernelIdeal.nD Cert.DNormKernelIdeal.τ).loc Cert.DNormKernelIdeal.main_arg0)) (m ((c.tc : Thread Cert.DNormKernelIdeal.nD Cert.DNormKernelIdeal.τ).loc Cert.DNormKernelIdeal.main_arg1)) (m ((c.tc : Thread Cert.DNormKernelIdeal.nD Cert.DNormKernelIdeal.τ).loc Cert.DNormKernelIdeal.main_arg2)) (m ((c.tc : Thread Cert.DNormKernelIdeal.nD Cert.DNormKernelIdeal.τ).loc Cert.DNormKernelIdeal.main_arg3))) = (fun _ => 1#1)

def Pre_DNormReferenceIdeal (m : (ℓ : Loc Cert.DNormReferenceIdeal.nD Cert.DNormReferenceIdeal.τ Cert.DNormReferenceIdeal.sig) → Buf (Elt Ideal) ℓ) : Prop :=
  True

def Pre_DNormReferenceIdeal_dnorm_args_finite [hPre_dnorm_args_finite : Cert.Pre_dnorm_args_finite.Facts] (m : (ℓ : Loc Cert.DNormReferenceIdeal.nD Cert.DNormReferenceIdeal.τ Cert.DNormReferenceIdeal.sig) → Buf (Elt Ideal) ℓ) : Prop :=
  ∀ c : Dev Cert.DNormReferenceIdeal.nD,
    (Cert.Pre_dnorm_args_finite.fn (F := Ideal) (m ((c.tc : Thread Cert.DNormReferenceIdeal.nD Cert.DNormReferenceIdeal.τ).loc Cert.DNormReferenceIdeal.main_arg0)) (m ((c.tc : Thread Cert.DNormReferenceIdeal.nD Cert.DNormReferenceIdeal.τ).loc Cert.DNormReferenceIdeal.main_arg1)) (m ((c.tc : Thread Cert.DNormReferenceIdeal.nD Cert.DNormReferenceIdeal.τ).loc Cert.DNormReferenceIdeal.main_arg2)) (m ((c.tc : Thread Cert.DNormReferenceIdeal.nD Cert.DNormReferenceIdeal.τ).loc Cert.DNormReferenceIdeal.main_arg3))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_args_finite [hPre_loss_args_finite : Cert.Pre_loss_args_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_args_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_args_finite [hPre_loss_args_finite : Cert.Pre_loss_args_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_args_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_DwfKernel (m : (ℓ : Loc Cert.DwfKernel.nD Cert.DwfKernel.τ Cert.DwfKernel.sig) → Buf (Elt Bits) ℓ) : Prop :=
  True

def Pre_DwfKernelIdeal (m : (ℓ : Loc Cert.DwfKernelIdeal.nD Cert.DwfKernelIdeal.τ Cert.DwfKernelIdeal.sig) → Buf (Elt Ideal) ℓ) : Prop :=
  True

def Pre_DwfReferenceIdeal (m : (ℓ : Loc Cert.DwfReferenceIdeal.nD Cert.DwfReferenceIdeal.τ Cert.DwfReferenceIdeal.sig) → Buf (Elt Ideal) ℓ) : Prop :=
  True

def Pre_DnGateKernel (m : (ℓ : Loc Cert.DnGateKernel.nD Cert.DnGateKernel.τ Cert.DnGateKernel.sig) → Buf (Elt Bits) ℓ) : Prop :=
  True

def Pre_DnGateKernelIdeal (m : (ℓ : Loc Cert.DnGateKernelIdeal.nD Cert.DnGateKernelIdeal.τ Cert.DnGateKernelIdeal.sig) → Buf (Elt Ideal) ℓ) : Prop :=
  True

def Pre_DnGateReferenceIdeal (m : (ℓ : Loc Cert.DnGateReferenceIdeal.nD Cert.DnGateReferenceIdeal.τ Cert.DnGateReferenceIdeal.sig) → Buf (Elt Ideal) ℓ) : Prop :=
  True

def Pre_HfKernel (m : (ℓ : Loc Cert.HfKernel.nD Cert.HfKernel.τ Cert.HfKernel.sig) → Buf (Elt Bits) ℓ) : Prop :=
  True

def Pre_HfKernelIdeal (m : (ℓ : Loc Cert.HfKernelIdeal.nD Cert.HfKernelIdeal.τ Cert.HfKernelIdeal.sig) → Buf (Elt Ideal) ℓ) : Prop :=
  True

def Pre_HfReferenceIdeal (m : (ℓ : Loc Cert.HfReferenceIdeal.nD Cert.HfReferenceIdeal.τ Cert.HfReferenceIdeal.sig) → Buf (Elt Ideal) ℓ) : Prop :=
  True

def Pre_ForgetKernel (m : (ℓ : Loc Cert.ForgetKernel.nD Cert.ForgetKernel.τ Cert.ForgetKernel.sig) → Buf (Elt Bits) ℓ) : Prop :=
  True

def Pre_ForgetKernelIdeal (m : (ℓ : Loc Cert.ForgetKernelIdeal.nD Cert.ForgetKernelIdeal.τ Cert.ForgetKernelIdeal.sig) → Buf (Elt Ideal) ℓ) : Prop :=
  True

def Pre_ForgetReferenceIdeal (m : (ℓ : Loc Cert.ForgetReferenceIdeal.nD Cert.ForgetReferenceIdeal.τ Cert.ForgetReferenceIdeal.sig) → Buf (Elt Ideal) ℓ) : Prop :=
  True

def Pre_DForgetKernel (m : (ℓ : Loc Cert.DForgetKernel.nD Cert.DForgetKernel.τ Cert.DForgetKernel.sig) → Buf (Elt Bits) ℓ) : Prop :=
  True

def Pre_DForgetKernelIdeal (m : (ℓ : Loc Cert.DForgetKernelIdeal.nD Cert.DForgetKernelIdeal.τ Cert.DForgetKernelIdeal.sig) → Buf (Elt Ideal) ℓ) : Prop :=
  True

def Pre_DForgetReferenceIdeal (m : (ℓ : Loc Cert.DForgetReferenceIdeal.nD Cert.DForgetReferenceIdeal.τ Cert.DForgetReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_DDilKernel (m : (ℓ : Loc Cert.DDilKernel.nD Cert.DDilKernel.τ Cert.DDilKernel.sig) → Buf (Elt Bits) ℓ) : Prop :=
  True

def Pre_DDilKernelIdeal (m : (ℓ : Loc Cert.DDilKernelIdeal.nD Cert.DDilKernelIdeal.τ Cert.DDilKernelIdeal.sig) → Buf (Elt Ideal) ℓ) : Prop :=
  True

def Pre_DDilReferenceIdeal (m : (ℓ : Loc Cert.DDilReferenceIdeal.nD Cert.DDilReferenceIdeal.τ Cert.DDilReferenceIdeal.sig) → Buf (Elt Ideal) ℓ) : Prop :=
  True

def Pre_DilKernel (m : (ℓ : Loc Cert.DilKernel.nD Cert.DilKernel.τ Cert.DilKernel.sig) → Buf (Elt Bits) ℓ) : Prop :=
  True

def Pre_DilKernelIdeal (m : (ℓ : Loc Cert.DilKernelIdeal.nD Cert.DilKernelIdeal.τ Cert.DilKernelIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateKernelIdeal_pre_gate_args_finite [hGateKernelIdeal : Cert.GateKernelIdeal.Facts] [hPre_gate_args_finite : Cert.Pre_gate_args_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_args_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_GateReferenceIdeal_pre_gate_args_finite [hGateReferenceIdeal : Cert.GateReferenceIdeal.Facts] [hPre_gate_args_finite : Cert.Pre_gate_args_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_args_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DwUpKernel [hDwUpKernel : Cert.DwUpKernel.Facts] : Prop :=
  ∀ (m : (ℓ : Loc Cert.DwUpKernel.nD Cert.DwUpKernel.τ Cert.DwUpKernel.sig) → Buf (Elt Bits) ℓ) (g : Dev Cert.DwUpKernel.nD → PrngReg), Pre_DwUpKernel m →
    θ_run (Cert.DwUpKernel.defs (F := Bits)) (onTc (τ := Cert.DwUpKernel.τ) (Cert.DwUpKernel.main (F := Bits))) ⟨m, fun _ => 0, g⟩ (fun r => (∀ c : Dev Cert.DwUpKernel.nD,
      r.2.mem ((c.tc : Thread Cert.DwUpKernel.nD Cert.DwUpKernel.τ).loc Cert.DwUpKernel.main_arg0) = m ((c.tc : Thread Cert.DwUpKernel.nD Cert.DwUpKernel.τ).loc Cert.DwUpKernel.main_arg0)
      ∧ r.2.mem ((c.tc : Thread Cert.DwUpKernel.nD Cert.DwUpKernel.τ).loc Cert.DwUpKernel.main_arg1) = m ((c.tc : Thread Cert.DwUpKernel.nD Cert.DwUpKernel.τ).loc Cert.DwUpKernel.main_arg1))
      ∧ r.2.sem = fun _ => 0)

def quiescent_DwUpKernelIdeal [hDwUpKernelIdeal : Cert.DwUpKernelIdeal.Facts] : Prop :=
  ∀ (m : (ℓ : Loc Cert.DwUpKernelIdeal.nD Cert.DwUpKernelIdeal.τ Cert.DwUpKernelIdeal.sig) → Buf (Elt Ideal) ℓ) (g : Dev Cert.DwUpKernelIdeal.nD → PrngReg), Pre_DwUpKernelIdeal m →
    θ_run (Cert.DwUpKernelIdeal.defs (F := Ideal)) (onTc (τ := Cert.DwUpKernelIdeal.τ) (Cert.DwUpKernelIdeal.main (F := Ideal))) ⟨m, fun _ => 0, g⟩ (fun r => (∀ c : Dev Cert.DwUpKernelIdeal.nD,
      r.2.mem ((c.tc : Thread Cert.DwUpKernelIdeal.nD Cert.DwUpKernelIdeal.τ).loc Cert.DwUpKernelIdeal.main_arg0) = m ((c.tc : Thread Cert.DwUpKernelIdeal.nD Cert.DwUpKernelIdeal.τ).loc Cert.DwUpKernelIdeal.main_arg0)
      ∧ r.2.mem ((c.tc : Thread Cert.DwUpKernelIdeal.nD Cert.DwUpKernelIdeal.τ).loc Cert.DwUpKernelIdeal.main_arg1) = m ((c.tc : Thread Cert.DwUpKernelIdeal.nD Cert.DwUpKernelIdeal.τ).loc Cert.DwUpKernelIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1))
      ∧ r.2.sem = fun _ => 0)

def quiescent_DwDownKernel [hDwDownKernel : Cert.DwDownKernel.Facts] : Prop :=
  ∀ (m : (ℓ : Loc Cert.DwDownKernel.nD Cert.DwDownKernel.τ Cert.DwDownKernel.sig) → Buf (Elt Bits) ℓ) (g : Dev Cert.DwDownKernel.nD → PrngReg), Pre_DwDownKernel m →
    θ_run (Cert.DwDownKernel.defs (F := Bits)) (onTc (τ := Cert.DwDownKernel.τ) (Cert.DwDownKernel.main (F := Bits))) ⟨m, fun _ => 0, g⟩ (fun r => (∀ c : Dev Cert.DwDownKernel.nD,
      r.2.mem ((c.tc : Thread Cert.DwDownKernel.nD Cert.DwDownKernel.τ).loc Cert.DwDownKernel.main_arg0) = m ((c.tc : Thread Cert.DwDownKernel.nD Cert.DwDownKernel.τ).loc Cert.DwDownKernel.main_arg0)
      ∧ r.2.mem ((c.tc : Thread Cert.DwDownKernel.nD Cert.DwDownKernel.τ).loc Cert.DwDownKernel.main_arg1) = m ((c.tc : Thread Cert.DwDownKernel.nD Cert.DwDownKernel.τ).loc Cert.DwDownKernel.main_arg1))
      ∧ r.2.sem = fun _ => 0)

def quiescent_DwDownKernelIdeal [hDwDownKernelIdeal : Cert.DwDownKernelIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg), Pre_DwDownKernelIdeal m →
    θ_run (Cert.DwDownKernelIdeal.defs (F := Ideal)) (onTc (τ := Cert.DwDownKernelIdeal.τ) (Cert.DwDownKernelIdeal.main (F := Ideal))) ⟨m, fun _ => 0, g⟩ (fun r => (∀ c : Dev Cert.DwDownKernelIdeal.nD,
      r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
      ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DoKernel [hDoKernel : Cert.DoKernel.Facts] : Prop :=
  ∀ (m : (ℓ : Loc Cert.DoKernel.nD Cert.DoKernel.τ Cert.DoKernel.sig) → Buf (Elt Bits) ℓ) (g : Dev Cert.DoKernel.nD → PrngReg), Pre_DoKernel m →
    θ_run (Cert.DoKernel.defs (F := Bits)) (onTc (τ := Cert.DoKernel.τ) (Cert.DoKernel.main (F := Bits))) ⟨m, fun _ => 0, g⟩ (fun r => (∀ c : Dev Cert.DoKernel.nD,
      r.2.mem ((c.tc : Thread Cert.DoKernel.nD Cert.DoKernel.τ).loc Cert.DoKernel.main_arg0) = m ((c.tc : Thread Cert.DoKernel.nD Cert.DoKernel.τ).loc Cert.DoKernel.main_arg0)
      ∧ r.2.mem ((c.tc : Thread Cert.DoKernel.nD Cert.DoKernel.τ).loc Cert.DoKernel.main_arg1) = m ((c.tc : Thread Cert.DoKernel.nD Cert.DoKernel.τ).loc Cert.DoKernel.main_arg1))
      ∧ r.2.sem = fun _ => 0)

def quiescent_DoKernelIdeal [hDoKernelIdeal : Cert.DoKernelIdeal.Facts] : Prop :=
  ∀ (m : (ℓ : Loc Cert.DoKernelIdeal.nD Cert.DoKernelIdeal.τ Cert.DoKernelIdeal.sig) → Buf (Elt Ideal) ℓ) (g : Dev Cert.DoKernelIdeal.nD → PrngReg), Pre_DoKernelIdeal m →
    θ_run (Cert.DoKernelIdeal.defs (F := Ideal)) (onTc (τ := Cert.DoKernelIdeal.τ) (Cert.DoKernelIdeal.main (F := Ideal))) ⟨m, fun _ => 0, g⟩ (fun r => (∀ c : Dev Cert.DoKernelIdeal.nD,
      r.2.mem ((c.tc : Thread Cert.DoKernelIdeal.nD Cert.DoKernelIdeal.τ).loc Cert.DoKernelIdeal.main_arg0) = m ((c.tc : Thread Cert.DoKernelIdeal.nD Cert.DoKernelIdeal.τ).loc Cert.DoKernelIdeal.main_arg0)
      ∧ r.2.mem ((c.tc : Thread Cert.DoKernelIdeal.nD Cert.DoKernelIdeal.τ).loc Cert.DoKernelIdeal.main_arg1) = m ((c.tc : Thread Cert.DoKernelIdeal.nD Cert.DoKernelIdeal.τ).loc Cert.DoKernelIdeal.main_arg1))
      ∧ r.2.sem = fun _ => 0)

def quiescent_DoReferenceIdeal [hDoReferenceIdeal : Cert.DoReferenceIdeal.Facts] : Prop :=
  ∀ (m : (ℓ : Loc Cert.DoReferenceIdeal.nD Cert.DoReferenceIdeal.τ Cert.DoReferenceIdeal.sig) → Buf (Elt Ideal) ℓ) (g : Dev Cert.DoReferenceIdeal.nD → PrngReg), Pre_DoReferenceIdeal m →
    θ_run (Cert.DoReferenceIdeal.defs (F := Ideal)) (onTc (τ := Cert.DoReferenceIdeal.τ) (Cert.DoReferenceIdeal.main (F := Ideal))) ⟨m, fun _ => 0, g⟩ (fun r => (∀ c : Dev Cert.DoReferenceIdeal.nD,
      r.2.mem ((c.tc : Thread Cert.DoReferenceIdeal.nD Cert.DoReferenceIdeal.τ).loc Cert.DoReferenceIdeal.main_arg0) = m ((c.tc : Thread Cert.DoReferenceIdeal.nD Cert.DoReferenceIdeal.τ).loc Cert.DoReferenceIdeal.main_arg0)
      ∧ r.2.mem ((c.tc : Thread Cert.DoReferenceIdeal.nD Cert.DoReferenceIdeal.τ).loc Cert.DoReferenceIdeal.main_arg1) = m ((c.tc : Thread Cert.DoReferenceIdeal.nD Cert.DoReferenceIdeal.τ).loc Cert.DoReferenceIdeal.main_arg1))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwQkvKernel [hDwQkvKernel : Cert.DwQkvKernel.Facts] : Prop :=
  ∀ (m : (ℓ : Loc Cert.DwQkvKernel.nD Cert.DwQkvKernel.τ Cert.DwQkvKernel.sig) → Buf (Elt Bits) ℓ) (g : Dev Cert.DwQkvKernel.nD → PrngReg), Pre_DwQkvKernel m →
    θ_run (Cert.DwQkvKernel.defs (F := Bits)) (onTc (τ := Cert.DwQkvKernel.τ) (Cert.DwQkvKernel.main (F := Bits))) ⟨m, fun _ => 0, g⟩ (fun r => (∀ c : Dev Cert.DwQkvKernel.nD,
      r.2.mem ((c.tc : Thread Cert.DwQkvKernel.nD Cert.DwQkvKernel.τ).loc Cert.DwQkvKernel.main_arg0) = m ((c.tc : Thread Cert.DwQkvKernel.nD Cert.DwQkvKernel.τ).loc Cert.DwQkvKernel.main_arg0)
      ∧ r.2.mem ((c.tc : Thread Cert.DwQkvKernel.nD Cert.DwQkvKernel.τ).loc Cert.DwQkvKernel.main_arg1) = m ((c.tc : Thread Cert.DwQkvKernel.nD Cert.DwQkvKernel.τ).loc Cert.DwQkvKernel.main_arg1))
      ∧ r.2.sem = fun _ => 0)

def quiescent_DwQkvKernelIdeal [hDwQkvKernelIdeal : Cert.DwQkvKernelIdeal.Facts] : Prop :=
  ∀ (m : (ℓ : Loc Cert.DwQkvKernelIdeal.nD Cert.DwQkvKernelIdeal.τ Cert.DwQkvKernelIdeal.sig) → Buf (Elt Ideal) ℓ) (g : Dev Cert.DwQkvKernelIdeal.nD → PrngReg), Pre_DwQkvKernelIdeal m →
    θ_run (Cert.DwQkvKernelIdeal.defs (F := Ideal)) (onTc (τ := Cert.DwQkvKernelIdeal.τ) (Cert.DwQkvKernelIdeal.main (F := Ideal))) ⟨m, fun _ => 0, g⟩ (fun r => (∀ c : Dev Cert.DwQkvKernelIdeal.nD,
      r.2.mem ((c.tc : Thread Cert.DwQkvKernelIdeal.nD Cert.DwQkvKernelIdeal.τ).loc Cert.DwQkvKernelIdeal.main_arg0) = m ((c.tc : Thread Cert.DwQkvKernelIdeal.nD Cert.DwQkvKernelIdeal.τ).loc Cert.DwQkvKernelIdeal.main_arg0)
      ∧ r.2.mem ((c.tc : Thread Cert.DwQkvKernelIdeal.nD Cert.DwQkvKernelIdeal.τ).loc Cert.DwQkvKernelIdeal.main_arg1) = m ((c.tc : Thread Cert.DwQkvKernelIdeal.nD Cert.DwQkvKernelIdeal.τ).loc Cert.DwQkvKernelIdeal.main_arg1))
      ∧ r.2.sem = fun _ => 0)

def quiescent_DwQkvReferenceIdeal [hDwQkvReferenceIdeal : Cert.DwQkvReferenceIdeal.Facts] : Prop :=
  ∀ (m : (ℓ : Loc Cert.DwQkvReferenceIdeal.nD Cert.DwQkvReferenceIdeal.τ Cert.DwQkvReferenceIdeal.sig) → Buf (Elt Ideal) ℓ) (g : Dev Cert.DwQkvReferenceIdeal.nD → PrngReg), Pre_DwQkvReferenceIdeal m →
    θ_run (Cert.DwQkvReferenceIdeal.defs (F := Ideal)) (onTc (τ := Cert.DwQkvReferenceIdeal.τ) (Cert.DwQkvReferenceIdeal.main (F := Ideal))) ⟨m, fun _ => 0, g⟩ (fun r => (∀ c : Dev Cert.DwQkvReferenceIdeal.nD,
      r.2.mem ((c.tc : Thread Cert.DwQkvReferenceIdeal.nD Cert.DwQkvReferenceIdeal.τ).loc Cert.DwQkvReferenceIdeal.main_arg0) = m ((c.tc : Thread Cert.DwQkvReferenceIdeal.nD Cert.DwQkvReferenceIdeal.τ).loc Cert.DwQkvReferenceIdeal.main_arg0)
      ∧ r.2.mem ((c.tc : Thread Cert.DwQkvReferenceIdeal.nD Cert.DwQkvReferenceIdeal.τ).loc Cert.DwQkvReferenceIdeal.main_arg1) = m ((c.tc : Thread Cert.DwQkvReferenceIdeal.nD Cert.DwQkvReferenceIdeal.τ).loc Cert.DwQkvReferenceIdeal.main_arg1))
      ∧ r.2.sem = fun _ => 0)

def quiescent_DnQkvKernel [hDnQkvKernel : Cert.DnQkvKernel.Facts] : Prop :=
  ∀ (m : (ℓ : Loc Cert.DnQkvKernel.nD Cert.DnQkvKernel.τ Cert.DnQkvKernel.sig) → Buf (Elt Bits) ℓ) (g : Dev Cert.DnQkvKernel.nD → PrngReg), Pre_DnQkvKernel m →
    θ_run (Cert.DnQkvKernel.defs (F := Bits)) (onTc (τ := Cert.DnQkvKernel.τ) (Cert.DnQkvKernel.main (F := Bits))) ⟨m, fun _ => 0, g⟩ (fun r => (∀ c : Dev Cert.DnQkvKernel.nD,
      r.2.mem ((c.tc : Thread Cert.DnQkvKernel.nD Cert.DnQkvKernel.τ).loc Cert.DnQkvKernel.main_arg0) = m ((c.tc : Thread Cert.DnQkvKernel.nD Cert.DnQkvKernel.τ).loc Cert.DnQkvKernel.main_arg0)
      ∧ r.2.mem ((c.tc : Thread Cert.DnQkvKernel.nD Cert.DnQkvKernel.τ).loc Cert.DnQkvKernel.main_arg1) = m ((c.tc : Thread Cert.DnQkvKernel.nD Cert.DnQkvKernel.τ).loc Cert.DnQkvKernel.main_arg1))
      ∧ r.2.sem = fun _ => 0)

def quiescent_DnQkvKernelIdeal [hDnQkvKernelIdeal : Cert.DnQkvKernelIdeal.Facts] : Prop :=
  ∀ (m : (ℓ : Loc Cert.DnQkvKernelIdeal.nD Cert.DnQkvKernelIdeal.τ Cert.DnQkvKernelIdeal.sig) → Buf (Elt Ideal) ℓ) (g : Dev Cert.DnQkvKernelIdeal.nD → PrngReg), Pre_DnQkvKernelIdeal m →
    θ_run (Cert.DnQkvKernelIdeal.defs (F := Ideal)) (onTc (τ := Cert.DnQkvKernelIdeal.τ) (Cert.DnQkvKernelIdeal.main (F := Ideal))) ⟨m, fun _ => 0, g⟩ (fun r => (∀ c : Dev Cert.DnQkvKernelIdeal.nD,
      r.2.mem ((c.tc : Thread Cert.DnQkvKernelIdeal.nD Cert.DnQkvKernelIdeal.τ).loc Cert.DnQkvKernelIdeal.main_arg0) = m ((c.tc : Thread Cert.DnQkvKernelIdeal.nD Cert.DnQkvKernelIdeal.τ).loc Cert.DnQkvKernelIdeal.main_arg0)
      ∧ r.2.mem ((c.tc : Thread Cert.DnQkvKernelIdeal.nD Cert.DnQkvKernelIdeal.τ).loc Cert.DnQkvKernelIdeal.main_arg1) = m ((c.tc : Thread Cert.DnQkvKernelIdeal.nD Cert.DnQkvKernelIdeal.τ).loc Cert.DnQkvKernelIdeal.main_arg1))
      ∧ r.2.sem = fun _ => 0)

def quiescent_DnQkvReferenceIdeal [hDnQkvReferenceIdeal : Cert.DnQkvReferenceIdeal.Facts] : Prop :=
  ∀ (m : (ℓ : Loc Cert.DnQkvReferenceIdeal.nD Cert.DnQkvReferenceIdeal.τ Cert.DnQkvReferenceIdeal.sig) → Buf (Elt Ideal) ℓ) (g : Dev Cert.DnQkvReferenceIdeal.nD → PrngReg), Pre_DnQkvReferenceIdeal m →
    θ_run (Cert.DnQkvReferenceIdeal.defs (F := Ideal)) (onTc (τ := Cert.DnQkvReferenceIdeal.τ) (Cert.DnQkvReferenceIdeal.main (F := Ideal))) ⟨m, fun _ => 0, g⟩ (fun r => (∀ c : Dev Cert.DnQkvReferenceIdeal.nD,
      r.2.mem ((c.tc : Thread Cert.DnQkvReferenceIdeal.nD Cert.DnQkvReferenceIdeal.τ).loc Cert.DnQkvReferenceIdeal.main_arg0) = m ((c.tc : Thread Cert.DnQkvReferenceIdeal.nD Cert.DnQkvReferenceIdeal.τ).loc Cert.DnQkvReferenceIdeal.main_arg0)
      ∧ r.2.mem ((c.tc : Thread Cert.DnQkvReferenceIdeal.nD Cert.DnQkvReferenceIdeal.τ).loc Cert.DnQkvReferenceIdeal.main_arg1) = m ((c.tc : Thread Cert.DnQkvReferenceIdeal.nD Cert.DnQkvReferenceIdeal.τ).loc Cert.DnQkvReferenceIdeal.main_arg1))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_DNormKernel [hDNormKernel : Cert.DNormKernel.Facts] : Prop :=
  ∀ (m : (ℓ : Loc Cert.DNormKernel.nD Cert.DNormKernel.τ Cert.DNormKernel.sig) → Buf (Elt Bits) ℓ) (g : Dev Cert.DNormKernel.nD → PrngReg), Pre_DNormKernel m →
    θ_run (Cert.DNormKernel.defs (F := Bits)) (onTc (τ := Cert.DNormKernel.τ) (Cert.DNormKernel.main (F := Bits))) ⟨m, fun _ => 0, g⟩ (fun r => (∀ c : Dev Cert.DNormKernel.nD,
      r.2.mem ((c.tc : Thread Cert.DNormKernel.nD Cert.DNormKernel.τ).loc Cert.DNormKernel.main_arg0) = m ((c.tc : Thread Cert.DNormKernel.nD Cert.DNormKernel.τ).loc Cert.DNormKernel.main_arg0)
      ∧ r.2.mem ((c.tc : Thread Cert.DNormKernel.nD Cert.DNormKernel.τ).loc Cert.DNormKernel.main_arg1) = m ((c.tc : Thread Cert.DNormKernel.nD Cert.DNormKernel.τ).loc Cert.DNormKernel.main_arg1)
      ∧ r.2.mem ((c.tc : Thread Cert.DNormKernel.nD Cert.DNormKernel.τ).loc Cert.DNormKernel.main_arg2) = m ((c.tc : Thread Cert.DNormKernel.nD Cert.DNormKernel.τ).loc Cert.DNormKernel.main_arg2)
      ∧ r.2.mem ((c.tc : Thread Cert.DNormKernel.nD Cert.DNormKernel.τ).loc Cert.DNormKernel.main_arg3) = m ((c.tc : Thread Cert.DNormKernel.nD Cert.DNormKernel.τ).loc Cert.DNormKernel.main_arg3))
      ∧ r.2.sem = fun _ => 0)

def quiescent_DNormKernelIdeal [hDNormKernelIdeal : Cert.DNormKernelIdeal.Facts] : Prop :=
  ∀ (m : (ℓ : Loc Cert.DNormKernelIdeal.nD Cert.DNormKernelIdeal.τ Cert.DNormKernelIdeal.sig) → Buf (Elt Ideal) ℓ) (g : Dev Cert.DNormKernelIdeal.nD → PrngReg), Pre_DNormKernelIdeal m →
    θ_run (Cert.DNormKernelIdeal.defs (F := Ideal)) (onTc (τ := Cert.DNormKernelIdeal.τ) (Cert.DNormKernelIdeal.main (F := Ideal))) ⟨m, fun _ => 0, g⟩ (fun r => (∀ c : Dev Cert.DNormKernelIdeal.nD,
      r.2.mem ((c.tc : Thread Cert.DNormKernelIdeal.nD Cert.DNormKernelIdeal.τ).loc Cert.DNormKernelIdeal.main_arg0) = m ((c.tc : Thread Cert.DNormKernelIdeal.nD Cert.DNormKernelIdeal.τ).loc Cert.DNormKernelIdeal.main_arg0)
      ∧ r.2.mem ((c.tc : Thread Cert.DNormKernelIdeal.nD Cert.DNormKernelIdeal.τ).loc Cert.DNormKernelIdeal.main_arg1) = m ((c.tc : Thread Cert.DNormKernelIdeal.nD Cert.DNormKernelIdeal.τ).loc Cert.DNormKernelIdeal.main_arg1)
      ∧ r.2.mem ((c.tc : Thread Cert.DNormKernelIdeal.nD Cert.DNormKernelIdeal.τ).loc Cert.DNormKernelIdeal.main_arg2) = m ((c.tc : Thread Cert.DNormKernelIdeal.nD Cert.DNormKernelIdeal.τ).loc Cert.DNormKernelIdeal.main_arg2)
      ∧ r.2.mem ((c.tc : Thread Cert.DNormKernelIdeal.nD Cert.DNormKernelIdeal.τ).loc Cert.DNormKernelIdeal.main_arg3) = m ((c.tc : Thread Cert.DNormKernelIdeal.nD Cert.DNormKernelIdeal.τ).loc Cert.DNormKernelIdeal.main_arg3))
      ∧ r.2.sem = fun _ => 0)

def quiescent_DNormKernelIdeal_pre_dnorm_args_finite [hDNormKernelIdeal : Cert.DNormKernelIdeal.Facts] [hPre_dnorm_args_finite : Cert.Pre_dnorm_args_finite.Facts] : Prop :=
  ∀ (m : (ℓ : Loc Cert.DNormKernelIdeal.nD Cert.DNormKernelIdeal.τ Cert.DNormKernelIdeal.sig) → Buf (Elt Ideal) ℓ) (g : Dev Cert.DNormKernelIdeal.nD → PrngReg), Pre_DNormKernelIdeal_dnorm_args_finite m →
    θ_run (Cert.DNormKernelIdeal.defs (F := Ideal)) (onTc (τ := Cert.DNormKernelIdeal.τ) (Cert.DNormKernelIdeal.main (F := Ideal))) ⟨m, fun _ => 0, g⟩ (fun r => (∀ c : Dev Cert.DNormKernelIdeal.nD,
      r.2.mem ((c.tc : Thread Cert.DNormKernelIdeal.nD Cert.DNormKernelIdeal.τ).loc Cert.DNormKernelIdeal.main_arg0) = m ((c.tc : Thread Cert.DNormKernelIdeal.nD Cert.DNormKernelIdeal.τ).loc Cert.DNormKernelIdeal.main_arg0)
      ∧ r.2.mem ((c.tc : Thread Cert.DNormKernelIdeal.nD Cert.DNormKernelIdeal.τ).loc Cert.DNormKernelIdeal.main_arg1) = m ((c.tc : Thread Cert.DNormKernelIdeal.nD Cert.DNormKernelIdeal.τ).loc Cert.DNormKernelIdeal.main_arg1)
      ∧ r.2.mem ((c.tc : Thread Cert.DNormKernelIdeal.nD Cert.DNormKernelIdeal.τ).loc Cert.DNormKernelIdeal.main_arg2) = m ((c.tc : Thread Cert.DNormKernelIdeal.nD Cert.DNormKernelIdeal.τ).loc Cert.DNormKernelIdeal.main_arg2)
      ∧ r.2.mem ((c.tc : Thread Cert.DNormKernelIdeal.nD Cert.DNormKernelIdeal.τ).loc Cert.DNormKernelIdeal.main_arg3) = m ((c.tc : Thread Cert.DNormKernelIdeal.nD Cert.DNormKernelIdeal.τ).loc Cert.DNormKernelIdeal.main_arg3))
      ∧ r.2.sem = fun _ => 0)

def quiescent_DNormReferenceIdeal [hDNormReferenceIdeal : Cert.DNormReferenceIdeal.Facts] : Prop :=
  ∀ (m : (ℓ : Loc Cert.DNormReferenceIdeal.nD Cert.DNormReferenceIdeal.τ Cert.DNormReferenceIdeal.sig) → Buf (Elt Ideal) ℓ) (g : Dev Cert.DNormReferenceIdeal.nD → PrngReg), Pre_DNormReferenceIdeal m →
    θ_run (Cert.DNormReferenceIdeal.defs (F := Ideal)) (onTc (τ := Cert.DNormReferenceIdeal.τ) (Cert.DNormReferenceIdeal.main (F := Ideal))) ⟨m, fun _ => 0, g⟩ (fun r => (∀ c : Dev Cert.DNormReferenceIdeal.nD,
      r.2.mem ((c.tc : Thread Cert.DNormReferenceIdeal.nD Cert.DNormReferenceIdeal.τ).loc Cert.DNormReferenceIdeal.main_arg0) = m ((c.tc : Thread Cert.DNormReferenceIdeal.nD Cert.DNormReferenceIdeal.τ).loc Cert.DNormReferenceIdeal.main_arg0)
      ∧ r.2.mem ((c.tc : Thread Cert.DNormReferenceIdeal.nD Cert.DNormReferenceIdeal.τ).loc Cert.DNormReferenceIdeal.main_arg1) = m ((c.tc : Thread Cert.DNormReferenceIdeal.nD Cert.DNormReferenceIdeal.τ).loc Cert.DNormReferenceIdeal.main_arg1)
      ∧ r.2.mem ((c.tc : Thread Cert.DNormReferenceIdeal.nD Cert.DNormReferenceIdeal.τ).loc Cert.DNormReferenceIdeal.main_arg2) = m ((c.tc : Thread Cert.DNormReferenceIdeal.nD Cert.DNormReferenceIdeal.τ).loc Cert.DNormReferenceIdeal.main_arg2)
      ∧ r.2.mem ((c.tc : Thread Cert.DNormReferenceIdeal.nD Cert.DNormReferenceIdeal.τ).loc Cert.DNormReferenceIdeal.main_arg3) = m ((c.tc : Thread Cert.DNormReferenceIdeal.nD Cert.DNormReferenceIdeal.τ).loc Cert.DNormReferenceIdeal.main_arg3))
      ∧ r.2.sem = fun _ => 0)

def quiescent_DNormReferenceIdeal_pre_dnorm_args_finite [hDNormReferenceIdeal : Cert.DNormReferenceIdeal.Facts] [hPre_dnorm_args_finite : Cert.Pre_dnorm_args_finite.Facts] : Prop :=
  ∀ (m : (ℓ : Loc Cert.DNormReferenceIdeal.nD Cert.DNormReferenceIdeal.τ Cert.DNormReferenceIdeal.sig) → Buf (Elt Ideal) ℓ) (g : Dev Cert.DNormReferenceIdeal.nD → PrngReg), Pre_DNormReferenceIdeal_dnorm_args_finite m →
    θ_run (Cert.DNormReferenceIdeal.defs (F := Ideal)) (onTc (τ := Cert.DNormReferenceIdeal.τ) (Cert.DNormReferenceIdeal.main (F := Ideal))) ⟨m, fun _ => 0, g⟩ (fun r => (∀ c : Dev Cert.DNormReferenceIdeal.nD,
      r.2.mem ((c.tc : Thread Cert.DNormReferenceIdeal.nD Cert.DNormReferenceIdeal.τ).loc Cert.DNormReferenceIdeal.main_arg0) = m ((c.tc : Thread Cert.DNormReferenceIdeal.nD Cert.DNormReferenceIdeal.τ).loc Cert.DNormReferenceIdeal.main_arg0)
      ∧ r.2.mem ((c.tc : Thread Cert.DNormReferenceIdeal.nD Cert.DNormReferenceIdeal.τ).loc Cert.DNormReferenceIdeal.main_arg1) = m ((c.tc : Thread Cert.DNormReferenceIdeal.nD Cert.DNormReferenceIdeal.τ).loc Cert.DNormReferenceIdeal.main_arg1)
      ∧ r.2.mem ((c.tc : Thread Cert.DNormReferenceIdeal.nD Cert.DNormReferenceIdeal.τ).loc Cert.DNormReferenceIdeal.main_arg2) = m ((c.tc : Thread Cert.DNormReferenceIdeal.nD Cert.DNormReferenceIdeal.τ).loc Cert.DNormReferenceIdeal.main_arg2)
      ∧ r.2.mem ((c.tc : Thread Cert.DNormReferenceIdeal.nD Cert.DNormReferenceIdeal.τ).loc Cert.DNormReferenceIdeal.main_arg3) = m ((c.tc : Thread Cert.DNormReferenceIdeal.nD Cert.DNormReferenceIdeal.τ).loc Cert.DNormReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_args_finite [hLossKernelIdeal : Cert.LossKernelIdeal.Facts] [hPre_loss_args_finite : Cert.Pre_loss_args_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_args_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_args_finite [hLossReferenceIdeal : Cert.LossReferenceIdeal.Facts] [hPre_loss_args_finite : Cert.Pre_loss_args_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_args_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_DwfKernel [hDwfKernel : Cert.DwfKernel.Facts] : Prop :=
  ∀ (m : (ℓ : Loc Cert.DwfKernel.nD Cert.DwfKernel.τ Cert.DwfKernel.sig) → Buf (Elt Bits) ℓ) (g : Dev Cert.DwfKernel.nD → PrngReg), Pre_DwfKernel m →
    θ_run (Cert.DwfKernel.defs (F := Bits)) (onTc (τ := Cert.DwfKernel.τ) (Cert.DwfKernel.main (F := Bits))) ⟨m, fun _ => 0, g⟩ (fun r => (∀ c : Dev Cert.DwfKernel.nD,
      r.2.mem ((c.tc : Thread Cert.DwfKernel.nD Cert.DwfKernel.τ).loc Cert.DwfKernel.main_arg0) = m ((c.tc : Thread Cert.DwfKernel.nD Cert.DwfKernel.τ).loc Cert.DwfKernel.main_arg0)
      ∧ r.2.mem ((c.tc : Thread Cert.DwfKernel.nD Cert.DwfKernel.τ).loc Cert.DwfKernel.main_arg1) = m ((c.tc : Thread Cert.DwfKernel.nD Cert.DwfKernel.τ).loc Cert.DwfKernel.main_arg1))
      ∧ r.2.sem = fun _ => 0)

def quiescent_DwfKernelIdeal [hDwfKernelIdeal : Cert.DwfKernelIdeal.Facts] : Prop :=
  ∀ (m : (ℓ : Loc Cert.DwfKernelIdeal.nD Cert.DwfKernelIdeal.τ Cert.DwfKernelIdeal.sig) → Buf (Elt Ideal) ℓ) (g : Dev Cert.DwfKernelIdeal.nD → PrngReg), Pre_DwfKernelIdeal m →
    θ_run (Cert.DwfKernelIdeal.defs (F := Ideal)) (onTc (τ := Cert.DwfKernelIdeal.τ) (Cert.DwfKernelIdeal.main (F := Ideal))) ⟨m, fun _ => 0, g⟩ (fun r => (∀ c : Dev Cert.DwfKernelIdeal.nD,
      r.2.mem ((c.tc : Thread Cert.DwfKernelIdeal.nD Cert.DwfKernelIdeal.τ).loc Cert.DwfKernelIdeal.main_arg0) = m ((c.tc : Thread Cert.DwfKernelIdeal.nD Cert.DwfKernelIdeal.τ).loc Cert.DwfKernelIdeal.main_arg0)
      ∧ r.2.mem ((c.tc : Thread Cert.DwfKernelIdeal.nD Cert.DwfKernelIdeal.τ).loc Cert.DwfKernelIdeal.main_arg1) = m ((c.tc : Thread Cert.DwfKernelIdeal.nD Cert.DwfKernelIdeal.τ).loc Cert.DwfKernelIdeal.main_arg1))
      ∧ r.2.sem = fun _ => 0)

def quiescent_DwfReferenceIdeal [hDwfReferenceIdeal : Cert.DwfReferenceIdeal.Facts] : Prop :=
  ∀ (m : (ℓ : Loc Cert.DwfReferenceIdeal.nD Cert.DwfReferenceIdeal.τ Cert.DwfReferenceIdeal.sig) → Buf (Elt Ideal) ℓ) (g : Dev Cert.DwfReferenceIdeal.nD → PrngReg), Pre_DwfReferenceIdeal m →
    θ_run (Cert.DwfReferenceIdeal.defs (F := Ideal)) (onTc (τ := Cert.DwfReferenceIdeal.τ) (Cert.DwfReferenceIdeal.main (F := Ideal))) ⟨m, fun _ => 0, g⟩ (fun r => (∀ c : Dev Cert.DwfReferenceIdeal.nD,
      r.2.mem ((c.tc : Thread Cert.DwfReferenceIdeal.nD Cert.DwfReferenceIdeal.τ).loc Cert.DwfReferenceIdeal.main_arg0) = m ((c.tc : Thread Cert.DwfReferenceIdeal.nD Cert.DwfReferenceIdeal.τ).loc Cert.DwfReferenceIdeal.main_arg0)
      ∧ r.2.mem ((c.tc : Thread Cert.DwfReferenceIdeal.nD Cert.DwfReferenceIdeal.τ).loc Cert.DwfReferenceIdeal.main_arg1) = m ((c.tc : Thread Cert.DwfReferenceIdeal.nD Cert.DwfReferenceIdeal.τ).loc Cert.DwfReferenceIdeal.main_arg1))
      ∧ r.2.sem = fun _ => 0)

def quiescent_DnGateKernel [hDnGateKernel : Cert.DnGateKernel.Facts] : Prop :=
  ∀ (m : (ℓ : Loc Cert.DnGateKernel.nD Cert.DnGateKernel.τ Cert.DnGateKernel.sig) → Buf (Elt Bits) ℓ) (g : Dev Cert.DnGateKernel.nD → PrngReg), Pre_DnGateKernel m →
    θ_run (Cert.DnGateKernel.defs (F := Bits)) (onTc (τ := Cert.DnGateKernel.τ) (Cert.DnGateKernel.main (F := Bits))) ⟨m, fun _ => 0, g⟩ (fun r => (∀ c : Dev Cert.DnGateKernel.nD,
      r.2.mem ((c.tc : Thread Cert.DnGateKernel.nD Cert.DnGateKernel.τ).loc Cert.DnGateKernel.main_arg0) = m ((c.tc : Thread Cert.DnGateKernel.nD Cert.DnGateKernel.τ).loc Cert.DnGateKernel.main_arg0)
      ∧ r.2.mem ((c.tc : Thread Cert.DnGateKernel.nD Cert.DnGateKernel.τ).loc Cert.DnGateKernel.main_arg1) = m ((c.tc : Thread Cert.DnGateKernel.nD Cert.DnGateKernel.τ).loc Cert.DnGateKernel.main_arg1)
      ∧ r.2.mem ((c.tc : Thread Cert.DnGateKernel.nD Cert.DnGateKernel.τ).loc Cert.DnGateKernel.main_arg2) = m ((c.tc : Thread Cert.DnGateKernel.nD Cert.DnGateKernel.τ).loc Cert.DnGateKernel.main_arg2))
      ∧ r.2.sem = fun _ => 0)

def quiescent_DnGateKernelIdeal [hDnGateKernelIdeal : Cert.DnGateKernelIdeal.Facts] : Prop :=
  ∀ (m : (ℓ : Loc Cert.DnGateKernelIdeal.nD Cert.DnGateKernelIdeal.τ Cert.DnGateKernelIdeal.sig) → Buf (Elt Ideal) ℓ) (g : Dev Cert.DnGateKernelIdeal.nD → PrngReg), Pre_DnGateKernelIdeal m →
    θ_run (Cert.DnGateKernelIdeal.defs (F := Ideal)) (onTc (τ := Cert.DnGateKernelIdeal.τ) (Cert.DnGateKernelIdeal.main (F := Ideal))) ⟨m, fun _ => 0, g⟩ (fun r => (∀ c : Dev Cert.DnGateKernelIdeal.nD,
      r.2.mem ((c.tc : Thread Cert.DnGateKernelIdeal.nD Cert.DnGateKernelIdeal.τ).loc Cert.DnGateKernelIdeal.main_arg0) = m ((c.tc : Thread Cert.DnGateKernelIdeal.nD Cert.DnGateKernelIdeal.τ).loc Cert.DnGateKernelIdeal.main_arg0)
      ∧ r.2.mem ((c.tc : Thread Cert.DnGateKernelIdeal.nD Cert.DnGateKernelIdeal.τ).loc Cert.DnGateKernelIdeal.main_arg1) = m ((c.tc : Thread Cert.DnGateKernelIdeal.nD Cert.DnGateKernelIdeal.τ).loc Cert.DnGateKernelIdeal.main_arg1)
      ∧ r.2.mem ((c.tc : Thread Cert.DnGateKernelIdeal.nD Cert.DnGateKernelIdeal.τ).loc Cert.DnGateKernelIdeal.main_arg2) = m ((c.tc : Thread Cert.DnGateKernelIdeal.nD Cert.DnGateKernelIdeal.τ).loc Cert.DnGateKernelIdeal.main_arg2))
      ∧ r.2.sem = fun _ => 0)

def quiescent_DnGateReferenceIdeal [hDnGateReferenceIdeal : Cert.DnGateReferenceIdeal.Facts] : Prop :=
  ∀ (m : (ℓ : Loc Cert.DnGateReferenceIdeal.nD Cert.DnGateReferenceIdeal.τ Cert.DnGateReferenceIdeal.sig) → Buf (Elt Ideal) ℓ) (g : Dev Cert.DnGateReferenceIdeal.nD → PrngReg), Pre_DnGateReferenceIdeal m →
    θ_run (Cert.DnGateReferenceIdeal.defs (F := Ideal)) (onTc (τ := Cert.DnGateReferenceIdeal.τ) (Cert.DnGateReferenceIdeal.main (F := Ideal))) ⟨m, fun _ => 0, g⟩ (fun r => (∀ c : Dev Cert.DnGateReferenceIdeal.nD,
      r.2.mem ((c.tc : Thread Cert.DnGateReferenceIdeal.nD Cert.DnGateReferenceIdeal.τ).loc Cert.DnGateReferenceIdeal.main_arg0) = m ((c.tc : Thread Cert.DnGateReferenceIdeal.nD Cert.DnGateReferenceIdeal.τ).loc Cert.DnGateReferenceIdeal.main_arg0)
      ∧ r.2.mem ((c.tc : Thread Cert.DnGateReferenceIdeal.nD Cert.DnGateReferenceIdeal.τ).loc Cert.DnGateReferenceIdeal.main_arg1) = m ((c.tc : Thread Cert.DnGateReferenceIdeal.nD Cert.DnGateReferenceIdeal.τ).loc Cert.DnGateReferenceIdeal.main_arg1)
      ∧ r.2.mem ((c.tc : Thread Cert.DnGateReferenceIdeal.nD Cert.DnGateReferenceIdeal.τ).loc Cert.DnGateReferenceIdeal.main_arg2) = m ((c.tc : Thread Cert.DnGateReferenceIdeal.nD Cert.DnGateReferenceIdeal.τ).loc Cert.DnGateReferenceIdeal.main_arg2))
      ∧ r.2.sem = fun _ => 0)

def quiescent_HfKernel [hHfKernel : Cert.HfKernel.Facts] : Prop :=
  ∀ (m : (ℓ : Loc Cert.HfKernel.nD Cert.HfKernel.τ Cert.HfKernel.sig) → Buf (Elt Bits) ℓ) (g : Dev Cert.HfKernel.nD → PrngReg), Pre_HfKernel m →
    θ_run (Cert.HfKernel.defs (F := Bits)) (onTc (τ := Cert.HfKernel.τ) (Cert.HfKernel.main (F := Bits))) ⟨m, fun _ => 0, g⟩ (fun r => (∀ c : Dev Cert.HfKernel.nD,
      r.2.mem ((c.tc : Thread Cert.HfKernel.nD Cert.HfKernel.τ).loc Cert.HfKernel.main_arg0) = m ((c.tc : Thread Cert.HfKernel.nD Cert.HfKernel.τ).loc Cert.HfKernel.main_arg0)
      ∧ r.2.mem ((c.tc : Thread Cert.HfKernel.nD Cert.HfKernel.τ).loc Cert.HfKernel.main_arg1) = m ((c.tc : Thread Cert.HfKernel.nD Cert.HfKernel.τ).loc Cert.HfKernel.main_arg1))
      ∧ r.2.sem = fun _ => 0)

def quiescent_HfKernelIdeal [hHfKernelIdeal : Cert.HfKernelIdeal.Facts] : Prop :=
  ∀ (m : (ℓ : Loc Cert.HfKernelIdeal.nD Cert.HfKernelIdeal.τ Cert.HfKernelIdeal.sig) → Buf (Elt Ideal) ℓ) (g : Dev Cert.HfKernelIdeal.nD → PrngReg), Pre_HfKernelIdeal m →
    θ_run (Cert.HfKernelIdeal.defs (F := Ideal)) (onTc (τ := Cert.HfKernelIdeal.τ) (Cert.HfKernelIdeal.main (F := Ideal))) ⟨m, fun _ => 0, g⟩ (fun r => (∀ c : Dev Cert.HfKernelIdeal.nD,
      r.2.mem ((c.tc : Thread Cert.HfKernelIdeal.nD Cert.HfKernelIdeal.τ).loc Cert.HfKernelIdeal.main_arg0) = m ((c.tc : Thread Cert.HfKernelIdeal.nD Cert.HfKernelIdeal.τ).loc Cert.HfKernelIdeal.main_arg0)
      ∧ r.2.mem ((c.tc : Thread Cert.HfKernelIdeal.nD Cert.HfKernelIdeal.τ).loc Cert.HfKernelIdeal.main_arg1) = m ((c.tc : Thread Cert.HfKernelIdeal.nD Cert.HfKernelIdeal.τ).loc Cert.HfKernelIdeal.main_arg1))
      ∧ r.2.sem = fun _ => 0)

def quiescent_HfReferenceIdeal [hHfReferenceIdeal : Cert.HfReferenceIdeal.Facts] : Prop :=
  ∀ (m : (ℓ : Loc Cert.HfReferenceIdeal.nD Cert.HfReferenceIdeal.τ Cert.HfReferenceIdeal.sig) → Buf (Elt Ideal) ℓ) (g : Dev Cert.HfReferenceIdeal.nD → PrngReg), Pre_HfReferenceIdeal m →
    θ_run (Cert.HfReferenceIdeal.defs (F := Ideal)) (onTc (τ := Cert.HfReferenceIdeal.τ) (Cert.HfReferenceIdeal.main (F := Ideal))) ⟨m, fun _ => 0, g⟩ (fun r => (∀ c : Dev Cert.HfReferenceIdeal.nD,
      r.2.mem ((c.tc : Thread Cert.HfReferenceIdeal.nD Cert.HfReferenceIdeal.τ).loc Cert.HfReferenceIdeal.main_arg0) = m ((c.tc : Thread Cert.HfReferenceIdeal.nD Cert.HfReferenceIdeal.τ).loc Cert.HfReferenceIdeal.main_arg0)
      ∧ r.2.mem ((c.tc : Thread Cert.HfReferenceIdeal.nD Cert.HfReferenceIdeal.τ).loc Cert.HfReferenceIdeal.main_arg1) = m ((c.tc : Thread Cert.HfReferenceIdeal.nD Cert.HfReferenceIdeal.τ).loc Cert.HfReferenceIdeal.main_arg1))
      ∧ r.2.sem = fun _ => 0)

def quiescent_ForgetKernel [hForgetKernel : Cert.ForgetKernel.Facts] : Prop :=
  ∀ (m : (ℓ : Loc Cert.ForgetKernel.nD Cert.ForgetKernel.τ Cert.ForgetKernel.sig) → Buf (Elt Bits) ℓ) (g : Dev Cert.ForgetKernel.nD → PrngReg), Pre_ForgetKernel m →
    θ_run (Cert.ForgetKernel.defs (F := Bits)) (onTc (τ := Cert.ForgetKernel.τ) (Cert.ForgetKernel.main (F := Bits))) ⟨m, fun _ => 0, g⟩ (fun r => (∀ c : Dev Cert.ForgetKernel.nD,
      r.2.mem ((c.tc : Thread Cert.ForgetKernel.nD Cert.ForgetKernel.τ).loc Cert.ForgetKernel.main_arg0) = m ((c.tc : Thread Cert.ForgetKernel.nD Cert.ForgetKernel.τ).loc Cert.ForgetKernel.main_arg0)
      ∧ r.2.mem ((c.tc : Thread Cert.ForgetKernel.nD Cert.ForgetKernel.τ).loc Cert.ForgetKernel.main_arg1) = m ((c.tc : Thread Cert.ForgetKernel.nD Cert.ForgetKernel.τ).loc Cert.ForgetKernel.main_arg1))
      ∧ r.2.sem = fun _ => 0)

def quiescent_ForgetKernelIdeal [hForgetKernelIdeal : Cert.ForgetKernelIdeal.Facts] : Prop :=
  ∀ (m : (ℓ : Loc Cert.ForgetKernelIdeal.nD Cert.ForgetKernelIdeal.τ Cert.ForgetKernelIdeal.sig) → Buf (Elt Ideal) ℓ) (g : Dev Cert.ForgetKernelIdeal.nD → PrngReg), Pre_ForgetKernelIdeal m →
    θ_run (Cert.ForgetKernelIdeal.defs (F := Ideal)) (onTc (τ := Cert.ForgetKernelIdeal.τ) (Cert.ForgetKernelIdeal.main (F := Ideal))) ⟨m, fun _ => 0, g⟩ (fun r => (∀ c : Dev Cert.ForgetKernelIdeal.nD,
      r.2.mem ((c.tc : Thread Cert.ForgetKernelIdeal.nD Cert.ForgetKernelIdeal.τ).loc Cert.ForgetKernelIdeal.main_arg0) = m ((c.tc : Thread Cert.ForgetKernelIdeal.nD Cert.ForgetKernelIdeal.τ).loc Cert.ForgetKernelIdeal.main_arg0)
      ∧ r.2.mem ((c.tc : Thread Cert.ForgetKernelIdeal.nD Cert.ForgetKernelIdeal.τ).loc Cert.ForgetKernelIdeal.main_arg1) = m ((c.tc : Thread Cert.ForgetKernelIdeal.nD Cert.ForgetKernelIdeal.τ).loc Cert.ForgetKernelIdeal.main_arg1))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1))
      ∧ r.2.sem = fun _ => 0)

def quiescent_DForgetKernel [hDForgetKernel : Cert.DForgetKernel.Facts] : Prop :=
  ∀ (m : (ℓ : Loc Cert.DForgetKernel.nD Cert.DForgetKernel.τ Cert.DForgetKernel.sig) → Buf (Elt Bits) ℓ) (g : Dev Cert.DForgetKernel.nD → PrngReg), Pre_DForgetKernel m →
    θ_run (Cert.DForgetKernel.defs (F := Bits)) (onTc (τ := Cert.DForgetKernel.τ) (Cert.DForgetKernel.main (F := Bits))) ⟨m, fun _ => 0, g⟩ (fun r => (∀ c : Dev Cert.DForgetKernel.nD,
      r.2.mem ((c.tc : Thread Cert.DForgetKernel.nD Cert.DForgetKernel.τ).loc Cert.DForgetKernel.main_arg0) = m ((c.tc : Thread Cert.DForgetKernel.nD Cert.DForgetKernel.τ).loc Cert.DForgetKernel.main_arg0)
      ∧ r.2.mem ((c.tc : Thread Cert.DForgetKernel.nD Cert.DForgetKernel.τ).loc Cert.DForgetKernel.main_arg1) = m ((c.tc : Thread Cert.DForgetKernel.nD Cert.DForgetKernel.τ).loc Cert.DForgetKernel.main_arg1)
      ∧ r.2.mem ((c.tc : Thread Cert.DForgetKernel.nD Cert.DForgetKernel.τ).loc Cert.DForgetKernel.main_arg2) = m ((c.tc : Thread Cert.DForgetKernel.nD Cert.DForgetKernel.τ).loc Cert.DForgetKernel.main_arg2)
      ∧ r.2.mem ((c.tc : Thread Cert.DForgetKernel.nD Cert.DForgetKernel.τ).loc Cert.DForgetKernel.main_arg3) = m ((c.tc : Thread Cert.DForgetKernel.nD Cert.DForgetKernel.τ).loc Cert.DForgetKernel.main_arg3))
      ∧ r.2.sem = fun _ => 0)

def quiescent_DForgetKernelIdeal [hDForgetKernelIdeal : Cert.DForgetKernelIdeal.Facts] : Prop :=
  ∀ (m : (ℓ : Loc Cert.DForgetKernelIdeal.nD Cert.DForgetKernelIdeal.τ Cert.DForgetKernelIdeal.sig) → Buf (Elt Ideal) ℓ) (g : Dev Cert.DForgetKernelIdeal.nD → PrngReg), Pre_DForgetKernelIdeal m →
    θ_run (Cert.DForgetKernelIdeal.defs (F := Ideal)) (onTc (τ := Cert.DForgetKernelIdeal.τ) (Cert.DForgetKernelIdeal.main (F := Ideal))) ⟨m, fun _ => 0, g⟩ (fun r => (∀ c : Dev Cert.DForgetKernelIdeal.nD,
      r.2.mem ((c.tc : Thread Cert.DForgetKernelIdeal.nD Cert.DForgetKernelIdeal.τ).loc Cert.DForgetKernelIdeal.main_arg0) = m ((c.tc : Thread Cert.DForgetKernelIdeal.nD Cert.DForgetKernelIdeal.τ).loc Cert.DForgetKernelIdeal.main_arg0)
      ∧ r.2.mem ((c.tc : Thread Cert.DForgetKernelIdeal.nD Cert.DForgetKernelIdeal.τ).loc Cert.DForgetKernelIdeal.main_arg1) = m ((c.tc : Thread Cert.DForgetKernelIdeal.nD Cert.DForgetKernelIdeal.τ).loc Cert.DForgetKernelIdeal.main_arg1)
      ∧ r.2.mem ((c.tc : Thread Cert.DForgetKernelIdeal.nD Cert.DForgetKernelIdeal.τ).loc Cert.DForgetKernelIdeal.main_arg2) = m ((c.tc : Thread Cert.DForgetKernelIdeal.nD Cert.DForgetKernelIdeal.τ).loc Cert.DForgetKernelIdeal.main_arg2)
      ∧ r.2.mem ((c.tc : Thread Cert.DForgetKernelIdeal.nD Cert.DForgetKernelIdeal.τ).loc Cert.DForgetKernelIdeal.main_arg3) = m ((c.tc : Thread Cert.DForgetKernelIdeal.nD Cert.DForgetKernelIdeal.τ).loc Cert.DForgetKernelIdeal.main_arg3))
      ∧ r.2.sem = fun _ => 0)

def quiescent_DForgetReferenceIdeal [hDForgetReferenceIdeal : Cert.DForgetReferenceIdeal.Facts] : Prop :=
  ∀ (m : (ℓ : Loc Cert.DForgetReferenceIdeal.nD Cert.DForgetReferenceIdeal.τ Cert.DForgetReferenceIdeal.sig) → Buf (Elt Ideal) ℓ) (g : Dev Cert.DForgetReferenceIdeal.nD → PrngReg), Pre_DForgetReferenceIdeal m →
    θ_run (Cert.DForgetReferenceIdeal.defs (F := Ideal)) (onTc (τ := Cert.DForgetReferenceIdeal.τ) (Cert.DForgetReferenceIdeal.main (F := Ideal))) ⟨m, fun _ => 0, g⟩ (fun r => (∀ c : Dev Cert.DForgetReferenceIdeal.nD,
      r.2.mem ((c.tc : Thread Cert.DForgetReferenceIdeal.nD Cert.DForgetReferenceIdeal.τ).loc Cert.DForgetReferenceIdeal.main_arg0) = m ((c.tc : Thread Cert.DForgetReferenceIdeal.nD Cert.DForgetReferenceIdeal.τ).loc Cert.DForgetReferenceIdeal.main_arg0)
      ∧ r.2.mem ((c.tc : Thread Cert.DForgetReferenceIdeal.nD Cert.DForgetReferenceIdeal.τ).loc Cert.DForgetReferenceIdeal.main_arg1) = m ((c.tc : Thread Cert.DForgetReferenceIdeal.nD Cert.DForgetReferenceIdeal.τ).loc Cert.DForgetReferenceIdeal.main_arg1)
      ∧ r.2.mem ((c.tc : Thread Cert.DForgetReferenceIdeal.nD Cert.DForgetReferenceIdeal.τ).loc Cert.DForgetReferenceIdeal.main_arg2) = m ((c.tc : Thread Cert.DForgetReferenceIdeal.nD Cert.DForgetReferenceIdeal.τ).loc Cert.DForgetReferenceIdeal.main_arg2)
      ∧ r.2.mem ((c.tc : Thread Cert.DForgetReferenceIdeal.nD Cert.DForgetReferenceIdeal.τ).loc Cert.DForgetReferenceIdeal.main_arg3) = m ((c.tc : Thread Cert.DForgetReferenceIdeal.nD Cert.DForgetReferenceIdeal.τ).loc Cert.DForgetReferenceIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_DDilKernel [hDDilKernel : Cert.DDilKernel.Facts] : Prop :=
  ∀ (m : (ℓ : Loc Cert.DDilKernel.nD Cert.DDilKernel.τ Cert.DDilKernel.sig) → Buf (Elt Bits) ℓ) (g : Dev Cert.DDilKernel.nD → PrngReg), Pre_DDilKernel m →
    θ_run (Cert.DDilKernel.defs (F := Bits)) (onTc (τ := Cert.DDilKernel.τ) (Cert.DDilKernel.main (F := Bits))) ⟨m, fun _ => 0, g⟩ (fun r => (∀ c : Dev Cert.DDilKernel.nD,
      r.2.mem ((c.tc : Thread Cert.DDilKernel.nD Cert.DDilKernel.τ).loc Cert.DDilKernel.main_arg0) = m ((c.tc : Thread Cert.DDilKernel.nD Cert.DDilKernel.τ).loc Cert.DDilKernel.main_arg0)
      ∧ r.2.mem ((c.tc : Thread Cert.DDilKernel.nD Cert.DDilKernel.τ).loc Cert.DDilKernel.main_arg1) = m ((c.tc : Thread Cert.DDilKernel.nD Cert.DDilKernel.τ).loc Cert.DDilKernel.main_arg1))
      ∧ r.2.sem = fun _ => 0)

def quiescent_DDilKernelIdeal [hDDilKernelIdeal : Cert.DDilKernelIdeal.Facts] : Prop :=
  ∀ (m : (ℓ : Loc Cert.DDilKernelIdeal.nD Cert.DDilKernelIdeal.τ Cert.DDilKernelIdeal.sig) → Buf (Elt Ideal) ℓ) (g : Dev Cert.DDilKernelIdeal.nD → PrngReg), Pre_DDilKernelIdeal m →
    θ_run (Cert.DDilKernelIdeal.defs (F := Ideal)) (onTc (τ := Cert.DDilKernelIdeal.τ) (Cert.DDilKernelIdeal.main (F := Ideal))) ⟨m, fun _ => 0, g⟩ (fun r => (∀ c : Dev Cert.DDilKernelIdeal.nD,
      r.2.mem ((c.tc : Thread Cert.DDilKernelIdeal.nD Cert.DDilKernelIdeal.τ).loc Cert.DDilKernelIdeal.main_arg0) = m ((c.tc : Thread Cert.DDilKernelIdeal.nD Cert.DDilKernelIdeal.τ).loc Cert.DDilKernelIdeal.main_arg0)
      ∧ r.2.mem ((c.tc : Thread Cert.DDilKernelIdeal.nD Cert.DDilKernelIdeal.τ).loc Cert.DDilKernelIdeal.main_arg1) = m ((c.tc : Thread Cert.DDilKernelIdeal.nD Cert.DDilKernelIdeal.τ).loc Cert.DDilKernelIdeal.main_arg1))
      ∧ r.2.sem = fun _ => 0)

def quiescent_DDilReferenceIdeal [hDDilReferenceIdeal : Cert.DDilReferenceIdeal.Facts] : Prop :=
  ∀ (m : (ℓ : Loc Cert.DDilReferenceIdeal.nD Cert.DDilReferenceIdeal.τ Cert.DDilReferenceIdeal.sig) → Buf (Elt Ideal) ℓ) (g : Dev Cert.DDilReferenceIdeal.nD → PrngReg), Pre_DDilReferenceIdeal m →
    θ_run (Cert.DDilReferenceIdeal.defs (F := Ideal)) (onTc (τ := Cert.DDilReferenceIdeal.τ) (Cert.DDilReferenceIdeal.main (F := Ideal))) ⟨m, fun _ => 0, g⟩ (fun r => (∀ c : Dev Cert.DDilReferenceIdeal.nD,
      r.2.mem ((c.tc : Thread Cert.DDilReferenceIdeal.nD Cert.DDilReferenceIdeal.τ).loc Cert.DDilReferenceIdeal.main_arg0) = m ((c.tc : Thread Cert.DDilReferenceIdeal.nD Cert.DDilReferenceIdeal.τ).loc Cert.DDilReferenceIdeal.main_arg0)
      ∧ r.2.mem ((c.tc : Thread Cert.DDilReferenceIdeal.nD Cert.DDilReferenceIdeal.τ).loc Cert.DDilReferenceIdeal.main_arg1) = m ((c.tc : Thread Cert.DDilReferenceIdeal.nD Cert.DDilReferenceIdeal.τ).loc Cert.DDilReferenceIdeal.main_arg1))
      ∧ r.2.sem = fun _ => 0)

def quiescent_DilKernel [hDilKernel : Cert.DilKernel.Facts] : Prop :=
  ∀ (m : (ℓ : Loc Cert.DilKernel.nD Cert.DilKernel.τ Cert.DilKernel.sig) → Buf (Elt Bits) ℓ) (g : Dev Cert.DilKernel.nD → PrngReg), Pre_DilKernel m →
    θ_run (Cert.DilKernel.defs (F := Bits)) (onTc (τ := Cert.DilKernel.τ) (Cert.DilKernel.main (F := Bits))) ⟨m, fun _ => 0, g⟩ (fun r => (∀ c : Dev Cert.DilKernel.nD,
      r.2.mem ((c.tc : Thread Cert.DilKernel.nD Cert.DilKernel.τ).loc Cert.DilKernel.main_arg0) = m ((c.tc : Thread Cert.DilKernel.nD Cert.DilKernel.τ).loc Cert.DilKernel.main_arg0))
      ∧ r.2.sem = fun _ => 0)

def quiescent_DilKernelIdeal [hDilKernelIdeal : Cert.DilKernelIdeal.Facts] : Prop :=
  ∀ (m : (ℓ : Loc Cert.DilKernelIdeal.nD Cert.DilKernelIdeal.τ Cert.DilKernelIdeal.sig) → Buf (Elt Ideal) ℓ) (g : Dev Cert.DilKernelIdeal.nD → PrngReg), Pre_DilKernelIdeal m →
    θ_run (Cert.DilKernelIdeal.defs (F := Ideal)) (onTc (τ := Cert.DilKernelIdeal.τ) (Cert.DilKernelIdeal.main (F := Ideal))) ⟨m, fun _ => 0, g⟩ (fun r => (∀ c : Dev Cert.DilKernelIdeal.nD,
      r.2.mem ((c.tc : Thread Cert.DilKernelIdeal.nD Cert.DilKernelIdeal.τ).loc Cert.DilKernelIdeal.main_arg0) = m ((c.tc : Thread Cert.DilKernelIdeal.nD Cert.DilKernelIdeal.τ).loc Cert.DilKernelIdeal.main_arg0))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1))
      ∧ r.2.sem = fun _ => 0)

def preserves_GateKernel_GateKernelIdeal : Prop :=
  True

def algebraic_GateKernelIdeal_GateReferenceIdeal_pre_gate_args_finite [hGateKernelIdeal : Cert.GateKernelIdeal.Facts] [hGateReferenceIdeal : Cert.GateReferenceIdeal.Facts] [hPre_gate_args_finite : Cert.Pre_gate_args_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_args_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v0)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v26) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_AttnKernel_AttnKernelIdeal : Prop :=
  True

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v17) = v0 c
          ∧ r.2.mem ((c.tc : Thread Cert.UpReferenceIdeal.nD Cert.UpReferenceIdeal.τ).loc Cert.UpReferenceIdeal.main_v20) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DwUpKernel_DwUpKernelIdeal : Prop :=
  True

def algebraic_DwUpKernelIdeal_DwUpReferenceIdeal [hDwUpKernelIdeal : Cert.DwUpKernelIdeal.Facts] [hDwUpReferenceIdeal : Cert.DwUpReferenceIdeal.Facts] : Prop :=
  ∀ (m : (ℓ : Loc Cert.DwUpKernelIdeal.nD Cert.DwUpKernelIdeal.τ Cert.DwUpKernelIdeal.sig) → Buf (Elt Ideal) ℓ) (g : Dev Cert.DwUpKernelIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpKernelIdeal m →
    (∀ c : Dev Cert.DwUpKernelIdeal.nD,
      m' ((c.tc : Thread Cert.DwUpReferenceIdeal.nD Cert.DwUpReferenceIdeal.τ).loc Cert.DwUpReferenceIdeal.main_arg0) = m ((c.tc : Thread Cert.DwUpKernelIdeal.nD Cert.DwUpKernelIdeal.τ).loc Cert.DwUpKernelIdeal.main_arg0)
      ∧ m' ((c.tc : Thread Cert.DwUpReferenceIdeal.nD Cert.DwUpReferenceIdeal.τ).loc Cert.DwUpReferenceIdeal.main_arg1) = m ((c.tc : Thread Cert.DwUpKernelIdeal.nD Cert.DwUpKernelIdeal.τ).loc Cert.DwUpKernelIdeal.main_arg1)) →
    ∃ (v0 : (c : Dev Cert.DwUpKernelIdeal.nD) → Buf (Elt Ideal) ((c.tc : Thread Cert.DwUpKernelIdeal.nD Cert.DwUpKernelIdeal.τ).loc Cert.DwUpKernelIdeal.main_v0)),
      θ_run (Cert.DwUpKernelIdeal.defs (F := Ideal)) (onTc (τ := Cert.DwUpKernelIdeal.τ) (Cert.DwUpKernelIdeal.main (F := Ideal))) ⟨m, fun _ => 0, g⟩ (fun r => ∀ c : Dev Cert.DwUpKernelIdeal.nD,
          r.2.mem ((c.tc : Thread Cert.DwUpKernelIdeal.nD Cert.DwUpKernelIdeal.τ).loc Cert.DwUpKernelIdeal.main_v0) = v0 c
          ∧ r.2.mem ((c.tc : Thread Cert.DwUpKernelIdeal.nD Cert.DwUpKernelIdeal.τ).loc Cert.DwUpKernelIdeal.main_arg0) = m ((c.tc : Thread Cert.DwUpKernelIdeal.nD Cert.DwUpKernelIdeal.τ).loc Cert.DwUpKernelIdeal.main_arg0)
          ∧ r.2.mem ((c.tc : Thread Cert.DwUpKernelIdeal.nD Cert.DwUpKernelIdeal.τ).loc Cert.DwUpKernelIdeal.main_arg1) = m ((c.tc : Thread Cert.DwUpKernelIdeal.nD Cert.DwUpKernelIdeal.τ).loc Cert.DwUpKernelIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v6) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DnKernel_DnKernelIdeal : Prop :=
  True

def algebraic_DnKernelIdeal_DnReferenceIdeal [hDnKernelIdeal : Cert.DnKernelIdeal.Facts] [hDnReferenceIdeal : Cert.DnReferenceIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)) →
    ∃ (v0 : (c : Dev Cert.DnKernelIdeal.nD) → Buf (Elt Ideal) ((c.tc : Thread Cert.DnKernelIdeal.nD Cert.DnKernelIdeal.τ).loc Cert.DnKernelIdeal.main_v0)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v0) = v0 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v4) = v0 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1))

def preserves_DwDownKernel_DwDownKernelIdeal : Prop :=
  True

def algebraic_DwDownKernelIdeal_DwDownReferenceIdeal [hDwDownKernelIdeal : Cert.DwDownKernelIdeal.Facts] [hDwDownReferenceIdeal : Cert.DwDownReferenceIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownKernelIdeal m →
    (∀ c : Dev Cert.DwDownKernelIdeal.nD,
      m' ((c.tc : Thread Cert.DwDownReferenceIdeal.nD Cert.DwDownReferenceIdeal.τ).loc Cert.DwDownReferenceIdeal.main_arg0) = m ((c.tc : Thread Cert.DwDownKernelIdeal.nD Cert.DwDownKernelIdeal.τ).loc Cert.DwDownKernelIdeal.main_arg0)
      ∧ m' ((c.tc : Thread Cert.DwDownReferenceIdeal.nD Cert.DwDownReferenceIdeal.τ).loc Cert.DwDownReferenceIdeal.main_arg1) = m ((c.tc : Thread Cert.DwDownKernelIdeal.nD Cert.DwDownKernelIdeal.τ).loc Cert.DwDownKernelIdeal.main_arg1)) →
    ∃ (v0 : (c : Dev Cert.DwDownKernelIdeal.nD) → Buf (Elt Ideal) ((c.tc : Thread Cert.DwDownKernelIdeal.nD Cert.DwDownKernelIdeal.τ).loc Cert.DwDownKernelIdeal.main_v0)),
      θ_run (Cert.DwDownKernelIdeal.defs (F := Ideal)) (onTc (τ := Cert.DwDownKernelIdeal.τ) (Cert.DwDownKernelIdeal.main (F := Ideal))) ⟨m, fun _ => 0, g⟩ (fun r => ∀ c : Dev Cert.DwDownKernelIdeal.nD,
          r.2.mem ((c.tc : Thread Cert.DwDownKernelIdeal.nD Cert.DwDownKernelIdeal.τ).loc Cert.DwDownKernelIdeal.main_v0) = v0 c
          ∧ r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
          ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v10) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DoKernel_DoKernelIdeal : Prop :=
  True

def algebraic_DoKernelIdeal_DoReferenceIdeal [hDoKernelIdeal : Cert.DoKernelIdeal.Facts] [hDoReferenceIdeal : Cert.DoReferenceIdeal.Facts] : Prop :=
  ∀ (m : (ℓ : Loc Cert.DoKernelIdeal.nD Cert.DoKernelIdeal.τ Cert.DoKernelIdeal.sig) → Buf (Elt Ideal) ℓ) (g : Dev Cert.DoKernelIdeal.nD → PrngReg)
    (m' : (ℓ : Loc Cert.DoReferenceIdeal.nD Cert.DoReferenceIdeal.τ Cert.DoReferenceIdeal.sig) → Buf (Elt Ideal) ℓ) (g' : Dev Cert.DoReferenceIdeal.nD → PrngReg), Pre_DoKernelIdeal m →
    (∀ c : Dev Cert.DoKernelIdeal.nD,
      m' ((c.tc : Thread Cert.DoReferenceIdeal.nD Cert.DoReferenceIdeal.τ).loc Cert.DoReferenceIdeal.main_arg0) = m ((c.tc : Thread Cert.DoKernelIdeal.nD Cert.DoKernelIdeal.τ).loc Cert.DoKernelIdeal.main_arg0)
      ∧ m' ((c.tc : Thread Cert.DoReferenceIdeal.nD Cert.DoReferenceIdeal.τ).loc Cert.DoReferenceIdeal.main_arg1) = m ((c.tc : Thread Cert.DoKernelIdeal.nD Cert.DoKernelIdeal.τ).loc Cert.DoKernelIdeal.main_arg1)) →
    ∃ (v0 : (c : Dev Cert.DoKernelIdeal.nD) → Buf (Elt Ideal) ((c.tc : Thread Cert.DoKernelIdeal.nD Cert.DoKernelIdeal.τ).loc Cert.DoKernelIdeal.main_v0)),
      θ_run (Cert.DoKernelIdeal.defs (F := Ideal)) (onTc (τ := Cert.DoKernelIdeal.τ) (Cert.DoKernelIdeal.main (F := Ideal))) ⟨m, fun _ => 0, g⟩ (fun r => ∀ c : Dev Cert.DoKernelIdeal.nD,
          r.2.mem ((c.tc : Thread Cert.DoKernelIdeal.nD Cert.DoKernelIdeal.τ).loc Cert.DoKernelIdeal.main_v0) = v0 c
          ∧ r.2.mem ((c.tc : Thread Cert.DoKernelIdeal.nD Cert.DoKernelIdeal.τ).loc Cert.DoKernelIdeal.main_arg0) = m ((c.tc : Thread Cert.DoKernelIdeal.nD Cert.DoKernelIdeal.τ).loc Cert.DoKernelIdeal.main_arg0)
          ∧ r.2.mem ((c.tc : Thread Cert.DoKernelIdeal.nD Cert.DoKernelIdeal.τ).loc Cert.DoKernelIdeal.main_arg1) = m ((c.tc : Thread Cert.DoKernelIdeal.nD Cert.DoKernelIdeal.τ).loc Cert.DoKernelIdeal.main_arg1))
      ∧ θ_run (Cert.DoReferenceIdeal.defs (F := Ideal)) (onTc (τ := Cert.DoReferenceIdeal.τ) (Cert.DoReferenceIdeal.main (F := Ideal))) ⟨m', fun _ => 0, g'⟩ (fun r => ∀ c : Dev Cert.DoReferenceIdeal.nD,
          r.2.mem ((c.tc : Thread Cert.DoReferenceIdeal.nD Cert.DoReferenceIdeal.τ).loc Cert.DoReferenceIdeal.main_v4) = v0 c
          ∧ r.2.mem ((c.tc : Thread Cert.DoReferenceIdeal.nD Cert.DoReferenceIdeal.τ).loc Cert.DoReferenceIdeal.main_arg0) = m' ((c.tc : Thread Cert.DoReferenceIdeal.nD Cert.DoReferenceIdeal.τ).loc Cert.DoReferenceIdeal.main_arg0)
          ∧ r.2.mem ((c.tc : Thread Cert.DoReferenceIdeal.nD Cert.DoReferenceIdeal.τ).loc Cert.DoReferenceIdeal.main_arg1) = m' ((c.tc : Thread Cert.DoReferenceIdeal.nD Cert.DoReferenceIdeal.τ).loc Cert.DoReferenceIdeal.main_arg1))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v0)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v0) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v6) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwQkvKernel_DwQkvKernelIdeal : Prop :=
  True

def algebraic_DwQkvKernelIdeal_DwQkvReferenceIdeal [hDwQkvKernelIdeal : Cert.DwQkvKernelIdeal.Facts] [hDwQkvReferenceIdeal : Cert.DwQkvReferenceIdeal.Facts] : Prop :=
  ∀ (m : (ℓ : Loc Cert.DwQkvKernelIdeal.nD Cert.DwQkvKernelIdeal.τ Cert.DwQkvKernelIdeal.sig) → Buf (Elt Ideal) ℓ) (g : Dev Cert.DwQkvKernelIdeal.nD → PrngReg)
    (m' : (ℓ : Loc Cert.DwQkvReferenceIdeal.nD Cert.DwQkvReferenceIdeal.τ Cert.DwQkvReferenceIdeal.sig) → Buf (Elt Ideal) ℓ) (g' : Dev Cert.DwQkvReferenceIdeal.nD → PrngReg), Pre_DwQkvKernelIdeal m →
    (∀ c : Dev Cert.DwQkvKernelIdeal.nD,
      m' ((c.tc : Thread Cert.DwQkvReferenceIdeal.nD Cert.DwQkvReferenceIdeal.τ).loc Cert.DwQkvReferenceIdeal.main_arg0) = m ((c.tc : Thread Cert.DwQkvKernelIdeal.nD Cert.DwQkvKernelIdeal.τ).loc Cert.DwQkvKernelIdeal.main_arg0)
      ∧ m' ((c.tc : Thread Cert.DwQkvReferenceIdeal.nD Cert.DwQkvReferenceIdeal.τ).loc Cert.DwQkvReferenceIdeal.main_arg1) = m ((c.tc : Thread Cert.DwQkvKernelIdeal.nD Cert.DwQkvKernelIdeal.τ).loc Cert.DwQkvKernelIdeal.main_arg1)) →
    ∃ (v0 : (c : Dev Cert.DwQkvKernelIdeal.nD) → Buf (Elt Ideal) ((c.tc : Thread Cert.DwQkvKernelIdeal.nD Cert.DwQkvKernelIdeal.τ).loc Cert.DwQkvKernelIdeal.main_v0)),
      θ_run (Cert.DwQkvKernelIdeal.defs (F := Ideal)) (onTc (τ := Cert.DwQkvKernelIdeal.τ) (Cert.DwQkvKernelIdeal.main (F := Ideal))) ⟨m, fun _ => 0, g⟩ (fun r => ∀ c : Dev Cert.DwQkvKernelIdeal.nD,
          r.2.mem ((c.tc : Thread Cert.DwQkvKernelIdeal.nD Cert.DwQkvKernelIdeal.τ).loc Cert.DwQkvKernelIdeal.main_v0) = v0 c
          ∧ r.2.mem ((c.tc : Thread Cert.DwQkvKernelIdeal.nD Cert.DwQkvKernelIdeal.τ).loc Cert.DwQkvKernelIdeal.main_arg0) = m ((c.tc : Thread Cert.DwQkvKernelIdeal.nD Cert.DwQkvKernelIdeal.τ).loc Cert.DwQkvKernelIdeal.main_arg0)
          ∧ r.2.mem ((c.tc : Thread Cert.DwQkvKernelIdeal.nD Cert.DwQkvKernelIdeal.τ).loc Cert.DwQkvKernelIdeal.main_arg1) = m ((c.tc : Thread Cert.DwQkvKernelIdeal.nD Cert.DwQkvKernelIdeal.τ).loc Cert.DwQkvKernelIdeal.main_arg1))
      ∧ θ_run (Cert.DwQkvReferenceIdeal.defs (F := Ideal)) (onTc (τ := Cert.DwQkvReferenceIdeal.τ) (Cert.DwQkvReferenceIdeal.main (F := Ideal))) ⟨m', fun _ => 0, g'⟩ (fun r => ∀ c : Dev Cert.DwQkvReferenceIdeal.nD,
          r.2.mem ((c.tc : Thread Cert.DwQkvReferenceIdeal.nD Cert.DwQkvReferenceIdeal.τ).loc Cert.DwQkvReferenceIdeal.main_v10) = v0 c
          ∧ r.2.mem ((c.tc : Thread Cert.DwQkvReferenceIdeal.nD Cert.DwQkvReferenceIdeal.τ).loc Cert.DwQkvReferenceIdeal.main_arg0) = m' ((c.tc : Thread Cert.DwQkvReferenceIdeal.nD Cert.DwQkvReferenceIdeal.τ).loc Cert.DwQkvReferenceIdeal.main_arg0)
          ∧ r.2.mem ((c.tc : Thread Cert.DwQkvReferenceIdeal.nD Cert.DwQkvReferenceIdeal.τ).loc Cert.DwQkvReferenceIdeal.main_arg1) = m' ((c.tc : Thread Cert.DwQkvReferenceIdeal.nD Cert.DwQkvReferenceIdeal.τ).loc Cert.DwQkvReferenceIdeal.main_arg1))

def preserves_DnQkvKernel_DnQkvKernelIdeal : Prop :=
  True

def algebraic_DnQkvKernelIdeal_DnQkvReferenceIdeal [hDnQkvKernelIdeal : Cert.DnQkvKernelIdeal.Facts] [hDnQkvReferenceIdeal : Cert.DnQkvReferenceIdeal.Facts] : Prop :=
  ∀ (m : (ℓ : Loc Cert.DnQkvKernelIdeal.nD Cert.DnQkvKernelIdeal.τ Cert.DnQkvKernelIdeal.sig) → Buf (Elt Ideal) ℓ) (g : Dev Cert.DnQkvKernelIdeal.nD → PrngReg)
    (m' : (ℓ : Loc Cert.DnQkvReferenceIdeal.nD Cert.DnQkvReferenceIdeal.τ Cert.DnQkvReferenceIdeal.sig) → Buf (Elt Ideal) ℓ) (g' : Dev Cert.DnQkvReferenceIdeal.nD → PrngReg), Pre_DnQkvKernelIdeal m →
    (∀ c : Dev Cert.DnQkvKernelIdeal.nD,
      m' ((c.tc : Thread Cert.DnQkvReferenceIdeal.nD Cert.DnQkvReferenceIdeal.τ).loc Cert.DnQkvReferenceIdeal.main_arg0) = m ((c.tc : Thread Cert.DnQkvKernelIdeal.nD Cert.DnQkvKernelIdeal.τ).loc Cert.DnQkvKernelIdeal.main_arg0)
      ∧ m' ((c.tc : Thread Cert.DnQkvReferenceIdeal.nD Cert.DnQkvReferenceIdeal.τ).loc Cert.DnQkvReferenceIdeal.main_arg1) = m ((c.tc : Thread Cert.DnQkvKernelIdeal.nD Cert.DnQkvKernelIdeal.τ).loc Cert.DnQkvKernelIdeal.main_arg1)) →
    ∃ (v0 : (c : Dev Cert.DnQkvKernelIdeal.nD) → Buf (Elt Ideal) ((c.tc : Thread Cert.DnQkvKernelIdeal.nD Cert.DnQkvKernelIdeal.τ).loc Cert.DnQkvKernelIdeal.main_v0)),
      θ_run (Cert.DnQkvKernelIdeal.defs (F := Ideal)) (onTc (τ := Cert.DnQkvKernelIdeal.τ) (Cert.DnQkvKernelIdeal.main (F := Ideal))) ⟨m, fun _ => 0, g⟩ (fun r => ∀ c : Dev Cert.DnQkvKernelIdeal.nD,
          r.2.mem ((c.tc : Thread Cert.DnQkvKernelIdeal.nD Cert.DnQkvKernelIdeal.τ).loc Cert.DnQkvKernelIdeal.main_v0) = v0 c
          ∧ r.2.mem ((c.tc : Thread Cert.DnQkvKernelIdeal.nD Cert.DnQkvKernelIdeal.τ).loc Cert.DnQkvKernelIdeal.main_arg0) = m ((c.tc : Thread Cert.DnQkvKernelIdeal.nD Cert.DnQkvKernelIdeal.τ).loc Cert.DnQkvKernelIdeal.main_arg0)
          ∧ r.2.mem ((c.tc : Thread Cert.DnQkvKernelIdeal.nD Cert.DnQkvKernelIdeal.τ).loc Cert.DnQkvKernelIdeal.main_arg1) = m ((c.tc : Thread Cert.DnQkvKernelIdeal.nD Cert.DnQkvKernelIdeal.τ).loc Cert.DnQkvKernelIdeal.main_arg1))
      ∧ θ_run (Cert.DnQkvReferenceIdeal.defs (F := Ideal)) (onTc (τ := Cert.DnQkvReferenceIdeal.τ) (Cert.DnQkvReferenceIdeal.main (F := Ideal))) ⟨m', fun _ => 0, g'⟩ (fun r => ∀ c : Dev Cert.DnQkvReferenceIdeal.nD,
          r.2.mem ((c.tc : Thread Cert.DnQkvReferenceIdeal.nD Cert.DnQkvReferenceIdeal.τ).loc Cert.DnQkvReferenceIdeal.main_v8) = v0 c
          ∧ r.2.mem ((c.tc : Thread Cert.DnQkvReferenceIdeal.nD Cert.DnQkvReferenceIdeal.τ).loc Cert.DnQkvReferenceIdeal.main_arg0) = m' ((c.tc : Thread Cert.DnQkvReferenceIdeal.nD Cert.DnQkvReferenceIdeal.τ).loc Cert.DnQkvReferenceIdeal.main_arg0)
          ∧ r.2.mem ((c.tc : Thread Cert.DnQkvReferenceIdeal.nD Cert.DnQkvReferenceIdeal.τ).loc Cert.DnQkvReferenceIdeal.main_arg1) = m' ((c.tc : Thread Cert.DnQkvReferenceIdeal.nD Cert.DnQkvReferenceIdeal.τ).loc Cert.DnQkvReferenceIdeal.main_arg1))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v0)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v0) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v2) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_DNormKernel_DNormKernelIdeal : Prop :=
  True

def algebraic_DNormKernelIdeal_DNormReferenceIdeal_pre_dnorm_args_finite [hDNormKernelIdeal : Cert.DNormKernelIdeal.Facts] [hDNormReferenceIdeal : Cert.DNormReferenceIdeal.Facts] [hPre_dnorm_args_finite : Cert.Pre_dnorm_args_finite.Facts] : Prop :=
  ∀ (m : (ℓ : Loc Cert.DNormKernelIdeal.nD Cert.DNormKernelIdeal.τ Cert.DNormKernelIdeal.sig) → Buf (Elt Ideal) ℓ) (g : Dev Cert.DNormKernelIdeal.nD → PrngReg)
    (m' : (ℓ : Loc Cert.DNormReferenceIdeal.nD Cert.DNormReferenceIdeal.τ Cert.DNormReferenceIdeal.sig) → Buf (Elt Ideal) ℓ) (g' : Dev Cert.DNormReferenceIdeal.nD → PrngReg), Pre_DNormKernelIdeal_dnorm_args_finite m →
    (∀ c : Dev Cert.DNormKernelIdeal.nD,
      m' ((c.tc : Thread Cert.DNormReferenceIdeal.nD Cert.DNormReferenceIdeal.τ).loc Cert.DNormReferenceIdeal.main_arg0) = m ((c.tc : Thread Cert.DNormKernelIdeal.nD Cert.DNormKernelIdeal.τ).loc Cert.DNormKernelIdeal.main_arg0)
      ∧ m' ((c.tc : Thread Cert.DNormReferenceIdeal.nD Cert.DNormReferenceIdeal.τ).loc Cert.DNormReferenceIdeal.main_arg1) = m ((c.tc : Thread Cert.DNormKernelIdeal.nD Cert.DNormKernelIdeal.τ).loc Cert.DNormKernelIdeal.main_arg1)
      ∧ m' ((c.tc : Thread Cert.DNormReferenceIdeal.nD Cert.DNormReferenceIdeal.τ).loc Cert.DNormReferenceIdeal.main_arg2) = m ((c.tc : Thread Cert.DNormKernelIdeal.nD Cert.DNormKernelIdeal.τ).loc Cert.DNormKernelIdeal.main_arg2)
      ∧ m' ((c.tc : Thread Cert.DNormReferenceIdeal.nD Cert.DNormReferenceIdeal.τ).loc Cert.DNormReferenceIdeal.main_arg3) = m ((c.tc : Thread Cert.DNormKernelIdeal.nD Cert.DNormKernelIdeal.τ).loc Cert.DNormKernelIdeal.main_arg3)) →
    ∃ (v0 : (c : Dev Cert.DNormKernelIdeal.nD) → Buf (Elt Ideal) ((c.tc : Thread Cert.DNormKernelIdeal.nD Cert.DNormKernelIdeal.τ).loc Cert.DNormKernelIdeal.main_v0_0)) (v1 : (c : Dev Cert.DNormKernelIdeal.nD) → Buf (Elt Ideal) ((c.tc : Thread Cert.DNormKernelIdeal.nD Cert.DNormKernelIdeal.τ).loc Cert.DNormKernelIdeal.main_v0_1)) (v2 : (c : Dev Cert.DNormKernelIdeal.nD) → Buf (Elt Ideal) ((c.tc : Thread Cert.DNormKernelIdeal.nD Cert.DNormKernelIdeal.τ).loc Cert.DNormKernelIdeal.main_v0_2)),
      θ_run (Cert.DNormKernelIdeal.defs (F := Ideal)) (onTc (τ := Cert.DNormKernelIdeal.τ) (Cert.DNormKernelIdeal.main (F := Ideal))) ⟨m, fun _ => 0, g⟩ (fun r => ∀ c : Dev Cert.DNormKernelIdeal.nD,
          r.2.mem ((c.tc : Thread Cert.DNormKernelIdeal.nD Cert.DNormKernelIdeal.τ).loc Cert.DNormKernelIdeal.main_v0_0) = v0 c
          ∧ r.2.mem ((c.tc : Thread Cert.DNormKernelIdeal.nD Cert.DNormKernelIdeal.τ).loc Cert.DNormKernelIdeal.main_v0_1) = v1 c
          ∧ r.2.mem ((c.tc : Thread Cert.DNormKernelIdeal.nD Cert.DNormKernelIdeal.τ).loc Cert.DNormKernelIdeal.main_v0_2) = v2 c
          ∧ r.2.mem ((c.tc : Thread Cert.DNormKernelIdeal.nD Cert.DNormKernelIdeal.τ).loc Cert.DNormKernelIdeal.main_arg0) = m ((c.tc : Thread Cert.DNormKernelIdeal.nD Cert.DNormKernelIdeal.τ).loc Cert.DNormKernelIdeal.main_arg0)
          ∧ r.2.mem ((c.tc : Thread Cert.DNormKernelIdeal.nD Cert.DNormKernelIdeal.τ).loc Cert.DNormKernelIdeal.main_arg1) = m ((c.tc : Thread Cert.DNormKernelIdeal.nD Cert.DNormKernelIdeal.τ).loc Cert.DNormKernelIdeal.main_arg1)
          ∧ r.2.mem ((c.tc : Thread Cert.DNormKernelIdeal.nD Cert.DNormKernelIdeal.τ).loc Cert.DNormKernelIdeal.main_arg2) = m ((c.tc : Thread Cert.DNormKernelIdeal.nD Cert.DNormKernelIdeal.τ).loc Cert.DNormKernelIdeal.main_arg2)
          ∧ r.2.mem ((c.tc : Thread Cert.DNormKernelIdeal.nD Cert.DNormKernelIdeal.τ).loc Cert.DNormKernelIdeal.main_arg3) = m ((c.tc : Thread Cert.DNormKernelIdeal.nD Cert.DNormKernelIdeal.τ).loc Cert.DNormKernelIdeal.main_arg3))
      ∧ θ_run (Cert.DNormReferenceIdeal.defs (F := Ideal)) (onTc (τ := Cert.DNormReferenceIdeal.τ) (Cert.DNormReferenceIdeal.main (F := Ideal))) ⟨m', fun _ => 0, g'⟩ (fun r => ∀ c : Dev Cert.DNormReferenceIdeal.nD,
          r.2.mem ((c.tc : Thread Cert.DNormReferenceIdeal.nD Cert.DNormReferenceIdeal.τ).loc Cert.DNormReferenceIdeal.main_v37) = v0 c
          ∧ r.2.mem ((c.tc : Thread Cert.DNormReferenceIdeal.nD Cert.DNormReferenceIdeal.τ).loc Cert.DNormReferenceIdeal.main_v39) = v1 c
          ∧ r.2.mem ((c.tc : Thread Cert.DNormReferenceIdeal.nD Cert.DNormReferenceIdeal.τ).loc Cert.DNormReferenceIdeal.main_v40) = v2 c
          ∧ r.2.mem ((c.tc : Thread Cert.DNormReferenceIdeal.nD Cert.DNormReferenceIdeal.τ).loc Cert.DNormReferenceIdeal.main_arg0) = m' ((c.tc : Thread Cert.DNormReferenceIdeal.nD Cert.DNormReferenceIdeal.τ).loc Cert.DNormReferenceIdeal.main_arg0)
          ∧ r.2.mem ((c.tc : Thread Cert.DNormReferenceIdeal.nD Cert.DNormReferenceIdeal.τ).loc Cert.DNormReferenceIdeal.main_arg1) = m' ((c.tc : Thread Cert.DNormReferenceIdeal.nD Cert.DNormReferenceIdeal.τ).loc Cert.DNormReferenceIdeal.main_arg1)
          ∧ r.2.mem ((c.tc : Thread Cert.DNormReferenceIdeal.nD Cert.DNormReferenceIdeal.τ).loc Cert.DNormReferenceIdeal.main_arg2) = m' ((c.tc : Thread Cert.DNormReferenceIdeal.nD Cert.DNormReferenceIdeal.τ).loc Cert.DNormReferenceIdeal.main_arg2)
          ∧ r.2.mem ((c.tc : Thread Cert.DNormReferenceIdeal.nD Cert.DNormReferenceIdeal.τ).loc Cert.DNormReferenceIdeal.main_arg3) = m' ((c.tc : Thread Cert.DNormReferenceIdeal.nD Cert.DNormReferenceIdeal.τ).loc Cert.DNormReferenceIdeal.main_arg3))

def preserves_LossKernel_LossKernelIdeal : Prop :=
  True

def algebraic_LossKernelIdeal_LossReferenceIdeal_pre_loss_args_finite [hLossKernelIdeal : Cert.LossKernelIdeal.Facts] [hLossReferenceIdeal : Cert.LossReferenceIdeal.Facts] [hPre_loss_args_finite : Cert.Pre_loss_args_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_args_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_v54) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_DwfKernel_DwfKernelIdeal : Prop :=
  True

def algebraic_DwfKernelIdeal_DwfReferenceIdeal [hDwfKernelIdeal : Cert.DwfKernelIdeal.Facts] [hDwfReferenceIdeal : Cert.DwfReferenceIdeal.Facts] : Prop :=
  ∀ (m : (ℓ : Loc Cert.DwfKernelIdeal.nD Cert.DwfKernelIdeal.τ Cert.DwfKernelIdeal.sig) → Buf (Elt Ideal) ℓ) (g : Dev Cert.DwfKernelIdeal.nD → PrngReg)
    (m' : (ℓ : Loc Cert.DwfReferenceIdeal.nD Cert.DwfReferenceIdeal.τ Cert.DwfReferenceIdeal.sig) → Buf (Elt Ideal) ℓ) (g' : Dev Cert.DwfReferenceIdeal.nD → PrngReg), Pre_DwfKernelIdeal m →
    (∀ c : Dev Cert.DwfKernelIdeal.nD,
      m' ((c.tc : Thread Cert.DwfReferenceIdeal.nD Cert.DwfReferenceIdeal.τ).loc Cert.DwfReferenceIdeal.main_arg0) = m ((c.tc : Thread Cert.DwfKernelIdeal.nD Cert.DwfKernelIdeal.τ).loc Cert.DwfKernelIdeal.main_arg0)
      ∧ m' ((c.tc : Thread Cert.DwfReferenceIdeal.nD Cert.DwfReferenceIdeal.τ).loc Cert.DwfReferenceIdeal.main_arg1) = m ((c.tc : Thread Cert.DwfKernelIdeal.nD Cert.DwfKernelIdeal.τ).loc Cert.DwfKernelIdeal.main_arg1)) →
    ∃ (v0 : (c : Dev Cert.DwfKernelIdeal.nD) → Buf (Elt Ideal) ((c.tc : Thread Cert.DwfKernelIdeal.nD Cert.DwfKernelIdeal.τ).loc Cert.DwfKernelIdeal.main_v0)),
      θ_run (Cert.DwfKernelIdeal.defs (F := Ideal)) (onTc (τ := Cert.DwfKernelIdeal.τ) (Cert.DwfKernelIdeal.main (F := Ideal))) ⟨m, fun _ => 0, g⟩ (fun r => ∀ c : Dev Cert.DwfKernelIdeal.nD,
          r.2.mem ((c.tc : Thread Cert.DwfKernelIdeal.nD Cert.DwfKernelIdeal.τ).loc Cert.DwfKernelIdeal.main_v0) = v0 c
          ∧ r.2.mem ((c.tc : Thread Cert.DwfKernelIdeal.nD Cert.DwfKernelIdeal.τ).loc Cert.DwfKernelIdeal.main_arg0) = m ((c.tc : Thread Cert.DwfKernelIdeal.nD Cert.DwfKernelIdeal.τ).loc Cert.DwfKernelIdeal.main_arg0)
          ∧ r.2.mem ((c.tc : Thread Cert.DwfKernelIdeal.nD Cert.DwfKernelIdeal.τ).loc Cert.DwfKernelIdeal.main_arg1) = m ((c.tc : Thread Cert.DwfKernelIdeal.nD Cert.DwfKernelIdeal.τ).loc Cert.DwfKernelIdeal.main_arg1))
      ∧ θ_run (Cert.DwfReferenceIdeal.defs (F := Ideal)) (onTc (τ := Cert.DwfReferenceIdeal.τ) (Cert.DwfReferenceIdeal.main (F := Ideal))) ⟨m', fun _ => 0, g'⟩ (fun r => ∀ c : Dev Cert.DwfReferenceIdeal.nD,
          r.2.mem ((c.tc : Thread Cert.DwfReferenceIdeal.nD Cert.DwfReferenceIdeal.τ).loc Cert.DwfReferenceIdeal.main_v6) = v0 c
          ∧ r.2.mem ((c.tc : Thread Cert.DwfReferenceIdeal.nD Cert.DwfReferenceIdeal.τ).loc Cert.DwfReferenceIdeal.main_arg0) = m' ((c.tc : Thread Cert.DwfReferenceIdeal.nD Cert.DwfReferenceIdeal.τ).loc Cert.DwfReferenceIdeal.main_arg0)
          ∧ r.2.mem ((c.tc : Thread Cert.DwfReferenceIdeal.nD Cert.DwfReferenceIdeal.τ).loc Cert.DwfReferenceIdeal.main_arg1) = m' ((c.tc : Thread Cert.DwfReferenceIdeal.nD Cert.DwfReferenceIdeal.τ).loc Cert.DwfReferenceIdeal.main_arg1))

def preserves_DnGateKernel_DnGateKernelIdeal : Prop :=
  True

def algebraic_DnGateKernelIdeal_DnGateReferenceIdeal [hDnGateKernelIdeal : Cert.DnGateKernelIdeal.Facts] [hDnGateReferenceIdeal : Cert.DnGateReferenceIdeal.Facts] : Prop :=
  ∀ (m : (ℓ : Loc Cert.DnGateKernelIdeal.nD Cert.DnGateKernelIdeal.τ Cert.DnGateKernelIdeal.sig) → Buf (Elt Ideal) ℓ) (g : Dev Cert.DnGateKernelIdeal.nD → PrngReg)
    (m' : (ℓ : Loc Cert.DnGateReferenceIdeal.nD Cert.DnGateReferenceIdeal.τ Cert.DnGateReferenceIdeal.sig) → Buf (Elt Ideal) ℓ) (g' : Dev Cert.DnGateReferenceIdeal.nD → PrngReg), Pre_DnGateKernelIdeal m →
    (∀ c : Dev Cert.DnGateKernelIdeal.nD,
      m' ((c.tc : Thread Cert.DnGateReferenceIdeal.nD Cert.DnGateReferenceIdeal.τ).loc Cert.DnGateReferenceIdeal.main_arg0) = m ((c.tc : Thread Cert.DnGateKernelIdeal.nD Cert.DnGateKernelIdeal.τ).loc Cert.DnGateKernelIdeal.main_arg0)
      ∧ m' ((c.tc : Thread Cert.DnGateReferenceIdeal.nD Cert.DnGateReferenceIdeal.τ).loc Cert.DnGateReferenceIdeal.main_arg1) = m ((c.tc : Thread Cert.DnGateKernelIdeal.nD Cert.DnGateKernelIdeal.τ).loc Cert.DnGateKernelIdeal.main_arg1)
      ∧ m' ((c.tc : Thread Cert.DnGateReferenceIdeal.nD Cert.DnGateReferenceIdeal.τ).loc Cert.DnGateReferenceIdeal.main_arg2) = m ((c.tc : Thread Cert.DnGateKernelIdeal.nD Cert.DnGateKernelIdeal.τ).loc Cert.DnGateKernelIdeal.main_arg2)) →
    ∃ (v0 : (c : Dev Cert.DnGateKernelIdeal.nD) → Buf (Elt Ideal) ((c.tc : Thread Cert.DnGateKernelIdeal.nD Cert.DnGateKernelIdeal.τ).loc Cert.DnGateKernelIdeal.main_v0)),
      θ_run (Cert.DnGateKernelIdeal.defs (F := Ideal)) (onTc (τ := Cert.DnGateKernelIdeal.τ) (Cert.DnGateKernelIdeal.main (F := Ideal))) ⟨m, fun _ => 0, g⟩ (fun r => ∀ c : Dev Cert.DnGateKernelIdeal.nD,
          r.2.mem ((c.tc : Thread Cert.DnGateKernelIdeal.nD Cert.DnGateKernelIdeal.τ).loc Cert.DnGateKernelIdeal.main_v0) = v0 c
          ∧ r.2.mem ((c.tc : Thread Cert.DnGateKernelIdeal.nD Cert.DnGateKernelIdeal.τ).loc Cert.DnGateKernelIdeal.main_arg0) = m ((c.tc : Thread Cert.DnGateKernelIdeal.nD Cert.DnGateKernelIdeal.τ).loc Cert.DnGateKernelIdeal.main_arg0)
          ∧ r.2.mem ((c.tc : Thread Cert.DnGateKernelIdeal.nD Cert.DnGateKernelIdeal.τ).loc Cert.DnGateKernelIdeal.main_arg1) = m ((c.tc : Thread Cert.DnGateKernelIdeal.nD Cert.DnGateKernelIdeal.τ).loc Cert.DnGateKernelIdeal.main_arg1)
          ∧ r.2.mem ((c.tc : Thread Cert.DnGateKernelIdeal.nD Cert.DnGateKernelIdeal.τ).loc Cert.DnGateKernelIdeal.main_arg2) = m ((c.tc : Thread Cert.DnGateKernelIdeal.nD Cert.DnGateKernelIdeal.τ).loc Cert.DnGateKernelIdeal.main_arg2))
      ∧ θ_run (Cert.DnGateReferenceIdeal.defs (F := Ideal)) (onTc (τ := Cert.DnGateReferenceIdeal.τ) (Cert.DnGateReferenceIdeal.main (F := Ideal))) ⟨m', fun _ => 0, g'⟩ (fun r => ∀ c : Dev Cert.DnGateReferenceIdeal.nD,
          r.2.mem ((c.tc : Thread Cert.DnGateReferenceIdeal.nD Cert.DnGateReferenceIdeal.τ).loc Cert.DnGateReferenceIdeal.main_v5) = v0 c
          ∧ r.2.mem ((c.tc : Thread Cert.DnGateReferenceIdeal.nD Cert.DnGateReferenceIdeal.τ).loc Cert.DnGateReferenceIdeal.main_arg0) = m' ((c.tc : Thread Cert.DnGateReferenceIdeal.nD Cert.DnGateReferenceIdeal.τ).loc Cert.DnGateReferenceIdeal.main_arg0)
          ∧ r.2.mem ((c.tc : Thread Cert.DnGateReferenceIdeal.nD Cert.DnGateReferenceIdeal.τ).loc Cert.DnGateReferenceIdeal.main_arg1) = m' ((c.tc : Thread Cert.DnGateReferenceIdeal.nD Cert.DnGateReferenceIdeal.τ).loc Cert.DnGateReferenceIdeal.main_arg1)
          ∧ r.2.mem ((c.tc : Thread Cert.DnGateReferenceIdeal.nD Cert.DnGateReferenceIdeal.τ).loc Cert.DnGateReferenceIdeal.main_arg2) = m' ((c.tc : Thread Cert.DnGateReferenceIdeal.nD Cert.DnGateReferenceIdeal.τ).loc Cert.DnGateReferenceIdeal.main_arg2))

def preserves_HfKernel_HfKernelIdeal : Prop :=
  True

def algebraic_HfKernelIdeal_HfReferenceIdeal [hHfKernelIdeal : Cert.HfKernelIdeal.Facts] [hHfReferenceIdeal : Cert.HfReferenceIdeal.Facts] : Prop :=
  ∀ (m : (ℓ : Loc Cert.HfKernelIdeal.nD Cert.HfKernelIdeal.τ Cert.HfKernelIdeal.sig) → Buf (Elt Ideal) ℓ) (g : Dev Cert.HfKernelIdeal.nD → PrngReg)
    (m' : (ℓ : Loc Cert.HfReferenceIdeal.nD Cert.HfReferenceIdeal.τ Cert.HfReferenceIdeal.sig) → Buf (Elt Ideal) ℓ) (g' : Dev Cert.HfReferenceIdeal.nD → PrngReg), Pre_HfKernelIdeal m →
    (∀ c : Dev Cert.HfKernelIdeal.nD,
      m' ((c.tc : Thread Cert.HfReferenceIdeal.nD Cert.HfReferenceIdeal.τ).loc Cert.HfReferenceIdeal.main_arg0) = m ((c.tc : Thread Cert.HfKernelIdeal.nD Cert.HfKernelIdeal.τ).loc Cert.HfKernelIdeal.main_arg0)
      ∧ m' ((c.tc : Thread Cert.HfReferenceIdeal.nD Cert.HfReferenceIdeal.τ).loc Cert.HfReferenceIdeal.main_arg1) = m ((c.tc : Thread Cert.HfKernelIdeal.nD Cert.HfKernelIdeal.τ).loc Cert.HfKernelIdeal.main_arg1)) →
    ∃ (v0 : (c : Dev Cert.HfKernelIdeal.nD) → Buf (Elt Ideal) ((c.tc : Thread Cert.HfKernelIdeal.nD Cert.HfKernelIdeal.τ).loc Cert.HfKernelIdeal.main_v0)),
      θ_run (Cert.HfKernelIdeal.defs (F := Ideal)) (onTc (τ := Cert.HfKernelIdeal.τ) (Cert.HfKernelIdeal.main (F := Ideal))) ⟨m, fun _ => 0, g⟩ (fun r => ∀ c : Dev Cert.HfKernelIdeal.nD,
          r.2.mem ((c.tc : Thread Cert.HfKernelIdeal.nD Cert.HfKernelIdeal.τ).loc Cert.HfKernelIdeal.main_v0) = v0 c
          ∧ r.2.mem ((c.tc : Thread Cert.HfKernelIdeal.nD Cert.HfKernelIdeal.τ).loc Cert.HfKernelIdeal.main_arg0) = m ((c.tc : Thread Cert.HfKernelIdeal.nD Cert.HfKernelIdeal.τ).loc Cert.HfKernelIdeal.main_arg0)
          ∧ r.2.mem ((c.tc : Thread Cert.HfKernelIdeal.nD Cert.HfKernelIdeal.τ).loc Cert.HfKernelIdeal.main_arg1) = m ((c.tc : Thread Cert.HfKernelIdeal.nD Cert.HfKernelIdeal.τ).loc Cert.HfKernelIdeal.main_arg1))
      ∧ θ_run (Cert.HfReferenceIdeal.defs (F := Ideal)) (onTc (τ := Cert.HfReferenceIdeal.τ) (Cert.HfReferenceIdeal.main (F := Ideal))) ⟨m', fun _ => 0, g'⟩ (fun r => ∀ c : Dev Cert.HfReferenceIdeal.nD,
          r.2.mem ((c.tc : Thread Cert.HfReferenceIdeal.nD Cert.HfReferenceIdeal.τ).loc Cert.HfReferenceIdeal.main_v2) = v0 c
          ∧ r.2.mem ((c.tc : Thread Cert.HfReferenceIdeal.nD Cert.HfReferenceIdeal.τ).loc Cert.HfReferenceIdeal.main_arg0) = m' ((c.tc : Thread Cert.HfReferenceIdeal.nD Cert.HfReferenceIdeal.τ).loc Cert.HfReferenceIdeal.main_arg0)
          ∧ r.2.mem ((c.tc : Thread Cert.HfReferenceIdeal.nD Cert.HfReferenceIdeal.τ).loc Cert.HfReferenceIdeal.main_arg1) = m' ((c.tc : Thread Cert.HfReferenceIdeal.nD Cert.HfReferenceIdeal.τ).loc Cert.HfReferenceIdeal.main_arg1))

def preserves_ForgetKernel_ForgetKernelIdeal : Prop :=
  True

def algebraic_ForgetKernelIdeal_ForgetReferenceIdeal [hForgetKernelIdeal : Cert.ForgetKernelIdeal.Facts] [hForgetReferenceIdeal : Cert.ForgetReferenceIdeal.Facts] : Prop :=
  ∀ (m : (ℓ : Loc Cert.ForgetKernelIdeal.nD Cert.ForgetKernelIdeal.τ Cert.ForgetKernelIdeal.sig) → Buf (Elt Ideal) ℓ) (g : Dev Cert.ForgetKernelIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetKernelIdeal m →
    (∀ c : Dev Cert.ForgetKernelIdeal.nD,
      m' ((c.tc : Thread Cert.ForgetReferenceIdeal.nD Cert.ForgetReferenceIdeal.τ).loc Cert.ForgetReferenceIdeal.main_arg0) = m ((c.tc : Thread Cert.ForgetKernelIdeal.nD Cert.ForgetKernelIdeal.τ).loc Cert.ForgetKernelIdeal.main_arg0)
      ∧ m' ((c.tc : Thread Cert.ForgetReferenceIdeal.nD Cert.ForgetReferenceIdeal.τ).loc Cert.ForgetReferenceIdeal.main_arg1) = m ((c.tc : Thread Cert.ForgetKernelIdeal.nD Cert.ForgetKernelIdeal.τ).loc Cert.ForgetKernelIdeal.main_arg1)) →
    ∃ (v0 : (c : Dev Cert.ForgetKernelIdeal.nD) → Buf (Elt Ideal) ((c.tc : Thread Cert.ForgetKernelIdeal.nD Cert.ForgetKernelIdeal.τ).loc Cert.ForgetKernelIdeal.main_v0_0)) (v1 : (c : Dev Cert.ForgetKernelIdeal.nD) → Buf (Elt Ideal) ((c.tc : Thread Cert.ForgetKernelIdeal.nD Cert.ForgetKernelIdeal.τ).loc Cert.ForgetKernelIdeal.main_v0_1)),
      θ_run (Cert.ForgetKernelIdeal.defs (F := Ideal)) (onTc (τ := Cert.ForgetKernelIdeal.τ) (Cert.ForgetKernelIdeal.main (F := Ideal))) ⟨m, fun _ => 0, g⟩ (fun r => ∀ c : Dev Cert.ForgetKernelIdeal.nD,
          r.2.mem ((c.tc : Thread Cert.ForgetKernelIdeal.nD Cert.ForgetKernelIdeal.τ).loc Cert.ForgetKernelIdeal.main_v0_0) = v0 c
          ∧ r.2.mem ((c.tc : Thread Cert.ForgetKernelIdeal.nD Cert.ForgetKernelIdeal.τ).loc Cert.ForgetKernelIdeal.main_v0_1) = v1 c
          ∧ r.2.mem ((c.tc : Thread Cert.ForgetKernelIdeal.nD Cert.ForgetKernelIdeal.τ).loc Cert.ForgetKernelIdeal.main_arg0) = m ((c.tc : Thread Cert.ForgetKernelIdeal.nD Cert.ForgetKernelIdeal.τ).loc Cert.ForgetKernelIdeal.main_arg0)
          ∧ r.2.mem ((c.tc : Thread Cert.ForgetKernelIdeal.nD Cert.ForgetKernelIdeal.τ).loc Cert.ForgetKernelIdeal.main_arg1) = m ((c.tc : Thread Cert.ForgetKernelIdeal.nD Cert.ForgetKernelIdeal.τ).loc Cert.ForgetKernelIdeal.main_arg1))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v5) = v0 c
          ∧ r.2.mem ((c.tc : Thread Cert.ForgetReferenceIdeal.nD Cert.ForgetReferenceIdeal.τ).loc Cert.ForgetReferenceIdeal.main_v6) = v1 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1))

def preserves_DForgetKernel_DForgetKernelIdeal : Prop :=
  True

def algebraic_DForgetKernelIdeal_DForgetReferenceIdeal [hDForgetKernelIdeal : Cert.DForgetKernelIdeal.Facts] [hDForgetReferenceIdeal : Cert.DForgetReferenceIdeal.Facts] : Prop :=
  ∀ (m : (ℓ : Loc Cert.DForgetKernelIdeal.nD Cert.DForgetKernelIdeal.τ Cert.DForgetKernelIdeal.sig) → Buf (Elt Ideal) ℓ) (g : Dev Cert.DForgetKernelIdeal.nD → PrngReg)
    (m' : (ℓ : Loc Cert.DForgetReferenceIdeal.nD Cert.DForgetReferenceIdeal.τ Cert.DForgetReferenceIdeal.sig) → Buf (Elt Ideal) ℓ) (g' : Dev Cert.DForgetReferenceIdeal.nD → PrngReg), Pre_DForgetKernelIdeal m →
    (∀ c : Dev Cert.DForgetKernelIdeal.nD,
      m' ((c.tc : Thread Cert.DForgetReferenceIdeal.nD Cert.DForgetReferenceIdeal.τ).loc Cert.DForgetReferenceIdeal.main_arg0) = m ((c.tc : Thread Cert.DForgetKernelIdeal.nD Cert.DForgetKernelIdeal.τ).loc Cert.DForgetKernelIdeal.main_arg0)
      ∧ m' ((c.tc : Thread Cert.DForgetReferenceIdeal.nD Cert.DForgetReferenceIdeal.τ).loc Cert.DForgetReferenceIdeal.main_arg1) = m ((c.tc : Thread Cert.DForgetKernelIdeal.nD Cert.DForgetKernelIdeal.τ).loc Cert.DForgetKernelIdeal.main_arg1)
      ∧ m' ((c.tc : Thread Cert.DForgetReferenceIdeal.nD Cert.DForgetReferenceIdeal.τ).loc Cert.DForgetReferenceIdeal.main_arg2) = m ((c.tc : Thread Cert.DForgetKernelIdeal.nD Cert.DForgetKernelIdeal.τ).loc Cert.DForgetKernelIdeal.main_arg2)
      ∧ m' ((c.tc : Thread Cert.DForgetReferenceIdeal.nD Cert.DForgetReferenceIdeal.τ).loc Cert.DForgetReferenceIdeal.main_arg3) = m ((c.tc : Thread Cert.DForgetKernelIdeal.nD Cert.DForgetKernelIdeal.τ).loc Cert.DForgetKernelIdeal.main_arg3)) →
    ∃ (v0 : (c : Dev Cert.DForgetKernelIdeal.nD) → Buf (Elt Ideal) ((c.tc : Thread Cert.DForgetKernelIdeal.nD Cert.DForgetKernelIdeal.τ).loc Cert.DForgetKernelIdeal.main_v0_0)) (v1 : (c : Dev Cert.DForgetKernelIdeal.nD) → Buf (Elt Ideal) ((c.tc : Thread Cert.DForgetKernelIdeal.nD Cert.DForgetKernelIdeal.τ).loc Cert.DForgetKernelIdeal.main_v0_1)),
      θ_run (Cert.DForgetKernelIdeal.defs (F := Ideal)) (onTc (τ := Cert.DForgetKernelIdeal.τ) (Cert.DForgetKernelIdeal.main (F := Ideal))) ⟨m, fun _ => 0, g⟩ (fun r => ∀ c : Dev Cert.DForgetKernelIdeal.nD,
          r.2.mem ((c.tc : Thread Cert.DForgetKernelIdeal.nD Cert.DForgetKernelIdeal.τ).loc Cert.DForgetKernelIdeal.main_v0_0) = v0 c
          ∧ r.2.mem ((c.tc : Thread Cert.DForgetKernelIdeal.nD Cert.DForgetKernelIdeal.τ).loc Cert.DForgetKernelIdeal.main_v0_1) = v1 c
          ∧ r.2.mem ((c.tc : Thread Cert.DForgetKernelIdeal.nD Cert.DForgetKernelIdeal.τ).loc Cert.DForgetKernelIdeal.main_arg0) = m ((c.tc : Thread Cert.DForgetKernelIdeal.nD Cert.DForgetKernelIdeal.τ).loc Cert.DForgetKernelIdeal.main_arg0)
          ∧ r.2.mem ((c.tc : Thread Cert.DForgetKernelIdeal.nD Cert.DForgetKernelIdeal.τ).loc Cert.DForgetKernelIdeal.main_arg1) = m ((c.tc : Thread Cert.DForgetKernelIdeal.nD Cert.DForgetKernelIdeal.τ).loc Cert.DForgetKernelIdeal.main_arg1)
          ∧ r.2.mem ((c.tc : Thread Cert.DForgetKernelIdeal.nD Cert.DForgetKernelIdeal.τ).loc Cert.DForgetKernelIdeal.main_arg2) = m ((c.tc : Thread Cert.DForgetKernelIdeal.nD Cert.DForgetKernelIdeal.τ).loc Cert.DForgetKernelIdeal.main_arg2)
          ∧ r.2.mem ((c.tc : Thread Cert.DForgetKernelIdeal.nD Cert.DForgetKernelIdeal.τ).loc Cert.DForgetKernelIdeal.main_arg3) = m ((c.tc : Thread Cert.DForgetKernelIdeal.nD Cert.DForgetKernelIdeal.τ).loc Cert.DForgetKernelIdeal.main_arg3))
      ∧ θ_run (Cert.DForgetReferenceIdeal.defs (F := Ideal)) (onTc (τ := Cert.DForgetReferenceIdeal.τ) (Cert.DForgetReferenceIdeal.main (F := Ideal))) ⟨m', fun _ => 0, g'⟩ (fun r => ∀ c : Dev Cert.DForgetReferenceIdeal.nD,
          r.2.mem ((c.tc : Thread Cert.DForgetReferenceIdeal.nD Cert.DForgetReferenceIdeal.τ).loc Cert.DForgetReferenceIdeal.main_v13) = v0 c
          ∧ r.2.mem ((c.tc : Thread Cert.DForgetReferenceIdeal.nD Cert.DForgetReferenceIdeal.τ).loc Cert.DForgetReferenceIdeal.main_v14) = v1 c
          ∧ r.2.mem ((c.tc : Thread Cert.DForgetReferenceIdeal.nD Cert.DForgetReferenceIdeal.τ).loc Cert.DForgetReferenceIdeal.main_arg0) = m' ((c.tc : Thread Cert.DForgetReferenceIdeal.nD Cert.DForgetReferenceIdeal.τ).loc Cert.DForgetReferenceIdeal.main_arg0)
          ∧ r.2.mem ((c.tc : Thread Cert.DForgetReferenceIdeal.nD Cert.DForgetReferenceIdeal.τ).loc Cert.DForgetReferenceIdeal.main_arg1) = m' ((c.tc : Thread Cert.DForgetReferenceIdeal.nD Cert.DForgetReferenceIdeal.τ).loc Cert.DForgetReferenceIdeal.main_arg1)
          ∧ r.2.mem ((c.tc : Thread Cert.DForgetReferenceIdeal.nD Cert.DForgetReferenceIdeal.τ).loc Cert.DForgetReferenceIdeal.main_arg2) = m' ((c.tc : Thread Cert.DForgetReferenceIdeal.nD Cert.DForgetReferenceIdeal.τ).loc Cert.DForgetReferenceIdeal.main_arg2)
          ∧ r.2.mem ((c.tc : Thread Cert.DForgetReferenceIdeal.nD Cert.DForgetReferenceIdeal.τ).loc Cert.DForgetReferenceIdeal.main_arg3) = m' ((c.tc : Thread Cert.DForgetReferenceIdeal.nD Cert.DForgetReferenceIdeal.τ).loc Cert.DForgetReferenceIdeal.main_arg3))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_DDilKernel_DDilKernelIdeal : Prop :=
  True

def preserves_DilKernel_DilKernelIdeal : Prop :=
  True

def preserves_FwdKernel_FwdKernelIdeal : Prop :=
  True

def Claim : Prop :=
  ∃ (hGateKernel : Cert.GateKernel.Facts) (hGateKernelIdeal : Cert.GateKernelIdeal.Facts) (hGateReferenceIdeal : Cert.GateReferenceIdeal.Facts) (hAttnKernel : Cert.AttnKernel.Facts) (hAttnKernelIdeal : Cert.AttnKernelIdeal.Facts) (hAttnReferenceIdeal : Cert.AttnReferenceIdeal.Facts) (hUpKernel : Cert.UpKernel.Facts) (hUpKernelIdeal : Cert.UpKernelIdeal.Facts) (hUpReferenceIdeal : Cert.UpReferenceIdeal.Facts) (hDwUpKernel : Cert.DwUpKernel.Facts) (hDwUpKernelIdeal : Cert.DwUpKernelIdeal.Facts) (hDwUpReferenceIdeal : Cert.DwUpReferenceIdeal.Facts) (hDnKernel : Cert.DnKernel.Facts) (hDnKernelIdeal : Cert.DnKernelIdeal.Facts) (hDnReferenceIdeal : Cert.DnReferenceIdeal.Facts) (hDwDownKernel : Cert.DwDownKernel.Facts) (hDwDownKernelIdeal : Cert.DwDownKernelIdeal.Facts) (hDwDownReferenceIdeal : Cert.DwDownReferenceIdeal.Facts) (hDownKernel : Cert.DownKernel.Facts) (hDownKernelIdeal : Cert.DownKernelIdeal.Facts) (hDownReferenceIdeal : Cert.DownReferenceIdeal.Facts) (hDoKernel : Cert.DoKernel.Facts) (hDoKernelIdeal : Cert.DoKernelIdeal.Facts) (hDoReferenceIdeal : Cert.DoReferenceIdeal.Facts) (hDwOutKernel : Cert.DwOutKernel.Facts) (hDwOutKernelIdeal : Cert.DwOutKernelIdeal.Facts) (hDwOutReferenceIdeal : Cert.DwOutReferenceIdeal.Facts) (hDwQkvKernel : Cert.DwQkvKernel.Facts) (hDwQkvKernelIdeal : Cert.DwQkvKernelIdeal.Facts) (hDwQkvReferenceIdeal : Cert.DwQkvReferenceIdeal.Facts) (hDnQkvKernel : Cert.DnQkvKernel.Facts) (hDnQkvKernelIdeal : Cert.DnQkvKernelIdeal.Facts) (hDnQkvReferenceIdeal : Cert.DnQkvReferenceIdeal.Facts) (hQkvKernel : Cert.QkvKernel.Facts) (hQkvKernelIdeal : Cert.QkvKernelIdeal.Facts) (hQkvReferenceIdeal : Cert.QkvReferenceIdeal.Facts) (hOutKernel : Cert.OutKernel.Facts) (hOutKernelIdeal : Cert.OutKernelIdeal.Facts) (hOutReferenceIdeal : Cert.OutReferenceIdeal.Facts) (hNormKernel : Cert.NormKernel.Facts) (hNormKernelIdeal : Cert.NormKernelIdeal.Facts) (hNormReferenceIdeal : Cert.NormReferenceIdeal.Facts) (hDNormKernel : Cert.DNormKernel.Facts) (hDNormKernelIdeal : Cert.DNormKernelIdeal.Facts) (hDNormReferenceIdeal : Cert.DNormReferenceIdeal.Facts) (hLossKernel : Cert.LossKernel.Facts) (hLossKernelIdeal : Cert.LossKernelIdeal.Facts) (hLossReferenceIdeal : Cert.LossReferenceIdeal.Facts) (hDwfKernel : Cert.DwfKernel.Facts) (hDwfKernelIdeal : Cert.DwfKernelIdeal.Facts) (hDwfReferenceIdeal : Cert.DwfReferenceIdeal.Facts) (hDnGateKernel : Cert.DnGateKernel.Facts) (hDnGateKernelIdeal : Cert.DnGateKernelIdeal.Facts) (hDnGateReferenceIdeal : Cert.DnGateReferenceIdeal.Facts) (hHfKernel : Cert.HfKernel.Facts) (hHfKernelIdeal : Cert.HfKernelIdeal.Facts) (hHfReferenceIdeal : Cert.HfReferenceIdeal.Facts) (hForgetKernel : Cert.ForgetKernel.Facts) (hForgetKernelIdeal : Cert.ForgetKernelIdeal.Facts) (hForgetReferenceIdeal : Cert.ForgetReferenceIdeal.Facts) (hDForgetKernel : Cert.DForgetKernel.Facts) (hDForgetKernelIdeal : Cert.DForgetKernelIdeal.Facts) (hDForgetReferenceIdeal : Cert.DForgetReferenceIdeal.Facts) (hSumKernel : Cert.SumKernel.Facts) (hSumKernelIdeal : Cert.SumKernelIdeal.Facts) (hSumReferenceIdeal : Cert.SumReferenceIdeal.Facts) (hAdamKernel : Cert.AdamKernel.Facts) (hAdamKernelIdeal : Cert.AdamKernelIdeal.Facts) (hAdamReferenceIdeal : Cert.AdamReferenceIdeal.Facts) (hDDilKernel : Cert.DDilKernel.Facts) (hDDilKernelIdeal : Cert.DDilKernelIdeal.Facts) (hDDilReferenceIdeal : Cert.DDilReferenceIdeal.Facts) (hDilKernel : Cert.DilKernel.Facts) (hDilKernelIdeal : Cert.DilKernelIdeal.Facts) (hFwdKernel : Cert.FwdKernel.Facts) (hFwdKernelIdeal : Cert.FwdKernelIdeal.Facts) (hFwdReferenceIdeal : Cert.FwdReferenceIdeal.Facts) (hPre_gate_args_finite : Cert.Pre_gate_args_finite.Facts) (hPre_dnorm_args_finite : Cert.Pre_dnorm_args_finite.Facts) (hPre_loss_args_finite : Cert.Pre_loss_args_finite.Facts),
    quiescent_GateKernel (hGateKernel := hGateKernel)
    ∧ quiescent_GateKernelIdeal (hGateKernelIdeal := hGateKernelIdeal)
    ∧ quiescent_GateKernelIdeal_pre_gate_args_finite (hGateKernelIdeal := hGateKernelIdeal) (hPre_gate_args_finite := hPre_gate_args_finite)
    ∧ quiescent_GateReferenceIdeal (hGateReferenceIdeal := hGateReferenceIdeal)
    ∧ quiescent_GateReferenceIdeal_pre_gate_args_finite (hGateReferenceIdeal := hGateReferenceIdeal) (hPre_gate_args_finite := hPre_gate_args_finite)
    ∧ quiescent_AttnKernel (hAttnKernel := hAttnKernel)
    ∧ quiescent_AttnKernelIdeal (hAttnKernelIdeal := hAttnKernelIdeal)
    ∧ quiescent_AttnReferenceIdeal (hAttnReferenceIdeal := hAttnReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DwUpKernel (hDwUpKernel := hDwUpKernel)
    ∧ quiescent_DwUpKernelIdeal (hDwUpKernelIdeal := hDwUpKernelIdeal)
    ∧ quiescent_DwUpReferenceIdeal (hDwUpReferenceIdeal := hDwUpReferenceIdeal)
    ∧ quiescent_DnKernel (hDnKernel := hDnKernel)
    ∧ quiescent_DnKernelIdeal (hDnKernelIdeal := hDnKernelIdeal)
    ∧ quiescent_DnReferenceIdeal (hDnReferenceIdeal := hDnReferenceIdeal)
    ∧ quiescent_DwDownKernel (hDwDownKernel := hDwDownKernel)
    ∧ quiescent_DwDownKernelIdeal (hDwDownKernelIdeal := hDwDownKernelIdeal)
    ∧ quiescent_DwDownReferenceIdeal (hDwDownReferenceIdeal := hDwDownReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DoKernel (hDoKernel := hDoKernel)
    ∧ quiescent_DoKernelIdeal (hDoKernelIdeal := hDoKernelIdeal)
    ∧ quiescent_DoReferenceIdeal (hDoReferenceIdeal := hDoReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_DwQkvKernel (hDwQkvKernel := hDwQkvKernel)
    ∧ quiescent_DwQkvKernelIdeal (hDwQkvKernelIdeal := hDwQkvKernelIdeal)
    ∧ quiescent_DwQkvReferenceIdeal (hDwQkvReferenceIdeal := hDwQkvReferenceIdeal)
    ∧ quiescent_DnQkvKernel (hDnQkvKernel := hDnQkvKernel)
    ∧ quiescent_DnQkvKernelIdeal (hDnQkvKernelIdeal := hDnQkvKernelIdeal)
    ∧ quiescent_DnQkvReferenceIdeal (hDnQkvReferenceIdeal := hDnQkvReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_DNormKernel (hDNormKernel := hDNormKernel)
    ∧ quiescent_DNormKernelIdeal (hDNormKernelIdeal := hDNormKernelIdeal)
    ∧ quiescent_DNormKernelIdeal_pre_dnorm_args_finite (hDNormKernelIdeal := hDNormKernelIdeal) (hPre_dnorm_args_finite := hPre_dnorm_args_finite)
    ∧ quiescent_DNormReferenceIdeal (hDNormReferenceIdeal := hDNormReferenceIdeal)
    ∧ quiescent_DNormReferenceIdeal_pre_dnorm_args_finite (hDNormReferenceIdeal := hDNormReferenceIdeal) (hPre_dnorm_args_finite := hPre_dnorm_args_finite)
    ∧ quiescent_LossKernel (hLossKernel := hLossKernel)
    ∧ quiescent_LossKernelIdeal (hLossKernelIdeal := hLossKernelIdeal)
    ∧ quiescent_LossKernelIdeal_pre_loss_args_finite (hLossKernelIdeal := hLossKernelIdeal) (hPre_loss_args_finite := hPre_loss_args_finite)
    ∧ quiescent_LossReferenceIdeal (hLossReferenceIdeal := hLossReferenceIdeal)
    ∧ quiescent_LossReferenceIdeal_pre_loss_args_finite (hLossReferenceIdeal := hLossReferenceIdeal) (hPre_loss_args_finite := hPre_loss_args_finite)
    ∧ quiescent_DwfKernel (hDwfKernel := hDwfKernel)
    ∧ quiescent_DwfKernelIdeal (hDwfKernelIdeal := hDwfKernelIdeal)
    ∧ quiescent_DwfReferenceIdeal (hDwfReferenceIdeal := hDwfReferenceIdeal)
    ∧ quiescent_DnGateKernel (hDnGateKernel := hDnGateKernel)
    ∧ quiescent_DnGateKernelIdeal (hDnGateKernelIdeal := hDnGateKernelIdeal)
    ∧ quiescent_DnGateReferenceIdeal (hDnGateReferenceIdeal := hDnGateReferenceIdeal)
    ∧ quiescent_HfKernel (hHfKernel := hHfKernel)
    ∧ quiescent_HfKernelIdeal (hHfKernelIdeal := hHfKernelIdeal)
    ∧ quiescent_HfReferenceIdeal (hHfReferenceIdeal := hHfReferenceIdeal)
    ∧ quiescent_ForgetKernel (hForgetKernel := hForgetKernel)
    ∧ quiescent_ForgetKernelIdeal (hForgetKernelIdeal := hForgetKernelIdeal)
    ∧ quiescent_ForgetReferenceIdeal (hForgetReferenceIdeal := hForgetReferenceIdeal)
    ∧ quiescent_DForgetKernel (hDForgetKernel := hDForgetKernel)
    ∧ quiescent_DForgetKernelIdeal (hDForgetKernelIdeal := hDForgetKernelIdeal)
    ∧ quiescent_DForgetReferenceIdeal (hDForgetReferenceIdeal := hDForgetReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_DDilKernel (hDDilKernel := hDDilKernel)
    ∧ quiescent_DDilKernelIdeal (hDDilKernelIdeal := hDDilKernelIdeal)
    ∧ quiescent_DDilReferenceIdeal (hDDilReferenceIdeal := hDDilReferenceIdeal)
    ∧ quiescent_DilKernel (hDilKernel := hDilKernel)
    ∧ quiescent_DilKernelIdeal (hDilKernelIdeal := hDilKernelIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ preserves_GateKernel_GateKernelIdeal
    ∧ algebraic_GateKernelIdeal_GateReferenceIdeal_pre_gate_args_finite (hGateKernelIdeal := hGateKernelIdeal) (hGateReferenceIdeal := hGateReferenceIdeal) (hPre_gate_args_finite := hPre_gate_args_finite)
    ∧ preserves_AttnKernel_AttnKernelIdeal
    ∧ preserves_UpKernel_UpKernelIdeal
    ∧ algebraic_UpKernelIdeal_UpReferenceIdeal (hUpKernelIdeal := hUpKernelIdeal) (hUpReferenceIdeal := hUpReferenceIdeal)
    ∧ preserves_DwUpKernel_DwUpKernelIdeal
    ∧ algebraic_DwUpKernelIdeal_DwUpReferenceIdeal (hDwUpKernelIdeal := hDwUpKernelIdeal) (hDwUpReferenceIdeal := hDwUpReferenceIdeal)
    ∧ preserves_DnKernel_DnKernelIdeal
    ∧ algebraic_DnKernelIdeal_DnReferenceIdeal (hDnKernelIdeal := hDnKernelIdeal) (hDnReferenceIdeal := hDnReferenceIdeal)
    ∧ preserves_DwDownKernel_DwDownKernelIdeal
    ∧ algebraic_DwDownKernelIdeal_DwDownReferenceIdeal (hDwDownKernelIdeal := hDwDownKernelIdeal) (hDwDownReferenceIdeal := hDwDownReferenceIdeal)
    ∧ preserves_DownKernel_DownKernelIdeal
    ∧ algebraic_DownKernelIdeal_DownReferenceIdeal (hDownKernelIdeal := hDownKernelIdeal) (hDownReferenceIdeal := hDownReferenceIdeal)
    ∧ preserves_DoKernel_DoKernelIdeal
    ∧ algebraic_DoKernelIdeal_DoReferenceIdeal (hDoKernelIdeal := hDoKernelIdeal) (hDoReferenceIdeal := hDoReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_DwQkvKernel_DwQkvKernelIdeal
    ∧ algebraic_DwQkvKernelIdeal_DwQkvReferenceIdeal (hDwQkvKernelIdeal := hDwQkvKernelIdeal) (hDwQkvReferenceIdeal := hDwQkvReferenceIdeal)
    ∧ preserves_DnQkvKernel_DnQkvKernelIdeal
    ∧ algebraic_DnQkvKernelIdeal_DnQkvReferenceIdeal (hDnQkvKernelIdeal := hDnQkvKernelIdeal) (hDnQkvReferenceIdeal := hDnQkvReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_OutKernel_OutKernelIdeal
    ∧ algebraic_OutKernelIdeal_OutReferenceIdeal (hOutKernelIdeal := hOutKernelIdeal) (hOutReferenceIdeal := hOutReferenceIdeal)
    ∧ preserves_NormKernel_NormKernelIdeal
    ∧ algebraic_NormKernelIdeal_NormReferenceIdeal (hNormKernelIdeal := hNormKernelIdeal) (hNormReferenceIdeal := hNormReferenceIdeal)
    ∧ preserves_DNormKernel_DNormKernelIdeal
    ∧ algebraic_DNormKernelIdeal_DNormReferenceIdeal_pre_dnorm_args_finite (hDNormKernelIdeal := hDNormKernelIdeal) (hDNormReferenceIdeal := hDNormReferenceIdeal) (hPre_dnorm_args_finite := hPre_dnorm_args_finite)
    ∧ preserves_LossKernel_LossKernelIdeal
    ∧ algebraic_LossKernelIdeal_LossReferenceIdeal_pre_loss_args_finite (hLossKernelIdeal := hLossKernelIdeal) (hLossReferenceIdeal := hLossReferenceIdeal) (hPre_loss_args_finite := hPre_loss_args_finite)
    ∧ preserves_DwfKernel_DwfKernelIdeal
    ∧ algebraic_DwfKernelIdeal_DwfReferenceIdeal (hDwfKernelIdeal := hDwfKernelIdeal) (hDwfReferenceIdeal := hDwfReferenceIdeal)
    ∧ preserves_DnGateKernel_DnGateKernelIdeal
    ∧ algebraic_DnGateKernelIdeal_DnGateReferenceIdeal (hDnGateKernelIdeal := hDnGateKernelIdeal) (hDnGateReferenceIdeal := hDnGateReferenceIdeal)
    ∧ preserves_HfKernel_HfKernelIdeal
    ∧ algebraic_HfKernelIdeal_HfReferenceIdeal (hHfKernelIdeal := hHfKernelIdeal) (hHfReferenceIdeal := hHfReferenceIdeal)
    ∧ preserves_ForgetKernel_ForgetKernelIdeal
    ∧ algebraic_ForgetKernelIdeal_ForgetReferenceIdeal (hForgetKernelIdeal := hForgetKernelIdeal) (hForgetReferenceIdeal := hForgetReferenceIdeal)
    ∧ preserves_DForgetKernel_DForgetKernelIdeal
    ∧ algebraic_DForgetKernelIdeal_DForgetReferenceIdeal (hDForgetKernelIdeal := hDForgetKernelIdeal) (hDForgetReferenceIdeal := hDForgetReferenceIdeal)
    ∧ preserves_SumKernel_SumKernelIdeal
    ∧ algebraic_SumKernelIdeal_SumReferenceIdeal (hSumKernelIdeal := hSumKernelIdeal) (hSumReferenceIdeal := hSumReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_DDilKernel_DDilKernelIdeal
    ∧ preserves_DilKernel_DilKernelIdeal
    ∧ preserves_FwdKernel_FwdKernelIdeal
-- ==== Pre_dnorm_args_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S2048x2048 .f32) (main_arg1 : FVec F S2048x2048 .f32) (main_arg2 : FVec F S1x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Pre_gate_args_finite.lean ====
abbrev S2048x2048 : Shape := ⟨2, ![2048, 2048]⟩
abbrev S5632x2048 : Shape := ⟨2, ![5632, 2048]⟩
abbrev S2048x11264 : Shape := ⟨2, ![2048, 11264]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S2048x2048 .bf16) (main_arg1 : FVec F S5632x2048 .bf16) (main_arg2 : FVec F S2048x11264 .f32) : IVec S_ 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2048x11264 .f32 := Host.absf main_arg2
  let main_cst_2 : FVec F S_ .f32 := constant S_ .f32 0x7F800000#32
  let main_v10 : FVec F S2048x11264 .f32 := broadcastInDim S2048x11264 ![] bcast_S_S2048x11264 main_cst_2
  let main_v11 : IVec S2048x11264 1 := cmpf .olt main_v9 main_v10
  let main_c_3 : IVec S_ 1 := constantI S_ 1 1#1
  let main_v12 : IVec S_ 1 := (fun x v => Host.reduce IntOp.andi x v reducesTo_S2048x11264_S_d0_1 h_S_) main_v11 main_c_3
  let main_v13 : IVec S_ 1 := andi main_v8 main_v12
  main_v13
-- ==== Pre_loss_args_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S2048x2048 .f32) (main_arg1 : FVec F S1x2048 .f32) (main_arg2 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== GateKernel.lean ====
abbrev S2048x2048 : Shape := ⟨2, ![2048, 2048]⟩
abbrev S5632x2048 : Shape := ⟨2, ![5632, 2048]⟩
abbrev S2048x11264 : Shape := ⟨2, ![2048, 11264]⟩
abbrev S512x2048 : Shape := ⟨2, ![512, 2048]⟩
abbrev S1408x2048 : Shape := ⟨2, ![1408, 2048]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x11264, .f32⟩
  | .hbm, ⟨3, _⟩ => ⟨S2048x11264, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x2816, .f32⟩
  | .local _ .vmem, ⟨5, _⟩ => ⟨S512x2816, .f32⟩
  | .local _ .vmem, ⟨6, _⟩ => ⟨S512x2816, .bf16⟩
  | .local _ .vmem, ⟨7, _⟩ => ⟨S512x2816, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateReferenceIdeal.lean ====
abbrev S2048x2048 : Shape := ⟨2, ![2048, 2048]⟩
abbrev S5632x2048 : Shape := ⟨2, ![5632, 2048]⟩
abbrev S2048x11264 : Shape := ⟨2, ![2048, 11264]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x11264, .f32⟩
  | .hbm, ⟨3, _⟩ => ⟨S2048x4x2x1408, .f32⟩
  | .hbm, ⟨4, _⟩ => ⟨S2048x4x1x1408, .f32⟩
  | .hbm, ⟨5, _⟩ => ⟨S2048x4x1408, .f32⟩
  | .hbm, ⟨6, _⟩ => ⟨S2048x5632, .f32⟩
  | .hbm, ⟨7, _⟩ => ⟨S2048x4x1x1408, .f32⟩
  | .hbm, ⟨8, _⟩ => ⟨S2048x4x1408, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S2048x4x1408, .f32⟩
  | .hbm, ⟨41, _⟩ => ⟨S2048x4x1408, .f32⟩
  | .hbm, ⟨42, _⟩ => ⟨S2048x4x1x1408, .f32⟩
  | .hbm, ⟨43, _⟩ => ⟨S2048x4x1x1408, .f32⟩
  | .hbm, ⟨44, _⟩ => ⟨S2048x4x2x1408, .f32⟩
  | .hbm, ⟨45, _⟩ => ⟨S2048x11264, .f32⟩
  | .hbm, ⟨46, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== AttnKernel.lean ====
abbrev S2048x6144 : Shape := ⟨2, ![2048, 6144]⟩
abbrev S2048x2048 : Shape := ⟨2, ![2048, 2048]⟩
abbrev S2048x128 : Shape := ⟨2, ![2048, 128]⟩
abbrev S128x2048 : Shape := ⟨2, ![128, 2048]⟩
abbrev S8x2048 : Shape := ⟨2, ![8, 2048]⟩
abbrev S2048x3x16x128 : Shape := ⟨4, ![2048, 3, 16, 128]⟩
abbrev S3x16x2048x128 : Shape := ⟨4, ![3, 16, 2048, 128]⟩
abbrev S1x16x2048x128 : Shape := ⟨4, ![1, 16, 2048, 128]⟩
abbrev S16x2048x128 : Shape := ⟨3, ![16, 2048, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048x1 : Shape := ⟨3, ![8, 2048, 1]⟩
abbrev S8x1x2048 : Shape := ⟨3, ![8, 1, 2048]⟩
abbrev S2048x16x128 : Shape := ⟨3, ![2048, 16, 128]⟩
abbrev S16x2048 : Shape := ⟨2, ![16, 2048]⟩
abbrev S2048x16 : Shape := ⟨2, ![2048, 16]⟩
abbrev S2048x16x1 : Shape := ⟨3, ![2048, 16, 1]⟩
abbrev S512 : Shape := ⟨1, ![512]⟩
abbrev S512x1 : Shape := ⟨2, ![512, 1]⟩
abbrev S256 : Shape := ⟨1, ![256]⟩
abbrev S1x256 : Shape := ⟨2, ![1, 256]⟩
abbrev S512x256 : Shape := ⟨2, ![512, 256]⟩
abbrev S1x512x256 : Shape := ⟨3, ![1, 512, 256]⟩
abbrev S3x512x256 : Shape := ⟨3, ![3, 512, 256]⟩
abbrev S3x2048x2048 : Shape := ⟨3, ![3, 2048, 2048]⟩
abbrev S3x2048x128 : Shape := ⟨3, ![3, 2048, 128]⟩
abbrev S256x256 : Shape := ⟨2, ![256, 256]⟩
abbrev S512x128 : Shape := ⟨2, ![512, 128]⟩
abbrev S256x128 : Shape := ⟨2, ![256, 128]⟩
abbrev S1x1x256 : Shape := ⟨3, ![1, 1, 256]⟩
abbrev S1x2048x128 : Shape := ⟨3, ![1, 2048, 128]⟩

abbrev nBuf : Space → Nat
  | .hbm => 264
  | .vmem => 27
  | .smem => 0
  | _ => 0

abbrev hbmTy0_0 (i : Nat) : BufTy := match i % 128 with
  | 0 => ⟨S2048x6144, .f32⟩
  | 1 => ⟨S2048x2048, .f32⟩
  | 2 => ⟨S2048x128, .f32⟩
  | 3 => ⟨S128x2048, .f32⟩
  | 4 => ⟨S8x2048, .f32⟩
  | 5 => ⟨S2048x3x16x128, .f32⟩
  | 6 => ⟨S3x16x2048x128, .f32⟩
  | 7 => ⟨S1x16x2048x128, .f32⟩
  | 8 => ⟨S16x2048x128, .f32⟩
  | 9 => ⟨S1x16x2048x128, .f32⟩
  | 10 => ⟨S16x2048x128, .f32⟩
  | 11 => ⟨S1x16x2048x128, .f32⟩
  | 12 => ⟨S16x2048x128, .f32⟩
  | 13 => ⟨S8x2048x128, .f32⟩
  | 14 => ⟨S8x2048x128, .f32⟩
  | 15 => ⟨S8x2048x128, .f32⟩
  | 16 => ⟨S8x2048x2048, .f32⟩
  | 17 => ⟨S_, .f32⟩
  | 18 => ⟨S8x2048x2048, .f32⟩
  | 19 => ⟨S8x2048x2048, .f32⟩
  | 20 => ⟨S2048, .i32⟩
  | 21 => ⟨S1x2048, .i32⟩
  | 22 => ⟨S2048x1, .i32⟩
  | 23 => ⟨S2048x2048, .i32⟩
  | 24 => ⟨S2048x2048, .i32⟩
  | 25 => ⟨S2048x2048, .i1⟩
  | 26 => ⟨S_, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .i1⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S_, .f32⟩
  | 42 => ⟨S_, .f32⟩
  | 43 => ⟨S8x2048x2048, .i1⟩
  | 44 => ⟨S8x2048x2048, .f32⟩
  | 45 => ⟨S8x2048x2048, .f32⟩
  | 46 => ⟨S_, .f32⟩
  | 47 => ⟨S_, .f32⟩
  | 48 => ⟨S8x2048x2048, .f32⟩
  | 49 => ⟨S8x2048x2048, .f32⟩
  | 50 => ⟨S8x2048x2048, .f32⟩
  | 51 => ⟨S_, .f32⟩
  | 52 => ⟨S8x2048x2048, .f32⟩
  | 53 => ⟨S8x2048x2048, .f32⟩
  | 54 => ⟨S8x2048x2048, .f32⟩
  | 55 => ⟨S8x2048x2048, .f32⟩
  | 56 => ⟨S8x2048x2048, .i1⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S_, .f32⟩
  | 70 => ⟨S8x2048x2048, .i1⟩
  | 71 => ⟨S8x2048x2048, .f32⟩
  | 72 => ⟨S8x2048x2048, .f32⟩
  | 73 => ⟨S8x2048x128, .f32⟩
  | 74 => ⟨S8x2048x128, .f32⟩
  | 75 => ⟨S8x2048x128, .f32⟩
  | 76 => ⟨S8x2048x128, .f32⟩
  | 77 => ⟨S8x2048x2048, .f32⟩
  | 78 => ⟨S_, .f32⟩
  | 79 => ⟨S8x2048x2048, .f32⟩
  | 80 => ⟨S8x2048x2048, .f32⟩
  | 81 => ⟨S8x2048x1, .f32⟩
  | 82 => ⟨S8x2048x2048, .f32⟩
  | 83 => ⟨S8x2048x2048, .f32⟩
  | 84 => ⟨S8x1x2048, .f32⟩
  | 85 => ⟨S8x2048x2048, .f32⟩
  | 86 => ⟨S8x2048x2048, .f32⟩
  | 87 => ⟨S2048, .i32⟩
  | 88 => ⟨S1x2048, .i32⟩
  | 89 => ⟨S2048x1, .i32⟩
  | 90 => ⟨S2048x2048, .i32⟩
  | 91 => ⟨S2048x2048, .i32⟩
  | 92 => ⟨S2048x2048, .i1⟩
  | 93 => ⟨S_, .f32⟩
  | 94 => ⟨S_, .f32⟩
  | 95 => ⟨S8x2048x2048, .i1⟩
  | 96 => ⟨S8x2048x2048, .f32⟩
  | 97 => ⟨S8x2048x2048, .f32⟩
  | 98 => ⟨S_, .f32⟩
  | 99 => ⟨S8x2048, .f32⟩
  | 100 => ⟨S_, .f32⟩
  | 101 => ⟨S8x2048, .f32⟩
  | 102 => ⟨S8x2048, .f32⟩
  | 103 => ⟨S8x2048x1, .f32⟩
  | 104 => ⟨S8x2048x2048, .f32⟩
  | 105 => ⟨S8x2048x2048, .f32⟩
  | 106 => ⟨S8x2048x2048, .f32⟩
  | 107 => ⟨S_, .f32⟩
  | 108 => ⟨S8x2048, .f32⟩
  | 109 => ⟨S8x2048x1, .f32⟩
  | 110 => ⟨S8x2048x2048, .f32⟩
  | 111 => ⟨S8x2048x2048, .f32⟩
  | 112 => ⟨S8x2048x128, .f32⟩
  | 113 => ⟨S16x2048x128, .f32⟩
  | 114 => ⟨S2048x16x128, .f32⟩
  | 115 => ⟨S2048x2048, .f32⟩
  | 116 => ⟨S2048x3x16x128, .f32⟩
  | 117 => ⟨S3x16x2048x128, .f32⟩
  | 118 => ⟨S1x16x2048x128, .f32⟩
  | 119 => ⟨S16x2048x128, .f32⟩
  | 120 => ⟨S1x16x2048x128, .f32⟩
  | 121 => ⟨S16x2048x128, .f32⟩
  | 122 => ⟨S1x16x2048x128, .f32⟩
  | 123 => ⟨S16x2048x128, .f32⟩
  | 124 => ⟨S8x2048x128, .f32⟩
  | 125 => ⟨S8x2048x128, .f32⟩
  | 126 => ⟨S8x2048x2048, .f32⟩
  | 127 => ⟨S_, .f32⟩
  | _ => ⟨S2048x6144, .f32⟩

abbrev hbmTy0_1 (i : Nat) : BufTy := match i % 128 with
  | 0 => ⟨S8x2048x2048, .f32⟩
  | 1 => ⟨S8x2048x2048, .f32⟩
  | 2 => ⟨S8x2048x1, .f32⟩
  | 3 => ⟨S8x2048x2048, .f32⟩
  | 4 => ⟨S8x2048x2048, .f32⟩
  | 5 => ⟨S8x1x2048, .f32⟩
  | 6 => ⟨S8x2048x2048, .f32⟩
  | 7 => ⟨S8x2048x2048, .f32⟩
  | 8 => ⟨S2048, .i32⟩
  | 9 => ⟨S1x2048, .i32⟩
  | 10 => ⟨S2048x1, .i32⟩
  | 11 => ⟨S2048x2048, .i32⟩
  | 12 => ⟨S2048x2048, .i32⟩
  | 13 => ⟨S2048x2048, .i1⟩
  | 14 => ⟨S_, .f32⟩
  | 15 => ⟨S_, .f32⟩
  | 16 => ⟨S8x2048x2048, .i1⟩
  | 17 => ⟨S8x2048x2048, .f32⟩
  | 18 => ⟨S8x2048x2048, .f32⟩
  | 19 => ⟨S_, .f32⟩
  | 20 => ⟨S8x2048, .f32⟩
  | 21 => ⟨S8x2048x1, .f32⟩
  | 22 => ⟨S8x2048x2048, .f32⟩
  | 23 => ⟨S8x2048x2048, .f32⟩
  | 24 => ⟨S8x2048x2048, .f32⟩
  | 25 => ⟨S_, .f32⟩
  | 26 => ⟨S8x2048, .f32⟩
  | 27 => ⟨S8x2048, .f32⟩
  | 28 => ⟨S8x2048, .f32⟩
  | 29 => ⟨S_, .f32⟩
  | 30 => ⟨S8x2048, .f32⟩
  | 31 => ⟨S16x2048, .f32⟩
  | 32 => ⟨S2048x16, .f32⟩
  | 33 => ⟨S2048x16x1, .f32⟩
  | 34 => ⟨S2048x16x128, .f32⟩
  | 35 => ⟨S2048x2048, .f32⟩
  | 36 => ⟨S8x1x2048, .f32⟩
  | 37 => ⟨S512, .i32⟩
  | 38 => ⟨S512x1, .i32⟩
  | 39 => ⟨S256, .i32⟩
  | 40 => ⟨S1x256, .i32⟩
  | 41 => ⟨S_, .i32⟩
  | 42 => ⟨S512x1, .i32⟩
  | 43 => ⟨S512x1, .i32⟩
  | 44 => ⟨S512x256, .i32⟩
  | 45 => ⟨S512x256, .i32⟩
  | 46 => ⟨S512x256, .i32⟩
  | 47 => ⟨S_, .i32⟩
  | 48 => ⟨S512x256, .i32⟩
  | 49 => ⟨S512x256, .i1⟩
  | 50 => ⟨S_, .f32⟩
  | 51 => ⟨S_, .f32⟩
  | 52 => ⟨S512x256, .f32⟩
  | 53 => ⟨S512x256, .f32⟩
  | 54 => ⟨S512x256, .f32⟩
  | 55 => ⟨S512, .i32⟩
  | 56 => ⟨S512x1, .i32⟩
  | 57 => ⟨S256, .i32⟩
  | 58 => ⟨S1x256, .i32⟩
  | 59 => ⟨S_, .i32⟩
  | 60 => ⟨S512x1, .i32⟩
  | 61 => ⟨S512x1, .i32⟩
  | 62 => ⟨S512x256, .i32⟩
  | 63 => ⟨S512x256, .i32⟩
  | 64 => ⟨S512x256, .i32⟩
  | 65 => ⟨S_, .i32⟩
  | 66 => ⟨S512x256, .i32⟩
  | 67 => ⟨S512x256, .i1⟩
  | 68 => ⟨S_, .f32⟩
  | 69 => ⟨S_, .f32⟩
  | 70 => ⟨S512x256, .f32⟩
  | 71 => ⟨S512x256, .f32⟩
  | 72 => ⟨S512x256, .f32⟩
  | 73 => ⟨S_, .f32⟩
  | 74 => ⟨S512x256, .f32⟩
  | 75 => ⟨S512x256, .f32⟩
  | 76 => ⟨S512x256, .f32⟩
  | 77 => ⟨S1x512x256, .f32⟩
  | 78 => ⟨S1x512x256, .f32⟩
  | 79 => ⟨S1x512x256, .f32⟩
  | 80 => ⟨S3x512x256, .f32⟩
  | 81 => ⟨S_, .f32⟩
  | 82 => ⟨S3x512x256, .f32⟩
  | 83 => ⟨S3x512x256, .i1⟩
  | 84 => ⟨S_, .f32⟩
  | 85 => ⟨S_, .f32⟩
  | 86 => ⟨S3x512x256, .f32⟩
  | 87 => ⟨S3x512x256, .f32⟩
  | 88 => ⟨S3x512x256, .f32⟩
  | 89 => ⟨S512, .i32⟩
  | 90 => ⟨S512x1, .i32⟩
  | 91 => ⟨S256, .i32⟩
  | 92 => ⟨S1x256, .i32⟩
  | 93 => ⟨S_, .i32⟩
  | 94 => ⟨S512x1, .i32⟩
  | 95 => ⟨S512x1, .i32⟩
  | 96 => ⟨S512x256, .i32⟩
  | 97 => ⟨S512x256, .i32⟩
  | 98 => ⟨S512x256, .i32⟩
  | 99 => ⟨S_, .i32⟩
  | 100 => ⟨S512x256, .i32⟩
  | 101 => ⟨S512x256, .i1⟩
  | 102 => ⟨S_, .f32⟩
  | 103 => ⟨S_, .f32⟩
  | 104 => ⟨S512x256, .f32⟩
  | 105 => ⟨S512x256, .f32⟩
  | 106 => ⟨S512x256, .f32⟩
  | 107 => ⟨S512, .i32⟩
  | 108 => ⟨S512x1, .i32⟩
  | 109 => ⟨S256, .i32⟩
  | 110 => ⟨S1x256, .i32⟩
  | 111 => ⟨S_, .i32⟩
  | 112 => ⟨S512x1, .i32⟩
  | 113 => ⟨S512x1, .i32⟩
  | 114 => ⟨S512x256, .i32⟩
  | 115 => ⟨S512x256, .i32⟩
  | 116 => ⟨S512x256, .i32⟩
  | 117 => ⟨S_, .i32⟩
  | 118 => ⟨S512x256, .i32⟩
  | 119 => ⟨S512x256, .i1⟩
  | 120 => ⟨S_, .f32⟩
  | 121 => ⟨S_, .f32⟩
  | 122 => ⟨S512x256, .f32⟩
  | 123 => ⟨S512x256, .f32⟩
  | 124 => ⟨S512x256, .f32⟩
  | 125 => ⟨S_, .f32⟩
  | 126 => ⟨S512x256, .f32⟩
  | 127 => ⟨S512x256, .f32⟩
  | _ => ⟨S2048x6144, .f32⟩

abbrev hbmTy0_2 (i : Nat) : BufTy := match i % 128 with
  | 0 => ⟨S512x256, .f32⟩
  | 1 => ⟨S1x512x256, .f32⟩
  | 2 => ⟨S1x512x256, .f32⟩
  | 3 => ⟨S1x512x256, .f32⟩
  | 4 => ⟨S3x512x256, .f32⟩
  | 5 => ⟨S3x2048x2048, .bf16⟩
  | 6 => ⟨S8x1x2048, .f32⟩
  | 7 => ⟨S2048x128, .f32⟩
  | _ => ⟨S2048x6144, .f32⟩

abbrev hbmTy (i : Nat) : BufTy := match i / 128 with
  | 0 => hbmTy0_0 i
  | 1 => hbmTy0_1 i
  | 2 => hbmTy0_2 i
  | _ => ⟨S2048x6144, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S8x1x2048, .f32⟩
  | .local _ .vmem, ⟨14, _⟩ => ⟨S3x512x256, .f32⟩
  | .local _ .vmem, ⟨15, _⟩ => ⟨S3x512x256, .f32⟩
  | .local _ .vmem, ⟨16, _⟩ => ⟨S3x2048x128, .bf16⟩
  | .local _ .vmem, ⟨17, _⟩ => ⟨S3x2048x128, .bf16⟩
  | .local _ .vmem, ⟨18, _⟩ => ⟨S8x1x2048, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_2 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_3 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_v50 : Ref sig .tc := ⟨.hbm, 97, rfl⟩
abbrev main_cst_4 : Ref sig .tc := ⟨.hbm, 98, rfl⟩
abbrev main_v51 : Ref sig .tc := ⟨.hbm, 99, rfl⟩
abbrev main_cst_5 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_6 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_7 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_8 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_v91 : Ref sig .tc := ⟨.hbm, 146, rfl⟩
abbrev main_cst_9 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_10 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_11 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_c : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_12 : Ref sig .tc := ⟨.hbm, 175, rfl⟩
abbrev main_v116 : Ref sig .tc := ⟨.hbm, 176, rfl⟩
abbrev main_v117 : Ref sig .tc := ⟨.hbm, 177, rfl⟩
abbrev main_cst_13 : Ref sig .tc := ⟨.hbm, 178, rfl⟩
abbrev main_cst_14 : Ref sig .tc := ⟨.hbm, 179, rfl⟩
abbrev main_call7_v0 : Ref sig .tc := ⟨.hbm, 180, rfl⟩
abbrev main_call7_v1 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_15 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_c_16 : Ref sig .tc := ⟨.hbm, 193, rfl⟩
abbrev main_v128 : Ref sig .tc := ⟨.hbm, 194, rfl⟩
abbrev main_v129 : Ref sig .tc := ⟨.hbm, 195, rfl⟩
abbrev main_cst_17 : Ref sig .tc := ⟨.hbm, 196, rfl⟩
abbrev main_cst_18 : Ref sig .tc := ⟨.hbm, 197, rfl⟩
abbrev main_call8_v0 : Ref sig .tc := ⟨.hbm, 198, rfl⟩
abbrev main_call8_v1 : Ref sig .tc := ⟨.hbm, 199, rfl⟩
abbrev main_v130 : Ref sig .tc := ⟨.hbm, 200, rfl⟩
abbrev main_cst_19 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_20 : Ref sig .tc := ⟨.hbm, 209, rfl⟩
abbrev main_v138 : Ref sig .tc := ⟨.hbm, 210, rfl⟩
abbrev main_v139 : Ref sig .tc := ⟨.hbm, 211, rfl⟩
abbrev main_cst_21 : Ref sig .tc := ⟨.hbm, 212, rfl⟩
abbrev main_cst_22 : Ref sig .tc := ⟨.hbm, 213, rfl⟩
abbrev main_call9_v0 : Ref sig .tc := ⟨.hbm, 214, rfl⟩
abbrev main_call9_v1 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_c_23 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_c_24 : Ref sig .tc := ⟨.hbm, 227, rfl⟩
abbrev main_v150 : Ref sig .tc := ⟨.hbm, 228, rfl⟩
abbrev main_v151 : Ref sig .tc := ⟨.hbm, 229, rfl⟩
abbrev main_cst_25 : Ref sig .tc := ⟨.hbm, 230, rfl⟩
abbrev main_cst_26 : Ref sig .tc := ⟨.hbm, 231, rfl⟩
abbrev main_call10_v0 : Ref sig .tc := ⟨.hbm, 232, rfl⟩
abbrev main_call10_v1 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_c_27 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_c_28 : Ref sig .tc := ⟨.hbm, 245, rfl⟩
abbrev main_v162 : Ref sig .tc := ⟨.hbm, 246, rfl⟩
abbrev main_v163 : Ref sig .tc := ⟨.hbm, 247, rfl⟩
abbrev main_cst_29 : Ref sig .tc := ⟨.hbm, 248, rfl⟩
abbrev main_cst_30 : Ref sig .tc := ⟨.hbm, 249, rfl⟩
abbrev main_call11_v0 : Ref sig .tc := ⟨.hbm, 250, rfl⟩
abbrev main_call11_v1 : Ref sig .tc := ⟨.hbm, 251, rfl⟩
abbrev main_v164 : Ref sig .tc := ⟨.hbm, 252, rfl⟩
abbrev main_cst_31 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172_0 : Ref sig .tc := ⟨.hbm, 261, rfl⟩
abbrev main_v172_1 : Ref sig .tc := ⟨.hbm, 262, rfl⟩
abbrev main_v172_2 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v31 : BitVec 1 := Scalar.cmpi .slt arg0 c8_i32
  let v32 : BitVec 32 := Scalar.extui v31
  let c0_i32_21 : BitVec 32 := 0#32
  let v33 : BitVec 1 := Scalar.cmpi .ne v32 c0_i32_21
  v33

@[reducible] def k0_t1_loop : Scf.Loop 32 :=
  let c0_i32_41 : BitVec 32 := 0#32
  let c4_i32 : BitVec 32 := 4#32
  let v64 : BitVec 32 := Scalar.addi c0_i32_41 c4_i32
  let c1_i32 : BitVec 32 := 1#32
  ⟨c0_i32_41, v64, c1_i32⟩
def k0_mult1 (k0_t1 : Fin k0_t1_loop.trips) : BitVec 32 :=
  let c0_i32_41 : BitVec 32 := 0#32
  let c1_i32 : BitVec 32 := 1#32
  let arg21 : BitVec 32 := Scf.iv c0_i32_41 c1_i32 k0_t1
  let c512_i32 : BitVec 32 := 512#32
  let v65 : BitVec 32 := Scalar.muli arg21 c512_i32
  v65
def k0_off1 (k0_t1 : Fin k0_t1_loop.trips) : Fin 2 → Nat :=
  let c0_i32_41 : BitVec 32 := 0#32
  let c1_i32 : BitVec 32 := 1#32
  let arg21 : BitVec 32 := Scf.iv c0_i32_41 c1_i32 k0_t1
  let c512_i32 : BitVec 32 := 512#32
  let v65 : BitVec 32 := Scalar.muli arg21 c512_i32
  let v66 : BitVec 32 := v65
  let v67 : Index := Scalar.indexCast v66
  let c0_43 : Index := 0#32
  ![v67.toNat, 0]
def k0_mult2 (k0_t1 : Fin k0_t1_loop.trips) : BitVec 32 :=
  let c0_i32_41 : BitVec 32 := 0#32
  let c1_i32 : BitVec 32 := 1#32
  let arg21 : BitVec 32 := Scf.iv c0_i32_41 c1_i32 k0_t1
  let c512_i32_44 : BitVec 32 := 512#32
  let v69 : BitVec 32 := Scalar.muli arg21 c512_i32_44
  v69
def k0_mult3 (k0_t1 : Fin k0_t1_loop.trips) : BitVec 32 :=
  let c0_i32_41 : BitVec 32 := 0#32
  let c1_i32 : BitVec 32 := 1#32
  let arg21 : BitVec 32 := Scf.iv c0_i32_41 c1_i32 k0_t1
  let c512_i32_47 : BitVec 32 := 512#32
  let v76 : BitVec 32 := Scalar.muli arg21 c512_i32_47
  v76
@[reducible] def k0_t2_loop (k0_t1 : Fin k0_t1_loop.trips) : Scf.Loop 32 :=
  let c0_i32_52 : BitVec 32 := 0#32
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_54 : BitVec 32 := 1#32
  ⟨c0_i32_52, v90, c1_i32_54⟩
def k0_mult4 (k0_t1 : Fin k0_t1_loop.trips) (k0_t2 : Fin (k0_t2_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let c1_i32_54 : BitVec 32 := 1#32
  let arg22 : BitVec 32 := Scf.iv c0_i32_52 c1_i32_54 k0_t2
  let v100 : BitVec 32 := Scalar.subi v99 arg22
  let c256_i32 : BitVec 32 := 256#32
  let v101 : BitVec 32 := Scalar.muli v100 c256_i32
  v101
def k0_off2 (k0_t1 : Fin k0_t1_loop.trips) (k0_t2 : Fin (k0_t2_loop k0_t1).trips) : Fin 2 → Nat :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let c1_i32_54 : BitVec 32 := 1#32
  let arg22 : BitVec 32 := Scf.iv c0_i32_52 c1_i32_54 k0_t2
  let v100 : BitVec 32 := Scalar.subi v99 arg22
  let c256_i32 : BitVec 32 := 256#32
  let v101 : BitVec 32 := Scalar.muli v100 c256_i32
  let v102 : BitVec 32 := v101
  let v103 : Index := Scalar.indexCast v102
  let c0_59 : Index := 0#32
  ![v103.toNat, 0]
def k0_off3 (k0_t1 : Fin k0_t1_loop.trips) (k0_t2 : Fin (k0_t2_loop k0_t1).trips) : Fin 3 → Nat :=
  let c2_i32_62 : BitVec 32 := 2#32
  let c0_i32_41 : BitVec 32 := 0#32
  let c1_i32 : BitVec 32 := 1#32
  let arg21 : BitVec 32 := Scf.iv c0_i32_41 c1_i32 k0_t1
  let v108 : BitVec 32 := Scalar.muli c2_i32_62 arg21
  let c2_i32 : BitVec 32 := 2#32
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let c1_i32_54 : BitVec 32 := 1#32
  let arg22 : BitVec 32 := Scf.iv c0_i32_52 c1_i32_54 k0_t2
  let v100 : BitVec 32 := Scalar.subi v99 arg22
  let v109 : BitVec 32 := Scalar.subi v108 v100
  let c1_i32_63 : BitVec 32 := 1#32
  let v110 : BitVec 32 := Scalar.addi v109 c1_i32_63
  let c2_i32_64 : BitVec 32 := 2#32
  let v111 : BitVec 32 := Scalar.minsi v110 c2_i32_64
  let v112 : Index := Scalar.indexCast v111
  let c0_65 : Index := 0#32
  let c0_66 : Index := 0#32
  ![v112.toNat, 0, 0]
def k0_mult5 (k0_t1 : Fin k0_t1_loop.trips) (k0_t2 : Fin (k0_t2_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let c1_i32_54 : BitVec 32 := 1#32
  let arg22 : BitVec 32 := Scf.iv c0_i32_52 c1_i32_54 k0_t2
  let v100 : BitVec 32 := Scalar.subi v99 arg22
  let c256_i32_73 : BitVec 32 := 256#32
  let v142 : BitVec 32 := Scalar.muli v100 c256_i32_73
  v142
def k0_mult6 (k0_t1 : Fin k0_t1_loop.trips) (k0_t2 : Fin (k0_t2_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let c1_i32_54 : BitVec 32 := 1#32
  let arg22 : BitVec 32 := Scf.iv c0_i32_52 c1_i32_54 k0_t2
  let v100 : BitVec 32 := Scalar.subi v99 arg22
  let c256_i32_80 : BitVec 32 := 256#32
  let v168 : BitVec 32 := Scalar.muli v100 c256_i32_80
  v168
def k0_mult7 (k0_t1 : Fin k0_t1_loop.trips) (k0_t2 : Fin (k0_t2_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let c1_i32_54 : BitVec 32 := 1#32
  let arg22 : BitVec 32 := Scf.iv c0_i32_52 c1_i32_54 k0_t2
  let v100 : BitVec 32 := Scalar.subi v99 arg22
  let c256_i32_84 : BitVec 32 := 256#32
  let v178 : BitVec 32 := Scalar.muli v100 c256_i32_84
  v178
@[reducible] def k0_t3_loop (k0_t1 : Fin k0_t1_loop.trips) : Scf.Loop 32 :=
  let c0_i32_52 : BitVec 32 := 0#32
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let v87 : BitVec 32 := Scalar.addi c0_i32_52 v86
  let c1_i32_55 : BitVec 32 := 1#32
  ⟨v90, v87, c1_i32_55⟩
def k0_mult8 (k0_t1 : Fin k0_t1_loop.trips) (k0_t3 : Fin (k0_t3_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_55 : BitVec 32 := 1#32
  let arg22 : BitVec 32 := Scf.iv v90 c1_i32_55 k0_t3
  let v100 : BitVec 32 := Scalar.subi v99 arg22
  let c256_i32 : BitVec 32 := 256#32
  let v101 : BitVec 32 := Scalar.muli v100 c256_i32
  v101
def k0_off4 (k0_t1 : Fin k0_t1_loop.trips) (k0_t3 : Fin (k0_t3_loop k0_t1).trips) : Fin 2 → Nat :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_55 : BitVec 32 := 1#32
  let arg22 : BitVec 32 := Scf.iv v90 c1_i32_55 k0_t3
  let v100 : BitVec 32 := Scalar.subi v99 arg22
  let c256_i32 : BitVec 32 := 256#32
  let v101 : BitVec 32 := Scalar.muli v100 c256_i32
  let v102 : BitVec 32 := v101
  let v103 : Index := Scalar.indexCast v102
  let c0_59 : Index := 0#32
  ![v103.toNat, 0]
def k0_off5 (k0_t1 : Fin k0_t1_loop.trips) (k0_t3 : Fin (k0_t3_loop k0_t1).trips) : Fin 3 → Nat :=
  let c2_i32_62 : BitVec 32 := 2#32
  let c0_i32_41 : BitVec 32 := 0#32
  let c1_i32 : BitVec 32 := 1#32
  let arg21 : BitVec 32 := Scf.iv c0_i32_41 c1_i32 k0_t1
  let v108 : BitVec 32 := Scalar.muli c2_i32_62 arg21
  let c2_i32 : BitVec 32 := 2#32
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_55 : BitVec 32 := 1#32
  let arg22 : BitVec 32 := Scf.iv v90 c1_i32_55 k0_t3
  let v100 : BitVec 32 := Scalar.subi v99 arg22
  let v109 : BitVec 32 := Scalar.subi v108 v100
  let c1_i32_63 : BitVec 32 := 1#32
  let v110 : BitVec 32 := Scalar.addi v109 c1_i32_63
  let c2_i32_64 : BitVec 32 := 2#32
  let v111 : BitVec 32 := Scalar.minsi v110 c2_i32_64
  let v112 : Index := Scalar.indexCast v111
  let c0_65 : Index := 0#32
  let c0_66 : Index := 0#32
  ![v112.toNat, 0, 0]
def k0_mult9 (k0_t1 : Fin k0_t1_loop.trips) (k0_t3 : Fin (k0_t3_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_55 : BitVec 32 := 1#32
  let arg22 : BitVec 32 := Scf.iv v90 c1_i32_55 k0_t3
  let v100 : BitVec 32 := Scalar.subi v99 arg22
  let c256_i32_73 : BitVec 32 := 256#32
  let v142 : BitVec 32 := Scalar.muli v100 c256_i32_73
  v142
def k0_mult10 (k0_t1 : Fin k0_t1_loop.trips) (k0_t3 : Fin (k0_t3_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_55 : BitVec 32 := 1#32
  let arg22 : BitVec 32 := Scf.iv v90 c1_i32_55 k0_t3
  let v100 : BitVec 32 := Scalar.subi v99 arg22
  let c256_i32_80 : BitVec 32 := 256#32
  let v168 : BitVec 32 := Scalar.muli v100 c256_i32_80
  v168
def k0_mult11 (k0_t1 : Fin k0_t1_loop.trips) (k0_t3 : Fin (k0_t3_loop k0_t1).trips) : BitVec 32 :=
  let c2_i32 : BitVec 32 := 2#32
  let c0_i32_41 : BitVec 32 := 0#32
  let c1_i32 : BitVec 32 := 1#32
  let arg21 : BitVec 32 := Scf.iv c0_i32_41 c1_i32 k0_t1
  let c1_i32_46 : BitVec 32 := 1#32
  let v73 : BitVec 32 := Scalar.addi arg21 c1_i32_46
  let v74 : BitVec 32 := Scalar.muli c2_i32 v73
  let c1_i32_58 : BitVec 32 := 1#32
  let v99 : BitVec 32 := Scalar.subi v74 c1_i32_58
  let c0_i32_52 : BitVec 32 := 0#32
  let v86 : BitVec 32 := Scalar.subi v74 c0_i32_52
  let c1_i32_53 : BitVec 32 := 1#32
  let v88 : BitVec 32 := Scalar.divsi v86 c1_i32_53
  let v89 : BitVec 32 := Scalar.muli v88 c1_i32_53
  let v90 : BitVec 32 := Scalar.addi c0_i32_52 v89
  let c1_i32_55 : BitVec 32 := 1#32
  let arg22 : BitVec 32 := Scf.iv v90 c1_i32_55 k0_t3
  let v100 : BitVec 32 := Scalar.subi v99 arg22
  let c256_i32_84 : BitVec 32 := 256#32
  let v178 : BitVec 32 := Scalar.muli v100 c256_i32_84
  v178
def k0_mult12 (k0_t1 : Fin k0_t1_loop.trips) : BitVec 32 :=
  let c0_i32_41 : BitVec 32 := 0#32
  let c1_i32 : BitVec 32 := 1#32
  let arg21 : BitVec 32 := Scf.iv c0_i32_41 c1_i32 k0_t1
  let c512_i32_56 : BitVec 32 := 512#32
  let v93 : BitVec 32 := Scalar.muli arg21 c512_i32_56
  v93
def k0_cond3 (i : grid0.Coords) : BitVec 1 :=
  let arg0 : BitVec 32 := BitVec.ofNat 32 (i 0).val
  let c8_i32_22 : BitVec 32 := 8#32
  let v34 : BitVec 1 := Scalar.cmpi .sge arg0 c8_i32_22
  let v35 : BitVec 32 := Scalar.extui v34
  let c0_i32_23 : BitVec 32 := 0#32
  let v36 : BitVec 1 := Scalar.cmpi .ne v35 c0_i32_23
  v36

@[reducible] def k0_t4_loop : Scf.Loop 32 :=
  let c0_i32_38 : BitVec 32 := 0#32
  let c4_i32 : BitVec 32 := 4#32
  let v53 : BitVec 32 := Scalar.addi c0_i32_38 c4_i32
  let c1_i32 : BitVec 32 := 1#32
  ⟨c0_i32_38, v53, c1_i32⟩
def k0_mult13 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32 : BitVec 32 := 512#32
  let v54 : BitVec 32 := Scalar.muli arg21 c512_i32
  v54
def k0_off6 (k0_t4 : Fin k0_t4_loop.trips) : Fin 2 → Nat :=
  let c0_i32_38 : BitVec 32 := 0#32
  let c1_i32 : BitVec 32 := 1#32
  let arg21 : BitVec 32 := Scf.iv c0_i32_38 c1_i32 k0_t4
  let c512_i32 : BitVec 32 := 512#32
  let v54 : BitVec 32 := Scalar.muli arg21 c512_i32
  let v55 : BitVec 32 := v54
  let v56 : Index := Scalar.indexCast v55
  let c0_40 : Index := 0#32
  ![v56.toNat, 0]
def k0_mult14 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_41 : BitVec 32 := 512#32
  let v58 : BitVec 32 := Scalar.muli arg21 c512_i32_41
  v58
def k0_mult15 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_43 : BitVec 32 := 512#32
  let v62 : BitVec 32 := Scalar.muli arg21 c512_i32_43
  v62
def k0_mult16 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_45 : BitVec 32 := 512#32
  let v66 : BitVec 32 := Scalar.muli arg21 c512_i32_45
  v66
def k0_mult17 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_48 : BitVec 32 := 512#32
  let v74 : BitVec 32 := Scalar.muli arg21 c512_i32_48
  v74
def k0_mult18 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_51 : BitVec 32 := 512#32
  let v84 : BitVec 32 := Scalar.muli arg21 c512_i32_51
  v84
@[reducible] def k0_t5_loop (k0_t4 : Fin k0_t4_loop.trips) : Scf.Loop 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_60 : BitVec 32 := 1#32
  ⟨c0_i32_58, v100, c1_i32_60⟩
def k0_mult19 (k0_t4 : Fin k0_t4_loop.trips) (k0_t5 : Fin (k0_t5_loop k0_t4).trips) : BitVec 32 :=
  let c0_i32_58 : BitVec 32 := 0#32
  let c1_i32_60 : BitVec 32 := 1#32
  let arg22 : BitVec 32 := Scf.iv c0_i32_58 c1_i32_60 k0_t5
  let c256_i32 : BitVec 32 := 256#32
  let v123 : BitVec 32 := Scalar.muli arg22 c256_i32
  v123
def k0_off7 (k0_t4 : Fin k0_t4_loop.trips) (k0_t5 : Fin (k0_t5_loop k0_t4).trips) : Fin 2 → Nat :=
  let c0_i32_58 : BitVec 32 := 0#32
  let c1_i32_60 : BitVec 32 := 1#32
  let arg22 : BitVec 32 := Scf.iv c0_i32_58 c1_i32_60 k0_t5
  let c256_i32 : BitVec 32 := 256#32
  let v123 : BitVec 32 := Scalar.muli arg22 c256_i32
  let v124 : BitVec 32 := v123
  let v125 : Index := Scalar.indexCast v124
  let c0_68 : Index := 0#32
  ![v125.toNat, 0]
def k0_off8 (k0_t4 : Fin k0_t4_loop.trips) (k0_t5 : Fin (k0_t5_loop k0_t4).trips) : Fin 3 → Nat :=
  let c2_i32_71 : BitVec 32 := 2#32
  let c0_i32_38 : BitVec 32 := 0#32
  let c1_i32 : BitVec 32 := 1#32
  let arg21 : BitVec 32 := Scf.iv c0_i32_38 c1_i32 k0_t4
  let v130 : BitVec 32 := Scalar.muli c2_i32_71 arg21
  let c0_i32_58 : BitVec 32 := 0#32
  let c1_i32_60 : BitVec 32 := 1#32
  let arg22 : BitVec 32 := Scf.iv c0_i32_58 c1_i32_60 k0_t5
  let v131 : BitVec 32 := Scalar.subi v130 arg22
  let c1_i32_72 : BitVec 32 := 1#32
  let v132 : BitVec 32 := Scalar.addi v131 c1_i32_72
  let c2_i32_73 : BitVec 32 := 2#32
  let v133 : BitVec 32 := Scalar.minsi v132 c2_i32_73
  let v134 : Index := Scalar.indexCast v133
  let c0_74 : Index := 0#32
  let c0_75 : Index := 0#32
  ![v134.toNat, 0, 0]
def k0_mult20 (k0_t4 : Fin k0_t4_loop.trips) (k0_t5 : Fin (k0_t5_loop k0_t4).trips) : BitVec 32 :=
  let c0_i32_58 : BitVec 32 := 0#32
  let c1_i32_60 : BitVec 32 := 1#32
  let arg22 : BitVec 32 := Scf.iv c0_i32_58 c1_i32_60 k0_t5
  let c256_i32_76 : BitVec 32 := 256#32
  let v138 : BitVec 32 := Scalar.muli arg22 c256_i32_76
  v138
def k0_off9 (i : grid0.Coords) (k0_t4 : Fin k0_t4_loop.trips) (k0_t5 : Fin (k0_t5_loop k0_t4).trips) : Fin 3 → Nat :=
  let arg0 : BitVec 32 := BitVec.ofNat 32 (i 0).val
  let c8_i32_37 : BitVec 32 := 8#32
  let v52 : BitVec 32 := Scalar.subi arg0 c8_i32_37
  let v140 : Index := Scalar.indexCast v52
  let c0_77 : Index := 0#32
  let c0_i32_58 : BitVec 32 := 0#32
  let c1_i32_60 : BitVec 32 := 1#32
  let arg22 : BitVec 32 := Scf.iv c0_i32_58 c1_i32_60 k0_t5
  let c256_i32_76 : BitVec 32 := 256#32
  let v138 : BitVec 32 := Scalar.muli arg22 c256_i32_76
  let v139 : BitVec 32 := v138
  let v141 : Index := Scalar.indexCast v139
  ![v140.toNat, 0, v141.toNat]
def k0_mult21 (k0_t4 : Fin k0_t4_loop.trips) (k0_t5 : Fin (k0_t5_loop k0_t4).trips) : BitVec 32 :=
  let c0_i32_58 : BitVec 32 := 0#32
  let c1_i32_60 : BitVec 32 := 1#32
  let arg22 : BitVec 32 := Scf.iv c0_i32_58 c1_i32_60 k0_t5
  let c256_i32_78 : BitVec 32 := 256#32
  let v151 : BitVec 32 := Scalar.muli arg22 c256_i32_78
  v151
def k0_mult22 (k0_t4 : Fin k0_t4_loop.trips) (k0_t5 : Fin (k0_t5_loop k0_t4).trips) : BitVec 32 :=
  let c0_i32_58 : BitVec 32 := 0#32
  let c1_i32_60 : BitVec 32 := 1#32
  let arg22 : BitVec 32 := Scf.iv c0_i32_58 c1_i32_60 k0_t5
  let c256_i32_82 : BitVec 32 := 256#32
  let v162 : BitVec 32 := Scalar.muli arg22 c256_i32_82
  v162
def k0_mult23 (k0_t4 : Fin k0_t4_loop.trips) (k0_t5 : Fin (k0_t5_loop k0_t4).trips) : BitVec 32 :=
  let c0_i32_58 : BitVec 32 := 0#32
  let c1_i32_60 : BitVec 32 := 1#32
  let arg22 : BitVec 32 := Scf.iv c0_i32_58 c1_i32_60 k0_t5
  let c256_i32_86 : BitVec 32 := 256#32
  let v172 : BitVec 32 := Scalar.muli arg22 c256_i32_86
  v172
def k0_mult24 (k0_t4 : Fin k0_t4_loop.trips) (k0_t5 : Fin (k0_t5_loop k0_t4).trips) : BitVec 32 :=
  let c0_i32_58 : BitVec 32 := 0#32
  let c1_i32_60 : BitVec 32 := 1#32
  let arg22 : BitVec 32 := Scf.iv c0_i32_58 c1_i32_60 k0_t5
  let c256_i32_90 : BitVec 32 := 256#32
  let v183 : BitVec 32 := Scalar.muli arg22 c256_i32_90
  v183
@[reducible] def k0_t6_loop (k0_t4 : Fin k0_t4_loop.trips) : Scf.Loop 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let v97 : BitVec 32 := Scalar.addi c0_i32_58 v96
  let c1_i32_61 : BitVec 32 := 1#32
  ⟨v100, v97, c1_i32_61⟩
def k0_mult25 (k0_t4 : Fin k0_t4_loop.trips) (k0_t6 : Fin (k0_t6_loop k0_t4).trips) : BitVec 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32 : BitVec 32 := 256#32
  let v123 : BitVec 32 := Scalar.muli arg22 c256_i32
  v123
def k0_off10 (k0_t4 : Fin k0_t4_loop.trips) (k0_t6 : Fin (k0_t6_loop k0_t4).trips) : Fin 2 → Nat :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32 : BitVec 32 := 256#32
  let v123 : BitVec 32 := Scalar.muli arg22 c256_i32
  let v124 : BitVec 32 := v123
  let v125 : Index := Scalar.indexCast v124
  let c0_68 : Index := 0#32
  ![v125.toNat, 0]
def k0_off11 (k0_t4 : Fin k0_t4_loop.trips) (k0_t6 : Fin (k0_t6_loop k0_t4).trips) : Fin 3 → Nat :=
  let c2_i32_71 : BitVec 32 := 2#32
  let c0_i32_38 : BitVec 32 := 0#32
  let c1_i32 : BitVec 32 := 1#32
  let arg21 : BitVec 32 := Scf.iv c0_i32_38 c1_i32 k0_t4
  let v130 : BitVec 32 := Scalar.muli c2_i32_71 arg21
  let c0_i32_58 : BitVec 32 := 0#32
  let c2_i32 : BitVec 32 := 2#32
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let v131 : BitVec 32 := Scalar.subi v130 arg22
  let c1_i32_72 : BitVec 32 := 1#32
  let v132 : BitVec 32 := Scalar.addi v131 c1_i32_72
  let c2_i32_73 : BitVec 32 := 2#32
  let v133 : BitVec 32 := Scalar.minsi v132 c2_i32_73
  let v134 : Index := Scalar.indexCast v133
  let c0_74 : Index := 0#32
  let c0_75 : Index := 0#32
  ![v134.toNat, 0, 0]
def k0_mult26 (k0_t4 : Fin k0_t4_loop.trips) (k0_t6 : Fin (k0_t6_loop k0_t4).trips) : BitVec 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32_76 : BitVec 32 := 256#32
  let v138 : BitVec 32 := Scalar.muli arg22 c256_i32_76
  v138
def k0_off12 (i : grid0.Coords) (k0_t4 : Fin k0_t4_loop.trips) (k0_t6 : Fin (k0_t6_loop k0_t4).trips) : Fin 3 → Nat :=
  let arg0 : BitVec 32 := BitVec.ofNat 32 (i 0).val
  let c8_i32_37 : BitVec 32 := 8#32
  let v52 : BitVec 32 := Scalar.subi arg0 c8_i32_37
  let v140 : Index := Scalar.indexCast v52
  let c0_77 : Index := 0#32
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32_76 : BitVec 32 := 256#32
  let v138 : BitVec 32 := Scalar.muli arg22 c256_i32_76
  let v139 : BitVec 32 := v138
  let v141 : Index := Scalar.indexCast v139
  ![v140.toNat, 0, v141.toNat]
def k0_mult27 (k0_t4 : Fin k0_t4_loop.trips) (k0_t6 : Fin (k0_t6_loop k0_t4).trips) : BitVec 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32_78 : BitVec 32 := 256#32
  let v151 : BitVec 32 := Scalar.muli arg22 c256_i32_78
  v151
def k0_mult28 (k0_t4 : Fin k0_t4_loop.trips) (k0_t6 : Fin (k0_t6_loop k0_t4).trips) : BitVec 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32_82 : BitVec 32 := 256#32
  let v162 : BitVec 32 := Scalar.muli arg22 c256_i32_82
  v162
def k0_mult29 (k0_t4 : Fin k0_t4_loop.trips) (k0_t6 : Fin (k0_t6_loop k0_t4).trips) : BitVec 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32_86 : BitVec 32 := 256#32
  let v172 : BitVec 32 := Scalar.muli arg22 c256_i32_86
  v172
def k0_mult30 (k0_t4 : Fin k0_t4_loop.trips) (k0_t6 : Fin (k0_t6_loop k0_t4).trips) : BitVec 32 :=
  let c0_i32_58 : BitVec 32 := 0#32
  let c2_i32 : BitVec 32 := 2#32
  let c0_i32_38 : BitVec 32 := 0#32
  let c1_i32 : BitVec 32 := 1#32
  let arg21 : BitVec 32 := Scf.iv c0_i32_38 c1_i32 k0_t4
  let c1_i32_55 : BitVec 32 := 1#32
  let v92 : BitVec 32 := Scalar.addi arg21 c1_i32_55
  let v93 : BitVec 32 := Scalar.muli c2_i32 v92
  let v96 : BitVec 32 := Scalar.subi v93 c0_i32_58
  let c1_i32_59 : BitVec 32 := 1#32
  let v98 : BitVec 32 := Scalar.divsi v96 c1_i32_59
  let v99 : BitVec 32 := Scalar.muli v98 c1_i32_59
  let v100 : BitVec 32 := Scalar.addi c0_i32_58 v99
  let c1_i32_61 : BitVec 32 := 1#32
  let arg22 : BitVec 32 := Scf.iv v100 c1_i32_61 k0_t6
  let c256_i32_90 : BitVec 32 := 256#32
  let v183 : BitVec 32 := Scalar.muli arg22 c256_i32_90
  v183
def k0_mult31 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_62 : BitVec 32 := 512#32
  let v103 : BitVec 32 := Scalar.muli arg21 c512_i32_62
  v103
def k0_mult32 (k0_t4 : Fin k0_t4_loop.trips) : BitVec 32 :=
  let c0_i32_38 : BitVec 32 := 0#32
  let c1_i32 : BitVec 32 := 1#32
  let arg21 : BitVec 32 := Scf.iv c0_i32_38 c1_i32 k0_t4
  let c512_i32_64 : BitVec 32 := 512#32
  let v109 : BitVec 32 := Scalar.muli arg21 c512_i32_64
  v109
def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnReferenceIdeal.lean ====
abbrev S2048x6144 : Shape := ⟨2, ![2048, 6144]⟩
abbrev S2048x2048 : Shape := ⟨2, ![2048, 2048]⟩
abbrev S2048x128 : Shape := ⟨2, ![2048, 128]⟩
abbrev S128x2048 : Shape := ⟨2, ![128, 2048]⟩
abbrev S8x2048 : Shape := ⟨2, ![8, 2048]⟩
abbrev S2048x3x16x128 : Shape := ⟨4, ![2048, 3, 16, 128]⟩
abbrev S3x16x2048x128 : Shape := ⟨4, ![3, 16, 2048, 128]⟩
abbrev S1x16x2048x128 : Shape := ⟨4, ![1, 16, 2048, 128]⟩
abbrev S16x2048x128 : Shape := ⟨3, ![16, 2048, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048x1 : Shape := ⟨3, ![8, 2048, 1]⟩
abbrev S8x1x2048 : Shape := ⟨3, ![8, 1, 2048]⟩
abbrev S2048x16x128 : Shape := ⟨3, ![2048, 16, 128]⟩
abbrev S8x128x2048 : Shape := ⟨3, ![8, 128, 2048]⟩
abbrev S2048x3x2048 : Shape := ⟨3, ![2048, 3, 2048]⟩
abbrev S3x2048x2048 : Shape := ⟨3, ![3, 2048, 2048]⟩
abbrev S2048x8 : Shape := ⟨2, ![2048, 8]⟩

abbrev nBuf : Space → Nat
  | .hbm => 312
  | .vmem => 0
  | .smem => 0
  | _ => 0

abbrev hbmTy0_0 (i : Nat) : BufTy := match i % 128 with
  | 0 => ⟨S2048x6144, .f32⟩
  | 1 => ⟨S2048x2048, .f32⟩
  | 2 => ⟨S2048x128, .f32⟩
  | 3 => ⟨S128x2048, .f32⟩
  | 4 => ⟨S8x2048, .f32⟩
  | 5 => ⟨S2048x3x16x128, .f32⟩
  | 6 => ⟨S3x16x2048x128, .f32⟩
  | 7 => ⟨S1x16x2048x128, .f32⟩
  | 8 => ⟨S16x2048x128, .f32⟩
  | 9 => ⟨S1x16x2048x128, .f32⟩
  | 10 => ⟨S16x2048x128, .f32⟩
  | 11 => ⟨S1x16x2048x128, .f32⟩
  | 12 => ⟨S16x2048x128, .f32⟩
  | 13 => ⟨S8x2048x128, .f32⟩
  | 14 => ⟨S8x2048x128, .f32⟩
  | 15 => ⟨S8x2048x128, .f32⟩
  | 16 => ⟨S8x2048x2048, .f32⟩
  | 17 => ⟨S_, .f32⟩
  | 18 => ⟨S8x2048x2048, .f32⟩
  | 19 => ⟨S8x2048x2048, .f32⟩
  | 20 => ⟨S2048, .i32⟩
  | 21 => ⟨S1x2048, .i32⟩
  | 22 => ⟨S2048x1, .i32⟩
  | 23 => ⟨S2048x2048, .i32⟩
  | 24 => ⟨S2048x2048, .i32⟩
  | 25 => ⟨S2048x2048, .i1⟩
  | 26 => ⟨S_, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .i1⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .i1⟩
  | 49 => ⟨S_, .f32⟩
  | 50 => ⟨S8x2048x2048, .f32⟩
  | 51 => ⟨S8x2048x2048, .f32⟩
  | 52 => ⟨S8x2048x2048, .f32⟩
  | 53 => ⟨S8x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x2048x2048, .f32⟩
  | 62 => ⟨S8x2048x2048, .i1⟩
  | 63 => ⟨S_, .f32⟩
  | 64 => ⟨S8x2048x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S_, .f32⟩
  | 70 => ⟨S8x2048x2048, .f32⟩
  | 71 => ⟨S8x2048x2048, .f32⟩
  | 72 => ⟨S8x2048x2048, .f32⟩
  | 73 => ⟨S_, .f32⟩
  | 74 => ⟨S_, .f32⟩
  | 75 => ⟨S8x2048x2048, .i1⟩
  | 76 => ⟨S8x2048x2048, .f32⟩
  | 77 => ⟨S8x2048x2048, .f32⟩
  | 78 => ⟨S_, .f32⟩
  | 79 => ⟨S8x2048x2048, .f32⟩
  | 80 => ⟨S_, .f32⟩
  | 81 => ⟨S_, .f32⟩
  | 82 => ⟨S8x2048x2048, .f32⟩
  | 83 => ⟨S8x2048x2048, .f32⟩
  | 84 => ⟨S8x2048x2048, .f32⟩
  | 85 => ⟨S_, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .i1⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .i1⟩
  | 102 => ⟨S_, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .i1⟩
  | 108 => ⟨S_, .f32⟩
  | 109 => ⟨S8x2048x2048, .f32⟩
  | 110 => ⟨S8x2048x2048, .f32⟩
  | 111 => ⟨S8x2048x2048, .f32⟩
  | 112 => ⟨S8x2048x2048, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x2048x2048, .f32⟩
  | 121 => ⟨S8x2048x2048, .i1⟩
  | 122 => ⟨S_, .f32⟩
  | 123 => ⟨S8x2048x2048, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x6144, .f32⟩

abbrev hbmTy0_1 (i : Nat) : BufTy := match i % 128 with
  | 0 => ⟨S_, .f32⟩
  | 1 => ⟨S8x2048x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S_, .f32⟩
  | 7 => ⟨S_, .f32⟩
  | 8 => ⟨S8x2048x2048, .i1⟩
  | 9 => ⟨S8x2048x2048, .f32⟩
  | 10 => ⟨S8x2048x2048, .f32⟩
  | 11 => ⟨S_, .f32⟩
  | 12 => ⟨S8x2048x2048, .f32⟩
  | 13 => ⟨S8x2048x128, .f32⟩
  | 14 => ⟨S8x2048x128, .f32⟩
  | 15 => ⟨S8x2048x128, .f32⟩
  | 16 => ⟨S8x2048x128, .f32⟩
  | 17 => ⟨S8x2048x2048, .f32⟩
  | 18 => ⟨S_, .f32⟩
  | 19 => ⟨S8x2048x2048, .f32⟩
  | 20 => ⟨S8x2048x2048, .f32⟩
  | 21 => ⟨S8x2048x1, .f32⟩
  | 22 => ⟨S8x2048x2048, .f32⟩
  | 23 => ⟨S8x2048x2048, .f32⟩
  | 24 => ⟨S8x1x2048, .f32⟩
  | 25 => ⟨S8x2048x2048, .f32⟩
  | 26 => ⟨S8x2048x2048, .f32⟩
  | 27 => ⟨S2048, .i32⟩
  | 28 => ⟨S1x2048, .i32⟩
  | 29 => ⟨S2048x1, .i32⟩
  | 30 => ⟨S2048x2048, .i32⟩
  | 31 => ⟨S2048x2048, .i32⟩
  | 32 => ⟨S2048x2048, .i1⟩
  | 33 => ⟨S_, .f32⟩
  | 34 => ⟨S_, .f32⟩
  | 35 => ⟨S8x2048x2048, .i1⟩
  | 36 => ⟨S8x2048x2048, .f32⟩
  | 37 => ⟨S8x2048x2048, .f32⟩
  | 38 => ⟨S_, .f32⟩
  | 39 => ⟨S8x2048x2048, .f32⟩
  | 40 => ⟨S_, .f32⟩
  | 41 => ⟨S8x2048, .f32⟩
  | 42 => ⟨S8x2048x1, .f32⟩
  | 43 => ⟨S8x2048x2048, .f32⟩
  | 44 => ⟨S8x2048x2048, .i1⟩
  | 45 => ⟨S8x2048x2048, .f32⟩
  | 46 => ⟨S_, .f32⟩
  | 47 => ⟨S8x2048, .f32⟩
  | 48 => ⟨S_, .f32⟩
  | 49 => ⟨S8x2048, .f32⟩
  | 50 => ⟨S8x2048, .f32⟩
  | 51 => ⟨S_, .f32⟩
  | 52 => ⟨S8x2048, .f32⟩
  | 53 => ⟨S8x2048, .i1⟩
  | 54 => ⟨S_, .f32⟩
  | 55 => ⟨S8x2048, .f32⟩
  | 56 => ⟨S8x2048, .i1⟩
  | 57 => ⟨S_, .f32⟩
  | 58 => ⟨S8x2048, .f32⟩
  | 59 => ⟨S_, .f32⟩
  | 60 => ⟨S8x2048, .f32⟩
  | 61 => ⟨S_, .f32⟩
  | 62 => ⟨S8x2048, .f32⟩
  | 63 => ⟨S8x2048, .f32⟩
  | 64 => ⟨S8x2048, .f32⟩
  | 65 => ⟨S8x2048x1, .f32⟩
  | 66 => ⟨S8x2048x2048, .f32⟩
  | 67 => ⟨S8x2048x2048, .f32⟩
  | 68 => ⟨S8x2048x2048, .f32⟩
  | 69 => ⟨S_, .f32⟩
  | 70 => ⟨S8x2048, .f32⟩
  | 71 => ⟨S8x2048x1, .f32⟩
  | 72 => ⟨S8x2048x2048, .f32⟩
  | 73 => ⟨S8x2048x2048, .f32⟩
  | 74 => ⟨S8x2048x1, .f32⟩
  | 75 => ⟨S_, .f32⟩
  | 76 => ⟨S8x2048x1, .f32⟩
  | 77 => ⟨S8x2048x1, .f32⟩
  | 78 => ⟨S8x2048x128, .f32⟩
  | 79 => ⟨S16x2048x128, .f32⟩
  | 80 => ⟨S2048x16x128, .f32⟩
  | 81 => ⟨S2048x2048, .f32⟩
  | 82 => ⟨S2048x16x128, .f32⟩
  | 83 => ⟨S16x2048x128, .f32⟩
  | 84 => ⟨S8x2048x128, .f32⟩
  | 85 => ⟨S8x2048x128, .f32⟩
  | 86 => ⟨S8x128x2048, .f32⟩
  | 87 => ⟨S8x2048x128, .f32⟩
  | 88 => ⟨S8x2048x2048, .f32⟩
  | 89 => ⟨S8x2048x2048, .f32⟩
  | 90 => ⟨S8x2048x2048, .f32⟩
  | 91 => ⟨S8x2048x2048, .f32⟩
  | 92 => ⟨S_, .f32⟩
  | 93 => ⟨S8x2048, .f32⟩
  | 94 => ⟨S8x2048x1, .f32⟩
  | 95 => ⟨S8x2048x1, .f32⟩
  | 96 => ⟨S8x2048x2048, .f32⟩
  | 97 => ⟨S8x2048x2048, .f32⟩
  | 98 => ⟨S_, .f32⟩
  | 99 => ⟨S8x2048, .f32⟩
  | 100 => ⟨S8x2048x2048, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .f32⟩
  | 106 => ⟨S8x2048x2048, .f32⟩
  | 107 => ⟨S_, .f32⟩
  | 108 => ⟨S8x2048, .f32⟩
  | 109 => ⟨S8x1x2048, .f32⟩
  | 110 => ⟨S_, .f32⟩
  | 111 => ⟨S8x2048, .f32⟩
  | 112 => ⟨S_, .f32⟩
  | 113 => ⟨S8x2048, .f32⟩
  | 114 => ⟨S8x2048x1, .f32⟩
  | 115 => ⟨S_, .f32⟩
  | 116 => ⟨S8x2048, .f32⟩
  | 117 => ⟨S_, .f32⟩
  | 118 => ⟨S8x2048x2048, .f32⟩
  | 119 => ⟨S8x2048x2048, .f32⟩
  | 120 => ⟨S8x2048x128, .f32⟩
  | 121 => ⟨S8x2048x128, .f32⟩
  | 122 => ⟨S_, .f32⟩
  | 123 => ⟨S16x2048x128, .f32⟩
  | 124 => ⟨S_, .f32⟩
  | 125 => ⟨S16x2048x128, .f32⟩
  | 126 => ⟨S_, .f32⟩
  | 127 => ⟨S16x2048x128, .f32⟩
  | _ => ⟨S2048x6144, .f32⟩

abbrev hbmTy0_2 (i : Nat) : BufTy := match i % 128 with
  | 0 => ⟨S8x128x2048, .f32⟩
  | 1 => ⟨S8x2048x128, .f32⟩
  | 2 => ⟨S8x2048x2048, .f32⟩
  | 3 => ⟨S_, .f32⟩
  | 4 => ⟨S8x2048x2048, .f32⟩
  | 5 => ⟨S8x2048x2048, .f32⟩
  | 6 => ⟨S8x2048x2048, .f32⟩
  | 7 => ⟨S8x2048x2048, .f32⟩
  | 8 => ⟨S8x2048x2048, .f32⟩
  | 9 => ⟨S8x2048x2048, .f32⟩
  | 10 => ⟨S8x2048x2048, .f32⟩
  | 11 => ⟨S_, .f32⟩
  | 12 => ⟨S_, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x128, .f32⟩
  | 25 => ⟨S8x2048x128, .f32⟩
  | 26 => ⟨S_, .f32⟩
  | 27 => ⟨S16x2048x128, .f32⟩
  | 28 => ⟨S16x2048x128, .f32⟩
  | 29 => ⟨S_, .f32⟩
  | 30 => ⟨S16x2048x128, .f32⟩
  | 31 => ⟨S16x2048x128, .f32⟩
  | 32 => ⟨S_, .f32⟩
  | 33 => ⟨S16x2048x128, .f32⟩
  | 34 => ⟨S16x2048x128, .f32⟩
  | 35 => ⟨S1x16x2048x128, .f32⟩
  | 36 => ⟨S_, .f32⟩
  | 37 => ⟨S3x16x2048x128, .f32⟩
  | 38 => ⟨S1x16x2048x128, .f32⟩
  | 39 => ⟨S_, .f32⟩
  | 40 => ⟨S3x16x2048x128, .f32⟩
  | 41 => ⟨S3x16x2048x128, .f32⟩
  | 42 => ⟨S1x16x2048x128, .f32⟩
  | 43 => ⟨S_, .f32⟩
  | 44 => ⟨S3x16x2048x128, .f32⟩
  | 45 => ⟨S3x16x2048x128, .f32⟩
  | 46 => ⟨S2048x3x16x128, .f32⟩
  | 47 => ⟨S2048x6144, .f32⟩
  | 48 => ⟨S2048x3x2048, .f32⟩
  | 49 => ⟨S3x2048x2048, .f32⟩
  | 50 => ⟨S3x2048x2048, .bf16⟩
  | 51 => ⟨S8x1x2048, .f32⟩
  | 52 => ⟨S2048x8, .f32⟩
  | 53 => ⟨S_, .i32⟩
  | 54 => ⟨S_, .f32⟩
  | 55 => ⟨S2048x128, .f32⟩
  | _ => ⟨S2048x6144, .f32⟩

abbrev hbmTy (i : Nat) : BufTy := match i / 128 with
  | 0 => hbmTy0_0 i
  | 1 => hbmTy0_1 i
  | 2 => hbmTy0_2 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v22_0 : Ref sig .tc := ⟨.hbm, 39, rfl⟩
abbrev main_call0_cst_0 : Ref sig .tc := ⟨.hbm, 40, rfl⟩
abbrev main_call0_v13 : Ref sig .tc := ⟨.hbm, 41, rfl⟩
abbrev main_call0_v14 : Ref sig .tc := ⟨.hbm, 42, rfl⟩
abbrev main_call0_cst_1 : Ref sig .tc := ⟨.hbm, 43, rfl⟩
abbrev main_call0_v15 : Ref sig .tc := ⟨.hbm, 44, rfl⟩
abbrev main_call0_v16 : Ref sig .tc := ⟨.hbm, 45, rfl⟩
abbrev main_call0_cst_2 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_v22_1 : Ref sig .tc := ⟨.hbm, 53, rfl⟩
abbrev main_call0_cst_4 : Ref sig .tc := ⟨.hbm, 54, rfl⟩
abbrev main_call0_cst_5 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_v24 : Ref sig .tc := ⟨.hbm, 59, rfl⟩
abbrev main_call0_cst_8 : Ref sig .tc := ⟨.hbm, 60, rfl⟩
abbrev main_call0_v25 : Ref sig .tc := ⟨.hbm, 61, rfl⟩
abbrev main_call0_v26 : Ref sig .tc := ⟨.hbm, 62, rfl⟩
abbrev main_call0_cst_9 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_cst_10 : Ref sig .tc := ⟨.hbm, 69, rfl⟩
abbrev main_call0_v32 : Ref sig .tc := ⟨.hbm, 70, rfl⟩
abbrev main_v22_2 : Ref sig .tc := ⟨.hbm, 71, rfl⟩
abbrev main_v23 : Ref sig .tc := ⟨.hbm, 72, rfl⟩
abbrev main_cst_0 : Ref sig .tc := ⟨.hbm, 73, rfl⟩
abbrev main_call1_v0 : Ref sig .tc := ⟨.hbm, 74, rfl⟩
abbrev main_v24_1 : Ref sig .tc := ⟨.hbm, 75, rfl⟩
abbrev main_call1_v2 : Ref sig .tc := ⟨.hbm, 76, rfl⟩
abbrev main_v24_0 : Ref sig .tc := ⟨.hbm, 77, rfl⟩
abbrev main_call1_cst : Ref sig .tc := ⟨.hbm, 78, rfl⟩
abbrev main_v24_2 : Ref sig .tc := ⟨.hbm, 79, rfl⟩
abbrev main_call2_cst : Ref sig .tc := ⟨.hbm, 80, rfl⟩
abbrev main_call2_v0 : Ref sig .tc := ⟨.hbm, 81, rfl⟩
abbrev main_v25 : Ref sig .tc := ⟨.hbm, 82, rfl⟩
abbrev main_v26 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v27_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v27_2 : Ref sig .tc := ⟨.hbm, 130, rfl⟩
abbrev main_v27_0 : Ref sig .tc := ⟨.hbm, 131, rfl⟩
abbrev main_v28 : Ref sig .tc := ⟨.hbm, 132, rfl⟩
abbrev main_v29 : Ref sig .tc := ⟨.hbm, 133, rfl⟩
abbrev main_cst_1 : Ref sig .tc := ⟨.hbm, 134, rfl⟩
abbrev main_call4_v0 : Ref sig .tc := ⟨.hbm, 135, rfl⟩
abbrev main_v30_1 : Ref sig .tc := ⟨.hbm, 136, rfl⟩
abbrev main_call4_v2 : Ref sig .tc := ⟨.hbm, 137, rfl⟩
abbrev main_v30_0 : Ref sig .tc := ⟨.hbm, 138, rfl⟩
abbrev main_call4_cst : Ref sig .tc := ⟨.hbm, 139, rfl⟩
abbrev main_v30_2 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_cst_2 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_cst_3 : Ref sig .tc := ⟨.hbm, 161, rfl⟩
abbrev main_call5_v0 : Ref sig .tc := ⟨.hbm, 162, rfl⟩
abbrev main_v50_1 : Ref sig .tc := ⟨.hbm, 163, rfl⟩
abbrev main_call5_v2 : Ref sig .tc := ⟨.hbm, 164, rfl⟩
abbrev main_v50_0 : Ref sig .tc := ⟨.hbm, 165, rfl⟩
abbrev main_call5_cst : Ref sig .tc := ⟨.hbm, 166, rfl⟩
abbrev main_v50_2 : Ref sig .tc := ⟨.hbm, 167, rfl⟩
abbrev main_cst_4 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_cst_5 : Ref sig .tc := ⟨.hbm, 174, rfl⟩
abbrev main_v56 : Ref sig .tc := ⟨.hbm, 175, rfl⟩
abbrev main_cst_6 : Ref sig .tc := ⟨.hbm, 176, rfl⟩
abbrev main_v57 : Ref sig .tc := ⟨.hbm, 177, rfl⟩
abbrev main_v58 : Ref sig .tc := ⟨.hbm, 178, rfl⟩
abbrev main_cst_7 : Ref sig .tc := ⟨.hbm, 179, rfl⟩
abbrev main_v59 : Ref sig .tc := ⟨.hbm, 180, rfl⟩
abbrev main_v60 : Ref sig .tc := ⟨.hbm, 181, rfl⟩
abbrev main_cst_8 : Ref sig .tc := ⟨.hbm, 182, rfl⟩
abbrev main_v61 : Ref sig .tc := ⟨.hbm, 183, rfl⟩
abbrev main_v62 : Ref sig .tc := ⟨.hbm, 184, rfl⟩
abbrev main_cst_9 : Ref sig .tc := ⟨.hbm, 185, rfl⟩
abbrev main_v63 : Ref sig .tc := ⟨.hbm, 186, rfl⟩
abbrev main_cst_10 : Ref sig .tc := ⟨.hbm, 187, rfl⟩
abbrev main_v64 : Ref sig .tc := ⟨.hbm, 188, rfl⟩
abbrev main_cst_11 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_cst_12 : Ref sig .tc := ⟨.hbm, 197, rfl⟩
abbrev main_v72 : Ref sig .tc := ⟨.hbm, 198, rfl⟩
abbrev main_v73 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_cst_13 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_v83 : Ref sig .tc := ⟨.hbm, 210, rfl⟩
abbrev main_v84 : Ref sig .tc := ⟨.hbm, 211, rfl⟩
abbrev main_v85 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_cst_14 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_cst_15 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_call6_cst : Ref sig .tc := ⟨.hbm, 231, rfl⟩
abbrev main_call6_v0 : Ref sig .tc := ⟨.hbm, 232, rfl⟩
abbrev main_v102 : Ref sig .tc := ⟨.hbm, 233, rfl⟩
abbrev main_v103 : Ref sig .tc := ⟨.hbm, 234, rfl⟩
abbrev main_cst_16 : Ref sig .tc := ⟨.hbm, 235, rfl⟩
abbrev main_v104 : Ref sig .tc := ⟨.hbm, 236, rfl⟩
abbrev main_v105 : Ref sig .tc := ⟨.hbm, 237, rfl⟩
abbrev main_cst_17 : Ref sig .tc := ⟨.hbm, 238, rfl⟩
abbrev main_v106 : Ref sig .tc := ⟨.hbm, 239, rfl⟩
abbrev main_cst_18 : Ref sig .tc := ⟨.hbm, 240, rfl⟩
abbrev main_v107 : Ref sig .tc := ⟨.hbm, 241, rfl⟩
abbrev main_v108 : Ref sig .tc := ⟨.hbm, 242, rfl⟩
abbrev main_cst_19 : Ref sig .tc := ⟨.hbm, 243, rfl⟩
abbrev main_v109 : Ref sig .tc := ⟨.hbm, 244, rfl⟩
abbrev main_cst_20 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_cst_21 : Ref sig .tc := ⟨.hbm, 250, rfl⟩
abbrev main_v114 : Ref sig .tc := ⟨.hbm, 251, rfl⟩
abbrev main_cst_22 : Ref sig .tc := ⟨.hbm, 252, rfl⟩
abbrev main_v115 : Ref sig .tc := ⟨.hbm, 253, rfl⟩
abbrev main_cst_23 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_call7_cst : Ref sig .tc := ⟨.hbm, 259, rfl⟩
abbrev main_call7_v0 : Ref sig .tc := ⟨.hbm, 260, rfl⟩
abbrev main_v120 : Ref sig .tc := ⟨.hbm, 261, rfl⟩
abbrev main_v121 : Ref sig .tc := ⟨.hbm, 262, rfl⟩
abbrev main_call8_v0 : Ref sig .tc := ⟨.hbm, 263, rfl⟩
abbrev main_call8_v1 : Ref sig .tc := ⟨.hbm, 264, rfl⟩
abbrev main_v122 : Ref sig .tc := ⟨.hbm, 265, rfl⟩
abbrev main_v123 : Ref sig .tc := ⟨.hbm, 266, rfl⟩
abbrev main_call9_cst : Ref sig .tc := ⟨.hbm, 267, rfl⟩
abbrev main_call9_v0 : Ref sig .tc := ⟨.hbm, 268, rfl⟩
abbrev main_v124 : Ref sig .tc := ⟨.hbm, 269, rfl⟩
abbrev main_v125 : Ref sig .tc := ⟨.hbm, 270, rfl⟩
abbrev main_call10_cst : Ref sig .tc := ⟨.hbm, 271, rfl⟩
abbrev main_call10_v0 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_v129 : Ref sig .tc := ⟨.hbm, 276, rfl⟩
abbrev main_cst_24 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_cst_25 : Ref sig .tc := ⟨.hbm, 282, rfl⟩
abbrev main_v134 : Ref sig .tc := ⟨.hbm, 283, rfl⟩
abbrev main_v135 : Ref sig .tc := ⟨.hbm, 284, rfl⟩
abbrev main_cst_26 : Ref sig .tc := ⟨.hbm, 285, rfl⟩
abbrev main_v136 : Ref sig .tc := ⟨.hbm, 286, rfl⟩
abbrev main_v137 : Ref sig .tc := ⟨.hbm, 287, rfl⟩
abbrev main_cst_27 : Ref sig .tc := ⟨.hbm, 288, rfl⟩
abbrev main_v138 : Ref sig .tc := ⟨.hbm, 289, rfl⟩
abbrev main_v139 : Ref sig .tc := ⟨.hbm, 290, rfl⟩
abbrev main_v140 : Ref sig .tc := ⟨.hbm, 291, rfl⟩
abbrev main_cst_28 : Ref sig .tc := ⟨.hbm, 292, rfl⟩
abbrev main_v141 : Ref sig .tc := ⟨.hbm, 293, rfl⟩
abbrev main_v142 : Ref sig .tc := ⟨.hbm, 294, rfl⟩
abbrev main_cst_29 : Ref sig .tc := ⟨.hbm, 295, rfl⟩
abbrev main_v143 : Ref sig .tc := ⟨.hbm, 296, rfl⟩
abbrev main_v144 : Ref sig .tc := ⟨.hbm, 297, rfl⟩
abbrev main_v145 : Ref sig .tc := ⟨.hbm, 298, rfl⟩
abbrev main_cst_30 : Ref sig .tc := ⟨.hbm, 299, rfl⟩
abbrev main_v146 : Ref sig .tc := ⟨.hbm, 300, rfl⟩
abbrev main_v147 : Ref sig .tc := ⟨.hbm, 301, rfl⟩
abbrev main_v148 : Ref sig .tc := ⟨.hbm, 302, rfl⟩
abbrev main_v149 : Ref sig .tc := ⟨.hbm, 303, rfl⟩
abbrev main_v150 : Ref sig .tc := ⟨.hbm, 304, rfl⟩
abbrev main_v151 : Ref sig .tc := ⟨.hbm, 305, rfl⟩
abbrev main_v152 : Ref sig .tc := ⟨.hbm, 306, rfl⟩
abbrev main_v153 : Ref sig .tc := ⟨.hbm, 307, rfl⟩
abbrev main_v154 : Ref sig .tc := ⟨.hbm, 308, rfl⟩
abbrev main_c : Ref sig .tc := ⟨.hbm, 309, rfl⟩
abbrev main_call12_v0 : Ref sig .tc := ⟨.hbm, 310, rfl⟩
abbrev main_v155 : Ref sig .tc := ⟨.hbm, 311, rfl⟩

abbrev nD : Nat := 1
abbrev τ : Topo := Topo.v7x

variable {F : FTy → Type} [FloatOps F]
-- ==== UpKernel.lean ====
abbrev S2048x2048 : Shape := ⟨2, ![2048, 2048]⟩
abbrev S2048x11264 : Shape := ⟨2, ![2048, 11264]⟩
abbrev S2048x5632 : Shape := ⟨2, ![2048, 5632]⟩
abbrev S512x2048 : Shape := ⟨2, ![512, 2048]⟩
abbrev S2048x2816 : Shape := ⟨2, ![2048, 2816]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .hbm, ⟨3, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .f32⟩
  | .local _ .vmem, ⟨5, _⟩ => ⟨S512x2816, .f32⟩
  | .local _ .vmem, ⟨6, _⟩ => ⟨S512x1408, .bf16⟩
  | .local _ .vmem, ⟨7, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S2048x2048 : Shape := ⟨2, ![2048, 2048]⟩
abbrev S2048x11264 : Shape := ⟨2, ![2048, 11264]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x4x2x1408, .bf16⟩
  | .hbm, ⟨3, _⟩ => ⟨S2048x4x1x1408, .bf16⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S2048x4x1x1408, .bf16⟩
  | .hbm, ⟨8, _⟩ => ⟨S2048x4x1408, .bf16⟩
  | .hbm, ⟨9, _⟩ => ⟨S2048x5632, .bf16⟩
  | .hbm, ⟨10, _⟩ => ⟨S2048x5632, .f32⟩
  | .hbm, ⟨11, _⟩ => ⟨S2048x2048, .f32⟩
  | .hbm, ⟨12, _⟩ => ⟨S2048x5632, .f32⟩
  | .hbm, ⟨13, _⟩ => ⟨S2048x5632, .f32⟩
  | .hbm, ⟨14, _⟩ => ⟨S2048x4x1408, .f32⟩
  | .hbm, ⟨15, _⟩ => ⟨S2048x4x1408, .f32⟩
  | .hbm, ⟨16, _⟩ => ⟨S2048x4x1x1408, .f32⟩
  | .hbm, ⟨17, _⟩ => ⟨S2048x4x1x1408, .f32⟩
  | .hbm, ⟨18, _⟩ => ⟨S2048x4x2x1408, .f32⟩
  | .hbm, ⟨19, _⟩ => ⟨S2048x11264, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S_, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== DwUpKernel.lean ====
abbrev S2048x2048 : Shape := ⟨2, ![2048, 2048]⟩
abbrev S2048x11264 : Shape := ⟨2, ![2048, 11264]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DnKernel.lean ====
abbrev S2048x11264 : Shape := ⟨2, ![2048, 11264]⟩
abbrev S2048x2048 : Shape := ⟨2, ![2048, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnReferenceIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDownKernel.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DownKernel.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DoKernel.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOutKernel.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwQkvKernel.lean ====
abbrev S2048x2048 : Shape := ⟨2, ![2048, 2048]⟩
abbrev S3x2048x2048 : Shape := ⟨3, ![3, 2048, 2048]⟩
abbrev S2048x6144 : Shape := ⟨2, ![2048, 6144]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S3x2048x2048, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvReferenceIdeal.lean ====
abbrev S2048x2048 : Shape := ⟨2, ![2048, 2048]⟩
abbrev S3x2048x2048 : Shape := ⟨3, ![3, 2048, 2048]⟩
abbrev S_ : Shape := ⟨0, ![]⟩
abbrev S2048x6144 : Shape := ⟨2, ![2048, 6144]⟩
abbrev S2048x3x2048 : Shape := ⟨3, ![2048, 3, 2048]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S3x2048x2048, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x3x2048, .f32⟩
  | .hbm, ⟨7, _⟩ => ⟨S3x2048x2048, .f32⟩
  | .hbm, ⟨8, _⟩ => ⟨S3x2048x2048, .f32⟩
  | .hbm, ⟨9, _⟩ => ⟨S2048x3x2048, .f32⟩
  | .hbm, ⟨10, _⟩ => ⟨S2048x6144, .f32⟩
  | .hbm, ⟨11, _⟩ => ⟨S6144x2048, .f32⟩
  | .hbm, ⟨12, _⟩ => ⟨S2048x6144, .f32⟩
  | .hbm, ⟨13, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DnQkvKernel.lean ====
abbrev S3x2048x2048 : Shape := ⟨3, ![3, 2048, 2048]⟩
abbrev S2048x6144 : Shape := ⟨2, ![2048, 6144]⟩
abbrev S2048x2048 : Shape := ⟨2, ![2048, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x2048, .bf16⟩
  | .hbm, ⟨1, _⟩ => ⟨S2048x6144, .bf16⟩
  | .hbm, ⟨2, _⟩ => ⟨S2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnQkvReferenceIdeal.lean ====
abbrev S3x2048x2048 : Shape := ⟨3, ![3, 2048, 2048]⟩
abbrev S2048x6144 : Shape := ⟨2, ![2048, 6144]⟩
abbrev S_ : Shape := ⟨0, ![]⟩
abbrev S2048x2048 : Shape := ⟨2, ![2048, 2048]⟩
abbrev S2048x3x2048 : Shape := ⟨3, ![2048, 3, 2048]⟩

abbrev nBuf : Space → Nat
  | .hbm => 12
  | .vmem => 0
  | .smem => 0
  | _ => 0

abbrev bufTy : (tb : Table) → Fin (tcTables nBuf tb) → BufTy
  | .hbm, ⟨0, _⟩ => ⟨S3x2048x2048, .bf16⟩
  | .hbm, ⟨1, _⟩ => ⟨S2048x6144, .bf16⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x3x2048, .f32⟩
  | .hbm, ⟨7, _⟩ => ⟨S3x2048x2048, .f32⟩
  | .hbm, ⟨8, _⟩ => ⟨S3x2048x2048, .f32⟩
  | .hbm, ⟨9, _⟩ => ⟨S2048x3x2048, .f32⟩
  | .hbm, ⟨10, _⟩ => ⟨S2048x6144, .f32⟩
  | .hbm, ⟨11, _⟩ => ⟨S2048x2048, .f32⟩
  | _, _ => ⟨S3x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QkvKernel.lean ====
abbrev S2048x2048 : Shape := ⟨2, ![2048, 2048]⟩
abbrev S2048x6144 : Shape := ⟨2, ![2048, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S2048x2048 : Shape := ⟨2, ![2048, 2048]⟩
abbrev S2048x6144 : Shape := ⟨2, ![2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutKernel.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormKernel.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== DNormKernel.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DNormReferenceIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .bf16⟩
  | .hbm, ⟨53, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== LossKernel.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S1x2048, .f32⟩
  | .hbm, ⟨74, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== DwfKernel.lean ====
abbrev S2048x2048 : Shape := ⟨2, ![2048, 2048]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwfReferenceIdeal.lean ====
abbrev S2048x2048 : Shape := ⟨2, ![2048, 2048]⟩
abbrev S2048x128 : Shape := ⟨2, ![2048, 128]⟩
abbrev S_ : Shape := ⟨0, ![]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DnGateKernel.lean ====
abbrev S2048x128 : Shape := ⟨2, ![2048, 128]⟩
abbrev S2048x2048 : Shape := ⟨2, ![2048, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S2048x2048, .f32⟩
  | .hbm, ⟨3, _⟩ => ⟨S2048x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnGateReferenceIdeal.lean ====
abbrev S2048x128 : Shape := ⟨2, ![2048, 128]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x2048, .f32⟩
  | .hbm, ⟨9, _⟩ => ⟨S2048x2048, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== HfKernel.lean ====
abbrev S2048x2048 : Shape := ⟨2, ![2048, 2048]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HfReferenceIdeal.lean ====
abbrev S2048x2048 : Shape := ⟨2, ![2048, 2048]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x2048, .f32⟩
  | .hbm, ⟨3, _⟩ => ⟨S2048x128, .f32⟩
  | .hbm, ⟨4, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ForgetKernel.lean ====
abbrev S2048x128 : Shape := ⟨2, ![2048, 128]⟩
abbrev S1x128 : Shape := ⟨2, ![1, 128]⟩
abbrev S128x2048 : Shape := ⟨2, ![128, 2048]⟩
abbrev S256x2048 : Shape := ⟨2, ![256, 2048]⟩
abbrev S256x128 : Shape := ⟨2, ![256, 128]⟩

abbrev nBuf : Space → Nat
  | .hbm => 4
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S1x128, .f32⟩
  | .hbm, ⟨2, _⟩ => ⟨S2048x128, .f32⟩
  | .hbm, ⟨3, _⟩ => ⟨S128x2048, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S128x2048, .f32⟩
  | .local _ .vmem, ⟨4, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v20 : BitVec 32 := Scalar.muli arg5 c256_i32
  v20
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v20 : BitVec 32 := Scalar.muli arg5 c256_i32
  let v21 : BitVec 32 := v20
  let v32 : Index := Scalar.indexCast v21
  let c0_16 : Index := 0#32
  ![v32.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ForgetReferenceIdeal.lean ====
abbrev S2048x128 : Shape := ⟨2, ![2048, 128]⟩
abbrev S1x128 : Shape := ⟨2, ![1, 128]⟩
abbrev S128 : Shape := ⟨1, ![128]⟩
abbrev S_ : Shape := ⟨0, ![]⟩
abbrev S128x2048 : Shape := ⟨2, ![128, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .i1⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S_, .f32⟩
  | .hbm, ⟨24, _⟩ => ⟨S2048x128, .f32⟩
  | .hbm, ⟨25, _⟩ => ⟨S128x2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_cst : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== DForgetKernel.lean ====
abbrev S128x2048 : Shape := ⟨2, ![128, 2048]⟩
abbrev S2048x128 : Shape := ⟨2, ![2048, 128]⟩
abbrev S1x128 : Shape := ⟨2, ![1, 128]⟩
abbrev S256x2048 : Shape := ⟨2, ![256, 2048]⟩
abbrev S256x128 : Shape := ⟨2, ![256, 128]⟩
abbrev S128 : Shape := ⟨1, ![128]⟩

abbrev nBuf : Space → Nat
  | .hbm => 6
  | .vmem => 8
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S2048x128, .f32⟩
  | .hbm, ⟨3, _⟩ => ⟨S1x128, .f32⟩
  | .hbm, ⟨4, _⟩ => ⟨S2048x128, .bf16⟩
  | .hbm, ⟨5, _⟩ => ⟨S1x128, .f32⟩
  | .local _ .vmem, ⟨0, _⟩ => ⟨S128x2048, .f32⟩
  | .local _ .vmem, ⟨1, _⟩ => ⟨S2048x128, .f32⟩
  | .local _ .vmem, ⟨2, _⟩ => ⟨S2048x128, .f32⟩
  | .local _ .vmem, ⟨3, _⟩ => ⟨S1x128, .f32⟩
  | .local _ .vmem, ⟨4, _⟩ => ⟨S2048x128, .bf16⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v22 : BitVec 32 := Scalar.muli arg8 c256_i32
  v22
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v22 : BitVec 32 := Scalar.muli arg8 c256_i32
  let v23 : BitVec 32 := v22
  let v34 : Index := Scalar.indexCast v23
  let c0_22 : Index := 0#32
  ![v34.toNat, 0]
abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DForgetReferenceIdeal.lean ====
abbrev S128x2048 : Shape := ⟨2, ![128, 2048]⟩
abbrev S2048x128 : Shape := ⟨2, ![2048, 128]⟩
abbrev S1x128 : Shape := ⟨2, ![1, 128]⟩
abbrev S128 : Shape := ⟨1, ![128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S2048x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .i1⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S2048x128, .f32⟩
  | .hbm, ⟨25, _⟩ => ⟨S2048x128, .i1⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S_, .f32⟩
  | .hbm, ⟨30, _⟩ => ⟨S2048x128, .f32⟩
  | .hbm, ⟨31, _⟩ => ⟨S2048x128, .i1⟩
  | .hbm, ⟨32, _⟩ => ⟨S_, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x128, .f32⟩
  | .hbm, ⟨45, _⟩ => ⟨S2048x128, .i1⟩
  | .hbm, ⟨46, _⟩ => ⟨S_, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S_, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S_, .f32⟩
  | .hbm, ⟨57, _⟩ => ⟨S_, .f32⟩
  | .hbm, ⟨58, _⟩ => ⟨S2048x128, .f32⟩
  | .hbm, ⟨59, _⟩ => ⟨S2048x128, .f32⟩
  | .hbm, ⟨60, _⟩ => ⟨S2048x128, .f32⟩
  | .hbm, ⟨61, _⟩ => ⟨S_, .f32⟩
  | .hbm, ⟨62, _⟩ => ⟨S_, .f32⟩
  | .hbm, ⟨63, _⟩ => ⟨S2048x128, .f32⟩
  | .hbm, ⟨64, _⟩ => ⟨S2048x128, .f32⟩
  | .hbm, ⟨65, _⟩ => ⟨S2048x128, .f32⟩
  | .hbm, ⟨66, _⟩ => ⟨S2048x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S128, .f32⟩
  | .hbm, ⟨72, _⟩ => ⟨S2048x128, .bf16⟩
  | .hbm, ⟨73, _⟩ => ⟨S1x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_cst : Ref sig .tc := ⟨.hbm, 56, rfl⟩
abbrev main_call1_v0 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_cst : Ref sig .tc := ⟨.hbm, 61, rfl⟩
abbrev main_call2_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩

abbrev nD : Nat := 1
abbrev τ : Topo := Topo.v7x

variable {F : FTy → Type} [FloatOps F]
-- ==== SumKernel.lean ====
abbrev S8x16x2048 : Shape := ⟨3, ![8, 16, 2048]⟩
abbrev S16x2048 : Shape := ⟨2, ![16, 2048]⟩
abbrev S1x16x2048 : Shape := ⟨3, ![1, 16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x16x2048, .f32⟩
  | .hbm, ⟨1, _⟩ => ⟨S16x2048, .f32⟩
  | .local _ .vmem, ⟨0, _⟩ => ⟨S8x16x2048, .f32⟩
  | .local _ .vmem, ⟨1, _⟩ => ⟨S16x2048, .f32⟩
  | _, _ => ⟨S8x16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S8x16x2048 : Shape := ⟨3, ![8, 16, 2048]⟩
abbrev S_ : Shape := ⟨0, ![]⟩
abbrev S16x2048 : Shape := ⟨2, ![16, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S_, .f32⟩
  | .hbm, ⟨2, _⟩ => ⟨S16x2048, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamKernel.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DDilKernel.lean ====
abbrev S2048x6144 : Shape := ⟨2, ![2048, 6144]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x16x16 : Shape := ⟨3, ![2048, 16, 16]⟩
abbrev S2048x16x96 : Shape := ⟨3, ![2048, 16, 96]⟩
abbrev S16x2048x128 : Shape := ⟨3, ![16, 2048, 128]⟩
abbrev S1x2048 : Shape := ⟨2, ![1, 2048]⟩
abbrev S16x2048x2048 : Shape := ⟨3, ![16, 2048, 2048]⟩
abbrev S16x2048 : Shape := ⟨2, ![16, 2048]⟩
abbrev S16x2048x1 : Shape := ⟨3, ![16, 2048, 1]⟩
abbrev S1x16x2048 : Shape := ⟨3, ![1, 16, 2048]⟩
abbrev S3x16x2048 : Shape := ⟨3, ![3, 16, 2048]⟩
abbrev S3x16x2048x1 : Shape := ⟨4, ![3, 16, 2048, 1]⟩
abbrev S1x16x2048x128 : Shape := ⟨4, ![1, 16, 2048, 128]⟩
abbrev S3x16x2048x128 : Shape := ⟨4, ![3, 16, 2048, 128]⟩
abbrev S2048x96 : Shape := ⟨2, ![2048, 96]⟩
abbrev S2048x128 : Shape := ⟨2, ![2048, 128]⟩
abbrev S2048x16x1 : Shape := ⟨3, ![2048, 16, 1]⟩
abbrev S512 : Shape := ⟨1, ![512]⟩
abbrev S512x1 : Shape := ⟨2, ![512, 1]⟩
abbrev S256 : Shape := ⟨1, ![256]⟩
abbrev S1x256 : Shape := ⟨2, ![1, 256]⟩
abbrev S512x256 : Shape := ⟨2, ![512, 256]⟩
abbrev S1x512x256 : Shape := ⟨3, ![1, 512, 256]⟩
abbrev S5x512x256 : Shape := ⟨3, ![5, 512, 256]⟩
abbrev S3x2048x2048 : Shape := ⟨3, ![3, 2048, 2048]⟩
abbrev S3x2048x128 : Shape := ⟨3, ![3, 2048, 128]⟩
abbrev S512x128 : Shape := ⟨2, ![512, 128]⟩
abbrev S256x128 : Shape := ⟨2, ![256, 128]⟩
abbrev S1x2048x128 : Shape := ⟨3, ![1, 2048, 128]⟩

abbrev nBuf : Space → Nat
  | .hbm => 771
  | .vmem => 24
  | .smem => 0
  | _ => 0

abbrev hbmTy0_0 (i : Nat) : BufTy := match i % 128 with
  | 0 => ⟨S2048x6144, .f32⟩
  | 1 => ⟨S2048x2048, .f32⟩
  | 2 => ⟨S2048x3x16x128, .f32⟩
  | 3 => ⟨S2048x1x16x128, .f32⟩
  | 4 => ⟨S2048x16x128, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S2048, .f32⟩
  | 14 => ⟨S2048x1, .f32⟩
  | 15 => ⟨S1x16, .f32⟩
  | 16 => ⟨S2048x16, .f32⟩
  | 17 => ⟨S2048x16, .f32⟩
  | 18 => ⟨S2048x16, .f32⟩
  | 19 => ⟨S2048x16, .f32⟩
  | 20 => ⟨S2048x1x16, .f32⟩
  | 21 => ⟨S2048x16, .f32⟩
  | 22 => ⟨S2048x1x16, .f32⟩
  | 23 => ⟨S2048x16x16, .f32⟩
  | 24 => ⟨S2048x16x16, .f32⟩
  | 25 => ⟨S2048x16x16, .f32⟩
  | 26 => ⟨S2048x16x16, .f32⟩
  | 27 => ⟨S2048x16x16, .f32⟩
  | 28 => ⟨S2048x16x16, .f32⟩
  | 29 => ⟨S2048x16x16, .f32⟩
  | 30 => ⟨S2048x16x16, .f32⟩
  | 31 => ⟨S2048x16x16, .f32⟩
  | 32 => ⟨S2048x16x16, .f32⟩
  | 33 => ⟨S2048x16x16, .f32⟩
  | 34 => ⟨S2048x16x16, .f32⟩
  | 35 => ⟨S2048x16x96, .f32⟩
  | 36 => ⟨S2048x16x128, .f32⟩
  | 37 => ⟨S16x2048x128, .f32⟩
  | 38 => ⟨S2048x1x16x128, .f32⟩
  | 39 => ⟨S2048x16x128, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S2048, .f32⟩
  | 49 => ⟨S2048x1, .f32⟩
  | 50 => ⟨S1x16, .f32⟩
  | 51 => ⟨S2048x16, .f32⟩
  | 52 => ⟨S2048x16, .f32⟩
  | 53 => ⟨S2048x16, .f32⟩
  | 54 => ⟨S2048x16, .f32⟩
  | 55 => ⟨S2048x1x16, .f32⟩
  | 56 => ⟨S2048x16, .f32⟩
  | 57 => ⟨S2048x1x16, .f32⟩
  | 58 => ⟨S2048x16x16, .f32⟩
  | 59 => ⟨S2048x16x16, .f32⟩
  | 60 => ⟨S2048x16x16, .f32⟩
  | 61 => ⟨S2048x16x16, .f32⟩
  | 62 => ⟨S2048x16x16, .f32⟩
  | 63 => ⟨S2048x16x16, .f32⟩
  | 64 => ⟨S2048x16x16, .f32⟩
  | 65 => ⟨S2048x16x16, .f32⟩
  | 66 => ⟨S2048x16x16, .f32⟩
  | 67 => ⟨S2048x16x16, .f32⟩
  | 68 => ⟨S2048x16x16, .f32⟩
  | 69 => ⟨S2048x16x16, .f32⟩
  | 70 => ⟨S2048x16x96, .f32⟩
  | 71 => ⟨S2048x16x128, .f32⟩
  | 72 => ⟨S16x2048x128, .f32⟩
  | 73 => ⟨S2048x1x16x128, .f32⟩
  | 74 => ⟨S2048x16x128, .f32⟩
  | 75 => ⟨S16x2048x128, .f32⟩
  | 76 => ⟨S2048, .i32⟩
  | 77 => ⟨S2048x1, .i32⟩
  | 78 => ⟨S2048, .i32⟩
  | 79 => ⟨S1x2048, .i32⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i1⟩
  | 86 => ⟨S_, .i32⟩
  | 87 => ⟨S2048x2048, .i32⟩
  | 88 => ⟨S2048x2048, .i1⟩
  | 89 => ⟨S2048x2048, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S2048x2048, .i32⟩
  | 97 => ⟨S2048x2048, .i32⟩
  | 98 => ⟨S_, .i32⟩
  | 99 => ⟨S2048x2048, .i32⟩
  | 100 => ⟨S2048x2048, .i1⟩
  | 101 => ⟨S_, .i32⟩
  | 102 => ⟨S2048x2048, .i32⟩
  | 103 => ⟨S2048x2048, .i1⟩
  | 104 => ⟨S_, .i32⟩
  | 105 => ⟨S_, .i1⟩
  | 106 => ⟨S2048x2048, .i1⟩
  | 107 => ⟨S2048x2048, .i1⟩
  | 108 => ⟨S2048x2048, .i1⟩
  | 109 => ⟨S2048x2048, .i32⟩
  | 110 => ⟨S2048x2048, .i32⟩
  | 111 => ⟨S2048x2048, .i32⟩
  | 112 => ⟨S_, .i32⟩
  | 113 => ⟨S2048x2048, .i32⟩
  | 114 => ⟨S2048x2048, .i1⟩
  | 115 => ⟨S2048x2048, .i1⟩
  | 116 => ⟨S16x2048x2048, .f32⟩
  | 117 => ⟨S_, .f32⟩
  | 118 => ⟨S16x2048x2048, .f32⟩
  | 119 => ⟨S16x2048x2048, .f32⟩
  | 120 => ⟨S_, .f32⟩
  | 121 => ⟨S_, .f32⟩
  | 122 => ⟨S16x2048x2048, .i1⟩
  | 123 => ⟨S16x2048x2048, .f32⟩
  | 124 => ⟨S16x2048x2048, .f32⟩
  | 125 => ⟨S_, .f32⟩
  | 126 => ⟨S16x2048, .f32⟩
  | 127 => ⟨S16x2048x1, .f32⟩
  | _ => ⟨S2048x6144, .f32⟩

abbrev hbmTy0_1 (i : Nat) : BufTy := match i % 128 with
  | 0 => ⟨S16x2048x2048, .f32⟩
  | 1 => ⟨S16x2048x2048, .f32⟩
  | 2 => ⟨S16x2048x2048, .f32⟩
  | 3 => ⟨S_, .f32⟩
  | 4 => ⟨S16x2048, .f32⟩
  | 5 => ⟨S16x2048x1, .f32⟩
  | 6 => ⟨S16x2048x2048, .f32⟩
  | 7 => ⟨S16x2048x2048, .f32⟩
  | 8 => ⟨S16x2048x128, .f32⟩
  | 9 => ⟨S16x2048x1, .f32⟩
  | 10 => ⟨S16x2048x1, .f32⟩
  | 11 => ⟨S16x2048, .f32⟩
  | 12 => ⟨S2048, .i32⟩
  | 13 => ⟨S2048x1, .i32⟩
  | 14 => ⟨S2048, .i32⟩
  | 15 => ⟨S1x2048, .i32⟩
  | 16 => ⟨S2048x2048, .i32⟩
  | 17 => ⟨S2048x2048, .i32⟩
  | 18 => ⟨S2048x2048, .i32⟩
  | 19 => ⟨S_, .i32⟩
  | 20 => ⟨S2048x2048, .i32⟩
  | 21 => ⟨S2048x2048, .i1⟩
  | 22 => ⟨S_, .i32⟩
  | 23 => ⟨S2048x2048, .i32⟩
  | 24 => ⟨S2048x2048, .i1⟩
  | 25 => ⟨S2048x2048, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2048x2048, .i32⟩
  | 33 => ⟨S2048x2048, .i32⟩
  | 34 => ⟨S_, .i32⟩
  | 35 => ⟨S2048x2048, .i32⟩
  | 36 => ⟨S2048x2048, .i1⟩
  | 37 => ⟨S_, .i32⟩
  | 38 => ⟨S2048x2048, .i32⟩
  | 39 => ⟨S2048x2048, .i1⟩
  | 40 => ⟨S_, .i32⟩
  | 41 => ⟨S_, .i1⟩
  | 42 => ⟨S2048x2048, .i1⟩
  | 43 => ⟨S2048x2048, .i1⟩
  | 44 => ⟨S2048x2048, .i1⟩
  | 45 => ⟨S2048x2048, .i32⟩
  | 46 => ⟨S2048x2048, .i32⟩
  | 47 => ⟨S2048x2048, .i32⟩
  | 48 => ⟨S_, .i32⟩
  | 49 => ⟨S2048x2048, .i32⟩
  | 50 => ⟨S2048x2048, .i1⟩
  | 51 => ⟨S2048x2048, .i1⟩
  | 52 => ⟨S16x2048x2048, .f32⟩
  | 53 => ⟨S_, .f32⟩
  | 54 => ⟨S16x2048x2048, .f32⟩
  | 55 => ⟨S16x2048x2048, .f32⟩
  | 56 => ⟨S_, .f32⟩
  | 57 => ⟨S_, .f32⟩
  | 58 => ⟨S16x2048x2048, .i1⟩
  | 59 => ⟨S16x2048x2048, .f32⟩
  | 60 => ⟨S16x2048x2048, .f32⟩
  | 61 => ⟨S_, .f32⟩
  | 62 => ⟨S16x2048, .f32⟩
  | 63 => ⟨S16x2048x1, .f32⟩
  | 64 => ⟨S16x2048x2048, .f32⟩
  | 65 => ⟨S16x2048x2048, .f32⟩
  | 66 => ⟨S16x2048x2048, .f32⟩
  | 67 => ⟨S_, .f32⟩
  | 68 => ⟨S16x2048, .f32⟩
  | 69 => ⟨S16x2048x1, .f32⟩
  | 70 => ⟨S16x2048x2048, .f32⟩
  | 71 => ⟨S16x2048x2048, .f32⟩
  | 72 => ⟨S16x2048x128, .f32⟩
  | 73 => ⟨S16x2048x1, .f32⟩
  | 74 => ⟨S16x2048x1, .f32⟩
  | 75 => ⟨S16x2048, .f32⟩
  | 76 => ⟨S2048, .i32⟩
  | 77 => ⟨S2048x1, .i32⟩
  | 78 => ⟨S2048, .i32⟩
  | 79 => ⟨S1x2048, .i32⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i1⟩
  | 86 => ⟨S_, .i32⟩
  | 87 => ⟨S2048x2048, .i32⟩
  | 88 => ⟨S2048x2048, .i1⟩
  | 89 => ⟨S2048x2048, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S2048x2048, .i32⟩
  | 97 => ⟨S2048x2048, .i32⟩
  | 98 => ⟨S_, .i32⟩
  | 99 => ⟨S2048x2048, .i32⟩
  | 100 => ⟨S2048x2048, .i1⟩
  | 101 => ⟨S_, .i32⟩
  | 102 => ⟨S2048x2048, .i32⟩
  | 103 => ⟨S2048x2048, .i1⟩
  | 104 => ⟨S_, .i32⟩
  | 105 => ⟨S_, .i1⟩
  | 106 => ⟨S2048x2048, .i1⟩
  | 107 => ⟨S2048x2048, .i1⟩
  | 108 => ⟨S2048x2048, .i1⟩
  | 109 => ⟨S2048x2048, .i32⟩
  | 110 => ⟨S2048x2048, .i32⟩
  | 111 => ⟨S2048x2048, .i32⟩
  | 112 => ⟨S_, .i32⟩
  | 113 => ⟨S2048x2048, .i32⟩
  | 114 => ⟨S2048x2048, .i1⟩
  | 115 => ⟨S2048x2048, .i1⟩
  | 116 => ⟨S16x2048x2048, .f32⟩
  | 117 => ⟨S_, .f32⟩
  | 118 => ⟨S16x2048x2048, .f32⟩
  | 119 => ⟨S16x2048x2048, .f32⟩
  | 120 => ⟨S_, .f32⟩
  | 121 => ⟨S_, .f32⟩
  | 122 => ⟨S16x2048x2048, .i1⟩
  | 123 => ⟨S16x2048x2048, .f32⟩
  | 124 => ⟨S16x2048x2048, .f32⟩
  | 125 => ⟨S_, .f32⟩
  | 126 => ⟨S16x2048, .f32⟩
  | 127 => ⟨S16x2048x1, .f32⟩
  | _ => ⟨S2048x6144, .f32⟩

abbrev hbmTy0_2 (i : Nat) : BufTy := match i % 128 with
  | 0 => ⟨S16x2048x2048, .f32⟩
  | 1 => ⟨S16x2048x2048, .f32⟩
  | 2 => ⟨S16x2048x2048, .f32⟩
  | 3 => ⟨S_, .f32⟩
  | 4 => ⟨S16x2048, .f32⟩
  | 5 => ⟨S16x2048x1, .f32⟩
  | 6 => ⟨S16x2048x2048, .f32⟩
  | 7 => ⟨S16x2048x2048, .f32⟩
  | 8 => ⟨S16x2048x128, .f32⟩
  | 9 => ⟨S16x2048x1, .f32⟩
  | 10 => ⟨S16x2048x1, .f32⟩
  | 11 => ⟨S16x2048, .f32⟩
  | 12 => ⟨S1x16x2048, .f32⟩
  | 13 => ⟨S1x16x2048, .f32⟩
  | 14 => ⟨S1x16x2048, .f32⟩
  | 15 => ⟨S3x16x2048, .f32⟩
  | 16 => ⟨S_, .f32⟩
  | 17 => ⟨S16x2048, .f32⟩
  | 18 => ⟨S_, .f32⟩
  | 19 => ⟨S16x2048, .f32⟩
  | 20 => ⟨S16x2048, .f32⟩
  | 21 => ⟨S1x16x2048, .f32⟩
  | 22 => ⟨S3x16x2048, .f32⟩
  | 23 => ⟨S3x16x2048, .f32⟩
  | 24 => ⟨S3x16x2048, .f32⟩
  | 25 => ⟨S_, .f32⟩
  | 26 => ⟨S16x2048, .f32⟩
  | 27 => ⟨S1x16x2048, .f32⟩
  | 28 => ⟨S3x16x2048, .f32⟩
  | 29 => ⟨S3x16x2048, .f32⟩
  | 30 => ⟨S3x16x2048x1, .f32⟩
  | 31 => ⟨S1x16x2048x128, .f32⟩
  | 32 => ⟨S1x16x2048x128, .f32⟩
  | 33 => ⟨S1x16x2048x128, .f32⟩
  | 34 => ⟨S3x16x2048x128, .f32⟩
  | 35 => ⟨S3x16x2048x128, .f32⟩
  | 36 => ⟨S3x16x2048x128, .f32⟩
  | 37 => ⟨S_, .f32⟩
  | 38 => ⟨S16x2048x128, .f32⟩
  | 39 => ⟨S_, .f32⟩
  | 40 => ⟨S16x2048, .f32⟩
  | 41 => ⟨S1x16x2048, .f32⟩
  | 42 => ⟨S3x16x2048, .f32⟩
  | 43 => ⟨S3x16x2048, .f32⟩
  | 44 => ⟨S3x16x2048, .f32⟩
  | 45 => ⟨S_, .f32⟩
  | 46 => ⟨S16x2048, .f32⟩
  | 47 => ⟨S16x2048, .f32⟩
  | 48 => ⟨S16x2048, .f32⟩
  | 49 => ⟨S2048x16x128, .f32⟩
  | 50 => ⟨S2048x2048, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S2048, .f32⟩
  | 60 => ⟨S2048x1, .f32⟩
  | 61 => ⟨S1x16, .f32⟩
  | 62 => ⟨S2048x16, .f32⟩
  | 63 => ⟨S2048x16, .f32⟩
  | 64 => ⟨S2048x16, .f32⟩
  | 65 => ⟨S2048x16, .f32⟩
  | 66 => ⟨S2048x16, .f32⟩
  | 67 => ⟨S_, .f32⟩
  | 68 => ⟨S2048x96, .f32⟩
  | 69 => ⟨S2048x128, .f32⟩
  | 70 => ⟨S2048x16, .f32⟩
  | 71 => ⟨S_, .f32⟩
  | 72 => ⟨S2048x96, .f32⟩
  | 73 => ⟨S2048x128, .f32⟩
  | 74 => ⟨S2048x16, .f32⟩
  | 75 => ⟨S2048x16x1, .f32⟩
  | 76 => ⟨S2048x16x128, .f32⟩
  | 77 => ⟨S2048x2048, .f32⟩
  | 78 => ⟨S512, .i32⟩
  | 79 => ⟨S512x1, .i32⟩
  | 80 => ⟨S256, .i32⟩
  | 81 => ⟨S1x256, .i32⟩
  | 82 => ⟨S_, .i32⟩
  | 83 => ⟨S512x1, .i32⟩
  | 84 => ⟨S512x1, .i32⟩
  | 85 => ⟨S512x256, .i32⟩
  | 86 => ⟨S512x256, .i32⟩
  | 87 => ⟨S512x256, .i32⟩
  | 88 => ⟨S_, .f32⟩
  | 89 => ⟨S512x256, .f32⟩
  | 90 => ⟨S_, .i32⟩
  | 91 => ⟨S512x256, .i32⟩
  | 92 => ⟨S512x256, .i1⟩
  | 93 => ⟨S_, .i32⟩
  | 94 => ⟨S512x256, .i32⟩
  | 95 => ⟨S512x256, .i1⟩
  | 96 => ⟨S512x256, .i1⟩
  | 97 => ⟨S_, .i32⟩
  | 98 => ⟨S512x256, .i32⟩
  | 99 => ⟨S512x256, .i32⟩
  | 100 => ⟨S_, .i32⟩
  | 101 => ⟨S512x256, .i32⟩
  | 102 => ⟨S512x256, .i1⟩
  | 103 => ⟨S512x256, .i1⟩
  | 104 => ⟨S_, .f32⟩
  | 105 => ⟨S_, .f32⟩
  | 106 => ⟨S512x256, .f32⟩
  | 107 => ⟨S512x256, .f32⟩
  | 108 => ⟨S512x256, .f32⟩
  | 109 => ⟨S512x256, .f32⟩
  | 110 => ⟨S512x256, .f32⟩
  | 111 => ⟨S_, .i32⟩
  | 112 => ⟨S512x256, .i32⟩
  | 113 => ⟨S512x256, .i1⟩
  | 114 => ⟨S_, .i32⟩
  | 115 => ⟨S512x256, .i32⟩
  | 116 => ⟨S512x256, .i1⟩
  | 117 => ⟨S512x256, .i1⟩
  | 118 => ⟨S_, .i32⟩
  | 119 => ⟨S512x256, .i32⟩
  | 120 => ⟨S512x256, .i32⟩
  | 121 => ⟨S_, .i32⟩
  | 122 => ⟨S512x256, .i32⟩
  | 123 => ⟨S512x256, .i1⟩
  | 124 => ⟨S512x256, .i1⟩
  | 125 => ⟨S_, .f32⟩
  | 126 => ⟨S_, .f32⟩
  | 127 => ⟨S512x256, .f32⟩
  | _ => ⟨S2048x6144, .f32⟩

abbrev hbmTy0_3 (i : Nat) : BufTy := match i % 128 with
  | 0 => ⟨S512x256, .f32⟩
  | 1 => ⟨S512x256, .f32⟩
  | 2 => ⟨S512x256, .f32⟩
  | 3 => ⟨S512x256, .f32⟩
  | 4 => ⟨S_, .i32⟩
  | 5 => ⟨S512x256, .i32⟩
  | 6 => ⟨S512x256, .i1⟩
  | 7 => ⟨S_, .i32⟩
  | 8 => ⟨S512x256, .i32⟩
  | 9 => ⟨S512x256, .i1⟩
  | 10 => ⟨S512x256, .i1⟩
  | 11 => ⟨S_, .i32⟩
  | 12 => ⟨S512x256, .i32⟩
  | 13 => ⟨S512x256, .i32⟩
  | 14 => ⟨S_, .i32⟩
  | 15 => ⟨S512x256, .i32⟩
  | 16 => ⟨S512x256, .i1⟩
  | 17 => ⟨S512x256, .i1⟩
  | 18 => ⟨S_, .f32⟩
  | 19 => ⟨S_, .f32⟩
  | 20 => ⟨S512x256, .f32⟩
  | 21 => ⟨S512x256, .f32⟩
  | 22 => ⟨S512x256, .f32⟩
  | 23 => ⟨S512x256, .f32⟩
  | 24 => ⟨S512x256, .f32⟩
  | 25 => ⟨S_, .f32⟩
  | 26 => ⟨S512x256, .f32⟩
  | 27 => ⟨S512x256, .i1⟩
  | 28 => ⟨S_, .f32⟩
  | 29 => ⟨S512x256, .f32⟩
  | 30 => ⟨S512x256, .f32⟩
  | 31 => ⟨S512x256, .f32⟩
  | 32 => ⟨S_, .f32⟩
  | 33 => ⟨S_, .f32⟩
  | 34 => ⟨S512x256, .f32⟩
  | 35 => ⟨S512x256, .f32⟩
  | 36 => ⟨S512, .i32⟩
  | 37 => ⟨S512x1, .i32⟩
  | 38 => ⟨S256, .i32⟩
  | 39 => ⟨S1x256, .i32⟩
  | 40 => ⟨S_, .i32⟩
  | 41 => ⟨S512x1, .i32⟩
  | 42 => ⟨S512x1, .i32⟩
  | 43 => ⟨S512x256, .i32⟩
  | 44 => ⟨S512x256, .i32⟩
  | 45 => ⟨S512x256, .i32⟩
  | 46 => ⟨S_, .f32⟩
  | 47 => ⟨S512x256, .f32⟩
  | 48 => ⟨S_, .i32⟩
  | 49 => ⟨S512x256, .i32⟩
  | 50 => ⟨S512x256, .i1⟩
  | 51 => ⟨S_, .i32⟩
  | 52 => ⟨S512x256, .i32⟩
  | 53 => ⟨S512x256, .i1⟩
  | 54 => ⟨S512x256, .i1⟩
  | 55 => ⟨S_, .i32⟩
  | 56 => ⟨S512x256, .i32⟩
  | 57 => ⟨S512x256, .i32⟩
  | 58 => ⟨S_, .i32⟩
  | 59 => ⟨S512x256, .i32⟩
  | 60 => ⟨S512x256, .i1⟩
  | 61 => ⟨S512x256, .i1⟩
  | 62 => ⟨S_, .f32⟩
  | 63 => ⟨S_, .f32⟩
  | 64 => ⟨S512x256, .f32⟩
  | 65 => ⟨S512x256, .f32⟩
  | 66 => ⟨S512x256, .f32⟩
  | 67 => ⟨S512x256, .f32⟩
  | 68 => ⟨S512x256, .f32⟩
  | 69 => ⟨S_, .i32⟩
  | 70 => ⟨S512x256, .i32⟩
  | 71 => ⟨S512x256, .i1⟩
  | 72 => ⟨S_, .i32⟩
  | 73 => ⟨S512x256, .i32⟩
  | 74 => ⟨S512x256, .i1⟩
  | 75 => ⟨S512x256, .i1⟩
  | 76 => ⟨S_, .i32⟩
  | 77 => ⟨S512x256, .i32⟩
  | 78 => ⟨S512x256, .i32⟩
  | 79 => ⟨S_, .i32⟩
  | 80 => ⟨S512x256, .i32⟩
  | 81 => ⟨S512x256, .i1⟩
  | 82 => ⟨S512x256, .i1⟩
  | 83 => ⟨S_, .f32⟩
  | 84 => ⟨S_, .f32⟩
  | 85 => ⟨S512x256, .f32⟩
  | 86 => ⟨S512x256, .f32⟩
  | 87 => ⟨S512x256, .f32⟩
  | 88 => ⟨S512x256, .f32⟩
  | 89 => ⟨S512x256, .f32⟩
  | 90 => ⟨S_, .i32⟩
  | 91 => ⟨S512x256, .i32⟩
  | 92 => ⟨S512x256, .i1⟩
  | 93 => ⟨S_, .i32⟩
  | 94 => ⟨S512x256, .i32⟩
  | 95 => ⟨S512x256, .i1⟩
  | 96 => ⟨S512x256, .i1⟩
  | 97 => ⟨S_, .i32⟩
  | 98 => ⟨S512x256, .i32⟩
  | 99 => ⟨S512x256, .i32⟩
  | 100 => ⟨S_, .i32⟩
  | 101 => ⟨S512x256, .i32⟩
  | 102 => ⟨S512x256, .i1⟩
  | 103 => ⟨S512x256, .i1⟩
  | 104 => ⟨S_, .f32⟩
  | 105 => ⟨S_, .f32⟩
  | 106 => ⟨S512x256, .f32⟩
  | 107 => ⟨S512x256, .f32⟩
  | 108 => ⟨S512x256, .f32⟩
  | 109 => ⟨S512x256, .f32⟩
  | 110 => ⟨S512x256, .f32⟩
  | 111 => ⟨S_, .f32⟩
  | 112 => ⟨S512x256, .f32⟩
  | 113 => ⟨S512x256, .i1⟩
  | 114 => ⟨S_, .f32⟩
  | 115 => ⟨S512x256, .f32⟩
  | 116 => ⟨S512x256, .f32⟩
  | 117 => ⟨S512x256, .f32⟩
  | 118 => ⟨S_, .f32⟩
  | 119 => ⟨S_, .f32⟩
  | 120 => ⟨S512x256, .f32⟩
  | 121 => ⟨S512x256, .f32⟩
  | 122 => ⟨S512, .i32⟩
  | 123 => ⟨S512x1, .i32⟩
  | 124 => ⟨S256, .i32⟩
  | 125 => ⟨S1x256, .i32⟩
  | 126 => ⟨S_, .i32⟩
  | 127 => ⟨S512x1, .i32⟩
  | _ => ⟨S2048x6144, .f32⟩

abbrev hbmTy0_4 (i : Nat) : BufTy := match i % 128 with
  | 0 => ⟨S512x1, .i32⟩
  | 1 => ⟨S512x256, .i32⟩
  | 2 => ⟨S512x256, .i32⟩
  | 3 => ⟨S512x256, .i32⟩
  | 4 => ⟨S_, .f32⟩
  | 5 => ⟨S512x256, .f32⟩
  | 6 => ⟨S_, .i32⟩
  | 7 => ⟨S512x256, .i32⟩
  | 8 => ⟨S512x256, .i1⟩
  | 9 => ⟨S_, .i32⟩
  | 10 => ⟨S512x256, .i32⟩
  | 11 => ⟨S512x256, .i1⟩
  | 12 => ⟨S512x256, .i1⟩
  | 13 => ⟨S_, .i32⟩
  | 14 => ⟨S512x256, .i32⟩
  | 15 => ⟨S512x256, .i32⟩
  | 16 => ⟨S_, .i32⟩
  | 17 => ⟨S512x256, .i32⟩
  | 18 => ⟨S512x256, .i1⟩
  | 19 => ⟨S512x256, .i1⟩
  | 20 => ⟨S_, .f32⟩
  | 21 => ⟨S_, .f32⟩
  | 22 => ⟨S512x256, .f32⟩
  | 23 => ⟨S512x256, .f32⟩
  | 24 => ⟨S512x256, .f32⟩
  | 25 => ⟨S512x256, .f32⟩
  | 26 => ⟨S512x256, .f32⟩
  | 27 => ⟨S_, .i32⟩
  | 28 => ⟨S512x256, .i32⟩
  | 29 => ⟨S512x256, .i1⟩
  | 30 => ⟨S_, .i32⟩
  | 31 => ⟨S512x256, .i32⟩
  | 32 => ⟨S512x256, .i1⟩
  | 33 => ⟨S512x256, .i1⟩
  | 34 => ⟨S_, .i32⟩
  | 35 => ⟨S512x256, .i32⟩
  | 36 => ⟨S512x256, .i32⟩
  | 37 => ⟨S_, .i32⟩
  | 38 => ⟨S512x256, .i32⟩
  | 39 => ⟨S512x256, .i1⟩
  | 40 => ⟨S512x256, .i1⟩
  | 41 => ⟨S_, .f32⟩
  | 42 => ⟨S_, .f32⟩
  | 43 => ⟨S512x256, .f32⟩
  | 44 => ⟨S512x256, .f32⟩
  | 45 => ⟨S512x256, .f32⟩
  | 46 => ⟨S512x256, .f32⟩
  | 47 => ⟨S512x256, .f32⟩
  | 48 => ⟨S_, .i32⟩
  | 49 => ⟨S512x256, .i32⟩
  | 50 => ⟨S512x256, .i1⟩
  | 51 => ⟨S_, .i32⟩
  | 52 => ⟨S512x256, .i32⟩
  | 53 => ⟨S512x256, .i1⟩
  | 54 => ⟨S512x256, .i1⟩
  | 55 => ⟨S_, .i32⟩
  | 56 => ⟨S512x256, .i32⟩
  | 57 => ⟨S512x256, .i32⟩
  | 58 => ⟨S_, .i32⟩
  | 59 => ⟨S512x256, .i32⟩
  | 60 => ⟨S512x256, .i1⟩
  | 61 => ⟨S512x256, .i1⟩
  | 62 => ⟨S_, .f32⟩
  | 63 => ⟨S_, .f32⟩
  | 64 => ⟨S512x256, .f32⟩
  | 65 => ⟨S512x256, .f32⟩
  | 66 => ⟨S512x256, .f32⟩
  | 67 => ⟨S512x256, .f32⟩
  | 68 => ⟨S512x256, .f32⟩
  | 69 => ⟨S_, .f32⟩
  | 70 => ⟨S512x256, .f32⟩
  | 71 => ⟨S512x256, .i1⟩
  | 72 => ⟨S_, .f32⟩
  | 73 => ⟨S512x256, .f32⟩
  | 74 => ⟨S512x256, .f32⟩
  | 75 => ⟨S512x256, .f32⟩
  | 76 => ⟨S_, .f32⟩
  | 77 => ⟨S_, .f32⟩
  | 78 => ⟨S512x256, .f32⟩
  | 79 => ⟨S512x256, .f32⟩
  | 80 => ⟨S512, .i32⟩
  | 81 => ⟨S512x1, .i32⟩
  | 82 => ⟨S256, .i32⟩
  | 83 => ⟨S1x256, .i32⟩
  | 84 => ⟨S_, .i32⟩
  | 85 => ⟨S512x1, .i32⟩
  | 86 => ⟨S512x1, .i32⟩
  | 87 => ⟨S512x256, .i32⟩
  | 88 => ⟨S512x256, .i32⟩
  | 89 => ⟨S512x256, .i32⟩
  | 90 => ⟨S_, .f32⟩
  | 91 => ⟨S512x256, .f32⟩
  | 92 => ⟨S_, .i32⟩
  | 93 => ⟨S512x256, .i32⟩
  | 94 => ⟨S512x256, .i1⟩
  | 95 => ⟨S_, .i32⟩
  | 96 => ⟨S512x256, .i32⟩
  | 97 => ⟨S512x256, .i1⟩
  | 98 => ⟨S512x256, .i1⟩
  | 99 => ⟨S_, .i32⟩
  | 100 => ⟨S512x256, .i32⟩
  | 101 => ⟨S512x256, .i32⟩
  | 102 => ⟨S_, .i32⟩
  | 103 => ⟨S512x256, .i32⟩
  | 104 => ⟨S512x256, .i1⟩
  | 105 => ⟨S512x256, .i1⟩
  | 106 => ⟨S_, .f32⟩
  | 107 => ⟨S_, .f32⟩
  | 108 => ⟨S512x256, .f32⟩
  | 109 => ⟨S512x256, .f32⟩
  | 110 => ⟨S512x256, .f32⟩
  | 111 => ⟨S512x256, .f32⟩
  | 112 => ⟨S512x256, .f32⟩
  | 113 => ⟨S_, .i32⟩
  | 114 => ⟨S512x256, .i32⟩
  | 115 => ⟨S512x256, .i1⟩
  | 116 => ⟨S_, .i32⟩
  | 117 => ⟨S512x256, .i32⟩
  | 118 => ⟨S512x256, .i1⟩
  | 119 => ⟨S512x256, .i1⟩
  | 120 => ⟨S_, .i32⟩
  | 121 => ⟨S512x256, .i32⟩
  | 122 => ⟨S512x256, .i32⟩
  | 123 => ⟨S_, .i32⟩
  | 124 => ⟨S512x256, .i32⟩
  | 125 => ⟨S512x256, .i1⟩
  | 126 => ⟨S512x256, .i1⟩
  | 127 => ⟨S_, .f32⟩
  | _ => ⟨S2048x6144, .f32⟩

abbrev hbmTy0_5 (i : Nat) : BufTy := match i % 128 with
  | 0 => ⟨S_, .f32⟩
  | 1 => ⟨S512x256, .f32⟩
  | 2 => ⟨S512x256, .f32⟩
  | 3 => ⟨S512x256, .f32⟩
  | 4 => ⟨S512x256, .f32⟩
  | 5 => ⟨S512x256, .f32⟩
  | 6 => ⟨S_, .i32⟩
  | 7 => ⟨S512x256, .i32⟩
  | 8 => ⟨S512x256, .i1⟩
  | 9 => ⟨S_, .i32⟩
  | 10 => ⟨S512x256, .i32⟩
  | 11 => ⟨S512x256, .i1⟩
  | 12 => ⟨S512x256, .i1⟩
  | 13 => ⟨S_, .i32⟩
  | 14 => ⟨S512x256, .i32⟩
  | 15 => ⟨S512x256, .i32⟩
  | 16 => ⟨S_, .i32⟩
  | 17 => ⟨S512x256, .i32⟩
  | 18 => ⟨S512x256, .i1⟩
  | 19 => ⟨S512x256, .i1⟩
  | 20 => ⟨S_, .f32⟩
  | 21 => ⟨S_, .f32⟩
  | 22 => ⟨S512x256, .f32⟩
  | 23 => ⟨S512x256, .f32⟩
  | 24 => ⟨S512x256, .f32⟩
  | 25 => ⟨S512x256, .f32⟩
  | 26 => ⟨S512x256, .f32⟩
  | 27 => ⟨S_, .f32⟩
  | 28 => ⟨S512x256, .f32⟩
  | 29 => ⟨S512x256, .i1⟩
  | 30 => ⟨S_, .f32⟩
  | 31 => ⟨S512x256, .f32⟩
  | 32 => ⟨S512x256, .f32⟩
  | 33 => ⟨S512x256, .f32⟩
  | 34 => ⟨S_, .f32⟩
  | 35 => ⟨S_, .f32⟩
  | 36 => ⟨S512x256, .f32⟩
  | 37 => ⟨S512x256, .f32⟩
  | 38 => ⟨S512, .i32⟩
  | 39 => ⟨S512x1, .i32⟩
  | 40 => ⟨S256, .i32⟩
  | 41 => ⟨S1x256, .i32⟩
  | 42 => ⟨S_, .i32⟩
  | 43 => ⟨S512x1, .i32⟩
  | 44 => ⟨S512x1, .i32⟩
  | 45 => ⟨S512x256, .i32⟩
  | 46 => ⟨S512x256, .i32⟩
  | 47 => ⟨S512x256, .i32⟩
  | 48 => ⟨S_, .f32⟩
  | 49 => ⟨S512x256, .f32⟩
  | 50 => ⟨S_, .i32⟩
  | 51 => ⟨S512x256, .i32⟩
  | 52 => ⟨S512x256, .i1⟩
  | 53 => ⟨S_, .i32⟩
  | 54 => ⟨S512x256, .i32⟩
  | 55 => ⟨S512x256, .i1⟩
  | 56 => ⟨S512x256, .i1⟩
  | 57 => ⟨S_, .i32⟩
  | 58 => ⟨S512x256, .i32⟩
  | 59 => ⟨S512x256, .i32⟩
  | 60 => ⟨S_, .i32⟩
  | 61 => ⟨S512x256, .i32⟩
  | 62 => ⟨S512x256, .i1⟩
  | 63 => ⟨S512x256, .i1⟩
  | 64 => ⟨S_, .f32⟩
  | 65 => ⟨S_, .f32⟩
  | 66 => ⟨S512x256, .f32⟩
  | 67 => ⟨S512x256, .f32⟩
  | 68 => ⟨S512x256, .f32⟩
  | 69 => ⟨S512x256, .f32⟩
  | 70 => ⟨S512x256, .f32⟩
  | 71 => ⟨S_, .i32⟩
  | 72 => ⟨S512x256, .i32⟩
  | 73 => ⟨S512x256, .i1⟩
  | 74 => ⟨S_, .i32⟩
  | 75 => ⟨S512x256, .i32⟩
  | 76 => ⟨S512x256, .i1⟩
  | 77 => ⟨S512x256, .i1⟩
  | 78 => ⟨S_, .i32⟩
  | 79 => ⟨S512x256, .i32⟩
  | 80 => ⟨S512x256, .i32⟩
  | 81 => ⟨S_, .i32⟩
  | 82 => ⟨S512x256, .i32⟩
  | 83 => ⟨S512x256, .i1⟩
  | 84 => ⟨S512x256, .i1⟩
  | 85 => ⟨S_, .f32⟩
  | 86 => ⟨S_, .f32⟩
  | 87 => ⟨S512x256, .f32⟩
  | 88 => ⟨S512x256, .f32⟩
  | 89 => ⟨S512x256, .f32⟩
  | 90 => ⟨S512x256, .f32⟩
  | 91 => ⟨S512x256, .f32⟩
  | 92 => ⟨S_, .i32⟩
  | 93 => ⟨S512x256, .i32⟩
  | 94 => ⟨S512x256, .i1⟩
  | 95 => ⟨S_, .i32⟩
  | 96 => ⟨S512x256, .i32⟩
  | 97 => ⟨S512x256, .i1⟩
  | 98 => ⟨S512x256, .i1⟩
  | 99 => ⟨S_, .i32⟩
  | 100 => ⟨S512x256, .i32⟩
  | 101 => ⟨S512x256, .i32⟩
  | 102 => ⟨S_, .i32⟩
  | 103 => ⟨S512x256, .i32⟩
  | 104 => ⟨S512x256, .i1⟩
  | 105 => ⟨S512x256, .i1⟩
  | 106 => ⟨S_, .f32⟩
  | 107 => ⟨S_, .f32⟩
  | 108 => ⟨S512x256, .f32⟩
  | 109 => ⟨S512x256, .f32⟩
  | 110 => ⟨S512x256, .f32⟩
  | 111 => ⟨S512x256, .f32⟩
  | 112 => ⟨S512x256, .f32⟩
  | 113 => ⟨S_, .f32⟩
  | 114 => ⟨S512x256, .f32⟩
  | 115 => ⟨S512x256, .i1⟩
  | 116 => ⟨S_, .f32⟩
  | 117 => ⟨S512x256, .f32⟩
  | 118 => ⟨S512x256, .f32⟩
  | 119 => ⟨S512x256, .f32⟩
  | 120 => ⟨S_, .f32⟩
  | 121 => ⟨S_, .f32⟩
  | 122 => ⟨S512x256, .f32⟩
  | 123 => ⟨S512x256, .f32⟩
  | 124 => ⟨S1x512x256, .f32⟩
  | 125 => ⟨S1x512x256, .f32⟩
  | 126 => ⟨S1x512x256, .f32⟩
  | 127 => ⟨S1x512x256, .f32⟩
  | _ => ⟨S2048x6144, .f32⟩

abbrev hbmTy0_6 (i : Nat) : BufTy := match i % 128 with
  | 0 => ⟨S1x512x256, .f32⟩
  | 1 => ⟨S5x512x256, .f32⟩
  | 2 => ⟨S3x2048x2048, .bf16⟩
  | _ => ⟨S2048x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x6144, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S5x512x256, .f32⟩
  | .local _ .vmem, ⟨15, _⟩ => ⟨S3x2048x128, .bf16⟩
  | .local _ .vmem, ⟨16, _⟩ => ⟨S3x2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_c : Ref sig .tc := ⟨.hbm, 83, rfl⟩
abbrev main_v77 : Ref sig .tc := ⟨.hbm, 84, rfl⟩
abbrev main_v78 : Ref sig .tc := ⟨.hbm, 85, rfl⟩
abbrev main_c_3 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_c_4 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_c_0 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_c_1 : Ref sig .tc := ⟨.hbm, 98, rfl⟩
abbrev main_call0_v5 : Ref sig .tc := ⟨.hbm, 99, rfl⟩
abbrev main_call0_v6 : Ref sig .tc := ⟨.hbm, 100, rfl⟩
abbrev main_call0_c_2 : Ref sig .tc := ⟨.hbm, 101, rfl⟩
abbrev main_call0_v7 : Ref sig .tc := ⟨.hbm, 102, rfl⟩
abbrev main_call0_v8 : Ref sig .tc := ⟨.hbm, 103, rfl⟩
abbrev main_call0_c_3 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_v12 : Ref sig .tc := ⟨.hbm, 108, rfl⟩
abbrev main_call0_v13 : Ref sig .tc := ⟨.hbm, 109, rfl⟩
abbrev main_call0_v14 : Ref sig .tc := ⟨.hbm, 110, rfl⟩
abbrev main_v82 : Ref sig .tc := ⟨.hbm, 111, rfl⟩
abbrev main_c_5 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_6 : Ref sig .tc := ⟨.hbm, 117, rfl⟩
abbrev main_v87 : Ref sig .tc := ⟨.hbm, 118, rfl⟩
abbrev main_v88 : Ref sig .tc := ⟨.hbm, 119, rfl⟩
abbrev main_cst_7 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v89 : Ref sig .tc := ⟨.hbm, 124, rfl⟩
abbrev main_cst_8 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_9 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_10 : Ref sig .tc := ⟨.hbm, 147, rfl⟩
abbrev main_v110 : Ref sig .tc := ⟨.hbm, 148, rfl⟩
abbrev main_v111 : Ref sig .tc := ⟨.hbm, 149, rfl⟩
abbrev main_c_11 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_c_12 : Ref sig .tc := ⟨.hbm, 154, rfl⟩
abbrev main_call2_v0 : Ref sig .tc := ⟨.hbm, 155, rfl⟩
abbrev main_call2_c : Ref sig .tc := ⟨.hbm, 156, rfl⟩
abbrev main_call2_v1 : Ref sig .tc := ⟨.hbm, 157, rfl⟩
abbrev main_call2_c_0 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_c_1 : Ref sig .tc := ⟨.hbm, 162, rfl⟩
abbrev main_call2_v5 : Ref sig .tc := ⟨.hbm, 163, rfl⟩
abbrev main_call2_v6 : Ref sig .tc := ⟨.hbm, 164, rfl⟩
abbrev main_call2_c_2 : Ref sig .tc := ⟨.hbm, 165, rfl⟩
abbrev main_call2_v7 : Ref sig .tc := ⟨.hbm, 166, rfl⟩
abbrev main_call2_v8 : Ref sig .tc := ⟨.hbm, 167, rfl⟩
abbrev main_call2_c_3 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_v12 : Ref sig .tc := ⟨.hbm, 172, rfl⟩
abbrev main_call2_v13 : Ref sig .tc := ⟨.hbm, 173, rfl⟩
abbrev main_call2_v14 : Ref sig .tc := ⟨.hbm, 174, rfl⟩
abbrev main_v115 : Ref sig .tc := ⟨.hbm, 175, rfl⟩
abbrev main_c_13 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_cst_14 : Ref sig .tc := ⟨.hbm, 181, rfl⟩
abbrev main_v120 : Ref sig .tc := ⟨.hbm, 182, rfl⟩
abbrev main_v121 : Ref sig .tc := ⟨.hbm, 183, rfl⟩
abbrev main_cst_15 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v122 : Ref sig .tc := ⟨.hbm, 188, rfl⟩
abbrev main_cst_16 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_17 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_c_18 : Ref sig .tc := ⟨.hbm, 211, rfl⟩
abbrev main_v143 : Ref sig .tc := ⟨.hbm, 212, rfl⟩
abbrev main_v144 : Ref sig .tc := ⟨.hbm, 213, rfl⟩
abbrev main_c_19 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_c_20 : Ref sig .tc := ⟨.hbm, 218, rfl⟩
abbrev main_call4_v0 : Ref sig .tc := ⟨.hbm, 219, rfl⟩
abbrev main_call4_c : Ref sig .tc := ⟨.hbm, 220, rfl⟩
abbrev main_call4_v1 : Ref sig .tc := ⟨.hbm, 221, rfl⟩
abbrev main_call4_c_0 : Ref sig .tc := ⟨.hbm, 222, rfl⟩
abbrev main_call4_v2 : Ref sig .tc := ⟨.hbm, 223, rfl⟩
abbrev main_call4_v3 : Ref sig .tc := ⟨.hbm, 224, rfl⟩
abbrev main_call4_v4 : Ref sig .tc := ⟨.hbm, 225, rfl⟩
abbrev main_call4_c_1 : Ref sig .tc := ⟨.hbm, 226, rfl⟩
abbrev main_call4_v5 : Ref sig .tc := ⟨.hbm, 227, rfl⟩
abbrev main_call4_v6 : Ref sig .tc := ⟨.hbm, 228, rfl⟩
abbrev main_call4_c_2 : Ref sig .tc := ⟨.hbm, 229, rfl⟩
abbrev main_call4_v7 : Ref sig .tc := ⟨.hbm, 230, rfl⟩
abbrev main_call4_v8 : Ref sig .tc := ⟨.hbm, 231, rfl⟩
abbrev main_call4_c_3 : Ref sig .tc := ⟨.hbm, 232, rfl⟩
abbrev main_call4_v9 : Ref sig .tc := ⟨.hbm, 233, rfl⟩
abbrev main_call4_v10 : Ref sig .tc := ⟨.hbm, 234, rfl⟩
abbrev main_call4_v11 : Ref sig .tc := ⟨.hbm, 235, rfl⟩
abbrev main_call4_v12 : Ref sig .tc := ⟨.hbm, 236, rfl⟩
abbrev main_call4_v13 : Ref sig .tc := ⟨.hbm, 237, rfl⟩
abbrev main_call4_v14 : Ref sig .tc := ⟨.hbm, 238, rfl⟩
abbrev main_v148 : Ref sig .tc := ⟨.hbm, 239, rfl⟩
abbrev main_c_21 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_cst_22 : Ref sig .tc := ⟨.hbm, 245, rfl⟩
abbrev main_v153 : Ref sig .tc := ⟨.hbm, 246, rfl⟩
abbrev main_v154 : Ref sig .tc := ⟨.hbm, 247, rfl⟩
abbrev main_cst_23 : Ref sig .tc := ⟨.hbm, 248, rfl⟩
abbrev main_call5_v0 : Ref sig .tc := ⟨.hbm, 249, rfl⟩
abbrev main_call5_v1 : Ref sig .tc := ⟨.hbm, 250, rfl⟩
abbrev main_call5_v2 : Ref sig .tc := ⟨.hbm, 251, rfl⟩
abbrev main_v155 : Ref sig .tc := ⟨.hbm, 252, rfl⟩
abbrev main_cst_24 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_cst_25 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_cst_26 : Ref sig .tc := ⟨.hbm, 272, rfl⟩
abbrev main_v173 : Ref sig .tc := ⟨.hbm, 273, rfl⟩
abbrev main_cst_27 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_cst_28 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_cst_29 : Ref sig .tc := ⟨.hbm, 293, rfl⟩
abbrev main_v191 : Ref sig .tc := ⟨.hbm, 294, rfl⟩
abbrev main_cst_30 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_cst_31 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_cst_32 : Ref sig .tc := ⟨.hbm, 309, rfl⟩
abbrev main_v204 : Ref sig .tc := ⟨.hbm, 310, rfl⟩
abbrev main_v205 : Ref sig .tc := ⟨.hbm, 311, rfl⟩
abbrev main_cst_33 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_cst_34 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_cst_35 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_c_36 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_cst_37 : Ref sig .tc := ⟨.hbm, 344, rfl⟩
abbrev main_v234 : Ref sig .tc := ⟨.hbm, 345, rfl⟩
abbrev main_c_38 : Ref sig .tc := ⟨.hbm, 346, rfl⟩
abbrev main_v235 : Ref sig .tc := ⟨.hbm, 347, rfl⟩
abbrev main_v236 : Ref sig .tc := ⟨.hbm, 348, rfl⟩
abbrev main_c_39 : Ref sig .tc := ⟨.hbm, 349, rfl⟩
abbrev main_v237 : Ref sig .tc := ⟨.hbm, 350, rfl⟩
abbrev main_v238 : Ref sig .tc := ⟨.hbm, 351, rfl⟩
abbrev main_v239 : Ref sig .tc := ⟨.hbm, 352, rfl⟩
abbrev main_c_40 : Ref sig .tc := ⟨.hbm, 353, rfl⟩
abbrev main_v240 : Ref sig .tc := ⟨.hbm, 354, rfl⟩
abbrev main_v241 : Ref sig .tc := ⟨.hbm, 355, rfl⟩
abbrev main_c_41 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_cst_42 : Ref sig .tc := ⟨.hbm, 360, rfl⟩
abbrev main_cst_43 : Ref sig .tc := ⟨.hbm, 361, rfl⟩
abbrev main_call6_v0 : Ref sig .tc := ⟨.hbm, 362, rfl⟩
abbrev main_call6_v1 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_c_44 : Ref sig .tc := ⟨.hbm, 367, rfl⟩
abbrev main_v248 : Ref sig .tc := ⟨.hbm, 368, rfl⟩
abbrev main_v249 : Ref sig .tc := ⟨.hbm, 369, rfl⟩
abbrev main_c_45 : Ref sig .tc := ⟨.hbm, 370, rfl⟩
abbrev main_v250 : Ref sig .tc := ⟨.hbm, 371, rfl⟩
abbrev main_v251 : Ref sig .tc := ⟨.hbm, 372, rfl⟩
abbrev main_v252 : Ref sig .tc := ⟨.hbm, 373, rfl⟩
abbrev main_c_46 : Ref sig .tc := ⟨.hbm, 374, rfl⟩
abbrev main_v253 : Ref sig .tc := ⟨.hbm, 375, rfl⟩
abbrev main_v254 : Ref sig .tc := ⟨.hbm, 376, rfl⟩
abbrev main_c_47 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_cst_48 : Ref sig .tc := ⟨.hbm, 381, rfl⟩
abbrev main_cst_49 : Ref sig .tc := ⟨.hbm, 382, rfl⟩
abbrev main_call7_v0 : Ref sig .tc := ⟨.hbm, 383, rfl⟩
abbrev main_call7_v1 : Ref sig .tc := ⟨.hbm, 384, rfl⟩
abbrev main_v258 : Ref sig .tc := ⟨.hbm, 385, rfl⟩
abbrev main_v259 : Ref sig .tc := ⟨.hbm, 386, rfl⟩
abbrev main_v260 : Ref sig .tc := ⟨.hbm, 387, rfl⟩
abbrev main_c_50 : Ref sig .tc := ⟨.hbm, 388, rfl⟩
abbrev main_v261 : Ref sig .tc := ⟨.hbm, 389, rfl⟩
abbrev main_v262 : Ref sig .tc := ⟨.hbm, 390, rfl⟩
abbrev main_c_51 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_c_52 : Ref sig .tc := ⟨.hbm, 395, rfl⟩
abbrev main_v266 : Ref sig .tc := ⟨.hbm, 396, rfl⟩
abbrev main_v267 : Ref sig .tc := ⟨.hbm, 397, rfl⟩
abbrev main_c_53 : Ref sig .tc := ⟨.hbm, 398, rfl⟩
abbrev main_v268 : Ref sig .tc := ⟨.hbm, 399, rfl⟩
abbrev main_v269 : Ref sig .tc := ⟨.hbm, 400, rfl⟩
abbrev main_v270 : Ref sig .tc := ⟨.hbm, 401, rfl⟩
abbrev main_cst_54 : Ref sig .tc := ⟨.hbm, 402, rfl⟩
abbrev main_cst_55 : Ref sig .tc := ⟨.hbm, 403, rfl⟩
abbrev main_call8_v0 : Ref sig .tc := ⟨.hbm, 404, rfl⟩
abbrev main_call8_v1 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_cst_56 : Ref sig .tc := ⟨.hbm, 409, rfl⟩
abbrev main_v274 : Ref sig .tc := ⟨.hbm, 410, rfl⟩
abbrev main_v275 : Ref sig .tc := ⟨.hbm, 411, rfl⟩
abbrev main_cst_57 : Ref sig .tc := ⟨.hbm, 412, rfl⟩
abbrev main_v276 : Ref sig .tc := ⟨.hbm, 413, rfl⟩
abbrev main_v277 : Ref sig .tc := ⟨.hbm, 414, rfl⟩
abbrev main_v278 : Ref sig .tc := ⟨.hbm, 415, rfl⟩
abbrev main_cst_58 : Ref sig .tc := ⟨.hbm, 416, rfl⟩
abbrev main_call9_v0 : Ref sig .tc := ⟨.hbm, 417, rfl⟩
abbrev main_call9_v1 : Ref sig .tc := ⟨.hbm, 418, rfl⟩
abbrev main_v279 : Ref sig .tc := ⟨.hbm, 419, rfl⟩
abbrev main_v280 : Ref sig .tc := ⟨.hbm, 420, rfl⟩
abbrev main_v281 : Ref sig .tc := ⟨.hbm, 421, rfl⟩
abbrev main_v282 : Ref sig .tc := ⟨.hbm, 422, rfl⟩
abbrev main_v283 : Ref sig .tc := ⟨.hbm, 423, rfl⟩
abbrev main_c_59 : Ref sig .tc := ⟨.hbm, 424, rfl⟩
abbrev main_v284 : Ref sig .tc := ⟨.hbm, 425, rfl⟩
abbrev main_v285 : Ref sig .tc := ⟨.hbm, 426, rfl⟩
abbrev main_v286 : Ref sig .tc := ⟨.hbm, 427, rfl⟩
abbrev main_v287 : Ref sig .tc := ⟨.hbm, 428, rfl⟩
abbrev main_v288 : Ref sig .tc := ⟨.hbm, 429, rfl⟩
abbrev main_cst_60 : Ref sig .tc := ⟨.hbm, 430, rfl⟩
abbrev main_v289 : Ref sig .tc := ⟨.hbm, 431, rfl⟩
abbrev main_c_61 : Ref sig .tc := ⟨.hbm, 432, rfl⟩
abbrev main_v290 : Ref sig .tc := ⟨.hbm, 433, rfl⟩
abbrev main_v291 : Ref sig .tc := ⟨.hbm, 434, rfl⟩
abbrev main_c_62 : Ref sig .tc := ⟨.hbm, 435, rfl⟩
abbrev main_v292 : Ref sig .tc := ⟨.hbm, 436, rfl⟩
abbrev main_v293 : Ref sig .tc := ⟨.hbm, 437, rfl⟩
abbrev main_v294 : Ref sig .tc := ⟨.hbm, 438, rfl⟩
abbrev main_c_63 : Ref sig .tc := ⟨.hbm, 439, rfl⟩
abbrev main_v295 : Ref sig .tc := ⟨.hbm, 440, rfl⟩
abbrev main_v296 : Ref sig .tc := ⟨.hbm, 441, rfl⟩
abbrev main_c_64 : Ref sig .tc := ⟨.hbm, 442, rfl⟩
abbrev main_v297 : Ref sig .tc := ⟨.hbm, 443, rfl⟩
abbrev main_v298 : Ref sig .tc := ⟨.hbm, 444, rfl⟩
abbrev main_v299 : Ref sig .tc := ⟨.hbm, 445, rfl⟩
abbrev main_cst_65 : Ref sig .tc := ⟨.hbm, 446, rfl⟩
abbrev main_cst_66 : Ref sig .tc := ⟨.hbm, 447, rfl⟩
abbrev main_call10_v0 : Ref sig .tc := ⟨.hbm, 448, rfl⟩
abbrev main_call10_v1 : Ref sig .tc := ⟨.hbm, 449, rfl⟩
abbrev main_v300 : Ref sig .tc := ⟨.hbm, 450, rfl⟩
abbrev main_v301 : Ref sig .tc := ⟨.hbm, 451, rfl⟩
abbrev main_v302 : Ref sig .tc := ⟨.hbm, 452, rfl⟩
abbrev main_c_67 : Ref sig .tc := ⟨.hbm, 453, rfl⟩
abbrev main_v303 : Ref sig .tc := ⟨.hbm, 454, rfl⟩
abbrev main_v304 : Ref sig .tc := ⟨.hbm, 455, rfl⟩
abbrev main_c_68 : Ref sig .tc := ⟨.hbm, 456, rfl⟩
abbrev main_v305 : Ref sig .tc := ⟨.hbm, 457, rfl⟩
abbrev main_v306 : Ref sig .tc := ⟨.hbm, 458, rfl⟩
abbrev main_v307 : Ref sig .tc := ⟨.hbm, 459, rfl⟩
abbrev main_c_69 : Ref sig .tc := ⟨.hbm, 460, rfl⟩
abbrev main_v308 : Ref sig .tc := ⟨.hbm, 461, rfl⟩
abbrev main_v309 : Ref sig .tc := ⟨.hbm, 462, rfl⟩
abbrev main_c_70 : Ref sig .tc := ⟨.hbm, 463, rfl⟩
abbrev main_v310 : Ref sig .tc := ⟨.hbm, 464, rfl⟩
abbrev main_v311 : Ref sig .tc := ⟨.hbm, 465, rfl⟩
abbrev main_v312 : Ref sig .tc := ⟨.hbm, 466, rfl⟩
abbrev main_cst_71 : Ref sig .tc := ⟨.hbm, 467, rfl⟩
abbrev main_cst_72 : Ref sig .tc := ⟨.hbm, 468, rfl⟩
abbrev main_call11_v0 : Ref sig .tc := ⟨.hbm, 469, rfl⟩
abbrev main_call11_v1 : Ref sig .tc := ⟨.hbm, 470, rfl⟩
abbrev main_v313 : Ref sig .tc := ⟨.hbm, 471, rfl⟩
abbrev main_v314 : Ref sig .tc := ⟨.hbm, 472, rfl⟩
abbrev main_v315 : Ref sig .tc := ⟨.hbm, 473, rfl⟩
abbrev main_c_73 : Ref sig .tc := ⟨.hbm, 474, rfl⟩
abbrev main_v316 : Ref sig .tc := ⟨.hbm, 475, rfl⟩
abbrev main_v317 : Ref sig .tc := ⟨.hbm, 476, rfl⟩
abbrev main_c_74 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_c_75 : Ref sig .tc := ⟨.hbm, 481, rfl⟩
abbrev main_v321 : Ref sig .tc := ⟨.hbm, 482, rfl⟩
abbrev main_v322 : Ref sig .tc := ⟨.hbm, 483, rfl⟩
abbrev main_c_76 : Ref sig .tc := ⟨.hbm, 484, rfl⟩
abbrev main_v323 : Ref sig .tc := ⟨.hbm, 485, rfl⟩
abbrev main_v324 : Ref sig .tc := ⟨.hbm, 486, rfl⟩
abbrev main_v325 : Ref sig .tc := ⟨.hbm, 487, rfl⟩
abbrev main_cst_77 : Ref sig .tc := ⟨.hbm, 488, rfl⟩
abbrev main_cst_78 : Ref sig .tc := ⟨.hbm, 489, rfl⟩
abbrev main_call12_v0 : Ref sig .tc := ⟨.hbm, 490, rfl⟩
abbrev main_call12_v1 : Ref sig .tc := ⟨.hbm, 491, rfl⟩
abbrev main_v326 : Ref sig .tc := ⟨.hbm, 492, rfl⟩
abbrev main_v327 : Ref sig .tc := ⟨.hbm, 493, rfl⟩
abbrev main_v328 : Ref sig .tc := ⟨.hbm, 494, rfl⟩
abbrev main_cst_79 : Ref sig .tc := ⟨.hbm, 495, rfl⟩
abbrev main_v329 : Ref sig .tc := ⟨.hbm, 496, rfl⟩
abbrev main_v330 : Ref sig .tc := ⟨.hbm, 497, rfl⟩
abbrev main_cst_80 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_cst_81 : Ref sig .tc := ⟨.hbm, 502, rfl⟩
abbrev main_call13_v0 : Ref sig .tc := ⟨.hbm, 503, rfl⟩
abbrev main_call13_v1 : Ref sig .tc := ⟨.hbm, 504, rfl⟩
abbrev main_v334 : Ref sig .tc := ⟨.hbm, 505, rfl⟩
abbrev main_v335 : Ref sig .tc := ⟨.hbm, 506, rfl⟩
abbrev main_v336 : Ref sig .tc := ⟨.hbm, 507, rfl⟩
abbrev main_v337 : Ref sig .tc := ⟨.hbm, 508, rfl⟩
abbrev main_v338 : Ref sig .tc := ⟨.hbm, 509, rfl⟩
abbrev main_c_82 : Ref sig .tc := ⟨.hbm, 510, rfl⟩
abbrev main_v339 : Ref sig .tc := ⟨.hbm, 511, rfl⟩
abbrev main_v340 : Ref sig .tc := ⟨.hbm, 512, rfl⟩
abbrev main_v341 : Ref sig .tc := ⟨.hbm, 513, rfl⟩
abbrev main_v342 : Ref sig .tc := ⟨.hbm, 514, rfl⟩
abbrev main_v343 : Ref sig .tc := ⟨.hbm, 515, rfl⟩
abbrev main_cst_83 : Ref sig .tc := ⟨.hbm, 516, rfl⟩
abbrev main_v344 : Ref sig .tc := ⟨.hbm, 517, rfl⟩
abbrev main_c_84 : Ref sig .tc := ⟨.hbm, 518, rfl⟩
abbrev main_v345 : Ref sig .tc := ⟨.hbm, 519, rfl⟩
abbrev main_v346 : Ref sig .tc := ⟨.hbm, 520, rfl⟩
abbrev main_c_85 : Ref sig .tc := ⟨.hbm, 521, rfl⟩
abbrev main_v347 : Ref sig .tc := ⟨.hbm, 522, rfl⟩
abbrev main_v348 : Ref sig .tc := ⟨.hbm, 523, rfl⟩
abbrev main_v349 : Ref sig .tc := ⟨.hbm, 524, rfl⟩
abbrev main_c_86 : Ref sig .tc := ⟨.hbm, 525, rfl⟩
abbrev main_v350 : Ref sig .tc := ⟨.hbm, 526, rfl⟩
abbrev main_v351 : Ref sig .tc := ⟨.hbm, 527, rfl⟩
abbrev main_c_87 : Ref sig .tc := ⟨.hbm, 528, rfl⟩
abbrev main_v352 : Ref sig .tc := ⟨.hbm, 529, rfl⟩
abbrev main_v353 : Ref sig .tc := ⟨.hbm, 530, rfl⟩
abbrev main_v354 : Ref sig .tc := ⟨.hbm, 531, rfl⟩
abbrev main_cst_88 : Ref sig .tc := ⟨.hbm, 532, rfl⟩
abbrev main_cst_89 : Ref sig .tc := ⟨.hbm, 533, rfl⟩
abbrev main_call14_v0 : Ref sig .tc := ⟨.hbm, 534, rfl⟩
abbrev main_call14_v1 : Ref sig .tc := ⟨.hbm, 535, rfl⟩
abbrev main_v355 : Ref sig .tc := ⟨.hbm, 536, rfl⟩
abbrev main_v356 : Ref sig .tc := ⟨.hbm, 537, rfl⟩
abbrev main_v357 : Ref sig .tc := ⟨.hbm, 538, rfl⟩
abbrev main_c_90 : Ref sig .tc := ⟨.hbm, 539, rfl⟩
abbrev main_v358 : Ref sig .tc := ⟨.hbm, 540, rfl⟩
abbrev main_v359 : Ref sig .tc := ⟨.hbm, 541, rfl⟩
abbrev main_c_91 : Ref sig .tc := ⟨.hbm, 542, rfl⟩
abbrev main_v360 : Ref sig .tc := ⟨.hbm, 543, rfl⟩
abbrev main_v361 : Ref sig .tc := ⟨.hbm, 544, rfl⟩
abbrev main_v362 : Ref sig .tc := ⟨.hbm, 545, rfl⟩
abbrev main_c_92 : Ref sig .tc := ⟨.hbm, 546, rfl⟩
abbrev main_v363 : Ref sig .tc := ⟨.hbm, 547, rfl⟩
abbrev main_v364 : Ref sig .tc := ⟨.hbm, 548, rfl⟩
abbrev main_c_93 : Ref sig .tc := ⟨.hbm, 549, rfl⟩
abbrev main_v365 : Ref sig .tc := ⟨.hbm, 550, rfl⟩
abbrev main_v366 : Ref sig .tc := ⟨.hbm, 551, rfl⟩
abbrev main_v367 : Ref sig .tc := ⟨.hbm, 552, rfl⟩
abbrev main_cst_94 : Ref sig .tc := ⟨.hbm, 553, rfl⟩
abbrev main_cst_95 : Ref sig .tc := ⟨.hbm, 554, rfl⟩
abbrev main_call15_v0 : Ref sig .tc := ⟨.hbm, 555, rfl⟩
abbrev main_call15_v1 : Ref sig .tc := ⟨.hbm, 556, rfl⟩
abbrev main_v368 : Ref sig .tc := ⟨.hbm, 557, rfl⟩
abbrev main_v369 : Ref sig .tc := ⟨.hbm, 558, rfl⟩
abbrev main_v370 : Ref sig .tc := ⟨.hbm, 559, rfl⟩
abbrev main_c_96 : Ref sig .tc := ⟨.hbm, 560, rfl⟩
abbrev main_v371 : Ref sig .tc := ⟨.hbm, 561, rfl⟩
abbrev main_v372 : Ref sig .tc := ⟨.hbm, 562, rfl⟩
abbrev main_c_97 : Ref sig .tc := ⟨.hbm, 563, rfl⟩
abbrev main_v373 : Ref sig .tc := ⟨.hbm, 564, rfl⟩
abbrev main_v374 : Ref sig .tc := ⟨.hbm, 565, rfl⟩
abbrev main_v375 : Ref sig .tc := ⟨.hbm, 566, rfl⟩
abbrev main_c_98 : Ref sig .tc := ⟨.hbm, 567, rfl⟩
abbrev main_v376 : Ref sig .tc := ⟨.hbm, 568, rfl⟩
abbrev main_v377 : Ref sig .tc := ⟨.hbm, 569, rfl⟩
abbrev main_c_99 : Ref sig .tc := ⟨.hbm, 570, rfl⟩
abbrev main_v378 : Ref sig .tc := ⟨.hbm, 571, rfl⟩
abbrev main_v379 : Ref sig .tc := ⟨.hbm, 572, rfl⟩
abbrev main_v380 : Ref sig .tc := ⟨.hbm, 573, rfl⟩
abbrev main_cst_100 : Ref sig .tc := ⟨.hbm, 574, rfl⟩
abbrev main_cst_101 : Ref sig .tc := ⟨.hbm, 575, rfl⟩
abbrev main_call16_v0 : Ref sig .tc := ⟨.hbm, 576, rfl⟩
abbrev main_call16_v1 : Ref sig .tc := ⟨.hbm, 577, rfl⟩
abbrev main_v381 : Ref sig .tc := ⟨.hbm, 578, rfl⟩
abbrev main_v382 : Ref sig .tc := ⟨.hbm, 579, rfl⟩
abbrev main_v383 : Ref sig .tc := ⟨.hbm, 580, rfl⟩
abbrev main_cst_102 : Ref sig .tc := ⟨.hbm, 581, rfl⟩
abbrev main_v384 : Ref sig .tc := ⟨.hbm, 582, rfl⟩
abbrev main_v385 : Ref sig .tc := ⟨.hbm, 583, rfl⟩
abbrev main_cst_103 : Ref sig .tc := ⟨.hbm, 584, rfl⟩
abbrev main_v386 : Ref sig .tc := ⟨.hbm, 585, rfl⟩
abbrev main_v387 : Ref sig .tc := ⟨.hbm, 586, rfl⟩
abbrev main_v388 : Ref sig .tc := ⟨.hbm, 587, rfl⟩
abbrev main_cst_104 : Ref sig .tc := ⟨.hbm, 588, rfl⟩
abbrev main_call17_v0 : Ref sig .tc := ⟨.hbm, 589, rfl⟩
abbrev main_call17_v1 : Ref sig .tc := ⟨.hbm, 590, rfl⟩
abbrev main_v389 : Ref sig .tc := ⟨.hbm, 591, rfl⟩
abbrev main_v390 : Ref sig .tc := ⟨.hbm, 592, rfl⟩
abbrev main_v391 : Ref sig .tc := ⟨.hbm, 593, rfl⟩
abbrev main_v392 : Ref sig .tc := ⟨.hbm, 594, rfl⟩
abbrev main_v393 : Ref sig .tc := ⟨.hbm, 595, rfl⟩
abbrev main_c_105 : Ref sig .tc := ⟨.hbm, 596, rfl⟩
abbrev main_v394 : Ref sig .tc := ⟨.hbm, 597, rfl⟩
abbrev main_v395 : Ref sig .tc := ⟨.hbm, 598, rfl⟩
abbrev main_v396 : Ref sig .tc := ⟨.hbm, 599, rfl⟩
abbrev main_v397 : Ref sig .tc := ⟨.hbm, 600, rfl⟩
abbrev main_v398 : Ref sig .tc := ⟨.hbm, 601, rfl⟩
abbrev main_cst_106 : Ref sig .tc := ⟨.hbm, 602, rfl⟩
abbrev main_v399 : Ref sig .tc := ⟨.hbm, 603, rfl⟩
abbrev main_c_107 : Ref sig .tc := ⟨.hbm, 604, rfl⟩
abbrev main_v400 : Ref sig .tc := ⟨.hbm, 605, rfl⟩
abbrev main_v401 : Ref sig .tc := ⟨.hbm, 606, rfl⟩
abbrev main_c_108 : Ref sig .tc := ⟨.hbm, 607, rfl⟩
abbrev main_v402 : Ref sig .tc := ⟨.hbm, 608, rfl⟩
abbrev main_v403 : Ref sig .tc := ⟨.hbm, 609, rfl⟩
abbrev main_v404 : Ref sig .tc := ⟨.hbm, 610, rfl⟩
abbrev main_c_109 : Ref sig .tc := ⟨.hbm, 611, rfl⟩
abbrev main_v405 : Ref sig .tc := ⟨.hbm, 612, rfl⟩
abbrev main_v406 : Ref sig .tc := ⟨.hbm, 613, rfl⟩
abbrev main_c_110 : Ref sig .tc := ⟨.hbm, 614, rfl⟩
abbrev main_v407 : Ref sig .tc := ⟨.hbm, 615, rfl⟩
abbrev main_v408 : Ref sig .tc := ⟨.hbm, 616, rfl⟩
abbrev main_v409 : Ref sig .tc := ⟨.hbm, 617, rfl⟩
abbrev main_cst_111 : Ref sig .tc := ⟨.hbm, 618, rfl⟩
abbrev main_cst_112 : Ref sig .tc := ⟨.hbm, 619, rfl⟩
abbrev main_call18_v0 : Ref sig .tc := ⟨.hbm, 620, rfl⟩
abbrev main_call18_v1 : Ref sig .tc := ⟨.hbm, 621, rfl⟩
abbrev main_v410 : Ref sig .tc := ⟨.hbm, 622, rfl⟩
abbrev main_v411 : Ref sig .tc := ⟨.hbm, 623, rfl⟩
abbrev main_v412 : Ref sig .tc := ⟨.hbm, 624, rfl⟩
abbrev main_c_113 : Ref sig .tc := ⟨.hbm, 625, rfl⟩
abbrev main_v413 : Ref sig .tc := ⟨.hbm, 626, rfl⟩
abbrev main_v414 : Ref sig .tc := ⟨.hbm, 627, rfl⟩
abbrev main_c_114 : Ref sig .tc := ⟨.hbm, 628, rfl⟩
abbrev main_v415 : Ref sig .tc := ⟨.hbm, 629, rfl⟩
abbrev main_v416 : Ref sig .tc := ⟨.hbm, 630, rfl⟩
abbrev main_v417 : Ref sig .tc := ⟨.hbm, 631, rfl⟩
abbrev main_c_115 : Ref sig .tc := ⟨.hbm, 632, rfl⟩
abbrev main_v418 : Ref sig .tc := ⟨.hbm, 633, rfl⟩
abbrev main_v419 : Ref sig .tc := ⟨.hbm, 634, rfl⟩
abbrev main_c_116 : Ref sig .tc := ⟨.hbm, 635, rfl⟩
abbrev main_v420 : Ref sig .tc := ⟨.hbm, 636, rfl⟩
abbrev main_v421 : Ref sig .tc := ⟨.hbm, 637, rfl⟩
abbrev main_v422 : Ref sig .tc := ⟨.hbm, 638, rfl⟩
abbrev main_cst_117 : Ref sig .tc := ⟨.hbm, 639, rfl⟩
abbrev main_cst_118 : Ref sig .tc := ⟨.hbm, 640, rfl⟩
abbrev main_call19_v0 : Ref sig .tc := ⟨.hbm, 641, rfl⟩
abbrev main_call19_v1 : Ref sig .tc := ⟨.hbm, 642, rfl⟩
abbrev main_v423 : Ref sig .tc := ⟨.hbm, 643, rfl⟩
abbrev main_v424 : Ref sig .tc := ⟨.hbm, 644, rfl⟩
abbrev main_v425 : Ref sig .tc := ⟨.hbm, 645, rfl⟩
abbrev main_c_119 : Ref sig .tc := ⟨.hbm, 646, rfl⟩
abbrev main_v426 : Ref sig .tc := ⟨.hbm, 647, rfl⟩
abbrev main_v427 : Ref sig .tc := ⟨.hbm, 648, rfl⟩
abbrev main_c_120 : Ref sig .tc := ⟨.hbm, 649, rfl⟩
abbrev main_v428 : Ref sig .tc := ⟨.hbm, 650, rfl⟩
abbrev main_v429 : Ref sig .tc := ⟨.hbm, 651, rfl⟩
abbrev main_v430 : Ref sig .tc := ⟨.hbm, 652, rfl⟩
abbrev main_c_121 : Ref sig .tc := ⟨.hbm, 653, rfl⟩
abbrev main_v431 : Ref sig .tc := ⟨.hbm, 654, rfl⟩
abbrev main_v432 : Ref sig .tc := ⟨.hbm, 655, rfl⟩
abbrev main_c_122 : Ref sig .tc := ⟨.hbm, 656, rfl⟩
abbrev main_v433 : Ref sig .tc := ⟨.hbm, 657, rfl⟩
abbrev main_v434 : Ref sig .tc := ⟨.hbm, 658, rfl⟩
abbrev main_v435 : Ref sig .tc := ⟨.hbm, 659, rfl⟩
abbrev main_cst_123 : Ref sig .tc := ⟨.hbm, 660, rfl⟩
abbrev main_cst_124 : Ref sig .tc := ⟨.hbm, 661, rfl⟩
abbrev main_call20_v0 : Ref sig .tc := ⟨.hbm, 662, rfl⟩
abbrev main_call20_v1 : Ref sig .tc := ⟨.hbm, 663, rfl⟩
abbrev main_v436 : Ref sig .tc := ⟨.hbm, 664, rfl⟩
abbrev main_v437 : Ref sig .tc := ⟨.hbm, 665, rfl⟩
abbrev main_v438 : Ref sig .tc := ⟨.hbm, 666, rfl⟩
abbrev main_cst_125 : Ref sig .tc := ⟨.hbm, 667, rfl⟩
abbrev main_v439 : Ref sig .tc := ⟨.hbm, 668, rfl⟩
abbrev main_v440 : Ref sig .tc := ⟨.hbm, 669, rfl⟩
abbrev main_cst_126 : Ref sig .tc := ⟨.hbm, 670, rfl⟩
abbrev main_v441 : Ref sig .tc := ⟨.hbm, 671, rfl⟩
abbrev main_v442 : Ref sig .tc := ⟨.hbm, 672, rfl⟩
abbrev main_v443 : Ref sig .tc := ⟨.hbm, 673, rfl⟩
abbrev main_cst_127 : Ref sig .tc := ⟨.hbm, 674, rfl⟩
abbrev main_call21_v0 : Ref sig .tc := ⟨.hbm, 675, rfl⟩
abbrev main_call21_v1 : Ref sig .tc := ⟨.hbm, 676, rfl⟩
abbrev main_v444 : Ref sig .tc := ⟨.hbm, 677, rfl⟩
abbrev main_v445 : Ref sig .tc := ⟨.hbm, 678, rfl⟩
abbrev main_v446 : Ref sig .tc := ⟨.hbm, 679, rfl⟩
abbrev main_v447 : Ref sig .tc := ⟨.hbm, 680, rfl⟩
abbrev main_v448 : Ref sig .tc := ⟨.hbm, 681, rfl⟩
abbrev main_c_128 : Ref sig .tc := ⟨.hbm, 682, rfl⟩
abbrev main_v449 : Ref sig .tc := ⟨.hbm, 683, rfl⟩
abbrev main_v450 : Ref sig .tc := ⟨.hbm, 684, rfl⟩
abbrev main_v451 : Ref sig .tc := ⟨.hbm, 685, rfl⟩
abbrev main_v452 : Ref sig .tc := ⟨.hbm, 686, rfl⟩
abbrev main_v453 : Ref sig .tc := ⟨.hbm, 687, rfl⟩
abbrev main_cst_129 : Ref sig .tc := ⟨.hbm, 688, rfl⟩
abbrev main_v454 : Ref sig .tc := ⟨.hbm, 689, rfl⟩
abbrev main_c_130 : Ref sig .tc := ⟨.hbm, 690, rfl⟩
abbrev main_v455 : Ref sig .tc := ⟨.hbm, 691, rfl⟩
abbrev main_v456 : Ref sig .tc := ⟨.hbm, 692, rfl⟩
abbrev main_c_131 : Ref sig .tc := ⟨.hbm, 693, rfl⟩
abbrev main_v457 : Ref sig .tc := ⟨.hbm, 694, rfl⟩
abbrev main_v458 : Ref sig .tc := ⟨.hbm, 695, rfl⟩
abbrev main_v459 : Ref sig .tc := ⟨.hbm, 696, rfl⟩
abbrev main_c_132 : Ref sig .tc := ⟨.hbm, 697, rfl⟩
abbrev main_v460 : Ref sig .tc := ⟨.hbm, 698, rfl⟩
abbrev main_v461 : Ref sig .tc := ⟨.hbm, 699, rfl⟩
abbrev main_c_133 : Ref sig .tc := ⟨.hbm, 700, rfl⟩
abbrev main_v462 : Ref sig .tc := ⟨.hbm, 701, rfl⟩
abbrev main_v463 : Ref sig .tc := ⟨.hbm, 702, rfl⟩
abbrev main_v464 : Ref sig .tc := ⟨.hbm, 703, rfl⟩
abbrev main_cst_134 : Ref sig .tc := ⟨.hbm, 704, rfl⟩
abbrev main_cst_135 : Ref sig .tc := ⟨.hbm, 705, rfl⟩
abbrev main_call22_v0 : Ref sig .tc := ⟨.hbm, 706, rfl⟩
abbrev main_call22_v1 : Ref sig .tc := ⟨.hbm, 707, rfl⟩
abbrev main_v465 : Ref sig .tc := ⟨.hbm, 708, rfl⟩
abbrev main_v466 : Ref sig .tc := ⟨.hbm, 709, rfl⟩
abbrev main_v467 : Ref sig .tc := ⟨.hbm, 710, rfl⟩
abbrev main_c_136 : Ref sig .tc := ⟨.hbm, 711, rfl⟩
abbrev main_v468 : Ref sig .tc := ⟨.hbm, 712, rfl⟩
abbrev main_v469 : Ref sig .tc := ⟨.hbm, 713, rfl⟩
abbrev main_c_137 : Ref sig .tc := ⟨.hbm, 714, rfl⟩
abbrev main_v470 : Ref sig .tc := ⟨.hbm, 715, rfl⟩
abbrev main_v471 : Ref sig .tc := ⟨.hbm, 716, rfl⟩
abbrev main_v472 : Ref sig .tc := ⟨.hbm, 717, rfl⟩
abbrev main_c_138 : Ref sig .tc := ⟨.hbm, 718, rfl⟩
abbrev main_v473 : Ref sig .tc := ⟨.hbm, 719, rfl⟩
abbrev main_v474 : Ref sig .tc := ⟨.hbm, 720, rfl⟩
abbrev main_c_139 : Ref sig .tc := ⟨.hbm, 721, rfl⟩
abbrev main_v475 : Ref sig .tc := ⟨.hbm, 722, rfl⟩
abbrev main_v476 : Ref sig .tc := ⟨.hbm, 723, rfl⟩
abbrev main_v477 : Ref sig .tc := ⟨.hbm, 724, rfl⟩
abbrev main_cst_140 : Ref sig .tc := ⟨.hbm, 725, rfl⟩
abbrev main_cst_141 : Ref sig .tc := ⟨.hbm, 726, rfl⟩
abbrev main_call23_v0 : Ref sig .tc := ⟨.hbm, 727, rfl⟩
abbrev main_call23_v1 : Ref sig .tc := ⟨.hbm, 728, rfl⟩
abbrev main_v478 : Ref sig .tc := ⟨.hbm, 729, rfl⟩
abbrev main_v479 : Ref sig .tc := ⟨.hbm, 730, rfl⟩
abbrev main_v480 : Ref sig .tc := ⟨.hbm, 731, rfl⟩
abbrev main_c_142 : Ref sig .tc := ⟨.hbm, 732, rfl⟩
abbrev main_v481 : Ref sig .tc := ⟨.hbm, 733, rfl⟩
abbrev main_v482 : Ref sig .tc := ⟨.hbm, 734, rfl⟩
abbrev main_c_143 : Ref sig .tc := ⟨.hbm, 735, rfl⟩
abbrev main_v483 : Ref sig .tc := ⟨.hbm, 736, rfl⟩
abbrev main_v484 : Ref sig .tc := ⟨.hbm, 737, rfl⟩
abbrev main_v485 : Ref sig .tc := ⟨.hbm, 738, rfl⟩
abbrev main_c_144 : Ref sig .tc := ⟨.hbm, 739, rfl⟩
abbrev main_v486 : Ref sig .tc := ⟨.hbm, 740, rfl⟩
abbrev main_v487 : Ref sig .tc := ⟨.hbm, 741, rfl⟩
abbrev main_c_145 : Ref sig .tc := ⟨.hbm, 742, rfl⟩
abbrev main_v488 : Ref sig .tc := ⟨.hbm, 743, rfl⟩
abbrev main_v489 : Ref sig .tc := ⟨.hbm, 744, rfl⟩
abbrev main_v490 : Ref sig .tc := ⟨.hbm, 745, rfl⟩
abbrev main_cst_146 : Ref sig .tc := ⟨.hbm, 746, rfl⟩
abbrev main_cst_147 : Ref sig .tc := ⟨.hbm, 747, rfl⟩
abbrev main_call24_v0 : Ref sig .tc := ⟨.hbm, 748, rfl⟩
abbrev main_call24_v1 : Ref sig .tc := ⟨.hbm, 749, rfl⟩
abbrev main_v491 : Ref sig .tc := ⟨.hbm, 750, rfl⟩
abbrev main_v492 : Ref sig .tc := ⟨.hbm, 751, rfl⟩
abbrev main_v493 : Ref sig .tc := ⟨.hbm, 752, rfl⟩
abbrev main_cst_148 : Ref sig .tc := ⟨.hbm, 753, rfl⟩
abbrev main_v494 : Ref sig .tc := ⟨.hbm, 754, rfl⟩
abbrev main_v495 : Ref sig .tc := ⟨.hbm, 755, rfl⟩
abbrev main_cst_149 : Ref sig .tc := ⟨.hbm, 756, rfl⟩
abbrev main_v496 : Ref sig .tc := ⟨.hbm, 757, rfl⟩
abbrev main_v497 : Ref sig .tc := ⟨.hbm, 758, rfl⟩
abbrev main_v498 : Ref sig .tc := ⟨.hbm, 759, rfl⟩
abbrev main_cst_150 : Ref sig .tc := ⟨.hbm, 760, rfl⟩
abbrev main_call25_v0 : Ref sig .tc := ⟨.hbm, 761, rfl⟩
abbrev main_call25_v1 : Ref sig .tc := ⟨.hbm, 762, rfl⟩
abbrev main_v499 : Ref sig .tc := ⟨.hbm, 763, rfl⟩
abbrev main_v500 : Ref sig .tc := ⟨.hbm, 764, rfl⟩
abbrev main_v501 : Ref sig .tc := ⟨.hbm, 765, rfl⟩
abbrev main_v502 : Ref sig .tc := ⟨.hbm, 766, rfl⟩
abbrev main_v503 : Ref sig .tc := ⟨.hbm, 767, rfl⟩
abbrev main_v504 : Ref sig .tc := ⟨.hbm, 768, rfl⟩
abbrev main_v505 : Ref sig .tc := ⟨.hbm, 769, rfl⟩
abbrev main_v506 : Ref sig .tc := ⟨.hbm, 770, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v62 : BitVec 32 := Scalar.addi c0_i32 c4_i32
  let c1_i32 : BitVec 32 := 1#32
  ⟨c0_i32, v62, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32 : BitVec 32 := 512#32
  let v112 : BitVec 32 := Scalar.muli arg18 c512_i32
  v112
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c512_i32 : BitVec 32 := 512#32
  let v112 : BitVec 32 := Scalar.muli arg18 c512_i32
  let v113 : BitVec 32 := v112
  let v114 : Index := Scalar.indexCast v113
  let c0_67 : Index := 0#32
  ![v114.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_68 : BitVec 32 := 512#32
  let v116 : BitVec 32 := Scalar.muli arg18 c512_i32_68
  v116
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_70 : BitVec 32 := 512#32
  let v120 : BitVec 32 := Scalar.muli arg18 c512_i32_70
  v120
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_72 : BitVec 32 := 512#32
  let v124 : BitVec 32 := Scalar.muli arg18 c512_i32_72
  v124
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_75 : BitVec 32 := 512#32
  let v132 : BitVec 32 := Scalar.muli arg18 c512_i32_75
  v132
@[reducible] def k0_t2_loop (k0_t1 : Fin k0_t1_loop.trips) : Scf.Loop 32 :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_83 : BitVec 32 := 1#32
  ⟨c0_i32_81, v147, c1_i32_83⟩
def k0_mult6 (k0_t1 : Fin k0_t1_loop.trips) (k0_t2 : Fin (k0_t2_loop k0_t1).trips) : BitVec 32 :=
  let c0_i32_81 : BitVec 32 := 0#32
  let c1_i32_83 : BitVec 32 := 1#32
  let arg19 : BitVec 32 := Scf.iv c0_i32_81 c1_i32_83 k0_t2
  let c256_i32 : BitVec 32 := 256#32
  let v156 : BitVec 32 := Scalar.muli arg19 c256_i32
  v156
def k0_off2 (k0_t1 : Fin k0_t1_loop.trips) (k0_t2 : Fin (k0_t2_loop k0_t1).trips) : Fin 2 → Nat :=
  let c0_i32_81 : BitVec 32 := 0#32
  let c1_i32_83 : BitVec 32 := 1#32
  let arg19 : BitVec 32 := Scf.iv c0_i32_81 c1_i32_83 k0_t2
  let c256_i32 : BitVec 32 := 256#32
  let v156 : BitVec 32 := Scalar.muli arg19 c256_i32
  let v157 : BitVec 32 := v156
  let v158 : Index := Scalar.indexCast v157
  let c0_87 : Index := 0#32
  ![v158.toNat, 0]
def k0_off3 (k0_t1 : Fin k0_t1_loop.trips) (k0_t2 : Fin (k0_t2_loop k0_t1).trips) : Fin 3 → Nat :=
  let c2_i32_90 : BitVec 32 := 2#32
  let c0_i32 : BitVec 32 := 0#32
  let c1_i32 : BitVec 32 := 1#32
  let arg18 : BitVec 32 := Scf.iv c0_i32 c1_i32 k0_t1
  let v163 : BitVec 32 := Scalar.muli c2_i32_90 arg18
  let c0_i32_81 : BitVec 32 := 0#32
  let c1_i32_83 : BitVec 32 := 1#32
  let arg19 : BitVec 32 := Scf.iv c0_i32_81 c1_i32_83 k0_t2
  let v164 : BitVec 32 := Scalar.subi v163 arg19
  let c1_i32_91 : BitVec 32 := 1#32
  let v165 : BitVec 32 := Scalar.addi v164 c1_i32_91
  let c4_i32_92 : BitVec 32 := 4#32
  let v166 : BitVec 32 := Scalar.minsi v165 c4_i32_92
  let v167 : Index := Scalar.indexCast v166
  let c0_93 : Index := 0#32
  let c0_94 : Index := 0#32
  ![v167.toNat, 0, 0]
def k0_mult7 (k0_t1 : Fin k0_t1_loop.trips) (k0_t2 : Fin (k0_t2_loop k0_t1).trips) : BitVec 32 :=
  let c0_i32_81 : BitVec 32 := 0#32
  let c1_i32_83 : BitVec 32 := 1#32
  let arg19 : BitVec 32 := Scf.iv c0_i32_81 c1_i32_83 k0_t2
  let c256_i32_95 : BitVec 32 := 256#32
  let v174 : BitVec 32 := Scalar.muli arg19 c256_i32_95
  v174
def k0_mult8 (k0_t1 : Fin k0_t1_loop.trips) (k0_t2 : Fin (k0_t2_loop k0_t1).trips) : BitVec 32 :=
  let c0_i32_81 : BitVec 32 := 0#32
  let c1_i32_83 : BitVec 32 := 1#32
  let arg19 : BitVec 32 := Scf.iv c0_i32_81 c1_i32_83 k0_t2
  let c256_i32_99 : BitVec 32 := 256#32
  let v185 : BitVec 32 := Scalar.muli arg19 c256_i32_99
  v185
def k0_mult9 (k0_t1 : Fin k0_t1_loop.trips) (k0_t2 : Fin (k0_t2_loop k0_t1).trips) : BitVec 32 :=
  let c0_i32_81 : BitVec 32 := 0#32
  let c1_i32_83 : BitVec 32 := 1#32
  let arg19 : BitVec 32 := Scf.iv c0_i32_81 c1_i32_83 k0_t2
  let c256_i32_103 : BitVec 32 := 256#32
  let v195 : BitVec 32 := Scalar.muli arg19 c256_i32_103
  v195
@[reducible] def k0_t3_loop (k0_t1 : Fin k0_t1_loop.trips) : Scf.Loop 32 :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let v144 : BitVec 32 := Scalar.addi c0_i32_81 v143
  let c1_i32_84 : BitVec 32 := 1#32
  ⟨v147, v144, c1_i32_84⟩
def k0_mult10 (k0_t1 : Fin k0_t1_loop.trips) (k0_t3 : Fin (k0_t3_loop k0_t1).trips) : BitVec 32 :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_84 : BitVec 32 := 1#32
  let arg19 : BitVec 32 := Scf.iv v147 c1_i32_84 k0_t3
  let c256_i32 : BitVec 32 := 256#32
  let v156 : BitVec 32 := Scalar.muli arg19 c256_i32
  v156
def k0_off4 (k0_t1 : Fin k0_t1_loop.trips) (k0_t3 : Fin (k0_t3_loop k0_t1).trips) : Fin 2 → Nat :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_84 : BitVec 32 := 1#32
  let arg19 : BitVec 32 := Scf.iv v147 c1_i32_84 k0_t3
  let c256_i32 : BitVec 32 := 256#32
  let v156 : BitVec 32 := Scalar.muli arg19 c256_i32
  let v157 : BitVec 32 := v156
  let v158 : Index := Scalar.indexCast v157
  let c0_87 : Index := 0#32
  ![v158.toNat, 0]
def k0_off5 (k0_t1 : Fin k0_t1_loop.trips) (k0_t3 : Fin (k0_t3_loop k0_t1).trips) : Fin 3 → Nat :=
  let c2_i32_90 : BitVec 32 := 2#32
  let c0_i32 : BitVec 32 := 0#32
  let c1_i32 : BitVec 32 := 1#32
  let arg18 : BitVec 32 := Scf.iv c0_i32 c1_i32 k0_t1
  let v163 : BitVec 32 := Scalar.muli c2_i32_90 arg18
  let c0_i32_81 : BitVec 32 := 0#32
  let c2_i32 : BitVec 32 := 2#32
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_84 : BitVec 32 := 1#32
  let arg19 : BitVec 32 := Scf.iv v147 c1_i32_84 k0_t3
  let v164 : BitVec 32 := Scalar.subi v163 arg19
  let c1_i32_91 : BitVec 32 := 1#32
  let v165 : BitVec 32 := Scalar.addi v164 c1_i32_91
  let c4_i32_92 : BitVec 32 := 4#32
  let v166 : BitVec 32 := Scalar.minsi v165 c4_i32_92
  let v167 : Index := Scalar.indexCast v166
  let c0_93 : Index := 0#32
  let c0_94 : Index := 0#32
  ![v167.toNat, 0, 0]
def k0_mult11 (k0_t1 : Fin k0_t1_loop.trips) (k0_t3 : Fin (k0_t3_loop k0_t1).trips) : BitVec 32 :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_84 : BitVec 32 := 1#32
  let arg19 : BitVec 32 := Scf.iv v147 c1_i32_84 k0_t3
  let c256_i32_95 : BitVec 32 := 256#32
  let v174 : BitVec 32 := Scalar.muli arg19 c256_i32_95
  v174
def k0_mult12 (k0_t1 : Fin k0_t1_loop.trips) (k0_t3 : Fin (k0_t3_loop k0_t1).trips) : BitVec 32 :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_84 : BitVec 32 := 1#32
  let arg19 : BitVec 32 := Scf.iv v147 c1_i32_84 k0_t3
  let c256_i32_99 : BitVec 32 := 256#32
  let v185 : BitVec 32 := Scalar.muli arg19 c256_i32_99
  v185
def k0_mult13 (k0_t1 : Fin k0_t1_loop.trips) (k0_t3 : Fin (k0_t3_loop k0_t1).trips) : BitVec 32 :=
  let c0_i32_81 : BitVec 32 := 0#32
  let c2_i32 : BitVec 32 := 2#32
  let c0_i32 : BitVec 32 := 0#32
  let c1_i32 : BitVec 32 := 1#32
  let arg18 : BitVec 32 := Scf.iv c0_i32 c1_i32 k0_t1
  let c1_i32_78 : BitVec 32 := 1#32
  let v139 : BitVec 32 := Scalar.addi arg18 c1_i32_78
  let v140 : BitVec 32 := Scalar.muli c2_i32 v139
  let v143 : BitVec 32 := Scalar.subi v140 c0_i32_81
  let c1_i32_82 : BitVec 32 := 1#32
  let v145 : BitVec 32 := Scalar.divsi v143 c1_i32_82
  let v146 : BitVec 32 := Scalar.muli v145 c1_i32_82
  let v147 : BitVec 32 := Scalar.addi c0_i32_81 v146
  let c1_i32_84 : BitVec 32 := 1#32
  let arg19 : BitVec 32 := Scf.iv v147 c1_i32_84 k0_t3
  let c256_i32_103 : BitVec 32 := 256#32
  let v195 : BitVec 32 := Scalar.muli arg19 c256_i32_103
  v195
def k0_mult14 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_85 : BitVec 32 := 512#32
  let v150 : BitVec 32 := Scalar.muli arg18 c512_i32_85
  v150
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DDilReferenceIdeal.lean ====
abbrev S2048x6144 : Shape := ⟨2, ![2048, 6144]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x16x16 : Shape := ⟨3, ![2048, 16, 16]⟩
abbrev S2048x16x96 : Shape := ⟨3, ![2048, 16, 96]⟩
abbrev S16x2048x128 : Shape := ⟨3, ![16, 2048, 128]⟩
abbrev S1x2048 : Shape := ⟨2, ![1, 2048]⟩
abbrev S16x2048x2048 : Shape := ⟨3, ![16, 2048, 2048]⟩
abbrev S16x2048 : Shape := ⟨2, ![16, 2048]⟩
abbrev S16x2048x1 : Shape := ⟨3, ![16, 2048, 1]⟩
abbrev S1x16x2048 : Shape := ⟨3, ![1, 16, 2048]⟩
abbrev S3x16x2048 : Shape := ⟨3, ![3, 16, 2048]⟩
abbrev S3x16x2048x1 : Shape := ⟨4, ![3, 16, 2048, 1]⟩
abbrev S1x16x2048x128 : Shape := ⟨4, ![1, 16, 2048, 128]⟩
abbrev S3x16x2048x128 : Shape := ⟨4, ![3, 16, 2048, 128]⟩
abbrev S16x128x2048 : Shape := ⟨3, ![16, 128, 2048]⟩
abbrev S2048x3x2048 : Shape := ⟨3, ![2048, 3, 2048]⟩
abbrev S3x2048x2048 : Shape := ⟨3, ![3, 2048, 2048]⟩

abbrev nBuf : Space → Nat
  | .hbm => 595
  | .vmem => 0
  | .smem => 0
  | _ => 0

abbrev hbmTy0_0 (i : Nat) : BufTy := match i % 128 with
  | 0 => ⟨S2048x6144, .f32⟩
  | 1 => ⟨S2048x2048, .f32⟩
  | 2 => ⟨S2048x3x16x128, .f32⟩
  | 3 => ⟨S2048x1x16x128, .f32⟩
  | 4 => ⟨S2048x16x128, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S2048, .f32⟩
  | 14 => ⟨S2048x1, .f32⟩
  | 15 => ⟨S1x16, .f32⟩
  | 16 => ⟨S2048x16, .f32⟩
  | 17 => ⟨S2048x16, .f32⟩
  | 18 => ⟨S2048x16, .f32⟩
  | 19 => ⟨S2048x16, .f32⟩
  | 20 => ⟨S2048x1x16, .f32⟩
  | 21 => ⟨S2048x16, .f32⟩
  | 22 => ⟨S2048x1x16, .f32⟩
  | 23 => ⟨S2048x16x16, .f32⟩
  | 24 => ⟨S2048x16x16, .f32⟩
  | 25 => ⟨S2048x16x16, .f32⟩
  | 26 => ⟨S2048x16x16, .f32⟩
  | 27 => ⟨S2048x16x16, .f32⟩
  | 28 => ⟨S2048x16x16, .f32⟩
  | 29 => ⟨S2048x16x16, .f32⟩
  | 30 => ⟨S2048x16x16, .f32⟩
  | 31 => ⟨S2048x16x16, .f32⟩
  | 32 => ⟨S2048x16x16, .f32⟩
  | 33 => ⟨S2048x16x16, .f32⟩
  | 34 => ⟨S2048x16x16, .f32⟩
  | 35 => ⟨S2048x16x96, .f32⟩
  | 36 => ⟨S2048x16x128, .f32⟩
  | 37 => ⟨S16x2048x128, .f32⟩
  | 38 => ⟨S2048x1x16x128, .f32⟩
  | 39 => ⟨S2048x16x128, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S2048, .f32⟩
  | 49 => ⟨S2048x1, .f32⟩
  | 50 => ⟨S1x16, .f32⟩
  | 51 => ⟨S2048x16, .f32⟩
  | 52 => ⟨S2048x16, .f32⟩
  | 53 => ⟨S2048x16, .f32⟩
  | 54 => ⟨S2048x16, .f32⟩
  | 55 => ⟨S2048x1x16, .f32⟩
  | 56 => ⟨S2048x16, .f32⟩
  | 57 => ⟨S2048x1x16, .f32⟩
  | 58 => ⟨S2048x16x16, .f32⟩
  | 59 => ⟨S2048x16x16, .f32⟩
  | 60 => ⟨S2048x16x16, .f32⟩
  | 61 => ⟨S2048x16x16, .f32⟩
  | 62 => ⟨S2048x16x16, .f32⟩
  | 63 => ⟨S2048x16x16, .f32⟩
  | 64 => ⟨S2048x16x16, .f32⟩
  | 65 => ⟨S2048x16x16, .f32⟩
  | 66 => ⟨S2048x16x16, .f32⟩
  | 67 => ⟨S2048x16x16, .f32⟩
  | 68 => ⟨S2048x16x16, .f32⟩
  | 69 => ⟨S2048x16x16, .f32⟩
  | 70 => ⟨S2048x16x96, .f32⟩
  | 71 => ⟨S2048x16x128, .f32⟩
  | 72 => ⟨S16x2048x128, .f32⟩
  | 73 => ⟨S2048x1x16x128, .f32⟩
  | 74 => ⟨S2048x16x128, .f32⟩
  | 75 => ⟨S16x2048x128, .f32⟩
  | 76 => ⟨S2048, .i32⟩
  | 77 => ⟨S2048x1, .i32⟩
  | 78 => ⟨S2048, .i32⟩
  | 79 => ⟨S1x2048, .i32⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i1⟩
  | 86 => ⟨S_, .i32⟩
  | 87 => ⟨S2048x2048, .i32⟩
  | 88 => ⟨S2048x2048, .i1⟩
  | 89 => ⟨S2048x2048, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S2048x2048, .i32⟩
  | 97 => ⟨S2048x2048, .i32⟩
  | 98 => ⟨S_, .i32⟩
  | 99 => ⟨S2048x2048, .i32⟩
  | 100 => ⟨S2048x2048, .i1⟩
  | 101 => ⟨S_, .i32⟩
  | 102 => ⟨S2048x2048, .i32⟩
  | 103 => ⟨S2048x2048, .i1⟩
  | 104 => ⟨S_, .i32⟩
  | 105 => ⟨S_, .i1⟩
  | 106 => ⟨S2048x2048, .i1⟩
  | 107 => ⟨S2048x2048, .i1⟩
  | 108 => ⟨S2048x2048, .i1⟩
  | 109 => ⟨S2048x2048, .i32⟩
  | 110 => ⟨S2048x2048, .i32⟩
  | 111 => ⟨S2048x2048, .i32⟩
  | 112 => ⟨S_, .i32⟩
  | 113 => ⟨S2048x2048, .i32⟩
  | 114 => ⟨S2048x2048, .i1⟩
  | 115 => ⟨S2048x2048, .i1⟩
  | 116 => ⟨S16x2048x2048, .f32⟩
  | 117 => ⟨S_, .f32⟩
  | 118 => ⟨S16x2048x2048, .f32⟩
  | 119 => ⟨S16x2048x2048, .f32⟩
  | 120 => ⟨S_, .f32⟩
  | 121 => ⟨S_, .f32⟩
  | 122 => ⟨S16x2048x2048, .i1⟩
  | 123 => ⟨S16x2048x2048, .f32⟩
  | 124 => ⟨S16x2048x2048, .f32⟩
  | 125 => ⟨S_, .f32⟩
  | 126 => ⟨S16x2048x2048, .f32⟩
  | 127 => ⟨S_, .f32⟩
  | _ => ⟨S2048x6144, .f32⟩

abbrev hbmTy0_1 (i : Nat) : BufTy := match i % 128 with
  | 0 => ⟨S16x2048, .f32⟩
  | 1 => ⟨S16x2048x1, .f32⟩
  | 2 => ⟨S16x2048x2048, .f32⟩
  | 3 => ⟨S16x2048x2048, .i1⟩
  | 4 => ⟨S16x2048x2048, .f32⟩
  | 5 => ⟨S_, .f32⟩
  | 6 => ⟨S16x2048, .f32⟩
  | 7 => ⟨S16x2048x1, .f32⟩
  | 8 => ⟨S16x2048x2048, .f32⟩
  | 9 => ⟨S16x2048x2048, .f32⟩
  | 10 => ⟨S16x2048x2048, .f32⟩
  | 11 => ⟨S_, .f32⟩
  | 12 => ⟨S16x2048, .f32⟩
  | 13 => ⟨S16x2048x1, .f32⟩
  | 14 => ⟨S16x2048x2048, .f32⟩
  | 15 => ⟨S16x2048x2048, .f32⟩
  | 16 => ⟨S16x2048x1, .f32⟩
  | 17 => ⟨S_, .f32⟩
  | 18 => ⟨S16x2048x1, .f32⟩
  | 19 => ⟨S16x2048x1, .f32⟩
  | 20 => ⟨S16x2048x128, .f32⟩
  | 21 => ⟨S16x2048x1, .f32⟩
  | 22 => ⟨S16x2048x1, .f32⟩
  | 23 => ⟨S16x2048, .f32⟩
  | 24 => ⟨S2048, .i32⟩
  | 25 => ⟨S2048x1, .i32⟩
  | 26 => ⟨S2048, .i32⟩
  | 27 => ⟨S1x2048, .i32⟩
  | 28 => ⟨S2048x2048, .i32⟩
  | 29 => ⟨S2048x2048, .i32⟩
  | 30 => ⟨S2048x2048, .i32⟩
  | 31 => ⟨S_, .i32⟩
  | 32 => ⟨S2048x2048, .i32⟩
  | 33 => ⟨S2048x2048, .i1⟩
  | 34 => ⟨S_, .i32⟩
  | 35 => ⟨S2048x2048, .i32⟩
  | 36 => ⟨S2048x2048, .i1⟩
  | 37 => ⟨S2048x2048, .i1⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2048x2048, .i32⟩
  | 45 => ⟨S2048x2048, .i32⟩
  | 46 => ⟨S_, .i32⟩
  | 47 => ⟨S2048x2048, .i32⟩
  | 48 => ⟨S2048x2048, .i1⟩
  | 49 => ⟨S_, .i32⟩
  | 50 => ⟨S2048x2048, .i32⟩
  | 51 => ⟨S2048x2048, .i1⟩
  | 52 => ⟨S_, .i32⟩
  | 53 => ⟨S_, .i1⟩
  | 54 => ⟨S2048x2048, .i1⟩
  | 55 => ⟨S2048x2048, .i1⟩
  | 56 => ⟨S2048x2048, .i1⟩
  | 57 => ⟨S2048x2048, .i32⟩
  | 58 => ⟨S2048x2048, .i32⟩
  | 59 => ⟨S2048x2048, .i32⟩
  | 60 => ⟨S_, .i32⟩
  | 61 => ⟨S2048x2048, .i32⟩
  | 62 => ⟨S2048x2048, .i1⟩
  | 63 => ⟨S2048x2048, .i1⟩
  | 64 => ⟨S16x2048x2048, .f32⟩
  | 65 => ⟨S_, .f32⟩
  | 66 => ⟨S16x2048x2048, .f32⟩
  | 67 => ⟨S16x2048x2048, .f32⟩
  | 68 => ⟨S_, .f32⟩
  | 69 => ⟨S_, .f32⟩
  | 70 => ⟨S16x2048x2048, .i1⟩
  | 71 => ⟨S16x2048x2048, .f32⟩
  | 72 => ⟨S16x2048x2048, .f32⟩
  | 73 => ⟨S_, .f32⟩
  | 74 => ⟨S16x2048x2048, .f32⟩
  | 75 => ⟨S_, .f32⟩
  | 76 => ⟨S16x2048, .f32⟩
  | 77 => ⟨S16x2048x1, .f32⟩
  | 78 => ⟨S16x2048x2048, .f32⟩
  | 79 => ⟨S16x2048x2048, .i1⟩
  | 80 => ⟨S16x2048x2048, .f32⟩
  | 81 => ⟨S_, .f32⟩
  | 82 => ⟨S16x2048, .f32⟩
  | 83 => ⟨S16x2048x1, .f32⟩
  | 84 => ⟨S16x2048x2048, .f32⟩
  | 85 => ⟨S16x2048x2048, .f32⟩
  | 86 => ⟨S16x2048x2048, .f32⟩
  | 87 => ⟨S_, .f32⟩
  | 88 => ⟨S16x2048, .f32⟩
  | 89 => ⟨S16x2048x1, .f32⟩
  | 90 => ⟨S16x2048x2048, .f32⟩
  | 91 => ⟨S16x2048x2048, .f32⟩
  | 92 => ⟨S16x2048x1, .f32⟩
  | 93 => ⟨S_, .f32⟩
  | 94 => ⟨S16x2048x1, .f32⟩
  | 95 => ⟨S16x2048x1, .f32⟩
  | 96 => ⟨S16x2048x128, .f32⟩
  | 97 => ⟨S16x2048x1, .f32⟩
  | 98 => ⟨S16x2048x1, .f32⟩
  | 99 => ⟨S16x2048, .f32⟩
  | 100 => ⟨S2048, .i32⟩
  | 101 => ⟨S2048x1, .i32⟩
  | 102 => ⟨S2048, .i32⟩
  | 103 => ⟨S1x2048, .i32⟩
  | 104 => ⟨S2048x2048, .i32⟩
  | 105 => ⟨S2048x2048, .i32⟩
  | 106 => ⟨S2048x2048, .i32⟩
  | 107 => ⟨S_, .i32⟩
  | 108 => ⟨S2048x2048, .i32⟩
  | 109 => ⟨S2048x2048, .i1⟩
  | 110 => ⟨S_, .i32⟩
  | 111 => ⟨S2048x2048, .i32⟩
  | 112 => ⟨S2048x2048, .i1⟩
  | 113 => ⟨S2048x2048, .i1⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S2048x2048, .i32⟩
  | 121 => ⟨S2048x2048, .i32⟩
  | 122 => ⟨S_, .i32⟩
  | 123 => ⟨S2048x2048, .i32⟩
  | 124 => ⟨S2048x2048, .i1⟩
  | 125 => ⟨S_, .i32⟩
  | 126 => ⟨S2048x2048, .i32⟩
  | 127 => ⟨S2048x2048, .i1⟩
  | _ => ⟨S2048x6144, .f32⟩

abbrev hbmTy0_2 (i : Nat) : BufTy := match i % 128 with
  | 0 => ⟨S_, .i32⟩
  | 1 => ⟨S_, .i1⟩
  | 2 => ⟨S2048x2048, .i1⟩
  | 3 => ⟨S2048x2048, .i1⟩
  | 4 => ⟨S2048x2048, .i1⟩
  | 5 => ⟨S2048x2048, .i32⟩
  | 6 => ⟨S2048x2048, .i32⟩
  | 7 => ⟨S2048x2048, .i32⟩
  | 8 => ⟨S_, .i32⟩
  | 9 => ⟨S2048x2048, .i32⟩
  | 10 => ⟨S2048x2048, .i1⟩
  | 11 => ⟨S2048x2048, .i1⟩
  | 12 => ⟨S16x2048x2048, .f32⟩
  | 13 => ⟨S_, .f32⟩
  | 14 => ⟨S16x2048x2048, .f32⟩
  | 15 => ⟨S16x2048x2048, .f32⟩
  | 16 => ⟨S_, .f32⟩
  | 17 => ⟨S_, .f32⟩
  | 18 => ⟨S16x2048x2048, .i1⟩
  | 19 => ⟨S16x2048x2048, .f32⟩
  | 20 => ⟨S16x2048x2048, .f32⟩
  | 21 => ⟨S_, .f32⟩
  | 22 => ⟨S16x2048x2048, .f32⟩
  | 23 => ⟨S_, .f32⟩
  | 24 => ⟨S16x2048, .f32⟩
  | 25 => ⟨S16x2048x1, .f32⟩
  | 26 => ⟨S16x2048x2048, .f32⟩
  | 27 => ⟨S16x2048x2048, .i1⟩
  | 28 => ⟨S16x2048x2048, .f32⟩
  | 29 => ⟨S_, .f32⟩
  | 30 => ⟨S16x2048, .f32⟩
  | 31 => ⟨S16x2048x1, .f32⟩
  | 32 => ⟨S16x2048x2048, .f32⟩
  | 33 => ⟨S16x2048x2048, .f32⟩
  | 34 => ⟨S16x2048x2048, .f32⟩
  | 35 => ⟨S_, .f32⟩
  | 36 => ⟨S16x2048, .f32⟩
  | 37 => ⟨S16x2048x1, .f32⟩
  | 38 => ⟨S16x2048x2048, .f32⟩
  | 39 => ⟨S16x2048x2048, .f32⟩
  | 40 => ⟨S16x2048x1, .f32⟩
  | 41 => ⟨S_, .f32⟩
  | 42 => ⟨S16x2048x1, .f32⟩
  | 43 => ⟨S16x2048x1, .f32⟩
  | 44 => ⟨S16x2048x128, .f32⟩
  | 45 => ⟨S16x2048x1, .f32⟩
  | 46 => ⟨S16x2048x1, .f32⟩
  | 47 => ⟨S16x2048, .f32⟩
  | 48 => ⟨S1x16x2048, .f32⟩
  | 49 => ⟨S1x16x2048, .f32⟩
  | 50 => ⟨S1x16x2048, .f32⟩
  | 51 => ⟨S3x16x2048, .f32⟩
  | 52 => ⟨S_, .f32⟩
  | 53 => ⟨S16x2048, .f32⟩
  | 54 => ⟨S1x16x2048, .f32⟩
  | 55 => ⟨S3x16x2048, .f32⟩
  | 56 => ⟨S3x16x2048, .i1⟩
  | 57 => ⟨S3x16x2048, .f32⟩
  | 58 => ⟨S_, .f32⟩
  | 59 => ⟨S16x2048, .f32⟩
  | 60 => ⟨S_, .f32⟩
  | 61 => ⟨S16x2048, .f32⟩
  | 62 => ⟨S16x2048, .f32⟩
  | 63 => ⟨S_, .f32⟩
  | 64 => ⟨S16x2048, .f32⟩
  | 65 => ⟨S16x2048, .i1⟩
  | 66 => ⟨S_, .f32⟩
  | 67 => ⟨S16x2048, .f32⟩
  | 68 => ⟨S16x2048, .i1⟩
  | 69 => ⟨S_, .f32⟩
  | 70 => ⟨S16x2048, .f32⟩
  | 71 => ⟨S_, .f32⟩
  | 72 => ⟨S16x2048, .f32⟩
  | 73 => ⟨S_, .f32⟩
  | 74 => ⟨S16x2048, .f32⟩
  | 75 => ⟨S16x2048, .f32⟩
  | 76 => ⟨S16x2048, .f32⟩
  | 77 => ⟨S1x16x2048, .f32⟩
  | 78 => ⟨S3x16x2048, .f32⟩
  | 79 => ⟨S3x16x2048, .f32⟩
  | 80 => ⟨S3x16x2048, .f32⟩
  | 81 => ⟨S_, .f32⟩
  | 82 => ⟨S16x2048, .f32⟩
  | 83 => ⟨S1x16x2048, .f32⟩
  | 84 => ⟨S3x16x2048, .f32⟩
  | 85 => ⟨S3x16x2048, .f32⟩
  | 86 => ⟨S1x16x2048, .f32⟩
  | 87 => ⟨S_, .f32⟩
  | 88 => ⟨S1x16x2048, .f32⟩
  | 89 => ⟨S1x16x2048, .f32⟩
  | 90 => ⟨S3x16x2048x1, .f32⟩
  | 91 => ⟨S1x16x2048x128, .f32⟩
  | 92 => ⟨S1x16x2048x128, .f32⟩
  | 93 => ⟨S1x16x2048x128, .f32⟩
  | 94 => ⟨S3x16x2048x128, .f32⟩
  | 95 => ⟨S3x16x2048x128, .f32⟩
  | 96 => ⟨S3x16x2048x128, .f32⟩
  | 97 => ⟨S_, .f32⟩
  | 98 => ⟨S16x2048x128, .f32⟩
  | 99 => ⟨S_, .f32⟩
  | 100 => ⟨S16x2048, .f32⟩
  | 101 => ⟨S1x16x2048, .f32⟩
  | 102 => ⟨S3x16x2048, .f32⟩
  | 103 => ⟨S3x16x2048, .i1⟩
  | 104 => ⟨S3x16x2048, .f32⟩
  | 105 => ⟨S_, .f32⟩
  | 106 => ⟨S16x2048, .f32⟩
  | 107 => ⟨S1x16x2048, .f32⟩
  | 108 => ⟨S3x16x2048, .f32⟩
  | 109 => ⟨S3x16x2048, .f32⟩
  | 110 => ⟨S3x16x2048, .f32⟩
  | 111 => ⟨S_, .f32⟩
  | 112 => ⟨S16x2048, .f32⟩
  | 113 => ⟨S16x2048, .f32⟩
  | 114 => ⟨S16x2048, .f32⟩
  | 115 => ⟨S2048x16x128, .f32⟩
  | 116 => ⟨S2048x2048, .f32⟩
  | 117 => ⟨S2048x16x128, .f32⟩
  | 118 => ⟨S16x2048x128, .f32⟩
  | 119 => ⟨S3x16x2048x128, .f32⟩
  | 120 => ⟨S3x16x2048x128, .f32⟩
  | 121 => ⟨S3x16x2048x128, .f32⟩
  | 122 => ⟨S3x16x2048x128, .f32⟩
  | 123 => ⟨S_, .f32⟩
  | 124 => ⟨S3x16x2048, .f32⟩
  | 125 => ⟨S3x16x2048x1, .f32⟩
  | 126 => ⟨S1x16x2048x128, .f32⟩
  | 127 => ⟨S16x2048x128, .f32⟩
  | _ => ⟨S2048x6144, .f32⟩

abbrev hbmTy0_3 (i : Nat) : BufTy := match i % 128 with
  | 0 => ⟨S1x16x2048x128, .f32⟩
  | 1 => ⟨S16x2048x128, .f32⟩
  | 2 => ⟨S1x16x2048x128, .f32⟩
  | 3 => ⟨S16x2048x128, .f32⟩
  | 4 => ⟨S_, .f32⟩
  | 5 => ⟨S3x16x2048, .f32⟩
  | 6 => ⟨S3x16x2048, .f32⟩
  | 7 => ⟨S3x16x2048, .f32⟩
  | 8 => ⟨S3x16x2048, .f32⟩
  | 9 => ⟨S_, .f32⟩
  | 10 => ⟨S16x2048, .f32⟩
  | 11 => ⟨S1x16x2048, .f32⟩
  | 12 => ⟨S1x16x2048, .f32⟩
  | 13 => ⟨S3x16x2048, .f32⟩
  | 14 => ⟨S3x16x2048, .f32⟩
  | 15 => ⟨S_, .f32⟩
  | 16 => ⟨S16x2048, .f32⟩
  | 17 => ⟨S3x16x2048, .f32⟩
  | 18 => ⟨S3x16x2048, .f32⟩
  | 19 => ⟨S3x16x2048, .f32⟩
  | 20 => ⟨S1x16x2048, .f32⟩
  | 21 => ⟨S16x2048, .f32⟩
  | 22 => ⟨S1x16x2048, .f32⟩
  | 23 => ⟨S16x2048, .f32⟩
  | 24 => ⟨S1x16x2048, .f32⟩
  | 25 => ⟨S16x2048, .f32⟩
  | 26 => ⟨S16x2048x1, .f32⟩
  | 27 => ⟨S16x2048x1, .f32⟩
  | 28 => ⟨S16x128x2048, .f32⟩
  | 29 => ⟨S16x2048x128, .f32⟩
  | 30 => ⟨S16x2048x2048, .f32⟩
  | 31 => ⟨S16x2048x2048, .f32⟩
  | 32 => ⟨S16x2048x2048, .f32⟩
  | 33 => ⟨S16x2048x2048, .f32⟩
  | 34 => ⟨S_, .f32⟩
  | 35 => ⟨S16x2048, .f32⟩
  | 36 => ⟨S16x2048x1, .f32⟩
  | 37 => ⟨S16x2048x1, .f32⟩
  | 38 => ⟨S16x2048x1, .f32⟩
  | 39 => ⟨S16x2048x2048, .f32⟩
  | 40 => ⟨S16x2048x2048, .f32⟩
  | 41 => ⟨S_, .f32⟩
  | 42 => ⟨S16x2048, .f32⟩
  | 43 => ⟨S16x2048x2048, .f32⟩
  | 44 => ⟨S16x2048x2048, .f32⟩
  | 45 => ⟨S16x2048x2048, .f32⟩
  | 46 => ⟨S16x2048x2048, .f32⟩
  | 47 => ⟨S_, .f32⟩
  | 48 => ⟨S16x2048, .f32⟩
  | 49 => ⟨S16x2048x1, .f32⟩
  | 50 => ⟨S16x2048x1, .f32⟩
  | 51 => ⟨S_, .f32⟩
  | 52 => ⟨S16x2048, .f32⟩
  | 53 => ⟨S16x2048, .f32⟩
  | 54 => ⟨S16x2048x2048, .f32⟩
  | 55 => ⟨S16x2048x2048, .f32⟩
  | 56 => ⟨S16x2048x2048, .f32⟩
  | 57 => ⟨S_, .f32⟩
  | 58 => ⟨S16x2048x2048, .f32⟩
  | 59 => ⟨S16x2048x2048, .f32⟩
  | 60 => ⟨S_, .f32⟩
  | 61 => ⟨S16x2048x2048, .f32⟩
  | 62 => ⟨S16x2048x2048, .f32⟩
  | 63 => ⟨S16x2048x128, .f32⟩
  | 64 => ⟨S16x2048x128, .f32⟩
  | 65 => ⟨S16x2048x1, .f32⟩
  | 66 => ⟨S16x2048x1, .f32⟩
  | 67 => ⟨S16x128x2048, .f32⟩
  | 68 => ⟨S16x2048x128, .f32⟩
  | 69 => ⟨S16x2048x128, .f32⟩
  | 70 => ⟨S16x2048x2048, .f32⟩
  | 71 => ⟨S16x2048x2048, .f32⟩
  | 72 => ⟨S16x2048x2048, .f32⟩
  | 73 => ⟨S16x2048x2048, .f32⟩
  | 74 => ⟨S_, .f32⟩
  | 75 => ⟨S16x2048, .f32⟩
  | 76 => ⟨S16x2048x1, .f32⟩
  | 77 => ⟨S16x2048x1, .f32⟩
  | 78 => ⟨S16x2048x1, .f32⟩
  | 79 => ⟨S16x2048x2048, .f32⟩
  | 80 => ⟨S16x2048x2048, .f32⟩
  | 81 => ⟨S_, .f32⟩
  | 82 => ⟨S16x2048, .f32⟩
  | 83 => ⟨S16x2048x2048, .f32⟩
  | 84 => ⟨S16x2048x2048, .f32⟩
  | 85 => ⟨S16x2048x2048, .f32⟩
  | 86 => ⟨S16x2048x2048, .f32⟩
  | 87 => ⟨S_, .f32⟩
  | 88 => ⟨S16x2048, .f32⟩
  | 89 => ⟨S16x2048x1, .f32⟩
  | 90 => ⟨S16x2048x1, .f32⟩
  | 91 => ⟨S_, .f32⟩
  | 92 => ⟨S16x2048, .f32⟩
  | 93 => ⟨S16x2048, .f32⟩
  | 94 => ⟨S16x2048x2048, .f32⟩
  | 95 => ⟨S16x2048x2048, .f32⟩
  | 96 => ⟨S16x2048x2048, .f32⟩
  | 97 => ⟨S_, .f32⟩
  | 98 => ⟨S16x2048x2048, .f32⟩
  | 99 => ⟨S16x2048x2048, .f32⟩
  | 100 => ⟨S_, .f32⟩
  | 101 => ⟨S16x2048x2048, .f32⟩
  | 102 => ⟨S16x2048x2048, .f32⟩
  | 103 => ⟨S16x2048x128, .f32⟩
  | 104 => ⟨S16x2048x128, .f32⟩
  | 105 => ⟨S16x2048x128, .f32⟩
  | 106 => ⟨S16x2048x128, .f32⟩
  | 107 => ⟨S16x2048x1, .f32⟩
  | 108 => ⟨S16x2048x1, .f32⟩
  | 109 => ⟨S16x128x2048, .f32⟩
  | 110 => ⟨S16x2048x128, .f32⟩
  | 111 => ⟨S16x2048x128, .f32⟩
  | 112 => ⟨S16x2048x2048, .f32⟩
  | 113 => ⟨S16x2048x2048, .f32⟩
  | 114 => ⟨S16x2048x2048, .f32⟩
  | 115 => ⟨S16x2048x2048, .f32⟩
  | 116 => ⟨S_, .f32⟩
  | 117 => ⟨S16x2048, .f32⟩
  | 118 => ⟨S16x2048x1, .f32⟩
  | 119 => ⟨S16x2048x1, .f32⟩
  | 120 => ⟨S16x2048x1, .f32⟩
  | 121 => ⟨S16x2048x2048, .f32⟩
  | 122 => ⟨S16x2048x2048, .f32⟩
  | 123 => ⟨S_, .f32⟩
  | 124 => ⟨S16x2048, .f32⟩
  | 125 => ⟨S16x2048x2048, .f32⟩
  | 126 => ⟨S16x2048x2048, .f32⟩
  | 127 => ⟨S16x2048x2048, .f32⟩
  | _ => ⟨S2048x6144, .f32⟩

abbrev hbmTy0_4 (i : Nat) : BufTy := match i % 128 with
  | 0 => ⟨S16x2048x2048, .f32⟩
  | 1 => ⟨S_, .f32⟩
  | 2 => ⟨S16x2048, .f32⟩
  | 3 => ⟨S16x2048x1, .f32⟩
  | 4 => ⟨S16x2048x1, .f32⟩
  | 5 => ⟨S_, .f32⟩
  | 6 => ⟨S16x2048, .f32⟩
  | 7 => ⟨S16x2048, .f32⟩
  | 8 => ⟨S16x2048x2048, .f32⟩
  | 9 => ⟨S16x2048x2048, .f32⟩
  | 10 => ⟨S16x2048x2048, .f32⟩
  | 11 => ⟨S_, .f32⟩
  | 12 => ⟨S16x2048x2048, .f32⟩
  | 13 => ⟨S16x2048x2048, .f32⟩
  | 14 => ⟨S_, .f32⟩
  | 15 => ⟨S16x2048x2048, .f32⟩
  | 16 => ⟨S16x2048x2048, .f32⟩
  | 17 => ⟨S16x2048x128, .f32⟩
  | 18 => ⟨S16x2048x128, .f32⟩
  | 19 => ⟨S16x2048x128, .f32⟩
  | 20 => ⟨S16x2048x128, .f32⟩
  | 21 => ⟨S2048x16x128, .f32⟩
  | 22 => ⟨S2048x1x16x128, .f32⟩
  | 23 => ⟨S_, .f32⟩
  | 24 => ⟨S2048x3x16x128, .f32⟩
  | 25 => ⟨S2048x16x128, .f32⟩
  | 26 => ⟨S2048x16x16, .f32⟩
  | 27 => ⟨S2048x16x16, .f32⟩
  | 28 => ⟨S2048x16x96, .f32⟩
  | 29 => ⟨S_, .f32⟩
  | 30 => ⟨S2048x16x128, .f32⟩
  | 31 => ⟨S2048x16x16, .f32⟩
  | 32 => ⟨S2048x16x16, .f32⟩
  | 33 => ⟨S2048x16x16, .f32⟩
  | 34 => ⟨S2048x16x16, .f32⟩
  | 35 => ⟨S2048x16x16, .f32⟩
  | 36 => ⟨S2048x16x16, .f32⟩
  | 37 => ⟨S2048x16x16, .f32⟩
  | 38 => ⟨S2048x16x16, .f32⟩
  | 39 => ⟨S2048x16x16, .f32⟩
  | 40 => ⟨S2048x16x16, .f32⟩
  | 41 => ⟨S2048x16x16, .f32⟩
  | 42 => ⟨S_, .f32⟩
  | 43 => ⟨S2048x16x128, .f32⟩
  | 44 => ⟨S2048x16x128, .f32⟩
  | 45 => ⟨S_, .f32⟩
  | 46 => ⟨S2048x16x128, .f32⟩
  | 47 => ⟨S2048x16x128, .f32⟩
  | 48 => ⟨S2048x1x16x128, .f32⟩
  | 49 => ⟨S_, .f32⟩
  | 50 => ⟨S2048x3x16x128, .f32⟩
  | 51 => ⟨S2048x3x16x128, .f32⟩
  | 52 => ⟨S2048x16x128, .f32⟩
  | 53 => ⟨S2048x16x16, .f32⟩
  | 54 => ⟨S2048x16x16, .f32⟩
  | 55 => ⟨S2048x16x96, .f32⟩
  | 56 => ⟨S_, .f32⟩
  | 57 => ⟨S2048x16x128, .f32⟩
  | 58 => ⟨S2048x16x16, .f32⟩
  | 59 => ⟨S2048x16x16, .f32⟩
  | 60 => ⟨S2048x16x16, .f32⟩
  | 61 => ⟨S2048x16x16, .f32⟩
  | 62 => ⟨S2048x16x16, .f32⟩
  | 63 => ⟨S2048x16x16, .f32⟩
  | 64 => ⟨S2048x16x16, .f32⟩
  | 65 => ⟨S2048x16x16, .f32⟩
  | 66 => ⟨S2048x16x16, .f32⟩
  | 67 => ⟨S2048x16x16, .f32⟩
  | 68 => ⟨S2048x16x16, .f32⟩
  | 69 => ⟨S_, .f32⟩
  | 70 => ⟨S2048x16x128, .f32⟩
  | 71 => ⟨S2048x16x128, .f32⟩
  | 72 => ⟨S_, .f32⟩
  | 73 => ⟨S2048x16x128, .f32⟩
  | 74 => ⟨S2048x16x128, .f32⟩
  | 75 => ⟨S2048x1x16x128, .f32⟩
  | 76 => ⟨S_, .f32⟩
  | 77 => ⟨S2048x3x16x128, .f32⟩
  | 78 => ⟨S2048x3x16x128, .f32⟩
  | 79 => ⟨S2048x6144, .f32⟩
  | 80 => ⟨S2048x3x2048, .f32⟩
  | 81 => ⟨S3x2048x2048, .f32⟩
  | 82 => ⟨S3x2048x2048, .bf16⟩
  | _ => ⟨S2048x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_c : Ref sig .tc := ⟨.hbm, 83, rfl⟩
abbrev main_v77 : Ref sig .tc := ⟨.hbm, 84, rfl⟩
abbrev main_v78 : Ref sig .tc := ⟨.hbm, 85, rfl⟩
abbrev main_c_3 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_c_4 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_c_0 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_c_1 : Ref sig .tc := ⟨.hbm, 98, rfl⟩
abbrev main_call0_v5 : Ref sig .tc := ⟨.hbm, 99, rfl⟩
abbrev main_call0_v6 : Ref sig .tc := ⟨.hbm, 100, rfl⟩
abbrev main_call0_c_2 : Ref sig .tc := ⟨.hbm, 101, rfl⟩
abbrev main_call0_v7 : Ref sig .tc := ⟨.hbm, 102, rfl⟩
abbrev main_call0_v8 : Ref sig .tc := ⟨.hbm, 103, rfl⟩
abbrev main_call0_c_3 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_v12 : Ref sig .tc := ⟨.hbm, 108, rfl⟩
abbrev main_call0_v13 : Ref sig .tc := ⟨.hbm, 109, rfl⟩
abbrev main_call0_v14 : Ref sig .tc := ⟨.hbm, 110, rfl⟩
abbrev main_v82 : Ref sig .tc := ⟨.hbm, 111, rfl⟩
abbrev main_c_5 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_6 : Ref sig .tc := ⟨.hbm, 117, rfl⟩
abbrev main_v87 : Ref sig .tc := ⟨.hbm, 118, rfl⟩
abbrev main_v88 : Ref sig .tc := ⟨.hbm, 119, rfl⟩
abbrev main_cst_7 : Ref sig .tc := ⟨.hbm, 120, rfl⟩
abbrev main_call1_v0 : Ref sig .tc := ⟨.hbm, 121, rfl⟩
abbrev main_v89_1 : Ref sig .tc := ⟨.hbm, 122, rfl⟩
abbrev main_call1_v2 : Ref sig .tc := ⟨.hbm, 123, rfl⟩
abbrev main_v89_0 : Ref sig .tc := ⟨.hbm, 124, rfl⟩
abbrev main_call1_cst : Ref sig .tc := ⟨.hbm, 125, rfl⟩
abbrev main_v89_2 : Ref sig .tc := ⟨.hbm, 126, rfl⟩
abbrev main_cst_8 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_9 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_10 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_11 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_12 : Ref sig .tc := ⟨.hbm, 159, rfl⟩
abbrev main_v118 : Ref sig .tc := ⟨.hbm, 160, rfl⟩
abbrev main_v119 : Ref sig .tc := ⟨.hbm, 161, rfl⟩
abbrev main_c_13 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_14 : Ref sig .tc := ⟨.hbm, 166, rfl⟩
abbrev main_call2_v0 : Ref sig .tc := ⟨.hbm, 167, rfl⟩
abbrev main_call2_c : Ref sig .tc := ⟨.hbm, 168, rfl⟩
abbrev main_call2_v1 : Ref sig .tc := ⟨.hbm, 169, rfl⟩
abbrev main_call2_c_0 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_c_1 : Ref sig .tc := ⟨.hbm, 174, rfl⟩
abbrev main_call2_v5 : Ref sig .tc := ⟨.hbm, 175, rfl⟩
abbrev main_call2_v6 : Ref sig .tc := ⟨.hbm, 176, rfl⟩
abbrev main_call2_c_2 : Ref sig .tc := ⟨.hbm, 177, rfl⟩
abbrev main_call2_v7 : Ref sig .tc := ⟨.hbm, 178, rfl⟩
abbrev main_call2_v8 : Ref sig .tc := ⟨.hbm, 179, rfl⟩
abbrev main_call2_c_3 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_v12 : Ref sig .tc := ⟨.hbm, 184, rfl⟩
abbrev main_call2_v13 : Ref sig .tc := ⟨.hbm, 185, rfl⟩
abbrev main_call2_v14 : Ref sig .tc := ⟨.hbm, 186, rfl⟩
abbrev main_v123 : Ref sig .tc := ⟨.hbm, 187, rfl⟩
abbrev main_c_15 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_16 : Ref sig .tc := ⟨.hbm, 193, rfl⟩
abbrev main_v128 : Ref sig .tc := ⟨.hbm, 194, rfl⟩
abbrev main_v129 : Ref sig .tc := ⟨.hbm, 195, rfl⟩
abbrev main_cst_17 : Ref sig .tc := ⟨.hbm, 196, rfl⟩
abbrev main_call3_v0 : Ref sig .tc := ⟨.hbm, 197, rfl⟩
abbrev main_v130_1 : Ref sig .tc := ⟨.hbm, 198, rfl⟩
abbrev main_call3_v2 : Ref sig .tc := ⟨.hbm, 199, rfl⟩
abbrev main_v130_0 : Ref sig .tc := ⟨.hbm, 200, rfl⟩
abbrev main_call3_cst : Ref sig .tc := ⟨.hbm, 201, rfl⟩
abbrev main_v130_2 : Ref sig .tc := ⟨.hbm, 202, rfl⟩
abbrev main_cst_18 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_19 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_20 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_cst_21 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_c_22 : Ref sig .tc := ⟨.hbm, 235, rfl⟩
abbrev main_v159 : Ref sig .tc := ⟨.hbm, 236, rfl⟩
abbrev main_v160 : Ref sig .tc := ⟨.hbm, 237, rfl⟩
abbrev main_c_23 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_c_24 : Ref sig .tc := ⟨.hbm, 242, rfl⟩
abbrev main_call4_v0 : Ref sig .tc := ⟨.hbm, 243, rfl⟩
abbrev main_call4_c : Ref sig .tc := ⟨.hbm, 244, rfl⟩
abbrev main_call4_v1 : Ref sig .tc := ⟨.hbm, 245, rfl⟩
abbrev main_call4_c_0 : Ref sig .tc := ⟨.hbm, 246, rfl⟩
abbrev main_call4_v2 : Ref sig .tc := ⟨.hbm, 247, rfl⟩
abbrev main_call4_v3 : Ref sig .tc := ⟨.hbm, 248, rfl⟩
abbrev main_call4_v4 : Ref sig .tc := ⟨.hbm, 249, rfl⟩
abbrev main_call4_c_1 : Ref sig .tc := ⟨.hbm, 250, rfl⟩
abbrev main_call4_v5 : Ref sig .tc := ⟨.hbm, 251, rfl⟩
abbrev main_call4_v6 : Ref sig .tc := ⟨.hbm, 252, rfl⟩
abbrev main_call4_c_2 : Ref sig .tc := ⟨.hbm, 253, rfl⟩
abbrev main_call4_v7 : Ref sig .tc := ⟨.hbm, 254, rfl⟩
abbrev main_call4_v8 : Ref sig .tc := ⟨.hbm, 255, rfl⟩
abbrev main_call4_c_3 : Ref sig .tc := ⟨.hbm, 256, rfl⟩
abbrev main_call4_v9 : Ref sig .tc := ⟨.hbm, 257, rfl⟩
abbrev main_call4_v10 : Ref sig .tc := ⟨.hbm, 258, rfl⟩
abbrev main_call4_v11 : Ref sig .tc := ⟨.hbm, 259, rfl⟩
abbrev main_call4_v12 : Ref sig .tc := ⟨.hbm, 260, rfl⟩
abbrev main_call4_v13 : Ref sig .tc := ⟨.hbm, 261, rfl⟩
abbrev main_call4_v14 : Ref sig .tc := ⟨.hbm, 262, rfl⟩
abbrev main_v164 : Ref sig .tc := ⟨.hbm, 263, rfl⟩
abbrev main_c_25 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_cst_26 : Ref sig .tc := ⟨.hbm, 269, rfl⟩
abbrev main_v169 : Ref sig .tc := ⟨.hbm, 270, rfl⟩
abbrev main_v170 : Ref sig .tc := ⟨.hbm, 271, rfl⟩
abbrev main_cst_27 : Ref sig .tc := ⟨.hbm, 272, rfl⟩
abbrev main_call5_v0 : Ref sig .tc := ⟨.hbm, 273, rfl⟩
abbrev main_v171_1 : Ref sig .tc := ⟨.hbm, 274, rfl⟩
abbrev main_call5_v2 : Ref sig .tc := ⟨.hbm, 275, rfl⟩
abbrev main_v171_0 : Ref sig .tc := ⟨.hbm, 276, rfl⟩
abbrev main_call5_cst : Ref sig .tc := ⟨.hbm, 277, rfl⟩
abbrev main_v171_2 : Ref sig .tc := ⟨.hbm, 278, rfl⟩
abbrev main_cst_28 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_cst_29 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_cst_30 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_31 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_cst_32 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_cst_33 : Ref sig .tc := ⟨.hbm, 314, rfl⟩
abbrev main_v202 : Ref sig .tc := ⟨.hbm, 315, rfl⟩
abbrev main_cst_34 : Ref sig .tc := ⟨.hbm, 316, rfl⟩
abbrev main_v203 : Ref sig .tc := ⟨.hbm, 317, rfl⟩
abbrev main_v204 : Ref sig .tc := ⟨.hbm, 318, rfl⟩
abbrev main_cst_35 : Ref sig .tc := ⟨.hbm, 319, rfl⟩
abbrev main_v205 : Ref sig .tc := ⟨.hbm, 320, rfl⟩
abbrev main_v206 : Ref sig .tc := ⟨.hbm, 321, rfl⟩
abbrev main_cst_36 : Ref sig .tc := ⟨.hbm, 322, rfl⟩
abbrev main_v207 : Ref sig .tc := ⟨.hbm, 323, rfl⟩
abbrev main_v208 : Ref sig .tc := ⟨.hbm, 324, rfl⟩
abbrev main_cst_37 : Ref sig .tc := ⟨.hbm, 325, rfl⟩
abbrev main_v209 : Ref sig .tc := ⟨.hbm, 326, rfl⟩
abbrev main_cst_38 : Ref sig .tc := ⟨.hbm, 327, rfl⟩
abbrev main_v210 : Ref sig .tc := ⟨.hbm, 328, rfl⟩
abbrev main_cst_39 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_cst_40 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_cst_41 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_cst_42 : Ref sig .tc := ⟨.hbm, 353, rfl⟩
abbrev main_v232 : Ref sig .tc := ⟨.hbm, 354, rfl⟩
abbrev main_cst_43 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_v237 : Ref sig .tc := ⟨.hbm, 360, rfl⟩
abbrev main_cst_44 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_cst_45 : Ref sig .tc := ⟨.hbm, 367, rfl⟩
abbrev main_v243 : Ref sig .tc := ⟨.hbm, 368, rfl⟩
abbrev main_v244 : Ref sig .tc := ⟨.hbm, 369, rfl⟩
abbrev main_v245 : Ref sig .tc := ⟨.hbm, 370, rfl⟩
abbrev main_v246 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_cst_46 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_v259 : Ref sig .tc := ⟨.hbm, 385, rfl⟩
abbrev main_v260 : Ref sig .tc := ⟨.hbm, 386, rfl⟩
abbrev main_v261 : Ref sig .tc := ⟨.hbm, 387, rfl⟩
abbrev main_cst_47 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_cst_48 : Ref sig .tc := ⟨.hbm, 393, rfl⟩
abbrev main_v266 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_v270 : Ref sig .tc := ⟨.hbm, 398, rfl⟩
abbrev main_cst_49 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_v274 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_v281 : Ref sig .tc := ⟨.hbm, 410, rfl⟩
abbrev main_v282 : Ref sig .tc := ⟨.hbm, 411, rfl⟩
abbrev main_v283 : Ref sig .tc := ⟨.hbm, 412, rfl⟩
abbrev main_v284 : Ref sig .tc := ⟨.hbm, 413, rfl⟩
abbrev main_v285 : Ref sig .tc := ⟨.hbm, 414, rfl⟩
abbrev main_v286 : Ref sig .tc := ⟨.hbm, 415, rfl⟩
abbrev main_v287 : Ref sig .tc := ⟨.hbm, 416, rfl⟩
abbrev main_v288 : Ref sig .tc := ⟨.hbm, 417, rfl⟩
abbrev main_cst_50 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_cst_51 : Ref sig .tc := ⟨.hbm, 425, rfl⟩
abbrev main_v295 : Ref sig .tc := ⟨.hbm, 426, rfl⟩
abbrev main_v296 : Ref sig .tc := ⟨.hbm, 427, rfl⟩
abbrev main_v297 : Ref sig .tc := ⟨.hbm, 428, rfl⟩
abbrev main_v298 : Ref sig .tc := ⟨.hbm, 429, rfl⟩
abbrev main_v299 : Ref sig .tc := ⟨.hbm, 430, rfl⟩
abbrev main_cst_52 : Ref sig .tc := ⟨.hbm, 431, rfl⟩
abbrev main_v300 : Ref sig .tc := ⟨.hbm, 432, rfl⟩
abbrev main_v301 : Ref sig .tc := ⟨.hbm, 433, rfl⟩
abbrev main_v302 : Ref sig .tc := ⟨.hbm, 434, rfl⟩
abbrev main_cst_53 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_call6_cst : Ref sig .tc := ⟨.hbm, 441, rfl⟩
abbrev main_call6_v0 : Ref sig .tc := ⟨.hbm, 442, rfl⟩
abbrev main_v308 : Ref sig .tc := ⟨.hbm, 443, rfl⟩
abbrev main_cst_54 : Ref sig .tc := ⟨.hbm, 444, rfl⟩
abbrev main_v309 : Ref sig .tc := ⟨.hbm, 445, rfl⟩
abbrev main_v310 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_v317 : Ref sig .tc := ⟨.hbm, 453, rfl⟩
abbrev main_v318 : Ref sig .tc := ⟨.hbm, 454, rfl⟩
abbrev main_v319 : Ref sig .tc := ⟨.hbm, 455, rfl⟩
abbrev main_v320 : Ref sig .tc := ⟨.hbm, 456, rfl⟩
abbrev main_v321 : Ref sig .tc := ⟨.hbm, 457, rfl⟩
abbrev main_cst_55 : Ref sig .tc := ⟨.hbm, 458, rfl⟩
abbrev main_v322 : Ref sig .tc := ⟨.hbm, 459, rfl⟩
abbrev main_v323 : Ref sig .tc := ⟨.hbm, 460, rfl⟩
abbrev main_v324 : Ref sig .tc := ⟨.hbm, 461, rfl⟩
abbrev main_v325 : Ref sig .tc := ⟨.hbm, 462, rfl⟩
abbrev main_v326 : Ref sig .tc := ⟨.hbm, 463, rfl⟩
abbrev main_v327 : Ref sig .tc := ⟨.hbm, 464, rfl⟩
abbrev main_cst_56 : Ref sig .tc := ⟨.hbm, 465, rfl⟩
abbrev main_v328 : Ref sig .tc := ⟨.hbm, 466, rfl⟩
abbrev main_v329 : Ref sig .tc := ⟨.hbm, 467, rfl⟩
abbrev main_v330 : Ref sig .tc := ⟨.hbm, 468, rfl⟩
abbrev main_v331 : Ref sig .tc := ⟨.hbm, 469, rfl⟩
abbrev main_v332 : Ref sig .tc := ⟨.hbm, 470, rfl⟩
abbrev main_cst_57 : Ref sig .tc := ⟨.hbm, 471, rfl⟩
abbrev main_v333 : Ref sig .tc := ⟨.hbm, 472, rfl⟩
abbrev main_v334 : Ref sig .tc := ⟨.hbm, 473, rfl⟩
abbrev main_v335 : Ref sig .tc := ⟨.hbm, 474, rfl⟩
abbrev main_cst_58 : Ref sig .tc := ⟨.hbm, 475, rfl⟩
abbrev main_v336 : Ref sig .tc := ⟨.hbm, 476, rfl⟩
abbrev main_v337 : Ref sig .tc := ⟨.hbm, 477, rfl⟩
abbrev main_v338 : Ref sig .tc := ⟨.hbm, 478, rfl⟩
abbrev main_v339 : Ref sig .tc := ⟨.hbm, 479, rfl⟩
abbrev main_v340 : Ref sig .tc := ⟨.hbm, 480, rfl⟩
abbrev main_call7_cst : Ref sig .tc := ⟨.hbm, 481, rfl⟩
abbrev main_call7_v0 : Ref sig .tc := ⟨.hbm, 482, rfl⟩
abbrev main_v341 : Ref sig .tc := ⟨.hbm, 483, rfl⟩
abbrev main_cst_59 : Ref sig .tc := ⟨.hbm, 484, rfl⟩
abbrev main_v342 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_v351 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_cst_60 : Ref sig .tc := ⟨.hbm, 500, rfl⟩
abbrev main_v357 : Ref sig .tc := ⟨.hbm, 501, rfl⟩
abbrev main_v358 : Ref sig .tc := ⟨.hbm, 502, rfl⟩
abbrev main_v359 : Ref sig .tc := ⟨.hbm, 503, rfl⟩
abbrev main_v360 : Ref sig .tc := ⟨.hbm, 504, rfl⟩
abbrev main_v361 : Ref sig .tc := ⟨.hbm, 505, rfl⟩
abbrev main_v362 : Ref sig .tc := ⟨.hbm, 506, rfl⟩
abbrev main_cst_61 : Ref sig .tc := ⟨.hbm, 507, rfl⟩
abbrev main_v363 : Ref sig .tc := ⟨.hbm, 508, rfl⟩
abbrev main_v364 : Ref sig .tc := ⟨.hbm, 509, rfl⟩
abbrev main_v365 : Ref sig .tc := ⟨.hbm, 510, rfl⟩
abbrev main_v366 : Ref sig .tc := ⟨.hbm, 511, rfl⟩
abbrev main_v367 : Ref sig .tc := ⟨.hbm, 512, rfl⟩
abbrev main_cst_62 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_cst_63 : Ref sig .tc := ⟨.hbm, 517, rfl⟩
abbrev main_v371 : Ref sig .tc := ⟨.hbm, 518, rfl⟩
abbrev main_v372 : Ref sig .tc := ⟨.hbm, 519, rfl⟩
abbrev main_v373 : Ref sig .tc := ⟨.hbm, 520, rfl⟩
abbrev main_v374 : Ref sig .tc := ⟨.hbm, 521, rfl⟩
abbrev main_v375 : Ref sig .tc := ⟨.hbm, 522, rfl⟩
abbrev main_call8_cst : Ref sig .tc := ⟨.hbm, 523, rfl⟩
abbrev main_call8_v0 : Ref sig .tc := ⟨.hbm, 524, rfl⟩
abbrev main_v376 : Ref sig .tc := ⟨.hbm, 525, rfl⟩
abbrev main_cst_64 : Ref sig .tc := ⟨.hbm, 526, rfl⟩
abbrev main_v377 : Ref sig .tc := ⟨.hbm, 527, rfl⟩
abbrev main_v378 : Ref sig .tc := ⟨.hbm, 528, rfl⟩
abbrev main_v379 : Ref sig .tc := ⟨.hbm, 529, rfl⟩
abbrev main_v380 : Ref sig .tc := ⟨.hbm, 530, rfl⟩
abbrev main_v381 : Ref sig .tc := ⟨.hbm, 531, rfl⟩
abbrev main_v382 : Ref sig .tc := ⟨.hbm, 532, rfl⟩
abbrev main_v383 : Ref sig .tc := ⟨.hbm, 533, rfl⟩
abbrev main_v384 : Ref sig .tc := ⟨.hbm, 534, rfl⟩
abbrev main_cst_65 : Ref sig .tc := ⟨.hbm, 535, rfl⟩
abbrev main_v385 : Ref sig .tc := ⟨.hbm, 536, rfl⟩
abbrev main_v386 : Ref sig .tc := ⟨.hbm, 537, rfl⟩
abbrev main_v387 : Ref sig .tc := ⟨.hbm, 538, rfl⟩
abbrev main_v388 : Ref sig .tc := ⟨.hbm, 539, rfl⟩
abbrev main_v389 : Ref sig .tc := ⟨.hbm, 540, rfl⟩
abbrev main_cst_66 : Ref sig .tc := ⟨.hbm, 541, rfl⟩
abbrev main_v390 : Ref sig .tc := ⟨.hbm, 542, rfl⟩
abbrev main_v391 : Ref sig .tc := ⟨.hbm, 543, rfl⟩
abbrev main_v392 : Ref sig .tc := ⟨.hbm, 544, rfl⟩
abbrev main_v393 : Ref sig .tc := ⟨.hbm, 545, rfl⟩
abbrev main_v394 : Ref sig .tc := ⟨.hbm, 546, rfl⟩
abbrev main_v395 : Ref sig .tc := ⟨.hbm, 547, rfl⟩
abbrev main_v396 : Ref sig .tc := ⟨.hbm, 548, rfl⟩
abbrev main_v397 : Ref sig .tc := ⟨.hbm, 549, rfl⟩
abbrev main_v398 : Ref sig .tc := ⟨.hbm, 550, rfl⟩
abbrev main_v399 : Ref sig .tc := ⟨.hbm, 551, rfl⟩
abbrev main_v400 : Ref sig .tc := ⟨.hbm, 552, rfl⟩
abbrev main_v401 : Ref sig .tc := ⟨.hbm, 553, rfl⟩
abbrev main_cst_67 : Ref sig .tc := ⟨.hbm, 554, rfl⟩
abbrev main_v402 : Ref sig .tc := ⟨.hbm, 555, rfl⟩
abbrev main_v403 : Ref sig .tc := ⟨.hbm, 556, rfl⟩
abbrev main_cst_68 : Ref sig .tc := ⟨.hbm, 557, rfl⟩
abbrev main_v404 : Ref sig .tc := ⟨.hbm, 558, rfl⟩
abbrev main_v405 : Ref sig .tc := ⟨.hbm, 559, rfl⟩
abbrev main_v406 : Ref sig .tc := ⟨.hbm, 560, rfl⟩
abbrev main_cst_69 : Ref sig .tc := ⟨.hbm, 561, rfl⟩
abbrev main_v407 : Ref sig .tc := ⟨.hbm, 562, rfl⟩
abbrev main_v408 : Ref sig .tc := ⟨.hbm, 563, rfl⟩
abbrev main_v409 : Ref sig .tc := ⟨.hbm, 564, rfl⟩
abbrev main_v410 : Ref sig .tc := ⟨.hbm, 565, rfl⟩
abbrev main_v411 : Ref sig .tc := ⟨.hbm, 566, rfl⟩
abbrev main_v412 : Ref sig .tc := ⟨.hbm, 567, rfl⟩
abbrev main_cst_70 : Ref sig .tc := ⟨.hbm, 568, rfl⟩
abbrev main_v413 : Ref sig .tc := ⟨.hbm, 569, rfl⟩
abbrev main_v414 : Ref sig .tc := ⟨.hbm, 570, rfl⟩
abbrev main_v415 : Ref sig .tc := ⟨.hbm, 571, rfl⟩
abbrev main_v416 : Ref sig .tc := ⟨.hbm, 572, rfl⟩
abbrev main_v417 : Ref sig .tc := ⟨.hbm, 573, rfl⟩
abbrev main_v418 : Ref sig .tc := ⟨.hbm, 574, rfl⟩
abbrev main_v419 : Ref sig .tc := ⟨.hbm, 575, rfl⟩
abbrev main_v420 : Ref sig .tc := ⟨.hbm, 576, rfl⟩
abbrev main_v421 : Ref sig .tc := ⟨.hbm, 577, rfl⟩
abbrev main_v422 : Ref sig .tc := ⟨.hbm, 578, rfl⟩
abbrev main_v423 : Ref sig .tc := ⟨.hbm, 579, rfl⟩
abbrev main_v424 : Ref sig .tc := ⟨.hbm, 580, rfl⟩
abbrev main_cst_71 : Ref sig .tc := ⟨.hbm, 581, rfl⟩
abbrev main_v425 : Ref sig .tc := ⟨.hbm, 582, rfl⟩
abbrev main_v426 : Ref sig .tc := ⟨.hbm, 583, rfl⟩
abbrev main_cst_72 : Ref sig .tc := ⟨.hbm, 584, rfl⟩
abbrev main_v427 : Ref sig .tc := ⟨.hbm, 585, rfl⟩
abbrev main_v428 : Ref sig .tc := ⟨.hbm, 586, rfl⟩
abbrev main_v429 : Ref sig .tc := ⟨.hbm, 587, rfl⟩
abbrev main_cst_73 : Ref sig .tc := ⟨.hbm, 588, rfl⟩
abbrev main_v430 : Ref sig .tc := ⟨.hbm, 589, rfl⟩
abbrev main_v431 : Ref sig .tc := ⟨.hbm, 590, rfl⟩
abbrev main_v432 : Ref sig .tc := ⟨.hbm, 591, rfl⟩
abbrev main_v433 : Ref sig .tc := ⟨.hbm, 592, rfl⟩
abbrev main_v434 : Ref sig .tc := ⟨.hbm, 593, rfl⟩
abbrev main_v435 : Ref sig .tc := ⟨.hbm, 594, rfl⟩

abbrev nD : Nat := 1
abbrev τ : Topo := Topo.v7x

variable {F : FTy → Type} [FloatOps F]
-- ==== DilKernel.lean ====
abbrev S2048x6144 : Shape := ⟨2, ![2048, 6144]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S512 : Shape := ⟨1, ![512]⟩
abbrev S512x1 : Shape := ⟨2, ![512, 1]⟩
abbrev S256 : Shape := ⟨1, ![256]⟩
abbrev S1x256 : Shape := ⟨2, ![1, 256]⟩
abbrev S512x256 : Shape := ⟨2, ![512, 256]⟩
abbrev S1x512x256 : Shape := ⟨3, ![1, 512, 256]⟩
abbrev S5x512x256 : Shape := ⟨3, ![5, 512, 256]⟩
abbrev S2048x2048 : Shape := ⟨2, ![2048, 2048]⟩
abbrev S512x128 : Shape := ⟨2, ![512, 128]⟩
abbrev S256x128 : Shape := ⟨2, ![256, 128]⟩

abbrev nBuf : Space → Nat
  | .hbm => 463
  | .vmem => 18
  | .smem => 0
  | _ => 0

abbrev hbmTy0_0 (i : Nat) : BufTy := match i % 128 with
  | 0 => ⟨S2048x6144, .f32⟩
  | 1 => ⟨S16, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S2048, .f32⟩
  | 10 => ⟨S2048x1, .f32⟩
  | 11 => ⟨S1x16, .f32⟩
  | 12 => ⟨S2048x16, .f32⟩
  | 13 => ⟨S2048x16, .f32⟩
  | 14 => ⟨S2048x16, .f32⟩
  | 15 => ⟨S2048x16, .f32⟩
  | 16 => ⟨S2048x16, .f32⟩
  | 17 => ⟨S_, .f32⟩
  | 18 => ⟨S2048x96, .f32⟩
  | 19 => ⟨S2048x128, .f32⟩
  | 20 => ⟨S2048x16, .f32⟩
  | 21 => ⟨S_, .f32⟩
  | 22 => ⟨S2048x96, .f32⟩
  | 23 => ⟨S2048x128, .f32⟩
  | 24 => ⟨S512, .i32⟩
  | 25 => ⟨S512x1, .i32⟩
  | 26 => ⟨S256, .i32⟩
  | 27 => ⟨S1x256, .i32⟩
  | 28 => ⟨S_, .i32⟩
  | 29 => ⟨S512x1, .i32⟩
  | 30 => ⟨S512x1, .i32⟩
  | 31 => ⟨S512x256, .i32⟩
  | 32 => ⟨S512x256, .i32⟩
  | 33 => ⟨S512x256, .i32⟩
  | 34 => ⟨S_, .f32⟩
  | 35 => ⟨S512x256, .f32⟩
  | 36 => ⟨S_, .i32⟩
  | 37 => ⟨S512x256, .i32⟩
  | 38 => ⟨S512x256, .i1⟩
  | 39 => ⟨S_, .i32⟩
  | 40 => ⟨S512x256, .i32⟩
  | 41 => ⟨S512x256, .i1⟩
  | 42 => ⟨S512x256, .i1⟩
  | 43 => ⟨S_, .i32⟩
  | 44 => ⟨S512x256, .i32⟩
  | 45 => ⟨S512x256, .i32⟩
  | 46 => ⟨S_, .i32⟩
  | 47 => ⟨S512x256, .i32⟩
  | 48 => ⟨S512x256, .i1⟩
  | 49 => ⟨S512x256, .i1⟩
  | 50 => ⟨S_, .f32⟩
  | 51 => ⟨S_, .f32⟩
  | 52 => ⟨S512x256, .f32⟩
  | 53 => ⟨S512x256, .f32⟩
  | 54 => ⟨S512x256, .f32⟩
  | 55 => ⟨S512x256, .f32⟩
  | 56 => ⟨S512x256, .f32⟩
  | 57 => ⟨S_, .i32⟩
  | 58 => ⟨S512x256, .i32⟩
  | 59 => ⟨S512x256, .i1⟩
  | 60 => ⟨S_, .i32⟩
  | 61 => ⟨S512x256, .i32⟩
  | 62 => ⟨S512x256, .i1⟩
  | 63 => ⟨S512x256, .i1⟩
  | 64 => ⟨S_, .i32⟩
  | 65 => ⟨S512x256, .i32⟩
  | 66 => ⟨S512x256, .i32⟩
  | 67 => ⟨S_, .i32⟩
  | 68 => ⟨S512x256, .i32⟩
  | 69 => ⟨S512x256, .i1⟩
  | 70 => ⟨S512x256, .i1⟩
  | 71 => ⟨S_, .f32⟩
  | 72 => ⟨S_, .f32⟩
  | 73 => ⟨S512x256, .f32⟩
  | 74 => ⟨S512x256, .f32⟩
  | 75 => ⟨S512x256, .f32⟩
  | 76 => ⟨S512x256, .f32⟩
  | 77 => ⟨S512x256, .f32⟩
  | 78 => ⟨S_, .i32⟩
  | 79 => ⟨S512x256, .i32⟩
  | 80 => ⟨S512x256, .i1⟩
  | 81 => ⟨S_, .i32⟩
  | 82 => ⟨S512x256, .i32⟩
  | 83 => ⟨S512x256, .i1⟩
  | 84 => ⟨S512x256, .i1⟩
  | 85 => ⟨S_, .i32⟩
  | 86 => ⟨S512x256, .i32⟩
  | 87 => ⟨S512x256, .i32⟩
  | 88 => ⟨S_, .i32⟩
  | 89 => ⟨S512x256, .i32⟩
  | 90 => ⟨S512x256, .i1⟩
  | 91 => ⟨S512x256, .i1⟩
  | 92 => ⟨S_, .f32⟩
  | 93 => ⟨S_, .f32⟩
  | 94 => ⟨S512x256, .f32⟩
  | 95 => ⟨S512x256, .f32⟩
  | 96 => ⟨S512x256, .f32⟩
  | 97 => ⟨S512x256, .f32⟩
  | 98 => ⟨S512x256, .f32⟩
  | 99 => ⟨S_, .f32⟩
  | 100 => ⟨S512x256, .f32⟩
  | 101 => ⟨S512x256, .i1⟩
  | 102 => ⟨S_, .f32⟩
  | 103 => ⟨S512x256, .f32⟩
  | 104 => ⟨S512x256, .f32⟩
  | 105 => ⟨S512x256, .f32⟩
  | 106 => ⟨S_, .f32⟩
  | 107 => ⟨S_, .f32⟩
  | 108 => ⟨S512x256, .f32⟩
  | 109 => ⟨S512x256, .f32⟩
  | 110 => ⟨S512, .i32⟩
  | 111 => ⟨S512x1, .i32⟩
  | 112 => ⟨S256, .i32⟩
  | 113 => ⟨S1x256, .i32⟩
  | 114 => ⟨S_, .i32⟩
  | 115 => ⟨S512x1, .i32⟩
  | 116 => ⟨S512x1, .i32⟩
  | 117 => ⟨S512x256, .i32⟩
  | 118 => ⟨S512x256, .i32⟩
  | 119 => ⟨S512x256, .i32⟩
  | 120 => ⟨S_, .f32⟩
  | 121 => ⟨S512x256, .f32⟩
  | 122 => ⟨S_, .i32⟩
  | 123 => ⟨S512x256, .i32⟩
  | 124 => ⟨S512x256, .i1⟩
  | 125 => ⟨S_, .i32⟩
  | 126 => ⟨S512x256, .i32⟩
  | 127 => ⟨S512x256, .i1⟩
  | _ => ⟨S2048x6144, .f32⟩

abbrev hbmTy0_1 (i : Nat) : BufTy := match i % 128 with
  | 0 => ⟨S512x256, .i1⟩
  | 1 => ⟨S_, .i32⟩
  | 2 => ⟨S512x256, .i32⟩
  | 3 => ⟨S512x256, .i32⟩
  | 4 => ⟨S_, .i32⟩
  | 5 => ⟨S512x256, .i32⟩
  | 6 => ⟨S512x256, .i1⟩
  | 7 => ⟨S512x256, .i1⟩
  | 8 => ⟨S_, .f32⟩
  | 9 => ⟨S_, .f32⟩
  | 10 => ⟨S512x256, .f32⟩
  | 11 => ⟨S512x256, .f32⟩
  | 12 => ⟨S512x256, .f32⟩
  | 13 => ⟨S512x256, .f32⟩
  | 14 => ⟨S512x256, .f32⟩
  | 15 => ⟨S_, .i32⟩
  | 16 => ⟨S512x256, .i32⟩
  | 17 => ⟨S512x256, .i1⟩
  | 18 => ⟨S_, .i32⟩
  | 19 => ⟨S512x256, .i32⟩
  | 20 => ⟨S512x256, .i1⟩
  | 21 => ⟨S512x256, .i1⟩
  | 22 => ⟨S_, .i32⟩
  | 23 => ⟨S512x256, .i32⟩
  | 24 => ⟨S512x256, .i32⟩
  | 25 => ⟨S_, .i32⟩
  | 26 => ⟨S512x256, .i32⟩
  | 27 => ⟨S512x256, .i1⟩
  | 28 => ⟨S512x256, .i1⟩
  | 29 => ⟨S_, .f32⟩
  | 30 => ⟨S_, .f32⟩
  | 31 => ⟨S512x256, .f32⟩
  | 32 => ⟨S512x256, .f32⟩
  | 33 => ⟨S512x256, .f32⟩
  | 34 => ⟨S512x256, .f32⟩
  | 35 => ⟨S512x256, .f32⟩
  | 36 => ⟨S_, .i32⟩
  | 37 => ⟨S512x256, .i32⟩
  | 38 => ⟨S512x256, .i1⟩
  | 39 => ⟨S_, .i32⟩
  | 40 => ⟨S512x256, .i32⟩
  | 41 => ⟨S512x256, .i1⟩
  | 42 => ⟨S512x256, .i1⟩
  | 43 => ⟨S_, .i32⟩
  | 44 => ⟨S512x256, .i32⟩
  | 45 => ⟨S512x256, .i32⟩
  | 46 => ⟨S_, .i32⟩
  | 47 => ⟨S512x256, .i32⟩
  | 48 => ⟨S512x256, .i1⟩
  | 49 => ⟨S512x256, .i1⟩
  | 50 => ⟨S_, .f32⟩
  | 51 => ⟨S_, .f32⟩
  | 52 => ⟨S512x256, .f32⟩
  | 53 => ⟨S512x256, .f32⟩
  | 54 => ⟨S512x256, .f32⟩
  | 55 => ⟨S512x256, .f32⟩
  | 56 => ⟨S512x256, .f32⟩
  | 57 => ⟨S_, .f32⟩
  | 58 => ⟨S512x256, .f32⟩
  | 59 => ⟨S512x256, .i1⟩
  | 60 => ⟨S_, .f32⟩
  | 61 => ⟨S512x256, .f32⟩
  | 62 => ⟨S512x256, .f32⟩
  | 63 => ⟨S512x256, .f32⟩
  | 64 => ⟨S_, .f32⟩
  | 65 => ⟨S_, .f32⟩
  | 66 => ⟨S512x256, .f32⟩
  | 67 => ⟨S512x256, .f32⟩
  | 68 => ⟨S512, .i32⟩
  | 69 => ⟨S512x1, .i32⟩
  | 70 => ⟨S256, .i32⟩
  | 71 => ⟨S1x256, .i32⟩
  | 72 => ⟨S_, .i32⟩
  | 73 => ⟨S512x1, .i32⟩
  | 74 => ⟨S512x1, .i32⟩
  | 75 => ⟨S512x256, .i32⟩
  | 76 => ⟨S512x256, .i32⟩
  | 77 => ⟨S512x256, .i32⟩
  | 78 => ⟨S_, .f32⟩
  | 79 => ⟨S512x256, .f32⟩
  | 80 => ⟨S_, .i32⟩
  | 81 => ⟨S512x256, .i32⟩
  | 82 => ⟨S512x256, .i1⟩
  | 83 => ⟨S_, .i32⟩
  | 84 => ⟨S512x256, .i32⟩
  | 85 => ⟨S512x256, .i1⟩
  | 86 => ⟨S512x256, .i1⟩
  | 87 => ⟨S_, .i32⟩
  | 88 => ⟨S512x256, .i32⟩
  | 89 => ⟨S512x256, .i32⟩
  | 90 => ⟨S_, .i32⟩
  | 91 => ⟨S512x256, .i32⟩
  | 92 => ⟨S512x256, .i1⟩
  | 93 => ⟨S512x256, .i1⟩
  | 94 => ⟨S_, .f32⟩
  | 95 => ⟨S_, .f32⟩
  | 96 => ⟨S512x256, .f32⟩
  | 97 => ⟨S512x256, .f32⟩
  | 98 => ⟨S512x256, .f32⟩
  | 99 => ⟨S512x256, .f32⟩
  | 100 => ⟨S512x256, .f32⟩
  | 101 => ⟨S_, .i32⟩
  | 102 => ⟨S512x256, .i32⟩
  | 103 => ⟨S512x256, .i1⟩
  | 104 => ⟨S_, .i32⟩
  | 105 => ⟨S512x256, .i32⟩
  | 106 => ⟨S512x256, .i1⟩
  | 107 => ⟨S512x256, .i1⟩
  | 108 => ⟨S_, .i32⟩
  | 109 => ⟨S512x256, .i32⟩
  | 110 => ⟨S512x256, .i32⟩
  | 111 => ⟨S_, .i32⟩
  | 112 => ⟨S512x256, .i32⟩
  | 113 => ⟨S512x256, .i1⟩
  | 114 => ⟨S512x256, .i1⟩
  | 115 => ⟨S_, .f32⟩
  | 116 => ⟨S_, .f32⟩
  | 117 => ⟨S512x256, .f32⟩
  | 118 => ⟨S512x256, .f32⟩
  | 119 => ⟨S512x256, .f32⟩
  | 120 => ⟨S512x256, .f32⟩
  | 121 => ⟨S512x256, .f32⟩
  | 122 => ⟨S_, .i32⟩
  | 123 => ⟨S512x256, .i32⟩
  | 124 => ⟨S512x256, .i1⟩
  | 125 => ⟨S_, .i32⟩
  | 126 => ⟨S512x256, .i32⟩
  | 127 => ⟨S512x256, .i1⟩
  | _ => ⟨S2048x6144, .f32⟩

abbrev hbmTy0_2 (i : Nat) : BufTy := match i % 128 with
  | 0 => ⟨S512x256, .i1⟩
  | 1 => ⟨S_, .i32⟩
  | 2 => ⟨S512x256, .i32⟩
  | 3 => ⟨S512x256, .i32⟩
  | 4 => ⟨S_, .i32⟩
  | 5 => ⟨S512x256, .i32⟩
  | 6 => ⟨S512x256, .i1⟩
  | 7 => ⟨S512x256, .i1⟩
  | 8 => ⟨S_, .f32⟩
  | 9 => ⟨S_, .f32⟩
  | 10 => ⟨S512x256, .f32⟩
  | 11 => ⟨S512x256, .f32⟩
  | 12 => ⟨S512x256, .f32⟩
  | 13 => ⟨S512x256, .f32⟩
  | 14 => ⟨S512x256, .f32⟩
  | 15 => ⟨S_, .f32⟩
  | 16 => ⟨S512x256, .f32⟩
  | 17 => ⟨S512x256, .i1⟩
  | 18 => ⟨S_, .f32⟩
  | 19 => ⟨S512x256, .f32⟩
  | 20 => ⟨S512x256, .f32⟩
  | 21 => ⟨S512x256, .f32⟩
  | 22 => ⟨S_, .f32⟩
  | 23 => ⟨S_, .f32⟩
  | 24 => ⟨S512x256, .f32⟩
  | 25 => ⟨S512x256, .f32⟩
  | 26 => ⟨S512, .i32⟩
  | 27 => ⟨S512x1, .i32⟩
  | 28 => ⟨S256, .i32⟩
  | 29 => ⟨S1x256, .i32⟩
  | 30 => ⟨S_, .i32⟩
  | 31 => ⟨S512x1, .i32⟩
  | 32 => ⟨S512x1, .i32⟩
  | 33 => ⟨S512x256, .i32⟩
  | 34 => ⟨S512x256, .i32⟩
  | 35 => ⟨S512x256, .i32⟩
  | 36 => ⟨S_, .f32⟩
  | 37 => ⟨S512x256, .f32⟩
  | 38 => ⟨S_, .i32⟩
  | 39 => ⟨S512x256, .i32⟩
  | 40 => ⟨S512x256, .i1⟩
  | 41 => ⟨S_, .i32⟩
  | 42 => ⟨S512x256, .i32⟩
  | 43 => ⟨S512x256, .i1⟩
  | 44 => ⟨S512x256, .i1⟩
  | 45 => ⟨S_, .i32⟩
  | 46 => ⟨S512x256, .i32⟩
  | 47 => ⟨S512x256, .i32⟩
  | 48 => ⟨S_, .i32⟩
  | 49 => ⟨S512x256, .i32⟩
  | 50 => ⟨S512x256, .i1⟩
  | 51 => ⟨S512x256, .i1⟩
  | 52 => ⟨S_, .f32⟩
  | 53 => ⟨S_, .f32⟩
  | 54 => ⟨S512x256, .f32⟩
  | 55 => ⟨S512x256, .f32⟩
  | 56 => ⟨S512x256, .f32⟩
  | 57 => ⟨S512x256, .f32⟩
  | 58 => ⟨S512x256, .f32⟩
  | 59 => ⟨S_, .i32⟩
  | 60 => ⟨S512x256, .i32⟩
  | 61 => ⟨S512x256, .i1⟩
  | 62 => ⟨S_, .i32⟩
  | 63 => ⟨S512x256, .i32⟩
  | 64 => ⟨S512x256, .i1⟩
  | 65 => ⟨S512x256, .i1⟩
  | 66 => ⟨S_, .i32⟩
  | 67 => ⟨S512x256, .i32⟩
  | 68 => ⟨S512x256, .i32⟩
  | 69 => ⟨S_, .i32⟩
  | 70 => ⟨S512x256, .i32⟩
  | 71 => ⟨S512x256, .i1⟩
  | 72 => ⟨S512x256, .i1⟩
  | 73 => ⟨S_, .f32⟩
  | 74 => ⟨S_, .f32⟩
  | 75 => ⟨S512x256, .f32⟩
  | 76 => ⟨S512x256, .f32⟩
  | 77 => ⟨S512x256, .f32⟩
  | 78 => ⟨S512x256, .f32⟩
  | 79 => ⟨S512x256, .f32⟩
  | 80 => ⟨S_, .i32⟩
  | 81 => ⟨S512x256, .i32⟩
  | 82 => ⟨S512x256, .i1⟩
  | 83 => ⟨S_, .i32⟩
  | 84 => ⟨S512x256, .i32⟩
  | 85 => ⟨S512x256, .i1⟩
  | 86 => ⟨S512x256, .i1⟩
  | 87 => ⟨S_, .i32⟩
  | 88 => ⟨S512x256, .i32⟩
  | 89 => ⟨S512x256, .i32⟩
  | 90 => ⟨S_, .i32⟩
  | 91 => ⟨S512x256, .i32⟩
  | 92 => ⟨S512x256, .i1⟩
  | 93 => ⟨S512x256, .i1⟩
  | 94 => ⟨S_, .f32⟩
  | 95 => ⟨S_, .f32⟩
  | 96 => ⟨S512x256, .f32⟩
  | 97 => ⟨S512x256, .f32⟩
  | 98 => ⟨S512x256, .f32⟩
  | 99 => ⟨S512x256, .f32⟩
  | 100 => ⟨S512x256, .f32⟩
  | 101 => ⟨S_, .f32⟩
  | 102 => ⟨S512x256, .f32⟩
  | 103 => ⟨S512x256, .i1⟩
  | 104 => ⟨S_, .f32⟩
  | 105 => ⟨S512x256, .f32⟩
  | 106 => ⟨S512x256, .f32⟩
  | 107 => ⟨S512x256, .f32⟩
  | 108 => ⟨S_, .f32⟩
  | 109 => ⟨S_, .f32⟩
  | 110 => ⟨S512x256, .f32⟩
  | 111 => ⟨S512x256, .f32⟩
  | 112 => ⟨S512, .i32⟩
  | 113 => ⟨S512x1, .i32⟩
  | 114 => ⟨S256, .i32⟩
  | 115 => ⟨S1x256, .i32⟩
  | 116 => ⟨S_, .i32⟩
  | 117 => ⟨S512x1, .i32⟩
  | 118 => ⟨S512x1, .i32⟩
  | 119 => ⟨S512x256, .i32⟩
  | 120 => ⟨S512x256, .i32⟩
  | 121 => ⟨S512x256, .i32⟩
  | 122 => ⟨S_, .f32⟩
  | 123 => ⟨S512x256, .f32⟩
  | 124 => ⟨S_, .i32⟩
  | 125 => ⟨S512x256, .i32⟩
  | 126 => ⟨S512x256, .i1⟩
  | 127 => ⟨S_, .i32⟩
  | _ => ⟨S2048x6144, .f32⟩

abbrev hbmTy0_3 (i : Nat) : BufTy := match i % 128 with
  | 0 => ⟨S512x256, .i32⟩
  | 1 => ⟨S512x256, .i1⟩
  | 2 => ⟨S512x256, .i1⟩
  | 3 => ⟨S_, .i32⟩
  | 4 => ⟨S512x256, .i32⟩
  | 5 => ⟨S512x256, .i32⟩
  | 6 => ⟨S_, .i32⟩
  | 7 => ⟨S512x256, .i32⟩
  | 8 => ⟨S512x256, .i1⟩
  | 9 => ⟨S512x256, .i1⟩
  | 10 => ⟨S_, .f32⟩
  | 11 => ⟨S_, .f32⟩
  | 12 => ⟨S512x256, .f32⟩
  | 13 => ⟨S512x256, .f32⟩
  | 14 => ⟨S512x256, .f32⟩
  | 15 => ⟨S512x256, .f32⟩
  | 16 => ⟨S512x256, .f32⟩
  | 17 => ⟨S_, .i32⟩
  | 18 => ⟨S512x256, .i32⟩
  | 19 => ⟨S512x256, .i1⟩
  | 20 => ⟨S_, .i32⟩
  | 21 => ⟨S512x256, .i32⟩
  | 22 => ⟨S512x256, .i1⟩
  | 23 => ⟨S512x256, .i1⟩
  | 24 => ⟨S_, .i32⟩
  | 25 => ⟨S512x256, .i32⟩
  | 26 => ⟨S512x256, .i32⟩
  | 27 => ⟨S_, .i32⟩
  | 28 => ⟨S512x256, .i32⟩
  | 29 => ⟨S512x256, .i1⟩
  | 30 => ⟨S512x256, .i1⟩
  | 31 => ⟨S_, .f32⟩
  | 32 => ⟨S_, .f32⟩
  | 33 => ⟨S512x256, .f32⟩
  | 34 => ⟨S512x256, .f32⟩
  | 35 => ⟨S512x256, .f32⟩
  | 36 => ⟨S512x256, .f32⟩
  | 37 => ⟨S512x256, .f32⟩
  | 38 => ⟨S_, .i32⟩
  | 39 => ⟨S512x256, .i32⟩
  | 40 => ⟨S512x256, .i1⟩
  | 41 => ⟨S_, .i32⟩
  | 42 => ⟨S512x256, .i32⟩
  | 43 => ⟨S512x256, .i1⟩
  | 44 => ⟨S512x256, .i1⟩
  | 45 => ⟨S_, .i32⟩
  | 46 => ⟨S512x256, .i32⟩
  | 47 => ⟨S512x256, .i32⟩
  | 48 => ⟨S_, .i32⟩
  | 49 => ⟨S512x256, .i32⟩
  | 50 => ⟨S512x256, .i1⟩
  | 51 => ⟨S512x256, .i1⟩
  | 52 => ⟨S_, .f32⟩
  | 53 => ⟨S_, .f32⟩
  | 54 => ⟨S512x256, .f32⟩
  | 55 => ⟨S512x256, .f32⟩
  | 56 => ⟨S512x256, .f32⟩
  | 57 => ⟨S512x256, .f32⟩
  | 58 => ⟨S512x256, .f32⟩
  | 59 => ⟨S_, .f32⟩
  | 60 => ⟨S512x256, .f32⟩
  | 61 => ⟨S512x256, .i1⟩
  | 62 => ⟨S_, .f32⟩
  | 63 => ⟨S512x256, .f32⟩
  | 64 => ⟨S512x256, .f32⟩
  | 65 => ⟨S512x256, .f32⟩
  | 66 => ⟨S_, .f32⟩
  | 67 => ⟨S_, .f32⟩
  | 68 => ⟨S512x256, .f32⟩
  | 69 => ⟨S512x256, .f32⟩
  | 70 => ⟨S1x512x256, .f32⟩
  | 71 => ⟨S1x512x256, .f32⟩
  | 72 => ⟨S1x512x256, .f32⟩
  | 73 => ⟨S1x512x256, .f32⟩
  | 74 => ⟨S1x512x256, .f32⟩
  | 75 => ⟨S5x512x256, .f32⟩
  | 76 => ⟨S2048x2048, .f32⟩
  | 77 => ⟨S2048x2048, .bf16⟩
  | 78 => ⟨S2048x2048, .f32⟩
  | _ => ⟨S2048x6144, .f32⟩

abbrev hbmTy (i : Nat) : BufTy := match i / 128 with
  | 0 => hbmTy0_0 i
  | 1 => hbmTy0_1 i
  | 2 => hbmTy0_2 i
  | 3 => hbmTy0_3 i
  | _ => ⟨S2048x6144, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S5x512x256, .f32⟩
  | .local _ .vmem, ⟨9, _⟩ => ⟨S2048x128, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .f32⟩
  | .local _ .vmem, ⟨14, _⟩ => ⟨S2048x128, .f32⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_c_4 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_6 : Ref sig .tc := ⟨.hbm, 43, rfl⟩
abbrev main_v34 : Ref sig .tc := ⟨.hbm, 44, rfl⟩
abbrev main_v35 : Ref sig .tc := ⟨.hbm, 45, rfl⟩
abbrev main_c_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_cst_9 : Ref sig .tc := ⟨.hbm, 51, rfl⟩
abbrev main_call0_v0 : Ref sig .tc := ⟨.hbm, 52, rfl⟩
abbrev main_call0_v1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_cst_15 : Ref sig .tc := ⟨.hbm, 72, rfl⟩
abbrev main_call1_v0 : Ref sig .tc := ⟨.hbm, 73, rfl⟩
abbrev main_call1_v1 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_16 : Ref sig .tc := ⟨.hbm, 78, rfl⟩
abbrev main_v55 : Ref sig .tc := ⟨.hbm, 79, rfl⟩
abbrev main_v56 : Ref sig .tc := ⟨.hbm, 80, rfl⟩
abbrev main_c_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_18 : Ref sig .tc := ⟨.hbm, 85, rfl⟩
abbrev main_v60 : Ref sig .tc := ⟨.hbm, 86, rfl⟩
abbrev main_v61 : Ref sig .tc := ⟨.hbm, 87, rfl⟩
abbrev main_c_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_cst_21 : Ref sig .tc := ⟨.hbm, 93, rfl⟩
abbrev main_call2_v0 : Ref sig .tc := ⟨.hbm, 94, rfl⟩
abbrev main_call2_v1 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_22 : Ref sig .tc := ⟨.hbm, 99, rfl⟩
abbrev main_v68 : Ref sig .tc := ⟨.hbm, 100, rfl⟩
abbrev main_v69 : Ref sig .tc := ⟨.hbm, 101, rfl⟩
abbrev main_cst_23 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_24 : Ref sig .tc := ⟨.hbm, 106, rfl⟩
abbrev main_call3_v0 : Ref sig .tc := ⟨.hbm, 107, rfl⟩
abbrev main_call3_v1 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_25 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_26 : Ref sig .tc := ⟨.hbm, 120, rfl⟩
abbrev main_v83 : Ref sig .tc := ⟨.hbm, 121, rfl⟩
abbrev main_c_27 : Ref sig .tc := ⟨.hbm, 122, rfl⟩
abbrev main_v84 : Ref sig .tc := ⟨.hbm, 123, rfl⟩
abbrev main_v85 : Ref sig .tc := ⟨.hbm, 124, rfl⟩
abbrev main_c_28 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_29 : Ref sig .tc := ⟨.hbm, 129, rfl⟩
abbrev main_v89 : Ref sig .tc := ⟨.hbm, 130, rfl⟩
abbrev main_v90 : Ref sig .tc := ⟨.hbm, 131, rfl⟩
abbrev main_c_30 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_31 : Ref sig .tc := ⟨.hbm, 136, rfl⟩
abbrev main_cst_32 : Ref sig .tc := ⟨.hbm, 137, rfl⟩
abbrev main_call4_v0 : Ref sig .tc := ⟨.hbm, 138, rfl⟩
abbrev main_call4_v1 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_33 : Ref sig .tc := ⟨.hbm, 143, rfl⟩
abbrev main_v97 : Ref sig .tc := ⟨.hbm, 144, rfl⟩
abbrev main_v98 : Ref sig .tc := ⟨.hbm, 145, rfl⟩
abbrev main_c_34 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_35 : Ref sig .tc := ⟨.hbm, 150, rfl⟩
abbrev main_v102 : Ref sig .tc := ⟨.hbm, 151, rfl⟩
abbrev main_v103 : Ref sig .tc := ⟨.hbm, 152, rfl⟩
abbrev main_c_36 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_37 : Ref sig .tc := ⟨.hbm, 157, rfl⟩
abbrev main_cst_38 : Ref sig .tc := ⟨.hbm, 158, rfl⟩
abbrev main_call5_v0 : Ref sig .tc := ⟨.hbm, 159, rfl⟩
abbrev main_call5_v1 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_39 : Ref sig .tc := ⟨.hbm, 164, rfl⟩
abbrev main_v110 : Ref sig .tc := ⟨.hbm, 165, rfl⟩
abbrev main_v111 : Ref sig .tc := ⟨.hbm, 166, rfl⟩
abbrev main_c_40 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_41 : Ref sig .tc := ⟨.hbm, 171, rfl⟩
abbrev main_v115 : Ref sig .tc := ⟨.hbm, 172, rfl⟩
abbrev main_v116 : Ref sig .tc := ⟨.hbm, 173, rfl⟩
abbrev main_c_42 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_43 : Ref sig .tc := ⟨.hbm, 178, rfl⟩
abbrev main_cst_44 : Ref sig .tc := ⟨.hbm, 179, rfl⟩
abbrev main_call6_v0 : Ref sig .tc := ⟨.hbm, 180, rfl⟩
abbrev main_call6_v1 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_45 : Ref sig .tc := ⟨.hbm, 185, rfl⟩
abbrev main_v123 : Ref sig .tc := ⟨.hbm, 186, rfl⟩
abbrev main_v124 : Ref sig .tc := ⟨.hbm, 187, rfl⟩
abbrev main_cst_46 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_47 : Ref sig .tc := ⟨.hbm, 192, rfl⟩
abbrev main_call7_v0 : Ref sig .tc := ⟨.hbm, 193, rfl⟩
abbrev main_call7_v1 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_48 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_49 : Ref sig .tc := ⟨.hbm, 206, rfl⟩
abbrev main_v138 : Ref sig .tc := ⟨.hbm, 207, rfl⟩
abbrev main_c_50 : Ref sig .tc := ⟨.hbm, 208, rfl⟩
abbrev main_v139 : Ref sig .tc := ⟨.hbm, 209, rfl⟩
abbrev main_v140 : Ref sig .tc := ⟨.hbm, 210, rfl⟩
abbrev main_c_51 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_c_52 : Ref sig .tc := ⟨.hbm, 215, rfl⟩
abbrev main_v144 : Ref sig .tc := ⟨.hbm, 216, rfl⟩
abbrev main_v145 : Ref sig .tc := ⟨.hbm, 217, rfl⟩
abbrev main_c_53 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_cst_54 : Ref sig .tc := ⟨.hbm, 222, rfl⟩
abbrev main_cst_55 : Ref sig .tc := ⟨.hbm, 223, rfl⟩
abbrev main_call8_v0 : Ref sig .tc := ⟨.hbm, 224, rfl⟩
abbrev main_call8_v1 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_c_56 : Ref sig .tc := ⟨.hbm, 229, rfl⟩
abbrev main_v152 : Ref sig .tc := ⟨.hbm, 230, rfl⟩
abbrev main_v153 : Ref sig .tc := ⟨.hbm, 231, rfl⟩
abbrev main_c_57 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_c_58 : Ref sig .tc := ⟨.hbm, 236, rfl⟩
abbrev main_v157 : Ref sig .tc := ⟨.hbm, 237, rfl⟩
abbrev main_v158 : Ref sig .tc := ⟨.hbm, 238, rfl⟩
abbrev main_c_59 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_cst_60 : Ref sig .tc := ⟨.hbm, 243, rfl⟩
abbrev main_cst_61 : Ref sig .tc := ⟨.hbm, 244, rfl⟩
abbrev main_call9_v0 : Ref sig .tc := ⟨.hbm, 245, rfl⟩
abbrev main_call9_v1 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_c_62 : Ref sig .tc := ⟨.hbm, 250, rfl⟩
abbrev main_v165 : Ref sig .tc := ⟨.hbm, 251, rfl⟩
abbrev main_v166 : Ref sig .tc := ⟨.hbm, 252, rfl⟩
abbrev main_c_63 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_c_64 : Ref sig .tc := ⟨.hbm, 257, rfl⟩
abbrev main_v170 : Ref sig .tc := ⟨.hbm, 258, rfl⟩
abbrev main_v171 : Ref sig .tc := ⟨.hbm, 259, rfl⟩
abbrev main_c_65 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_cst_66 : Ref sig .tc := ⟨.hbm, 264, rfl⟩
abbrev main_cst_67 : Ref sig .tc := ⟨.hbm, 265, rfl⟩
abbrev main_call10_v0 : Ref sig .tc := ⟨.hbm, 266, rfl⟩
abbrev main_call10_v1 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_cst_68 : Ref sig .tc := ⟨.hbm, 271, rfl⟩
abbrev main_v178 : Ref sig .tc := ⟨.hbm, 272, rfl⟩
abbrev main_v179 : Ref sig .tc := ⟨.hbm, 273, rfl⟩
abbrev main_cst_69 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_cst_70 : Ref sig .tc := ⟨.hbm, 278, rfl⟩
abbrev main_call11_v0 : Ref sig .tc := ⟨.hbm, 279, rfl⟩
abbrev main_call11_v1 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_c_71 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_cst_72 : Ref sig .tc := ⟨.hbm, 292, rfl⟩
abbrev main_v193 : Ref sig .tc := ⟨.hbm, 293, rfl⟩
abbrev main_c_73 : Ref sig .tc := ⟨.hbm, 294, rfl⟩
abbrev main_v194 : Ref sig .tc := ⟨.hbm, 295, rfl⟩
abbrev main_v195 : Ref sig .tc := ⟨.hbm, 296, rfl⟩
abbrev main_c_74 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_c_75 : Ref sig .tc := ⟨.hbm, 301, rfl⟩
abbrev main_v199 : Ref sig .tc := ⟨.hbm, 302, rfl⟩
abbrev main_v200 : Ref sig .tc := ⟨.hbm, 303, rfl⟩
abbrev main_c_76 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_cst_77 : Ref sig .tc := ⟨.hbm, 308, rfl⟩
abbrev main_cst_78 : Ref sig .tc := ⟨.hbm, 309, rfl⟩
abbrev main_call12_v0 : Ref sig .tc := ⟨.hbm, 310, rfl⟩
abbrev main_call12_v1 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_c_79 : Ref sig .tc := ⟨.hbm, 315, rfl⟩
abbrev main_v207 : Ref sig .tc := ⟨.hbm, 316, rfl⟩
abbrev main_v208 : Ref sig .tc := ⟨.hbm, 317, rfl⟩
abbrev main_c_80 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_c_81 : Ref sig .tc := ⟨.hbm, 322, rfl⟩
abbrev main_v212 : Ref sig .tc := ⟨.hbm, 323, rfl⟩
abbrev main_v213 : Ref sig .tc := ⟨.hbm, 324, rfl⟩
abbrev main_c_82 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_cst_83 : Ref sig .tc := ⟨.hbm, 329, rfl⟩
abbrev main_cst_84 : Ref sig .tc := ⟨.hbm, 330, rfl⟩
abbrev main_call13_v0 : Ref sig .tc := ⟨.hbm, 331, rfl⟩
abbrev main_call13_v1 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_c_85 : Ref sig .tc := ⟨.hbm, 336, rfl⟩
abbrev main_v220 : Ref sig .tc := ⟨.hbm, 337, rfl⟩
abbrev main_v221 : Ref sig .tc := ⟨.hbm, 338, rfl⟩
abbrev main_c_86 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_c_87 : Ref sig .tc := ⟨.hbm, 343, rfl⟩
abbrev main_v225 : Ref sig .tc := ⟨.hbm, 344, rfl⟩
abbrev main_v226 : Ref sig .tc := ⟨.hbm, 345, rfl⟩
abbrev main_c_88 : Ref sig .tc := ⟨.hbm, 346, rfl⟩
abbrev main_v227 : Ref sig .tc := ⟨.hbm, 347, rfl⟩
abbrev main_v228 : Ref sig .tc := ⟨.hbm, 348, rfl⟩
abbrev main_v229 : Ref sig .tc := ⟨.hbm, 349, rfl⟩
abbrev main_cst_89 : Ref sig .tc := ⟨.hbm, 350, rfl⟩
abbrev main_cst_90 : Ref sig .tc := ⟨.hbm, 351, rfl⟩
abbrev main_call14_v0 : Ref sig .tc := ⟨.hbm, 352, rfl⟩
abbrev main_call14_v1 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_cst_91 : Ref sig .tc := ⟨.hbm, 357, rfl⟩
abbrev main_v233 : Ref sig .tc := ⟨.hbm, 358, rfl⟩
abbrev main_v234 : Ref sig .tc := ⟨.hbm, 359, rfl⟩
abbrev main_cst_92 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_cst_93 : Ref sig .tc := ⟨.hbm, 364, rfl⟩
abbrev main_call15_v0 : Ref sig .tc := ⟨.hbm, 365, rfl⟩
abbrev main_call15_v1 : Ref sig .tc := ⟨.hbm, 366, rfl⟩
abbrev main_v238 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_c_94 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_cst_95 : Ref sig .tc := ⟨.hbm, 378, rfl⟩
abbrev main_v248 : Ref sig .tc := ⟨.hbm, 379, rfl⟩
abbrev main_c_96 : Ref sig .tc := ⟨.hbm, 380, rfl⟩
abbrev main_v249 : Ref sig .tc := ⟨.hbm, 381, rfl⟩
abbrev main_v250 : Ref sig .tc := ⟨.hbm, 382, rfl⟩
abbrev main_c_97 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_c_98 : Ref sig .tc := ⟨.hbm, 387, rfl⟩
abbrev main_v254 : Ref sig .tc := ⟨.hbm, 388, rfl⟩
abbrev main_v255 : Ref sig .tc := ⟨.hbm, 389, rfl⟩
abbrev main_c_99 : Ref sig .tc := ⟨.hbm, 390, rfl⟩
abbrev main_v256 : Ref sig .tc := ⟨.hbm, 391, rfl⟩
abbrev main_v257 : Ref sig .tc := ⟨.hbm, 392, rfl⟩
abbrev main_v258 : Ref sig .tc := ⟨.hbm, 393, rfl⟩
abbrev main_cst_100 : Ref sig .tc := ⟨.hbm, 394, rfl⟩
abbrev main_cst_101 : Ref sig .tc := ⟨.hbm, 395, rfl⟩
abbrev main_call16_v0 : Ref sig .tc := ⟨.hbm, 396, rfl⟩
abbrev main_call16_v1 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_c_102 : Ref sig .tc := ⟨.hbm, 401, rfl⟩
abbrev main_v262 : Ref sig .tc := ⟨.hbm, 402, rfl⟩
abbrev main_v263 : Ref sig .tc := ⟨.hbm, 403, rfl⟩
abbrev main_c_103 : Ref sig .tc := ⟨.hbm, 404, rfl⟩
abbrev main_v264 : Ref sig .tc := ⟨.hbm, 405, rfl⟩
abbrev main_v265 : Ref sig .tc := ⟨.hbm, 406, rfl⟩
abbrev main_v266 : Ref sig .tc := ⟨.hbm, 407, rfl⟩
abbrev main_c_104 : Ref sig .tc := ⟨.hbm, 408, rfl⟩
abbrev main_v267 : Ref sig .tc := ⟨.hbm, 409, rfl⟩
abbrev main_v268 : Ref sig .tc := ⟨.hbm, 410, rfl⟩
abbrev main_c_105 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_cst_106 : Ref sig .tc := ⟨.hbm, 415, rfl⟩
abbrev main_cst_107 : Ref sig .tc := ⟨.hbm, 416, rfl⟩
abbrev main_call17_v0 : Ref sig .tc := ⟨.hbm, 417, rfl⟩
abbrev main_call17_v1 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_c_108 : Ref sig .tc := ⟨.hbm, 422, rfl⟩
abbrev main_v275 : Ref sig .tc := ⟨.hbm, 423, rfl⟩
abbrev main_v276 : Ref sig .tc := ⟨.hbm, 424, rfl⟩
abbrev main_c_109 : Ref sig .tc := ⟨.hbm, 425, rfl⟩
abbrev main_v277 : Ref sig .tc := ⟨.hbm, 426, rfl⟩
abbrev main_v278 : Ref sig .tc := ⟨.hbm, 427, rfl⟩
abbrev main_v279 : Ref sig .tc := ⟨.hbm, 428, rfl⟩
abbrev main_c_110 : Ref sig .tc := ⟨.hbm, 429, rfl⟩
abbrev main_v280 : Ref sig .tc := ⟨.hbm, 430, rfl⟩
abbrev main_v281 : Ref sig .tc := ⟨.hbm, 431, rfl⟩
abbrev main_c_111 : Ref sig .tc := ⟨.hbm, 432, rfl⟩
abbrev main_v282 : Ref sig .tc := ⟨.hbm, 433, rfl⟩
abbrev main_v283 : Ref sig .tc := ⟨.hbm, 434, rfl⟩
abbrev main_v284 : Ref sig .tc := ⟨.hbm, 435, rfl⟩
abbrev main_cst_112 : Ref sig .tc := ⟨.hbm, 436, rfl⟩
abbrev main_cst_113 : Ref sig .tc := ⟨.hbm, 437, rfl⟩
abbrev main_call18_v0 : Ref sig .tc := ⟨.hbm, 438, rfl⟩
abbrev main_call18_v1 : Ref sig .tc := ⟨.hbm, 439, rfl⟩
abbrev main_v285 : Ref sig .tc := ⟨.hbm, 440, rfl⟩
abbrev main_v286 : Ref sig .tc := ⟨.hbm, 441, rfl⟩
abbrev main_v287 : Ref sig .tc := ⟨.hbm, 442, rfl⟩
abbrev main_cst_114 : Ref sig .tc := ⟨.hbm, 443, rfl⟩
abbrev main_v288 : Ref sig .tc := ⟨.hbm, 444, rfl⟩
abbrev main_v289 : Ref sig .tc := ⟨.hbm, 445, rfl⟩
abbrev main_cst_115 : Ref sig .tc := ⟨.hbm, 446, rfl⟩
abbrev main_v290 : Ref sig .tc := ⟨.hbm, 447, rfl⟩
abbrev main_v291 : Ref sig .tc := ⟨.hbm, 448, rfl⟩
abbrev main_v292 : Ref sig .tc := ⟨.hbm, 449, rfl⟩
abbrev main_cst_116 : Ref sig .tc := ⟨.hbm, 450, rfl⟩
abbrev main_call19_v0 : Ref sig .tc := ⟨.hbm, 451, rfl⟩
abbrev main_call19_v1 : Ref sig .tc := ⟨.hbm, 452, rfl⟩
abbrev main_v293 : Ref sig .tc := ⟨.hbm, 453, rfl⟩
abbrev main_v294 : Ref sig .tc := ⟨.hbm, 454, rfl⟩
abbrev main_v295 : Ref sig .tc := ⟨.hbm, 455, rfl⟩
abbrev main_v296 : Ref sig .tc := ⟨.hbm, 456, rfl⟩
abbrev main_v297 : Ref sig .tc := ⟨.hbm, 457, rfl⟩
abbrev main_v298 : Ref sig .tc := ⟨.hbm, 458, rfl⟩
abbrev main_v299 : Ref sig .tc := ⟨.hbm, 459, rfl⟩
abbrev main_v300_0 : Ref sig .tc := ⟨.hbm, 460, rfl⟩
abbrev main_v300_1 : Ref sig .tc := ⟨.hbm, 461, rfl⟩
abbrev main_v300_2 : Ref sig .tc := ⟨.hbm, 462, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v49 : BitVec 32 := Scalar.addi c0_i32 c4_i32
  let c1_i32 : BitVec 32 := 1#32
  ⟨c0_i32, v49, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v50 : BitVec 32 := Scalar.muli arg13 c512_i32
  v50
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v50 : BitVec 32 := Scalar.muli arg13 c512_i32
  let v51 : BitVec 32 := v50
  let v52 : Index := Scalar.indexCast v51
  let c0_26 : Index := 0#32
  ![v52.toNat, 0]
@[reducible] def k0_t2_loop (k0_t1 : Fin k0_t1_loop.trips) : Scf.Loop 32 :=
  let c0_i32_31 : BitVec 32 := 0#32
  let c2_i32 : BitVec 32 := 2#32
  let c0_i32 : BitVec 32 := 0#32
  let c1_i32 : BitVec 32 := 1#32
  let arg13 : BitVec 32 := Scf.iv c0_i32 c1_i32 k0_t1
  let c1_i32_30 : BitVec 32 := 1#32
  let v57 : BitVec 32 := Scalar.addi arg13 c1_i32_30
  let v58 : BitVec 32 := Scalar.muli c2_i32 v57
  let v59 : BitVec 32 := Scalar.subi v58 c0_i32_31
  let c1_i32_32 : BitVec 32 := 1#32
  let v61 : BitVec 32 := Scalar.divsi v59 c1_i32_32
  let v62 : BitVec 32 := Scalar.muli v61 c1_i32_32
  let v63 : BitVec 32 := Scalar.addi c0_i32_31 v62
  let c1_i32_33 : BitVec 32 := 1#32
  ⟨c0_i32_31, v63, c1_i32_33⟩
def k0_mult2 (k0_t1 : Fin k0_t1_loop.trips) (k0_t2 : Fin (k0_t2_loop k0_t1).trips) : BitVec 32 :=
  let c0_i32_31 : BitVec 32 := 0#32
  let c1_i32_33 : BitVec 32 := 1#32
  let arg14 : BitVec 32 := Scf.iv c0_i32_31 c1_i32_33 k0_t2
  let c256_i32 : BitVec 32 := 256#32
  let v85 : BitVec 32 := Scalar.muli arg14 c256_i32
  v85
def k0_off2 (k0_t1 : Fin k0_t1_loop.trips) (k0_t2 : Fin (k0_t2_loop k0_t1).trips) : Fin 2 → Nat :=
  let c0_i32_31 : BitVec 32 := 0#32
  let c1_i32_33 : BitVec 32 := 1#32
  let arg14 : BitVec 32 := Scf.iv c0_i32_31 c1_i32_33 k0_t2
  let c256_i32 : BitVec 32 := 256#32
  let v85 : BitVec 32 := Scalar.muli arg14 c256_i32
  let v86 : BitVec 32 := v85
  let v87 : Index := Scalar.indexCast v86
  let c0_41 : Index := 0#32
  ![v87.toNat, 0]
def k0_off3 (k0_t1 : Fin k0_t1_loop.trips) (k0_t2 : Fin (k0_t2_loop k0_t1).trips) : Fin 3 → Nat :=
  let c2_i32_44 : BitVec 32 := 2#32
  let c0_i32 : BitVec 32 := 0#32
  let c1_i32 : BitVec 32 := 1#32
  let arg13 : BitVec 32 := Scf.iv c0_i32 c1_i32 k0_t1
  let v92 : BitVec 32 := Scalar.muli c2_i32_44 arg13
  let c0_i32_31 : BitVec 32 := 0#32
  let c1_i32_33 : BitVec 32 := 1#32
  let arg14 : BitVec 32 := Scf.iv c0_i32_31 c1_i32_33 k0_t2
  let v93 : BitVec 32 := Scalar.subi v92 arg14
  let c1_i32_45 : BitVec 32 := 1#32
  let v94 : BitVec 32 := Scalar.addi v93 c1_i32_45
  let c4_i32_46 : BitVec 32 := 4#32
  let v95 : BitVec 32 := Scalar.minsi v94 c4_i32_46
  let v96 : Index := Scalar.indexCast v95
  let c0_47 : Index := 0#32
  let c0_48 : Index := 0#32
  ![v96.toNat, 0, 0]
def k0_mult3 (k0_t1 : Fin k0_t1_loop.trips) (k0_t2 : Fin (k0_t2_loop k0_t1).trips) : BitVec 32 :=
  let c0_i32_31 : BitVec 32 := 0#32
  let c1_i32_33 : BitVec 32 := 1#32
  let arg14 : BitVec 32 := Scf.iv c0_i32_31 c1_i32_33 k0_t2
  let c256_i32_51 : BitVec 32 := 256#32
  let v115 : BitVec 32 := Scalar.muli arg14 c256_i32_51
  v115
@[reducible] def k0_t3_loop (k0_t1 : Fin k0_t1_loop.trips) : Scf.Loop 32 :=
  let c0_i32_31 : BitVec 32 := 0#32
  let c2_i32 : BitVec 32 := 2#32
  let c0_i32 : BitVec 32 := 0#32
  let c1_i32 : BitVec 32 := 1#32
  let arg13 : BitVec 32 := Scf.iv c0_i32 c1_i32 k0_t1
  let c1_i32_30 : BitVec 32 := 1#32
  let v57 : BitVec 32 := Scalar.addi arg13 c1_i32_30
  let v58 : BitVec 32 := Scalar.muli c2_i32 v57
  let v59 : BitVec 32 := Scalar.subi v58 c0_i32_31
  let c1_i32_32 : BitVec 32 := 1#32
  let v61 : BitVec 32 := Scalar.divsi v59 c1_i32_32
  let v62 : BitVec 32 := Scalar.muli v61 c1_i32_32
  let v63 : BitVec 32 := Scalar.addi c0_i32_31 v62
  let v60 : BitVec 32 := Scalar.addi c0_i32_31 v59
  let c1_i32_34 : BitVec 32 := 1#32
  ⟨v63, v60, c1_i32_34⟩
def k0_mult4 (k0_t1 : Fin k0_t1_loop.trips) (k0_t3 : Fin (k0_t3_loop k0_t1).trips) : BitVec 32 :=
  let c0_i32_31 : BitVec 32 := 0#32
  let c2_i32 : BitVec 32 := 2#32
  let c0_i32 : BitVec 32 := 0#32
  let c1_i32 : BitVec 32 := 1#32
  let arg13 : BitVec 32 := Scf.iv c0_i32 c1_i32 k0_t1
  let c1_i32_30 : BitVec 32 := 1#32
  let v57 : BitVec 32 := Scalar.addi arg13 c1_i32_30
  let v58 : BitVec 32 := Scalar.muli c2_i32 v57
  let v59 : BitVec 32 := Scalar.subi v58 c0_i32_31
  let c1_i32_32 : BitVec 32 := 1#32
  let v61 : BitVec 32 := Scalar.divsi v59 c1_i32_32
  let v62 : BitVec 32 := Scalar.muli v61 c1_i32_32
  let v63 : BitVec 32 := Scalar.addi c0_i32_31 v62
  let c1_i32_34 : BitVec 32 := 1#32
  let arg14 : BitVec 32 := Scf.iv v63 c1_i32_34 k0_t3
  let c256_i32 : BitVec 32 := 256#32
  let v85 : BitVec 32 := Scalar.muli arg14 c256_i32
  v85
def k0_off4 (k0_t1 : Fin k0_t1_loop.trips) (k0_t3 : Fin (k0_t3_loop k0_t1).trips) : Fin 2 → Nat :=
  let c0_i32_31 : BitVec 32 := 0#32
  let c2_i32 : BitVec 32 := 2#32
  let c0_i32 : BitVec 32 := 0#32
  let c1_i32 : BitVec 32 := 1#32
  let arg13 : BitVec 32 := Scf.iv c0_i32 c1_i32 k0_t1
  let c1_i32_30 : BitVec 32 := 1#32
  let v57 : BitVec 32 := Scalar.addi arg13 c1_i32_30
  let v58 : BitVec 32 := Scalar.muli c2_i32 v57
  let v59 : BitVec 32 := Scalar.subi v58 c0_i32_31
  let c1_i32_32 : BitVec 32 := 1#32
  let v61 : BitVec 32 := Scalar.divsi v59 c1_i32_32
  let v62 : BitVec 32 := Scalar.muli v61 c1_i32_32
  let v63 : BitVec 32 := Scalar.addi c0_i32_31 v62
  let c1_i32_34 : BitVec 32 := 1#32
  let arg14 : BitVec 32 := Scf.iv v63 c1_i32_34 k0_t3
  let c256_i32 : BitVec 32 := 256#32
  let v85 : BitVec 32 := Scalar.muli arg14 c256_i32
  let v86 : BitVec 32 := v85
  let v87 : Index := Scalar.indexCast v86
  let c0_41 : Index := 0#32
  ![v87.toNat, 0]
def k0_off5 (k0_t1 : Fin k0_t1_loop.trips) (k0_t3 : Fin (k0_t3_loop k0_t1).trips) : Fin 3 → Nat :=
  let c2_i32_44 : BitVec 32 := 2#32
  let c0_i32 : BitVec 32 := 0#32
  let c1_i32 : BitVec 32 := 1#32
  let arg13 : BitVec 32 := Scf.iv c0_i32 c1_i32 k0_t1
  let v92 : BitVec 32 := Scalar.muli c2_i32_44 arg13
  let c0_i32_31 : BitVec 32 := 0#32
  let c2_i32 : BitVec 32 := 2#32
  let c1_i32_30 : BitVec 32 := 1#32
  let v57 : BitVec 32 := Scalar.addi arg13 c1_i32_30
  let v58 : BitVec 32 := Scalar.muli c2_i32 v57
  let v59 : BitVec 32 := Scalar.subi v58 c0_i32_31
  let c1_i32_32 : BitVec 32 := 1#32
  let v61 : BitVec 32 := Scalar.divsi v59 c1_i32_32
  let v62 : BitVec 32 := Scalar.muli v61 c1_i32_32
  let v63 : BitVec 32 := Scalar.addi c0_i32_31 v62
  let c1_i32_34 : BitVec 32 := 1#32
  let arg14 : BitVec 32 := Scf.iv v63 c1_i32_34 k0_t3
  let v93 : BitVec 32 := Scalar.subi v92 arg14
  let c1_i32_45 : BitVec 32 := 1#32
  let v94 : BitVec 32 := Scalar.addi v93 c1_i32_45
  let c4_i32_46 : BitVec 32 := 4#32
  let v95 : BitVec 32 := Scalar.minsi v94 c4_i32_46
  let v96 : Index := Scalar.indexCast v95
  let c0_47 : Index := 0#32
  let c0_48 : Index := 0#32
  ![v96.toNat, 0, 0]
def k0_mult5 (k0_t1 : Fin k0_t1_loop.trips) (k0_t3 : Fin (k0_t3_loop k0_t1).trips) : BitVec 32 :=
  let c0_i32_31 : BitVec 32 := 0#32
  let c2_i32 : BitVec 32 := 2#32
  let c0_i32 : BitVec 32 := 0#32
  let c1_i32 : BitVec 32 := 1#32
  let arg13 : BitVec 32 := Scf.iv c0_i32 c1_i32 k0_t1
  let c1_i32_30 : BitVec 32 := 1#32
  let v57 : BitVec 32 := Scalar.addi arg13 c1_i32_30
  let v58 : BitVec 32 := Scalar.muli c2_i32 v57
  let v59 : BitVec 32 := Scalar.subi v58 c0_i32_31
  let c1_i32_32 : BitVec 32 := 1#32
  let v61 : BitVec 32 := Scalar.divsi v59 c1_i32_32
  let v62 : BitVec 32 := Scalar.muli v61 c1_i32_32
  let v63 : BitVec 32 := Scalar.addi c0_i32_31 v62
  let c1_i32_34 : BitVec 32 := 1#32
  let arg14 : BitVec 32 := Scf.iv v63 c1_i32_34 k0_t3
  let c256_i32_51 : BitVec 32 := 256#32
  let v115 : BitVec 32 := Scalar.muli arg14 c256_i32_51
  v115
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_35 : BitVec 32 := 512#32
  let v68 : BitVec 32 := Scalar.muli arg13 c512_i32_35
  v68
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_37 : BitVec 32 := 512#32
  let v73 : BitVec 32 := Scalar.muli arg13 c512_i32_37
  v73
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_39 : BitVec 32 := 512#32
  let v81 : BitVec 32 := Scalar.muli arg13 c512_i32_39
  v81
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdKernel.lean ====
abbrev S2048x6144 : Shape := ⟨2, ![2048, 6144]⟩
abbrev S2048x128 : Shape := ⟨2, ![2048, 128]⟩
abbrev S128x2048 : Shape := ⟨2, ![128, 2048]⟩
abbrev S8x2048 : Shape := ⟨2, ![8, 2048]⟩
abbrev S8x1x2048 : Shape := ⟨3, ![8, 1, 2048]⟩
abbrev S512 : Shape := ⟨1, ![512]⟩
abbrev S512x1 : Shape := ⟨2, ![512, 1]⟩
abbrev S256 : Shape := ⟨1, ![256]⟩
abbrev S1x256 : Shape := ⟨2, ![1, 256]⟩
abbrev S_ : Shape := ⟨0, ![]⟩
abbrev S512x256 : Shape := ⟨2, ![512, 256]⟩
abbrev S1x512x256 : Shape := ⟨3, ![1, 512, 256]⟩
abbrev S3x512x256 : Shape := ⟨3, ![3, 512, 256]⟩
abbrev S2048x2048 : Shape := ⟨2, ![2048, 2048]⟩
abbrev S256x256 : Shape := ⟨2, ![256, 256]⟩
abbrev S512x128 : Shape := ⟨2, ![512, 128]⟩
abbrev S256x128 : Shape := ⟨2, ![256, 128]⟩
abbrev S1x1x256 : Shape := ⟨3, ![1, 1, 256]⟩

abbrev nBuf : Space → Nat
  | .hbm => 104
  | .vmem => 19
  | .smem => 0
  | _ => 0

abbrev bufTy : (tb : Table) → Fin (tcTables nBuf tb) → BufTy
  | .hbm, ⟨0, _⟩ => ⟨S2048x6144, .f32⟩
  | .hbm, ⟨1, _⟩ => ⟨S2048x128, .f32⟩
  | .hbm, ⟨2, _⟩ => ⟨S128x2048, .f32⟩
  | .hbm, ⟨3, _⟩ => ⟨S8x2048, .f32⟩
  | .hbm, ⟨4, _⟩ => ⟨S8x1x2048, .f32⟩
  | .hbm, ⟨5, _⟩ => ⟨S512, .i32⟩
  | .hbm, ⟨6, _⟩ => ⟨S512x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x256, .i32⟩
  | .hbm, ⟨13, _⟩ => ⟨S512x256, .i32⟩
  | .hbm, ⟨14, _⟩ => ⟨S512x256, .i32⟩
  | .hbm, ⟨15, _⟩ => ⟨S_, .i32⟩
  | .hbm, ⟨16, _⟩ => ⟨S512x256, .i32⟩
  | .hbm, ⟨17, _⟩ => ⟨S512x256, .i1⟩
  | .hbm, ⟨18, _⟩ => ⟨S_, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512, .i32⟩
  | .hbm, ⟨24, _⟩ => ⟨S512x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S512x1, .i32⟩
  | .hbm, ⟨29, _⟩ => ⟨S512x1, .i32⟩
  | .hbm, ⟨30, _⟩ => ⟨S512x256, .i32⟩
  | .hbm, ⟨31, _⟩ => ⟨S512x256, .i32⟩
  | .hbm, ⟨32, _⟩ => ⟨S512x256, .i32⟩
  | .hbm, ⟨33, _⟩ => ⟨S_, .i32⟩
  | .hbm, ⟨34, _⟩ => ⟨S512x256, .i32⟩
  | .hbm, ⟨35, _⟩ => ⟨S512x256, .i1⟩
  | .hbm, ⟨36, _⟩ => ⟨S_, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S1x512x256, .f32⟩
  | .hbm, ⟨46, _⟩ => ⟨S1x512x256, .f32⟩
  | .hbm, ⟨47, _⟩ => ⟨S1x512x256, .f32⟩
  | .hbm, ⟨48, _⟩ => ⟨S3x512x256, .f32⟩
  | .hbm, ⟨49, _⟩ => ⟨S_, .f32⟩
  | .hbm, ⟨50, _⟩ => ⟨S3x512x256, .f32⟩
  | .hbm, ⟨51, _⟩ => ⟨S3x512x256, .i1⟩
  | .hbm, ⟨52, _⟩ => ⟨S_, .f32⟩
  | .hbm, ⟨53, _⟩ => ⟨S_, .f32⟩
  | .hbm, ⟨54, _⟩ => ⟨S3x512x256, .f32⟩
  | .hbm, ⟨55, _⟩ => ⟨S3x512x256, .f32⟩
  | .hbm, ⟨56, _⟩ => ⟨S3x512x256, .f32⟩
  | .hbm, ⟨57, _⟩ => ⟨S512, .i32⟩
  | .hbm, ⟨58, _⟩ => ⟨S512x1, .i32⟩
  | .hbm, ⟨59, _⟩ => ⟨S256, .i32⟩
  | .hbm, ⟨60, _⟩ => ⟨S1x256, .i32⟩
  | .hbm, ⟨61, _⟩ => ⟨S_, .i32⟩
  | .hbm, ⟨62, _⟩ => ⟨S512x1, .i32⟩
  | .hbm, ⟨63, _⟩ => ⟨S512x1, .i32⟩
  | .hbm, ⟨64, _⟩ => ⟨S512x256, .i32⟩
  | .hbm, ⟨65, _⟩ => ⟨S512x256, .i32⟩
  | .hbm, ⟨66, _⟩ => ⟨S512x256, .i32⟩
  | .hbm, ⟨67, _⟩ => ⟨S_, .i32⟩
  | .hbm, ⟨68, _⟩ => ⟨S512x256, .i32⟩
  | .hbm, ⟨69, _⟩ => ⟨S512x256, .i1⟩
  | .hbm, ⟨70, _⟩ => ⟨S_, .f32⟩
  | .hbm, ⟨71, _⟩ => ⟨S_, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S512, .i32⟩
  | .hbm, ⟨76, _⟩ => ⟨S512x1, .i32⟩
  | .hbm, ⟨77, _⟩ => ⟨S256, .i32⟩
  | .hbm, ⟨78, _⟩ => ⟨S1x256, .i32⟩
  | .hbm, ⟨79, _⟩ => ⟨S_, .i32⟩
  | .hbm, ⟨80, _⟩ => ⟨S512x1, .i32⟩
  | .hbm, ⟨81, _⟩ => ⟨S512x1, .i32⟩
  | .hbm, ⟨82, _⟩ => ⟨S512x256, .i32⟩
  | .hbm, ⟨83, _⟩ => ⟨S512x256, .i32⟩
  | .hbm, ⟨84, _⟩ => ⟨S512x256, .i32⟩
  | .hbm, ⟨85, _⟩ => ⟨S_, .i32⟩
  | .hbm, ⟨86, _⟩ => ⟨S512x256, .i32⟩
  | .hbm, ⟨87, _⟩ => ⟨S512x256, .i1⟩
  | .hbm, ⟨88, _⟩ => ⟨S_, .f32⟩
  | .hbm, ⟨89, _⟩ => ⟨S_, .f32⟩
  | .hbm, ⟨90, _⟩ => ⟨S512x256, .f32⟩
  | .hbm, ⟨91, _⟩ => ⟨S512x256, .f32⟩
  | .hbm, ⟨92, _⟩ => ⟨S512x256, .f32⟩
  | .hbm, ⟨93, _⟩ => ⟨S_, .f32⟩
  | .hbm, ⟨94, _⟩ => ⟨S512x256, .f32⟩
  | .hbm, ⟨95, _⟩ => ⟨S512x256, .f32⟩
  | .hbm, ⟨96, _⟩ => ⟨S512x256, .f32⟩
  | .hbm, ⟨97, _⟩ => ⟨S1x512x256, .f32⟩
  | .hbm, ⟨98, _⟩ => ⟨S1x512x256, .f32⟩
  | .hbm, ⟨99, _⟩ => ⟨S1x512x256, .f32⟩
  | .hbm, ⟨100, _⟩ => ⟨S3x512x256, .f32⟩
  | .hbm, ⟨101, _⟩ => ⟨S2048x2048, .f32⟩
  | .hbm, ⟨102, _⟩ => ⟨S2048x2048, .bf16⟩
  | .hbm, ⟨103, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S8x1x2048, .f32⟩
  | .local _ .vmem, ⟨8, _⟩ => ⟨S3x512x256, .f32⟩
  | .local _ .vmem, ⟨9, _⟩ => ⟨S3x512x256, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_cst_13 : Ref sig .tc := ⟨.hbm, 71, rfl⟩
abbrev main_call3_v0 : Ref sig .tc := ⟨.hbm, 72, rfl⟩
abbrev main_call3_v1 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_cst_16 : Ref sig .tc := ⟨.hbm, 88, rfl⟩
abbrev main_cst_17 : Ref sig .tc := ⟨.hbm, 89, rfl⟩
abbrev main_call4_v0 : Ref sig .tc := ⟨.hbm, 90, rfl⟩
abbrev main_call4_v1 : Ref sig .tc := ⟨.hbm, 91, rfl⟩
abbrev main_v60 : Ref sig .tc := ⟨.hbm, 92, rfl⟩
abbrev main_cst_18 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68_0 : Ref sig .tc := ⟨.hbm, 101, rfl⟩
abbrev main_v68_1 : Ref sig .tc := ⟨.hbm, 102, rfl⟩
abbrev main_v68_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v15 : BitVec 1 := Scalar.cmpi .slt arg0 c8_i32
  let v16 : BitVec 32 := Scalar.extui v15
  let c0_i32 : BitVec 32 := 0#32
  let v17 : BitVec 1 := Scalar.cmpi .ne v16 c0_i32
  v17

@[reducible] def k0_t1_loop : Scf.Loop 32 :=
  let c0_i32_14 : BitVec 32 := 0#32
  let c4_i32 : BitVec 32 := 4#32
  let v28 : BitVec 32 := Scalar.addi c0_i32_14 c4_i32
  let c1_i32 : BitVec 32 := 1#32
  ⟨c0_i32_14, v28, c1_i32⟩
def k0_mult1 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c512_i32 : BitVec 32 := 512#32
  let v29 : BitVec 32 := Scalar.muli arg14 c512_i32
  v29
def k0_off1 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c512_i32 : BitVec 32 := 512#32
  let v29 : BitVec 32 := Scalar.muli arg14 c512_i32
  let v30 : BitVec 32 := v29
  let v31 : Index := Scalar.indexCast v30
  let c0_16 : Index := 0#32
  ![v31.toNat, 0]
@[reducible] def k0_t2_loop (k0_t1 : Fin k0_t1_loop.trips) : Scf.Loop 32 :=
  let c0_i32_20 : BitVec 32 := 0#32
  let c2_i32 : BitVec 32 := 2#32
  let c0_i32_14 : BitVec 32 := 0#32
  let c1_i32 : BitVec 32 := 1#32
  let arg14 : BitVec 32 := Scf.iv c0_i32_14 c1_i32 k0_t1
  let c1_i32_18 : BitVec 32 := 1#32
  let v34 : BitVec 32 := Scalar.addi arg14 c1_i32_18
  let v35 : BitVec 32 := Scalar.muli c2_i32 v34
  let v37 : BitVec 32 := Scalar.subi v35 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_22 : BitVec 32 := 1#32
  ⟨c0_i32_20, v41, c1_i32_22⟩
def k0_mult2 (k0_t1 : Fin k0_t1_loop.trips) (k0_t2 : Fin (k0_t2_loop k0_t1).trips) : BitVec 32 :=
  let c2_i32_32 : BitVec 32 := 2#32
  let c0_i32_14 : BitVec 32 := 0#32
  let c1_i32 : BitVec 32 := 1#32
  let arg14 : BitVec 32 := Scf.iv c0_i32_14 c1_i32 k0_t1
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c1_i32_22 : BitVec 32 := 1#32
  let arg15 : BitVec 32 := Scf.iv c0_i32_20 c1_i32_22 k0_t2
  let v62 : BitVec 32 := Scalar.subi v61 arg15
  let c256_i32 : BitVec 32 := 256#32
  let v63 : BitVec 32 := Scalar.muli v62 c256_i32
  v63
def k0_off2 (k0_t1 : Fin k0_t1_loop.trips) (k0_t2 : Fin (k0_t2_loop k0_t1).trips) : Fin 2 → Nat :=
  let c2_i32_32 : BitVec 32 := 2#32
  let c0_i32_14 : BitVec 32 := 0#32
  let c1_i32 : BitVec 32 := 1#32
  let arg14 : BitVec 32 := Scf.iv c0_i32_14 c1_i32 k0_t1
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c1_i32_22 : BitVec 32 := 1#32
  let arg15 : BitVec 32 := Scf.iv c0_i32_20 c1_i32_22 k0_t2
  let v62 : BitVec 32 := Scalar.subi v61 arg15
  let c256_i32 : BitVec 32 := 256#32
  let v63 : BitVec 32 := Scalar.muli v62 c256_i32
  let v64 : BitVec 32 := v63
  let v65 : Index := Scalar.indexCast v64
  let c0_34 : Index := 0#32
  ![v65.toNat, 0]
def k0_off3 (k0_t1 : Fin k0_t1_loop.trips) (k0_t2 : Fin (k0_t2_loop k0_t1).trips) : Fin 3 → Nat :=
  let c2_i32_37 : BitVec 32 := 2#32
  let c0_i32_14 : BitVec 32 := 0#32
  let c1_i32 : BitVec 32 := 1#32
  let arg14 : BitVec 32 := Scf.iv c0_i32_14 c1_i32 k0_t1
  let v70 : BitVec 32 := Scalar.muli c2_i32_37 arg14
  let c2_i32_32 : BitVec 32 := 2#32
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c1_i32_22 : BitVec 32 := 1#32
  let arg15 : BitVec 32 := Scf.iv c0_i32_20 c1_i32_22 k0_t2
  let v62 : BitVec 32 := Scalar.subi v61 arg15
  let v71 : BitVec 32 := Scalar.subi v70 v62
  let c1_i32_38 : BitVec 32 := 1#32
  let v72 : BitVec 32 := Scalar.addi v71 c1_i32_38
  let c2_i32_39 : BitVec 32 := 2#32
  let v73 : BitVec 32 := Scalar.minsi v72 c2_i32_39
  let v74 : Index := Scalar.indexCast v73
  let c0_40 : Index := 0#32
  let c0_41 : Index := 0#32
  ![v74.toNat, 0, 0]
def k0_mult3 (k0_t1 : Fin k0_t1_loop.trips) (k0_t2 : Fin (k0_t2_loop k0_t1).trips) : BitVec 32 :=
  let c2_i32_32 : BitVec 32 := 2#32
  let c0_i32_14 : BitVec 32 := 0#32
  let c1_i32 : BitVec 32 := 1#32
  let arg14 : BitVec 32 := Scf.iv c0_i32_14 c1_i32 k0_t1
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c1_i32_22 : BitVec 32 := 1#32
  let arg15 : BitVec 32 := Scf.iv c0_i32_20 c1_i32_22 k0_t2
  let v62 : BitVec 32 := Scalar.subi v61 arg15
  let c256_i32_48 : BitVec 32 := 256#32
  let v103 : BitVec 32 := Scalar.muli v62 c256_i32_48
  v103
@[reducible] def k0_t3_loop (k0_t1 : Fin k0_t1_loop.trips) : Scf.Loop 32 :=
  let c0_i32_20 : BitVec 32 := 0#32
  let c2_i32 : BitVec 32 := 2#32
  let c0_i32_14 : BitVec 32 := 0#32
  let c1_i32 : BitVec 32 := 1#32
  let arg14 : BitVec 32 := Scf.iv c0_i32_14 c1_i32 k0_t1
  let c1_i32_18 : BitVec 32 := 1#32
  let v34 : BitVec 32 := Scalar.addi arg14 c1_i32_18
  let v35 : BitVec 32 := Scalar.muli c2_i32 v34
  let v37 : BitVec 32 := Scalar.subi v35 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let v38 : BitVec 32 := Scalar.addi c0_i32_20 v37
  let c1_i32_23 : BitVec 32 := 1#32
  ⟨v41, v38, c1_i32_23⟩
def k0_mult4 (k0_t1 : Fin k0_t1_loop.trips) (k0_t3 : Fin (k0_t3_loop k0_t1).trips) : BitVec 32 :=
  let c2_i32_32 : BitVec 32 := 2#32
  let c0_i32_14 : BitVec 32 := 0#32
  let c1_i32 : BitVec 32 := 1#32
  let arg14 : BitVec 32 := Scf.iv c0_i32_14 c1_i32 k0_t1
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c2_i32 : BitVec 32 := 2#32
  let c1_i32_18 : BitVec 32 := 1#32
  let v34 : BitVec 32 := Scalar.addi arg14 c1_i32_18
  let v35 : BitVec 32 := Scalar.muli c2_i32 v34
  let v37 : BitVec 32 := Scalar.subi v35 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t3
  let v62 : BitVec 32 := Scalar.subi v61 arg15
  let c256_i32 : BitVec 32 := 256#32
  let v63 : BitVec 32 := Scalar.muli v62 c256_i32
  v63
def k0_off4 (k0_t1 : Fin k0_t1_loop.trips) (k0_t3 : Fin (k0_t3_loop k0_t1).trips) : Fin 2 → Nat :=
  let c2_i32_32 : BitVec 32 := 2#32
  let c0_i32_14 : BitVec 32 := 0#32
  let c1_i32 : BitVec 32 := 1#32
  let arg14 : BitVec 32 := Scf.iv c0_i32_14 c1_i32 k0_t1
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c2_i32 : BitVec 32 := 2#32
  let c1_i32_18 : BitVec 32 := 1#32
  let v34 : BitVec 32 := Scalar.addi arg14 c1_i32_18
  let v35 : BitVec 32 := Scalar.muli c2_i32 v34
  let v37 : BitVec 32 := Scalar.subi v35 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t3
  let v62 : BitVec 32 := Scalar.subi v61 arg15
  let c256_i32 : BitVec 32 := 256#32
  let v63 : BitVec 32 := Scalar.muli v62 c256_i32
  let v64 : BitVec 32 := v63
  let v65 : Index := Scalar.indexCast v64
  let c0_34 : Index := 0#32
  ![v65.toNat, 0]
def k0_off5 (k0_t1 : Fin k0_t1_loop.trips) (k0_t3 : Fin (k0_t3_loop k0_t1).trips) : Fin 3 → Nat :=
  let c2_i32_37 : BitVec 32 := 2#32
  let c0_i32_14 : BitVec 32 := 0#32
  let c1_i32 : BitVec 32 := 1#32
  let arg14 : BitVec 32 := Scf.iv c0_i32_14 c1_i32 k0_t1
  let v70 : BitVec 32 := Scalar.muli c2_i32_37 arg14
  let c2_i32_32 : BitVec 32 := 2#32
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c2_i32 : BitVec 32 := 2#32
  let c1_i32_18 : BitVec 32 := 1#32
  let v34 : BitVec 32 := Scalar.addi arg14 c1_i32_18
  let v35 : BitVec 32 := Scalar.muli c2_i32 v34
  let v37 : BitVec 32 := Scalar.subi v35 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t3
  let v62 : BitVec 32 := Scalar.subi v61 arg15
  let v71 : BitVec 32 := Scalar.subi v70 v62
  let c1_i32_38 : BitVec 32 := 1#32
  let v72 : BitVec 32 := Scalar.addi v71 c1_i32_38
  let c2_i32_39 : BitVec 32 := 2#32
  let v73 : BitVec 32 := Scalar.minsi v72 c2_i32_39
  let v74 : Index := Scalar.indexCast v73
  let c0_40 : Index := 0#32
  let c0_41 : Index := 0#32
  ![v74.toNat, 0, 0]
def k0_mult5 (k0_t1 : Fin k0_t1_loop.trips) (k0_t3 : Fin (k0_t3_loop k0_t1).trips) : BitVec 32 :=
  let c2_i32_32 : BitVec 32 := 2#32
  let c0_i32_14 : BitVec 32 := 0#32
  let c1_i32 : BitVec 32 := 1#32
  let arg14 : BitVec 32 := Scf.iv c0_i32_14 c1_i32 k0_t1
  let c1_i32_31 : BitVec 32 := 1#32
  let v59 : BitVec 32 := Scalar.addi arg14 c1_i32_31
  let v60 : BitVec 32 := Scalar.muli c2_i32_32 v59
  let c1_i32_33 : BitVec 32 := 1#32
  let v61 : BitVec 32 := Scalar.subi v60 c1_i32_33
  let c0_i32_20 : BitVec 32 := 0#32
  let c2_i32 : BitVec 32 := 2#32
  let c1_i32_18 : BitVec 32 := 1#32
  let v34 : BitVec 32 := Scalar.addi arg14 c1_i32_18
  let v35 : BitVec 32 := Scalar.muli c2_i32 v34
  let v37 : BitVec 32 := Scalar.subi v35 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t3
  let v62 : BitVec 32 := Scalar.subi v61 arg15
  let c256_i32_48 : BitVec 32 := 256#32
  let v103 : BitVec 32 := Scalar.muli v62 c256_i32_48
  v103
def k0_mult6 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c512_i32_24 : BitVec 32 := 512#32
  let v45 : BitVec 32 := Scalar.muli arg14 c512_i32_24
  v45
def k0_mult7 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c512_i32_26 : BitVec 32 := 512#32
  let v50 : BitVec 32 := Scalar.muli arg14 c512_i32_26
  v50
def k0_mult8 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c512_i32_29 : BitVec 32 := 512#32
  let v55 : BitVec 32 := Scalar.muli arg14 c512_i32_29
  v55
def k0_cond2 (i : grid0.Coords) : BitVec 1 :=
  let arg0 : BitVec 32 := BitVec.ofNat 32 (i 0).val
  let c8_i32_11 : BitVec 32 := 8#32
  let v18 : BitVec 1 := Scalar.cmpi .sge arg0 c8_i32_11
  let v19 : BitVec 32 := Scalar.extui v18
  let c0_i32_12 : BitVec 32 := 0#32
  let v20 : BitVec 1 := Scalar.cmpi .ne v19 c0_i32_12
  v20

@[reducible] def k0_t4_loop : Scf.Loop 32 :=
  let c0_i32_14 : BitVec 32 := 0#32
  let c4_i32 : BitVec 32 := 4#32
  let v22 : BitVec 32 := Scalar.addi c0_i32_14 c4_i32
  let c1_i32 : BitVec 32 := 1#32
  ⟨c0_i32_14, v22, c1_i32⟩
def k0_mult9 (k0_t4 : Fin k0_t4_loop.trips) : BitVec 32 :=
  let c0_i32_14 : BitVec 32 := 0#32
  let c1_i32 : BitVec 32 := 1#32
  let arg14 : BitVec 32 := Scf.iv c0_i32_14 c1_i32 k0_t4
  let c512_i32 : BitVec 32 := 512#32
  let v23 : BitVec 32 := Scalar.muli arg14 c512_i32
  v23
def k0_off6 (k0_t4 : Fin k0_t4_loop.trips) : Fin 2 → Nat :=
  let c0_i32_14 : BitVec 32 := 0#32
  let c1_i32 : BitVec 32 := 1#32
  let arg14 : BitVec 32 := Scf.iv c0_i32_14 c1_i32 k0_t4
  let c512_i32 : BitVec 32 := 512#32
  let v23 : BitVec 32 := Scalar.muli arg14 c512_i32
  let v24 : BitVec 32 := v23
  let v25 : Index := Scalar.indexCast v24
  let c0_16 : Index := 0#32
  ![v25.toNat, 0]
def k0_mult10 (k0_t4 : Fin k0_t4_loop.trips) : BitVec 32 :=
  let c0_i32_14 : BitVec 32 := 0#32
  let c1_i32 : BitVec 32 := 1#32
  let arg14 : BitVec 32 := Scf.iv c0_i32_14 c1_i32 k0_t4
  let c512_i32_17 : BitVec 32 := 512#32
  let v30 : BitVec 32 := Scalar.muli arg14 c512_i32_17
  v30
@[reducible] def k0_t5_loop (k0_t4 : Fin k0_t4_loop.trips) : Scf.Loop 32 :=
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_26 : BitVec 32 := 1#32
  ⟨c0_i32_24, v47, c1_i32_26⟩
def k0_mult11 (k0_t4 : Fin k0_t4_loop.trips) (k0_t5 : Fin (k0_t5_loop k0_t4).trips) : BitVec 32 :=
  let c0_i32_24 : BitVec 32 := 0#32
  let c1_i32_26 : BitVec 32 := 1#32
  let arg15 : BitVec 32 := Scf.iv c0_i32_24 c1_i32_26 k0_t5
  let c256_i32 : BitVec 32 := 256#32
  let v69 : BitVec 32 := Scalar.muli arg15 c256_i32
  v69
def k0_off7 (k0_t4 : Fin k0_t4_loop.trips) (k0_t5 : Fin (k0_t5_loop k0_t4).trips) : Fin 2 → Nat :=
  let c0_i32_24 : BitVec 32 := 0#32
  let c1_i32_26 : BitVec 32 := 1#32
  let arg15 : BitVec 32 := Scf.iv c0_i32_24 c1_i32_26 k0_t5
  let c256_i32 : BitVec 32 := 256#32
  let v69 : BitVec 32 := Scalar.muli arg15 c256_i32
  let v70 : BitVec 32 := v69
  let v71 : Index := Scalar.indexCast v70
  let c0_34 : Index := 0#32
  ![v71.toNat, 0]
def k0_off8 (k0_t4 : Fin k0_t4_loop.trips) (k0_t5 : Fin (k0_t5_loop k0_t4).trips) : Fin 3 → Nat :=
  let c2_i32_37 : BitVec 32 := 2#32
  let c0_i32_14 : BitVec 32 := 0#32
  let c1_i32 : BitVec 32 := 1#32
  let arg14 : BitVec 32 := Scf.iv c0_i32_14 c1_i32 k0_t4
  let v76 : BitVec 32 := Scalar.muli c2_i32_37 arg14
  let c0_i32_24 : BitVec 32 := 0#32
  let c1_i32_26 : BitVec 32 := 1#32
  let arg15 : BitVec 32 := Scf.iv c0_i32_24 c1_i32_26 k0_t5
  let v77 : BitVec 32 := Scalar.subi v76 arg15
  let c1_i32_38 : BitVec 32 := 1#32
  let v78 : BitVec 32 := Scalar.addi v77 c1_i32_38
  let c2_i32_39 : BitVec 32 := 2#32
  let v79 : BitVec 32 := Scalar.minsi v78 c2_i32_39
  let v80 : Index := Scalar.indexCast v79
  let c0_40 : Index := 0#32
  let c0_41 : Index := 0#32
  ![v80.toNat, 0, 0]
def k0_mult12 (k0_t4 : Fin k0_t4_loop.trips) (k0_t5 : Fin (k0_t5_loop k0_t4).trips) : BitVec 32 :=
  let c0_i32_24 : BitVec 32 := 0#32
  let c1_i32_26 : BitVec 32 := 1#32
  let arg15 : BitVec 32 := Scf.iv c0_i32_24 c1_i32_26 k0_t5
  let c256_i32_42 : BitVec 32 := 256#32
  let v84 : BitVec 32 := Scalar.muli arg15 c256_i32_42
  v84
def k0_off9 (i : grid0.Coords) (k0_t4 : Fin k0_t4_loop.trips) (k0_t5 : Fin (k0_t5_loop k0_t4).trips) : Fin 3 → Nat :=
  let arg0 : BitVec 32 := BitVec.ofNat 32 (i 0).val
  let c8_i32_13 : BitVec 32 := 8#32
  let v21 : BitVec 32 := Scalar.subi arg0 c8_i32_13
  let v86 : Index := Scalar.indexCast v21
  let c0_43 : Index := 0#32
  let c0_i32_24 : BitVec 32 := 0#32
  let c1_i32_26 : BitVec 32 := 1#32
  let arg15 : BitVec 32 := Scf.iv c0_i32_24 c1_i32_26 k0_t5
  let c256_i32_42 : BitVec 32 := 256#32
  let v84 : BitVec 32 := Scalar.muli arg15 c256_i32_42
  let v85 : BitVec 32 := v84
  let v87 : Index := Scalar.indexCast v85
  ![v86.toNat, 0, v87.toNat]
def k0_mult13 (k0_t4 : Fin k0_t4_loop.trips) (k0_t5 : Fin (k0_t5_loop k0_t4).trips) : BitVec 32 :=
  let c0_i32_24 : BitVec 32 := 0#32
  let c1_i32_26 : BitVec 32 := 1#32
  let arg15 : BitVec 32 := Scf.iv c0_i32_24 c1_i32_26 k0_t5
  let c256_i32_46 : BitVec 32 := 256#32
  let v109 : BitVec 32 := Scalar.muli arg15 c256_i32_46
  v109
@[reducible] def k0_t6_loop (k0_t4 : Fin k0_t4_loop.trips) : Scf.Loop 32 :=
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let v44 : BitVec 32 := Scalar.addi c0_i32_24 v43
  let c1_i32_27 : BitVec 32 := 1#32
  ⟨v47, v44, c1_i32_27⟩
def k0_mult14 (k0_t4 : Fin k0_t4_loop.trips) (k0_t6 : Fin (k0_t6_loop k0_t4).trips) : BitVec 32 :=
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg15 : BitVec 32 := Scf.iv v47 c1_i32_27 k0_t6
  let c256_i32 : BitVec 32 := 256#32
  let v69 : BitVec 32 := Scalar.muli arg15 c256_i32
  v69
def k0_off10 (k0_t4 : Fin k0_t4_loop.trips) (k0_t6 : Fin (k0_t6_loop k0_t4).trips) : Fin 2 → Nat :=
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg15 : BitVec 32 := Scf.iv v47 c1_i32_27 k0_t6
  let c256_i32 : BitVec 32 := 256#32
  let v69 : BitVec 32 := Scalar.muli arg15 c256_i32
  let v70 : BitVec 32 := v69
  let v71 : Index := Scalar.indexCast v70
  let c0_34 : Index := 0#32
  ![v71.toNat, 0]
def k0_off11 (k0_t4 : Fin k0_t4_loop.trips) (k0_t6 : Fin (k0_t6_loop k0_t4).trips) : Fin 3 → Nat :=
  let c2_i32_37 : BitVec 32 := 2#32
  let c0_i32_14 : BitVec 32 := 0#32
  let c1_i32 : BitVec 32 := 1#32
  let arg14 : BitVec 32 := Scf.iv c0_i32_14 c1_i32 k0_t4
  let v76 : BitVec 32 := Scalar.muli c2_i32_37 arg14
  let c0_i32_24 : BitVec 32 := 0#32
  let c2_i32 : BitVec 32 := 2#32
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg15 : BitVec 32 := Scf.iv v47 c1_i32_27 k0_t6
  let v77 : BitVec 32 := Scalar.subi v76 arg15
  let c1_i32_38 : BitVec 32 := 1#32
  let v78 : BitVec 32 := Scalar.addi v77 c1_i32_38
  let c2_i32_39 : BitVec 32 := 2#32
  let v79 : BitVec 32 := Scalar.minsi v78 c2_i32_39
  let v80 : Index := Scalar.indexCast v79
  let c0_40 : Index := 0#32
  let c0_41 : Index := 0#32
  ![v80.toNat, 0, 0]
def k0_mult15 (k0_t4 : Fin k0_t4_loop.trips) (k0_t6 : Fin (k0_t6_loop k0_t4).trips) : BitVec 32 :=
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg15 : BitVec 32 := Scf.iv v47 c1_i32_27 k0_t6
  let c256_i32_42 : BitVec 32 := 256#32
  let v84 : BitVec 32 := Scalar.muli arg15 c256_i32_42
  v84
def k0_off12 (i : grid0.Coords) (k0_t4 : Fin k0_t4_loop.trips) (k0_t6 : Fin (k0_t6_loop k0_t4).trips) : Fin 3 → Nat :=
  let arg0 : BitVec 32 := BitVec.ofNat 32 (i 0).val
  let c8_i32_13 : BitVec 32 := 8#32
  let v21 : BitVec 32 := Scalar.subi arg0 c8_i32_13
  let v86 : Index := Scalar.indexCast v21
  let c0_43 : Index := 0#32
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg15 : BitVec 32 := Scf.iv v47 c1_i32_27 k0_t6
  let c256_i32_42 : BitVec 32 := 256#32
  let v84 : BitVec 32 := Scalar.muli arg15 c256_i32_42
  let v85 : BitVec 32 := v84
  let v87 : Index := Scalar.indexCast v85
  ![v86.toNat, 0, v87.toNat]
def k0_mult16 (k0_t4 : Fin k0_t4_loop.trips) (k0_t6 : Fin (k0_t6_loop k0_t4).trips) : BitVec 32 :=
  let c0_i32_24 : BitVec 32 := 0#32
  let c2_i32 : BitVec 32 := 2#32
  let c0_i32_14 : BitVec 32 := 0#32
  let c1_i32 : BitVec 32 := 1#32
  let arg14 : BitVec 32 := Scf.iv c0_i32_14 c1_i32 k0_t4
  let c1_i32_23 : BitVec 32 := 1#32
  let v41 : BitVec 32 := Scalar.addi arg14 c1_i32_23
  let v42 : BitVec 32 := Scalar.muli c2_i32 v41
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg15 : BitVec 32 := Scf.iv v47 c1_i32_27 k0_t6
  let c256_i32_46 : BitVec 32 := 256#32
  let v109 : BitVec 32 := Scalar.muli arg15 c256_i32_46
  v109
def k0_mult17 (k0_t4 : Fin k0_t4_loop.trips) : BitVec 32 :=
  let c0_i32_14 : BitVec 32 := 0#32
  let c1_i32 : BitVec 32 := 1#32
  let arg14 : BitVec 32 := Scf.iv c0_i32_14 c1_i32 k0_t4
  let c512_i32_28 : BitVec 32 := 512#32
  let v52 : BitVec 32 := Scalar.muli arg14 c512_i32_28
  v52
def k0_mult18 (k0_t4 : Fin k0_t4_loop.trips) : BitVec 32 :=
  let c0_i32_14 : BitVec 32 := 0#32
  let c1_i32 : BitVec 32 := 1#32
  let arg14 : BitVec 32 := Scf.iv c0_i32_14 c1_i32 k0_t4
  let c512_i32_30 : BitVec 32 := 512#32
  let v57 : BitVec 32 := Scalar.muli arg14 c512_i32_30
  v57
def k0_mult19 (k0_t4 : Fin k0_t4_loop.trips) : BitVec 32 :=
  let c0_i32_14 : BitVec 32 := 0#32
  let c1_i32 : BitVec 32 := 1#32
  let arg14 : BitVec 32 := Scf.iv c0_i32_14 c1_i32 k0_t4
  let c512_i32_32 : BitVec 32 := 512#32
  let v65 : BitVec 32 := Scalar.muli arg14 c512_i32_32
  v65
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FwdReferenceIdeal.lean ====
abbrev S2048x6144 : Shape := ⟨2, ![2048, 6144]⟩
abbrev S2048x128 : Shape := ⟨2, ![2048, 128]⟩
abbrev S128x2048 : Shape := ⟨2, ![128, 2048]⟩
abbrev S8x2048 : Shape := ⟨2, ![8, 2048]⟩
abbrev S2048x3x16x128 : Shape := ⟨4, ![2048, 3, 16, 128]⟩
abbrev S3x16x2048x128 : Shape := ⟨4, ![3, 16, 2048, 128]⟩
abbrev S1x16x2048x128 : Shape := ⟨4, ![1, 16, 2048, 128]⟩
abbrev S16x2048x128 : Shape := ⟨3, ![16, 2048, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x1 : Shape := ⟨3, ![8, 2048, 1]⟩
abbrev S8x1x2048 : Shape := ⟨3, ![8, 1, 2048]⟩
abbrev S2048x16x128 : Shape := ⟨3, ![2048, 16, 128]⟩
abbrev S16x2048 : Shape := ⟨2, ![16, 2048]⟩
abbrev S2048x16 : Shape := ⟨2, ![2048, 16]⟩
abbrev S2048x16x1 : Shape := ⟨3, ![2048, 16, 1]⟩

abbrev nBuf : Space → Nat
  | .hbm => 164
  | .vmem => 0
  | .smem => 0
  | _ => 0

abbrev hbmTy0_0 (i : Nat) : BufTy := match i % 128 with
  | 0 => ⟨S2048x6144, .f32⟩
  | 1 => ⟨S2048x128, .f32⟩
  | 2 => ⟨S128x2048, .f32⟩
  | 3 => ⟨S8x2048, .f32⟩
  | 4 => ⟨S2048x3x16x128, .f32⟩
  | 5 => ⟨S3x16x2048x128, .f32⟩
  | 6 => ⟨S1x16x2048x128, .f32⟩
  | 7 => ⟨S16x2048x128, .f32⟩
  | 8 => ⟨S1x16x2048x128, .f32⟩
  | 9 => ⟨S16x2048x128, .f32⟩
  | 10 => ⟨S1x16x2048x128, .f32⟩
  | 11 => ⟨S16x2048x128, .f32⟩
  | 12 => ⟨S8x2048x128, .f32⟩
  | 13 => ⟨S8x2048x128, .f32⟩
  | 14 => ⟨S8x2048x128, .f32⟩
  | 15 => ⟨S8x2048x2048, .f32⟩
  | 16 => ⟨S_, .f32⟩
  | 17 => ⟨S8x2048x2048, .f32⟩
  | 18 => ⟨S8x2048x2048, .f32⟩
  | 19 => ⟨S2048, .i32⟩
  | 20 => ⟨S1x2048, .i32⟩
  | 21 => ⟨S2048x1, .i32⟩
  | 22 => ⟨S2048x2048, .i32⟩
  | 23 => ⟨S2048x2048, .i32⟩
  | 24 => ⟨S2048x2048, .i1⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .i1⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S_, .f32⟩
  | 41 => ⟨S_, .f32⟩
  | 42 => ⟨S8x2048x2048, .i1⟩
  | 43 => ⟨S8x2048x2048, .f32⟩
  | 44 => ⟨S8x2048x2048, .f32⟩
  | 45 => ⟨S_, .f32⟩
  | 46 => ⟨S_, .f32⟩
  | 47 => ⟨S8x2048x2048, .f32⟩
  | 48 => ⟨S8x2048x2048, .f32⟩
  | 49 => ⟨S8x2048x2048, .f32⟩
  | 50 => ⟨S_, .f32⟩
  | 51 => ⟨S8x2048x2048, .f32⟩
  | 52 => ⟨S8x2048x2048, .f32⟩
  | 53 => ⟨S8x2048x2048, .f32⟩
  | 54 => ⟨S8x2048x2048, .f32⟩
  | 55 => ⟨S8x2048x2048, .i1⟩
  | 56 => ⟨S8x2048x2048, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S_, .f32⟩
  | 68 => ⟨S_, .f32⟩
  | 69 => ⟨S8x2048x2048, .i1⟩
  | 70 => ⟨S8x2048x2048, .f32⟩
  | 71 => ⟨S8x2048x2048, .f32⟩
  | 72 => ⟨S8x2048x128, .f32⟩
  | 73 => ⟨S8x2048x128, .f32⟩
  | 74 => ⟨S8x2048x128, .f32⟩
  | 75 => ⟨S8x2048x128, .f32⟩
  | 76 => ⟨S8x2048x2048, .f32⟩
  | 77 => ⟨S_, .f32⟩
  | 78 => ⟨S8x2048x2048, .f32⟩
  | 79 => ⟨S8x2048x2048, .f32⟩
  | 80 => ⟨S8x2048x1, .f32⟩
  | 81 => ⟨S8x2048x2048, .f32⟩
  | 82 => ⟨S8x2048x2048, .f32⟩
  | 83 => ⟨S8x1x2048, .f32⟩
  | 84 => ⟨S8x2048x2048, .f32⟩
  | 85 => ⟨S8x2048x2048, .f32⟩
  | 86 => ⟨S2048, .i32⟩
  | 87 => ⟨S1x2048, .i32⟩
  | 88 => ⟨S2048x1, .i32⟩
  | 89 => ⟨S2048x2048, .i32⟩
  | 90 => ⟨S2048x2048, .i32⟩
  | 91 => ⟨S2048x2048, .i1⟩
  | 92 => ⟨S_, .f32⟩
  | 93 => ⟨S_, .f32⟩
  | 94 => ⟨S8x2048x2048, .i1⟩
  | 95 => ⟨S8x2048x2048, .f32⟩
  | 96 => ⟨S8x2048x2048, .f32⟩
  | 97 => ⟨S_, .f32⟩
  | 98 => ⟨S8x2048, .f32⟩
  | 99 => ⟨S_, .f32⟩
  | 100 => ⟨S8x2048, .f32⟩
  | 101 => ⟨S8x2048, .f32⟩
  | 102 => ⟨S8x2048x1, .f32⟩
  | 103 => ⟨S8x2048x2048, .f32⟩
  | 104 => ⟨S8x2048x2048, .f32⟩
  | 105 => ⟨S8x2048x2048, .f32⟩
  | 106 => ⟨S_, .f32⟩
  | 107 => ⟨S8x2048, .f32⟩
  | 108 => ⟨S8x2048x1, .f32⟩
  | 109 => ⟨S8x2048x2048, .f32⟩
  | 110 => ⟨S8x2048x2048, .f32⟩
  | 111 => ⟨S8x2048x128, .f32⟩
  | 112 => ⟨S16x2048x128, .f32⟩
  | 113 => ⟨S2048x16x128, .f32⟩
  | 114 => ⟨S2048x2048, .f32⟩
  | 115 => ⟨S2048x3x16x128, .f32⟩
  | 116 => ⟨S3x16x2048x128, .f32⟩
  | 117 => ⟨S1x16x2048x128, .f32⟩
  | 118 => ⟨S16x2048x128, .f32⟩
  | 119 => ⟨S1x16x2048x128, .f32⟩
  | 120 => ⟨S16x2048x128, .f32⟩
  | 121 => ⟨S1x16x2048x128, .f32⟩
  | 122 => ⟨S16x2048x128, .f32⟩
  | 123 => ⟨S8x2048x128, .f32⟩
  | 124 => ⟨S8x2048x128, .f32⟩
  | 125 => ⟨S8x2048x2048, .f32⟩
  | 126 => ⟨S_, .f32⟩
  | 127 => ⟨S8x2048x2048, .f32⟩
  | _ => ⟨S2048x6144, .f32⟩

abbrev hbmTy0_1 (i : Nat) : BufTy := match i % 128 with
  | 0 => ⟨S8x2048x2048, .f32⟩
  | 1 => ⟨S8x2048x1, .f32⟩
  | 2 => ⟨S8x2048x2048, .f32⟩
  | 3 => ⟨S8x2048x2048, .f32⟩
  | 4 => ⟨S8x1x2048, .f32⟩
  | 5 => ⟨S8x2048x2048, .f32⟩
  | 6 => ⟨S8x2048x2048, .f32⟩
  | 7 => ⟨S2048, .i32⟩
  | 8 => ⟨S1x2048, .i32⟩
  | 9 => ⟨S2048x1, .i32⟩
  | 10 => ⟨S2048x2048, .i32⟩
  | 11 => ⟨S2048x2048, .i32⟩
  | 12 => ⟨S2048x2048, .i1⟩
  | 13 => ⟨S_, .f32⟩
  | 14 => ⟨S_, .f32⟩
  | 15 => ⟨S8x2048x2048, .i1⟩
  | 16 => ⟨S8x2048x2048, .f32⟩
  | 17 => ⟨S8x2048x2048, .f32⟩
  | 18 => ⟨S_, .f32⟩
  | 19 => ⟨S8x2048, .f32⟩
  | 20 => ⟨S8x2048x1, .f32⟩
  | 21 => ⟨S8x2048x2048, .f32⟩
  | 22 => ⟨S8x2048x2048, .f32⟩
  | 23 => ⟨S8x2048x2048, .f32⟩
  | 24 => ⟨S_, .f32⟩
  | 25 => ⟨S8x2048, .f32⟩
  | 26 => ⟨S8x2048, .f32⟩
  | 27 => ⟨S8x2048, .f32⟩
  | 28 => ⟨S2048x2048, .bf16⟩
  | 29 => ⟨S_, .f32⟩
  | 30 => ⟨S8x2048, .f32⟩
  | 31 => ⟨S16x2048, .f32⟩
  | 32 => ⟨S2048x16, .f32⟩
  | 33 => ⟨S2048x16x1, .f32⟩
  | 34 => ⟨S2048x16x128, .f32⟩
  | 35 => ⟨S2048x2048, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v24 : Ref sig .tc := ⟨.hbm, 44, rfl⟩
abbrev main_call2_cst : Ref sig .tc := ⟨.hbm, 45, rfl⟩
abbrev main_call2_v0 : Ref sig .tc := ⟨.hbm, 46, rfl⟩
abbrev main_v25 : Ref sig .tc := ⟨.hbm, 47, rfl⟩
abbrev main_v26 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_2 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_3 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v50 : Ref sig .tc := ⟨.hbm, 96, rfl⟩
abbrev main_cst_4 : Ref sig .tc := ⟨.hbm, 97, rfl⟩
abbrev main_v51 : Ref sig .tc := ⟨.hbm, 98, rfl⟩
abbrev main_cst_5 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_6 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_7 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_8 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v91 : Ref sig .tc := ⟨.hbm, 145, rfl⟩
abbrev main_cst_9 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_10 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_11 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩

abbrev nD : Nat := 1
abbrev τ : Topo := Topo.v7x

variable {F : FTy → Type} [FloatOps F]
-- ==== Proof.Reals.lean ====
/- Facts about finite extended reals shared by the value claims. -/
module

public import Idealize.ShloMosaic.Lib.Pointwise
public import Idealize.ShloMosaic.Lib.ReduceAll
public import Idealize.ShloMosaic.Lib.IdealHost

@[expose] public section

noncomputable section

namespace Reals

open Idealize.ShloMosaic

/-- A value that is a real number. -/
def Fin' (x : EReal) : Prop := ∃ r : ℝ, x = (r : EReal)

theorem fin_of_abs {x : EReal} (h : max x (-x) < ⊤) : Fin' x := by
  induction x with
  | bot => simp at h
  | coe r => exact ⟨r, rfl⟩
  | top => simp at h

theorem Fin'.coe (r : ℝ) : Fin' (r : EReal) := ⟨r, rfl⟩

theorem Fin'.mul {x y : EReal} (hx : Fin' x) (hy : Fin' y) : Fin' (x * y) := by
  obtain ⟨a, rfl⟩ := hx; obtain ⟨b, rfl⟩ := hy; exact ⟨a * b, by push_cast; rfl⟩

theorem Fin'.add {x y : EReal} (hx : Fin' x) (hy : Fin' y) : Fin' (x + y) := by
  obtain ⟨a, rfl⟩ := hx; obtain ⟨b, rfl⟩ := hy; exact ⟨a + b, by push_cast; rfl⟩

theorem Fin'.sub {x y : EReal} (hx : Fin' x) (hy : Fin' y) : Fin' (x - y) := by
  obtain ⟨a, rfl⟩ := hx; obtain ⟨b, rfl⟩ := hy; exact ⟨a - b, by push_cast; rfl⟩

theorem Fin'.neg {x : EReal} (hx : Fin' x) : Fin' (-x) := by
  obtain ⟨a, rfl⟩ := hx; exact ⟨-a, by push_cast; rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} (s : Finset ι) {f : ι → EReal} (h : ∀ i, Fin' (f i)) : Fin' (∑ i ∈ s, f i) := by
  choose g hg using h
  exact ⟨∑ i ∈ s, g i, by rw [coe_sum]; exact Finset.sum_congr rfl fun i _ => hg i⟩

/-- A real factor comes out of a sum of real terms. -/
theorem sum_mul_fin {ι : Type*} (s : Finset ι) {f : ι → EReal} (h : ∀ i, Fin' (f i)) {a : EReal} (ha : Fin' a) :
    (∑ i ∈ s, f i) * a = ∑ i ∈ s, f i * a := by
  choose g hg using h
  obtain ⟨b, rfl⟩ := ha
  simp only [hg, ← EReal.coe_mul, ← coe_sum, Finset.sum_mul]

/-- What a precondition's `jnp.all(jnp.abs(x) < jnp.inf)` says of each element. -/
theorem fin_of_all {s t u : Shape} {axes : List (Fin s.rank)} [Subsingleton t.Idx] {φ : FTy} (x y : FVec Ideal s φ) (init : u.Idx → BitVec 1)
    (h : s.ReducesTo axes t) (hu : 0 < u.numel) (j : t.Idx) (hy : ∀ i, y i = (⊤ : EReal))
    (e : Host.reduce IntOp.andi (cmpf .olt (Host.absf x) y) init h hu j = 1#1) (i : s.Idx) : Fin' (x i) := by
  have h1 := Host.reduce_andi_all _ init h hu j e i
  apply fin_of_abs
  have h2 : Ideal.cmp .olt (max (x i) (-(x i))) (y i) = 1#1 := h1
  rw [hy] at h2
  by_contra hn
  simp [Ideal.cmp, hn] at h2

/-- `0.5` is a real. -/
theorem half : Ideal.ofBits .f32 0x3F000000#32 = ((1 / 2 : ℝ) : EReal) := by
  simp [Ideal.ofBits, Ideal.ieee, -EReal.coe_mul]; norm_num

theorem top_f32 : Ideal.ofBits .f32 0x7F800000#32 = ⊤ := by simp [Ideal.ofBits, Ideal.ieee]

theorem top_bf16 : Ideal.ofBits .bf16 0x7F80#16 = ⊤ := by simp [Ideal.ofBits, Ideal.ieee]

theorem half_sum {n : ℕ} {X W : Fin n → EReal} (hX : ∀ d, Fin' (X d)) (hW : ∀ d, Fin' (W d)) {h : EReal} (hh : Fin' h) :
    (∑ d, X d * W d) * h = ∑ d, h * X d * W d := by
  rw [sum_mul_fin _ (fun d => (hX d).mul (hW d)) hh]
  exact Finset.sum_congr rfl fun d _ => by rw [mul_comm (X d * W d), mul_assoc]

/-- A sum times one half, term by term, of any extended reals. -/
theorem sum_half {ι : Type*} (s : Finset ι) (f : ι → EReal) :
    (∑ i ∈ s, f i) * Ideal.ofBits .f32 0x3F000000#32 = ∑ i ∈ s, f i * Ideal.ofBits .f32 0x3F000000#32 := by
  rw [half]
  classical
  induction s using Finset.induction_on with
  | empty => simp
  | insert a s ha ih =>
    rw [Finset.sum_insert ha, Finset.sum_insert ha, ← ih]
    exact EReal.right_distrib_of_nonneg_of_ne_top (EReal.coe_nonneg.2 (by norm_num)) (EReal.coe_ne_top _) _ _

theorem Fin'.logistic {x : EReal} (hx : Fin' x) : Fin' (Ideal.logistic x) := by
  obtain ⟨a, rfl⟩ := hx; exact ⟨_, Ideal.logistic_coe a⟩

/-- The derivative of `g · logistic g` times `d · u`, in the two orders of multiplication. -/
theorem silu_grad {d u g s : EReal} (hd : Fin' d) (hu : Fin' u) (hg : Fin' g) (hs : Fin' s) :
    d * u * (s + g * s * (1 - s)) = d * u * s + g * (d * u) * (s * (1 - s)) := by
  obtain ⟨d, rfl⟩ := hd; obtain ⟨u, rfl⟩ := hu; obtain ⟨g, rfl⟩ := hg; obtain ⟨s, rfl⟩ := hs
  have : (d * u * (s + g * s * (1 - s)) : ℝ) = d * u * s + g * (d * u) * (s * (1 - s)) := by ring
  exact_mod_cast congrArg ((↑) : ℝ → EReal) this

theorem and_one {x y : BitVec 1} (h : x &&& y = 1#1) : x = 1#1 ∧ y = 1#1 := by
  revert x y; decide

end Reals

end
-- ==== Proof.GateRef.lean ====
/- The gate gradient's reference, read index by index. -/
module

public import proofs.«01_k».proof.Proof.Gen.GateReferenceIdeal.Run
public import Idealize.ShloMosaic.Lib.Pointwise
public import Idealize.ShloMosaic.Lib.Pipeline.ValueKit
public import proofs.«01_k».proof.Proof.Reals

@[expose] public section

set_option maxRecDepth 16384

noncomputable section

namespace Cert.GateReferenceIdeal.Read

open Cert.GateReferenceIdeal Cert.GateReferenceIdeal.Gen Idealize.ShloMosaic Idealize.ShloMosaic.TcCoe Reals

/-- The gate columns of the slabs. -/
def gateOf (G : FVec Ideal S2048x11264 .f32) : FVec Ideal S2048x5632 .f32 :=
  shapeCast _ (shapeCast _ (extractStridedSlice S2048x4x1x1408 ![0, 0, 0, 0] (shapeCast _ G shapeCasts_S2048x11264_S2048x4x2x1408) slices_S2048x4x2x1408_S2048x4x1x1408_0_0_0_0) shapeCasts_S2048x4x1x1408_S2048x4x1408) shapeCasts_S2048x4x1408_S2048x5632

/-- The up columns of the slabs. -/
def upOf (G : FVec Ideal S2048x11264 .f32) : FVec Ideal S2048x5632 .f32 :=
  shapeCast _ (shapeCast _ (extractStridedSlice S2048x4x1x1408 ![0, 0, 1, 0] (shapeCast _ G shapeCasts_S2048x11264_S2048x4x2x1408) slices_S2048x4x2x1408_S2048x4x1x1408_0_0_1_0) shapeCasts_S2048x4x1x1408_S2048x4x1408) shapeCasts_S2048x4x1408_S2048x5632

/-- The gradient of the hidden activations, `0.5 · dy · w_downᵀ`. -/
def dhOf (X : FVec Ideal S2048x2048 .bf16) (W : FVec Ideal S5632x2048 .bf16) : FVec Ideal S2048x5632 .f32 :=
  Host.dotGeneral dot_S2048x2048_S5632x2048_S2048x5632_1_1_0_0_n_n none (mulf (broadcastInDim S2048x2048 ![] bcast_S_S2048x2048 (constant S_ .f32 0x3F000000#32)) (extf .f32 X bitsLt_bf16_f32)) (extf .f32 W bitsLt_bf16_f32)

/-- `1.0` at every column. -/
def one : FVec Ideal S2048x5632 .f32 := broadcastInDim S2048x5632 ![] bcast_S_S2048x5632 (constant S_ .f32 0x3F800000#32)

def sgOf (g : FVec Ideal S2048x5632 .f32) : FVec Ideal S2048x5632 .f32 := Host.divf one (addf one (Host.exp (Host.negf g)))

def dgateOf (d g u : FVec Ideal S2048x5632 .f32) : FVec Ideal S2048x5632 .f32 :=
  addf (mulf (mulf d u) (sgOf g)) (mulf (mulf g (mulf d u)) (mulf (sgOf g) (subf one (sgOf g))))

def dupOf (d g : FVec Ideal S2048x5632 .f32) : FVec Ideal S2048x5632 .f32 := mulf (mulf g (sgOf g)) d

/-- The two gradients laid out slab by slab. -/
def slabs (a b : FVec Ideal S2048x5632 .f32) : FVec Ideal S2048x11264 .bf16 :=
  truncf .bf16 (shapeCast _ (concatenate S2048x4x2x1408 2 [⟨S2048x4x1x1408, (broadcastInDim S2048x4x1x1408 ![0, 1, 3] bcast_S2048x4x1408_S2048x4x1x1408_0_1_3 (shapeCast _ a shapeCasts_S2048x5632_S2048x4x1408))⟩, ⟨S2048x4x1x1408, (broadcastInDim S2048x4x1x1408 ![0, 1, 3] bcast_S2048x4x1408_S2048x4x1x1408_0_1_3 (shapeCast _ b shapeCasts_S2048x5632_S2048x4x1408))⟩] concatenates_S2048x4x1x1408_S2048x4x1x1408_S2048x4x2x1408_d2) shapeCasts_S2048x4x2x1408_S2048x11264) bitsLt_bf16_f32

/-- The reference's result as a function of its arguments. -/
def REF (X : FVec Ideal S2048x2048 .bf16) (W : FVec Ideal S5632x2048 .bf16) (G : FVec Ideal S2048x11264 .f32) : FVec Ideal S2048x11264 .bf16 :=
  slabs (dgateOf (dhOf X W) (gateOf G) (upOf G)) (dupOf (dhOf X W) (gateOf G))

theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := rfl

theorem gateOf_at (G : FVec Ideal S2048x11264 .f32) (r : Fin 2048) (j : Fin 5632) :
    gateOf G (ix2 r j) = G (ix2 r ⟨j.val / 1408 * 2816 + j.val % 1408, by omega⟩) := by
  pointwise [gateOf]

theorem upOf_at (G : FVec Ideal S2048x11264 .f32) (r : Fin 2048) (j : Fin 5632) :
    upOf G (ix2 r j) = G (ix2 r ⟨j.val / 1408 * 2816 + 1408 + j.val % 1408, by omega⟩) := by
  pointwise [upOf]
  blk_ext

theorem dh_at (X : FVec Ideal S2048x2048 .bf16) (W : FVec Ideal S5632x2048 .bf16) (r : Fin 2048) (j : Fin 5632) :
    dhOf X W (ix2 r j) = ∑ d : Fin 2048, Ideal.ofBits .f32 0x3F000000#32 * X (ix2 r d) * W (ix2 j d) := by
  pointwise [dhOf]

theorem sg_at (g : FVec Ideal S2048x5632 .f32) (y) : sgOf g y = Ideal.logistic (g y) := by
  pointwise [sgOf, one]
  rfl

theorem dgate_at (d g u : FVec Ideal S2048x5632 .f32) (y) :
    dgateOf d g u y = d y * u y * Ideal.logistic (g y) + g y * (d y * u y) * (Ideal.logistic (g y) * (1 - Ideal.logistic (g y))) := by
  simp only [← sg_at]
  pointwise [dgateOf, one]

theorem dup_at (d g : FVec Ideal S2048x5632 .f32) (y) : dupOf d g y = g y * Ideal.logistic (g y) * d y := by
  simp only [← sg_at]
  pointwise [dupOf]

theorem slabs_at (a b : FVec Ideal S2048x5632 .f32) (r : Fin 2048) (j : Fin 11264) :
    slabs a b (ix2 r j) = if j.val / 1408 % 2 < 1 then a (ix2 r ⟨j.val / 2816 * 1408 + j.val % 1408, by omega⟩)
      else b (ix2 r ⟨j.val / 2816 * 1408 + j.val % 1408, by omega⟩) := by
  pointwise [slabs]
  split <;> rfl

theorem REF_at (X : FVec Ideal S2048x2048 .bf16) (W : FVec Ideal S5632x2048 .bf16) (G : FVec Ideal S2048x11264 .f32)
    (hX : ∀ i, Fin' (X i)) (hW : ∀ i, Fin' (W i)) (hG : ∀ i, Fin' (G i)) (r : Fin 2048) (j : Fin 11264) :
    REF X W G (ix2 r j) =
      let d := (∑ n : Fin 2048, X (ix2 r n) * W (ix2 ⟨j.val / 2816 * 1408 + j.val % 1408, by omega⟩ n)) * Ideal.ofBits .f32 0x3F000000#32
      let g := G (ix2 r ⟨j.val / 2816 * 2816 + j.val % 1408, by omega⟩)
      let u := G (ix2 r ⟨j.val / 2816 * 2816 + 1408 + j.val % 1408, by omega⟩)
      if j.val / 1408 % 2 < 1 then d * u * (Ideal.logistic g + g * Ideal.logistic g * (1 - Ideal.logistic g))
      else d * (g * Ideal.logistic g) := by
  have hd (w : Fin 5632) : Fin' (∑ n : Fin 2048, Ideal.ofBits .f32 0x3F000000#32 * X (ix2 r n) * W (ix2 w n)) :=
    Fin'.sum _ fun n => (((half ▸ Fin'.coe _).mul (hX _)).mul (hW _))
  rw [REF, slabs_at, dgate_at, dup_at, dh_at, gateOf_at, upOf_at]
  simp only
  rw [half_sum (fun _ => hX _) (fun _ => hW _) (half ▸ Fin'.coe _)]
  have e1 : (j.val / 2816 * 1408 + j.val % 1408) / 1408 = j.val / 2816 := by omega
  have e2 : (j.val / 2816 * 1408 + j.val % 1408) % 1408 = j.val % 1408 := by omega
  simp only [e1, e2]
  rw [silu_grad (hd _) (hG _) (hG _) (hG _).logistic, mul_comm (G _ * Ideal.logistic _)]

end Cert.GateReferenceIdeal.Read

end
-- ==== Proof.Gate.lean ====
/- The gate gradient: the blocks the kernel writes are the blocks of the reference's result. -/
module

public import proofs.«01_k».proof.Proof.Gen.GateKernelIdeal.Value
public import proofs.«01_k».proof.Proof.Gen.Pre_gate_args_finite
public import proofs.«01_k».proof.Proof.GateRef
public import Idealize.ShloMosaic.Lib.Pipeline.ValueKit

@[expose] public section

set_option maxRecDepth 16384

noncomputable section

namespace Cert.GateKernelIdeal.Hand

open Cert.GateKernelIdeal Cert.GateKernelIdeal.Gen Idealize.ShloMosaic Idealize.ShloMosaic.TcCoe Idealize.SL.Sem Reals
open Idealize.ShloMosaic.Pipeline (Dat)
open Cert.GateReferenceIdeal.Read (REF REF_at)

variable (m : (ℓ : Loc nD τ sig) → Buf (Elt Ideal) ℓ)

/-- What the precondition says of the arguments. -/
theorem args_fin (X : FVec Ideal S2048x2048 .bf16) (W : FVec Ideal S5632x2048 .bf16) (G : FVec Ideal S2048x11264 .f32)
    (e : Cert.Pre_gate_args_finite.fn X W G = constantI Cert.Pre_gate_args_finite.S_ 1 1#1) :
    (∀ i, Fin' (X i)) ∧ (∀ i, Fin' (W i)) ∧ (∀ i, Fin' (G i)) := by
  have e' := congrFun e ix0
  obtain ⟨e1, eG⟩ := and_one e'
  obtain ⟨eX, eW⟩ := and_one e1
  exact ⟨fin_of_all _ _ _ _ _ _ (fun i => top_bf16) eX, fin_of_all _ _ _ _ _ _ (fun i => top_bf16) eW,
    fin_of_all _ _ _ _ _ _ (fun i => top_f32) eG⟩

theorem idx : ∀ t : Fin cfg0.N, win0_0.index t = ![t.val % 4, 0] ∧ win0_1.index t = ![t.val / 4, 0] ∧
    win0_2.index t = ![t.val % 4, t.val / 4] ∧ win0_3.index t = ![t.val % 4, t.val / 4] :=
  (by decide +kernel : ∀ t : Fin grid0.N, _)

theorem point (X : FVec Ideal S2048x2048 .bf16) (W : FVec Ideal S5632x2048 .bf16) (G : FVec Ideal S2048x11264 .f32)
    (hX : ∀ i, Fin' (X i)) (hW : ∀ i, Fin' (W i)) (hG : ∀ i, Fin' (G i)) (c : Dev nD)
    (eX : m ((c : Thread nD τ).loc main_arg0) = X) (eW : m ((c : Thread nD τ).loc main_arg1) = W)
    (eG : m ((c : Thread nD τ).loc main_arg2) = G) (t : Fin cfg0.N) (y) :
    out0_3 (iblk m c 0 t) (iblk m c 1 t) (iblk m c 2 t) y = REF X W G (((cfg0.win 3).blk t).view.emb y) := by
  have hE0 : (((cfg0.win 3).blk t).view.emb y 0).val = t.val % 4 * 512 + (y 0).val := by blk_simp [idx t] <;> omega
  have hE1 : (((cfg0.win 3).blk t).view.emb y 1).val = t.val / 4 * 2816 + (y 1).val := by blk_simp [idx t] <;> omega
  generalize ((cfg0.win 3).blk t).view.emb y = E at hE0 hE1 ⊢
  obtain ⟨r, j, rfl⟩ : ∃ (r : Fin 2048) (j : Fin 11264), E = ix2 r j := ⟨E 0, E 1, by blk_ext⟩
  replace hE0 : r.val = t.val % 4 * 512 + (y 0).val := hE0
  replace hE1 : j.val = t.val / 4 * 2816 + (y 1).val := hE1
  have ht : t.val < 16 := t.isLt
  have b0 (a : Fin 512) (n : Fin 2048) : iblk m c 0 t (ix2 a n) = X (ix2 ⟨t.val % 4 * 512 + a.val, by omega⟩ n) := by
    subst eX; blk_point [iblk, V, idx t]
  have b1 (a : Fin 1408) (n : Fin 2048) : iblk m c 1 t (ix2 a n) = W (ix2 ⟨t.val / 4 * 1408 + a.val, by omega⟩ n) := by
    subst eW; blk_point [iblk, V, idx t]
  have b2 (a : Fin 512) (n : Fin 2816) : iblk m c 2 t (ix2 a n) = G (ix2 ⟨t.val % 4 * 512 + a.val, by omega⟩ ⟨t.val / 4 * 2816 + n.val, by omega⟩) := by
    subst eG; blk_point [iblk, V, idx t]
  rw [REF_at X W G hX hW hG, out0_3]
  canon_tiles x h
  · obtain ⟨a, l, rfl⟩ : ∃ (a : Fin 512) (l : Fin 1408), x = ix2 a l := ⟨x 0, x 1, by blk_ext⟩
    replace h0 : (y 0).val = a.val := h0
    replace h1 : (y 1).val = 1408 + l.val := h1
    open_payloads
    pointwise [k0_pay5, k0_pay1, k0_pay2, k0_pay3]
    simp only [b0, b1, b2]
    rw [if_neg (by omega)]
    blk_point []
  · obtain ⟨a, l, rfl⟩ : ∃ (a : Fin 512) (l : Fin 1408), x = ix2 a l := ⟨x 0, x 1, by blk_ext⟩
    replace h0 : (y 0).val = a.val := h0
    replace h1 : (y 1).val = l.val := h1
    open_payloads
    pointwise [k0_pay4, k0_pay1, k0_pay2, k0_pay3]
    simp only [b0, b1, b2]
    rw [if_pos (by omega)]
    blk_point []

theorem final (c : Dev nD)
    (hX : ∀ i, Fin' (m ((c : Thread nD τ).loc main_arg0) i)) (hW : ∀ i, Fin' (m ((c : Thread nD τ).loc main_arg1) i))
    (hG : ∀ i, Fin' (m ((c : Thread nD τ).loc main_arg2) i)) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m _ _ _ hX hW hG c rfl rfl rfl t y

end Cert.GateKernelIdeal.Hand

end
-- ==== Proof.Attn.lean ====
module

public import proofs.«01_k».proof.Proof.Gen.AttnKernelIdeal
public import proofs.«01_k».proof.Proof.Gen.AttnKernelIdeal.Skeleton
public import proofs.«01_k».proof.Proof.Gen.AttnKernelIdeal.Loops
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernelIdeal.Launch
public import proofs.«01_k».proof.Proof.Gen.AttnKernel.Frame
public import proofs.«01_k».proof.Proof.Gen.AttnReferenceIdeal.Run
-- ==== Proof.Prods.lean ====
module

public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.DwUpKernel
public import proofs.«01_k».proof.Proof.Gen.DwUpKernel.Frame
public import proofs.«01_k».proof.Proof.Gen.DwUpKernelIdeal
public import proofs.«01_k».proof.Proof.Gen.DwUpKernelIdeal.Frame
public import proofs.«01_k».proof.Proof.Gen.DwUpKernelIdeal.Value
public import proofs.«01_k».proof.Proof.Gen.DwUpReferenceIdeal
public import proofs.«01_k».proof.Proof.Gen.DwUpReferenceIdeal.Run
public import proofs.«01_k».proof.Proof.Gen.DnKernel
public import proofs.«01_k».proof.Proof.Gen.DnKernel.Frame
public import proofs.«01_k».proof.Proof.Gen.DnKernelIdeal
public import proofs.«01_k».proof.Proof.Gen.DnKernelIdeal.Frame
public import proofs.«01_k».proof.Proof.Gen.DnKernelIdeal.Value
public import proofs.«01_k».proof.Proof.Gen.DnReferenceIdeal
public import proofs.«01_k».proof.Proof.Gen.DnReferenceIdeal.Run
public import proofs.«01_k».proof.Proof.Gen.DwDownKernel
public import proofs.«01_k».proof.Proof.Gen.DwDownKernel.Frame
public import proofs.«01_k».proof.Proof.Gen.DwDownKernelIdeal
public import proofs.«01_k».proof.Proof.Gen.DwDownKernelIdeal.Frame
public import proofs.«01_k».proof.Proof.Gen.DwDownKernelIdeal.Value
public import proofs.«01_k».proof.Proof.Gen.DwDownReferenceIdeal
public import proofs.«01_k».proof.Proof.Gen.DwDownReferenceIdeal.Run
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DoKernel
public import proofs.«01_k».proof.Proof.Gen.DoKernel.Frame
public import proofs.«01_k».proof.Proof.Gen.DoKernelIdeal
public import proofs.«01_k».proof.Proof.Gen.DoKernelIdeal.Frame
public import proofs.«01_k».proof.Proof.Gen.DoKernelIdeal.Value
public import proofs.«01_k».proof.Proof.Gen.DoReferenceIdeal
public import proofs.«01_k».proof.Proof.Gen.DoReferenceIdeal.Run
public import proofs.«01_k».proof.Proof.Gen.DwOutKernel
public import proofs.«01_k».proof.Proof.Gen.DwOutKernel.Frame
public import proofs.«01_k».proof.Proof.Gen.DwOutKernelIdeal
public import proofs.«01_k».proof.Proof.Gen.DwOutKernelIdeal.Frame
public import proofs.«01_k».proof.Proof.Gen.DwOutKernelIdeal.Value
public import proofs.«01_k».proof.Proof.Gen.DwOutReferenceIdeal
public import proofs.«01_k».proof.Proof.Gen.DwOutReferenceIdeal.Run
public import proofs.«01_k».proof.Proof.Gen.DwQkvKernel
public import proofs.«01_k».proof.Proof.Gen.DwQkvKernel.Frame
public import proofs.«01_k».proof.Proof.Gen.DwQkvKernelIdeal
public import proofs.«01_k».proof.Proof.Gen.DwQkvKernelIdeal.Frame
public import proofs.«01_k».proof.Proof.Gen.DwQkvKernelIdeal.Value
public import proofs.«01_k».proof.Proof.Gen.DwQkvReferenceIdeal
public import proofs.«01_k».proof.Proof.Gen.DwQkvReferenceIdeal.Run
public import proofs.«01_k».proof.Proof.Gen.DnQkvKernel
public import proofs.«01_k».proof.Proof.Gen.DnQkvKernel.Frame
public import proofs.«01_k».proof.Proof.Gen.DnQkvKernelIdeal
public import proofs.«01_k».proof.Proof.Gen.DnQkvKernelIdeal.Frame
public import proofs.«01_k».proof.Proof.Gen.DnQkvKernelIdeal.Value
public import proofs.«01_k».proof.Proof.Gen.DnQkvReferenceIdeal
public import proofs.«01_k».proof.Proof.Gen.DnQkvReferenceIdeal.Run
public import proofs.«01_k».proof.Proof.Gen.QkvKernel
public import proofs.«01_k».proof.Proof.Gen.QkvKernel.Frame
public import proofs.«01_k».proof.Proof.Gen.QkvKernelIdeal
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
-- ==== Proof.Steps.lean ====
module

public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.DNormKernel.Frame
public import proofs.«01_k».proof.Proof.Gen.DNormKernelIdeal.Frame
public import proofs.«01_k».proof.Proof.Gen.DNormKernelIdeal.Value
public import proofs.«01_k».proof.Proof.Gen.DNormReferenceIdeal.Run
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.DwfKernel.Frame
public import proofs.«01_k».proof.Proof.Gen.DwfKernelIdeal.Frame
public import proofs.«01_k».proof.Proof.Gen.DwfKernelIdeal.Value
public import proofs.«01_k».proof.Proof.Gen.DwfReferenceIdeal.Run
public import proofs.«01_k».proof.Proof.Gen.DnGateKernel.Frame
public import proofs.«01_k».proof.Proof.Gen.DnGateKernelIdeal.Frame
public import proofs.«01_k».proof.Proof.Gen.DnGateKernelIdeal.Value
public import proofs.«01_k».proof.Proof.Gen.DnGateReferenceIdeal.Run
public import proofs.«01_k».proof.Proof.Gen.HfKernel.Frame
public import proofs.«01_k».proof.Proof.Gen.HfKernelIdeal.Frame
public import proofs.«01_k».proof.Proof.Gen.HfKernelIdeal.Value
public import proofs.«01_k».proof.Proof.Gen.HfReferenceIdeal.Run
public import proofs.«01_k».proof.Proof.Gen.ForgetKernel.Frame
public import proofs.«01_k».proof.Proof.Gen.ForgetKernelIdeal.Frame
public import proofs.«01_k».proof.Proof.Gen.ForgetKernelIdeal.Value
public import proofs.«01_k».proof.Proof.Gen.ForgetReferenceIdeal.Run
public import proofs.«01_k».proof.Proof.Gen.DForgetKernel.Frame
public import proofs.«01_k».proof.Proof.Gen.DForgetKernelIdeal.Frame
public import proofs.«01_k».proof.Proof.Gen.DForgetKernelIdeal.Value
public import proofs.«01_k».proof.Proof.Gen.DForgetReferenceIdeal.Run
public import proofs.«01_k».proof.Proof.Gen.SumKernel.Frame
public import proofs.«01_k».proof.Proof.Gen.SumKernelIdeal.Frame
public import proofs.«01_k».proof.Proof.Gen.SumKernelIdeal.Value
public import proofs.«01_k».proof.Proof.Gen.SumReferenceIdeal.Run
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Run
public import proofs.«01_k».proof.Proof.Gen.Pre_dnorm_args_finite
public import proofs.«01_k».proof.Proof.Gen.Pre_loss_args_finite
public import proofs.«01_k».proof.Proof.Gen.DDilReferenceIdeal.Run
public import proofs.«01_k».proof.Proof.Gen.FwdReferenceIdeal.Run
-- ==== Proof.AttnLoops.lean ====
/-
  The two outer loops of the attention gradient's body (one over the query blocks of a stick-breaking head, one over
  those of a forgetting head), each by an invariant: what a trip only reads stays at its contents, and what it writes
  holds anything. The inner loops go by their generated invariants.
-/
module

public import proofs.«01_k».proof.Proof.Gen.AttnKernelIdeal.Loops
public import proofs.«01_k».proof.Proof.Gen.AttnKernelIdeal.Skeleton
public import Idealize.ShloMosaic.Lib.Tactic

@[expose] public section

set_option maxRecDepth 8192
set_option maxHeartbeats 4000000

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one trip of loop `t1` touches: what it reads at its contents, what it writes at the contents it finds. -/
abbrev Rest1 (c : Dev nD) (arg14 arg17 : Memref sig .tc .vmem S2048x128 .bf16) (arg5 : Memref sig .tc .vmem S2048x128 .f32) (arg15 : Memref sig .tc .vmem S2048x128 .bf16) (arg10 : Memref sig .tc .vmem S3x512x256 .f32) (arg16 : Memref sig .tc .vmem S2048x128 .bf16) (arg18 arg19 arg20 : Memref sig .tc .vmem S2048x128 .f32) (X14 : BufTy.Contents (Elt F) arg14.view.ty) (X17 : BufTy.Contents (Elt F) arg17.view.ty) (X5 : BufTy.Contents (Elt F) arg5.view.ty) (X15 : BufTy.Contents (Elt F) arg15.view.ty) (X10 : BufTy.Contents (Elt F) arg10.view.ty) (X16 : BufTy.Contents (Elt F) arg16.view.ty) (f18 : BufTy.Contents (Elt F) arg18.view.ty) (f19 : BufTy.Contents (Elt F) arg19.view.ty) (f20 : BufTy.Contents (Elt F) arg20.view.ty) : sProp (MT nD τ sig Unit (Elt F) ℕ (UR sig nD τ) ℕ) :=
  iprop((arg14.view.loc (c : Thread nD τ) ↦[arg14.view.set]{fullShare} X14) ∗ (arg17.view.loc (c : Thread nD τ) ↦[arg17.view.set]{fullShare} X17) ∗ (arg5.view.loc (c : Thread nD τ) ↦[arg5.view.set]{fullShare} X5) ∗ (arg15.view.loc (c : Thread nD τ) ↦[arg15.view.set]{fullShare} X15) ∗ (arg10.view.loc (c : Thread nD τ) ↦[arg10.view.set]{fullShare} X10) ∗ (arg16.view.loc (c : Thread nD τ) ↦[arg16.view.set]{fullShare} X16) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))

/-- One trip: the contents it leaves in what it writes, as functions of those it finds, with its run. -/
@[irreducible] def tript1 (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (k0_h2 : k0_cond2 i = 1#1) (X14 : BufTy.Contents (Elt F) arg14.view.ty) (X17 : BufTy.Contents (Elt F) arg17.view.ty) (X5 : BufTy.Contents (Elt F) arg5.view.ty) (X15 : BufTy.Contents (Elt F) arg15.view.ty) (X10 : BufTy.Contents (Elt F) arg10.view.ty) (X16 : BufTy.Contents (Elt F) arg16.view.ty) (k : Fin k0_t1_loop.trips) :
    Σ' (N18 : BufTy.Contents (Elt F) arg18.view.ty → BufTy.Contents (Elt F) arg19.view.ty → BufTy.Contents (Elt F) arg20.view.ty → BufTy.Contents (Elt F) arg18.view.ty), Σ' (N19 : BufTy.Contents (Elt F) arg18.view.ty → BufTy.Contents (Elt F) arg19.view.ty → BufTy.Contents (Elt F) arg20.view.ty → BufTy.Contents (Elt F) arg19.view.ty), { N20 : BufTy.Contents (Elt F) arg18.view.ty → BufTy.Contents (Elt F) arg19.view.ty → BufTy.Contents (Elt F) arg20.view.ty → BufTy.Contents (Elt F) arg20.view.ty // ∀ (E : Set ℕ) (f18 : BufTy.Contents (Elt F) arg18.view.ty) (f19 : BufTy.Contents (Elt F) arg19.view.ty) (f20 : BufTy.Contents (Elt F) arg20.view.ty),
      Rest1 (F := F) c arg14 arg17 arg5 arg15 arg10 arg16 arg18 arg19 arg20 X14 X17 X5 X15 X10 X16 f18 f19 f20
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 k ())
          (fun _ => Rest1 (F := F) c arg14 arg17 arg5 arg15 arg10 arg16 arg18 arg19 arg20 X14 X17 X5 X15 X10 X16 (N18 f18 f19 f20) (N19 f18 f19 f20) (N20 f18 f19 f20)) } := by
  refine ⟨?_, ?_, ?_, fun E f18 f19 f20 => ?run⟩
  case run =>
    unfold k0_t1_body
    iintro ⟨R14, R17, R5, R15, R10, R16, W18, W19, W20⟩
    sl_exec
    sl_step
    sl_close

/-- The invariant. -/
abbrev invt1 (c : Dev nD) (arg14 arg17 : Memref sig .tc .vmem S2048x128 .bf16) (arg5 : Memref sig .tc .vmem S2048x128 .f32) (arg15 : Memref sig .tc .vmem S2048x128 .bf16) (arg10 : Memref sig .tc .vmem S3x512x256 .f32) (arg16 : Memref sig .tc .vmem S2048x128 .bf16) (arg18 arg19 arg20 : Memref sig .tc .vmem S2048x128 .f32) (X14 : BufTy.Contents (Elt F) arg14.view.ty) (X17 : BufTy.Contents (Elt F) arg17.view.ty) (X5 : BufTy.Contents (Elt F) arg5.view.ty) (X15 : BufTy.Contents (Elt F) arg15.view.ty) (X10 : BufTy.Contents (Elt F) arg10.view.ty) (X16 : BufTy.Contents (Elt F) arg16.view.ty) (_ : ℕ) (_ : Unit) : sProp (MT nD τ sig Unit (Elt F) ℕ (UR sig nD τ) ℕ) :=
  iprop((arg14.view.loc (c : Thread nD τ) ↦[arg14.view.set]{fullShare} X14) ∗ (arg17.view.loc (c : Thread nD τ) ↦[arg17.view.set]{fullShare} X17) ∗ (arg5.view.loc (c : Thread nD τ) ↦[arg5.view.set]{fullShare} X5) ∗ (arg15.view.loc (c : Thread nD τ) ↦[arg15.view.set]{fullShare} X15) ∗ (arg10.view.loc (c : Thread nD τ) ↦[arg10.view.set]{fullShare} X10) ∗ (arg16.view.loc (c : Thread nD τ) ↦[arg16.view.set]{fullShare} X16) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))

set_option warn.classDefReducibility false in
/-- The loop by its invariant. -/
@[sl_loop] def loopInvt1 (𝒱 : Variants) (c : Dev nD) (bd : Option 𝒱.V) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (k0_h2 : k0_cond2 i = 1#1) (X14 : BufTy.Contents (Elt F) arg14.view.ty) (X17 : BufTy.Contents (Elt F) arg17.view.ty) (X5 : BufTy.Contents (Elt F) arg5.view.ty) (X15 : BufTy.Contents (Elt F) arg15.view.ty) (X10 : BufTy.Contents (Elt F) arg10.view.ty) (X16 : BufTy.Contents (Elt F) arg16.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 where
  inv := invt1 (F := F) c arg14 arg17 arg5 arg15 arg10 arg16 arg18 arg19 arg20 X14 X17 X5 X15 X10 X16
  step k acc := by
    iintro ⟨R14, R17, R5, R15, R10, R16, ⟨%f18, W18⟩, ⟨%f19, W19⟩, ⟨%f20, W20⟩⟩
    iapply (wp_wand_r Idealize.ShloMosaic.frame (wpE (defs₀ (F := F)) 𝒱 (c : Thread nD τ) bd) E)
    isplitl [R14 R17 R5 R15 R10 R16 W18 W19 W20]
    · iapply ((tript1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 X14 X17 X5 X15 X10 X16 k).2.2.2 E f18 f19 f20)
      isplitl [R14]; · iexact R14
      isplitl [R17]; · iexact R17
      isplitl [R5]; · iexact R5
      isplitl [R15]; · iexact R15
      isplitl [R10]; · iexact R10
      isplitl [R16]; · iexact R16
      isplitl [W18]; · iexact W18
      isplitl [W19]; · iexact W19
      iexact W20
    · iintro %yld ⟨R14, R17, R5, R15, R10, R16, W18, W19, W20⟩
      isplitl [R14]; · iexact R14
      isplitl [R17]; · iexact R17
      isplitl [R5]; · iexact R5
      isplitl [R15]; · iexact R15
      isplitl [R10]; · iexact R10
      isplitl [R16]; · iexact R16
      isplitl [W18]
      · iexists _; iexact W18
      isplitl [W19]
      · iexists _; iexact W19
      iexists _; iexact W20

/-- What one trip of loop `t4` touches: what it reads at its contents, what it writes at the contents it finds. -/
abbrev Rest4 (c : Dev nD) (arg14 arg17 : Memref sig .tc .vmem S2048x128 .bf16) (arg4 arg5 : Memref sig .tc .vmem S2048x128 .f32) (arg6 arg7 : Memref sig .tc .vmem S2048x128 .f32) (arg8 : Memref sig .tc .vmem S8x1x2048 .f32) (arg9 : Memref sig .tc .vmem S3x512x256 .f32) (arg15 arg16 : Memref sig .tc .vmem S2048x128 .bf16) (arg12 : Memref sig .tc .vmem S8x1x2048 .f32) (arg13 arg18 : Memref sig .tc .vmem S2048x128 .f32) (arg19 arg20 : Memref sig .tc .vmem S2048x128 .f32) (X14 : BufTy.Contents (Elt F) arg14.view.ty) (X17 : BufTy.Contents (Elt F) arg17.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X15 : BufTy.Contents (Elt F) arg15.view.ty) (X16 : BufTy.Contents (Elt F) arg16.view.ty) (f12 : BufTy.Contents (Elt F) arg12.view.ty) (f13 : BufTy.Contents (Elt F) arg13.view.ty) (f18 : BufTy.Contents (Elt F) arg18.view.ty) (f19 : BufTy.Contents (Elt F) arg19.view.ty) (f20 : BufTy.Contents (Elt F) arg20.view.ty) : sProp (MT nD τ sig Unit (Elt F) ℕ (UR sig nD τ) ℕ) :=
  iprop((arg14.view.loc (c : Thread nD τ) ↦[arg14.view.set]{fullShare} X14) ∗ (arg17.view.loc (c : Thread nD τ) ↦[arg17.view.set]{fullShare} X17) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg15.view.loc (c : Thread nD τ) ↦[arg15.view.set]{fullShare} X15) ∗ (arg16.view.loc (c : Thread nD τ) ↦[arg16.view.set]{fullShare} X16) ∗ (arg12.view.loc (c : Thread nD τ) ↦[arg12.view.set]{fullShare} f12) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))

/-- One trip: the contents it leaves in what it writes, as functions of those it finds, with its run. -/
@[irreducible] def tript4 (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg0 : BitVec 32) (k0_h3 : k0_cond3 i = 1#1) (v52 : BitVec 32) (X14 : BufTy.Contents (Elt F) arg14.view.ty) (X17 : BufTy.Contents (Elt F) arg17.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X15 : BufTy.Contents (Elt F) arg15.view.ty) (X16 : BufTy.Contents (Elt F) arg16.view.ty) (k : Fin k0_t4_loop.trips) :
    Σ' (N12 : BufTy.Contents (Elt F) arg12.view.ty → BufTy.Contents (Elt F) arg13.view.ty → BufTy.Contents (Elt F) arg18.view.ty → BufTy.Contents (Elt F) arg19.view.ty → BufTy.Contents (Elt F) arg20.view.ty → BufTy.Contents (Elt F) arg12.view.ty), Σ' (N13 : BufTy.Contents (Elt F) arg12.view.ty → BufTy.Contents (Elt F) arg13.view.ty → BufTy.Contents (Elt F) arg18.view.ty → BufTy.Contents (Elt F) arg19.view.ty → BufTy.Contents (Elt F) arg20.view.ty → BufTy.Contents (Elt F) arg13.view.ty), Σ' (N18 : BufTy.Contents (Elt F) arg12.view.ty → BufTy.Contents (Elt F) arg13.view.ty → BufTy.Contents (Elt F) arg18.view.ty → BufTy.Contents (Elt F) arg19.view.ty → BufTy.Contents (Elt F) arg20.view.ty → BufTy.Contents (Elt F) arg18.view.ty), Σ' (N19 : BufTy.Contents (Elt F) arg12.view.ty → BufTy.Contents (Elt F) arg13.view.ty → BufTy.Contents (Elt F) arg18.view.ty → BufTy.Contents (Elt F) arg19.view.ty → BufTy.Contents (Elt F) arg20.view.ty → BufTy.Contents (Elt F) arg19.view.ty), { N20 : BufTy.Contents (Elt F) arg12.view.ty → BufTy.Contents (Elt F) arg13.view.ty → BufTy.Contents (Elt F) arg18.view.ty → BufTy.Contents (Elt F) arg19.view.ty → BufTy.Contents (Elt F) arg20.view.ty → BufTy.Contents (Elt F) arg20.view.ty // ∀ (E : Set ℕ) (f12 : BufTy.Contents (Elt F) arg12.view.ty) (f13 : BufTy.Contents (Elt F) arg13.view.ty) (f18 : BufTy.Contents (Elt F) arg18.view.ty) (f19 : BufTy.Contents (Elt F) arg19.view.ty) (f20 : BufTy.Contents (Elt F) arg20.view.ty),
      Rest4 (F := F) c arg14 arg17 arg4 arg5 arg6 arg7 arg8 arg9 arg15 arg16 arg12 arg13 arg18 arg19 arg20 X14 X17 X4 X5 X6 X7 X8 X9 X15 X16 f12 f13 f18 f19 f20
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h3 v52 k ())
          (fun _ => Rest4 (F := F) c arg14 arg17 arg4 arg5 arg6 arg7 arg8 arg9 arg15 arg16 arg12 arg13 arg18 arg19 arg20 X14 X17 X4 X5 X6 X7 X8 X9 X15 X16 (N12 f12 f13 f18 f19 f20) (N13 f12 f13 f18 f19 f20) (N18 f12 f13 f18 f19 f20) (N19 f12 f13 f18 f19 f20) (N20 f12 f13 f18 f19 f20)) } := by
  refine ⟨?_, ?_, ?_, ?_, ?_, fun E f12 f13 f18 f19 f20 => ?run⟩
  case run =>
    unfold k0_t4_body
    iintro ⟨R14, R17, R4, R5, R6, R7, R8, R9, R15, R16, W12, W13, W18, W19, W20⟩
    sl_exec
    sl_step
    sl_close

/-- The invariant. -/
abbrev invt4 (c : Dev nD) (arg14 arg17 : Memref sig .tc .vmem S2048x128 .bf16) (arg4 arg5 : Memref sig .tc .vmem S2048x128 .f32) (arg6 arg7 : Memref sig .tc .vmem S2048x128 .f32) (arg8 : Memref sig .tc .vmem S8x1x2048 .f32) (arg9 : Memref sig .tc .vmem S3x512x256 .f32) (arg15 arg16 : Memref sig .tc .vmem S2048x128 .bf16) (arg12 : Memref sig .tc .vmem S8x1x2048 .f32) (arg13 arg18 : Memref sig .tc .vmem S2048x128 .f32) (arg19 arg20 : Memref sig .tc .vmem S2048x128 .f32) (X14 : BufTy.Contents (Elt F) arg14.view.ty) (X17 : BufTy.Contents (Elt F) arg17.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X15 : BufTy.Contents (Elt F) arg15.view.ty) (X16 : BufTy.Contents (Elt F) arg16.view.ty) (_ : ℕ) (_ : Unit) : sProp (MT nD τ sig Unit (Elt F) ℕ (UR sig nD τ) ℕ) :=
  iprop((arg14.view.loc (c : Thread nD τ) ↦[arg14.view.set]{fullShare} X14) ∗ (arg17.view.loc (c : Thread nD τ) ↦[arg17.view.set]{fullShare} X17) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg15.view.loc (c : Thread nD τ) ↦[arg15.view.set]{fullShare} X15) ∗ (arg16.view.loc (c : Thread nD τ) ↦[arg16.view.set]{fullShare} X16) ∗ (∃ f, (arg12.view.loc (c : Thread nD τ) ↦[arg12.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))

set_option warn.classDefReducibility false in
/-- The loop by its invariant. -/
@[sl_loop] def loopInvt4 (𝒱 : Variants) (c : Dev nD) (bd : Option 𝒱.V) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg0 : BitVec 32) (k0_h3 : k0_cond3 i = 1#1) (v52 : BitVec 32) (X14 : BufTy.Contents (Elt F) arg14.view.ty) (X17 : BufTy.Contents (Elt F) arg17.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X15 : BufTy.Contents (Elt F) arg15.view.ty) (X16 : BufTy.Contents (Elt F) arg16.view.ty) :
    Gen.LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h3 v52 where
  inv := invt4 (F := F) c arg14 arg17 arg4 arg5 arg6 arg7 arg8 arg9 arg15 arg16 arg12 arg13 arg18 arg19 arg20 X14 X17 X4 X5 X6 X7 X8 X9 X15 X16
  step k acc := by
    iintro ⟨R14, R17, R4, R5, R6, R7, R8, R9, R15, R16, ⟨%f12, W12⟩, ⟨%f13, W13⟩, ⟨%f18, W18⟩, ⟨%f19, W19⟩, ⟨%f20, W20⟩⟩
    iapply (wp_wand_r Idealize.ShloMosaic.frame (wpE (defs₀ (F := F)) 𝒱 (c : Thread nD τ) bd) E)
    isplitl [R14 R17 R4 R5 R6 R7 R8 R9 R15 R16 W12 W13 W18 W19 W20]
    · iapply ((tript4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h3 v52 X14 X17 X4 X5 X6 X7 X8 X9 X15 X16 k).2.2.2.2.2 E f12 f13 f18 f19 f20)
      isplitl [R14]; · iexact R14
      isplitl [R17]; · iexact R17
      isplitl [R4]; · iexact R4
      isplitl [R5]; · iexact R5
      isplitl [R6]; · iexact R6
      isplitl [R7]; · iexact R7
      isplitl [R8]; · iexact R8
      isplitl [R9]; · iexact R9
      isplitl [R15]; · iexact R15
      isplitl [R16]; · iexact R16
      isplitl [W12]; · iexact W12
      isplitl [W13]; · iexact W13
      isplitl [W18]; · iexact W18
      isplitl [W19]; · iexact W19
      iexact W20
    · iintro %yld ⟨R14, R17, R4, R5, R6, R7, R8, R9, R15, R16, W12, W13, W18, W19, W20⟩
      isplitl [R14]; · iexact R14
      isplitl [R17]; · iexact R17
      isplitl [R4]; · iexact R4
      isplitl [R5]; · iexact R5
      isplitl [R6]; · iexact R6
      isplitl [R7]; · iexact R7
      isplitl [R8]; · iexact R8
      isplitl [R9]; · iexact R9
      isplitl [R15]; · iexact R15
      isplitl [R16]; · iexact R16
      isplitl [W12]
      · iexists _; iexact W12
      isplitl [W13]
      · iexists _; iexact W13
      isplitl [W18]
      · iexists _; iexact W18
      isplitl [W19]
      · iexists _; iexact W19
      iexists _; iexact W20

end Cert.AttnKernelIdeal.Hand

end
-- ==== Proof.AttnRunFirst.lean ====
/-
  The attention gradient's body at any grid point, on any whole memrefs, and its frame: the inputs' blocks stay as they
  were, everything else the body writes ends at some contents. At any float instance; the two printed programs
  (bit-exact and over the reals) have their frames from the same text of run.
-/
module

public import proofs.«01_k».proof.Proof.AttnLoops
public import Idealize.ShloMosaic.Lib.Tactic

@[expose] public section

set_option maxRecDepth 8192
set_option maxHeartbeats 4000000

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body on whole memrefs: from the inputs' blocks and anything in the results' and scratch memrefs, it runs to the
    continuation holding the inputs' blocks unchanged and anything in the rest. -/
theorem sound_first (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x1 x2 : Vec F S2048x128 .f32) (x3 x4 : Vec F S2048x128 .f32) (x5 x6 x7 : Vec F S2048x128 .f32) (x8 : Vec F S8x1x2048 .f32) (x9 x10 : Vec F S3x512x256 .f32) (K : PUnit → sProp (MT nD τ sig Unit (Elt F) ℕ (UR sig nD τ) ℕ)) (h1 : k0_cond1 i = 1#1) (h2 : k0_cond2 i = 1#1) (h3 : ¬ k0_cond3 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) E (cc0_l0_mix_dattn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  · sl_unfold [cc0_l0_mix_dattn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.AttnKernelIdeal.Hand

end
-- ==== Proof.AttnRunStick.lean ====
/-
  The attention gradient's body at any grid point, on any whole memrefs, and its frame: the inputs' blocks stay as they
  were, everything else the body writes ends at some contents. At any float instance; the two printed programs
  (bit-exact and over the reals) have their frames from the same text of run.
-/
module

public import proofs.«01_k».proof.Proof.AttnLoops
public import Idealize.ShloMosaic.Lib.Tactic

@[expose] public section

set_option maxRecDepth 8192
set_option maxHeartbeats 4000000

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body on whole memrefs: from the inputs' blocks and anything in the results' and scratch memrefs, it runs to the
    continuation holding the inputs' blocks unchanged and anything in the rest. -/
theorem sound_stick (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x1 x2 : Vec F S2048x128 .f32) (x3 x4 : Vec F S2048x128 .f32) (x5 x6 x7 : Vec F S2048x128 .f32) (x8 : Vec F S8x1x2048 .f32) (x9 x10 : Vec F S3x512x256 .f32) (K : PUnit → sProp (MT nD τ sig Unit (Elt F) ℕ (UR sig nD τ) ℕ)) (h1 : ¬ k0_cond1 i = 1#1) (h2 : k0_cond2 i = 1#1) (h3 : ¬ k0_cond3 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) E (cc0_l0_mix_dattn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  · sl_unfold [cc0_l0_mix_dattn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.AttnKernelIdeal.Hand

end
-- ==== Proof.AttnRunForget.lean ====
/-
  The attention gradient's body at any grid point, on any whole memrefs, and its frame: the inputs' blocks stay as they
  were, everything else the body writes ends at some contents. At any float instance; the two printed programs
  (bit-exact and over the reals) have their frames from the same text of run.
-/
module

public import proofs.«01_k».proof.Proof.AttnLoops
public import Idealize.ShloMosaic.Lib.Tactic

@[expose] public section

set_option maxRecDepth 8192
set_option maxHeartbeats 4000000

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body on whole memrefs: from the inputs' blocks and anything in the results' and scratch memrefs, it runs to the
    continuation holding the inputs' blocks unchanged and anything in the rest. -/
theorem sound_forget (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x1 x2 : Vec F S2048x128 .f32) (x3 x4 : Vec F S2048x128 .f32) (x5 x6 x7 : Vec F S2048x128 .f32) (x8 : Vec F S8x1x2048 .f32) (x9 x10 : Vec F S3x512x256 .f32) (K : PUnit → sProp (MT nD τ sig Unit (Elt F) ℕ (UR sig nD τ) ℕ)) (h1 : ¬ k0_cond1 i = 1#1) (h2 : ¬ k0_cond2 i = 1#1) (h3 : k0_cond3 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) E (cc0_l0_mix_dattn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  · sl_unfold [cc0_l0_mix_dattn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.AttnKernelIdeal.Hand

end
-- ==== Proof.AttnBody.lean ====
/-
  The attention gradient's body at any grid point, on any whole memrefs, and its frame: the inputs' blocks stay as they
  were, everything else the body writes ends at some contents. At any float instance; the two printed programs
  (bit-exact and over the reals) have their frames from the same text of run.
-/
module

public import proofs.«01_k».proof.Proof.AttnRunFirst
public import proofs.«01_k».proof.Proof.AttnRunStick
public import proofs.«01_k».proof.Proof.AttnRunForget
public import proofs.«01_k».proof.Proof.Gen.AttnKernelIdeal.Frame
public import proofs.«01_k».proof.Proof.Gen.AttnKernelIdeal.Points
public import proofs.«01_k».proof.Proof.Gen.AttnKernelIdeal.Launch
public import Idealize.ShloMosaic.Lib.Tactic

@[expose] public section

set_option maxRecDepth 8192
set_option maxHeartbeats 4000000

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

/-- The body at any grid point, by the three cases its branches make. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x1x2048 .f32) (harg8 : arg8.IsWhole) (arg9 : Memref sig .tc .vmem S3x512x256 .f32) (harg9 : arg9.IsWhole) (arg10 : Memref sig .tc .vmem S3x512x256 .f32) (harg10 : arg10.IsWhole) (arg11 : Memref sig .tc .vmem S3x2048x128 .bf16) (harg11 : arg11.IsWhole) (arg12 : Memref sig .tc .vmem S8x1x2048 .f32) (harg12 : arg12.IsWhole) (arg13 : Memref sig .tc .vmem S2048x128 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x1 x2 : Vec F S2048x128 .f32) (x3 x4 : Vec F S2048x128 .f32) (x5 x6 x7 : Vec F S2048x128 .f32) (x8 : Vec F S8x1x2048 .f32) (x9 x10 : Vec F S3x512x256 .f32) (K : PUnit → sProp (MT nD τ sig Unit (Elt F) ℕ (UR sig nD τ) ℕ)) (hi : (k0_cond1 i = 1#1 ∧ k0_cond2 i = 1#1 ∧ ¬ k0_cond3 i = 1#1) ∨ (¬ k0_cond1 i = 1#1 ∧ k0_cond2 i = 1#1 ∧ ¬ k0_cond3 i = 1#1) ∨ (¬ k0_cond1 i = 1#1 ∧ ¬ k0_cond2 i = 1#1 ∧ k0_cond3 i = 1#1)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) E (cc0_l0_mix_dattn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rcases hi with ⟨h1, h2, h3⟩ | ⟨h1, h2, h3⟩ | ⟨h1, h2, h3⟩
  · exact sound_first c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 K h1 h2 h3
  · exact sound_stick c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 K h1 h2 h3
  · exact sound_forget c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 K h1 h2 h3

/-- Which branches the body takes at each point. -/
theorem conds (t : Fin cfg0.N) : (k0_cond1 (grid0.coords t) = 1#1 ∧ k0_cond2 (grid0.coords t) = 1#1 ∧ ¬ k0_cond3 (grid0.coords t) = 1#1) ∨ (¬ k0_cond1 (grid0.coords t) = 1#1 ∧ k0_cond2 (grid0.coords t) = 1#1 ∧ ¬ k0_cond3 (grid0.coords t) = 1#1) ∨ (¬ k0_cond1 (grid0.coords t) = 1#1 ∧ ¬ k0_cond2 (grid0.coords t) = 1#1 ∧ k0_cond3 (grid0.coords t) = 1#1) :=
  (by decide +kernel : ∀ t : Fin grid0.N, (k0_cond1 (grid0.coords t) = 1#1 ∧ k0_cond2 (grid0.coords t) = 1#1 ∧ ¬ k0_cond3 (grid0.coords t) = 1#1) ∨ (¬ k0_cond1 (grid0.coords t) = 1#1 ∧ k0_cond2 (grid0.coords t) = 1#1 ∧ ¬ k0_cond3 (grid0.coords t) = 1#1) ∨ (¬ k0_cond1 (grid0.coords t) = 1#1 ∧ ¬ k0_cond2 (grid0.coords t) = 1#1 ∧ k0_cond3 (grid0.coords t) = 1#1)) t

variable (m : (ℓ : Loc nD τ sig) → Buf (Elt F) ℓ) (ρ : Dev nD → PrngReg)

/-- The proof data: the arrays as the region finds them, each input's buffer at its block; what the results' buffers hold
    is left unsaid (the windows `forgets0` marks). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ _ := ΦA spec0 c
  q w := Pipeline.shareOf spec0 w
  owed _ := 0

/-- The results' windows: what the body leaves there is not stated. -/
def forgets0 : Fin 13 → Bool := fun w => decide (10 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The invariant with the scratch as memrefs owned at some contents. -/
theorem PhiA_eq (c : Dev nD) :
    (ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold ΦA; rw [scopedRest0_eq]; simp only [owns_whole]; try rfl

/-- What the body is called with at point `t`, window by window, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X) ∗ (∃ X, owns (c : Thread nD τ) (st0_11 t) fullShare X) ∗ (∃ X, owns (c : Thread nD τ) (st0_12 t) fullShare X))
def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X) ∗ (∃ X, owns (c : Thread nD τ) (st0_11 t) fullShare X) ∗ (∃ X, owns (c : Thread nD τ) (st0_12 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = ΦA spec0 c from rfl, show (dats m 0 c).Φ t.castSucc = ΦA spec0 c from rfl,
    show (dats m 0 c).owesAt () t.succ = (dats m 0 c).owesAt () t.castSucc from rfl, PhiA_eq,
    after0_0, after0_1, after0_2, after0_3, after0_4, after0_5, after0_6, after0_7, after0_8, after0_9]
  iintro ⟨⟨⟨⟨%e0, S0⟩, ⟨%e1, S1⟩, ⟨%e2, S2⟩, ⟨%e3, S3⟩, ⟨%e4, S4⟩, ⟨%e5, S5⟩, ⟨%e6, S6⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ (conds t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  iintro ⟨H0, H1, H2, H3, H4, H5, H6, H7, H8, H9, H10, H11, H12, S0, S1, S2, S3, S4, S5, S6⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: from any memory with zero counters every execution ends, each input array is as the region found it and every
    counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl) (hQ' := fun _ h => h)

/-- The run read at the arguments: each ends as it was, and every counter is at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1.arr_in c 2 rfl).trans ((A_eq m c 2).trans (V_main_arg0 m c)),
       (h.1.arr_in c 3 rfl).trans ((A_eq m c 3).trans (V_main_arg1 m c)),
       (h.1.arr_in c 6 rfl).trans ((A_eq m c 6).trans (V_main_arg2 m c))⟩, h.2⟩) (run_main m ρ)

end Cert.AttnKernelIdeal.Hand

end
-- ==== Proof.DDilFrame.lean ====
/-
  The frame kit of the call's program: its arrays as its one region finds them, and each window's block at a point.
  The host lines before the call are many, so the budget of steps is raised.
-/
module

public import proofs.«01_k».proof.Proof.Gen.DDilKernelIdeal.Launch
public import proofs.«01_k».proof.Proof.Gen.DDilKernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

set_option maxHeartbeats 8000000

noncomputable section

namespace Cert.DDilKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A core's arrays when the region is entered: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52]) (fun b => m (c, b)) b

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub⟩)
    (by simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (repeat' constructor)) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DDilKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c)))⟩) h

end Cert.DDilKernelIdeal.Gen

end
-- ==== Proof.DDilLoops.lean ====
/-
  The outer loops of the dilated attention's gradient, each by an invariant: what a trip only reads stays at its contents, and what it
  writes holds anything. The inner loops go by their generated invariants.
-/
module

public import proofs.«01_k».proof.Proof.Gen.DDilKernelIdeal.Loops
public import proofs.«01_k».proof.Proof.Gen.DDilKernelIdeal.Skeleton
public import Idealize.ShloMosaic.Lib.Tactic

@[expose] public section

set_option maxRecDepth 8192
set_option maxHeartbeats 4000000

noncomputable section

namespace Cert.DDilKernelIdeal.Hand

open Cert.DDilKernelIdeal Cert.DDilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one trip of loop `t1` touches: what it reads at its contents, what it writes at the contents it finds. -/
abbrev Restt1 (c : Dev nD) (arg11 arg14 : Memref sig .tc .vmem S2048x128 .bf16) (arg4 arg5 arg6 : Memref sig .tc .vmem S2048x128 .f32) (arg12 : Memref sig .tc .vmem S2048x128 .bf16) (arg9 : Memref sig .tc .vmem S5x512x256 .f32) (arg13 : Memref sig .tc .vmem S2048x128 .bf16) (arg15 arg16 arg17 : Memref sig .tc .vmem S2048x128 .f32) (X11 : BufTy.Contents (Elt F) arg11.view.ty) (X14 : BufTy.Contents (Elt F) arg14.view.ty) (X4 : BufTy.Contents (Elt F) arg4.view.ty) (X5 : BufTy.Contents (Elt F) arg5.view.ty) (X6 : BufTy.Contents (Elt F) arg6.view.ty) (X12 : BufTy.Contents (Elt F) arg12.view.ty) (X9 : BufTy.Contents (Elt F) arg9.view.ty) (X13 : BufTy.Contents (Elt F) arg13.view.ty) (f15 : BufTy.Contents (Elt F) arg15.view.ty) (f16 : BufTy.Contents (Elt F) arg16.view.ty) (f17 : BufTy.Contents (Elt F) arg17.view.ty) : sProp (MT nD τ sig Unit (Elt F) ℕ (UR sig nD τ) ℕ) :=
  iprop((arg11.view.loc (c : Thread nD τ) ↦[arg11.view.set]{fullShare} X11) ∗ (arg14.view.loc (c : Thread nD τ) ↦[arg14.view.set]{fullShare} X14) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg9.view.loc (c : Thread nD τ) ↦[arg9.view.set]{fullShare} X9) ∗ (arg13.view.loc (c : Thread nD τ) ↦[arg13.view.set]{fullShare} X13) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S5x512x256 .f32) (harg9 : arg9.IsWhole) (arg10 : Memref sig .tc .vmem S3x2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)

/-- One trip: the contents it leaves in what it writes, as functions of those it finds, with its run. -/
@[irreducible] def tript1 (𝒱 : Variants) (c : Dev nD) (bd : Option 𝒱.V) (i : grid0.Coords) (v22 : Vec F S2048x128 .f32) (v26 v27 : FVec F S2048x128 .f32) (v28 : IVec S2048x128 32) (v33 : FVec F S2048x128 .f32) (v34 : IVec S2048x128 32) (X11 : BufTy.Contents (Elt F) arg11.view.ty) (X14 : BufTy.Contents (Elt F) arg14.view.ty) (X4 : BufTy.Contents (Elt F) arg4.view.ty) (X5 : BufTy.Contents (Elt F) arg5.view.ty) (X6 : BufTy.Contents (Elt F) arg6.view.ty) (X12 : BufTy.Contents (Elt F) arg12.view.ty) (X9 : BufTy.Contents (Elt F) arg9.view.ty) (X13 : BufTy.Contents (Elt F) arg13.view.ty) (k : Fin k0_t1_loop.trips) :
    Σ' (N15 : BufTy.Contents (Elt F) arg15.view.ty → BufTy.Contents (Elt F) arg16.view.ty → BufTy.Contents (Elt F) arg17.view.ty → BufTy.Contents (Elt F) arg15.view.ty), Σ' (N16 : BufTy.Contents (Elt F) arg15.view.ty → BufTy.Contents (Elt F) arg16.view.ty → BufTy.Contents (Elt F) arg17.view.ty → BufTy.Contents (Elt F) arg16.view.ty), { N17 : BufTy.Contents (Elt F) arg15.view.ty → BufTy.Contents (Elt F) arg16.view.ty → BufTy.Contents (Elt F) arg17.view.ty → BufTy.Contents (Elt F) arg17.view.ty // ∀ (E : Set ℕ) (f15 : BufTy.Contents (Elt F) arg15.view.ty) (f16 : BufTy.Contents (Elt F) arg16.view.ty) (f17 : BufTy.Contents (Elt F) arg17.view.ty),
      Restt1 (F := F) c arg11 arg14 arg4 arg5 arg6 arg12 arg9 arg13 arg15 arg16 arg17 X11 X14 X4 X5 X6 X12 X9 X13 f15 f16 f17
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v22 v26 v27 v28 v33 v34 k ())
          (fun _ => Restt1 (F := F) c arg11 arg14 arg4 arg5 arg6 arg12 arg9 arg13 arg15 arg16 arg17 X11 X14 X4 X5 X6 X12 X9 X13 (N15 f15 f16 f17) (N16 f15 f16 f17) (N17 f15 f16 f17)) } := by
  refine ⟨?_, ?_, ?_, fun E f15 f16 f17 => ?run⟩
  case run =>
    unfold k0_t1_body
    iintro ⟨R11, R14, R4, R5, R6, R12, R9, R13, W15, W16, W17⟩
    sl_exec
    sl_step
    sl_close

end

/-- The invariant. -/
abbrev invt1 (c : Dev nD) (arg11 arg14 : Memref sig .tc .vmem S2048x128 .bf16) (arg4 arg5 arg6 : Memref sig .tc .vmem S2048x128 .f32) (arg12 : Memref sig .tc .vmem S2048x128 .bf16) (arg9 : Memref sig .tc .vmem S5x512x256 .f32) (arg13 : Memref sig .tc .vmem S2048x128 .bf16) (arg15 arg16 arg17 : Memref sig .tc .vmem S2048x128 .f32) (X11 : BufTy.Contents (Elt F) arg11.view.ty) (X14 : BufTy.Contents (Elt F) arg14.view.ty) (X4 : BufTy.Contents (Elt F) arg4.view.ty) (X5 : BufTy.Contents (Elt F) arg5.view.ty) (X6 : BufTy.Contents (Elt F) arg6.view.ty) (X12 : BufTy.Contents (Elt F) arg12.view.ty) (X9 : BufTy.Contents (Elt F) arg9.view.ty) (X13 : BufTy.Contents (Elt F) arg13.view.ty) (_ : ℕ) (_ : Unit) : sProp (MT nD τ sig Unit (Elt F) ℕ (UR sig nD τ) ℕ) :=
  iprop((arg11.view.loc (c : Thread nD τ) ↦[arg11.view.set]{fullShare} X11) ∗ (arg14.view.loc (c : Thread nD τ) ↦[arg14.view.set]{fullShare} X14) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg9.view.loc (c : Thread nD τ) ↦[arg9.view.set]{fullShare} X9) ∗ (arg13.view.loc (c : Thread nD τ) ↦[arg13.view.set]{fullShare} X13) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S5x512x256 .f32) (harg9 : arg9.IsWhole) (arg10 : Memref sig .tc .vmem S3x2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)

set_option warn.classDefReducibility false in
/-- The loop by its invariant. -/
@[sl_loop] def loopInvt1 (𝒱 : Variants) (c : Dev nD) (bd : Option 𝒱.V) (E : Set ℕ) (i : grid0.Coords) (v22 : Vec F S2048x128 .f32) (v26 v27 : FVec F S2048x128 .f32) (v28 : IVec S2048x128 32) (v33 : FVec F S2048x128 .f32) (v34 : IVec S2048x128 32) (X11 : BufTy.Contents (Elt F) arg11.view.ty) (X14 : BufTy.Contents (Elt F) arg14.view.ty) (X4 : BufTy.Contents (Elt F) arg4.view.ty) (X5 : BufTy.Contents (Elt F) arg5.view.ty) (X6 : BufTy.Contents (Elt F) arg6.view.ty) (X12 : BufTy.Contents (Elt F) arg12.view.ty) (X9 : BufTy.Contents (Elt F) arg9.view.ty) (X13 : BufTy.Contents (Elt F) arg13.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v22 v26 v27 v28 v33 v34 where
  inv := invt1 (F := F) c arg11 arg14 arg4 arg5 arg6 arg12 arg9 arg13 arg15 arg16 arg17 X11 X14 X4 X5 X6 X12 X9 X13
  step k acc := by
    iintro ⟨R11, R14, R4, R5, R6, R12, R9, R13, ⟨%f15, W15⟩, ⟨%f16, W16⟩, ⟨%f17, W17⟩⟩
    iapply (wp_wand_r Idealize.ShloMosaic.frame (wpE (defs₀ (F := F)) 𝒱 (c : Thread nD τ) bd) E)
    isplitl [R11 R14 R4 R5 R6 R12 R9 R13 W15 W16 W17]
    · iapply ((tript1 (F := F) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i v22 v26 v27 v28 v33 v34 X11 X14 X4 X5 X6 X12 X9 X13 k).2.2.2 E f15 f16 f17)
      isplitl [R11]; · iexact R11
      isplitl [R14]; · iexact R14
      isplitl [R4]; · iexact R4
      isplitl [R5]; · iexact R5
      isplitl [R6]; · iexact R6
      isplitl [R12]; · iexact R12
      isplitl [R9]; · iexact R9
      isplitl [R13]; · iexact R13
      isplitl [W15]; · iexact W15
      isplitl [W16]; · iexact W16
      iexact W17
    · iintro %yld ⟨R11, R14, R4, R5, R6, R12, R9, R13, W15, W16, W17⟩
      isplitl [R11]; · iexact R11
      isplitl [R14]; · iexact R14
      isplitl [R4]; · iexact R4
      isplitl [R5]; · iexact R5
      isplitl [R6]; · iexact R6
      isplitl [R12]; · iexact R12
      isplitl [R9]; · iexact R9
      isplitl [R13]; · iexact R13
      isplitl [W15]
      · iexists _; iexact W15
      isplitl [W16]
      · iexists _; iexact W16
      iexists _; iexact W17

end

end Cert.DDilKernelIdeal.Hand

end
-- ==== Proof.DDilBody.lean ====
/-
  The body of the dilated attention's gradient at any grid point, on any whole memrefs, and its frame: the inputs' blocks stay as they
  were, everything else the body writes ends at some contents. At any float instance; the two printed programs
  (bit-exact and over the reals) have their frames from the same text of run.
-/
module

public import proofs.«01_k».proof.Proof.DDilFrame
public import proofs.«01_k».proof.Proof.Gen.DDilKernelIdeal.Points
public import proofs.«01_k».proof.Proof.Gen.DDilKernelIdeal.Launch
public import proofs.«01_k».proof.Proof.DDilLoops
public import Idealize.ShloMosaic.Lib.Tactic

@[expose] public section

set_option maxRecDepth 8192
set_option maxHeartbeats 4000000

noncomputable section

namespace Cert.DDilKernelIdeal.Hand

open Cert.DDilKernelIdeal Cert.DDilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S5x512x256 .f32) (harg9 : arg9.IsWhole) (arg10 : Memref sig .tc .vmem S3x2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)

/-- What the body is given and gives back: its inputs' blocks, and anything in its results' and scratch memrefs. -/
abbrev Held (c : Dev nD) (arg1 arg2 : Memref sig .tc .vmem S2048x128 .f32) (arg3 arg4 : Memref sig .tc .vmem S2048x128 .f32) (arg5 arg6 : Memref sig .tc .vmem S2048x128 .f32) (arg7 arg8 : Memref sig .tc .vmem S2048x128 .f32) (arg9 : Memref sig .tc .vmem S5x512x256 .f32) (arg10 : Memref sig .tc .vmem S3x2048x128 .bf16) (arg11 arg12 : Memref sig .tc .vmem S2048x128 .bf16) (arg13 arg14 : Memref sig .tc .vmem S2048x128 .bf16) (arg15 arg16 arg17 : Memref sig .tc .vmem S2048x128 .f32) (x1 x2 : Vec F S2048x128 .f32) (x3 x4 : Vec F S2048x128 .f32) (x5 x6 : Vec F S2048x128 .f32) (x7 x8 : Vec F S2048x128 .f32) (x9 : Vec F S5x512x256 .f32) : sProp (MT nD τ sig Unit (Elt F) ℕ (UR sig nD τ) ℕ) :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))

set_option maxHeartbeats 40000000 in
/-- The body on whole memrefs: from the inputs' blocks and anything in the results' and scratch memrefs, it runs to the
    continuation holding the inputs' blocks unchanged and anything in the rest. -/
theorem sound_body (c : Dev nD) (E : Set ℕ) (i : grid0.Coords) (x1 x2 : Vec F S2048x128 .f32) (x3 x4 : Vec F S2048x128 .f32) (x5 x6 : Vec F S2048x128 .f32) (x7 x8 : Vec F S2048x128 .f32) (x9 : Vec F S5x512x256 .f32) (K : PUnit → sProp (MT nD τ sig Unit (Elt F) ℕ (UR sig nD τ) ℕ)) :
    iprop(Held (F := F) c arg1 arg2 arg3 arg4 arg5 arg6 arg7 arg8 arg9 arg10 arg11 arg12 arg13 arg14 arg15 arg16 arg17 x1 x2 x3 x4 x5 x6 x7 x8 x9 ∗ (Held (F := F) c arg1 arg2 arg3 arg4 arg5 arg6 arg7 arg8 arg9 arg10 arg11 arg12 arg13 arg14 arg15 arg16 arg17 x1 x2 x3 x4 x5 x6 x7 x8 x9 -∗ K ⟨⟩))
      ⊢ wp frame (wpE (defs₀ (F := F)) Variants.none (c : Thread nD τ) none) E (cc0_l1_mix_dattn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  · sl_unfold [cc0_l1_mix_dattn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end

variable (m : (ℓ : Loc nD τ sig) → Buf (Elt F) ℓ) (ρ : Dev nD → PrngReg)

/-- The proof data: the arrays as the region finds them, each input's buffer at its block; what the results' buffers hold
    is left unsaid (the windows `forgets0` marks). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := ΦA spec0 c
  q w := Pipeline.shareOf spec0 w
  owed _ := 0

/-- The results' windows: what the body leaves there is not stated. -/
def forgets0 : Fin 10 → Bool := fun w => decide (9 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The invariant with the scratch as memrefs owned at some contents. -/
theorem PhiA_eq (c : Dev nD) :
    (ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold ΦA; rw [scopedRest0_eq]; simp only [owns_whole]; try rfl

/-- What the body is called with at point `t`, window by window, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ X, owns (c : Thread nD τ) (st0_9 t) fullShare X))
def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (∃ X, owns (c : Thread nD τ) (st0_9 t) fullShare X))

/-- The body at any point. -/
theorem sound_pass (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = ΦA spec0 c from rfl, show (dats m 0 c).Φ t.castSucc = ΦA spec0 c from rfl,
    show (dats m 0 c).owesAt () t.succ = (dats m 0 c).owesAt () t.castSucc from rfl, PhiA_eq,
    after0_0, after0_1, after0_2, after0_3, after0_4, after0_5, after0_6, after0_7, after0_8]
  iintro ⟨⟨⟨⟨%e0, S0⟩, ⟨%e1, S1⟩, ⟨%e2, S2⟩, ⟨%e3, S3⟩, ⟨%e4, S4⟩, ⟨%e5, S5⟩, ⟨%e6, S6⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_body _ _ _ _ _ _ _ _ _ _ _ _ _ _ _ _ _ _ _ _ _ _ _ _ _ _ _ _ _ _ _ _ _ _ c Set.univ (grid0.coords t) (iblk m c 0 t) (iblk m c 1 t) (iblk m c 2 t) (iblk m c 3 t) (iblk m c 4 t) (iblk m c 5 t) (iblk m c 6 t) (iblk m c 7 t) (iblk m c 8 t) _)
  unfold Held
  isplitr [Hr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iintro ⟨H0, H1, H2, H3, H4, H5, H6, H7, H8, H9, S0, S1, S2, S3, S4, S5, S6⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_pass m c t) rfl .rfl fun _ => .rfl

set_option backward.isDefEq.respectTransparency.types false in
/-- The run: from any memory with zero counters every execution ends, each input array is as the region found it and every
    counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl) (hQ' := fun _ h => h)

/-- The run read at the arguments: each ends as it was, and every counter is at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1.arr_in c 2 rfl).trans ((A_eq m c 2).trans (V_main_arg0 m c)),
       (h.1.arr_in c 3 rfl).trans ((A_eq m c 3).trans (V_main_arg1 m c))⟩, h.2⟩) (run_main m ρ)

end Cert.DDilKernelIdeal.Hand

end
-- ==== Proof.DilFrame.lean ====
/-
  The frame kit of the call's program: its arrays as its one region finds them, and each window's block at a point.
  The host lines before the call are many, so the budget of steps is raised.
-/
module

public import proofs.«01_k».proof.Proof.Gen.DilKernelIdeal.Launch
public import proofs.«01_k».proof.Proof.Gen.DilKernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

set_option maxHeartbeats 8000000

noncomputable section

namespace Cert.DilKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A core's arrays when the region is entered: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40]) (fun b => m (c, b)) b

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub⟩)
    (by simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (repeat' constructor)) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DilKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 2).trans (((dats 0 c).arrAt_in 2 rfl _).trans ((hA c 2).trans (V_main_arg0 m c)))) h

end Cert.DilKernelIdeal.Gen

end
-- ==== Proof.DilLoops.lean ====
/-
  The outer loops of the dilated attention, each by an invariant: what a trip only reads stays at its contents, and what it
  writes holds anything. The inner loops go by their generated invariants.
-/
module

public import proofs.«01_k».proof.Proof.Gen.DilKernelIdeal.Loops
public import proofs.«01_k».proof.Proof.Gen.DilKernelIdeal.Skeleton
public import Idealize.ShloMosaic.Lib.Tactic

@[expose] public section

set_option maxRecDepth 8192
set_option maxHeartbeats 4000000

noncomputable section

namespace Cert.DilKernelIdeal.Hand

open Cert.DilKernelIdeal Cert.DilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one trip of loop `t1` touches: what it reads at its contents, what it writes at the contents it finds. -/
abbrev Restt1 (c : Dev nD) (arg10 arg11 : Memref sig .tc .vmem S2048x128 .bf16) (arg6 : Memref sig .tc .vmem S5x512x256 .f32) (arg12 : Memref sig .tc .vmem S2048x128 .bf16) (arg7 : Memref sig .tc .vmem S2048x128 .f32) (arg8 : Memref sig .tc .vmem S2048x128 .bf16) (arg9 : Memref sig .tc .vmem S2048x128 .f32) (X10 : BufTy.Contents (Elt F) arg10.view.ty) (X11 : BufTy.Contents (Elt F) arg11.view.ty) (X6 : BufTy.Contents (Elt F) arg6.view.ty) (X12 : BufTy.Contents (Elt F) arg12.view.ty) (f7 : BufTy.Contents (Elt F) arg7.view.ty) (f8 : BufTy.Contents (Elt F) arg8.view.ty) (f9 : BufTy.Contents (Elt F) arg9.view.ty) : sProp (MT nD τ sig Unit (Elt F) ℕ (UR sig nD τ) ℕ) :=
  iprop((arg10.view.loc (c : Thread nD τ) ↦[arg10.view.set]{fullShare} X10) ∗ (arg11.view.loc (c : Thread nD τ) ↦[arg11.view.set]{fullShare} X11) ∗ (arg6.view.loc (c : Thread nD τ) ↦[arg6.view.set]{fullShare} X6) ∗ (arg12.view.loc (c : Thread nD τ) ↦[arg12.view.set]{fullShare} X12) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S5x512x256 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole)

/-- One trip: the contents it leaves in what it writes, as functions of those it finds, with its run. -/
@[irreducible] def tript1 (𝒱 : Variants) (c : Dev nD) (bd : Option 𝒱.V) (i : grid0.Coords) (X10 : BufTy.Contents (Elt F) arg10.view.ty) (X11 : BufTy.Contents (Elt F) arg11.view.ty) (X6 : BufTy.Contents (Elt F) arg6.view.ty) (X12 : BufTy.Contents (Elt F) arg12.view.ty) (k : Fin k0_t1_loop.trips) :
    Σ' (N7 : BufTy.Contents (Elt F) arg7.view.ty → BufTy.Contents (Elt F) arg8.view.ty → BufTy.Contents (Elt F) arg9.view.ty → BufTy.Contents (Elt F) arg7.view.ty), Σ' (N8 : BufTy.Contents (Elt F) arg7.view.ty → BufTy.Contents (Elt F) arg8.view.ty → BufTy.Contents (Elt F) arg9.view.ty → BufTy.Contents (Elt F) arg8.view.ty), { N9 : BufTy.Contents (Elt F) arg7.view.ty → BufTy.Contents (Elt F) arg8.view.ty → BufTy.Contents (Elt F) arg9.view.ty → BufTy.Contents (Elt F) arg9.view.ty // ∀ (E : Set ℕ) (f7 : BufTy.Contents (Elt F) arg7.view.ty) (f8 : BufTy.Contents (Elt F) arg8.view.ty) (f9 : BufTy.Contents (Elt F) arg9.view.ty),
      Restt1 (F := F) c arg10 arg11 arg6 arg12 arg7 arg8 arg9 X10 X11 X6 X12 f7 f8 f9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12  k ())
          (fun _ => Restt1 (F := F) c arg10 arg11 arg6 arg12 arg7 arg8 arg9 X10 X11 X6 X12 (N7 f7 f8 f9) (N8 f7 f8 f9) (N9 f7 f8 f9)) } := by
  refine ⟨?_, ?_, ?_, fun E f7 f8 f9 => ?run⟩
  case run =>
    unfold k0_t1_body
    iintro ⟨R10, R11, R6, R12, W7, W8, W9⟩
    sl_exec
    sl_step
    sl_close

end

/-- The invariant. -/
abbrev invt1 (c : Dev nD) (arg10 arg11 : Memref sig .tc .vmem S2048x128 .bf16) (arg6 : Memref sig .tc .vmem S5x512x256 .f32) (arg12 : Memref sig .tc .vmem S2048x128 .bf16) (arg7 : Memref sig .tc .vmem S2048x128 .f32) (arg8 : Memref sig .tc .vmem S2048x128 .bf16) (arg9 : Memref sig .tc .vmem S2048x128 .f32) (X10 : BufTy.Contents (Elt F) arg10.view.ty) (X11 : BufTy.Contents (Elt F) arg11.view.ty) (X6 : BufTy.Contents (Elt F) arg6.view.ty) (X12 : BufTy.Contents (Elt F) arg12.view.ty) (_ : ℕ) (_ : Unit) : sProp (MT nD τ sig Unit (Elt F) ℕ (UR sig nD τ) ℕ) :=
  iprop((arg10.view.loc (c : Thread nD τ) ↦[arg10.view.set]{fullShare} X10) ∗ (arg11.view.loc (c : Thread nD τ) ↦[arg11.view.set]{fullShare} X11) ∗ (arg6.view.loc (c : Thread nD τ) ↦[arg6.view.set]{fullShare} X6) ∗ (arg12.view.loc (c : Thread nD τ) ↦[arg12.view.set]{fullShare} X12) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S5x512x256 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole)

set_option warn.classDefReducibility false in
/-- The loop by its invariant. -/
@[sl_loop] def loopInvt1 (𝒱 : Variants) (c : Dev nD) (bd : Option 𝒱.V) (E : Set ℕ) (i : grid0.Coords) (X10 : BufTy.Contents (Elt F) arg10.view.ty) (X11 : BufTy.Contents (Elt F) arg11.view.ty) (X6 : BufTy.Contents (Elt F) arg6.view.ty) (X12 : BufTy.Contents (Elt F) arg12.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12  where
  inv := invt1 (F := F) c arg10 arg11 arg6 arg12 arg7 arg8 arg9 X10 X11 X6 X12
  step k acc := by
    iintro ⟨R10, R11, R6, R12, ⟨%f7, W7⟩, ⟨%f8, W8⟩, ⟨%f9, W9⟩⟩
    iapply (wp_wand_r Idealize.ShloMosaic.frame (wpE (defs₀ (F := F)) 𝒱 (c : Thread nD τ) bd) E)
    isplitl [R10 R11 R6 R12 W7 W8 W9]
    · iapply ((tript1 (F := F) arg1 harg1 arg2 harg2 arg3 harg3 arg4 harg4 arg5 harg5 arg6 harg6 arg7 harg7 arg8 harg8 arg9 harg9 arg10 harg10 arg11 harg11 arg12 harg12 𝒱 c bd i  X10 X11 X6 X12 k).2.2.2 E f7 f8 f9)
      isplitl [R10]; · iexact R10
      isplitl [R11]; · iexact R11
      isplitl [R6]; · iexact R6
      isplitl [R12]; · iexact R12
      isplitl [W7]; · iexact W7
      isplitl [W8]; · iexact W8
      iexact W9
    · iintro %yld ⟨R10, R11, R6, R12, W7, W8, W9⟩
      isplitl [R10]; · iexact R10
      isplitl [R11]; · iexact R11
      isplitl [R6]; · iexact R6
      isplitl [R12]; · iexact R12
      isplitl [W7]
      · iexists _; iexact W7
      isplitl [W8]
      · iexists _; iexact W8
      iexists _; iexact W9

end

end Cert.DilKernelIdeal.Hand

end
-- ==== Proof.DilBody.lean ====
/-
  The body of the dilated attention at any grid point, on any whole memrefs, and its frame: the inputs' blocks stay as they
  were, everything else the body writes ends at some contents. At any float instance; the two printed programs
  (bit-exact and over the reals) have their frames from the same text of run.
-/
module

public import proofs.«01_k».proof.Proof.DilFrame
public import proofs.«01_k».proof.Proof.Gen.DilKernelIdeal.Points
public import proofs.«01_k».proof.Proof.Gen.DilKernelIdeal.Launch
public import proofs.«01_k».proof.Proof.DilLoops
public import Idealize.ShloMosaic.Lib.Tactic

@[expose] public section

set_option maxRecDepth 8192
set_option maxHeartbeats 4000000

noncomputable section

namespace Cert.DilKernelIdeal.Hand

open Cert.DilKernelIdeal Cert.DilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S5x512x256 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole)

/-- What the body is given and gives back: its inputs' blocks, and anything in its results' and scratch memrefs. -/
abbrev Held (c : Dev nD) (arg1 arg2 : Memref sig .tc .vmem S2048x128 .f32) (arg3 arg4 arg5 : Memref sig .tc .vmem S2048x128 .f32) (arg6 : Memref sig .tc .vmem S5x512x256 .f32) (arg7 : Memref sig .tc .vmem S2048x128 .f32) (arg8 : Memref sig .tc .vmem S2048x128 .bf16) (arg9 : Memref sig .tc .vmem S2048x128 .f32) (arg10 arg11 arg12 : Memref sig .tc .vmem S2048x128 .bf16) (x1 x2 : Vec F S2048x128 .f32) (x3 x4 x5 : Vec F S2048x128 .f32) (x6 : Vec F S5x512x256 .f32) : sProp (MT nD τ sig Unit (Elt F) ℕ (UR sig nD τ) ℕ) :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))

set_option maxHeartbeats 40000000 in
/-- The body on whole memrefs: from the inputs' blocks and anything in the results' and scratch memrefs, it runs to the
    continuation holding the inputs' blocks unchanged and anything in the rest. -/
theorem sound_body (c : Dev nD) (E : Set ℕ) (i : grid0.Coords) (x1 x2 : Vec F S2048x128 .f32) (x3 x4 x5 : Vec F S2048x128 .f32) (x6 : Vec F S5x512x256 .f32) (K : PUnit → sProp (MT nD τ sig Unit (Elt F) ℕ (UR sig nD τ) ℕ)) :
    iprop(Held (F := F) c arg1 arg2 arg3 arg4 arg5 arg6 arg7 arg8 arg9 arg10 arg11 arg12 x1 x2 x3 x4 x5 x6 ∗ (Held (F := F) c arg1 arg2 arg3 arg4 arg5 arg6 arg7 arg8 arg9 arg10 arg11 arg12 x1 x2 x3 x4 x5 x6 -∗ K ⟨⟩))
      ⊢ wp frame (wpE (defs₀ (F := F)) Variants.none (c : Thread nD τ) none) E (cc0_l1_mix_attn i arg1 harg1 arg2 harg2 arg3 harg3 arg4 harg4 arg5 harg5 arg6 harg6 arg7 harg7 arg8 harg8 arg9 harg9 arg10 harg10 arg11 harg11 arg12 harg12) K := by
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  · sl_unfold [cc0_l1_mix_attn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end

variable (m : (ℓ : Loc nD τ sig) → Buf (Elt F) ℓ) (ρ : Dev nD → PrngReg)

/-- The proof data: the arrays as the region finds them, each input's buffer at its block; what the results' buffers hold
    is left unsaid (the windows `forgets0` marks). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := ΦA spec0 c
  q w := Pipeline.shareOf spec0 w
  owed _ := 0

/-- The results' windows: what the body leaves there is not stated. -/
def forgets0 : Fin 9 → Bool := fun w => decide (6 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant with the scratch as memrefs owned at some contents. -/
theorem PhiA_eq (c : Dev nD) :
    (ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold ΦA; rw [scopedRest0_eq]; simp only [owns_whole]; try rfl

/-- What the body is called with at point `t`, window by window, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ X, owns (c : Thread nD τ) (st0_7 t) fullShare X) ∗ (∃ X, owns (c : Thread nD τ) (st0_8 t) fullShare X))
def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X) ∗ (∃ X, owns (c : Thread nD τ) (st0_7 t) fullShare X) ∗ (∃ X, owns (c : Thread nD τ) (st0_8 t) fullShare X))

/-- The body at any point. -/
theorem sound_pass (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = ΦA spec0 c from rfl, show (dats m 0 c).Φ t.castSucc = ΦA spec0 c from rfl,
    show (dats m 0 c).owesAt () t.succ = (dats m 0 c).owesAt () t.castSucc from rfl, PhiA_eq,
    after0_0, after0_1, after0_2, after0_3, after0_4, after0_5]
  iintro ⟨⟨⟨⟨%e0, S0⟩, ⟨%e1, S1⟩, ⟨%e2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_body _ _ _ _ _ _ _ _ _ _ _ _ _ _ _ _ _ _ _ _ _ _ _ _ c Set.univ (grid0.coords t) (iblk m c 0 t) (iblk m c 1 t) (iblk m c 2 t) (iblk m c 3 t) (iblk m c 4 t) (iblk m c 5 t) _)
  unfold Held
  isplitr [Hr Ho]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexists _; iexact S0
    isplitl [S1]; · iexists _; iexact S1
    iexists _; iexact S2
  iintro ⟨H0, H1, H2, H3, H4, H5, H6, H7, H8, S0, S1, S2⟩
  isplitl [S0 S1 S2 Hr]
  · isplitl [S0 S1 S2]
    · isplitl [S0]; · iexact S0
      isplitl [S1]; · iexact S1
      iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_pass m c t) rfl .rfl fun _ => .rfl

set_option backward.isDefEq.respectTransparency.types false in
/-- The run: from any memory with zero counters every execution ends, each input array is as the region found it and every
    counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl) (hQ' := fun _ h => h)

/-- The run read at the arguments: each ends as it was, and every counter is at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
      (h.1.arr_in c 2 rfl).trans ((A_eq m c 2).trans (V_main_arg0 m c)), h.2⟩) (run_main m ρ)

end Cert.DilKernelIdeal.Hand

end
-- ==== Proof.FwdLoops.lean ====
/-
  The outer loops of the stick-breaking and forgetting attention, each by an invariant: what a trip only reads stays at its contents, and what it
  writes holds anything. The inner loops go by their generated invariants.
-/
module

public import proofs.«01_k».proof.Proof.Gen.FwdKernelIdeal.Loops
public import proofs.«01_k».proof.Proof.Gen.FwdKernelIdeal.Skeleton
public import Idealize.ShloMosaic.Lib.Tactic

@[expose] public section

set_option maxRecDepth 8192
set_option maxHeartbeats 4000000

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one trip of loop `t1` touches: what it reads at its contents, what it writes at the contents it finds. -/
abbrev Restt1 (c : Dev nD) (arg11 arg12 arg13 : Memref sig .tc .vmem S2048x128 .bf16) (arg7 : Memref sig .tc .vmem S3x512x256 .f32) (arg8 : Memref sig .tc .vmem S2048x128 .f32) (arg9 : Memref sig .tc .vmem S2048x128 .bf16) (arg10 : Memref sig .tc .vmem S2048x128 .f32) (X11 : BufTy.Contents (Elt F) arg11.view.ty) (X12 : BufTy.Contents (Elt F) arg12.view.ty) (X13 : BufTy.Contents (Elt F) arg13.view.ty) (X7 : BufTy.Contents (Elt F) arg7.view.ty) (f8 : BufTy.Contents (Elt F) arg8.view.ty) (f9 : BufTy.Contents (Elt F) arg9.view.ty) (f10 : BufTy.Contents (Elt F) arg10.view.ty) : sProp (MT nD τ sig Unit (Elt F) ℕ (UR sig nD τ) ℕ) :=
  iprop((arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S8x1x2048 .f32) (harg5 : arg5.IsWhole) (arg6 : Memref sig .tc .vmem S3x512x256 .f32) (harg6 : arg6.IsWhole) (arg7 : Memref sig .tc .vmem S3x512x256 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole)

/-- One trip: the contents it leaves in what it writes, as functions of those it finds, with its run. -/
@[irreducible] def tript1 (𝒱 : Variants) (c : Dev nD) (bd : Option 𝒱.V) (i : grid0.Coords) (k0_h1 : k0_cond1 i = 1#1) (X11 : BufTy.Contents (Elt F) arg11.view.ty) (X12 : BufTy.Contents (Elt F) arg12.view.ty) (X13 : BufTy.Contents (Elt F) arg13.view.ty) (X7 : BufTy.Contents (Elt F) arg7.view.ty) (k : Fin k0_t1_loop.trips) :
    Σ' (N8 : BufTy.Contents (Elt F) arg8.view.ty → BufTy.Contents (Elt F) arg9.view.ty → BufTy.Contents (Elt F) arg10.view.ty → BufTy.Contents (Elt F) arg8.view.ty), Σ' (N9 : BufTy.Contents (Elt F) arg8.view.ty → BufTy.Contents (Elt F) arg9.view.ty → BufTy.Contents (Elt F) arg10.view.ty → BufTy.Contents (Elt F) arg9.view.ty), { N10 : BufTy.Contents (Elt F) arg8.view.ty → BufTy.Contents (Elt F) arg9.view.ty → BufTy.Contents (Elt F) arg10.view.ty → BufTy.Contents (Elt F) arg10.view.ty // ∀ (E : Set ℕ) (f8 : BufTy.Contents (Elt F) arg8.view.ty) (f9 : BufTy.Contents (Elt F) arg9.view.ty) (f10 : BufTy.Contents (Elt F) arg10.view.ty),
      Restt1 (F := F) c arg11 arg12 arg13 arg7 arg8 arg9 arg10 X11 X12 X13 X7 f8 f9 f10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k0_h1 k ())
          (fun _ => Restt1 (F := F) c arg11 arg12 arg13 arg7 arg8 arg9 arg10 X11 X12 X13 X7 (N8 f8 f9 f10) (N9 f8 f9 f10) (N10 f8 f9 f10)) } := by
  refine ⟨?_, ?_, ?_, fun E f8 f9 f10 => ?run⟩
  case run =>
    unfold k0_t1_body
    iintro ⟨R11, R12, R13, R7, W8, W9, W10⟩
    sl_exec
    sl_step
    sl_close

end

/-- The invariant. -/
abbrev invt1 (c : Dev nD) (arg11 arg12 arg13 : Memref sig .tc .vmem S2048x128 .bf16) (arg7 : Memref sig .tc .vmem S3x512x256 .f32) (arg8 : Memref sig .tc .vmem S2048x128 .f32) (arg9 : Memref sig .tc .vmem S2048x128 .bf16) (arg10 : Memref sig .tc .vmem S2048x128 .f32) (X11 : BufTy.Contents (Elt F) arg11.view.ty) (X12 : BufTy.Contents (Elt F) arg12.view.ty) (X13 : BufTy.Contents (Elt F) arg13.view.ty) (X7 : BufTy.Contents (Elt F) arg7.view.ty) (_ : ℕ) (_ : Unit) : sProp (MT nD τ sig Unit (Elt F) ℕ (UR sig nD τ) ℕ) :=
  iprop((arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S8x1x2048 .f32) (harg5 : arg5.IsWhole) (arg6 : Memref sig .tc .vmem S3x512x256 .f32) (harg6 : arg6.IsWhole) (arg7 : Memref sig .tc .vmem S3x512x256 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole)

set_option warn.classDefReducibility false in
/-- The loop by its invariant. -/
@[sl_loop] def loopInvt1 (𝒱 : Variants) (c : Dev nD) (bd : Option 𝒱.V) (E : Set ℕ) (i : grid0.Coords) (k0_h1 : k0_cond1 i = 1#1) (X11 : BufTy.Contents (Elt F) arg11.view.ty) (X12 : BufTy.Contents (Elt F) arg12.view.ty) (X13 : BufTy.Contents (Elt F) arg13.view.ty) (X7 : BufTy.Contents (Elt F) arg7.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 k0_h1 where
  inv := invt1 (F := F) c arg11 arg12 arg13 arg7 arg8 arg9 arg10 X11 X12 X13 X7
  step k acc := by
    iintro ⟨R11, R12, R13, R7, ⟨%f8, W8⟩, ⟨%f9, W9⟩, ⟨%f10, W10⟩⟩
    iapply (wp_wand_r Idealize.ShloMosaic.frame (wpE (defs₀ (F := F)) 𝒱 (c : Thread nD τ) bd) E)
    isplitl [R11 R12 R13 R7 W8 W9 W10]
    · iapply ((tript1 (F := F) arg1 harg1 arg2 harg2 arg3 harg3 arg4 harg4 arg5 harg5 arg6 harg6 arg7 harg7 arg8 harg8 arg9 harg9 arg10 harg10 arg11 harg11 arg12 harg12 arg13 harg13 𝒱 c bd i k0_h1 X11 X12 X13 X7 k).2.2.2 E f8 f9 f10)
      isplitl [R11]; · iexact R11
      isplitl [R12]; · iexact R12
      isplitl [R13]; · iexact R13
      isplitl [R7]; · iexact R7
      isplitl [W8]; · iexact W8
      isplitl [W9]; · iexact W9
      iexact W10
    · iintro %yld ⟨R11, R12, R13, R7, W8, W9, W10⟩
      isplitl [R11]; · iexact R11
      isplitl [R12]; · iexact R12
      isplitl [R13]; · iexact R13
      isplitl [R7]; · iexact R7
      isplitl [W8]
      · iexists _; iexact W8
      isplitl [W9]
      · iexists _; iexact W9
      iexists _; iexact W10

end

/-- What one trip of loop `t4` touches: what it reads at its contents, what it writes at the contents it finds. -/
abbrev Restt4 (c : Dev nD) (arg11 : Memref sig .tc .vmem S2048x128 .bf16) (arg4 : Memref sig .tc .vmem S2048x128 .f32) (arg12 : Memref sig .tc .vmem S2048x128 .bf16) (arg6 : Memref sig .tc .vmem S3x512x256 .f32) (arg5 : Memref sig .tc .vmem S8x1x2048 .f32) (arg13 : Memref sig .tc .vmem S2048x128 .bf16) (arg8 : Memref sig .tc .vmem S2048x128 .f32) (arg9 : Memref sig .tc .vmem S2048x128 .bf16) (arg10 : Memref sig .tc .vmem S2048x128 .f32) (X11 : BufTy.Contents (Elt F) arg11.view.ty) (X4 : BufTy.Contents (Elt F) arg4.view.ty) (X12 : BufTy.Contents (Elt F) arg12.view.ty) (X6 : BufTy.Contents (Elt F) arg6.view.ty) (X5 : BufTy.Contents (Elt F) arg5.view.ty) (X13 : BufTy.Contents (Elt F) arg13.view.ty) (f8 : BufTy.Contents (Elt F) arg8.view.ty) (f9 : BufTy.Contents (Elt F) arg9.view.ty) (f10 : BufTy.Contents (Elt F) arg10.view.ty) : sProp (MT nD τ sig Unit (Elt F) ℕ (UR sig nD τ) ℕ) :=
  iprop((arg11.view.loc (c : Thread nD τ) ↦[arg11.view.set]{fullShare} X11) ∗ (arg4.view.loc (c : Thread nD τ) ↦[arg4.view.set]{fullShare} X4) ∗ (arg12.view.loc (c : Thread nD τ) ↦[arg12.view.set]{fullShare} X12) ∗ (arg6.view.loc (c : Thread nD τ) ↦[arg6.view.set]{fullShare} X6) ∗ (arg5.view.loc (c : Thread nD τ) ↦[arg5.view.set]{fullShare} X5) ∗ (arg13.view.loc (c : Thread nD τ) ↦[arg13.view.set]{fullShare} X13) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S8x1x2048 .f32) (harg5 : arg5.IsWhole) (arg6 : Memref sig .tc .vmem S3x512x256 .f32) (harg6 : arg6.IsWhole) (arg7 : Memref sig .tc .vmem S3x512x256 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole)

/-- One trip: the contents it leaves in what it writes, as functions of those it finds, with its run. -/
@[irreducible] def tript4 (𝒱 : Variants) (c : Dev nD) (bd : Option 𝒱.V) (i : grid0.Coords) (k0_h2 : k0_cond2 i = 1#1) (v21 : BitVec 32) (X11 : BufTy.Contents (Elt F) arg11.view.ty) (X4 : BufTy.Contents (Elt F) arg4.view.ty) (X12 : BufTy.Contents (Elt F) arg12.view.ty) (X6 : BufTy.Contents (Elt F) arg6.view.ty) (X5 : BufTy.Contents (Elt F) arg5.view.ty) (X13 : BufTy.Contents (Elt F) arg13.view.ty) (k : Fin k0_t4_loop.trips) :
    Σ' (N8 : BufTy.Contents (Elt F) arg8.view.ty → BufTy.Contents (Elt F) arg9.view.ty → BufTy.Contents (Elt F) arg10.view.ty → BufTy.Contents (Elt F) arg8.view.ty), Σ' (N9 : BufTy.Contents (Elt F) arg8.view.ty → BufTy.Contents (Elt F) arg9.view.ty → BufTy.Contents (Elt F) arg10.view.ty → BufTy.Contents (Elt F) arg9.view.ty), { N10 : BufTy.Contents (Elt F) arg8.view.ty → BufTy.Contents (Elt F) arg9.view.ty → BufTy.Contents (Elt F) arg10.view.ty → BufTy.Contents (Elt F) arg10.view.ty // ∀ (E : Set ℕ) (f8 : BufTy.Contents (Elt F) arg8.view.ty) (f9 : BufTy.Contents (Elt F) arg9.view.ty) (f10 : BufTy.Contents (Elt F) arg10.view.ty),
      Restt4 (F := F) c arg11 arg4 arg12 arg6 arg5 arg13 arg8 arg9 arg10 X11 X4 X12 X6 X5 X13 f8 f9 f10
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 k0_h2 v21 k ())
          (fun _ => Restt4 (F := F) c arg11 arg4 arg12 arg6 arg5 arg13 arg8 arg9 arg10 X11 X4 X12 X6 X5 X13 (N8 f8 f9 f10) (N9 f8 f9 f10) (N10 f8 f9 f10)) } := by
  refine ⟨?_, ?_, ?_, fun E f8 f9 f10 => ?run⟩
  case run =>
    unfold k0_t4_body
    iintro ⟨R11, R4, R12, R6, R5, R13, W8, W9, W10⟩
    sl_exec
    sl_step
    sl_close

end

/-- The invariant. -/
abbrev invt4 (c : Dev nD) (arg11 : Memref sig .tc .vmem S2048x128 .bf16) (arg4 : Memref sig .tc .vmem S2048x128 .f32) (arg12 : Memref sig .tc .vmem S2048x128 .bf16) (arg6 : Memref sig .tc .vmem S3x512x256 .f32) (arg5 : Memref sig .tc .vmem S8x1x2048 .f32) (arg13 : Memref sig .tc .vmem S2048x128 .bf16) (arg8 : Memref sig .tc .vmem S2048x128 .f32) (arg9 : Memref sig .tc .vmem S2048x128 .bf16) (arg10 : Memref sig .tc .vmem S2048x128 .f32) (X11 : BufTy.Contents (Elt F) arg11.view.ty) (X4 : BufTy.Contents (Elt F) arg4.view.ty) (X12 : BufTy.Contents (Elt F) arg12.view.ty) (X6 : BufTy.Contents (Elt F) arg6.view.ty) (X5 : BufTy.Contents (Elt F) arg5.view.ty) (X13 : BufTy.Contents (Elt F) arg13.view.ty) (_ : ℕ) (_ : Unit) : sProp (MT nD τ sig Unit (Elt F) ℕ (UR sig nD τ) ℕ) :=
  iprop((arg11.view.loc (c : Thread nD τ) ↦[arg11.view.set]{fullShare} X11) ∗ (arg4.view.loc (c : Thread nD τ) ↦[arg4.view.set]{fullShare} X4) ∗ (arg12.view.loc (c : Thread nD τ) ↦[arg12.view.set]{fullShare} X12) ∗ (arg6.view.loc (c : Thread nD τ) ↦[arg6.view.set]{fullShare} X6) ∗ (arg5.view.loc (c : Thread nD τ) ↦[arg5.view.set]{fullShare} X5) ∗ (arg13.view.loc (c : Thread nD τ) ↦[arg13.view.set]{fullShare} X13) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)))

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S8x1x2048 .f32) (harg5 : arg5.IsWhole) (arg6 : Memref sig .tc .vmem S3x512x256 .f32) (harg6 : arg6.IsWhole) (arg7 : Memref sig .tc .vmem S3x512x256 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole)

set_option warn.classDefReducibility false in
/-- The loop by its invariant. -/
@[sl_loop] def loopInvt4 (𝒱 : Variants) (c : Dev nD) (bd : Option 𝒱.V) (E : Set ℕ) (i : grid0.Coords) (k0_h2 : k0_cond2 i = 1#1) (v21 : BitVec 32) (X11 : BufTy.Contents (Elt F) arg11.view.ty) (X4 : BufTy.Contents (Elt F) arg4.view.ty) (X12 : BufTy.Contents (Elt F) arg12.view.ty) (X6 : BufTy.Contents (Elt F) arg6.view.ty) (X5 : BufTy.Contents (Elt F) arg5.view.ty) (X13 : BufTy.Contents (Elt F) arg13.view.ty) :
    Gen.LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 k0_h2 v21 where
  inv := invt4 (F := F) c arg11 arg4 arg12 arg6 arg5 arg13 arg8 arg9 arg10 X11 X4 X12 X6 X5 X13
  step k acc := by
    iintro ⟨R11, R4, R12, R6, R5, R13, ⟨%f8, W8⟩, ⟨%f9, W9⟩, ⟨%f10, W10⟩⟩
    iapply (wp_wand_r Idealize.ShloMosaic.frame (wpE (defs₀ (F := F)) 𝒱 (c : Thread nD τ) bd) E)
    isplitl [R11 R4 R12 R6 R5 R13 W8 W9 W10]
    · iapply ((tript4 (F := F) arg1 harg1 arg2 harg2 arg3 harg3 arg4 harg4 arg5 harg5 arg6 harg6 arg7 harg7 arg8 harg8 arg9 harg9 arg10 harg10 arg11 harg11 arg12 harg12 arg13 harg13 𝒱 c bd i k0_h2 v21 X11 X4 X12 X6 X5 X13 k).2.2.2 E f8 f9 f10)
      isplitl [R11]; · iexact R11
      isplitl [R4]; · iexact R4
      isplitl [R12]; · iexact R12
      isplitl [R6]; · iexact R6
      isplitl [R5]; · iexact R5
      isplitl [R13]; · iexact R13
      isplitl [W8]; · iexact W8
      isplitl [W9]; · iexact W9
      iexact W10
    · iintro %yld ⟨R11, R4, R12, R6, R5, R13, W8, W9, W10⟩
      isplitl [R11]; · iexact R11
      isplitl [R4]; · iexact R4
      isplitl [R12]; · iexact R12
      isplitl [R6]; · iexact R6
      isplitl [R5]; · iexact R5
      isplitl [R13]; · iexact R13
      isplitl [W8]
      · iexists _; iexact W8
      isplitl [W9]
      · iexists _; iexact W9
      iexists _; iexact W10

end

end Cert.FwdKernelIdeal.Hand

end
-- ==== Proof.FwdBody.lean ====
/-
  The body of the stick-breaking and forgetting attention at any grid point, on any whole memrefs, and its frame: the inputs' blocks stay as they
  were, everything else the body writes ends at some contents. At any float instance; the two printed programs
  (bit-exact and over the reals) have their frames from the same text of run.
-/
module

public import proofs.«01_k».proof.Proof.Gen.FwdKernelIdeal.Frame
public import proofs.«01_k».proof.Proof.Gen.FwdKernelIdeal.Points
public import proofs.«01_k».proof.Proof.Gen.FwdKernelIdeal.Launch
public import proofs.«01_k».proof.Proof.FwdLoops
public import Idealize.ShloMosaic.Lib.Tactic

@[expose] public section

set_option maxRecDepth 8192
set_option maxHeartbeats 4000000

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

section
variable (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S8x1x2048 .f32) (harg5 : arg5.IsWhole) (arg6 : Memref sig .tc .vmem S3x512x256 .f32) (harg6 : arg6.IsWhole) (arg7 : Memref sig .tc .vmem S3x512x256 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole)

/-- What the body is given and gives back: its inputs' blocks, and anything in its results' and scratch memrefs. -/
abbrev Held (c : Dev nD) (arg1 arg2 : Memref sig .tc .vmem S2048x128 .f32) (arg3 arg4 : Memref sig .tc .vmem S2048x128 .f32) (arg5 : Memref sig .tc .vmem S8x1x2048 .f32) (arg6 arg7 : Memref sig .tc .vmem S3x512x256 .f32) (arg8 : Memref sig .tc .vmem S2048x128 .f32) (arg9 : Memref sig .tc .vmem S2048x128 .bf16) (arg10 : Memref sig .tc .vmem S2048x128 .f32) (arg11 arg12 arg13 : Memref sig .tc .vmem S2048x128 .bf16) (x1 x2 : Vec F S2048x128 .f32) (x3 x4 : Vec F S2048x128 .f32) (x5 : Vec F S8x1x2048 .f32) (x6 x7 : Vec F S3x512x256 .f32) : sProp (MT nD τ sig Unit (Elt F) ℕ (UR sig nD τ) ℕ) :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

set_option maxHeartbeats 40000000 in
/-- The body on whole memrefs: from the inputs' blocks and anything in the results' and scratch memrefs, it runs to the
    continuation holding the inputs' blocks unchanged and anything in the rest. -/
theorem sound_stick (c : Dev nD) (E : Set ℕ) (i : grid0.Coords) (x1 x2 : Vec F S2048x128 .f32) (x3 x4 : Vec F S2048x128 .f32) (x5 : Vec F S8x1x2048 .f32) (x6 x7 : Vec F S3x512x256 .f32) (K : PUnit → sProp (MT nD τ sig Unit (Elt F) ℕ (UR sig nD τ) ℕ)) (h1 : k0_cond1 i = 1#1) (h2 : ¬ k0_cond2 i = 1#1) :
    iprop(Held (F := F) c arg1 arg2 arg3 arg4 arg5 arg6 arg7 arg8 arg9 arg10 arg11 arg12 arg13 x1 x2 x3 x4 x5 x6 x7 ∗ (Held (F := F) c arg1 arg2 arg3 arg4 arg5 arg6 arg7 arg8 arg9 arg10 arg11 arg12 arg13 x1 x2 x3 x4 x5 x6 x7 -∗ K ⟨⟩))
      ⊢ wp frame (wpE (defs₀ (F := F)) Variants.none (c : Thread nD τ) none) E (cc0_l0_mix_attn i arg1 harg1 arg2 harg2 arg3 harg3 arg4 harg4 arg5 harg5 arg6 harg6 arg7 harg7 arg8 harg8 arg9 harg9 arg10 harg10 arg11 harg11 arg12 harg12 arg13 harg13) K := by
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  · sl_unfold [cc0_l0_mix_attn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

set_option maxHeartbeats 40000000 in
/-- The body on whole memrefs: from the inputs' blocks and anything in the results' and scratch memrefs, it runs to the
    continuation holding the inputs' blocks unchanged and anything in the rest. -/
theorem sound_forget (c : Dev nD) (E : Set ℕ) (i : grid0.Coords) (x1 x2 : Vec F S2048x128 .f32) (x3 x4 : Vec F S2048x128 .f32) (x5 : Vec F S8x1x2048 .f32) (x6 x7 : Vec F S3x512x256 .f32) (K : PUnit → sProp (MT nD τ sig Unit (Elt F) ℕ (UR sig nD τ) ℕ)) (h1 : ¬ k0_cond1 i = 1#1) (h2 : k0_cond2 i = 1#1) :
    iprop(Held (F := F) c arg1 arg2 arg3 arg4 arg5 arg6 arg7 arg8 arg9 arg10 arg11 arg12 arg13 x1 x2 x3 x4 x5 x6 x7 ∗ (Held (F := F) c arg1 arg2 arg3 arg4 arg5 arg6 arg7 arg8 arg9 arg10 arg11 arg12 arg13 x1 x2 x3 x4 x5 x6 x7 -∗ K ⟨⟩))
      ⊢ wp frame (wpE (defs₀ (F := F)) Variants.none (c : Thread nD τ) none) E (cc0_l0_mix_attn i arg1 harg1 arg2 harg2 arg3 harg3 arg4 harg4 arg5 harg5 arg6 harg6 arg7 harg7 arg8 harg8 arg9 harg9 arg10 harg10 arg11 harg11 arg12 harg12 arg13 harg13) K := by
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  · sl_unfold [cc0_l0_mix_attn]
    sl_exec
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-- The body at any grid point, by the cases its branches make. -/
theorem sound_kernel (c : Dev nD) (E : Set ℕ) (i : grid0.Coords) (x1 x2 : Vec F S2048x128 .f32) (x3 x4 : Vec F S2048x128 .f32) (x5 : Vec F S8x1x2048 .f32) (x6 x7 : Vec F S3x512x256 .f32) (K : PUnit → sProp (MT nD τ sig Unit (Elt F) ℕ (UR sig nD τ) ℕ)) (hi : (k0_cond1 i = 1#1 ∧ ¬ k0_cond2 i = 1#1) ∨ (¬ k0_cond1 i = 1#1 ∧ k0_cond2 i = 1#1)) :
    iprop(Held (F := F) c arg1 arg2 arg3 arg4 arg5 arg6 arg7 arg8 arg9 arg10 arg11 arg12 arg13 x1 x2 x3 x4 x5 x6 x7 ∗ (Held (F := F) c arg1 arg2 arg3 arg4 arg5 arg6 arg7 arg8 arg9 arg10 arg11 arg12 arg13 x1 x2 x3 x4 x5 x6 x7 -∗ K ⟨⟩))
      ⊢ wp frame (wpE (defs₀ (F := F)) Variants.none (c : Thread nD τ) none) E (cc0_l0_mix_attn i arg1 harg1 arg2 harg2 arg3 harg3 arg4 harg4 arg5 harg5 arg6 harg6 arg7 harg7 arg8 harg8 arg9 harg9 arg10 harg10 arg11 harg11 arg12 harg12 arg13 harg13) K := by
  rcases hi with ⟨h1, h2⟩ | ⟨h1, h2⟩
  · exact sound_stick arg1 harg1 arg2 harg2 arg3 harg3 arg4 harg4 arg5 harg5 arg6 harg6 arg7 harg7 arg8 harg8 arg9 harg9 arg10 harg10 arg11 harg11 arg12 harg12 arg13 harg13 c E i x1 x2 x3 x4 x5 x6 x7 K h1 h2
  · exact sound_forget arg1 harg1 arg2 harg2 arg3 harg3 arg4 harg4 arg5 harg5 arg6 harg6 arg7 harg7 arg8 harg8 arg9 harg9 arg10 harg10 arg11 harg11 arg12 harg12 arg13 harg13 c E i x1 x2 x3 x4 x5 x6 x7 K h1 h2

end

/-- Which branch the body takes at each point. -/
theorem conds (t : Fin cfg0.N) : (k0_cond1 (grid0.coords t) = 1#1 ∧ ¬ k0_cond2 (grid0.coords t) = 1#1) ∨ (¬ k0_cond1 (grid0.coords t) = 1#1 ∧ k0_cond2 (grid0.coords t) = 1#1) :=
  (by decide +kernel : ∀ t : Fin grid0.N, (k0_cond1 (grid0.coords t) = 1#1 ∧ ¬ k0_cond2 (grid0.coords t) = 1#1) ∨ (¬ k0_cond1 (grid0.coords t) = 1#1 ∧ k0_cond2 (grid0.coords t) = 1#1)) t

variable (m : (ℓ : Loc nD τ sig) → Buf (Elt F) ℓ) (ρ : Dev nD → PrngReg)

/-- The proof data: the arrays as the region finds them, each input's buffer at its block; what the results' buffers hold
    is left unsaid (the windows `forgets0` marks). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := ΦA spec0 c
  q w := Pipeline.shareOf spec0 w
  owed _ := 0

/-- The results' windows: what the body leaves there is not stated. -/
def forgets0 : Fin 10 → Bool := fun w => decide (7 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The invariant with the scratch as memrefs owned at some contents. -/
theorem PhiA_eq (c : Dev nD) :
    (ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold ΦA; rw [scopedRest0_eq]; simp only [owns_whole]; try rfl

/-- What the body is called with at point `t`, window by window, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, owns (c : Thread nD τ) (st0_7 t) fullShare X) ∗ (∃ X, owns (c : Thread nD τ) (st0_8 t) fullShare X) ∗ (∃ X, owns (c : Thread nD τ) (st0_9 t) fullShare X))
def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, owns (c : Thread nD τ) (st0_7 t) fullShare X) ∗ (∃ X, owns (c : Thread nD τ) (st0_8 t) fullShare X) ∗ (∃ X, owns (c : Thread nD τ) (st0_9 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = ΦA spec0 c from rfl, show (dats m 0 c).Φ t.castSucc = ΦA spec0 c from rfl,
    show (dats m 0 c).owesAt () t.succ = (dats m 0 c).owesAt () t.castSucc from rfl, PhiA_eq,
    after0_0, after0_1, after0_2, after0_3, after0_4, after0_5, after0_6]
  iintro ⟨⟨⟨⟨%e0, S0⟩, ⟨%e1, S1⟩, ⟨%e2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel _ _ _ _ _ _ _ _ _ _ _ _ _ _ _ _ _ _ _ _ _ _ _ _ _ _ c Set.univ (grid0.coords t) (iblk m c 0 t) (iblk m c 1 t) (iblk m c 2 t) (iblk m c 3 t) (iblk m c 4 t) (iblk m c 5 t) (iblk m c 6 t) _ (conds t))
  unfold Held
  isplitr [Hr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexists _; iexact S0
    isplitl [S1]; · iexists _; iexact S1
    iexists _; iexact S2
  iintro ⟨H0, H1, H2, H3, H4, H5, H6, H7, H8, H9, S0, S1, S2⟩
  isplitl [S0 S1 S2 Hr]
  · isplitl [S0 S1 S2]
    · isplitl [S0]; · iexact S0
      isplitl [S1]; · iexact S1
      iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: from any memory with zero counters every execution ends, each input array is as the region found it and every
    counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl) (hQ' := fun _ h => h)

/-- The run read at the arguments: each ends as it was, and every counter is at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1.arr_in c 2 rfl).trans ((A_eq m c 2).trans (V_main_arg0 m c)),
       (h.1.arr_in c 3 rfl).trans ((A_eq m c 3).trans (V_main_arg1 m c))⟩, h.2⟩) (run_main m ρ)

end Cert.FwdKernelIdeal.Hand

end
-- ==== Proof.Up.lean ====
/- The value of the forward gate and up projection: the blocks the kernel writes are the blocks of the reference's two results. -/
module

public import proofs.«01_k».proof.Proof.Gen.UpKernelIdeal.Value
public import proofs.«01_k».proof.Proof.Gen.UpReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.UpReferenceIdeal.Read

open Cert.UpReferenceIdeal Cert.UpReferenceIdeal.Gen Idealize.ShloMosaic Idealize.ShloMosaic.TcCoe Reals

/-- The product with the gate columns of the weights. -/
def gateOf (X : FVec Ideal S2048x2048 .bf16) (W : FVec Ideal S2048x11264 .bf16) : FVec Ideal S2048x5632 .f32 :=
  Host.dotGeneral dot_S2048x2048_S2048x5632_S2048x5632_1_0_0_1_n_n none (extf .f32 X bitsLt_bf16_f32) (extf .f32 (shapeCast _ (shapeCast _ (extractStridedSlice S2048x4x1x1408 ![0, 0, 0, 0] (shapeCast _ W shapeCasts_S2048x11264_S2048x4x2x1408) slices_S2048x4x2x1408_S2048x4x1x1408_0_0_0_0) shapeCasts_S2048x4x1x1408_S2048x4x1408) shapeCasts_S2048x4x1408_S2048x5632) bitsLt_bf16_f32)

/-- The product with the up columns of the weights. -/
def upOf (X : FVec Ideal S2048x2048 .bf16) (W : FVec Ideal S2048x11264 .bf16) : FVec Ideal S2048x5632 .f32 :=
  Host.dotGeneral dot_S2048x2048_S2048x5632_S2048x5632_1_0_0_1_n_n none (extf .f32 X bitsLt_bf16_f32) (extf .f32 (shapeCast _ (shapeCast _ (extractStridedSlice S2048x4x1x1408 ![0, 0, 1, 0] (shapeCast _ W shapeCasts_S2048x11264_S2048x4x2x1408) slices_S2048x4x2x1408_S2048x4x1x1408_0_0_1_0) shapeCasts_S2048x4x1x1408_S2048x4x1408) shapeCasts_S2048x4x1408_S2048x5632) bitsLt_bf16_f32)

/-- `1.0` at every column. -/
def one : FVec Ideal S2048x5632 .f32 := broadcastInDim S2048x5632 ![] bcast_S_S2048x5632 (constant S_ .f32 0x3F800000#32)

/-- The logistic function as the reference spells it. -/
def sgOf (g : FVec Ideal S2048x5632 .f32) : FVec Ideal S2048x5632 .f32 := Host.divf one (addf one (Host.exp (Host.negf g)))

/-- Two arrays of gate and up columns, laid out slab by slab. -/
def slabs (a b : FVec Ideal S2048x5632 .f32) : FVec Ideal S2048x11264 .f32 :=
  shapeCast _ (concatenate S2048x4x2x1408 2 [⟨S2048x4x1x1408, (broadcastInDim S2048x4x1x1408 ![0, 1, 3] bcast_S2048x4x1408_S2048x4x1x1408_0_1_3 (shapeCast _ a shapeCasts_S2048x5632_S2048x4x1408))⟩, ⟨S2048x4x1x1408, (broadcastInDim S2048x4x1x1408 ![0, 1, 3] bcast_S2048x4x1408_S2048x4x1x1408_0_1_3 (shapeCast _ b shapeCasts_S2048x5632_S2048x4x1408))⟩] concatenates_S2048x4x1x1408_S2048x4x1x1408_S2048x4x2x1408_d2) shapeCasts_S2048x4x2x1408_S2048x11264

/-- The first result: the two products, slab by slab. -/
def GU (X : FVec Ideal S2048x2048 .bf16) (W : FVec Ideal S2048x11264 .bf16) : FVec Ideal S2048x11264 .f32 :=
  slabs (gateOf X W) (upOf X W)

/-- The second result: the hidden activations. -/
def HID (X : FVec Ideal S2048x2048 .bf16) (W : FVec Ideal S2048x11264 .bf16) : FVec Ideal S2048x5632 .bf16 :=
  truncf .bf16 (mulf (mulf (gateOf X W) (sgOf (gateOf X W))) (upOf X W)) bitsLt_bf16_f32

theorem gateOf_at (X : FVec Ideal S2048x2048 .bf16) (W : FVec Ideal S2048x11264 .bf16) (r : Fin 2048) (j : Fin 5632) :
    gateOf X W (ix2 r j) = ∑ k : Fin 2048, X (ix2 r k) * W (ix2 k ⟨j.val / 1408 * 2816 + j.val % 1408, by omega⟩) := by
  pointwise [gateOf]

theorem upOf_at (X : FVec Ideal S2048x2048 .bf16) (W : FVec Ideal S2048x11264 .bf16) (r : Fin 2048) (j : Fin 5632) :
    upOf X W (ix2 r j) = ∑ k : Fin 2048, X (ix2 r k) * W (ix2 k ⟨j.val / 1408 * 2816 + 1408 + j.val % 1408, by omega⟩) := by
  pointwise [upOf]

theorem sg_at (g : FVec Ideal S2048x5632 .f32) (y) : sgOf g y = Ideal.logistic (g y) := by
  pointwise [sgOf, one]
  rfl

theorem slabs_at (a b : FVec Ideal S2048x5632 .f32) (r : Fin 2048) (j : Fin 11264) :
    slabs a b (ix2 r j) = if j.val / 1408 % 2 < 1 then a (ix2 r ⟨j.val / 2816 * 1408 + j.val % 1408, by omega⟩)
      else b (ix2 r ⟨j.val / 2816 * 1408 + j.val % 1408, by omega⟩) := by
  pointwise [slabs]
  split <;> rfl

theorem GU_at (X : FVec Ideal S2048x2048 .bf16) (W : FVec Ideal S2048x11264 .bf16) (r : Fin 2048) (j : Fin 11264) :
    GU X W (ix2 r j) = ∑ k : Fin 2048, X (ix2 r k) * W (ix2 k j) := by
  rw [GU, slabs_at, gateOf_at, upOf_at]
  split
  · refine Finset.sum_congr rfl fun k _ => ?_
    rw [show (⟨(j.val / 2816 * 1408 + j.val % 1408) / 1408 * 2816 + (j.val / 2816 * 1408 + j.val % 1408) % 1408, by omega⟩ : Fin 11264) = j from Fin.ext (by simp only; omega)]
  · refine Finset.sum_congr rfl fun k _ => ?_
    rw [show (⟨(j.val / 2816 * 1408 + j.val % 1408) / 1408 * 2816 + 1408 + (j.val / 2816 * 1408 + j.val % 1408) % 1408, by omega⟩ : Fin 11264) = j from Fin.ext (by simp only; omega)]

theorem HID_at (X : FVec Ideal S2048x2048 .bf16) (W : FVec Ideal S2048x11264 .bf16) (r : Fin 2048) (j : Fin 5632) :
    HID X W (ix2 r j) =
      (∑ k : Fin 2048, X (ix2 r k) * W (ix2 k ⟨j.val / 1408 * 2816 + j.val % 1408, by omega⟩))
      * Ideal.logistic (∑ k : Fin 2048, X (ix2 r k) * W (ix2 k ⟨j.val / 1408 * 2816 + j.val % 1408, by omega⟩))
      * (∑ k : Fin 2048, X (ix2 r k) * W (ix2 k ⟨j.val / 1408 * 2816 + 1408 + j.val % 1408, by omega⟩)) := by
  rw [← gateOf_at, ← upOf_at, ← sg_at]
  pointwise [HID]

end Cert.UpReferenceIdeal.Read

namespace Cert.UpKernelIdeal.Hand

open Cert.UpKernelIdeal Cert.UpKernelIdeal.Gen Idealize.ShloMosaic Idealize.ShloMosaic.TcCoe Idealize.SL.Sem Reals
open Idealize.ShloMosaic.Pipeline (Dat)
open Cert.UpReferenceIdeal.Read (GU GU_at HID HID_at)

variable (m : (ℓ : Loc nD τ sig) → Buf (Elt Ideal) ℓ)

/-- The block each window is at, point by point. -/
theorem idx : ∀ t : Fin cfg0.N, win0_0.index t = ![t.val % 4, 0] ∧ win0_1.index t = ![0, t.val / 4] ∧ win0_2.index t = ![t.val % 4, t.val / 4] ∧ win0_3.index t = ![t.val % 4, t.val / 4] :=
  (by decide +kernel : ∀ t : Fin grid0.N, _)

/-- The activations' block at a point. -/
theorem blk0 (X : FVec Ideal S2048x2048 .bf16) (c : Dev nD) (eX : m ((c : Thread nD τ).loc main_arg0) = X) (t : Fin cfg0.N) (a : Fin 512) (n : Fin 2048) :
    iblk m c 0 t (ix2 a n) = X (ix2 ⟨t.val % 4 * 512 + a.val, by omega⟩ n) := by
  subst eX; blk_point [iblk, V, idx t]

/-- The weights' block at a point. -/
theorem blk1 (W : FVec Ideal S2048x11264 .bf16) (c : Dev nD) (eW : m ((c : Thread nD τ).loc main_arg1) = W) (t : Fin cfg0.N) (ht : t.val < 16) (a : Fin 2048) (n : Fin 2816) :
    iblk m c 1 t (ix2 a n) = W (ix2 a ⟨t.val / 4 * 2816 + n.val, by omega⟩) := by
  subst eW; blk_point [iblk, V, idx t]

/-- What a point writes to the first result is the reference's block. -/
theorem point_gu (X : FVec Ideal S2048x2048 .bf16) (W : FVec Ideal S2048x11264 .bf16) (c : Dev nD)
    (eX : m ((c : Thread nD τ).loc main_arg0) = X) (eW : m ((c : Thread nD τ).loc main_arg1) = W) (t : Fin cfg0.N) (y) :
    out0_2 (iblk m c 0 t) (iblk m c 1 t) y = GU X W (((cfg0.win 2).blk t).view.emb y) := by
  have hE0 : (((cfg0.win 2).blk t).view.emb y 0).val = t.val % 4 * 512 + (y 0).val := by blk_simp [idx t] <;> omega
  have hE1 : (((cfg0.win 2).blk t).view.emb y 1).val = t.val / 4 * 2816 + (y 1).val := by blk_simp [idx t] <;> omega
  generalize ((cfg0.win 2).blk t).view.emb y = E at hE0 hE1 ⊢
  obtain ⟨r, j, rfl⟩ : ∃ (r : Fin 2048) (j : Fin 11264), E = ix2 r j := ⟨E 0, E 1, by blk_ext⟩
  replace hE0 : r.val = t.val % 4 * 512 + (y 0).val := hE0
  replace hE1 : j.val = t.val / 4 * 2816 + (y 1).val := hE1
  have ht : t.val < 16 := t.isLt
  rw [GU_at X W, out0_2]
  canon_tiles x h
  obtain ⟨a, l, rfl⟩ : ∃ (a : Fin 512) (l : Fin 2816), x = ix2 a l := ⟨x 0, x 1, by blk_ext⟩
  replace h0 : (y 0).val = a.val := h0
  replace h1 : (y 1).val = l.val := h1
  open_payloads
  pointwise [k0_pay1]
  simp only [blk0 m X c eX, blk1 m W c eW t ht]
  blk_point []

/-- What a point writes to the second result is the reference's block. -/
theorem point_hid (X : FVec Ideal S2048x2048 .bf16) (W : FVec Ideal S2048x11264 .bf16) (c : Dev nD)
    (eX : m ((c : Thread nD τ).loc main_arg0) = X) (eW : m ((c : Thread nD τ).loc main_arg1) = W) (t : Fin cfg0.N) (y) :
    out0_3 (iblk m c 0 t) (iblk m c 1 t) y = HID X W (((cfg0.win 3).blk t).view.emb y) := by
  have hE0 : (((cfg0.win 3).blk t).view.emb y 0).val = t.val % 4 * 512 + (y 0).val := by blk_simp [idx t] <;> omega
  have hE1 : (((cfg0.win 3).blk t).view.emb y 1).val = t.val / 4 * 1408 + (y 1).val := by blk_simp [idx t] <;> omega
  generalize ((cfg0.win 3).blk t).view.emb y = E at hE0 hE1 ⊢
  obtain ⟨r, j, rfl⟩ : ∃ (r : Fin 2048) (j : Fin 5632), E = ix2 r j := ⟨E 0, E 1, by blk_ext⟩
  replace hE0 : r.val = t.val % 4 * 512 + (y 0).val := hE0
  replace hE1 : j.val = t.val / 4 * 1408 + (y 1).val := hE1
  have ht : t.val < 16 := t.isLt
  rw [HID_at X W, out0_3]
  canon_tiles x h
  obtain ⟨a, l, rfl⟩ : ∃ (a : Fin 512) (l : Fin 1408), x = ix2 a l := ⟨x 0, x 1, by blk_ext⟩
  replace h0 : (y 0).val = a.val := h0
  replace h1 : (y 1).val = l.val := h1
  open_payloads
  pointwise [k0_pay2, k0_pay1]
  simp only [blk0 m X c eX, blk1 m W c eW t ht]
  blk_point []

/-- The arrays the kernel leaves are the reference's results. -/
theorem final_gu (c : Dev nD) :
    (dats m 0 c).arrAt 2 (cfgs 0).N = GU (m ((c : Thread nD τ).loc main_arg0)) (m ((c : Thread nD τ).loc main_arg1)) := by
  refine (dats m 0 c).arrAt_eq_of_covers 2 _ (by decide +kernel) fun t _ y => ?_
  blk_simp
  rw [after0_2]
  exact point_gu m _ _ c rfl rfl t y

theorem final_hid (c : Dev nD) :
    (dats m 0 c).arrAt 3 (cfgs 0).N = HID (m ((c : Thread nD τ).loc main_arg0)) (m ((c : Thread nD τ).loc main_arg1)) := by
  refine (dats m 0 c).arrAt_eq_of_covers 3 _ (by decide +kernel) fun t _ y => ?_
  blk_simp
  rw [after0_3]
  exact point_hid m _ _ c rfl rfl t y

end Cert.UpKernelIdeal.Hand

end
-- ==== Proof.DwUp.lean ====
/- The value of the gradient of the gate and up weights: the blocks the kernel writes are the blocks of the reference's product. -/
module

public import proofs.«01_k».proof.Proof.Gen.DwUpKernelIdeal.Value
public import proofs.«01_k».proof.Proof.Gen.DwUpReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DwUpReferenceIdeal.Read

open Cert.DwUpReferenceIdeal Cert.DwUpReferenceIdeal.Gen Idealize.ShloMosaic Idealize.ShloMosaic.TcCoe Reals

/-- The reference's result as a function of its arguments. -/
def REF (X : FVec Ideal S2048x2048 .bf16) (W : FVec Ideal S2048x11264 .bf16) : FVec Ideal S2048x11264 .bf16 :=
  truncf .bf16 (transpose S2048x11264 [1, 0] (Host.dotGeneral dot_S2048x11264_S2048x2048_S11264x2048_0_0_1_1_n_n none (extf .f32 W bitsLt_bf16_f32) (extf .f32 X bitsLt_bf16_f32)) transposes_S11264x2048_S2048x11264_1_0) bitsLt_bf16_f32

/-- Its entries. -/
theorem REF_at (X : FVec Ideal S2048x2048 .bf16) (W : FVec Ideal S2048x11264 .bf16) (r : Fin 2048) (j : Fin 11264) :
    REF X W (ix2 r j) = ∑ k : Fin 2048, X (ix2 k r) * W (ix2 k j) := by
  have h : REF X W (ix2 r j) = ∑ k : Fin 2048, W (ix2 k j) * X (ix2 k r) := by
    pointwise [REF]
    try (refine Finset.sum_congr rfl fun k _ => ?_; blk_point [])
  rw [h]
  exact Finset.sum_congr rfl fun k _ => mul_comm _ _

end Cert.DwUpReferenceIdeal.Read

namespace Cert.DwUpKernelIdeal.Hand

open Cert.DwUpKernelIdeal Cert.DwUpKernelIdeal.Gen Idealize.ShloMosaic Idealize.ShloMosaic.TcCoe Idealize.SL.Sem Reals
open Idealize.ShloMosaic.Pipeline (Dat)
open Cert.DwUpReferenceIdeal.Read (REF REF_at)

variable (m : (ℓ : Loc nD τ sig) → Buf (Elt Ideal) ℓ)

/-- The block each window is at, point by point. -/
theorem idx : ∀ t : Fin cfg0.N, win0_0.index t = ![0, t.val / 8] ∧ win0_1.index t = ![0, t.val % 8] ∧ win0_2.index t = ![t.val / 8, t.val % 8] :=
  (by decide +kernel : ∀ t : Fin grid0.N, _)

/-- What a point writes is the reference's block. -/
theorem point (X : FVec Ideal S2048x2048 .bf16) (W : FVec Ideal S2048x11264 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 8 * 1024 + (y 0).val := by blk_simp [idx t] <;> omega
  have hE1 : (((cfg0.win 2).blk t).view.emb y 1).val = t.val % 8 * 1408 + (y 1).val := by blk_simp [idx t] <;> omega
  generalize ((cfg0.win 2).blk t).view.emb y = E at hE0 hE1 ⊢
  obtain ⟨r, j, rfl⟩ : ∃ (r : Fin 2048) (j : Fin 11264), E = ix2 r j := ⟨E 0, E 1, by blk_ext⟩
  replace hE0 : r.val = t.val / 8 * 1024 + (y 0).val := hE0
  replace hE1 : j.val = t.val % 8 * 1408 + (y 1).val := hE1
  have ht : t.val < 16 := t.isLt
  have b0 (a : Fin 2048) (n : Fin 1024) : iblk m c 0 t (ix2 a n) = X (ix2 a ⟨t.val / 8 * 1024 + n.val, by omega⟩) := by
    subst eX; blk_point [iblk, V, idx t]
  have b1 (a : Fin 2048) (n : Fin 1408) : iblk m c 1 t (ix2 a n) = W (ix2 a ⟨t.val % 8 * 1408 + n.val, by omega⟩) := by
    subst eW; blk_point [iblk, V, idx t]
  rw [REF_at X W, out0_2]
  canon_tiles x h
  obtain ⟨a, l, rfl⟩ : ∃ (a : Fin 1024) (l : Fin 1408), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.DwUpKernelIdeal.Hand

end
-- ==== Proof.Dn.lean ====
/- The value of the gradient of the normed input of a feed-forward block: the blocks the kernel accumulates are the blocks of the reference's product. -/
module

public import proofs.«01_k».proof.Proof.Gen.DnKernelIdeal.Value
public import proofs.«01_k».proof.Proof.Gen.DnReferenceIdeal.Run
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnReferenceIdeal.Read

open Cert.DnReferenceIdeal Cert.DnReferenceIdeal.Gen Idealize.ShloMosaic Idealize.ShloMosaic.TcCoe Reals

/-- The reference's result as a function of its arguments. -/
def REF (X : FVec Ideal S2048x11264 .bf16) (W : FVec Ideal S2048x11264 .bf16) : FVec Ideal S2048x2048 .f32 :=
  Host.dotGeneral dot_S2048x11264_S2048x11264_S2048x2048_1_1_0_0_n_n none (extf .f32 X bitsLt_bf16_f32) (extf .f32 W bitsLt_bf16_f32)

/-- Its entries. -/
theorem REF_at (X : FVec Ideal S2048x11264 .bf16) (W : FVec Ideal S2048x11264 .bf16) (r j : Fin 2048) :
    REF X W (ix2 r j) = ∑ k : Fin 11264, X (ix2 r k) * W (ix2 j k) := by
  pointwise [REF]

end Cert.DnReferenceIdeal.Read

namespace Cert.DnKernelIdeal.Hand

open Cert.DnKernelIdeal Cert.DnKernelIdeal.Gen Idealize.ShloMosaic Idealize.ShloMosaic.TcCoe Idealize.SL.Sem Reals
open Idealize.ShloMosaic.Pipeline (Dat)
open Cert.DnReferenceIdeal.Read (REF REF_at)

/-- One point's product of two blocks. -/
def part (x0 : FVec Ideal S1024x2816 .bf16) (x1 : FVec Ideal S1024x2816 .bf16) (y : S1024x1024.Idx) : EReal :=
  ∑ k : Fin 2816, x0 (ix2 (y 0) k) * x1 (ix2 (y 1) k)

theorem pay1_at (x0 : FVec Ideal S1024x2816 .bf16) (x1 : FVec Ideal S1024x2816 .bf16) (y) : k0_pay1 (F := Ideal) x0 x1 y = part x0 x1 y := by
  obtain ⟨a, l, rfl⟩ : ∃ (a : Fin 1024) (l : Fin 1024), y = ix2 a l := ⟨y 0, y 1, by blk_ext⟩
  pointwise [k0_pay1, part]
  try rfl

theorem pay2_at (x0 : FVec Ideal S1024x2816 .bf16) (x1 : FVec Ideal S1024x2816 .bf16) (y) : k0_pay2 (F := Ideal) x0 x1 y = 0 + part x0 x1 y := by
  rw [zero_add, ← pay1_at, k0_pay2]
  pointwise []

theorem pay3_at (x0 : FVec Ideal S1024x2816 .bf16) (x1 : FVec Ideal S1024x2816 .bf16) (acc : FVec Ideal S1024x1024 .f32) (y) :
    k0_pay3 (F := Ideal) x0 x1 acc y = acc y + part x0 x1 y := by
  rw [← pay1_at, k0_pay3]
  pointwise []

variable (m : (ℓ : Loc nD τ sig) → Buf (Elt Ideal) ℓ)

/-- The block each window is at, point by point. -/
theorem idx : ∀ t : Fin cfg0.N, win0_0.index t = ![t.val / 8, t.val % 4] ∧ win0_1.index t = ![t.val / 4 % 2, t.val % 4] ∧ win0_2.index t = ![t.val / 8, t.val / 4 % 2] :=
  (by decide +kernel : ∀ t : Fin grid0.N, _)

/-- The scratch at the first point of a run. -/
theorem scr_reset (c : Dev nD) (t : Fin cfg0.N) (h : t.val % 4 = 0) (y) :
    (outsAt0 m c t.val t.isLt).2 y = 0 + part (iblk m c 0 t) (iblk m c 1 t) y := by
  rw [outsAt0_A m c t h (by omega) (by omega)]
  frame_out
  exact pay2_at _ _ _

/-- The scratch at the other points of a run. -/
theorem scr_step (c : Dev nD) (t : Fin cfg0.N) (h : ¬t.val % 4 = 0) (y) :
    (outsAt0 m c t.val t.isLt).2 y = (outsAt0 m c (t.val - 1) (Nat.lt_of_le_of_lt (Nat.sub_le _ _) t.isLt)).2 y + part (iblk m c 0 t) (iblk m c 1 t) y := by
  by_cases h2 : t.val % 4 = 4 - 1
  · rw [outsAt0_C m c t h (by omega) h2]
    frame_out
    simp only [read_unread_whole]
    exact pay3_at _ _ _ _
  · rw [outsAt0_B m c t h (by omega) h2]
    frame_out
    simp only [read_unread_whole]
    exact pay3_at _ _ _ _

/-- The scratch at the last point of a run: the sum of the run's products. -/
theorem scr_last (c : Dev nD) (t : Fin cfg0.N) (h : t.val % 4 = 4 - 1) (y) :
    (outsAt0 m c t.val t.isLt).2 y = ∑ s : Fin 4, part (iblk m c 0 ⟨_, Pipeline.run_point_lt_of_flush t h s⟩) (iblk m c 1 ⟨_, Pipeline.run_point_lt_of_flush t h s⟩) y := by
  have := Pipeline.eq_sum_fin_of_reset_step_apply_of_flush (fun n h => (outsAt0 m c n h).2) 4 (fun _ => 0)
    (fun t y => part (iblk m c 0 t) (iblk m c 1 t) y) (fun t h y => scr_reset m c t h y) (fun t h y => scr_step m c t h y) t h y
  rw [zero_add] at this
  exact this

/-- What the last point of a run writes back is the scratch. -/
theorem out_last (c : Dev nD) (t : Fin cfg0.N) (h : t.val % 4 = 4 - 1) (y) :
    (outsAt0 m c t.val t.isLt).1 y = (outsAt0 m c t.val t.isLt).2 y := by
  rw [outsAt0_C m c t (by omega) (by omega) h]
  frame_out

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_last m c t hr, scr_last m c t hr]
  have hE0 : (((cfg0.win 2).blk t).view.emb y 0).val = t.val / 8 * 1024 + (y 0).val := by blk_simp [idx t] <;> omega
  have hE1 : (((cfg0.win 2).blk t).view.emb y 1).val = t.val / 4 % 2 * 1024 + (y 1).val := by blk_simp [idx t] <;> omega
  generalize ((cfg0.win 2).blk t).view.emb y = E at hE0 hE1 ⊢
  obtain ⟨r, j, rfl⟩ : ∃ (r j : Fin 2048), E = ix2 r j := ⟨E 0, E 1, by blk_ext⟩
  replace hE0 : r.val = t.val / 8 * 1024 + (y 0).val := hE0
  replace hE1 : j.val = t.val / 4 % 2 * 1024 + (y 1).val := hE1
  obtain ⟨a, l, rfl⟩ : ∃ (a l : Fin 1024), y = ix2 a l := ⟨y 0, y 1, by blk_ext⟩
  replace hE0 : r.val = t.val / 8 * 1024 + a.val := hE0
  replace hE1 : j.val = t.val / 4 % 2 * 1024 + l.val := hE1
  have ht : t.val < 16 := t.isLt
  rw [REF_at]
  refine Fin.sum_mul_add_congr fun s k hl => ?_
  have hs := Pipeline.run_point_lt_of_flush t hr s
  blk_point [iblk, V, idx t, idx ⟨_, hs⟩]

end Cert.DnKernelIdeal.Hand

end
-- ==== Proof.DwDown.lean ====
/- The value of the gradient of the down weights: the blocks the kernel writes are the blocks of the reference's product. -/
module

public import proofs.«01_k».proof.Proof.Gen.DwDownKernelIdeal.Value
public import proofs.«01_k».proof.Proof.Gen.DwDownReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DwDownReferenceIdeal.Read

open Cert.DwDownReferenceIdeal Cert.DwDownReferenceIdeal.Gen Idealize.ShloMosaic Idealize.ShloMosaic.TcCoe Reals

/-- The reference's result as a function of its arguments. -/
def REF (X : FVec Ideal S2048x5632 .bf16) (W : FVec Ideal S2048x2048 .bf16) : FVec Ideal S5632x2048 .bf16 :=
  truncf .bf16 (transpose S5632x2048 [1, 0] (Host.dotGeneral dot_S2048x2048_S2048x5632_S2048x5632_0_0_1_1_n_n none (mulf (broadcastInDim S2048x2048 ![] bcast_S_S2048x2048 (constant S_ .f32 0x3F000000#32)) (extf .f32 W bitsLt_bf16_f32)) (extf .f32 X bitsLt_bf16_f32)) transposes_S2048x5632_S5632x2048_1_0) bitsLt_bf16_f32

/-- Its entries. -/
theorem REF_at (X : FVec Ideal S2048x5632 .bf16) (W : FVec Ideal S2048x2048 .bf16) (r : Fin 5632) (j : Fin 2048) :
    REF X W (ix2 r j) = (∑ k : Fin 2048, X (ix2 k r) * W (ix2 k j)) * Ideal.ofBits .f32 0x3F000000#32 := by
  have h : REF X W (ix2 r j) = ∑ k : Fin 2048, Ideal.ofBits .f32 0x3F000000#32 * W (ix2 k j) * X (ix2 k r) := by
    pointwise [REF]
  rw [h, sum_half]
  exact Finset.sum_congr rfl fun k _ => by rw [mul_comm (X _ * W _), mul_comm (X _), ← mul_assoc]

end Cert.DwDownReferenceIdeal.Read

namespace Cert.DwDownKernelIdeal.Hand

open Cert.DwDownKernelIdeal Cert.DwDownKernelIdeal.Gen Idealize.ShloMosaic Idealize.ShloMosaic.TcCoe Idealize.SL.Sem Reals
open Idealize.ShloMosaic.Pipeline (Dat)
open Cert.DwDownReferenceIdeal.Read (REF REF_at)

variable (m : (ℓ : Loc nD τ sig) → Buf (Elt Ideal) ℓ)

/-- The block each window is at, point by point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What a point writes is the reference's block. -/
theorem point (X : FVec Ideal S2048x5632 .bf16) (W : FVec Ideal S2048x2048 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 2 * 512 + (y 0).val := by blk_simp [idx t] <;> omega
  have hE1 : (((cfg0.win 2).blk t).view.emb y 1).val = t.val % 2 * 1024 + (y 1).val := by blk_simp [idx t] <;> omega
  generalize ((cfg0.win 2).blk t).view.emb y = E at hE0 hE1 ⊢
  obtain ⟨r, j, rfl⟩ : ∃ (r : Fin 5632) (j : Fin 2048), E = ix2 r j := ⟨E 0, E 1, by blk_ext⟩
  replace hE0 : r.val = t.val / 2 * 512 + (y 0).val := hE0
  replace hE1 : j.val = t.val % 2 * 1024 + (y 1).val := hE1
  have ht : t.val < 22 := t.isLt
  have b0 (a : Fin 2048) (n : Fin 512) : iblk m c 0 t (ix2 a n) = X (ix2 a ⟨t.val / 2 * 512 + n.val, by omega⟩) := by
    subst eX; blk_point [iblk, V, idx t]
  have b1 (a : Fin 2048) (n : Fin 1024) : iblk m c 1 t (ix2 a n) = W (ix2 a ⟨t.val % 2 * 1024 + n.val, by omega⟩) := by
    subst eW; blk_point [iblk, V, idx t]
  rw [REF_at X W, out0_2]
  canon_tiles x h
  obtain ⟨a, l, rfl⟩ : ∃ (a : Fin 512) (l : Fin 1024), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.DwDownKernelIdeal.Hand

end
-- ==== Proof.Down.lean ====
/- The value of the down projection with its residual: the blocks the kernel accumulates are the blocks of the reference's product. -/
module

public import proofs.«01_k».proof.Proof.Gen.DownKernelIdeal.Value
public import proofs.«01_k».proof.Proof.Gen.DownReferenceIdeal.Run
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownReferenceIdeal.Read

open Cert.DownReferenceIdeal Cert.DownReferenceIdeal.Gen Idealize.ShloMosaic Idealize.ShloMosaic.TcCoe Reals

/-- The reference's result as a function of its arguments. -/
def REF (X : FVec Ideal S2048x5632 .bf16) (W : FVec Ideal S5632x2048 .bf16) (Z : FVec Ideal S2048x2048 .f32) : FVec Ideal S2048x2048 .f32 :=
  addf Z (mulf (broadcastInDim S2048x2048 ![] bcast_S_S2048x2048 (constant S_ .f32 0x3F000000#32)) (Host.dotGeneral dot_S2048x5632_S5632x2048_S2048x2048_1_0_0_1_n_n none (extf .f32 X bitsLt_bf16_f32) (extf .f32 W bitsLt_bf16_f32)))

/-- Its entries. -/
theorem REF_at (X : FVec Ideal S2048x5632 .bf16) (W : FVec Ideal S5632x2048 .bf16) (Z : FVec Ideal S2048x2048 .f32) (r j : Fin 2048) :
    REF X W Z (ix2 r j) = Z (ix2 r j) + Ideal.ofBits .f32 0x3F000000#32 * ∑ k : Fin 5632, X (ix2 r k) * W (ix2 k j) := by
  pointwise [REF]

end Cert.DownReferenceIdeal.Read

namespace Cert.DownKernelIdeal.Hand

open Cert.DownKernelIdeal Cert.DownKernelIdeal.Gen Idealize.ShloMosaic Idealize.ShloMosaic.TcCoe Idealize.SL.Sem Reals
open Idealize.ShloMosaic.Pipeline (Dat)
open Cert.DownReferenceIdeal.Read (REF REF_at)

/-- One point's product of two blocks. -/
def part (x0 : FVec Ideal S1024x2816 .bf16) (x1 : FVec Ideal S2816x1024 .bf16) (y : S1024x1024.Idx) : EReal :=
  ∑ k : Fin 2816, x0 (ix2 (y 0) k) * x1 (ix2 k (y 1))

theorem pay1_at (x0 : FVec Ideal S1024x2816 .bf16) (x1 : FVec Ideal S2816x1024 .bf16) (y) : k0_pay1 (F := Ideal) x0 x1 y = part x0 x1 y := by
  obtain ⟨a, l, rfl⟩ : ∃ (a : Fin 1024) (l : Fin 1024), y = ix2 a l := ⟨y 0, y 1, by blk_ext⟩
  pointwise [k0_pay1, part]
  try rfl

theorem pay2_at (x0 : FVec Ideal S1024x2816 .bf16) (x1 : FVec Ideal S2816x1024 .bf16) (y) : k0_pay2 (F := Ideal) x0 x1 y = 0 + part x0 x1 y := by
  rw [zero_add, ← pay1_at, k0_pay2]
  pointwise []

theorem pay3_at (x0 : FVec Ideal S1024x2816 .bf16) (x1 : FVec Ideal S2816x1024 .bf16) (acc : FVec Ideal S1024x1024 .f32) (y) :
    k0_pay3 (F := Ideal) x0 x1 acc y = acc y + part x0 x1 y := by
  rw [← pay1_at, k0_pay3]
  pointwise []

variable (m : (ℓ : Loc nD τ sig) → Buf (Elt Ideal) ℓ)

/-- The block each window is at, point by point. -/
theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

/-- The scratch at the first point of a run. -/
theorem scr_reset (c : Dev nD) (t : Fin cfg0.N) (h : t.val % 2 = 0) (y) :
    (outsAt0 m c t.val t.isLt).2 y = 0 + part (iblk m c 0 t) (iblk m c 1 t) y := by
  rw [outsAt0_A m c t h (by omega) (by omega)]
  frame_out
  exact pay2_at _ _ _

/-- The scratch at the other points of a run. -/
theorem scr_step (c : Dev nD) (t : Fin cfg0.N) (h : ¬t.val % 2 = 0) (y) :
    (outsAt0 m c t.val t.isLt).2 y = (outsAt0 m c (t.val - 1) (Nat.lt_of_le_of_lt (Nat.sub_le _ _) t.isLt)).2 y + part (iblk m c 0 t) (iblk m c 1 t) y := by
  rw [outsAt0_B m c t h (by omega) (by omega)]
  frame_out
  simp only [read_unread_whole]
  exact pay3_at _ _ _ _

/-- The scratch at the last point of a run: the sum of the run's products. -/
theorem scr_last (c : Dev nD) (t : Fin cfg0.N) (h : t.val % 2 = 2 - 1) (y) :
    (outsAt0 m c t.val t.isLt).2 y = ∑ s : Fin 2, part (iblk m c 0 ⟨_, Pipeline.run_point_lt_of_flush t h s⟩) (iblk m c 1 ⟨_, Pipeline.run_point_lt_of_flush t h s⟩) y := by
  have := Pipeline.eq_sum_fin_of_reset_step_apply_of_flush (fun n h => (outsAt0 m c n h).2) 2 (fun _ => 0)
    (fun t y => part (iblk m c 0 t) (iblk m c 1 t) y) (fun t h y => scr_reset m c t h y) (fun t h y => scr_step m c t h y) t h y
  rw [zero_add] at this
  exact this

/-- The residual's block at a point. -/
def resid (c : Dev nD) (t : Fin cfg0.N) : FVec Ideal S1024x1024 .f32 := iblk m c 2 t

/-- What the last point of a run writes back: the residual's block and half of the scratch. -/
theorem out_last (c : Dev nD) (t : Fin cfg0.N) (h : t.val % 2 = 2 - 1) (y) :
    (outsAt0 m c t.val t.isLt).1 y = (resid m c t y : EReal) + (outsAt0 m c t.val t.isLt).2 y * Ideal.ofBits .f32 0x3F000000#32 := by
  rw [outsAt0_B m c t (by omega) (by omega) h]
  frame_out
  pointwise [k0_pay4, resid]

/-- The array the kernel leaves is the reference's result. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr := (flush0_3 t).mp hf
  blk_simp
  rw [after0_3, out_last m c t hr, scr_last m c t hr]
  have hE0 : (((cfg0.win 3).blk t).view.emb y 0).val = t.val / 4 * 1024 + (y 0).val := by blk_simp [idx t] <;> omega
  have hE1 : (((cfg0.win 3).blk t).view.emb y 1).val = t.val / 2 % 2 * 1024 + (y 1).val := by blk_simp [idx t] <;> omega
  generalize ((cfg0.win 3).blk t).view.emb y = E at hE0 hE1 ⊢
  obtain ⟨r, j, rfl⟩ : ∃ (r j : Fin 2048), E = ix2 r j := ⟨E 0, E 1, by blk_ext⟩
  replace hE0 : r.val = t.val / 4 * 1024 + (y 0).val := hE0
  replace hE1 : j.val = t.val / 2 % 2 * 1024 + (y 1).val := hE1
  obtain ⟨a, l, rfl⟩ : ∃ (a l : Fin 1024), y = ix2 a l := ⟨y 0, y 1, by blk_ext⟩
  replace hE0 : r.val = t.val / 4 * 1024 + a.val := hE0
  replace hE1 : j.val = t.val / 2 % 2 * 1024 + l.val := hE1
  have ht : t.val < 8 := t.isLt
  rw [REF_at, mul_comm (Ideal.ofBits _ _)]
  congr 1
  · blk_point [resid, iblk, V, idx t]
  congr 1
  refine Fin.sum_mul_add_congr fun s k hl => ?_
  have hs := Pipeline.run_point_lt_of_flush t hr s
  blk_point [iblk, V, idx t, idx ⟨_, hs⟩]

end Cert.DownKernelIdeal.Hand

end
-- ==== Proof.Do.lean ====
/- The value of the gradient of the mixer's heads: the blocks the kernel writes are the blocks of the reference's product. -/
module

public import proofs.«01_k».proof.Proof.Gen.DoKernelIdeal.Value
public import proofs.«01_k».proof.Proof.Gen.DoReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DoReferenceIdeal.Read

open Cert.DoReferenceIdeal Cert.DoReferenceIdeal.Gen Idealize.ShloMosaic Idealize.ShloMosaic.TcCoe Reals

/-- The reference's result as a function of its arguments. -/
def REF (X : FVec Ideal S2048x2048 .bf16) (W : FVec Ideal S2048x2048 .bf16) : FVec Ideal S2048x2048 .f32 :=
  Host.dotGeneral dot_S2048x2048_S2048x2048_S2048x2048_1_1_0_0_n_n none (extf .f32 X bitsLt_bf16_f32) (extf .f32 W bitsLt_bf16_f32)

/-- Its entries. -/
theorem REF_at (X : FVec Ideal S2048x2048 .bf16) (W : FVec Ideal S2048x2048 .bf16) (r : Fin 2048) (j : Fin 2048) :
    REF X W (ix2 r j) = ∑ k : Fin 2048, X (ix2 r k) * W (ix2 j k) := by
  pointwise [REF]

end Cert.DoReferenceIdeal.Read

namespace Cert.DoKernelIdeal.Hand

open Cert.DoKernelIdeal Cert.DoKernelIdeal.Gen Idealize.ShloMosaic Idealize.ShloMosaic.TcCoe Idealize.SL.Sem Reals
open Idealize.ShloMosaic.Pipeline (Dat)
open Cert.DoReferenceIdeal.Read (REF REF_at)

variable (m : (ℓ : Loc nD τ sig) → Buf (Elt Ideal) ℓ)

/-- The block each window is at, point by point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- What a point writes is the reference's block. -/
theorem point (X : FVec Ideal S2048x2048 .bf16) (W : FVec Ideal S2048x2048 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 2 * 1024 + (y 0).val := by blk_simp [idx t] <;> omega
  have hE1 : (((cfg0.win 2).blk t).view.emb y 1).val = t.val % 2 * 1024 + (y 1).val := by blk_simp [idx t] <;> omega
  generalize ((cfg0.win 2).blk t).view.emb y = E at hE0 hE1 ⊢
  obtain ⟨r, j, rfl⟩ : ∃ (r : Fin 2048) (j : Fin 2048), E = ix2 r j := ⟨E 0, E 1, by blk_ext⟩
  replace hE0 : r.val = t.val / 2 * 1024 + (y 0).val := hE0
  replace hE1 : j.val = t.val % 2 * 1024 + (y 1).val := hE1
  have ht : t.val < 4 := t.isLt
  have b0 (a : Fin 1024) (n : Fin 2048) : iblk m c 0 t (ix2 a n) = X (ix2 ⟨t.val / 2 * 1024 + a.val, by omega⟩ n) := by
    subst eX; blk_point [iblk, V, idx t]
  have b1 (a : Fin 1024) (n : Fin 2048) : iblk m c 1 t (ix2 a n) = W (ix2 ⟨t.val % 2 * 1024 + a.val, by omega⟩ n) := by
    subst eW; blk_point [iblk, V, idx t]
  rw [REF_at X W, out0_2]
  canon_tiles x h
  obtain ⟨a, l, rfl⟩ : ∃ (a : Fin 1024) (l : Fin 1024), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.DoKernelIdeal.Hand

end
-- ==== Proof.DwOut.lean ====
/- The value of the gradient of the mixer's output weights: the blocks the kernel writes are the blocks of the reference's product. -/
module

public import proofs.«01_k».proof.Proof.Gen.DwOutKernelIdeal.Value
public import proofs.«01_k».proof.Proof.Gen.DwOutReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DwOutReferenceIdeal.Read

open Cert.DwOutReferenceIdeal Cert.DwOutReferenceIdeal.Gen Idealize.ShloMosaic Idealize.ShloMosaic.TcCoe Reals

/-- The reference's result as a function of its arguments. -/
def REF (X : FVec Ideal S2048x2048 .bf16) (W : FVec Ideal S2048x2048 .bf16) : FVec Ideal S2048x2048 .bf16 :=
  truncf .bf16 (transpose S2048x2048 [1, 0] (Host.dotGeneral dot_S2048x2048_S2048x2048_S2048x2048_0_0_1_1_n_n none (extf .f32 W bitsLt_bf16_f32) (extf .f32 X bitsLt_bf16_f32)) transposes_S2048x2048_S2048x2048_1_0) bitsLt_bf16_f32

/-- Its entries. -/
theorem REF_at (X : FVec Ideal S2048x2048 .bf16) (W : FVec Ideal S2048x2048 .bf16) (r : Fin 2048) (j : Fin 2048) :
    REF X W (ix2 r j) = ∑ k : Fin 2048, X (ix2 k r) * W (ix2 k j) := by
  have h : REF X W (ix2 r j) = ∑ k : Fin 2048, W (ix2 k j) * X (ix2 k r) := by
    pointwise [REF]
    try (refine Finset.sum_congr rfl fun k _ => ?_; blk_point [])
  rw [h]
  exact Finset.sum_congr rfl fun k _ => mul_comm _ _

end Cert.DwOutReferenceIdeal.Read

namespace Cert.DwOutKernelIdeal.Hand

open Cert.DwOutKernelIdeal Cert.DwOutKernelIdeal.Gen Idealize.ShloMosaic Idealize.ShloMosaic.TcCoe Idealize.SL.Sem Reals
open Idealize.ShloMosaic.Pipeline (Dat)
open Cert.DwOutReferenceIdeal.Read (REF REF_at)

variable (m : (ℓ : Loc nD τ sig) → Buf (Elt Ideal) ℓ)

/-- The block each window is at, point by point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What a point writes is the reference's block. -/
theorem point (X : FVec Ideal S2048x2048 .bf16) (W : FVec Ideal S2048x2048 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 2 * 1024 + (y 0).val := by blk_simp [idx t] <;> omega
  have hE1 : (((cfg0.win 2).blk t).view.emb y 1).val = t.val % 2 * 1024 + (y 1).val := by blk_simp [idx t] <;> omega
  generalize ((cfg0.win 2).blk t).view.emb y = E at hE0 hE1 ⊢
  obtain ⟨r, j, rfl⟩ : ∃ (r : Fin 2048) (j : Fin 2048), E = ix2 r j := ⟨E 0, E 1, by blk_ext⟩
  replace hE0 : r.val = t.val / 2 * 1024 + (y 0).val := hE0
  replace hE1 : j.val = t.val % 2 * 1024 + (y 1).val := hE1
  have ht : t.val < 4 := t.isLt
  have b0 (a : Fin 2048) (n : Fin 1024) : iblk m c 0 t (ix2 a n) = X (ix2 a ⟨t.val / 2 * 1024 + n.val, by omega⟩) := by
    subst eX; blk_point [iblk, V, idx t]
  have b1 (a : Fin 2048) (n : Fin 1024) : iblk m c 1 t (ix2 a n) = W (ix2 a ⟨t.val % 2 * 1024 + n.val, by omega⟩) := by
    subst eW; blk_point [iblk, V, idx t]
  rw [REF_at X W, out0_2]
  canon_tiles x h
  obtain ⟨a, l, rfl⟩ : ∃ (a : Fin 1024) (l : Fin 1024), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.DwOutKernelIdeal.Hand

end
-- ==== Proof.DwQkv.lean ====
/- The value of the gradient of the mixer's input weights: the blocks the kernel writes are the blocks of the reference's product. -/
module

public import proofs.«01_k».proof.Proof.Gen.DwQkvKernelIdeal.Value
public import proofs.«01_k».proof.Proof.Gen.DwQkvReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DwQkvReferenceIdeal.Read

open Cert.DwQkvReferenceIdeal Cert.DwQkvReferenceIdeal.Gen Idealize.ShloMosaic Idealize.ShloMosaic.TcCoe Reals

/-- The reference's result as a function of its arguments. -/
def REF (X : FVec Ideal S2048x2048 .bf16) (W : FVec Ideal S3x2048x2048 .bf16) : FVec Ideal S2048x6144 .bf16 :=
  truncf .bf16 (transpose S2048x6144 [1, 0] (Host.dotGeneral dot_S2048x6144_S2048x2048_S6144x2048_0_0_1_1_n_n none (shapeCast _ (transpose S2048x3x2048 [1, 0, 2] (extf .f32 W bitsLt_bf16_f32) transposes_S3x2048x2048_S2048x3x2048_1_0_2) shapeCasts_S2048x3x2048_S2048x6144) (extf .f32 X bitsLt_bf16_f32)) transposes_S6144x2048_S2048x6144_1_0) bitsLt_bf16_f32

/-- Its entries. -/
theorem REF_at (X : FVec Ideal S2048x2048 .bf16) (W : FVec Ideal S3x2048x2048 .bf16) (r : Fin 2048) (j : Fin 6144) :
    REF X W (ix2 r j) = ∑ k : Fin 2048, X (ix2 k r) * W (ix3 ⟨j.val / 2048, by omega⟩ k ⟨j.val % 2048, by omega⟩) := by
  have h : REF X W (ix2 r j) = ∑ k : Fin 2048, W (ix3 ⟨j.val / 2048, by omega⟩ k ⟨j.val % 2048, by omega⟩) * X (ix2 k r) := by
    pointwise [REF]
    try (refine Finset.sum_congr rfl fun k _ => ?_; blk_point [])
  rw [h]
  exact Finset.sum_congr rfl fun k _ => mul_comm _ _

end Cert.DwQkvReferenceIdeal.Read

namespace Cert.DwQkvKernelIdeal.Hand

open Cert.DwQkvKernelIdeal Cert.DwQkvKernelIdeal.Gen Idealize.ShloMosaic Idealize.ShloMosaic.TcCoe Idealize.SL.Sem Reals
open Idealize.ShloMosaic.Pipeline (Dat)
open Cert.DwQkvReferenceIdeal.Read (REF REF_at)

variable (m : (ℓ : Loc nD τ sig) → Buf (Elt Ideal) ℓ)

/-- The block each window is at, point by point. -/
theorem idx : ∀ t : Fin cfg0.N, win0_0.index t = ![0, t.val / 6] ∧ win0_1.index t = ![t.val % 6 / 2, 0, t.val % 6 % 2] ∧ win0_2.index t = ![t.val / 6, t.val % 6] :=
  (by decide +kernel : ∀ t : Fin grid0.N, _)

/-- What a point writes is the reference's block. -/
theorem point (X : FVec Ideal S2048x2048 .bf16) (W : FVec Ideal S3x2048x2048 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 6 * 1024 + (y 0).val := by blk_simp [idx t] <;> omega
  have hE1 : (((cfg0.win 2).blk t).view.emb y 1).val = t.val % 6 * 1024 + (y 1).val := by blk_simp [idx t] <;> omega
  generalize ((cfg0.win 2).blk t).view.emb y = E at hE0 hE1 ⊢
  obtain ⟨r, j, rfl⟩ : ∃ (r : Fin 2048) (j : Fin 6144), E = ix2 r j := ⟨E 0, E 1, by blk_ext⟩
  replace hE0 : r.val = t.val / 6 * 1024 + (y 0).val := hE0
  replace hE1 : j.val = t.val % 6 * 1024 + (y 1).val := hE1
  have ht : t.val < 12 := t.isLt
  have b0 (a : Fin 2048) (n : Fin 1024) : iblk m c 0 t (ix2 a n) = X (ix2 a ⟨t.val / 6 * 1024 + n.val, by omega⟩) := by
    subst eX; blk_point [iblk, V, idx t]
  have b1 (a : Fin 2048) (n : Fin 1024) : iblk m c 1 t (ix3 0 a n) = W (ix3 ⟨t.val % 6 / 2, by omega⟩ a ⟨t.val % 6 % 2 * 1024 + n.val, by omega⟩) := by
    subst eW; blk_point [iblk, V, idx t]
  rw [REF_at X W, out0_2]
  canon_tiles x h
  obtain ⟨a, l, rfl⟩ : ∃ (a : Fin 1024) (l : Fin 1024), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.DwQkvKernelIdeal.Hand

end
-- ==== Proof.DnQkv.lean ====
/- The value of the gradient of the normed input of a mixer: the blocks the kernel accumulates are the blocks of the reference's product. -/
module

public import proofs.«01_k».proof.Proof.Gen.DnQkvKernelIdeal.Value
public import proofs.«01_k».proof.Proof.Gen.DnQkvReferenceIdeal.Run
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnQkvReferenceIdeal.Read

open Cert.DnQkvReferenceIdeal Cert.DnQkvReferenceIdeal.Gen Idealize.ShloMosaic Idealize.ShloMosaic.TcCoe Reals

/-- The reference's result as a function of its arguments. -/
def REF (X : FVec Ideal S3x2048x2048 .bf16) (W : FVec Ideal S2048x6144 .bf16) : FVec Ideal S2048x2048 .f32 :=
  Host.dotGeneral dot_S2048x6144_S2048x6144_S2048x2048_1_1_0_0_n_n none (shapeCast _ (transpose S2048x3x2048 [1, 0, 2] (extf .f32 X bitsLt_bf16_f32) transposes_S3x2048x2048_S2048x3x2048_1_0_2) shapeCasts_S2048x3x2048_S2048x6144) (extf .f32 W bitsLt_bf16_f32)

/-- Its entries. -/
theorem REF_at (X : FVec Ideal S3x2048x2048 .bf16) (W : FVec Ideal S2048x6144 .bf16) (r j : Fin 2048) :
    REF X W (ix2 r j) = ∑ k : Fin 6144, X (ix3 ⟨k.val / 2048, by omega⟩ r ⟨k.val % 2048, by omega⟩) * W (ix2 j k) := by
  pointwise [REF]
  try blk_point []

end Cert.DnQkvReferenceIdeal.Read

namespace Cert.DnQkvKernelIdeal.Hand

open Cert.DnQkvKernelIdeal Cert.DnQkvKernelIdeal.Gen Idealize.ShloMosaic Idealize.ShloMosaic.TcCoe Idealize.SL.Sem Reals
open Idealize.ShloMosaic.Pipeline (Dat)
open Cert.DnQkvReferenceIdeal.Read (REF REF_at)

/-- One point's product of two blocks. -/
def part (x0 : FVec Ideal S1x1024x2048 .bf16) (x1 : FVec Ideal S1024x2048 .bf16) (y : S1024x1024.Idx) : EReal :=
  ∑ k : Fin 2048, x0 (ix3 0 (y 0) k) * x1 (ix2 (y 1) k)

theorem pay1_at (x0 : FVec Ideal S1x1024x2048 .bf16) (x1 : FVec Ideal S1024x2048 .bf16) (y) : k0_pay1 (F := Ideal) x0 x1 y = part x0 x1 y := by
  obtain ⟨a, l, rfl⟩ : ∃ (a : Fin 1024) (l : Fin 1024), y = ix2 a l := ⟨y 0, y 1, by blk_ext⟩
  pointwise [k0_pay1, part]
  try rfl

theorem pay2_at (x0 : FVec Ideal S1x1024x2048 .bf16) (x1 : FVec Ideal S1024x2048 .bf16) (y) : k0_pay2 (F := Ideal) x0 x1 y = 0 + part x0 x1 y := by
  rw [zero_add, ← pay1_at, k0_pay2]
  pointwise []

theorem pay3_at (x0 : FVec Ideal S1x1024x2048 .bf16) (x1 : FVec Ideal S1024x2048 .bf16) (acc : FVec Ideal S1024x1024 .f32) (y) :
    k0_pay3 (F := Ideal) x0 x1 acc y = acc y + part x0 x1 y := by
  rw [← pay1_at, k0_pay3]
  pointwise []

variable (m : (ℓ : Loc nD τ sig) → Buf (Elt Ideal) ℓ)

/-- The block each window is at, point by point. -/
theorem idx : ∀ t : Fin cfg0.N, win0_0.index t = ![t.val % 3, t.val / 6, 0] ∧ win0_1.index t = ![t.val / 3 % 2, t.val % 3] ∧ win0_2.index t = ![t.val / 6, t.val / 3 % 2] :=
  (by decide +kernel : ∀ t : Fin grid0.N, _)

/-- The scratch at the first point of a run. -/
theorem scr_reset (c : Dev nD) (t : Fin cfg0.N) (h : t.val % 3 = 0) (y) :
    (outsAt0 m c t.val t.isLt).2 y = 0 + part (iblk m c 0 t) (iblk m c 1 t) y := by
  rw [outsAt0_A m c t h (by omega) (by omega)]
  frame_out
  exact pay2_at _ _ _

/-- The scratch at the other points of a run. -/
theorem scr_step (c : Dev nD) (t : Fin cfg0.N) (h : ¬t.val % 3 = 0) (y) :
    (outsAt0 m c t.val t.isLt).2 y = (outsAt0 m c (t.val - 1) (Nat.lt_of_le_of_lt (Nat.sub_le _ _) t.isLt)).2 y + part (iblk m c 0 t) (iblk m c 1 t) y := by
  by_cases h2 : t.val % 3 = 3 - 1
  · rw [outsAt0_C m c t h (by omega) h2]
    frame_out
    simp only [read_unread_whole]
    exact pay3_at _ _ _ _
  · rw [outsAt0_B m c t h (by omega) h2]
    frame_out
    simp only [read_unread_whole]
    exact pay3_at _ _ _ _

/-- The scratch at the last point of a run: the sum of the run's products. -/
theorem scr_last (c : Dev nD) (t : Fin cfg0.N) (h : t.val % 3 = 3 - 1) (y) :
    (outsAt0 m c t.val t.isLt).2 y = ∑ s : Fin 3, part (iblk m c 0 ⟨_, Pipeline.run_point_lt_of_flush t h s⟩) (iblk m c 1 ⟨_, Pipeline.run_point_lt_of_flush t h s⟩) y := by
  have := Pipeline.eq_sum_fin_of_reset_step_apply_of_flush (fun n h => (outsAt0 m c n h).2) 3 (fun _ => 0)
    (fun t y => part (iblk m c 0 t) (iblk m c 1 t) y) (fun t h y => scr_reset m c t h y) (fun t h y => scr_step m c t h y) t h y
  rw [zero_add] at this
  exact this

/-- What the last point of a run writes back is the scratch. -/
theorem out_last (c : Dev nD) (t : Fin cfg0.N) (h : t.val % 3 = 3 - 1) (y) :
    (outsAt0 m c t.val t.isLt).1 y = (outsAt0 m c t.val t.isLt).2 y := by
  rw [outsAt0_C m c t (by omega) (by omega) h]
  frame_out

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_last m c t hr, scr_last m c t hr]
  have hE0 : (((cfg0.win 2).blk t).view.emb y 0).val = t.val / 6 * 1024 + (y 0).val := by blk_simp [idx t] <;> omega
  have hE1 : (((cfg0.win 2).blk t).view.emb y 1).val = t.val / 3 % 2 * 1024 + (y 1).val := by blk_simp [idx t] <;> omega
  generalize ((cfg0.win 2).blk t).view.emb y = E at hE0 hE1 ⊢
  obtain ⟨r, j, rfl⟩ : ∃ (r j : Fin 2048), E = ix2 r j := ⟨E 0, E 1, by blk_ext⟩
  replace hE0 : r.val = t.val / 6 * 1024 + (y 0).val := hE0
  replace hE1 : j.val = t.val / 3 % 2 * 1024 + (y 1).val := hE1
  obtain ⟨a, l, rfl⟩ : ∃ (a l : Fin 1024), y = ix2 a l := ⟨y 0, y 1, by blk_ext⟩
  replace hE0 : r.val = t.val / 6 * 1024 + a.val := hE0
  replace hE1 : j.val = t.val / 3 % 2 * 1024 + l.val := hE1
  have ht : t.val < 12 := t.isLt
  rw [REF_at]
  refine Fin.sum_mul_add_congr fun s k hl => ?_
  have hs := Pipeline.run_point_lt_of_flush t hr s
  blk_point [iblk, V, idx t, idx ⟨_, hs⟩]

end Cert.DnQkvKernelIdeal.Hand

end
-- ==== Proof.Qkv.lean ====
/- The value of the mixer's input product: the blocks the kernel writes are the blocks of the reference's product. -/
module

public import proofs.«01_k».proof.Proof.Gen.QkvKernelIdeal.Value
public import proofs.«01_k».proof.Proof.Gen.QkvReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.QkvReferenceIdeal.Read

open Cert.QkvReferenceIdeal Cert.QkvReferenceIdeal.Gen Idealize.ShloMosaic Idealize.ShloMosaic.TcCoe Reals

/-- The reference's result as a function of its arguments. -/
def REF (X : FVec Ideal S2048x2048 .bf16) (W : FVec Ideal S2048x6144 .bf16) : FVec Ideal S2048x6144 .f32 :=
  Host.dotGeneral dot_S2048x2048_S2048x6144_S2048x6144_1_0_0_1_n_n none (extf .f32 X bitsLt_bf16_f32) (extf .f32 W bitsLt_bf16_f32)

/-- Its entries. -/
theorem REF_at (X : FVec Ideal S2048x2048 .bf16) (W : FVec Ideal S2048x6144 .bf16) (r : Fin 2048) (j : Fin 6144) :
    REF X W (ix2 r j) = ∑ k : Fin 2048, X (ix2 r k) * W (ix2 k j) := by
  pointwise [REF]

end Cert.QkvReferenceIdeal.Read

namespace Cert.QkvKernelIdeal.Hand

open Cert.QkvKernelIdeal Cert.QkvKernelIdeal.Gen Idealize.ShloMosaic Idealize.ShloMosaic.TcCoe Idealize.SL.Sem Reals
open Idealize.ShloMosaic.Pipeline (Dat)
open Cert.QkvReferenceIdeal.Read (REF REF_at)

variable (m : (ℓ : Loc nD τ sig) → Buf (Elt Ideal) ℓ)

/-- The block each window is at, point by point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What a point writes is the reference's block. -/
theorem point (X : FVec Ideal S2048x2048 .bf16) (W : FVec Ideal S2048x6144 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 4 * 1024 + (y 0).val := by blk_simp [idx t] <;> omega
  have hE1 : (((cfg0.win 2).blk t).view.emb y 1).val = t.val % 4 * 1536 + (y 1).val := by blk_simp [idx t] <;> omega
  generalize ((cfg0.win 2).blk t).view.emb y = E at hE0 hE1 ⊢
  obtain ⟨r, j, rfl⟩ : ∃ (r : Fin 2048) (j : Fin 6144), E = ix2 r j := ⟨E 0, E 1, by blk_ext⟩
  replace hE0 : r.val = t.val / 4 * 1024 + (y 0).val := hE0
  replace hE1 : j.val = t.val % 4 * 1536 + (y 1).val := hE1
  have ht : t.val < 8 := t.isLt
  have b0 (a : Fin 1024) (n : Fin 2048) : iblk m c 0 t (ix2 a n) = X (ix2 ⟨t.val / 4 * 1024 + a.val, by omega⟩ n) := by
    subst eX; blk_point [iblk, V, idx t]
  have b1 (a : Fin 2048) (n : Fin 1536) : iblk m c 1 t (ix2 a n) = W (ix2 a ⟨t.val % 4 * 1536 + n.val, by omega⟩) := by
    subst eW; blk_point [iblk, V, idx t]
  rw [REF_at X W, out0_2]
  canon_tiles x h
  obtain ⟨a, l, rfl⟩ : ∃ (a : Fin 1024) (l : Fin 1536), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.QkvKernelIdeal.Hand

end
-- ==== Proof.Out.lean ====
/- The value of the mixer's output product on the residual stream: the blocks the kernel writes are the blocks of the reference's product. -/
module

public import proofs.«01_k».proof.Proof.Gen.OutKernelIdeal.Value
public import proofs.«01_k».proof.Proof.Gen.OutReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.OutReferenceIdeal.Read

open Cert.OutReferenceIdeal Cert.OutReferenceIdeal.Gen Idealize.ShloMosaic Idealize.ShloMosaic.TcCoe Reals

/-- The reference's result as a function of its arguments. -/
def REF (X : FVec Ideal S2048x2048 .bf16) (W : FVec Ideal S2048x2048 .bf16) (Z : FVec Ideal S2048x2048 .f32) : FVec Ideal S2048x2048 .f32 :=
  addf Z (Host.dotGeneral dot_S2048x2048_S2048x2048_S2048x2048_1_0_0_1_n_n none (extf .f32 X bitsLt_bf16_f32) (extf .f32 W bitsLt_bf16_f32))

/-- Its entries. -/
theorem REF_at (X : FVec Ideal S2048x2048 .bf16) (W : FVec Ideal S2048x2048 .bf16) (Z : FVec Ideal S2048x2048 .f32) (r : Fin 2048) (j : Fin 2048) :
    REF X W Z (ix2 r j) = Z (ix2 r j) + ∑ k : Fin 2048, X (ix2 r k) * W (ix2 k j) := by
  pointwise [REF]

end Cert.OutReferenceIdeal.Read

namespace Cert.OutKernelIdeal.Hand

open Cert.OutKernelIdeal Cert.OutKernelIdeal.Gen Idealize.ShloMosaic Idealize.ShloMosaic.TcCoe Idealize.SL.Sem Reals
open Idealize.ShloMosaic.Pipeline (Dat)
open Cert.OutReferenceIdeal.Read (REF REF_at)

variable (m : (ℓ : Loc nD τ sig) → Buf (Elt Ideal) ℓ)

/-- The block each window is at, point by point. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- What a point writes is the reference's block. -/
theorem point (X : FVec Ideal S2048x2048 .bf16) (W : FVec Ideal S2048x2048 .bf16) (Z : FVec Ideal S2048x2048 .f32) (c : Dev nD)
    (eX : m ((c : Thread nD τ).loc main_arg0) = X) (eW : m ((c : Thread nD τ).loc main_arg1) = W) (eZ : m ((c : Thread nD τ).loc main_arg2) = Z) (t : Fin cfg0.N) (y) :
    out0_3 (iblk m c 0 t) (iblk m c 1 t) (iblk m c 2 t) y = REF X W Z (((cfg0.win 3).blk t).view.emb y) := by
  have hE0 : (((cfg0.win 3).blk t).view.emb y 0).val = t.val / 2 * 1024 + (y 0).val := by blk_simp [idx t] <;> omega
  have hE1 : (((cfg0.win 3).blk t).view.emb y 1).val = t.val % 2 * 1024 + (y 1).val := by blk_simp [idx t] <;> omega
  generalize ((cfg0.win 3).blk t).view.emb y = E at hE0 hE1 ⊢
  obtain ⟨r, j, rfl⟩ : ∃ (r : Fin 2048) (j : Fin 2048), E = ix2 r j := ⟨E 0, E 1, by blk_ext⟩
  replace hE0 : r.val = t.val / 2 * 1024 + (y 0).val := hE0
  replace hE1 : j.val = t.val % 2 * 1024 + (y 1).val := hE1
  have ht : t.val < 4 := t.isLt
  have b0 (a : Fin 1024) (n : Fin 2048) : iblk m c 0 t (ix2 a n) = X (ix2 ⟨t.val / 2 * 1024 + a.val, by omega⟩ n) := by
    subst eX; blk_point [iblk, V, idx t]
  have b1 (a : Fin 2048) (n : Fin 1024) : iblk m c 1 t (ix2 a n) = W (ix2 a ⟨t.val % 2 * 1024 + n.val, by omega⟩) := by
    subst eW; blk_point [iblk, V, idx t]
  have b2 (a : Fin 1024) (n : Fin 1024) : iblk m c 2 t (ix2 a n) = Z (ix2 ⟨t.val / 2 * 1024 + a.val, by omega⟩ ⟨t.val % 2 * 1024 + n.val, by omega⟩) := by
    subst eZ; blk_point [iblk, V, idx t]
  rw [REF_at X W Z, out0_3]
  canon_tiles x h
  obtain ⟨a, l, rfl⟩ : ∃ (a : Fin 1024) (l : Fin 1024), x = ix2 a l := ⟨x 0, x 1, by blk_ext⟩
  replace h0 : (y 0).val = a.val := h0
  replace h1 : (y 1).val = l.val := h1
  open_payloads
  pointwise [k0_pay1]
  simp only [b0, b1, b2]
  blk_point []

/-- The array the kernel leaves is the reference's result. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m _ _ _ c rfl rfl rfl t y

end Cert.OutKernelIdeal.Hand

end
-- ==== Proof.Norm.lean ====
/- The value of the norm: the blocks the kernel writes are the blocks of the reference. -/
module

public import proofs.«01_k».proof.Proof.Gen.NormKernelIdeal.Value
public import proofs.«01_k».proof.Proof.Gen.NormReferenceIdeal.Run
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormReferenceIdeal.Read

open Cert.NormReferenceIdeal Cert.NormReferenceIdeal.Gen Idealize.ShloMosaic Idealize.ShloMosaic.TcCoe Reals

/-- The reference's result as a function of its arguments. -/
def REF (X : FVec Ideal S2048x2048 .f32) (G : FVec Ideal S1x2048 .f32) : FVec Ideal S2048x2048 .bf16 :=
  truncf .bf16 (mulf (mulf X (broadcastInDim S2048x2048 ![0, 1] bcast_S2048x1_S2048x2048_0_1 (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ G shapeCasts_S1x2048_S2048)))) bitsLt_bf16_f32

/-- Its entries. -/
theorem REF_at (X : FVec Ideal S2048x2048 .f32) (G : FVec Ideal S1x2048 .f32) (r : Fin 2048) (j : Fin 2048) :
    REF X G (ix2 r j) = X (ix2 r j) * Ideal.rsqrt (Ideal.div (∑ k : Fin 2048, X (ix2 r k) * X (ix2 r k)) (Ideal.ofBits .f32 0x45000000#32) + Ideal.ofBits .f32 0x358637BD#32) * G (ix2 0 j) := by
  pointwise [REF]

end Cert.NormReferenceIdeal.Read

namespace Cert.NormKernelIdeal.Hand

open Cert.NormKernelIdeal Cert.NormKernelIdeal.Gen Idealize.ShloMosaic Idealize.ShloMosaic.TcCoe Idealize.SL.Sem Reals
open Idealize.ShloMosaic.Pipeline (Dat)
open Cert.NormReferenceIdeal.Read (REF REF_at)

variable (m : (ℓ : Loc nD τ sig) → Buf (Elt Ideal) ℓ)

/-- The block each window is at, point by point. -/
theorem idx : ∀ t : Fin cfg0.N, win0_0.index t = ![t.val, 0] ∧ win0_1.index t = ![0, 0] ∧ win0_2.index t = ![t.val, 0] :=
  (by decide +kernel : ∀ t : Fin grid0.N, _)

/-- What a point writes is the reference's block. -/
theorem point (X : FVec Ideal S2048x2048 .f32) (G : FVec Ideal S1x2048 .f32) (c : Dev nD)
    (eX : m ((c : Thread nD τ).loc main_arg0) = X) (eG : m ((c : Thread nD τ).loc main_arg1) = G) (t : Fin cfg0.N) (y) :
    out0_2 (iblk m c 0 t) (iblk m c 1 t) y = REF X G (((cfg0.win 2).blk t).view.emb y) := by
  have hE0 : (((cfg0.win 2).blk t).view.emb y 0).val = t.val * 256 + (y 0).val := by blk_simp [idx t] <;> omega
  have hE1 : (((cfg0.win 2).blk t).view.emb y 1).val = (y 1).val := by blk_simp [idx t] <;> omega
  generalize ((cfg0.win 2).blk t).view.emb y = E at hE0 hE1 ⊢
  obtain ⟨r, j, rfl⟩ : ∃ (r : Fin 2048) (j : Fin 2048), E = ix2 r j := ⟨E 0, E 1, by blk_ext⟩
  replace hE0 : r.val = t.val * 256 + (y 0).val := hE0
  replace hE1 : j.val = (y 1).val := hE1
  have ht : t.val < 8 := t.isLt
  have b0 (a : Fin 256) (n : Fin 2048) : iblk m c 0 t (ix2 a n) = X (ix2 ⟨t.val * 256 + a.val, by omega⟩ n) := by
    subst eX; blk_point [iblk, V, idx t]
  have b1 (a : Fin 1) (n : Fin 2048) : iblk m c 1 t (ix2 a n) = G (ix2 a n) := by
    subst eG; blk_point [iblk, V, idx t]
  rw [REF_at X G, out0_2]
  canon_tiles x h
  obtain ⟨a, l, rfl⟩ : ∃ (a : Fin 256) (l : Fin 2048), x = ix2 a l := ⟨x 0, x 1, by blk_ext⟩
  replace h0 : (y 0).val = a.val := h0
  replace h1 : (y 1).val = l.val := h1
  open_payloads
  pointwise [k0_pay1]
  simp only [b0, b1]
  have hr : (⟨t.val * 256 + a.val, by omega⟩ : Fin 2048) = r := Fin.ext (by rw [hE0, h0])
  have hj : l = j := Fin.ext (by rw [hE1, h1])
  simp only [hr, hj]

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.NormKernelIdeal.Hand

end
-- ==== Proof.RmsReals.lean ====
/- The norm and its gradient over the extended reals, as the norm's calls and the loss read them. -/
module

public import proofs.«01_k».proof.Proof.Reals

@[expose] public section

noncomputable section

namespace Reals

open Idealize.ShloMosaic

/-- The mean of the squares of a row, and the norm's small constant. -/
def msq (x : Fin 2048 → EReal) : EReal :=
  Ideal.div (∑ k, x k * x k) (Ideal.ofBits .f32 0x45000000#32) + Ideal.ofBits .f32 0x358637BD#32

/-- The factor the norm puts on a row. -/
def scale (x : Fin 2048 → EReal) : EReal := Ideal.rsqrt (msq x)

/-- The mean of the products of two rows. -/
def mean (u x : Fin 2048 → EReal) : EReal := Ideal.div (∑ k, u k * x k) (Ideal.ofBits .f32 0x45000000#32)

/-- What reverse differentiation puts on a row through the norm's factor, for either factor of the square. -/
def back (u x : Fin 2048 → EReal) : EReal :=
  Ideal.div ((∑ k, x k * u k) * (Ideal.ofBits .f32 0xBF000000#32 * Ideal.div (scale x) (msq x))) (Ideal.ofBits .f32 0x45000000#32)

theorem n2048 : Ideal.ofBits .f32 0x45000000#32 = ((2048 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The mean of squares of a finite row is a positive real. -/
theorem msq_coe (x : Fin 2048 → ℝ) : ∃ a : ℝ, 0 < a ∧ msq (fun k => (x k : EReal)) = (a : EReal) := by
  obtain ⟨e, he, hE⟩ := eps_pos
  refine ⟨(∑ k, x k * x k) * (1 / 2048) + e, ?_, ?_⟩
  · have : 0 ≤ ∑ k, x k * x k := Finset.sum_nonneg fun k _ => mul_self_nonneg _
    positivity
  · rw [msq, hE, n2048, Ideal.div_coe (by norm_num)]
    simp only [← EReal.coe_mul, ← coe_sum, ← EReal.coe_add]

/-- The gradient of a row through the norm, as the kernel groups it and as reverse differentiation does. -/
theorem norm_grad {u x : Fin 2048 → EReal} (hu : ∀ k, Fin' (u k)) (hx : ∀ k, Fin' (x k)) (j : Fin 2048) :
    scale x * u j - x j * (scale x * scale x * scale x * mean u x) = u j * scale x + x j * back u x + back u x * x j := by
  choose u' hu using hu
  choose x' hx using hx
  obtain rfl : u = fun k => (u' k : EReal) := funext hu
  obtain rfl : x = fun k => (x' k : EReal) := funext hx
  obtain ⟨a, ha, hm⟩ := msq_coe x'
  have hs : scale (fun k => (x' k : EReal)) = (((Real.sqrt a)⁻¹ : ℝ) : EReal) := by
    rw [scale, hm, Ideal.rsqrt_coe, if_neg (not_lt.2 ha.le), if_neg ha.ne']
  have hq : Real.sqrt a * Real.sqrt a = a := Real.mul_self_sqrt ha.le
  have hp : 0 < Real.sqrt a := Real.sqrt_pos.2 ha
  have hsum : (∑ k, x' k * u' k) = ∑ k, u' k * x' k := Finset.sum_congr rfl fun k _ => mul_comm _ _
  rw [mean, back, hs, hm, n2048, neg_half, Ideal.div_coe ha.ne', Ideal.div_coe (by norm_num), Ideal.div_coe (by norm_num)]
  simp only [← EReal.coe_mul, ← coe_sum, ← EReal.coe_add, ← EReal.coe_sub]
  congr 1
  rw [hsum]
  generalize (∑ k, u' k * x' k) = S
  have e : (1 : ℝ) / a = (Real.sqrt a)⁻¹ * (Real.sqrt a)⁻¹ := by
    rw [← mul_inv, hq, one_div]
  rw [e]
  ring

end Reals

end
-- ==== Proof.DNormRef.lean ====
/- The reference of the norm's gradient, read entry by entry. -/
module

public import proofs.«01_k».proof.Proof.Gen.DNormReferenceIdeal.Run
public import proofs.«01_k».proof.Proof.RmsReals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DNormReferenceIdeal.Read

open Cert.DNormReferenceIdeal Cert.DNormReferenceIdeal.Gen Idealize.ShloMosaic Idealize.ShloMosaic.TcCoe Idealize.SL.Sem Reals

/-- The gain on every row. -/
def gamma (G : FVec Ideal S1x2048 .f32) : FVec Ideal S2048x2048 .f32 :=
  broadcastInDim S2048x2048 ![0, 1] bcast_S1x2048_S2048x2048_0_1 (broadcastInDim S1x2048 ![1] bcast_S2048_S1x2048_1 (shapeCast _ G shapeCasts_S1x2048_S2048))

/-- The mean of squares of each row. -/
def msqOf (X : FVec Ideal S2048x2048 .f32) : FVec Ideal S2048x1 .f32 :=
  addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The norm's factor of each row. -/
def rsOf (X : FVec Ideal S2048x2048 .f32) : FVec Ideal S2048x1 .f32 := Host.rsqrt (msqOf X)

/-- The rows before the gain. -/
def unit (X : FVec Ideal S2048x2048 .f32) : FVec Ideal S2048x2048 .f32 :=
  mulf X (broadcastInDim S2048x2048 ![0, 1] bcast_S2048x1_S2048x2048_0_1 (rsOf X))

/-- What reverse differentiation puts on each row through the norm's factor. -/
def backOf (X U : FVec Ideal S2048x2048 .f32) : FVec Ideal S2048 .f32 :=
  Host.reduceAdd (Host.divf (mulf (shapeCast S2048x1 (Host.reduceAdd (mulf X U) (constant S_ .f32 0x00000000#32) reducesTo_S2048x2048_S2048_d1 h_S_) shapeCasts_S2048_S2048x1) (mulf (broadcastInDim S2048x1 ![] bcast_S_S2048x1 (constant S_ .f32 0xBF000000#32)) (Host.divf (rsOf X) (msqOf X)))) (broadcastInDim S2048x1 ![] bcast_S_S2048x1 (constant S_ .f32 0x45000000#32))) (constant S_ .f32 0x00000000#32) reducesTo_S2048x1_S2048_d1 h_S_

/-- The gradient of the rows. -/
def gradOf (X U : FVec Ideal S2048x2048 .f32) : FVec Ideal S2048x2048 .f32 :=
  addf (addf (mulf U (broadcastInDim S2048x2048 ![0, 1] bcast_S2048x1_S2048x2048_0_1 (rsOf X))) (mulf X (broadcastInDim S2048x2048 ![0] bcast_S2048_S2048x2048_0 (backOf X U)))) (mulf (broadcastInDim S2048x2048 ![0] bcast_S2048_S2048x2048_0 (backOf X U)) X)

/-- The gradient of the gain. -/
def gainOf (X D : FVec Ideal S2048x2048 .f32) : FVec Ideal S1x2048 .f32 :=
  broadcastInDim S1x2048 ![1] bcast_S2048_S1x2048_1 (Host.reduceAdd (shapeCast S1x2048 (Host.reduceAdd (mulf (unit X) D) (constant S_ .f32 0x00000000#32) reducesTo_S2048x2048_S2048_d0 h_S_) shapeCasts_S2048_S1x2048) (constant S_ .f32 0x00000000#32) reducesTo_S1x2048_S2048_d0 h_S_)

theorem gamma_at (G : FVec Ideal S1x2048 .f32) (r j : Fin 2048) : gamma G (ix2 r j) = G (ix2 0 j) := by
  pointwise [gamma]

theorem msq_at (X : FVec Ideal S2048x2048 .f32) (r : Fin 2048) : msqOf X (ix2 r 0) = msq (fun k => X (ix2 r k)) := by
  pointwise [msqOf, msq]

theorem rs_at (X : FVec Ideal S2048x2048 .f32) (r : Fin 2048) : rsOf X (ix2 r 0) = scale (fun k => X (ix2 r k)) := by
  rw [scale, ← msq_at]
  pointwise [rsOf]

theorem unit_at (X : FVec Ideal S2048x2048 .f32) (r j : Fin 2048) : unit X (ix2 r j) = X (ix2 r j) * scale (fun k => X (ix2 r k)) := by
  rw [← rs_at]
  pointwise [unit]

theorem back_at (X U : FVec Ideal S2048x2048 .f32) (r : Fin 2048) :
    backOf X U (ix1 r) = back (fun k => U (ix2 r k)) (fun k => X (ix2 r k)) := by
  rw [back, ← rs_at, ← msq_at]
  pointwise [backOf]
  exact Fin.sum_univ_one _

theorem grad_at (X U : FVec Ideal S2048x2048 .f32) (r j : Fin 2048) :
    gradOf X U (ix2 r j) = U (ix2 r j) * scale (fun k => X (ix2 r k)) + X (ix2 r j) * back (fun k => U (ix2 r k)) (fun k => X (ix2 r k))
      + back (fun k => U (ix2 r k)) (fun k => X (ix2 r k)) * X (ix2 r j) := by
  rw [← back_at, ← rs_at]
  pointwise [gradOf]

theorem gain_at (X D : FVec Ideal S2048x2048 .f32) (j : Fin 2048) :
    gainOf X D (ix2 0 j) = ∑ r : Fin 2048, X (ix2 r j) * scale (fun k => X (ix2 r k)) * D (ix2 r j) := by
  simp only [← unit_at]
  pointwise [gainOf]
  exact Fin.sum_univ_one _

/-- The gradient of the rows on the residual stream's, as a function of the arguments. -/
def dx (D X : FVec Ideal S2048x2048 .f32) (G : FVec Ideal S1x2048 .f32) (Z : FVec Ideal S2048x2048 .f32) : FVec Ideal S2048x2048 .f32 :=
  addf Z (gradOf X (mulf D (gamma G)))

/-- … rounded. -/
def dxb (D X : FVec Ideal S2048x2048 .f32) (G : FVec Ideal S1x2048 .f32) (Z : FVec Ideal S2048x2048 .f32) : FVec Ideal S2048x2048 .bf16 :=
  truncf .bf16 (dx D X G Z) bitsLt_bf16_f32

theorem res0 (m : (ℓ : Loc nD τ sig) → Buf (Elt Ideal) ℓ) (c : Dev nD) :
    Value.res_out0 m c = dx (m ((c.tc : Thread nD τ).loc main_arg0)) (m ((c.tc : Thread nD τ).loc main_arg1)) (m ((c.tc : Thread nD τ).loc main_arg2)) (m ((c.tc : Thread nD τ).loc main_arg3)) := rfl

theorem res1 (m : (ℓ : Loc nD τ sig) → Buf (Elt Ideal) ℓ) (c : Dev nD) :
    Value.res_out1 m c = dxb (m ((c.tc : Thread nD τ).loc main_arg0)) (m ((c.tc : Thread nD τ).loc main_arg1)) (m ((c.tc : Thread nD τ).loc main_arg2)) (m ((c.tc : Thread nD τ).loc main_arg3)) := rfl

theorem dx_at (D X : FVec Ideal S2048x2048 .f32) (G : FVec Ideal S1x2048 .f32) (Z : FVec Ideal S2048x2048 .f32)
    (hD : ∀ i, Fin' (D i)) (hX : ∀ i, Fin' (X i)) (hG : ∀ i, Fin' (G i)) (r j : Fin 2048) :
    dx D X G Z (ix2 r j) = Z (ix2 r j) + scale (fun k => X (ix2 r k)) * (D (ix2 r j) * G (ix2 0 j))
      - X (ix2 r j) * (scale (fun k => X (ix2 r k)) * scale (fun k => X (ix2 r k)) * scale (fun k => X (ix2 r k))
        * mean (fun k => D (ix2 r k) * G (ix2 0 k)) (fun k => X (ix2 r k))) := by
  have h := norm_grad (u := fun k => D (ix2 r k) * G (ix2 0 k)) (x := fun k => X (ix2 r k)) (fun _ => (hD _).mul (hG _)) (fun _ => hX _) j
  have hu (k : Fin 2048) : mulf D (gamma G) (ix2 r k) = D (ix2 r k) * G (ix2 0 k) := by
    rw [← gamma_at G r k]
    pointwise []
  have e : dx D X G Z (ix2 r j) = Z (ix2 r j) + gradOf X (mulf D (gamma G)) (ix2 r j) := by
    pointwise [dx]
  rw [e, grad_at]
  simp only [hu]
  rw [← h, sub_eq_add_neg, sub_eq_add_neg, add_assoc]

theorem dxb_at (D X : FVec Ideal S2048x2048 .f32) (G : FVec Ideal S1x2048 .f32) (Z : FVec Ideal S2048x2048 .f32) (y) :
    dxb D X G Z y = dx D X G Z y := by
  obtain ⟨r, j, rfl⟩ : ∃ (r j : Fin 2048), y = ix2 r j := ⟨y 0, y 1, by blk_ext⟩
  pointwise [dxb]

end Cert.DNormReferenceIdeal.Read

end
-- ==== Proof.DNorm.lean ====
/- The value of the norm's gradient: the blocks the kernel writes are the blocks of the reference. -/
module

public import proofs.«01_k».proof.Proof.Gen.DNormKernelIdeal.Value
public import proofs.«01_k».proof.Proof.Gen.DNormReferenceIdeal.Run
public import proofs.«01_k».proof.Proof.RmsReals
public import proofs.«01_k».proof.Proof.DNormRef
public import proofs.«01_k».proof.Proof.Gen.Pre_dnorm_args_finite
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DNormKernelIdeal.Hand

open Cert.DNormKernelIdeal Cert.DNormKernelIdeal.Gen Idealize.ShloMosaic Idealize.ShloMosaic.TcCoe Idealize.SL.Sem Reals
open Idealize.ShloMosaic.Pipeline (Dat)
open Cert.DNormReferenceIdeal.Read (dx dxb dx_at dxb_at gainOf gain_at)

/-- What the precondition says of the arguments. -/
theorem args_fin (D X : FVec Ideal S2048x2048 .f32) (G : FVec Ideal S1x2048 .f32) (Z : FVec Ideal S2048x2048 .f32)
    (e : Cert.Pre_dnorm_args_finite.fn D X G Z = constantI Cert.Pre_dnorm_args_finite.S_ 1 1#1) :
    (∀ i, Fin' (D i)) ∧ (∀ i, Fin' (X i)) ∧ (∀ i, Fin' (G i)) := by
  have e' := congrFun e ix0
  obtain ⟨e1, eG⟩ := and_one e'
  obtain ⟨eD, eX⟩ := and_one e1
  exact ⟨fin_of_all _ _ _ _ _ _ (fun i => top_f32) eD, fin_of_all _ _ _ _ _ _ (fun i => top_f32) eX,
    fin_of_all _ _ _ _ _ _ (fun i => top_f32) eG⟩

/-- The gradient of a block's rows. -/
def rows (x d : FVec Ideal S256x2048 .f32) (g : FVec Ideal S1x2048 .f32) (z : FVec Ideal S256x2048 .f32) (a : Fin 256) (l : Fin 2048) : EReal :=
  z (ix2 a l) + scale (fun k => x (ix2 a k)) * (d (ix2 a l) * g (ix2 0 l))
    - x (ix2 a l) * (scale (fun k => x (ix2 a k)) * scale (fun k => x (ix2 a k)) * scale (fun k => x (ix2 a k))
      * mean (fun k => d (ix2 a k) * g (ix2 0 k)) (fun k => x (ix2 a k)))

/-- A block's part of the gradient of the gain. -/
def part (x d : FVec Ideal S256x2048 .f32) (y : S1x2048.Idx) : EReal :=
  ∑ a : Fin 256, d (ix2 a (y 1)) * x (ix2 a (y 1)) * scale (fun k => x (ix2 a k))

theorem part_at (x d : FVec Ideal S256x2048 .f32) (l : Fin 2048) :
    part x d (ix2 0 l) = ∑ a : Fin 256, d (ix2 a l) * x (ix2 a l) * scale (fun k => x (ix2 a k)) := rfl

theorem pay2_at (x : FVec Ideal S256x2048 .f32) (a : Fin 256) : k0_pay2 (F := Ideal) x (ix2 a 0) = scale (fun k => x (ix2 a k)) := by
  pointwise [k0_pay2, scale, msq]

theorem pay3_at (x d : FVec Ideal S256x2048 .f32) (g : FVec Ideal S1x2048 .f32) (z : FVec Ideal S256x2048 .f32) (a : Fin 256) (l : Fin 2048) :
    k0_pay3 (F := Ideal) x d g z (ix2 a l) = rows x d g z a l := by
  rw [rows, ← pay2_at]
  pointwise [k0_pay3, mean]

theorem pay4_at (x d : FVec Ideal S256x2048 .f32) (g : FVec Ideal S1x2048 .f32) (z : FVec Ideal S256x2048 .f32) (a : Fin 256) (l : Fin 2048) :
    k0_pay4 (F := Ideal) x d g z (ix2 a l) = rows x d g z a l := by
  rw [← pay3_at]
  pointwise [k0_pay4]

theorem pay1_at (x d : FVec Ideal S256x2048 .f32) (acc : FVec Ideal S1x2048 .f32) (y) :
    k0_pay1 (F := Ideal) x d (k0_pay2 x) acc y = acc y + part x d y := by
  obtain ⟨l, rfl⟩ : ∃ (l : Fin 2048), y = ix2 0 l := ⟨y 1, by blk_ext⟩
  show _ = acc (ix2 0 l) + ∑ a : Fin 256, d (ix2 a l) * x (ix2 a l) * scale (fun k => x (ix2 a k))
  simp only [← pay2_at]
  pointwise [k0_pay1]

theorem pay5_at (y) : k0_pay5 (F := Ideal) y = 0 := by
  obtain ⟨l, rfl⟩ : ∃ (l : Fin 2048), y = ix2 0 l := ⟨y 1, by blk_ext⟩
  pointwise [k0_pay5]

variable (m : (ℓ : Loc nD τ sig) → Buf (Elt Ideal) ℓ)

/-- The block each window is at, point by point. -/
theorem idx : ∀ t : Fin cfg0.N, win0_0.index t = ![t.val, 0] ∧ win0_1.index t = ![t.val, 0] ∧ win0_2.index t = ![0, 0] ∧ win0_3.index t = ![t.val, 0] ∧
    win0_4.index t = ![t.val, 0] ∧ win0_5.index t = ![t.val, 0] ∧ win0_6.index t = ![0, 0] :=
  (by decide +kernel : ∀ t : Fin grid0.N, _)

/-- What a point leaves of the rows' gradient. -/
theorem out4 (c : Dev nD) (t : Fin cfg0.N) (a : Fin 256) (l : Fin 2048) :
    (outsAt0 m c t.val t.isLt).1 (ix2 a l) = rows (iblk m c 1 t) (iblk m c 0 t) (iblk m c 2 t) (iblk m c 3 t) a l := by
  by_cases h : t.val % 8 = 0
  · rw [outsAt0_A m c t h]
    frame_out
    exact pay3_at _ _ _ _ _ _
  · rw [outsAt0_B m c t h]
    frame_out
    exact pay3_at _ _ _ _ _ _

/-- … and of its rounding. -/
theorem out5 (c : Dev nD) (t : Fin cfg0.N) (a : Fin 256) (l : Fin 2048) :
    (outsAt0 m c t.val t.isLt).2.1 (ix2 a l) = rows (iblk m c 1 t) (iblk m c 0 t) (iblk m c 2 t) (iblk m c 3 t) a l := by
  by_cases h : t.val % 8 = 0
  · rw [outsAt0_A m c t h]
    frame_out
    exact pay4_at _ _ _ _ _ _
  · rw [outsAt0_B m c t h]
    frame_out
    exact pay4_at _ _ _ _ _ _

/-- The gain's gradient after the first point. -/
theorem acc_reset (c : Dev nD) (t : Fin cfg0.N) (h : t.val % 8 = 0) (y) :
    (outsAt0 m c t.val t.isLt).2.2 y = 0 + part (iblk m c 1 t) (iblk m c 0 t) y := by
  rw [outsAt0_A m c t h]
  frame_out
  try simp only [read_unread_whole]
  refine (pay1_at _ _ _ _).trans ?_
  rw [pay5_at]

/-- The gain's gradient after the other points. -/
theorem acc_step (c : Dev nD) (t : Fin cfg0.N) (h : ¬t.val % 8 = 0) (y) :
    (outsAt0 m c t.val t.isLt).2.2 y = (outsAt0 m c (t.val - 1) (Nat.lt_of_le_of_lt (Nat.sub_le _ _) t.isLt)).2.2 y + part (iblk m c 1 t) (iblk m c 0 t) y := by
  rw [outsAt0_B m c t h]
  frame_out
  try simp only [read_unread_whole]
  exact pay1_at _ _ _ _

/-- The gain's gradient after the last point. -/
theorem acc_last (c : Dev nD) (t : Fin cfg0.N) (h : t.val % 8 = 8 - 1) (y) :
    (outsAt0 m c t.val t.isLt).2.2 y = ∑ s : Fin 8, part (iblk m c 1 ⟨_, Pipeline.run_point_lt_of_flush t h s⟩) (iblk m c 0 ⟨_, Pipeline.run_point_lt_of_flush t h s⟩) y := by
  have := Pipeline.eq_sum_fin_of_reset_step_apply_of_flush (fun n h => (outsAt0 m c n h).2.2) 8 (fun _ => 0)
    (fun t y => part (iblk m c 1 t) (iblk m c 0 t) y) (fun t h y => acc_reset m c t h y) (fun t h y => acc_step m c t h y) t h y
  rw [zero_add] at this
  exact this

/-- A block of the rows' gradient is the reference's. -/
theorem rows_eq (D X : FVec Ideal S2048x2048 .f32) (G : FVec Ideal S1x2048 .f32) (Z : FVec Ideal S2048x2048 .f32)
    (hD : ∀ i, Fin' (D i)) (hX : ∀ i, Fin' (X i)) (hG : ∀ i, Fin' (G i)) (c : Dev nD)
    (eD : m ((c : Thread nD τ).loc main_arg0) = D) (eX : m ((c : Thread nD τ).loc main_arg1) = X)
    (eG : m ((c : Thread nD τ).loc main_arg2) = G) (eZ : m ((c : Thread nD τ).loc main_arg3) = Z) (t : Fin cfg0.N)
    (a : Fin 256) (l r : Fin 2048) (hr : r.val = t.val * 256 + a.val) :
    rows (iblk m c 1 t) (iblk m c 0 t) (iblk m c 2 t) (iblk m c 3 t) a l = dx D X G Z (ix2 r l) := by
  have ht : t.val < 8 := t.isLt
  obtain ⟨r, hlt⟩ := r
  replace hr : r = t.val * 256 + a.val := hr
  subst hr
  have b0 (n : Fin 2048) : iblk m c 0 t (ix2 a n) = D (ix2 ⟨t.val * 256 + a.val, hlt⟩ n) := by
    subst eD; blk_point [iblk, V, idx t]
  have b1 (n : Fin 2048) : iblk m c 1 t (ix2 a n) = X (ix2 ⟨t.val * 256 + a.val, hlt⟩ n) := by
    subst eX; blk_point [iblk, V, idx t]
  have b2 (n : Fin 2048) : iblk m c 2 t (ix2 0 n) = G (ix2 0 n) := by
    subst eG; blk_point [iblk, V, idx t]
  have b3 (n : Fin 2048) : iblk m c 3 t (ix2 a n) = Z (ix2 ⟨t.val * 256 + a.val, hlt⟩ n) := by
    subst eZ; blk_point [iblk, V, idx t]
  rw [dx_at D X G Z hD hX hG, rows]
  simp only [b0, b1, b2, b3]

/-- The rows' gradient the kernel leaves is the reference's. -/
theorem final_dx (c : Dev nD) (hD : ∀ i, Fin' (m ((c : Thread nD τ).loc main_arg0) i)) (hX : ∀ i, Fin' (m ((c : Thread nD τ).loc main_arg1) i)) (hG : ∀ i, Fin' (m ((c : Thread nD τ).loc main_arg2) i)) :
    (dats m 0 c).arrAt 4 (cfgs 0).N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  have hE0 : (((cfg0.win 4).blk t).view.emb y 0).val = t.val * 256 + (y 0).val := by blk_simp [idx t] <;> omega
  have hE1 : (((cfg0.win 4).blk t).view.emb y 1).val = (y 1).val := by blk_simp [idx t] <;> omega
  generalize ((cfg0.win 4).blk t).view.emb y = E at hE0 hE1 ⊢
  obtain ⟨r, j, rfl⟩ : ∃ (r : Fin 2048) (j : Fin 2048), E = ix2 r j := ⟨E 0, E 1, by blk_ext⟩
  obtain ⟨a, l, rfl⟩ : ∃ (a : Fin 256) (l : Fin 2048), y = ix2 a l := ⟨y 0, y 1, by blk_ext⟩
  replace hE0 : r.val = t.val * 256 + a.val := hE0
  replace hE1 : j.val = l.val := hE1
  obtain rfl : j = l := Fin.ext hE1
  rw [after0_4]
  exact (out4 m c t a j).trans (rows_eq m _ _ _ _ hD hX hG c rfl rfl rfl rfl t a j r hE0)

/-- The rounded rows' gradient the kernel leaves is the reference's. -/
theorem final_dxb (c : Dev nD) (hD : ∀ i, Fin' (m ((c : Thread nD τ).loc main_arg0) i)) (hX : ∀ i, Fin' (m ((c : Thread nD τ).loc main_arg1) i)) (hG : ∀ i, Fin' (m ((c : Thread nD τ).loc main_arg2) i)) :
    (dats m 0 c).arrAt 5 (cfgs 0).N = dxb (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  have hE0 : (((cfg0.win 5).blk t).view.emb y 0).val = t.val * 256 + (y 0).val := by blk_simp [idx t] <;> omega
  have hE1 : (((cfg0.win 5).blk t).view.emb y 1).val = (y 1).val := by blk_simp [idx t] <;> omega
  generalize ((cfg0.win 5).blk t).view.emb y = E at hE0 hE1 ⊢
  obtain ⟨r, j, rfl⟩ : ∃ (r : Fin 2048) (j : Fin 2048), E = ix2 r j := ⟨E 0, E 1, by blk_ext⟩
  obtain ⟨a, l, rfl⟩ : ∃ (a : Fin 256) (l : Fin 2048), y = ix2 a l := ⟨y 0, y 1, by blk_ext⟩
  replace hE0 : r.val = t.val * 256 + a.val := hE0
  replace hE1 : j.val = l.val := hE1
  obtain rfl : j = l := Fin.ext hE1
  rw [after0_5, dxb_at]
  exact (out5 m c t a j).trans (rows_eq m _ _ _ _ hD hX hG c rfl rfl rfl rfl t a j r hE0)

/-- The gain's gradient the kernel leaves is the reference's. -/
theorem final_gain (c : Dev nD) :
    (dats m 0 c).arrAt 6 (cfgs 0).N = gainOf (m ((c : Thread nD τ).loc main_arg1)) (m ((c : Thread nD τ).loc main_arg0)) := by
  refine (dats m 0 c).arrAt_eq_of_covers 6 _ (by decide +kernel) fun t hf y => ?_
  have hr := (flush0_6 t).mp hf
  blk_simp
  rw [after0_6]
  refine (acc_last m c t (by omega) y).trans ?_
  have hE0 : (((cfg0.win 6).blk t).view.emb y 0).val = (y 0).val := by blk_simp [idx t] <;> omega
  have hE1 : (((cfg0.win 6).blk t).view.emb y 1).val = (y 1).val := by blk_simp [idx t] <;> omega
  generalize ((cfg0.win 6).blk t).view.emb y = E at hE0 hE1 ⊢
  obtain ⟨j, rfl⟩ : ∃ (j : Fin 2048), E = ix2 0 j := ⟨E 1, by blk_ext⟩
  obtain ⟨l, rfl⟩ : ∃ (l : Fin 2048), y = ix2 0 l := ⟨y 1, by blk_ext⟩
  replace hE1 : j.val = l.val := hE1
  obtain rfl : j = l := Fin.ext hE1
  have ht : t.val < 8 := t.isLt
  rw [gain_at]
  simp only [part_at]
  refine Fin.sum_mul_add_congr fun s a hl => ?_
  have hs := Pipeline.run_point_lt_of_flush t (by omega : t.val % 8 = 8 - 1) s
  have b0 (n : Fin 2048) : iblk m c 0 ⟨_, hs⟩ (ix2 a n) = (m ((c : Thread nD τ).loc main_arg0) : FVec Ideal S2048x2048 .f32) (ix2 ⟨s.val * 256 + a.val, hl⟩ n) := by
    blk_point [iblk, V, idx ⟨_, hs⟩]
  have b1 (n : Fin 2048) : iblk m c 1 ⟨_, hs⟩ (ix2 a n) = (m ((c : Thread nD τ).loc main_arg1) : FVec Ideal S2048x2048 .f32) (ix2 ⟨s.val * 256 + a.val, hl⟩ n) := by
    blk_point [iblk, V, idx ⟨_, hs⟩]
  simp only [b0, b1]
  rw [mul_assoc, mul_comm]

end Cert.DNormKernelIdeal.Hand

end
-- ==== Proof.LossRef.lean ====
/- The reference of the loss head, read entry by entry. -/
module

public import proofs.«01_k».proof.Proof.Gen.LossReferenceIdeal.Run
public import proofs.«01_k».proof.Proof.RmsReals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossReferenceIdeal.Read

open Cert.LossReferenceIdeal Cert.LossReferenceIdeal.Gen Idealize.ShloMosaic Idealize.ShloMosaic.TcCoe Idealize.SL.Sem Reals

/-- The gain on every row. -/
def gamma (G : FVec Ideal S1x2048 .f32) : FVec Ideal S2048x2048 .f32 :=
  broadcastInDim S2048x2048 ![0, 1] bcast_S1x2048_S2048x2048_0_1 (broadcastInDim S1x2048 ![1] bcast_S2048_S1x2048_1 (shapeCast _ G shapeCasts_S1x2048_S2048))

/-- The mean of squares of each row. -/
def msqOf (X : FVec Ideal S2048x2048 .f32) : FVec Ideal S2048x1 .f32 :=
  addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The norm's factor of each row. -/
def rsOf (X : FVec Ideal S2048x2048 .f32) : FVec Ideal S2048x1 .f32 := Host.rsqrt (msqOf X)

/-- The rows before the gain. -/
def unit (X : FVec Ideal S2048x2048 .f32) : FVec Ideal S2048x2048 .f32 :=
  mulf X (broadcastInDim S2048x2048 ![0, 1] bcast_S2048x1_S2048x2048_0_1 (rsOf X))

/-- What reverse differentiation puts on each row through the norm's factor. -/
def backOf (X U : FVec Ideal S2048x2048 .f32) : FVec Ideal S2048 .f32 :=
  Host.reduceAdd (Host.divf (mulf (shapeCast S2048x1 (Host.reduceAdd (mulf X U) (constant S_ .f32 0x00000000#32) reducesTo_S2048x2048_S2048_d1 h_S_) shapeCasts_S2048_S2048x1) (mulf (broadcastInDim S2048x1 ![] bcast_S_S2048x1 (constant S_ .f32 0xBF000000#32)) (Host.divf (rsOf X) (msqOf X)))) (broadcastInDim S2048x1 ![] bcast_S_S2048x1 (constant S_ .f32 0x45000000#32))) (constant S_ .f32 0x00000000#32) reducesTo_S2048x1_S2048_d1 h_S_

/-- The gradient of the rows. -/
def gradOf (X U : FVec Ideal S2048x2048 .f32) : FVec Ideal S2048x2048 .f32 :=
  addf (addf (mulf U (broadcastInDim S2048x2048 ![0, 1] bcast_S2048x1_S2048x2048_0_1 (rsOf X))) (mulf X (broadcastInDim S2048x2048 ![0] bcast_S2048_S2048x2048_0 (backOf X U)))) (mulf (broadcastInDim S2048x2048 ![0] bcast_S2048_S2048x2048_0 (backOf X U)) X)

/-- The gradient of the gain. -/
def gainOf (X D : FVec Ideal S2048x2048 .f32) : FVec Ideal S1x2048 .f32 :=
  broadcastInDim S1x2048 ![1] bcast_S2048_S1x2048_1 (Host.reduceAdd (shapeCast S1x2048 (Host.reduceAdd (mulf (unit X) D) (constant S_ .f32 0x00000000#32) reducesTo_S2048x2048_S2048_d0 h_S_) shapeCasts_S2048_S1x2048) (constant S_ .f32 0x00000000#32) reducesTo_S1x2048_S2048_d0 h_S_)

/-- One half of a sum, term by term, of any extended reals. -/
theorem half_mul_sum {n : ℕ} (f : Fin n → EReal) :
    Ideal.ofBits .f32 0x3F000000#32 * ∑ r, f r = ∑ r, Ideal.ofBits .f32 0x3F000000#32 * f r := by
  have h := sum_half Finset.univ f
  simp only [mul_comm (Ideal.ofBits .f32 0x3F000000#32)]
  exact h

theorem gamma_at (G : FVec Ideal S1x2048 .f32) (r j : Fin 2048) : gamma G (ix2 r j) = G (ix2 0 j) := by
  pointwise [gamma]

theorem msq_at (X : FVec Ideal S2048x2048 .f32) (r : Fin 2048) : msqOf X (ix2 r 0) = msq (fun k => X (ix2 r k)) := by
  pointwise [msqOf, msq]

theorem rs_at (X : FVec Ideal S2048x2048 .f32) (r : Fin 2048) : rsOf X (ix2 r 0) = scale (fun k => X (ix2 r k)) := by
  rw [scale, ← msq_at]
  pointwise [rsOf]

theorem unit_at (X : FVec Ideal S2048x2048 .f32) (r j : Fin 2048) : unit X (ix2 r j) = X (ix2 r j) * scale (fun k => X (ix2 r k)) := by
  rw [← rs_at]
  pointwise [unit]

theorem back_at (X U : FVec Ideal S2048x2048 .f32) (r : Fin 2048) :
    backOf X U (ix1 r) = back (fun k => U (ix2 r k)) (fun k => X (ix2 r k)) := by
  rw [back, ← rs_at, ← msq_at]
  pointwise [backOf]
  exact Fin.sum_univ_one _

theorem grad_at (X U : FVec Ideal S2048x2048 .f32) (r j : Fin 2048) :
    gradOf X U (ix2 r j) = U (ix2 r j) * scale (fun k => X (ix2 r k)) + X (ix2 r j) * back (fun k => U (ix2 r k)) (fun k => X (ix2 r k))
      + back (fun k => U (ix2 r k)) (fun k => X (ix2 r k)) * X (ix2 r j) := by
  rw [← back_at, ← rs_at]
  pointwise [gradOf]

theorem gain_at (X D : FVec Ideal S2048x2048 .f32) (j : Fin 2048) :
    gainOf X D (ix2 0 j) = ∑ r : Fin 2048, X (ix2 r j) * scale (fun k => X (ix2 r k)) * D (ix2 r j) := by
  simp only [← unit_at]
  pointwise [gainOf]
  exact Fin.sum_univ_one _

/-- The rows' distance from the target. -/
def errOf (X : FVec Ideal S2048x2048 .f32) (G : FVec Ideal S1x2048 .f32) (T : FVec Ideal S2048x2048 .f32) : FVec Ideal S2048x2048 .f32 :=
  subf (mulf (unit X) (gamma G)) T

/-- The gradient of the loss at the normed rows. -/
def dyOf (X : FVec Ideal S2048x2048 .f32) (G : FVec Ideal S1x2048 .f32) (T : FVec Ideal S2048x2048 .f32) : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (errOf X G T))

/-- The gradient of the rows, as a function of the arguments. -/
def dx (X : FVec Ideal S2048x2048 .f32) (G : FVec Ideal S1x2048 .f32) (T : FVec Ideal S2048x2048 .f32) : FVec Ideal S2048x2048 .f32 :=
  gradOf X (mulf (dyOf X G T) (gamma G))

/-- … rounded. -/
def dxb (X : FVec Ideal S2048x2048 .f32) (G : FVec Ideal S1x2048 .f32) (T : FVec Ideal S2048x2048 .f32) : FVec Ideal S2048x2048 .bf16 :=
  truncf .bf16 (dx X G T) bitsLt_bf16_f32

/-- The loss, in every lane. -/
def lossOf (X : FVec Ideal S2048x2048 .f32) (G : FVec Ideal S1x2048 .f32) (T : FVec Ideal S2048x2048 .f32) : FVec Ideal S1x128 .f32 :=
  broadcastInDim S1x128 ![] bcast_S_S1x128 (mulf (constant S_ .f32 0x3F000000#32) (Host.reduceAdd (Host.divf (Host.reduceAdd (mulf (errOf X G T) (errOf X G T)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

theorem res0 (m : (ℓ : Loc nD τ sig) → Buf (Elt Ideal) ℓ) (c : Dev nD) :
    Value.res_out0 m c = dx (m ((c.tc : Thread nD τ).loc main_arg0)) (m ((c.tc : Thread nD τ).loc main_arg1)) (m ((c.tc : Thread nD τ).loc main_arg2)) := rfl

theorem res1 (m : (ℓ : Loc nD τ sig) → Buf (Elt Ideal) ℓ) (c : Dev nD) :
    Value.res_out1 m c = dxb (m ((c.tc : Thread nD τ).loc main_arg0)) (m ((c.tc : Thread nD τ).loc main_arg1)) (m ((c.tc : Thread nD τ).loc main_arg2)) := rfl

/-- The loss's factor of the distance: one half over 2048, times two. -/
theorem factor (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A000000#32 = ((1 / 2048 : ℝ) : EReal) := by
    simp [Ideal.ofBits, Ideal.ieee, -EReal.coe_mul]; norm_num
  rw [half, h1, h2, h3, n2048, Ideal.div_coe (by norm_num), ← mul_assoc, ← EReal.coe_mul, ← EReal.coe_mul, ← EReal.coe_mul, mul_comm]
  norm_num

/-- The norm's factor of a finite row is finite. -/
theorem scale_fin {x : Fin 2048 → EReal} (hx : ∀ k, Fin' (x k)) : Fin' (scale x) := by
  choose x' hx using hx
  obtain rfl : x = fun k => (x' k : EReal) := funext hx
  obtain ⟨a, ha, hm⟩ := msq_coe x'
  rw [scale, hm, Ideal.rsqrt_coe, if_neg (not_lt.2 ha.le), if_neg ha.ne']
  exact Fin'.coe _

theorem err_at (X : FVec Ideal S2048x2048 .f32) (G : FVec Ideal S1x2048 .f32) (T : FVec Ideal S2048x2048 .f32) (r j : Fin 2048) :
    errOf X G T (ix2 r j) = X (ix2 r j) * scale (fun k => X (ix2 r k)) * G (ix2 0 j) - T (ix2 r j) := by
  rw [← unit_at, ← gamma_at G r j]
  pointwise [errOf]

theorem dy_at (X : FVec Ideal S2048x2048 .f32) (G : FVec Ideal S1x2048 .f32) (T : FVec Ideal S2048x2048 .f32) (r j : Fin 2048) :
    dyOf X G T (ix2 r j) = (X (ix2 r j) * scale (fun k => X (ix2 r k)) * G (ix2 0 j) - T (ix2 r j)) * Ideal.ofBits .f32 0x3A000000#32 := by
  rw [← err_at, ← factor]
  pointwise [dyOf]

theorem dx_at (X : FVec Ideal S2048x2048 .f32) (G : FVec Ideal S1x2048 .f32) (T : FVec Ideal S2048x2048 .f32)
    (hX : ∀ i, Fin' (X i)) (hG : ∀ i, Fin' (G i)) (hT : ∀ i, Fin' (T i)) (r j : Fin 2048) :
    dx X G T (ix2 r j) = scale (fun k => X (ix2 r k)) * (dyOf X G T (ix2 r j) * G (ix2 0 j))
      - X (ix2 r j) * (scale (fun k => X (ix2 r k)) * scale (fun k => X (ix2 r k)) * scale (fun k => X (ix2 r k))
        * mean (fun k => dyOf X G T (ix2 r k) * G (ix2 0 k)) (fun k => X (ix2 r k))) := by
  have hd (k : Fin 2048) : Fin' (dyOf X G T (ix2 r k)) := by
    rw [dy_at]
    have hs : Fin' (scale (fun k => X (ix2 r k))) := scale_fin fun _ => hX _
    have hc : Fin' (Ideal.ofBits .f32 0x3A000000#32) := ⟨1 / 2048, by simp [Ideal.ofBits, Ideal.ieee, -EReal.coe_mul]; norm_num⟩
    exact ((((hX _).mul hs).mul (hG _)).sub (hT _)).mul hc
  have h := norm_grad (u := fun k => dyOf X G T (ix2 r k) * G (ix2 0 k)) (x := fun k => X (ix2 r k)) (fun _ => (hd _).mul (hG _)) (fun _ => hX _) j
  have hu (k : Fin 2048) : mulf (dyOf X G T) (gamma G) (ix2 r k) = dyOf X G T (ix2 r k) * G (ix2 0 k) := by
    rw [← gamma_at G r k]
    pointwise []
  rw [dx, grad_at]
  simp only [hu]
  exact h.symm

theorem dxb_at (X : FVec Ideal S2048x2048 .f32) (G : FVec Ideal S1x2048 .f32) (T : FVec Ideal S2048x2048 .f32) (y) :
    dxb X G T y = dx X G T y := by
  obtain ⟨r, j, rfl⟩ : ∃ (r j : Fin 2048), y = ix2 r j := ⟨y 0, y 1, by blk_ext⟩
  pointwise [dxb]

theorem loss_at (X : FVec Ideal S2048x2048 .f32) (G : FVec Ideal S1x2048 .f32) (T : FVec Ideal S2048x2048 .f32) (l : Fin 128) :
    lossOf X G T (ix2 0 l) = ∑ r : Fin 2048, Ideal.ofBits .f32 0x3F000000#32 * Ideal.div (∑ k : Fin 2048, errOf X G T (ix2 r k) * errOf X G T (ix2 r k)) (Ideal.ofBits .f32 0x45000000#32) := by
  rw [← half_mul_sum]
  pointwise [lossOf]

end Cert.LossReferenceIdeal.Read

end
-- ==== Proof.Loss.lean ====
/- The value of the loss head: the blocks the kernel writes are the blocks of the reference. -/
module

public import proofs.«01_k».proof.Proof.Gen.LossKernelIdeal.Value
public import proofs.«01_k».proof.Proof.Gen.LossReferenceIdeal.Run
public import proofs.«01_k».proof.Proof.RmsReals
public import proofs.«01_k».proof.Proof.LossRef
public import proofs.«01_k».proof.Proof.Gen.Pre_loss_args_finite
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossKernelIdeal.Hand

open Cert.LossKernelIdeal Cert.LossKernelIdeal.Gen Idealize.ShloMosaic Idealize.ShloMosaic.TcCoe Idealize.SL.Sem Reals
open Idealize.ShloMosaic.Pipeline (Dat)
open Cert.LossReferenceIdeal.Read (dx dxb dx_at dxb_at gainOf gain_at dyOf dy_at errOf err_at lossOf loss_at half_mul_sum)

/-- What the precondition says of the arguments. -/
theorem args_fin (X : FVec Ideal S2048x2048 .f32) (G : FVec Ideal S1x2048 .f32) (T : FVec Ideal S2048x2048 .f32)
    (e : Cert.Pre_loss_args_finite.fn X G T = constantI Cert.Pre_loss_args_finite.S_ 1 1#1) :
    (∀ i, Fin' (X i)) ∧ (∀ i, Fin' (G i)) ∧ (∀ i, Fin' (T i)) := by
  have e' := congrFun e ix0
  obtain ⟨e1, eT⟩ := and_one e'
  obtain ⟨eX, eG⟩ := and_one e1
  exact ⟨fin_of_all _ _ _ _ _ _ (fun i => top_f32) eX, fin_of_all _ _ _ _ _ _ (fun i => top_f32) eG,
    fin_of_all _ _ _ _ _ _ (fun i => top_f32) eT⟩

/-- The distance of a block's rows from the target. -/
def err (x : FVec Ideal S256x2048 .f32) (g : FVec Ideal S1x2048 .f32) (z : FVec Ideal S256x2048 .f32) (a : Fin 256) (l : Fin 2048) : EReal :=
  x (ix2 a l) * scale (fun k => x (ix2 a k)) * g (ix2 0 l) - z (ix2 a l)

/-- The gradient of the loss at a block's normed rows. -/
def dy (x : FVec Ideal S256x2048 .f32) (g : FVec Ideal S1x2048 .f32) (z : FVec Ideal S256x2048 .f32) (a : Fin 256) (l : Fin 2048) : EReal :=
  err x g z a l * Ideal.ofBits .f32 0x3A000000#32

/-- The gradient of a block's rows. -/
def rows (x : FVec Ideal S256x2048 .f32) (g : FVec Ideal S1x2048 .f32) (z : FVec Ideal S256x2048 .f32) (a : Fin 256) (l : Fin 2048) : EReal :=
  scale (fun k => x (ix2 a k)) * (dy x g z a l * g (ix2 0 l))
    - x (ix2 a l) * (scale (fun k => x (ix2 a k)) * scale (fun k => x (ix2 a k)) * scale (fun k => x (ix2 a k))
      * mean (fun k => dy x g z a k * g (ix2 0 k)) (fun k => x (ix2 a k)))

/-- A block's part of the gradient of the gain. -/
def part (x : FVec Ideal S256x2048 .f32) (g : FVec Ideal S1x2048 .f32) (z : FVec Ideal S256x2048 .f32) (y : S1x2048.Idx) : EReal :=
  ∑ a : Fin 256, dy x g z a (y 1) * x (ix2 a (y 1)) * scale (fun k => x (ix2 a k))

theorem part_at (x : FVec Ideal S256x2048 .f32) (g : FVec Ideal S1x2048 .f32) (z : FVec Ideal S256x2048 .f32) (l : Fin 2048) :
    part x g z (ix2 0 l) = ∑ a : Fin 256, dy x g z a l * x (ix2 a l) * scale (fun k => x (ix2 a k)) := rfl

/-- A block's part of the loss. -/
def lost (x : FVec Ideal S256x2048 .f32) (g : FVec Ideal S1x2048 .f32) (z : FVec Ideal S256x2048 .f32) : EReal :=
  Ideal.ofBits .f32 0x3F000000#32 * ∑ a : Fin 256, Ideal.div (∑ k : Fin 2048, err x g z a k * err x g z a k) (Ideal.ofBits .f32 0x45000000#32)

theorem pay6_at (x : FVec Ideal S256x2048 .f32) (a : Fin 256) : k0_pay6 (F := Ideal) x (ix2 a 0) = scale (fun k => x (ix2 a k)) := by
  pointwise [k0_pay6, scale, msq]

theorem pay7_at (x : FVec Ideal S256x2048 .f32) (g : FVec Ideal S1x2048 .f32) (z : FVec Ideal S256x2048 .f32) (a : Fin 256) (l : Fin 2048) :
    k0_pay7 (F := Ideal) x g z (ix2 a l) = err x g z a l := by
  rw [err, ← pay6_at]
  pointwise [k0_pay7]

theorem pay9_at (x : FVec Ideal S256x2048 .f32) (g : FVec Ideal S1x2048 .f32) (z : FVec Ideal S256x2048 .f32) (a : Fin 256) (l : Fin 2048) :
    k0_pay9 (F := Ideal) x g z (ix2 a l) = dy x g z a l := by
  rw [dy, ← pay7_at]
  pointwise [k0_pay9]

theorem pay8_at (x : FVec Ideal S256x2048 .f32) (g : FVec Ideal S1x2048 .f32) (z : FVec Ideal S256x2048 .f32) : k0_pay8 (F := Ideal) x g z (ix2 0 0) = lost x g z := by
  simp only [lost, ← pay7_at]
  pointwise [k0_pay8]

theorem pay10_at (x : FVec Ideal S256x2048 .f32) (g : FVec Ideal S1x2048 .f32) (z : FVec Ideal S256x2048 .f32) (a : Fin 256) (l : Fin 2048) :
    k0_pay10 (F := Ideal) x g z (ix2 a l) = rows x g z a l := by
  rw [rows, ← pay6_at]
  simp only [← pay9_at]
  pointwise [k0_pay10, mean]

theorem pay1_at (d : FVec Ideal S256x2048 .f32) (a : Fin 256) (l : Fin 2048) :
    k0_pay1 (F := Ideal) d (ix2 a l) = d (ix2 a l) := by
  pointwise [k0_pay1]

theorem pay4_at (x : FVec Ideal S256x2048 .f32) (g : FVec Ideal S1x2048 .f32) (z : FVec Ideal S256x2048 .f32) (acc : FVec Ideal S1x2048 .f32) (y) :
    k0_pay4 (F := Ideal) x (k0_pay6 x) (k0_pay9 x g z) acc y = acc y + part x g z y := by
  obtain ⟨l, rfl⟩ : ∃ (l : Fin 2048), y = ix2 0 l := ⟨y 1, by blk_ext⟩
  rw [part_at]
  simp only [← pay6_at, ← pay9_at]
  pointwise [k0_pay4]

theorem pay5_at (x : FVec Ideal S256x2048 .f32) (g : FVec Ideal S1x2048 .f32) (z : FVec Ideal S256x2048 .f32) (acc : FVec Ideal S1x128 .f32) (y) :
    k0_pay5 (F := Ideal) (k0_pay8 x g z) acc y = acc y + lost x g z := by
  obtain ⟨l, rfl⟩ : ∃ (l : Fin 128), y = ix2 0 l := ⟨y 1, by blk_ext⟩
  rw [← pay8_at]
  pointwise [k0_pay5]

theorem pay2_at (y) : k0_pay2 (F := Ideal) y = 0 := by
  obtain ⟨l, rfl⟩ : ∃ (l : Fin 2048), y = ix2 0 l := ⟨y 1, by blk_ext⟩
  pointwise [k0_pay2]

theorem pay3_at (y) : k0_pay3 (F := Ideal) y = 0 := by
  obtain ⟨l, rfl⟩ : ∃ (l : Fin 128), y = ix2 0 l := ⟨y 1, by blk_ext⟩
  pointwise [k0_pay3]

variable (m : (ℓ : Loc nD τ sig) → Buf (Elt Ideal) ℓ)

/-- The block each window is at, point by point. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![0, 0] ∧ win0_6.index t = ![0, 0] :=
  (by decide +kernel : ∀ t : Fin grid0.N, _)

/-- What a point leaves of the rows' gradient. -/
theorem out3 (c : Dev nD) (t : Fin cfg0.N) (a : Fin 256) (l : Fin 2048) :
    (outsAt0 m c t.val t.isLt).1 (ix2 a l) = rows (iblk m c 0 t) (iblk m c 1 t) (iblk m c 2 t) a l := by
  by_cases h : t.val % 8 = 0
  · rw [outsAt0_A m c t h]
    frame_out
    exact pay10_at _ _ _ _ _
  · rw [outsAt0_B m c t h]
    frame_out
    exact pay10_at _ _ _ _ _

/-- What a point leaves of the rows' gradient, rounded. -/
theorem out4 (c : Dev nD) (t : Fin cfg0.N) (a : Fin 256) (l : Fin 2048) :
    (outsAt0 m c t.val t.isLt).2.1 (ix2 a l) = rows (iblk m c 0 t) (iblk m c 1 t) (iblk m c 2 t) a l := by
  by_cases h : t.val % 8 = 0
  · rw [outsAt0_A m c t h]
    frame_out
    exact (pay1_at _ _ _).trans (pay10_at _ _ _ _ _)
  · rw [outsAt0_B m c t h]
    frame_out
    exact (pay1_at _ _ _).trans (pay10_at _ _ _ _ _)

/-- The gain's gradient after the first point. -/
theorem gain_reset (c : Dev nD) (t : Fin cfg0.N) (h : t.val % 8 = 0) (y) :
    (outsAt0 m c t.val t.isLt).2.2.1 y = 0 + part (iblk m c 0 t) (iblk m c 1 t) (iblk m c 2 t) y := by
  rw [outsAt0_A m c t h]
  frame_out
  try simp only [read_unread_whole]
  refine (pay4_at _ _ _ _ _).trans ?_
  rw [pay2_at]

/-- The gain's gradient after the other points. -/
theorem gain_step (c : Dev nD) (t : Fin cfg0.N) (h : ¬t.val % 8 = 0) (y) :
    (outsAt0 m c t.val t.isLt).2.2.1 y = (outsAt0 m c (t.val - 1) (Nat.lt_of_le_of_lt (Nat.sub_le _ _) t.isLt)).2.2.1 y + part (iblk m c 0 t) (iblk m c 1 t) (iblk m c 2 t) y := by
  rw [outsAt0_B m c t h]
  frame_out
  try simp only [read_unread_whole]
  exact pay4_at _ _ _ _ _

/-- The gain's gradient after the last point. -/
theorem gain_last (c : Dev nD) (t : Fin cfg0.N) (h : t.val % 8 = 8 - 1) (y) :
    (outsAt0 m c t.val t.isLt).2.2.1 y = ∑ s : Fin 8, part (iblk m c 0 ⟨_, Pipeline.run_point_lt_of_flush t h s⟩) (iblk m c 1 ⟨_, Pipeline.run_point_lt_of_flush t h s⟩) (iblk m c 2 ⟨_, Pipeline.run_point_lt_of_flush t h s⟩) y := by
  have := Pipeline.eq_sum_fin_of_reset_step_apply_of_flush (fun n h => (outsAt0 m c n h).2.2.1) 8 (fun _ => 0)
    (fun t y => part (iblk m c 0 t) (iblk m c 1 t) (iblk m c 2 t) y) (fun t h y => gain_reset m c t h y) (fun t h y => gain_step m c t h y) t h y
  rw [zero_add] at this
  exact this

/-- The loss after the first point. -/
theorem loss_reset (c : Dev nD) (t : Fin cfg0.N) (h : t.val % 8 = 0) (y) :
    (outsAt0 m c t.val t.isLt).2.2.2 y = 0 + lost (iblk m c 0 t) (iblk m c 1 t) (iblk m c 2 t) := by
  rw [outsAt0_A m c t h]
  frame_out
  try simp only [read_unread_whole]
  refine (pay5_at _ _ _ _ _).trans ?_
  rw [pay3_at]

/-- The loss after the other points. -/
theorem loss_step (c : Dev nD) (t : Fin cfg0.N) (h : ¬t.val % 8 = 0) (y) :
    (outsAt0 m c t.val t.isLt).2.2.2 y = (outsAt0 m c (t.val - 1) (Nat.lt_of_le_of_lt (Nat.sub_le _ _) t.isLt)).2.2.2 y + lost (iblk m c 0 t) (iblk m c 1 t) (iblk m c 2 t) := by
  rw [outsAt0_B m c t h]
  frame_out
  try simp only [read_unread_whole]
  exact pay5_at _ _ _ _ _

/-- The loss after the last point. -/
theorem loss_last (c : Dev nD) (t : Fin cfg0.N) (h : t.val % 8 = 8 - 1) (y) :
    (outsAt0 m c t.val t.isLt).2.2.2 y = ∑ s : Fin 8, lost (iblk m c 0 ⟨_, Pipeline.run_point_lt_of_flush t h s⟩) (iblk m c 1 ⟨_, Pipeline.run_point_lt_of_flush t h s⟩) (iblk m c 2 ⟨_, Pipeline.run_point_lt_of_flush t h s⟩) := by
  have := Pipeline.eq_sum_fin_of_reset_step_apply_of_flush (fun n h => (outsAt0 m c n h).2.2.2) 8 (fun _ => 0)
    (fun t y => lost (iblk m c 0 t) (iblk m c 1 t) (iblk m c 2 t)) (fun t h y => loss_reset m c t h y) (fun t h y => loss_step m c t h y) t h y
  rw [zero_add] at this
  exact this

/-- A block's distance from the target is the reference's. -/
theorem err_eq (X : FVec Ideal S2048x2048 .f32) (G : FVec Ideal S1x2048 .f32) (T : FVec Ideal S2048x2048 .f32) (c : Dev nD)
    (eX : m ((c : Thread nD τ).loc main_arg0) = X) (eG : m ((c : Thread nD τ).loc main_arg1) = G) (eT : m ((c : Thread nD τ).loc main_arg2) = T)
    (t : Fin cfg0.N) (a : Fin 256) (hlt : t.val * 256 + a.val < 2048) :
    (∀ n, iblk m c 0 t (ix2 a n) = X (ix2 ⟨t.val * 256 + a.val, hlt⟩ n)) ∧ (∀ n, iblk m c 1 t (ix2 0 n) = G (ix2 0 n)) ∧
    (∀ l, err (iblk m c 0 t) (iblk m c 1 t) (iblk m c 2 t) a l = errOf X G T (ix2 ⟨t.val * 256 + a.val, hlt⟩ l)) ∧
    (∀ l, dy (iblk m c 0 t) (iblk m c 1 t) (iblk m c 2 t) a l = dyOf X G T (ix2 ⟨t.val * 256 + a.val, hlt⟩ l)) := by
  have ht : t.val < 8 := t.isLt
  have b0 (n : Fin 2048) : iblk m c 0 t (ix2 a n) = X (ix2 ⟨t.val * 256 + a.val, hlt⟩ n) := by
    subst eX; blk_point [iblk, V, idx t]
  have b1 (n : Fin 2048) : iblk m c 1 t (ix2 0 n) = G (ix2 0 n) := by
    subst eG; blk_point [iblk, V, idx t]
  have b2 (n : Fin 2048) : iblk m c 2 t (ix2 a n) = T (ix2 ⟨t.val * 256 + a.val, hlt⟩ n) := by
    subst eT; blk_point [iblk, V, idx t]
  refine ⟨b0, b1, fun l => ?_, fun l => ?_⟩
  · rw [err_at, err]
    simp only [b0, b1, b2]
  · rw [dy_at, dy, err]
    simp only [b0, b1, b2]

/-- A block of the rows' gradient is the reference's. -/
theorem rows_eq (X : FVec Ideal S2048x2048 .f32) (G : FVec Ideal S1x2048 .f32) (T : FVec Ideal S2048x2048 .f32)
    (hX : ∀ i, Fin' (X i)) (hG : ∀ i, Fin' (G i)) (hT : ∀ i, Fin' (T i)) (c : Dev nD)
    (eX : m ((c : Thread nD τ).loc main_arg0) = X) (eG : m ((c : Thread nD τ).loc main_arg1) = G) (eT : m ((c : Thread nD τ).loc main_arg2) = T)
    (t : Fin cfg0.N) (a : Fin 256) (l r : Fin 2048) (hr : r.val = t.val * 256 + a.val) :
    rows (iblk m c 0 t) (iblk m c 1 t) (iblk m c 2 t) a l = dx X G T (ix2 r l) := by
  obtain ⟨r, hlt⟩ := r
  replace hr : r = t.val * 256 + a.val := hr
  subst hr
  obtain ⟨b0, b1, -, bd⟩ := err_eq m X G T c eX eG eT t a hlt
  rw [dx_at X G T hX hG hT, rows]
  simp only [b0, b1, bd]

/-- The rows' gradient the kernel leaves is the reference's. -/
theorem final_dx (c : Dev nD) (hX : ∀ i, Fin' (m ((c : Thread nD τ).loc main_arg0) i)) (hG : ∀ i, Fin' (m ((c : Thread nD τ).loc main_arg1) i)) (hT : ∀ i, Fin' (m ((c : Thread nD τ).loc main_arg2) i)) :
    (dats m 0 c).arrAt 3 (cfgs 0).N = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  have hE0 : (((cfg0.win 3).blk t).view.emb y 0).val = t.val * 256 + (y 0).val := by blk_simp [idx t] <;> omega
  have hE1 : (((cfg0.win 3).blk t).view.emb y 1).val = (y 1).val := by blk_simp [idx t] <;> omega
  generalize ((cfg0.win 3).blk t).view.emb y = E at hE0 hE1 ⊢
  obtain ⟨r, j, rfl⟩ : ∃ (r : Fin 2048) (j : Fin 2048), E = ix2 r j := ⟨E 0, E 1, by blk_ext⟩
  obtain ⟨a, l, rfl⟩ : ∃ (a : Fin 256) (l : Fin 2048), y = ix2 a l := ⟨y 0, y 1, by blk_ext⟩
  replace hE0 : r.val = t.val * 256 + a.val := hE0
  replace hE1 : j.val = l.val := hE1
  obtain rfl : j = l := Fin.ext hE1
  rw [after0_3]
  exact (out3 m c t a j).trans (rows_eq m _ _ _ hX hG hT c rfl rfl rfl t a j r hE0)

/-- The rounded rows' gradient the kernel leaves is the reference's. -/
theorem final_dxb (c : Dev nD) (hX : ∀ i, Fin' (m ((c : Thread nD τ).loc main_arg0) i)) (hG : ∀ i, Fin' (m ((c : Thread nD τ).loc main_arg1) i)) (hT : ∀ i, Fin' (m ((c : Thread nD τ).loc main_arg2) i)) :
    (dats m 0 c).arrAt 4 (cfgs 0).N = dxb (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  have hE0 : (((cfg0.win 4).blk t).view.emb y 0).val = t.val * 256 + (y 0).val := by blk_simp [idx t] <;> omega
  have hE1 : (((cfg0.win 4).blk t).view.emb y 1).val = (y 1).val := by blk_simp [idx t] <;> omega
  generalize ((cfg0.win 4).blk t).view.emb y = E at hE0 hE1 ⊢
  obtain ⟨r, j, rfl⟩ : ∃ (r : Fin 2048) (j : Fin 2048), E = ix2 r j := ⟨E 0, E 1, by blk_ext⟩
  obtain ⟨a, l, rfl⟩ : ∃ (a : Fin 256) (l : Fin 2048), y = ix2 a l := ⟨y 0, y 1, by blk_ext⟩
  replace hE0 : r.val = t.val * 256 + a.val := hE0
  replace hE1 : j.val = l.val := hE1
  obtain rfl : j = l := Fin.ext hE1
  rw [after0_4, dxb_at]
  exact (out4 m c t a j).trans (rows_eq m _ _ _ hX hG hT c rfl rfl rfl t a j r hE0)

/-- The gain's gradient the kernel leaves is the reference's. -/
theorem final_gain (c : Dev nD) :
    (dats m 0 c).arrAt 5 (cfgs 0).N = gainOf (m ((c : Thread nD τ).loc main_arg0)) (dyOf (m ((c : Thread nD τ).loc main_arg0)) (m ((c : Thread nD τ).loc main_arg1)) (m ((c : Thread nD τ).loc main_arg2))) := by
  refine (dats m 0 c).arrAt_eq_of_covers 5 _ (by decide +kernel) fun t hf y => ?_
  have hr := (flush0_5 t).mp hf
  blk_simp
  rw [after0_5]
  refine (gain_last m c t (by omega) y).trans ?_
  have hE0 : (((cfg0.win 5).blk t).view.emb y 0).val = (y 0).val := by blk_simp [idx t] <;> omega
  have hE1 : (((cfg0.win 5).blk t).view.emb y 1).val = (y 1).val := by blk_simp [idx t] <;> omega
  generalize ((cfg0.win 5).blk t).view.emb y = E at hE0 hE1 ⊢
  obtain ⟨j, rfl⟩ : ∃ (j : Fin 2048), E = ix2 0 j := ⟨E 1, by blk_ext⟩
  obtain ⟨l, rfl⟩ : ∃ (l : Fin 2048), y = ix2 0 l := ⟨y 1, by blk_ext⟩
  replace hE1 : j.val = l.val := hE1
  obtain rfl : j = l := Fin.ext hE1
  have ht : t.val < 8 := t.isLt
  have es (s : Fin 8) : 8 * (t.val / 8) + s.val = s.val := by omega
  rw [gain_at]
  simp only [part_at]
  refine Fin.sum_mul_add_congr fun s a hl => ?_
  have hs := Pipeline.run_point_lt_of_flush t (by omega : t.val % 8 = 8 - 1) s
  have hl' : (8 * (t.val / 8) + s.val) * 256 + a.val < 2048 := by rw [es]; exact hl
  obtain ⟨b0, b1, be, bd⟩ := err_eq m _ _ _ c rfl rfl rfl ⟨_, hs⟩ a hl'
  have eR : (⟨(8 * (t.val / 8) + s.val) * 256 + a.val, hl'⟩ : Fin 2048) = ⟨s.val * 256 + a.val, hl⟩ := Fin.ext (congrArg (fun n => n * 256 + a.val) (es s))
  simp only [b0, bd, eR]
  rw [mul_assoc, mul_comm]

/-- The loss the kernel leaves is the reference's. -/
theorem final_loss (c : Dev nD) :
    (dats m 0 c).arrAt 6 (cfgs 0).N = lossOf (m ((c : Thread nD τ).loc main_arg0)) (m ((c : Thread nD τ).loc main_arg1)) (m ((c : Thread nD τ).loc main_arg2)) := by
  refine (dats m 0 c).arrAt_eq_of_covers 6 _ (by decide +kernel) fun t hf y => ?_
  have hr := (flush0_6 t).mp hf
  blk_simp
  rw [after0_6]
  refine (loss_last m c t (by omega) y).trans ?_
  have hE0 : (((cfg0.win 6).blk t).view.emb y 0).val = (y 0).val := by blk_simp [idx t] <;> omega
  have hE1 : (((cfg0.win 6).blk t).view.emb y 1).val = (y 1).val := by blk_simp [idx t] <;> omega
  generalize ((cfg0.win 6).blk t).view.emb y = E at hE0 hE1 ⊢
  obtain ⟨j, rfl⟩ : ∃ (j : Fin 128), E = ix2 0 j := ⟨E 1, by blk_ext⟩
  obtain ⟨l, rfl⟩ : ∃ (l : Fin 128), y = ix2 0 l := ⟨y 1, by blk_ext⟩
  replace hE1 : j.val = l.val := hE1
  obtain rfl : j = l := Fin.ext hE1
  have ht : t.val < 8 := t.isLt
  have es (s : Fin 8) : 8 * (t.val / 8) + s.val = s.val := by omega
  rw [loss_at]
  simp only [lost, half_mul_sum]
  refine Fin.sum_mul_add_congr fun s a hl => ?_
  have hs := Pipeline.run_point_lt_of_flush t (by omega : t.val % 8 = 8 - 1) s
  have hl' : (8 * (t.val / 8) + s.val) * 256 + a.val < 2048 := by rw [es]; exact hl
  obtain ⟨b0, b1, be, bd⟩ := err_eq m _ _ _ c rfl rfl rfl ⟨_, hs⟩ a hl'
  have eR : (⟨(8 * (t.val / 8) + s.val) * 256 + a.val, hl'⟩ : Fin 2048) = ⟨s.val * 256 + a.val, hl⟩ := Fin.ext (congrArg (fun n => n * 256 + a.val) (es s))
  simp only [be, eR]

end Cert.LossKernelIdeal.Hand

end
-- ==== Proof.Scan.lean ====
/- Running sums down the rows: the host's window sum read as a sum over the rows up to one, or from one on. -/
module

public import proofs.«01_k».proof.Proof.Reals
public import Idealize.ShloMosaic.Lib.Pointwise
public import Idealize.ShloMosaic.Lib.Tactic.WordOmega

@[expose] public section

noncomputable section

namespace Scan

open Idealize.ShloMosaic

theorem foldl_sum {N : ℕ} (f : Fin N → EReal) (v : EReal) :
    (List.finRange N).foldl (fun r n => r + f n) v = v + ∑ n, f n := by
  have key (l : List (Fin N)) : ∀ v : EReal, l.foldl (fun r n => r + f n) v = v + (l.map f).sum := by
    induction l with
    | nil => intro v; simp
    | cons a l ih => intro v; simp only [List.foldl_cons, List.map_cons, List.sum_cons, ih, add_assoc]
  rw [key, ← Fin.sum_univ_def]

/-- The window's own shape: all the rows, one lane. -/
abbrev W : Shape := ⟨2, ![2048, 1]⟩
abbrev S : Shape := ⟨2, ![2048, 128]⟩

/-- The sum over the rows up to `r`. -/
def upTo (f : Fin 2048 → EReal) (r : Fin 2048) : EReal := ∑ k : Fin 2048, if k ≤ r then f k else 0

/-- The sum over the rows from `r` on. -/
def fromOn (f : Fin 2048 → EReal) (r : Fin 2048) : EReal := ∑ k : Fin 2048, if r ≤ k then f k else 0

theorem window_sum (lo hi : Fin S.rank → ℕ) (x : S.Idx → EReal) (h : S.ReduceWindows ![2048, 1] ![1, 1] lo hi S) (j : S.Idx) :
    Ideal.hostReduceWindowAdd ![2048, 1] ![1, 1] lo hi h x 0 j =
      ∑ a : Fin 2048, if hin : ∀ i : Fin 2, lo i ≤ (j i).val * 1 + (ix2 (n0 := 2048) (n1 := 1) a 0 i).val ∧
        (j i).val * 1 + (ix2 (n0 := 2048) (n1 := 1) a 0 i).val - lo i < S.size i
        then x (fun i => ⟨(j i).val * 1 + (ix2 (n0 := 2048) (n1 := 1) a 0 i).val - lo i, (hin i).2⟩) else 0 := by
  let G : W.Idx → EReal := fun b => if hin : ∀ i : Fin 2, lo i ≤ (j i).val * 1 + (b i).val ∧ (j i).val * 1 + (b i).val - lo i < S.size i
    then x (fun i => ⟨(j i).val * 1 + (b i).val - lo i, (hin i).2⟩) else 0
  have e1 : Ideal.hostReduceWindowAdd ![2048, 1] ![1, 1] lo hi h x 0 j
      = (List.finRange W.numel).foldl (fun r n => r + G (W.rowMajor.symm n)) 0 := by
    have es : ∀ i : Fin 2, (![1, 1] : Fin 2 → ℕ) i = 1 := by decide
    simp only [Ideal.hostReduceWindowAdd, Host.reduceWindow, G]
    congr 1
    funext r n
    congr 1
    refine dite_congr ?_ ?_ fun _ => rfl
    · refine propext (forall_congr' fun i => ?_)
      rw [es i]; rfl
    · intro hh
      congr 1
      funext i
      apply Fin.ext
      show (j i).val * (![1, 1] : Fin 2 → ℕ) i + _ - _ = (j i).val * 1 + _ - _
      rw [es i]
  rw [e1, foldl_sum (fun n => G (W.rowMajor.symm n)), zero_add, Equiv.sum_comp W.rowMajor.symm G, sum_idx2]
  exact Finset.sum_congr rfl fun a _ => Fin.sum_univ_one _

theorem upTo_window (x : S.Idx → EReal) (h : S.ReduceWindows ![2048, 1] ![1, 1] ![2047, 0] ![0, 0] S) (r : Fin 2048) (l : Fin 128) :
    Ideal.hostReduceWindowAdd ![2048, 1] ![1, 1] ![2047, 0] ![0, 0] h x 0 (ix2 r l) = upTo (fun k => x (ix2 k l)) r := by
  rw [window_sum, upTo]
  refine Fintype.sum_equiv (Equiv.addRight (r + 1)) _ _ fun a => ?_
  have hr := r.isLt
  have ha := a.isLt
  have hv : (a + (r + 1)).val = (a.val + (r.val + 1)) % 2048 := by
    rw [Fin.val_add, Fin.val_add]; simp
  show _ = if a + (r + 1) ≤ r then x (ix2 (a + (r + 1)) l) else 0
  by_cases hc : 2047 ≤ r.val + a.val
  · have hv' : (a + (r + 1)).val = r.val + a.val - 2047 := by omega
    rw [if_pos (Fin.le_def.2 (by omega)), dif_pos]
    · congr 1
      funext i
      match i with
      | 0 => exact Fin.ext (by show r.val * 1 + a.val - 2047 = (a + (r + 1)).val; omega)
      | 1 => exact Fin.ext (by show l.val * 1 + 0 - 0 = l.val; omega)
    · intro i
      match i with
      | 0 => exact ⟨by show 2047 ≤ r.val * 1 + a.val; omega, by show r.val * 1 + a.val - 2047 < 2048; omega⟩
      | 1 => exact ⟨Nat.zero_le _, by show l.val * 1 + 0 - 0 < 128; omega⟩
  · have hv' : (a + (r + 1)).val = r.val + a.val + 1 := by omega
    rw [if_neg (fun q => by have := Fin.le_def.1 q; omega), dif_neg]
    intro q
    have : 2047 ≤ r.val * 1 + a.val := (q 0).1
    omega

theorem fromOn_window (x : S.Idx → EReal) (h : S.ReduceWindows ![2048, 1] ![1, 1] ![0, 0] ![2047, 0] S) (r : Fin 2048) (l : Fin 128) :
    Ideal.hostReduceWindowAdd ![2048, 1] ![1, 1] ![0, 0] ![2047, 0] h x 0 (ix2 r l) = fromOn (fun k => x (ix2 k l)) r := by
  rw [window_sum, fromOn]
  refine Fintype.sum_equiv (Equiv.addRight r) _ _ fun a => ?_
  have hr := r.isLt
  have ha := a.isLt
  have hv : (a + r).val = (a.val + r.val) % 2048 := Fin.val_add _ _
  show _ = if r ≤ a + r then x (ix2 (a + r) l) else 0
  by_cases hc : r.val + a.val < 2048
  · have hv' : (a + r).val = r.val + a.val := by omega
    rw [if_pos (Fin.le_def.2 (by omega)), dif_pos]
    · congr 1
      funext i
      match i with
      | 0 => exact Fin.ext (by show r.val * 1 + a.val - 0 = (a + r).val; omega)
      | 1 => exact Fin.ext (by show l.val * 1 + 0 - 0 = l.val; omega)
    · intro i
      match i with
      | 0 => exact ⟨Nat.zero_le _, by show r.val * 1 + a.val - 0 < 2048; omega⟩
      | 1 => exact ⟨Nat.zero_le _, by show l.val * 1 + 0 - 0 < 128; omega⟩
  · have hv' : (a + r).val = r.val + a.val - 2048 := by omega
    rw [if_neg (fun q => by have := Fin.le_def.1 q; omega), dif_neg]
    intro q
    have : r.val * 1 + a.val - 0 < 2048 := (q 0).2
    omega

/-- The signed comparison of a column with a row of band `k`, as a condition on their numbers: at or after. -/
theorem mask_ge (x a k : ℕ) (hx : x < 2048) (ha : a < 256) (hk : k < 8) (u v : EReal) :
    Scalar.select (IntOp.cmpi .sge (BitVec.ofNat 32 x) (IntOp.addi (BitVec.ofNat 32 a) (Scalar.muli (Scf.iv 0#32 1#32 k) 256#32))) u v
      = if 256 * k + a ≤ x then u else v := by
  have e : IntOp.addi (BitVec.ofNat 32 a) (Scalar.muli (Scf.iv 0#32 1#32 k) 256#32) = BitVec.ofNat 32 (256 * k + a) := by
    apply BitVec.eq_of_toNat_eq
    simp [IntOp.addi, Scalar.muli, IntOp.muli, Scf.iv, BitVec.toNat_add, BitVec.toNat_mul]
    omega
  rw [e]
  by_cases h : 256 * k + a ≤ x
  · rw [if_pos h, show IntOp.cmpi .sge (BitVec.ofNat 32 x) (BitVec.ofNat 32 (256 * k + a)) = 1#1 by word_omega]; rfl
  · rw [if_neg h, show IntOp.cmpi .sge (BitVec.ofNat 32 x) (BitVec.ofNat 32 (256 * k + a)) = 0#1 by word_omega]; rfl

/-- The same comparison the other way: at or before. -/
theorem mask_le (x a k : ℕ) (hx : x < 2048) (ha : a < 256) (hk : k < 8) (u v : EReal) :
    Scalar.select (IntOp.cmpi .sle (BitVec.ofNat 32 x) (IntOp.addi (BitVec.ofNat 32 a) (Scalar.muli (Scf.iv 0#32 1#32 k) 256#32))) u v
      = if x ≤ 256 * k + a then u else v := by
  have e : IntOp.addi (BitVec.ofNat 32 a) (Scalar.muli (Scf.iv 0#32 1#32 k) 256#32) = BitVec.ofNat 32 (256 * k + a) := by
    apply BitVec.eq_of_toNat_eq
    simp [IntOp.addi, Scalar.muli, IntOp.muli, Scf.iv, BitVec.toNat_add, BitVec.toNat_mul]
    omega
  rw [e]
  by_cases h : x ≤ 256 * k + a
  · rw [if_pos h, show IntOp.cmpi .sle (BitVec.ofNat 32 x) (BitVec.ofNat 32 (256 * k + a)) = 1#1 by word_omega]; rfl
  · rw [if_neg h, show IntOp.cmpi .sle (BitVec.ofNat 32 x) (BitVec.ofNat 32 (256 * k + a)) = 0#1 by word_omega]; rfl

end Scan

end
-- ==== Proof.Soft.lean ====
/- The forgetting gate's logarithm and its derivative, over the extended reals. -/
module

public import proofs.«01_k».proof.Proof.Reals
public import Idealize.ShloMosaic.Lib.Pointwise

@[expose] public section

noncomputable section

namespace Soft

open Idealize.ShloMosaic

/-- `log (1 + e^w)`, the way it is computed. -/
def plus (w : EReal) : EReal := max w 0 + Ideal.log1p (Ideal.exp (-(max w (-w))))

theorem log1p_exp (a : ℝ) : Ideal.log1p (Ideal.exp (a : EReal)) = ((Real.log (1 + Real.exp a) : ℝ) : EReal) := by
  have h : ¬ (1 + Real.exp a ≤ 0) := by have := Real.exp_pos a; linarith
  show Ideal.log ((1 : EReal) + ((Real.exp a : ℝ) : EReal)) = _
  rw [← EReal.coe_one, ← EReal.coe_add]
  show (if 1 + Real.exp a ≤ 0 then (⊥ : EReal) else _) = _
  rw [if_neg h]

theorem log1p_zero : Ideal.log1p 0 = 0 := by
  show Ideal.log ((1 : EReal) + 0) = 0
  rw [add_zero, ← EReal.coe_one]
  show (if (1 : ℝ) ≤ 0 then (⊥ : EReal) else _) = _
  rw [if_neg (by norm_num), Real.log_one, EReal.coe_zero]

theorem abs_coe (r : ℝ) : max (r : EReal) (-(r : EReal)) = ((|r| : ℝ) : EReal) := by
  rw [← EReal.coe_neg, abs_eq_max_neg]
  exact (EReal.coe_strictMono.monotone.map_max).symm

theorem plus_coe (r : ℝ) : plus (r : EReal) = ((max r 0 + Real.log (1 + Real.exp (-|r|)) : ℝ) : EReal) := by
  unfold plus
  rw [abs_coe, ← EReal.coe_neg, log1p_exp, EReal.coe_add]
  congr 1

theorem plus_top : plus ⊤ = ⊤ := by
  unfold plus
  rw [max_eq_left le_top, max_eq_left le_top, EReal.neg_top]
  show (⊤ : EReal) + Ideal.log1p 0 = ⊤
  rw [log1p_zero, add_zero]

theorem plus_bot : plus ⊥ = 0 := by
  unfold plus
  rw [max_eq_right bot_le, max_eq_right bot_le, EReal.neg_bot, EReal.neg_top]
  show (0 : EReal) + Ideal.log1p 0 = 0
  rw [log1p_zero, add_zero]

theorem exp_plus_real (r : ℝ) : Real.exp (r - (max r 0 + Real.log (1 + Real.exp (-|r|)))) = 1 / (1 + Real.exp (-r)) := by
  have hp : 0 < 1 + Real.exp (-|r|) := by have := Real.exp_pos (-|r|); linarith
  rw [← sub_sub, Real.exp_sub, Real.exp_log hp]
  rcases le_total 0 r with h | h
  · rw [max_eq_left h, abs_of_nonneg h, sub_self, Real.exp_zero]
  · rw [max_eq_right h, abs_of_nonpos h, sub_zero, neg_neg, Real.exp_neg]
    have := Real.exp_pos r
    field_simp
    ring

/-- The derivative of `log (1 + e^w)` as reverse differentiation writes it is the logistic function, infinities included. -/
theorem slope (w : EReal) : Ideal.exp ((if w = ⊤ then 0 else w) - (if plus w = ⊤ then 0 else plus w)) = Ideal.logistic w := by
  induction w using EReal.rec with
  | bot =>
    rw [plus_bot, if_neg bot_ne_top, if_neg EReal.zero_ne_top, sub_zero]
    show (0 : EReal) = Ideal.div 1 (1 + Ideal.exp (-⊥))
    rw [EReal.neg_bot]
    show (0 : EReal) = Ideal.div 1 (1 + ⊤)
    rw [show (1 : EReal) + ⊤ = ⊤ from rfl]
    simp [Ideal.div]
  | top =>
    rw [plus_top, if_pos rfl, sub_zero]
    show ((Real.exp 0 : ℝ) : EReal) = Ideal.div 1 (1 + Ideal.exp (-⊤))
    rw [EReal.neg_top]
    show ((Real.exp 0 : ℝ) : EReal) = Ideal.div 1 (1 + 0)
    simp [Ideal.div]
  | coe r =>
    rw [plus_coe, if_neg (EReal.coe_ne_top _), if_neg (EReal.coe_ne_top _), ← EReal.coe_sub]
    show ((Real.exp _ : ℝ) : EReal) = Ideal.div 1 (1 + Ideal.exp (-(r : EReal)))
    rw [exp_plus_real, ← EReal.coe_neg]
    show _ = Ideal.div 1 (1 + ((Real.exp (-r) : ℝ) : EReal))
    have h : (1 + Real.exp (-r)) ≠ 0 := by have := Real.exp_pos (-r); linarith
    rw [← EReal.coe_one, ← EReal.coe_add]
    unfold Ideal.div
    rw [if_neg (by exact_mod_cast h), ← EReal.coe_inv, ← EReal.coe_mul, one_div, one_mul]

/-- The logarithm of the logistic function, written two ways. -/
theorem log_gate (z : EReal) : -(plus (-z)) = min z 0 - Ideal.log1p (Ideal.exp (0 - max z (-z))) := by
  induction z using EReal.rec with
  | bot =>
    rw [EReal.neg_bot, plus_top, min_eq_left bot_le, EReal.neg_top, EReal.bot_sub]
  | top =>
    rw [EReal.neg_top, plus_bot, min_eq_right le_top, max_eq_left bot_le, zero_sub, zero_sub, EReal.neg_top]
    show -(0 : EReal) = -Ideal.log1p 0
    rw [log1p_zero]
  | coe r =>
    rw [← EReal.coe_neg, plus_coe, EReal.coe_neg r, abs_coe, zero_sub, ← EReal.coe_neg |r|, log1p_exp, abs_neg]
    rw [show min (r : EReal) 0 = ((min r 0 : ℝ) : EReal) from (EReal.coe_strictMono.monotone.map_min (a := r) (b := 0)).symm]
    rw [← EReal.coe_neg, ← EReal.coe_sub]
    congr 1
    rcases le_total 0 r with h | h
    · rw [max_eq_right (by linarith), min_eq_right h]; ring
    · rw [max_eq_left (by linarith), min_eq_left h]; ring

end Soft

end
-- ==== Proof.ForgetRef.lean ====
/- The cumulated forgetting gate, read entry by entry. -/
module

public import proofs.«01_k».proof.Proof.Gen.ForgetReferenceIdeal.Run
public import proofs.«01_k».proof.Proof.Scan
public import proofs.«01_k».proof.Proof.Soft
public import Idealize.ShloMosaic.Lib.Pointwise
public import Idealize.ShloMosaic.Lib.Pipeline.ValueKit

@[expose] public section

set_option maxRecDepth 16384

noncomputable section

namespace Cert.ForgetReferenceIdeal.Read

open Cert.ForgetReferenceIdeal Cert.ForgetReferenceIdeal.Gen Idealize.ShloMosaic Idealize.ShloMosaic.TcCoe

/-- What the gate is a function of. -/
def gate (H : FVec Ideal S2048x128 .f32) (B : FVec Ideal S1x128 .f32) : FVec Ideal S2048x128 .f32 := addf H (broadcastInDim S2048x128 ![0, 1] bcast_S1x128_S2048x128_0_1 (broadcastInDim S1x128 ![1] bcast_S128_S1x128_1 (shapeCast _ B shapeCasts_S1x128_S128)))

/-- The gate's logarithm. -/
def logs (H : FVec Ideal S2048x128 .f32) (B : FVec Ideal S1x128 .f32) : FVec Ideal S2048x128 .f32 := Host.negf (select (cmpf .une (subf (Host.negf (gate H B)) (broadcastInDim S2048x128 ![] bcast_S_S2048x128 (constant S_ .f32 0x00000000#32))) (subf (Host.negf (gate H B)) (broadcastInDim S2048x128 ![] bcast_S_S2048x128 (constant S_ .f32 0x00000000#32)))) (addf (Host.negf (gate H B)) (broadcastInDim S2048x128 ![] bcast_S_S2048x128 (constant S_ .f32 0x00000000#32))) (addf (maximumf (Host.negf (gate H B)) (broadcastInDim S2048x128 ![] bcast_S_S2048x128 (constant S_ .f32 0x00000000#32))) (Host.log1p (Host.exp (Host.negf (Host.absf (subf (Host.negf (gate H B)) (broadcastInDim S2048x128 ![] bcast_S_S2048x128 (constant S_ .f32 0x00000000#32)))))))))

/-- The cumulated gate. -/
def cum (H : FVec Ideal S2048x128 .f32) (B : FVec Ideal S1x128 .f32) : FVec Ideal S2048x128 .f32 := Host.reduceWindowAdd ![2048, 1] ![1, 1] ![2047, 0] ![0, 0] (logs H B) (broadcastInDim S_ ![] bcast_S_S_ (constant S_ .f32 0x00000000#32)) reduceWindows_S2048x128_S2048x128_w2048s1p2047_0_w1s1p0_0 h_S_

/-- The cumulated gate, transposed. -/
def cumT (H : FVec Ideal S2048x128 .f32) (B : FVec Ideal S1x128 .f32) : FVec Ideal S128x2048 .f32 := transpose S128x2048 [1, 0] (cum H B) transposes_S2048x128_S128x2048_1_0

set_option maxRecDepth 65536 in
theorem res0 (H : FVec Ideal S2048x128 .f32) (B : FVec Ideal S1x128 .f32) : Host.reduceWindowAdd ![2048, 1] ![1, 1] ![2047, 0] ![0, 0] (Host.negf (select (cmpf .une (subf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32))) (subf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32)))) (addf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32))) (addf (maximumf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32))) (Host.log1p (Host.exp (Host.negf (Host.absf (subf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32)))))))))) (broadcastInDim S_ ![] bcast_S_S_ (constant S_ .f32 0x00000000#32)) reduceWindows_S2048x128_S2048x128_w2048s1p2047_0_w1s1p0_0 h_S_ = cum H B := rfl

set_option maxRecDepth 65536 in
theorem res1 (H : FVec Ideal S2048x128 .f32) (B : FVec Ideal S1x128 .f32) : transpose S128x2048 [1, 0] (Host.reduceWindowAdd ![2048, 1] ![1, 1] ![2047, 0] ![0, 0] (Host.negf (select (cmpf .une (subf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32))) (subf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32)))) (addf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32))) (addf (maximumf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32))) (Host.log1p (Host.exp (Host.negf (Host.absf (subf (Host.negf (addf H (broadcastInDim S2048x128 ![0, 1] bcast_S1x128_S2048x128_0_1 (broadcastInDim S1x128 ![1] bcast_S128_S1x128_1 (shapeCast _ B shapeCasts_S1x128_S128))))) (broadcastInDim S2048x128 ![] bcast_S_S2048x128 (constant S_ .f32 0x00000000#32)))))))))) (broadcastInDim S_ ![] bcast_S_S_ (constant S_ .f32 0x00000000#32)) reduceWindows_S2048x128_S2048x128_w2048s1p2047_0_w1s1p0_0 h_S_) transposes_S2048x128_S128x2048_1_0 = cumT H B := rfl

theorem gate_at (H : FVec Ideal S2048x128 .f32) (B : FVec Ideal S1x128 .f32) (r : Fin 2048) (l : Fin 128) : gate H B (ix2 r l) = H (ix2 r l) + B (ix2 0 l) := by
  pointwise [gate]

theorem logs_at (H : FVec Ideal S2048x128 .f32) (B : FVec Ideal S1x128 .f32) (r : Fin 2048) (l : Fin 128) : logs H B (ix2 r l) = -(Soft.plus (-(H (ix2 r l) + B (ix2 0 l)))) := by
  pointwise [logs]
  simp only [gate_at, ne_eq, not_true_eq_false, if_false]
  rfl

theorem cum_at (H : FVec Ideal S2048x128 .f32) (B : FVec Ideal S1x128 .f32) (r : Fin 2048) (l : Fin 128) :
    cum H B (ix2 r l) = Scan.upTo (fun k => -(Soft.plus (-(H (ix2 k l) + B (ix2 0 l))))) r := by
  have h := Scan.upTo_window (logs H B) reduceWindows_S2048x128_S2048x128_w2048s1p2047_0_w1s1p0_0 r l
  simp only [logs_at] at h
  rw [← h]
  have h0 : broadcastInDim S_ ![] bcast_S_S_ (constant (F := Ideal) S_ .f32 0x00000000#32) = fun _ => (0 : EReal) := by
    funext i
    pointwise []
  unfold cum Host.reduceWindowAdd
  rw [h0]
  rfl

theorem cumT_at (H : FVec Ideal S2048x128 .f32) (B : FVec Ideal S1x128 .f32) (r : Fin 2048) (l : Fin 128) : cumT H B (ix2 l r) = cum H B (ix2 r l) := by
  pointwise [cumT]

end Cert.ForgetReferenceIdeal.Read

end
-- ==== Proof.Forget.lean ====
/- The cumulated forgetting gate: the kernel's banded products are the sums up to each row. -/
module

public import proofs.«01_k».proof.Proof.Gen.ForgetKernelIdeal.Value
public import proofs.«01_k».proof.Proof.Gen.ForgetReferenceIdeal.Run
public import proofs.«01_k».proof.Proof.Reals
public import proofs.«01_k».proof.Proof.ForgetRef
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ForgetKernelIdeal.Hand

open Cert.ForgetKernelIdeal Cert.ForgetKernelIdeal.Gen Idealize.ShloMosaic Idealize.ShloMosaic.TcCoe Idealize.SL.Sem Reals Cert.ForgetReferenceIdeal.Read
open Idealize.ShloMosaic.Pipeline (Dat)

variable (m : (ℓ : Loc nD τ sig) → Buf (Elt Ideal) ℓ)

theorem trip_pieces (𝒱 : Variants) (c : Dev nD) (bd : Option 𝒱.V) (arg0 : Memref sig .tc .vmem S2048x128 .f32) (harg0 : arg0.IsWhole) (arg1 : Memref sig .tc .vmem S1x128 .f32) (harg1 : arg1.IsWhole) (arg2 : Memref sig .tc .vmem S2048x128 .f32) (harg2 : arg2.IsWhole) (arg3 : Memref sig .tc .vmem S128x2048 .f32) (harg3 : arg3.IsWhole) (arg4 : Memref sig .tc .vmem S2048x128 .f32) (harg4 : arg4.IsWhole) (X) (k : Fin k0_t1_loop.trips) :
    tripL_k0_t1 (F := Ideal) 𝒱 c bd arg0 harg0 arg1 harg1 arg2 harg2 arg3 harg3 arg4 harg4 X k = [⟨Rect.unit (s := S2048x128) (k0_off1 k) S256x128.size (k0_off1_inb k), k0_pay2 k (arg4.view.readAt (Elt Ideal) (Rect.unit (s := S2048x128) ![0, 0] S2048x128.size inb_S2048x128_S2048x128_0_0).toLoadRect X)⟩] := by
  unfold tripL_k0_t1 trip_k0_t1
  rfl

theorem trips_eq : k0_t1_loop.trips = 8 := by decide +kernel

theorem row_lt (k : Fin k0_t1_loop.trips) (a : Fin 256) : 256 * k.val + a.val < 2048 := by
  have h1 : k.val < 8 := lt_of_lt_of_eq k.isLt trips_eq
  have := a.isLt
  omega

theorem pay2_at (k : Fin k0_t1_loop.trips) (X : Vec Ideal S2048x128 .f32) (y : S256x128.Idx) :
    k0_pay2 (F := Ideal) k X y = Scan.upTo (fun r => X (ix2 r (y 1))) ⟨256 * k.val + (y 0).val, row_lt k (y 0)⟩ := by
  pointwise [k0_pay2]
  have h1 : k.val < 8 := lt_of_lt_of_eq k.isLt trips_eq
  unfold Scan.upTo
  refine Finset.sum_congr rfl fun r _ => ?_
  rw [Scan.mask_le _ _ _ r.isLt (y 0).isLt h1]
  exact if_congr (by rw [Fin.le_def]) rfl rfl

theorem loop_at (𝒱 : Variants) (c : Dev nD) (bd : Option 𝒱.V) (arg0 : Memref sig .tc .vmem S2048x128 .f32) (harg0 : arg0.IsWhole) (arg1 : Memref sig .tc .vmem S1x128 .f32) (harg1 : arg1.IsWhole) (arg2 : Memref sig .tc .vmem S2048x128 .f32) (harg2 : arg2.IsWhole) (arg3 : Memref sig .tc .vmem S128x2048 .f32) (harg3 : arg3.IsWhole) (arg4 : Memref sig .tc .vmem S2048x128 .f32) (harg4 : arg4.IsWhole) (X) (l : Fin 128) (r : Fin 2048) :
    ∀ j : ℕ, j ≤ 8 → r.val < 256 * j → View.canon (pb_k0_t1 (F := Ideal) 𝒱 c bd arg0 harg0 arg1 harg1 arg2 harg2 arg3 harg3 arg4 harg4 X j) (ix2 r l)
      = Scan.upTo (fun r => (arg4.view.readAt (Elt Ideal) (Rect.unit (s := S2048x128) ![0, 0] S2048x128.size inb_S2048x128_S2048x128_0_0).toLoadRect X : Vec Ideal S2048x128 .f32) (ix2 r l)) r := by
  intro j
  induction j with
  | zero => intro _ h; omega
  | succ j ih =>
    intro hj hr
    have hs := pb_k0_t1_succ (F := Ideal) 𝒱 c bd arg0 harg0 arg1 harg1 arg2 harg2 arg3 harg3 arg4 harg4 X ⟨j, by rw [trips_eq]; omega⟩
    rw [show (⟨j, by rw [trips_eq]; omega⟩ : Fin k0_t1_loop.trips).val = j from rfl] at hs
    rw [hs, trip_pieces, List.singleton_append]
    by_cases h : r.val < 256 * j
    · rw [View.canon_cons_of_not_mem, ih (by omega) h]
      rw [Rect.mem_set_unit, k0_off1_eq]
      intro hc
      have := (hc 0).1
      simp at this
      omega
    · have e : (ix2 r l : S2048x128.Idx) = (Rect.unit (s := S2048x128) (k0_off1 ⟨j, by rw [trips_eq]; omega⟩) S256x128.size (k0_off1_inb _)).emb (ix2 (⟨r.val - 256 * j, by omega⟩ : Fin 256) l : S256x128.Idx) := by
        funext a
        apply Fin.ext
        rw [Rect.emb_apply]
        fin_cases a
        · simp [k0_off1_eq]; omega
        · simp [k0_off1_eq]
      rw [e, View.canon_cons_emb, pay2_at]
      congr 1
      apply Fin.ext
      show 256 * j + (r.val - 256 * j) = r.val
      omega

theorem scan_all (𝒱 : Variants) (c : Dev nD) (bd : Option 𝒱.V) (arg0 : Memref sig .tc .vmem S2048x128 .f32) (harg0 : arg0.IsWhole) (arg1 : Memref sig .tc .vmem S1x128 .f32) (harg1 : arg1.IsWhole) (arg2 : Memref sig .tc .vmem S2048x128 .f32) (harg2 : arg2.IsWhole) (arg3 : Memref sig .tc .vmem S128x2048 .f32) (harg3 : arg3.IsWhole) (arg4 : Memref sig .tc .vmem S2048x128 .f32) (harg4 : arg4.IsWhole) (P : Vec Ideal S2048x128 .f32) :
    View.canon (pb_k0_t1 (F := Ideal) 𝒱 c bd arg0 harg0 arg1 harg1 arg2 harg2 arg3 harg3 arg4 harg4 (arg4.view.writes (Elt Ideal) arg4.view.junk [⟨Rect.unit (s := S2048x128) ![0, 0] S2048x128.size inb_S2048x128_S2048x128_0_0, P⟩]) (Scf.trips 0#32 (Scalar.addi 0#32 8#32) 1#32))
      = fun j : S2048x128.Idx => Scan.upTo (fun r => P (ix2 r (j 1))) (j 0) := by
  funext j
  have hl := loop_at 𝒱 c bd arg0 harg0 arg1 harg1 arg2 harg2 arg3 harg3 arg4 harg4 (arg4.view.writes (Elt Ideal) arg4.view.junk [⟨Rect.unit (s := S2048x128) ![0, 0] S2048x128.size inb_S2048x128_S2048x128_0_0, P⟩]) (j 1) (j 0) 8 le_rfl (by have := (j 0).isLt; simpa using this)
  rw [show Scf.trips 0#32 (Scalar.addi 0#32 8#32) 1#32 = 8 by decide +kernel]
  have ej : j = (ix2 (j 0) (j 1) : S2048x128.Idx) := by
    funext a
    fin_cases a <;> rfl
  refine (congrArg _ ej).trans (hl.trans ?_)
  congr 1
  funext r
  have hr := View.readCov_unit_zero arg4.view (off := ![0, 0]) (by funext a; fin_cases a <;> rfl) inb_S2048x128_S2048x128_0_0 P
  exact congrFun hr (ix2 r (j 1))

theorem scan_read (𝒱 : Variants) (c : Dev nD) (bd : Option 𝒱.V) (arg0 : Memref sig .tc .vmem S2048x128 .f32) (harg0 : arg0.IsWhole) (arg1 : Memref sig .tc .vmem S1x128 .f32) (harg1 : arg1.IsWhole) (arg2 : Memref sig .tc .vmem S2048x128 .f32) (harg2 : arg2.IsWhole) (arg3 : Memref sig .tc .vmem S128x2048 .f32) (harg3 : arg3.IsWhole) (arg4 : Memref sig .tc .vmem S2048x128 .f32) (harg4 : arg4.IsWhole) {κ sp} (v : View sig κ sp S2048x128 .f32) (P : Vec Ideal S2048x128 .f32) :
    v.readCov (pb_k0_t1 (F := Ideal) 𝒱 c bd arg0 harg0 arg1 harg1 arg2 harg2 arg3 harg3 arg4 harg4 (arg4.view.writes (Elt Ideal) arg4.view.junk [⟨Rect.unit (s := S2048x128) ![0, 0] S2048x128.size inb_S2048x128_S2048x128_0_0, P⟩]) (Scf.trips 0#32 (Scalar.addi 0#32 8#32) 1#32))
      (Rect.unit (s := S2048x128) ![0, 0] S2048x128.size inb_S2048x128_S2048x128_0_0).toLoadRect
      = fun j : S2048x128.Idx => Scan.upTo (fun r => P (ix2 r (j 1))) (j 0) := by
  rw [View.readCov_eq_canon', scan_all]
  funext j
  have ej : (Rect.unit (s := S2048x128) ![0, 0] S2048x128.size inb_S2048x128_S2048x128_0_0).toLoadRect.idx j = j := by
    funext a
    apply Fin.ext
    fin_cases a <;> simp [LoadRect.idx]
  rw [ej]

theorem out2 (c : Dev nD) (t : Fin cfg0.N) (y) : (outsAt0 m c t).1 y = Scan.upTo (fun r => k0_pay1 (F := Ideal) (iblk m c 0 t) (iblk m c 1 t) (ix2 r (y 1))) (y 0) := by
  unfold outsAt0
  dsimp only
  frame_out
  rw [scan_all]
  try simp only [read_unread_whole]

theorem out3 (c : Dev nD) (t : Fin cfg0.N) (y) : (outsAt0 m c t).2 y = k0_pay3 (F := Ideal) (fun j : S2048x128.Idx => Scan.upTo (fun r => k0_pay1 (F := Ideal) (iblk m c 0 t) (iblk m c 1 t) (ix2 r (j 1))) (j 0)) y := by
  unfold outsAt0
  dsimp only
  frame_out
  rw [scan_read]
  try simp only [read_unread_whole]

/-- The gate's logarithm at an entry. -/
theorem pay1_at (H : Vec Ideal S2048x128 .f32) (B : Vec Ideal S1x128 .f32) (r : Fin 2048) (l : Fin 128) :
    k0_pay1 (F := Ideal) H B (ix2 r l) = -(Soft.plus (-(H (ix2 r l) + B (ix2 0 l)))) := by
  rw [Soft.log_gate]
  pointwise [k0_pay1]
  rfl

theorem idx : ∀ t : Fin cfg0.N, win0_0.index t = ![0, 0] ∧ win0_1.index t = ![0, 0] ∧ win0_2.index t = ![0, 0] ∧ win0_3.index t = ![0, 0] := (by decide +kernel : ∀ t : Fin grid0.N, _)

theorem blocks (c : Dev nD) (t : Fin cfg0.N) : iblk m c 0 t = m ((c : Thread nD τ).loc main_arg0) ∧ iblk m c 1 t = m ((c : Thread nD τ).loc main_arg1) := by
  refine ⟨?_, ?_⟩ <;> funext y <;> blk_point [iblk, V, idx t]

/-- The cumulated gate the kernel leaves is the reference's. -/
theorem final2 (c : Dev nD) : (dats m 0 c).arrAt 2 (cfgs 0).N = cum (m ((c : Thread nD τ).loc main_arg0)) (m ((c : Thread nD τ).loc main_arg1)) := by
  refine (dats m 0 c).arrAt_eq_of_covers 2 _ (by decide +kernel) fun t hf y => ?_
  blk_simp
  rw [after0_2, out2]
  obtain ⟨e0, e1⟩ := blocks m c t
  rw [e0, e1]
  have hE : ((cfg0.win 2).blk t).view.emb y = y := by
    funext a
    apply Fin.ext
    fin_cases a <;> blk_simp [idx t]
  refine Eq.trans ?_ (congrArg _ hE.symm)
  obtain ⟨r, l, rfl⟩ : ∃ (r : Fin 2048) (l : Fin 128), y = ix2 r l := ⟨y 0, y 1, by blk_ext⟩
  rw [cum_at]
  exact congrArg (fun f => Scan.upTo f r) (funext fun k => pay1_at _ _ k l)

/-- The transposed copy the kernel leaves is the reference's. -/
theorem final3 (c : Dev nD) : (dats m 0 c).arrAt 3 (cfgs 0).N = cumT (m ((c : Thread nD τ).loc main_arg0)) (m ((c : Thread nD τ).loc main_arg1)) := by
  refine (dats m 0 c).arrAt_eq_of_covers 3 _ (by decide +kernel) fun t hf y => ?_
  blk_simp
  rw [after0_3, out3]
  obtain ⟨e0, e1⟩ := blocks m c t
  rw [e0, e1]
  have hE : ((cfg0.win 3).blk t).view.emb y = y := by
    funext a
    apply Fin.ext
    fin_cases a <;> blk_simp [idx t]
  refine Eq.trans ?_ (congrArg _ hE.symm)
  obtain ⟨l, r, rfl⟩ : ∃ (l : Fin 128) (r : Fin 2048), y = ix2 l r := ⟨y 0, y 1, by blk_ext⟩
  rw [cumT_at, cum_at]
  pointwise [k0_pay3]
  exact congrArg (fun f => Scan.upTo f r) (funext fun k => pay1_at _ _ k l)

end Cert.ForgetKernelIdeal.Hand
end
-- ==== Proof.DForgetRef.lean ====
/- The cumulated forgetting gate's gradient by reverse differentiation, read entry by entry. -/
module

public import proofs.«01_k».proof.Proof.Gen.DForgetReferenceIdeal.Run
public import proofs.«01_k».proof.Proof.Scan
public import proofs.«01_k».proof.Proof.Soft
public import Idealize.ShloMosaic.Lib.Pointwise
public import Idealize.ShloMosaic.Lib.Pipeline.ValueKit

@[expose] public section

set_option maxRecDepth 16384

noncomputable section

namespace Cert.DForgetReferenceIdeal.Read

open Cert.DForgetReferenceIdeal Cert.DForgetReferenceIdeal.Gen Idealize.ShloMosaic Idealize.ShloMosaic.TcCoe

/-- What the gate is a function of. -/
def gate (H : FVec Ideal S2048x128 .f32) (B : FVec Ideal S1x128 .f32) : FVec Ideal S2048x128 .f32 := addf H (broadcastInDim S2048x128 ![0, 1] bcast_S1x128_S2048x128_0_1 (broadcastInDim S1x128 ![1] bcast_S128_S1x128_1 (shapeCast _ B shapeCasts_S1x128_S128)))

/-- The gradient of the rows before it is rounded. -/
def back (D : FVec Ideal S128x2048 .f32) (R H : FVec Ideal S2048x128 .f32) (B : FVec Ideal S1x128 .f32) : FVec Ideal S2048x128 .f32 := Host.negf (mulf (Host.negf (Host.reduceWindowAdd ![2048, 1] ![1, 1] ![0, 0] ![2047, 0] (addf (transpose S2048x128 [1, 0] D transposes_S128x2048_S2048x128_1_0) R) (broadcastInDim S_ ![] bcast_S_S_ (constant S_ .f32 0x00000000#32)) reduceWindows_S2048x128_S2048x128_w2048s1p0_2047_w1s1p0_0 h_S_)) (Host.exp (subf (select (cmpf .oeq (Host.negf (gate H B)) (broadcastInDim S2048x128 ![] bcast_S_S2048x128 (constant S_ .f32 0x7F800000#32))) (broadcastInDim S2048x128 ![] bcast_S_S2048x128 (constant S_ .f32 0x00000000#32)) (Host.negf (gate H B))) (select (cmpf .oeq (select (cmpf .une (subf (Host.negf (gate H B)) (broadcastInDim S2048x128 ![] bcast_S_S2048x128 (constant S_ .f32 0x00000000#32))) (subf (Host.negf (gate H B)) (broadcastInDim S2048x128 ![] bcast_S_S2048x128 (constant S_ .f32 0x00000000#32)))) (addf (Host.negf (gate H B)) (broadcastInDim S2048x128 ![] bcast_S_S2048x128 (constant S_ .f32 0x00000000#32))) (addf (maximumf (Host.negf (gate H B)) (broadcastInDim S2048x128 ![] bcast_S_S2048x128 (constant S_ .f32 0x00000000#32))) (Host.log1p (Host.exp (Host.negf (Host.absf (subf (Host.negf (gate H B)) (broadcastInDim S2048x128 ![] bcast_S_S2048x128 (constant S_ .f32 0x00000000#32))))))))) (broadcastInDim S2048x128 ![] bcast_S_S2048x128 (constant S_ .f32 0x7F800000#32))) (broadcastInDim S2048x128 ![] bcast_S_S2048x128 (constant S_ .f32 0x00000000#32)) (select (cmpf .une (subf (Host.negf (gate H B)) (broadcastInDim S2048x128 ![] bcast_S_S2048x128 (constant S_ .f32 0x00000000#32))) (subf (Host.negf (gate H B)) (broadcastInDim S2048x128 ![] bcast_S_S2048x128 (constant S_ .f32 0x00000000#32)))) (addf (Host.negf (gate H B)) (broadcastInDim S2048x128 ![] bcast_S_S2048x128 (constant S_ .f32 0x00000000#32))) (addf (maximumf (Host.negf (gate H B)) (broadcastInDim S2048x128 ![] bcast_S_S2048x128 (constant S_ .f32 0x00000000#32))) (Host.log1p (Host.exp (Host.negf (Host.absf (subf (Host.negf (gate H B)) (broadcastInDim S2048x128 ![] bcast_S_S2048x128 (constant S_ .f32 0x00000000#32)))))))))))))

/-- The gradient of the rows. -/
def dhf (D : FVec Ideal S128x2048 .f32) (R H : FVec Ideal S2048x128 .f32) (B : FVec Ideal S1x128 .f32) : FVec Ideal S2048x128 .bf16 := truncf .bf16 (back D R H B) bitsLt_bf16_f32

/-- The gradient of the bias. -/
def db (D : FVec Ideal S128x2048 .f32) (R H : FVec Ideal S2048x128 .f32) (B : FVec Ideal S1x128 .f32) : FVec Ideal S1x128 .f32 := broadcastInDim S1x128 ![1] bcast_S128_S1x128_1 (Host.reduceAdd (shapeCast _ (Host.reduceAdd (back D R H B) (constant S_ .f32 0x00000000#32) reducesTo_S2048x128_S128_d0 h_S_) shapeCasts_S128_S1x128) (constant S_ .f32 0x00000000#32) reducesTo_S1x128_S128_d0 h_S_)

set_option maxRecDepth 65536 in
theorem res0 (m : (ℓ : Loc nD τ sig) → Buf (Elt Ideal) ℓ) (c : Dev nD) : Value.res_main_v13 m c = dhf (m ((c.tc : Thread nD τ).loc main_arg0)) (m ((c.tc : Thread nD τ).loc main_arg1)) (m ((c.tc : Thread nD τ).loc main_arg2)) (m ((c.tc : Thread nD τ).loc main_arg3)) := rfl

set_option maxRecDepth 65536 in
theorem res1 (m : (ℓ : Loc nD τ sig) → Buf (Elt Ideal) ℓ) (c : Dev nD) : Value.res_main_v14 m c = db (m ((c.tc : Thread nD τ).loc main_arg0)) (m ((c.tc : Thread nD τ).loc main_arg1)) (m ((c.tc : Thread nD τ).loc main_arg2)) (m ((c.tc : Thread nD τ).loc main_arg3)) := rfl

theorem gate_at (H : FVec Ideal S2048x128 .f32) (B : FVec Ideal S1x128 .f32) (r : Fin 2048) (l : Fin 128) : gate H B (ix2 r l) = H (ix2 r l) + B (ix2 0 l) := by
  pointwise [gate]

theorem window_at (X : FVec Ideal S2048x128 .f32) (r : Fin 2048) (l : Fin 128) :
    Host.reduceWindowAdd ![2048, 1] ![1, 1] ![0, 0] ![2047, 0] X (broadcastInDim S_ ![] bcast_S_S_ (constant S_ .f32 0x00000000#32)) reduceWindows_S2048x128_S2048x128_w2048s1p0_2047_w1s1p0_0 h_S_ (ix2 r l)
      = Scan.fromOn (fun k => X (ix2 k l)) r := by
  rw [← Scan.fromOn_window X reduceWindows_S2048x128_S2048x128_w2048s1p0_2047_w1s1p0_0 r l]
  have h0 : broadcastInDim S_ ![] bcast_S_S_ (constant (F := Ideal) S_ .f32 0x00000000#32) = fun _ => (0 : EReal) := by
    funext i
    pointwise []
  unfold Host.reduceWindowAdd
  rw [h0]
  rfl

theorem back_at (D : FVec Ideal S128x2048 .f32) (R H : FVec Ideal S2048x128 .f32) (B : FVec Ideal S1x128 .f32) (r : Fin 2048) (l : Fin 128) :
    back D R H B (ix2 r l) = Scan.fromOn (fun k => D (ix2 l k) + R (ix2 k l)) r * Ideal.logistic (-(H (ix2 r l) + B (ix2 0 l))) := by
  have hs := Soft.slope (-(H (ix2 r l) + B (ix2 0 l)))
  have hw := window_at (addf (transpose S2048x128 [1, 0] D transposes_S128x2048_S2048x128_1_0) R) r l
  have ha (k : Fin 2048) : addf (transpose S2048x128 [1, 0] D transposes_S128x2048_S2048x128_1_0) R (ix2 k l) = D (ix2 l k) + R (ix2 k l) := by
    pointwise []
  pointwise [back]
  rw [hw]
  simp only [ha, gate_at, Reals.top_f32, ne_eq, not_true_eq_false, if_false]
  rw [← hs, neg_mul, neg_neg]
  rfl

theorem dhf_at (D : FVec Ideal S128x2048 .f32) (R H : FVec Ideal S2048x128 .f32) (B : FVec Ideal S1x128 .f32) (r : Fin 2048) (l : Fin 128) : dhf D R H B (ix2 r l) = back D R H B (ix2 r l) := by
  pointwise [dhf]

theorem db_at (D : FVec Ideal S128x2048 .f32) (R H : FVec Ideal S2048x128 .f32) (B : FVec Ideal S1x128 .f32) (l : Fin 128) : db D R H B (ix2 0 l) = ∑ r : Fin 2048, back D R H B (ix2 r l) := by
  pointwise [db]
  exact Fin.sum_univ_one _

end Cert.DForgetReferenceIdeal.Read

end
-- ==== Proof.DForget.lean ====
/- The gradient of the cumulated forgetting gate: the kernel's banded products are the sums from each row on. -/
module

public import proofs.«01_k».proof.Proof.Gen.DForgetKernelIdeal.Value
public import proofs.«01_k».proof.Proof.Gen.DForgetReferenceIdeal.Run
public import proofs.«01_k».proof.Proof.Reals
public import proofs.«01_k».proof.Proof.DForgetRef
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DForgetKernelIdeal.Hand

open Cert.DForgetKernelIdeal Cert.DForgetKernelIdeal.Gen Idealize.ShloMosaic Idealize.ShloMosaic.TcCoe Idealize.SL.Sem Reals Cert.DForgetReferenceIdeal.Read
open Idealize.ShloMosaic.Pipeline (Dat)

variable (m : (ℓ : Loc nD τ sig) → Buf (Elt Ideal) ℓ)

theorem trip_pieces (𝒱 : Variants) (c : Dev nD) (bd : Option 𝒱.V) (arg0 : Memref sig .tc .vmem S128x2048 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (X) (k : Fin k0_t1_loop.trips) :
    tripL_k0_t1 (F := Ideal) 𝒱 c bd arg0 harg0 arg1 harg1 arg2 harg2 arg3 harg3 arg4 harg4 arg5 harg5 arg6 harg6 arg7 harg7 X k = [⟨Rect.unit (s := S2048x128) (k0_off1 k) S256x128.size (k0_off1_inb k), k0_pay2 k (arg6.view.readAt (Elt Ideal) (Rect.unit (s := S2048x128) ![0, 0] S2048x128.size inb_S2048x128_S2048x128_0_0).toLoadRect X)⟩] := by
  unfold tripL_k0_t1 trip_k0_t1
  rfl

theorem trips_eq : k0_t1_loop.trips = 8 := by decide +kernel

theorem row_lt (k : Fin k0_t1_loop.trips) (a : Fin 256) : 256 * k.val + a.val < 2048 := by
  have h1 : k.val < 8 := lt_of_lt_of_eq k.isLt trips_eq
  have := a.isLt
  omega

theorem pay2_at (k : Fin k0_t1_loop.trips) (X : Vec Ideal S2048x128 .f32) (y : S256x128.Idx) :
    k0_pay2 (F := Ideal) k X y = Scan.fromOn (fun r => X (ix2 r (y 1))) ⟨256 * k.val + (y 0).val, row_lt k (y 0)⟩ := by
  pointwise [k0_pay2]
  have h1 : k.val < 8 := lt_of_lt_of_eq k.isLt trips_eq
  unfold Scan.fromOn
  refine Finset.sum_congr rfl fun r _ => ?_
  rw [Scan.mask_ge _ _ _ r.isLt (y 0).isLt h1]
  exact if_congr (by rw [Fin.le_def]) rfl rfl

theorem loop_at (𝒱 : Variants) (c : Dev nD) (bd : Option 𝒱.V) (arg0 : Memref sig .tc .vmem S128x2048 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (X) (l : Fin 128) (r : Fin 2048) :
    ∀ j : ℕ, j ≤ 8 → r.val < 256 * j → View.canon (pb_k0_t1 (F := Ideal) 𝒱 c bd arg0 harg0 arg1 harg1 arg2 harg2 arg3 harg3 arg4 harg4 arg5 harg5 arg6 harg6 arg7 harg7 X j) (ix2 r l)
      = Scan.fromOn (fun r => (arg6.view.readAt (Elt Ideal) (Rect.unit (s := S2048x128) ![0, 0] S2048x128.size inb_S2048x128_S2048x128_0_0).toLoadRect X : Vec Ideal S2048x128 .f32) (ix2 r l)) r := by
  intro j
  induction j with
  | zero => intro _ h; omega
  | succ j ih =>
    intro hj hr
    have hs := pb_k0_t1_succ (F := Ideal) 𝒱 c bd arg0 harg0 arg1 harg1 arg2 harg2 arg3 harg3 arg4 harg4 arg5 harg5 arg6 harg6 arg7 harg7 X ⟨j, by rw [trips_eq]; omega⟩
    rw [show (⟨j, by rw [trips_eq]; omega⟩ : Fin k0_t1_loop.trips).val = j from rfl] at hs
    rw [hs, trip_pieces, List.singleton_append]
    by_cases h : r.val < 256 * j
    · rw [View.canon_cons_of_not_mem, ih (by omega) h]
      rw [Rect.mem_set_unit, k0_off1_eq]
      intro hc
      have := (hc 0).1
      simp at this
      omega
    · have e : (ix2 r l : S2048x128.Idx) = (Rect.unit (s := S2048x128) (k0_off1 ⟨j, by rw [trips_eq]; omega⟩) S256x128.size (k0_off1_inb _)).emb (ix2 (⟨r.val - 256 * j, by omega⟩ : Fin 256) l : S256x128.Idx) := by
        funext a
        apply Fin.ext
        rw [Rect.emb_apply]
        fin_cases a
        · simp [k0_off1_eq]; omega
        · simp [k0_off1_eq]
      rw [e, View.canon_cons_emb, pay2_at]
      congr 1
      apply Fin.ext
      show 256 * j + (r.val - 256 * j) = r.val
      omega

theorem scan_read (𝒱 : Variants) (c : Dev nD) (bd : Option 𝒱.V) (arg0 : Memref sig .tc .vmem S128x2048 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) {κ sp} (v : View sig κ sp S2048x128 .f32) (P : Vec Ideal S2048x128 .f32) :
    v.readCov (pb_k0_t1 (F := Ideal) 𝒱 c bd arg0 harg0 arg1 harg1 arg2 harg2 arg3 harg3 arg4 harg4 arg5 harg5 arg6 harg6 arg7 harg7 (arg6.view.writes (Elt Ideal) arg6.view.junk [⟨Rect.unit (s := S2048x128) ![0, 0] S2048x128.size inb_S2048x128_S2048x128_0_0, P⟩]) (Scf.trips 0#32 (Scalar.addi 0#32 8#32) 1#32))
      (Rect.unit (s := S2048x128) ![0, 0] S2048x128.size inb_S2048x128_S2048x128_0_0).toLoadRect
      = fun j : S2048x128.Idx => Scan.fromOn (fun r => P (ix2 r (j 1))) (j 0) := by
  rw [View.readCov_eq_canon']
  funext j
  have ej : (Rect.unit (s := S2048x128) ![0, 0] S2048x128.size inb_S2048x128_S2048x128_0_0).toLoadRect.idx j = (ix2 (j 0) (j 1) : S2048x128.Idx) := by
    funext a
    apply Fin.ext
    fin_cases a <;> simp [LoadRect.idx]
  rw [ej]
  have hl := loop_at 𝒱 c bd arg0 harg0 arg1 harg1 arg2 harg2 arg3 harg3 arg4 harg4 arg5 harg5 arg6 harg6 arg7 harg7 (arg6.view.writes (Elt Ideal) arg6.view.junk [⟨Rect.unit (s := S2048x128) ![0, 0] S2048x128.size inb_S2048x128_S2048x128_0_0, P⟩]) (j 1) (j 0) 8 le_rfl (by have := (j 0).isLt; simpa using this)
  rw [show Scf.trips 0#32 (Scalar.addi 0#32 8#32) 1#32 = 8 by decide +kernel]
  refine hl.trans ?_
  congr 1
  funext r
  have hr := View.readCov_unit_zero arg6.view (off := ![0, 0]) (by funext a; fin_cases a <;> rfl) inb_S2048x128_S2048x128_0_0 P
  exact congrFun hr (ix2 r (j 1))

theorem out4 (c : Dev nD) (t : Fin cfg0.N) (y) : (outsAt0 m c t).1 y = k0_pay4 (F := Ideal) (iblk m c 2 t) (iblk m c 3 t) (fun j : S2048x128.Idx => Scan.fromOn (fun r => k0_pay1 (F := Ideal) (iblk m c 0 t) (iblk m c 1 t) (ix2 r (j 1))) (j 0)) y := by
  unfold outsAt0
  dsimp only
  frame_out
  rw [scan_read]
  try simp only [read_unread_whole]

theorem out5 (c : Dev nD) (t : Fin cfg0.N) (y) : (outsAt0 m c t).2 y = k0_pay5 (F := Ideal) (iblk m c 2 t) (iblk m c 3 t) (fun j : S2048x128.Idx => Scan.fromOn (fun r => k0_pay1 (F := Ideal) (iblk m c 0 t) (iblk m c 1 t) (ix2 r (j 1))) (j 0)) y := by
  unfold outsAt0
  dsimp only
  frame_out
  rw [scan_read]
  try simp only [read_unread_whole]

/-- What both results are made of, at an entry. -/
theorem pay3_at (D : Vec Ideal S128x2048 .f32) (R H : Vec Ideal S2048x128 .f32) (B : Vec Ideal S1x128 .f32) (r : Fin 2048) (l : Fin 128) :
    k0_pay3 (F := Ideal) H B (fun j : S2048x128.Idx => Scan.fromOn (fun r => k0_pay1 (F := Ideal) D R (ix2 r (j 1))) (j 0)) (ix2 r l)
      = back D R H B (ix2 r l) := by
  have h1 (k : Fin 2048) : k0_pay1 (F := Ideal) D R (ix2 k l) = D (ix2 l k) + R (ix2 k l) := by pointwise [k0_pay1]
  have h0 : Scan.fromOn (fun k => k0_pay1 (F := Ideal) D R (ix2 k l)) r = Scan.fromOn (fun k => D (ix2 l k) + R (ix2 k l)) r := by simp only [h1]
  rw [back_at, ← h0]
  pointwise [k0_pay3]
  rw [zero_sub]

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] := (by decide +kernel : ∀ t : Fin grid0.N, _)

theorem blocks (c : Dev nD) (t : Fin cfg0.N) : iblk m c 0 t = m ((c : Thread nD τ).loc main_arg0) ∧ iblk m c 1 t = m ((c : Thread nD τ).loc main_arg1)
    ∧ iblk m c 2 t = m ((c : Thread nD τ).loc main_arg2) ∧ iblk m c 3 t = m ((c : Thread nD τ).loc main_arg3) := by
  refine ⟨?_, ?_, ?_, ?_⟩ <;> funext y <;> blk_point [iblk, V, idx t]

/-- The rows' gradient the kernel leaves is the reference's. -/
theorem final4 (c : Dev nD) : (dats m 0 c).arrAt 4 (cfgs 0).N = dhf (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out4]
  obtain ⟨e0, e1, e2, e3⟩ := blocks m c t
  rw [e0, e1, e2, e3]
  have hE : ((cfg0.win 4).blk t).view.emb y = y := by
    funext a
    apply Fin.ext
    fin_cases a <;> blk_simp [idx t]
  refine Eq.trans ?_ (congrArg _ hE.symm)
  obtain ⟨r, l, rfl⟩ : ∃ (r : Fin 2048) (l : Fin 128), y = ix2 r l := ⟨y 0, y 1, by blk_ext⟩
  rw [dhf_at, ← pay3_at]
  pointwise [k0_pay4]

/-- The bias's gradient the kernel leaves is the reference's. -/
theorem final5 (c : Dev nD) : (dats m 0 c).arrAt 5 (cfgs 0).N = db (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out5]
  obtain ⟨e0, e1, e2, e3⟩ := blocks m c t
  rw [e0, e1, e2, e3]
  have hE : ((cfg0.win 5).blk t).view.emb y = y := by
    funext a
    apply Fin.ext
    fin_cases a <;> blk_simp [idx t]
  refine Eq.trans ?_ (congrArg _ hE.symm)
  obtain ⟨l, rfl⟩ : ∃ (l : Fin 128), y = ix2 0 l := ⟨y 1, by blk_ext⟩
  rw [db_at]
  simp only [← pay3_at]
  pointwise [k0_pay5]

end Cert.DForgetKernelIdeal.Hand
end
-- ==== Proof.Dwf.lean ====
/- The value of the gradient of the forget gate's weights: the blocks the kernel writes are the blocks of the reference's product. -/
module

public import proofs.«01_k».proof.Proof.Gen.DwfKernelIdeal.Value
public import proofs.«01_k».proof.Proof.Gen.DwfReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DwfReferenceIdeal.Read

open Cert.DwfReferenceIdeal Cert.DwfReferenceIdeal.Gen Idealize.ShloMosaic Idealize.ShloMosaic.TcCoe Reals

/-- The reference's result as a function of its arguments. -/
def REF (X : FVec Ideal S2048x2048 .bf16) (W : FVec Ideal S2048x128 .bf16) : FVec Ideal S2048x128 .bf16 :=
  truncf .bf16 (transpose S2048x128 [1, 0] (Host.dotGeneral dot_S2048x128_S2048x2048_S128x2048_0_0_1_1_n_n none (extf .f32 W bitsLt_bf16_f32) (extf .f32 X bitsLt_bf16_f32)) transposes_S128x2048_S2048x128_1_0) bitsLt_bf16_f32

/-- Its entries. -/
theorem REF_at (X : FVec Ideal S2048x2048 .bf16) (W : FVec Ideal S2048x128 .bf16) (r : Fin 2048) (j : Fin 128) :
    REF X W (ix2 r j) = ∑ k : Fin 2048, X (ix2 k r) * W (ix2 k j) := by
  have h : REF X W (ix2 r j) = ∑ k : Fin 2048, W (ix2 k j) * X (ix2 k r) := by
    pointwise [REF]
    try (refine Finset.sum_congr rfl fun k _ => ?_; blk_point [])
  rw [h]
  exact Finset.sum_congr rfl fun k _ => mul_comm _ _

end Cert.DwfReferenceIdeal.Read

namespace Cert.DwfKernelIdeal.Hand

open Cert.DwfKernelIdeal Cert.DwfKernelIdeal.Gen Idealize.ShloMosaic Idealize.ShloMosaic.TcCoe Idealize.SL.Sem Reals
open Idealize.ShloMosaic.Pipeline (Dat)
open Cert.DwfReferenceIdeal.Read (REF REF_at)

variable (m : (ℓ : Loc nD τ sig) → Buf (Elt Ideal) ℓ)

/-- The block each window is at, point by point. -/
theorem idx : ∀ t : Fin cfg0.N, win0_0.index t = ![0, t.val / 1] ∧ win0_1.index t = ![0, t.val % 1] ∧ win0_2.index t = ![t.val / 1, t.val % 1] :=
  (by decide +kernel : ∀ t : Fin grid0.N, _)

/-- What a point writes is the reference's block. -/
theorem point (X : FVec Ideal S2048x2048 .bf16) (W : FVec Ideal S2048x128 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 1 * 1024 + (y 0).val := by blk_simp [idx t] <;> omega
  have hE1 : (((cfg0.win 2).blk t).view.emb y 1).val = t.val % 1 * 128 + (y 1).val := by blk_simp [idx t] <;> omega
  generalize ((cfg0.win 2).blk t).view.emb y = E at hE0 hE1 ⊢
  obtain ⟨r, j, rfl⟩ : ∃ (r : Fin 2048) (j : Fin 128), E = ix2 r j := ⟨E 0, E 1, by blk_ext⟩
  replace hE0 : r.val = t.val / 1 * 1024 + (y 0).val := hE0
  replace hE1 : j.val = t.val % 1 * 128 + (y 1).val := hE1
  have ht : t.val < 2 := t.isLt
  have b0 (a : Fin 2048) (n : Fin 1024) : iblk m c 0 t (ix2 a n) = X (ix2 a ⟨t.val / 1 * 1024 + n.val, by omega⟩) := by
    subst eX; blk_point [iblk, V, idx t]
  have b1 (a : Fin 2048) (n : Fin 128) : iblk m c 1 t (ix2 a n) = W (ix2 a ⟨t.val % 1 * 128 + n.val, by omega⟩) := by
    subst eW; blk_point [iblk, V, idx t]
  rw [REF_at X W, out0_2]
  canon_tiles x h
  obtain ⟨a, l, rfl⟩ : ∃ (a : Fin 1024) (l : Fin 128), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.DwfKernelIdeal.Hand

end
-- ==== Proof.DnGate.lean ====
/- The value of the forget gate's part of the gradient of the mixer's normed input: the blocks the kernel writes are the blocks of the reference's product. -/
module

public import proofs.«01_k».proof.Proof.Gen.DnGateKernelIdeal.Value
public import proofs.«01_k».proof.Proof.Gen.DnGateReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.DnGateReferenceIdeal.Read

open Cert.DnGateReferenceIdeal Cert.DnGateReferenceIdeal.Gen Idealize.ShloMosaic Idealize.ShloMosaic.TcCoe Reals

/-- The reference's result as a function of its arguments. -/
def REF (X : FVec Ideal S2048x128 .bf16) (W : FVec Ideal S2048x128 .bf16) (Z : FVec Ideal S2048x2048 .f32) : FVec Ideal S2048x2048 .f32 :=
  addf Z (Host.dotGeneral dot_S2048x128_S2048x128_S2048x2048_1_1_0_0_n_n none (extf .f32 X bitsLt_bf16_f32) (extf .f32 W bitsLt_bf16_f32))

/-- Its entries. -/
theorem REF_at (X : FVec Ideal S2048x128 .bf16) (W : FVec Ideal S2048x128 .bf16) (Z : FVec Ideal S2048x2048 .f32) (r : Fin 2048) (j : Fin 2048) :
    REF X W Z (ix2 r j) = Z (ix2 r j) + ∑ k : Fin 128, X (ix2 r k) * W (ix2 j k) := by
  pointwise [REF]

end Cert.DnGateReferenceIdeal.Read

namespace Cert.DnGateKernelIdeal.Hand

open Cert.DnGateKernelIdeal Cert.DnGateKernelIdeal.Gen Idealize.ShloMosaic Idealize.ShloMosaic.TcCoe Idealize.SL.Sem Reals
open Idealize.ShloMosaic.Pipeline (Dat)
open Cert.DnGateReferenceIdeal.Read (REF REF_at)

variable (m : (ℓ : Loc nD τ sig) → Buf (Elt Ideal) ℓ)

/-- The block each window is at, point by point. -/
theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- What a point writes is the reference's block. -/
theorem point (X : FVec Ideal S2048x128 .bf16) (W : FVec Ideal S2048x128 .bf16) (Z : FVec Ideal S2048x2048 .f32) (c : Dev nD)
    (eX : m ((c : Thread nD τ).loc main_arg0) = X) (eW : m ((c : Thread nD τ).loc main_arg1) = W) (eZ : m ((c : Thread nD τ).loc main_arg2) = Z) (t : Fin cfg0.N) (y) :
    out0_3 (iblk m c 0 t) (iblk m c 1 t) (iblk m c 2 t) y = REF X W Z (((cfg0.win 3).blk t).view.emb y) := by
  have hE0 : (((cfg0.win 3).blk t).view.emb y 0).val = t.val / 2 * 1024 + (y 0).val := by blk_simp [idx t] <;> omega
  have hE1 : (((cfg0.win 3).blk t).view.emb y 1).val = t.val % 2 * 1024 + (y 1).val := by blk_simp [idx t] <;> omega
  generalize ((cfg0.win 3).blk t).view.emb y = E at hE0 hE1 ⊢
  obtain ⟨r, j, rfl⟩ : ∃ (r : Fin 2048) (j : Fin 2048), E = ix2 r j := ⟨E 0, E 1, by blk_ext⟩
  replace hE0 : r.val = t.val / 2 * 1024 + (y 0).val := hE0
  replace hE1 : j.val = t.val % 2 * 1024 + (y 1).val := hE1
  have ht : t.val < 4 := t.isLt
  have b0 (a : Fin 1024) (n : Fin 128) : iblk m c 0 t (ix2 a n) = X (ix2 ⟨t.val / 2 * 1024 + a.val, by omega⟩ n) := by
    subst eX; blk_point [iblk, V, idx t]
  have b1 (a : Fin 1024) (n : Fin 128) : iblk m c 1 t (ix2 a n) = W (ix2 ⟨t.val % 2 * 1024 + a.val, by omega⟩ n) := by
    subst eW; blk_point [iblk, V, idx t]
  have b2 (a : Fin 1024) (n : Fin 1024) : iblk m c 2 t (ix2 a n) = Z (ix2 ⟨t.val / 2 * 1024 + a.val, by omega⟩ ⟨t.val % 2 * 1024 + n.val, by omega⟩) := by
    subst eZ; blk_point [iblk, V, idx t]
  rw [REF_at X W Z, out0_3]
  canon_tiles x h
  obtain ⟨a, l, rfl⟩ : ∃ (a : Fin 1024) (l : Fin 1024), x = ix2 a l := ⟨x 0, x 1, by blk_ext⟩
  replace h0 : (y 0).val = a.val := h0
  replace h1 : (y 1).val = l.val := h1
  open_payloads
  pointwise [k0_pay1]
  simp only [b0, b1, b2]
  blk_point []

/-- The array the kernel leaves is the reference's result. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m _ _ _ c rfl rfl rfl t y

end Cert.DnGateKernelIdeal.Hand

end
-- ==== Proof.Hf.lean ====
/- The value of the forget gate's product: the blocks the kernel writes are the blocks of the reference's product. -/
module

public import proofs.«01_k».proof.Proof.Gen.HfKernelIdeal.Value
public import proofs.«01_k».proof.Proof.Gen.HfReferenceIdeal.Run
public import proofs.«01_k».proof.Proof.Reals
public import Idealize.ShloMosaic.Lib.Pointwise
public import Idealize.ShloMosaic.Lib.Pipeline.ValueKit

@[expose] public section

set_option maxRecDepth 16384

noncomputable section

namespace Cert.HfReferenceIdeal.Read

open Cert.HfReferenceIdeal Cert.HfReferenceIdeal.Gen Idealize.ShloMosaic Idealize.ShloMosaic.TcCoe Reals

/-- The reference's result as a function of its arguments. -/
def REF (X : FVec Ideal S2048x2048 .bf16) (W : FVec Ideal S2048x128 .bf16) : FVec Ideal S2048x128 .f32 :=
  Host.dotGeneral dot_S2048x2048_S2048x128_S2048x128_1_0_0_1_n_n none (extf .f32 X bitsLt_bf16_f32) (extf .f32 W bitsLt_bf16_f32)

/-- Its entries. -/
theorem REF_at (X : FVec Ideal S2048x2048 .bf16) (W : FVec Ideal S2048x128 .bf16) (r : Fin 2048) (j : Fin 128) :
    REF X W (ix2 r j) = ∑ k : Fin 2048, X (ix2 r k) * W (ix2 k j) := by
  pointwise [REF]

end Cert.HfReferenceIdeal.Read

namespace Cert.HfKernelIdeal.Hand

open Cert.HfKernelIdeal Cert.HfKernelIdeal.Gen Idealize.ShloMosaic Idealize.ShloMosaic.TcCoe Idealize.SL.Sem Reals
open Idealize.ShloMosaic.Pipeline (Dat)
open Cert.HfReferenceIdeal.Read (REF REF_at)

variable (m : (ℓ : Loc nD τ sig) → Buf (Elt Ideal) ℓ)

/-- The block each window is at, point by point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

/-- What a point writes is the reference's block. -/
theorem point (X : FVec Ideal S2048x2048 .bf16) (W : FVec Ideal S2048x128 .bf16) (c : Dev nD)
    (eX : m ((c : Thread nD τ).loc main_arg0) = X) (eW : m ((c : Thread nD τ).loc main_arg1) = W) (t : Fin cfg0.N) (y) :
    out0_2 (iblk m c 0 t) (iblk m c 1 t) y = REF X W (((cfg0.win 2).blk t).view.emb y) := by
  have hE0 : (((cfg0.win 2).blk t).view.emb y 0).val = t.val / 1 * 1024 + (y 0).val := by blk_simp [idx t] <;> omega
  have hE1 : (((cfg0.win 2).blk t).view.emb y 1).val = t.val % 1 * 128 + (y 1).val := by blk_simp [idx t] <;> omega
  generalize ((cfg0.win 2).blk t).view.emb y = E at hE0 hE1 ⊢
  obtain ⟨r, j, rfl⟩ : ∃ (r : Fin 2048) (j : Fin 128), E = ix2 r j := ⟨E 0, E 1, by blk_ext⟩
  replace hE0 : r.val = t.val / 1 * 1024 + (y 0).val := hE0
  replace hE1 : j.val = t.val % 1 * 128 + (y 1).val := hE1
  have ht : t.val < 2 := t.isLt
  have b0 (a : Fin 1024) (n : Fin 2048) : iblk m c 0 t (ix2 a n) = X (ix2 ⟨t.val / 1 * 1024 + a.val, by omega⟩ n) := by
    subst eX; blk_point [iblk, V, idx t]
  have b1 (a : Fin 2048) (n : Fin 128) : iblk m c 1 t (ix2 a n) = W (ix2 a ⟨t.val % 1 * 128 + n.val, by omega⟩) := by
    subst eW; blk_point [iblk, V, idx t]
  rw [REF_at X W, out0_2]
  canon_tiles x h
  obtain ⟨a, l, rfl⟩ : ∃ (a : Fin 1024) (l : Fin 128), x = ix2 a l := ⟨x 0, x 1, by blk_ext⟩
  replace h0 : (y 0).val = a.val := h0
  replace h1 : (y 1).val = l.val := h1
  open_payloads
  pointwise [k0_pay1]
  simp only [b0, b1]
  blk_point []

/-- The array the kernel leaves is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m _ _ c rfl rfl t y

end Cert.HfKernelIdeal.Hand

end
-- ==== Proof.Sum.lean ====
/- The value of the sum over the devices: the block the kernel writes is the reference. -/
module

public import proofs.«01_k».proof.Proof.Gen.SumKernelIdeal.Value
public import proofs.«01_k».proof.Proof.Gen.SumReferenceIdeal.Run
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SumReferenceIdeal.Read

open Cert.SumReferenceIdeal Cert.SumReferenceIdeal.Gen Idealize.ShloMosaic Idealize.ShloMosaic.TcCoe Reals

/-- The reference's result as a function of its arguments. -/
def REF (X : FVec Ideal S8x16x2048 .f32) : FVec Ideal S16x2048 .f32 :=
  Host.reduceAdd X (constant S_ .f32 0x00000000#32) reducesTo_S8x16x2048_S16x2048_d0 h_S_

/-- Its entries. -/
theorem REF_at (X : FVec Ideal S8x16x2048 .f32) (r : Fin 16) (j : Fin 2048) :
    REF X (ix2 r j) = ∑ k : Fin 8, X (ix3 k r j) := by
  pointwise [REF]

end Cert.SumReferenceIdeal.Read

namespace Cert.SumKernelIdeal.Hand

open Cert.SumKernelIdeal Cert.SumKernelIdeal.Gen Idealize.ShloMosaic Idealize.ShloMosaic.TcCoe Idealize.SL.Sem Reals
open Idealize.ShloMosaic.Pipeline (Dat)
open Cert.SumReferenceIdeal.Read (REF REF_at)

variable (m : (ℓ : Loc nD τ sig) → Buf (Elt Ideal) ℓ)

/-- The block each window is at, point by point. -/
theorem idx : ∀ t : Fin cfg0.N, win0_0.index t = ![0, t.val, 0] ∧ win0_1.index t = ![t.val, 0] :=
  (by decide +kernel : ∀ t : Fin grid0.N, _)

/-- What a point writes is the reference's block. -/
theorem point (X : FVec Ideal S8x16x2048 .f32) (c : Dev nD)
    (eX : m ((c : Thread nD τ).loc main_arg0) = X) (t : Fin cfg0.N) (y) :
    out0_1 (iblk m c 0 t) y = REF X (((cfg0.win 1).blk t).view.emb y) := by
  have ht : t.val < 1 := t.isLt
  have hE0 : (((cfg0.win 1).blk t).view.emb y 0).val = (y 0).val := by blk_simp [idx t] <;> omega
  have hE1 : (((cfg0.win 1).blk t).view.emb y 1).val = (y 1).val := by blk_simp [idx t] <;> omega
  generalize ((cfg0.win 1).blk t).view.emb y = E at hE0 hE1 ⊢
  obtain ⟨r, j, rfl⟩ : ∃ (r : Fin 16) (j : Fin 2048), E = ix2 r j := ⟨E 0, E 1, by blk_ext⟩
  replace hE0 : r.val = (y 0).val := hE0
  replace hE1 : j.val = (y 1).val := hE1
  have b0 (k : Fin 8) (a : Fin 16) (n : Fin 2048) : iblk m c 0 t (ix3 k a n) = X (ix3 k a n) := by
    subst eX; blk_point [iblk, V, idx t]
  rw [REF_at X, out0_1]
  canon_tiles x h
  obtain ⟨a, l, rfl⟩ : ∃ (a : Fin 16) (l : Fin 2048), x = ix2 a l := ⟨x 0, x 1, by blk_ext⟩
  replace h0 : (y 0).val = a.val := h0
  replace h1 : (y 1).val = l.val := h1
  open_payloads
  pointwise [k0_pay1]
  simp only [b0]
  have hr : a = r := Fin.ext (by rw [hE0, h0])
  have hj : l = j := Fin.ext (by rw [hE1, h1])
  simp only [hr, hj]
  rw [Fin.sum_univ_eight]

/-- The array the kernel leaves is the reference's result. -/
theorem final (c : Dev nD) :
    (dats m 0 c).arrAt 1 (cfgs 0).N = REF (m ((c : Thread nD τ).loc main_arg0)) := by
  refine (dats m 0 c).arrAt_eq_of_covers 1 _ (by decide +kernel) fun t _ y => ?_
  blk_simp
  rw [after0_1]
  exact point m _ c rfl t y

end Cert.SumKernelIdeal.Hand

end
-- ==== Proof.Adam.lean ====
/- The value of the update of a weight: the blocks the kernel writes are the blocks of the reference. -/
module

public import proofs.«01_k».proof.Proof.Gen.AdamKernelIdeal.Value
public import proofs.«01_k».proof.Proof.Gen.AdamReferenceIdeal.Run
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamReferenceIdeal.Read

open Cert.AdamReferenceIdeal Cert.AdamReferenceIdeal.Gen Idealize.ShloMosaic Idealize.ShloMosaic.TcCoe Reals

/-- The change of the weight, as a function of the arguments. -/
def delta (W G M U : FVec Ideal S4096x1408 .f32) : FVec Ideal S4096x1408 .f32 :=
  mulf (broadcastInDim S4096x1408 ![] bcast_S_S4096x1408 (constant S_ .f32 0xBA83126F#32)) (addf (Host.divf (Host.divf (addf (mulf (broadcastInDim S4096x1408 ![] bcast_S_S4096x1408 (constant S_ .f32 0x3F666666#32)) M) (mulf (broadcastInDim S4096x1408 ![] bcast_S_S4096x1408 (constant S_ .f32 0x3DCCCCCD#32)) G)) (broadcastInDim S4096x1408 ![] bcast_S_S4096x1408 (constant S_ .f32 0x3F26BD02#32))) (addf (Host.sqrt (Host.divf (addf (mulf (broadcastInDim S4096x1408 ![] bcast_S_S4096x1408 (constant S_ .f32 0x3F7FBE77#32)) U) (mulf (broadcastInDim S4096x1408 ![] bcast_S_S4096x1408 (constant S_ .f32 0x3A83126F#32)) (mulf G G))) (broadcastInDim S4096x1408 ![] bcast_S_S4096x1408 (constant S_ .f32 0x3C231ACC#32)))) (broadcastInDim S4096x1408 ![] bcast_S_S4096x1408 (constant S_ .f32 0x322BCC77#32)))) (mulf (broadcastInDim S4096x1408 ![] bcast_S_S4096x1408 (constant S_ .f32 0x3C23D70A#32)) W))

/-- The new first moment, as a function of the arguments. -/
def mom (W G M U : FVec Ideal S4096x1408 .f32) : FVec Ideal S4096x1408 .f32 :=
  addf (mulf (broadcastInDim S4096x1408 ![] bcast_S_S4096x1408 (constant S_ .f32 0x3F666666#32)) M) (mulf (broadcastInDim S4096x1408 ![] bcast_S_S4096x1408 (constant S_ .f32 0x3DCCCCCD#32)) G)

/-- The new second moment, as a function of the arguments. -/
def vel (W G M U : FVec Ideal S4096x1408 .f32) : FVec Ideal S4096x1408 .f32 :=
  addf (mulf (broadcastInDim S4096x1408 ![] bcast_S_S4096x1408 (constant S_ .f32 0x3F7FBE77#32)) U) (mulf (broadcastInDim S4096x1408 ![] bcast_S_S4096x1408 (constant S_ .f32 0x3A83126F#32)) (mulf G G))

end Cert.AdamReferenceIdeal.Read

namespace Cert.AdamKernelIdeal.Hand

open Cert.AdamKernelIdeal Cert.AdamKernelIdeal.Gen Idealize.ShloMosaic Idealize.ShloMosaic.TcCoe Idealize.SL.Sem Reals
open Idealize.ShloMosaic.Pipeline (Dat)
open Cert.AdamReferenceIdeal.Read (delta mom vel)

variable (m : (ℓ : Loc nD τ sig) → Buf (Elt Ideal) ℓ)

/-- The block each window is at, point by point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The change of the weight a point writes is the reference's block. -/
theorem delta_point (W G M U : FVec Ideal S4096x1408 .f32) (c : Dev nD)
    (eW : m ((c : Thread nD τ).loc main_arg0) = W) (eG : m ((c : Thread nD τ).loc main_arg1) = G) (eM : m ((c : Thread nD τ).loc main_arg2) = M) (eU : m ((c : Thread nD τ).loc main_arg3) = U) (t : Fin cfg0.N) (y) :
    out0_4 (iblk m c 0 t) (iblk m c 1 t) (iblk m c 2 t) (iblk m c 3 t) y = delta W G M U (((cfg0.win 4).blk t).view.emb y) := by
  have hE0 : (((cfg0.win 4).blk t).view.emb y 0).val = t.val * 256 + (y 0).val := by blk_simp [idx t] <;> omega
  have hE1 : (((cfg0.win 4).blk t).view.emb y 1).val = (y 1).val := by blk_simp [idx t] <;> omega
  generalize ((cfg0.win 4).blk t).view.emb y = E at hE0 hE1 ⊢
  obtain ⟨r, j, rfl⟩ : ∃ (r : Fin 4096) (j : Fin 1408), E = ix2 r j := ⟨E 0, E 1, by blk_ext⟩
  replace hE0 : r.val = t.val * 256 + (y 0).val := hE0
  replace hE1 : j.val = (y 1).val := hE1
  have ht : t.val < 16 := t.isLt
  have b0 (a : Fin 256) (n : Fin 1408) : iblk m c 0 t (ix2 a n) = W (ix2 ⟨t.val * 256 + a.val, by omega⟩ n) := by
    subst eW; blk_point [iblk, V, idx t]
  have b1 (a : Fin 256) (n : Fin 1408) : iblk m c 1 t (ix2 a n) = G (ix2 ⟨t.val * 256 + a.val, by omega⟩ n) := by
    subst eG; blk_point [iblk, V, idx t]
  have b2 (a : Fin 256) (n : Fin 1408) : iblk m c 2 t (ix2 a n) = M (ix2 ⟨t.val * 256 + a.val, by omega⟩ n) := by
    subst eM; blk_point [iblk, V, idx t]
  have b3 (a : Fin 256) (n : Fin 1408) : iblk m c 3 t (ix2 a n) = U (ix2 ⟨t.val * 256 + a.val, by omega⟩ n) := by
    subst eU; blk_point [iblk, V, idx t]
  rw [out0_4]
  canon_tiles x h
  obtain ⟨a, l, rfl⟩ : ∃ (a : Fin 256) (l : Fin 1408), x = ix2 a l := ⟨x 0, x 1, by blk_ext⟩
  replace h0 : (y 0).val = a.val := h0
  replace h1 : (y 1).val = l.val := h1
  open_payloads
  pointwise [k0_pay1, k0_pay2, k0_pay3, delta]
  simp only [b0, b1, b2, b3]
  blk_point []

/-- The change of the weight the kernel leaves is the reference's. -/
theorem delta_final (c : Dev nD) :
    (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact delta_point m _ _ _ _ c rfl rfl rfl rfl t y

/-- The new first moment a point writes is the reference's block. -/
theorem mom_point (W G M U : FVec Ideal S4096x1408 .f32) (c : Dev nD)
    (eW : m ((c : Thread nD τ).loc main_arg0) = W) (eG : m ((c : Thread nD τ).loc main_arg1) = G) (eM : m ((c : Thread nD τ).loc main_arg2) = M) (eU : m ((c : Thread nD τ).loc main_arg3) = U) (t : Fin cfg0.N) (y) :
    out0_5 (iblk m c 0 t) (iblk m c 1 t) (iblk m c 2 t) (iblk m c 3 t) y = mom W G M U (((cfg0.win 5).blk t).view.emb y) := by
  have hE0 : (((cfg0.win 5).blk t).view.emb y 0).val = t.val * 256 + (y 0).val := by blk_simp [idx t] <;> omega
  have hE1 : (((cfg0.win 5).blk t).view.emb y 1).val = (y 1).val := by blk_simp [idx t] <;> omega
  generalize ((cfg0.win 5).blk t).view.emb y = E at hE0 hE1 ⊢
  obtain ⟨r, j, rfl⟩ : ∃ (r : Fin 4096) (j : Fin 1408), E = ix2 r j := ⟨E 0, E 1, by blk_ext⟩
  replace hE0 : r.val = t.val * 256 + (y 0).val := hE0
  replace hE1 : j.val = (y 1).val := hE1
  have ht : t.val < 16 := t.isLt
  have b0 (a : Fin 256) (n : Fin 1408) : iblk m c 0 t (ix2 a n) = W (ix2 ⟨t.val * 256 + a.val, by omega⟩ n) := by
    subst eW; blk_point [iblk, V, idx t]
  have b1 (a : Fin 256) (n : Fin 1408) : iblk m c 1 t (ix2 a n) = G (ix2 ⟨t.val * 256 + a.val, by omega⟩ n) := by
    subst eG; blk_point [iblk, V, idx t]
  have b2 (a : Fin 256) (n : Fin 1408) : iblk m c 2 t (ix2 a n) = M (ix2 ⟨t.val * 256 + a.val, by omega⟩ n) := by
    subst eM; blk_point [iblk, V, idx t]
  have b3 (a : Fin 256) (n : Fin 1408) : iblk m c 3 t (ix2 a n) = U (ix2 ⟨t.val * 256 + a.val, by omega⟩ n) := by
    subst eU; blk_point [iblk, V, idx t]
  rw [out0_5]
  canon_tiles x h
  obtain ⟨a, l, rfl⟩ : ∃ (a : Fin 256) (l : Fin 1408), x = ix2 a l := ⟨x 0, x 1, by blk_ext⟩
  replace h0 : (y 0).val = a.val := h0
  replace h1 : (y 1).val = l.val := h1
  open_payloads
  pointwise [k0_pay1, k0_pay2, k0_pay3, mom]
  simp only [b0, b1, b2, b3]
  blk_point []

/-- The new first moment the kernel leaves is the reference's. -/
theorem mom_final (c : Dev nD) :
    (dats m 0 c).arrAt 5 (cfgs 0).N = mom (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact mom_point m _ _ _ _ c rfl rfl rfl rfl t y

/-- The new second moment a point writes is the reference's block. -/
theorem vel_point (W G M U : FVec Ideal S4096x1408 .f32) (c : Dev nD)
    (eW : m ((c : Thread nD τ).loc main_arg0) = W) (eG : m ((c : Thread nD τ).loc main_arg1) = G) (eM : m ((c : Thread nD τ).loc main_arg2) = M) (eU : m ((c : Thread nD τ).loc main_arg3) = U) (t : Fin cfg0.N) (y) :
    out0_6 (iblk m c 0 t) (iblk m c 1 t) (iblk m c 2 t) (iblk m c 3 t) y = vel W G M U (((cfg0.win 6).blk t).view.emb y) := by
  have hE0 : (((cfg0.win 6).blk t).view.emb y 0).val = t.val * 256 + (y 0).val := by blk_simp [idx t] <;> omega
  have hE1 : (((cfg0.win 6).blk t).view.emb y 1).val = (y 1).val := by blk_simp [idx t] <;> omega
  generalize ((cfg0.win 6).blk t).view.emb y = E at hE0 hE1 ⊢
  obtain ⟨r, j, rfl⟩ : ∃ (r : Fin 4096) (j : Fin 1408), E = ix2 r j := ⟨E 0, E 1, by blk_ext⟩
  replace hE0 : r.val = t.val * 256 + (y 0).val := hE0
  replace hE1 : j.val = (y 1).val := hE1
  have ht : t.val < 16 := t.isLt
  have b0 (a : Fin 256) (n : Fin 1408) : iblk m c 0 t (ix2 a n) = W (ix2 ⟨t.val * 256 + a.val, by omega⟩ n) := by
    subst eW; blk_point [iblk, V, idx t]
  have b1 (a : Fin 256) (n : Fin 1408) : iblk m c 1 t (ix2 a n) = G (ix2 ⟨t.val * 256 + a.val, by omega⟩ n) := by
    subst eG; blk_point [iblk, V, idx t]
  have b2 (a : Fin 256) (n : Fin 1408) : iblk m c 2 t (ix2 a n) = M (ix2 ⟨t.val * 256 + a.val, by omega⟩ n) := by
    subst eM; blk_point [iblk, V, idx t]
  have b3 (a : Fin 256) (n : Fin 1408) : iblk m c 3 t (ix2 a n) = U (ix2 ⟨t.val * 256 + a.val, by omega⟩ n) := by
    subst eU; blk_point [iblk, V, idx t]
  rw [out0_6]
  canon_tiles x h
  obtain ⟨a, l, rfl⟩ : ∃ (a : Fin 256) (l : Fin 1408), x = ix2 a l := ⟨x 0, x 1, by blk_ext⟩
  replace h0 : (y 0).val = a.val := h0
  replace h1 : (y 1).val = l.val := h1
  open_payloads
  pointwise [k0_pay1, k0_pay2, k0_pay3, vel]
  simp only [b0, b1, b2, b3]
  blk_point []

/-- The new second moment the kernel leaves is the reference's. -/
theorem vel_final (c : Dev nD) :
    (dats m 0 c).arrAt 6 (cfgs 0).N = vel (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact vel_point m _ _ _ _ c rfl rfl rfl rfl t y

end Cert.AdamKernelIdeal.Hand

end
-- ==== Proof.lean ====
module

public import proofs.«01_k».proof.Defs
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal.Run
public import proofs.«01_k».proof.Proof.Gen.Pre_gate_args_finite
public import proofs.«01_k».proof.Proof.Gate
public import proofs.«01_k».proof.Proof.Attn
public import proofs.«01_k».proof.Proof.Prods
public import proofs.«01_k».proof.Proof.Steps
public import proofs.«01_k».proof.Proof.AttnBody
public import proofs.«01_k».proof.Proof.AttnBitsBody
public import proofs.«01_k».proof.Proof.DDilBody
public import proofs.«01_k».proof.Proof.DDilBitsBody
public import proofs.«01_k».proof.Proof.DilBody
public import proofs.«01_k».proof.Proof.DilBitsBody
public import proofs.«01_k».proof.Proof.FwdBody
public import proofs.«01_k».proof.Proof.FwdBitsBody
public import proofs.«01_k».proof.Proof.Up
public import proofs.«01_k».proof.Proof.DwUp
public import proofs.«01_k».proof.Proof.Dn
public import proofs.«01_k».proof.Proof.DwDown
public import proofs.«01_k».proof.Proof.Down
public import proofs.«01_k».proof.Proof.Do
public import proofs.«01_k».proof.Proof.DwOut
public import proofs.«01_k».proof.Proof.DwQkv
public import proofs.«01_k».proof.Proof.DnQkv
public import proofs.«01_k».proof.Proof.Qkv
public import proofs.«01_k».proof.Proof.Out
public import proofs.«01_k».proof.Proof.Norm
public import proofs.«01_k».proof.Proof.DNorm
public import proofs.«01_k».proof.Proof.Loss
public import proofs.«01_k».proof.Proof.Forget
public import proofs.«01_k».proof.Proof.DForget
public import proofs.«01_k».proof.Proof.Dwf
public import proofs.«01_k».proof.Proof.DnGate
public import proofs.«01_k».proof.Proof.Hf
public import proofs.«01_k».proof.Proof.Sum
public import proofs.«01_k».proof.Proof.Adam
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

theorem gate_reference_frame : Cert.quiescent_GateReferenceIdeal := by
  intro m ρ _
  exact (θ_run Cert.GateReferenceIdeal.defs _ _).mono (fun r h => ⟨fun c => (h c).2, sem_eq_zero_of_no_sems (by decide) r.2⟩)
    (Cert.GateReferenceIdeal.Value.run (F := Ideal) m ρ)

theorem gate_value : Cert.algebraic_GateKernelIdeal_GateReferenceIdeal_pre_gate_args_finite := by
  pair_intro
  · run_from Cert.GateKernelIdeal.Gen.run_main m g
  · run_from Cert.GateReferenceIdeal.Value.run m' g'
    rw [show Cert.GateReferenceIdeal.Value.res_main_v26 m' c = _ from Cert.GateReferenceIdeal.Read.res_eq m' c]
    obtain ⟨hX, hW, hG⟩ := Cert.GateKernelIdeal.Hand.args_fin _ _ _ (hpre c)
    obtain ⟨e0, e1, e2⟩ := hagree c
    rw [e0, e1, e2]
    exact (Cert.GateKernelIdeal.Hand.final m c hX hW hG).symm

theorem attn_kernel_frame : Cert.quiescent_AttnKernel := by
  intro m ρ _
  exact Cert.AttnKernel.Hand.run_args (F := Bits) m ρ

theorem attn_ideal_frame : Cert.quiescent_AttnKernelIdeal := by
  intro m ρ _
  exact Cert.AttnKernelIdeal.Hand.run_args (F := Ideal) m ρ

theorem attn_reference_frame : Cert.quiescent_AttnReferenceIdeal := by
  intro m ρ _
  exact (θ_run Cert.AttnReferenceIdeal.defs _ _).mono (fun r h => ⟨fun c => (h c).2.2.2, sem_eq_zero_of_no_sems (by decide) r.2⟩)
    (Cert.AttnReferenceIdeal.Value.run (F := Ideal) m ρ)

theorem dDil_kernel_frame : Cert.quiescent_DDilKernel := by
  intro m ρ _
  exact Cert.DDilKernel.Hand.run_args (F := Bits) m ρ

theorem dDil_ideal_frame : Cert.quiescent_DDilKernelIdeal := by
  intro m ρ _
  exact Cert.DDilKernelIdeal.Hand.run_args (F := Ideal) m ρ

theorem dDil_reference_frame : Cert.quiescent_DDilReferenceIdeal := by
  intro m ρ _
  exact (θ_run Cert.DDilReferenceIdeal.defs _ _).mono (fun r h => ⟨fun c => (h c).2, sem_eq_zero_of_no_sems (by decide) r.2⟩)
    (Cert.DDilReferenceIdeal.Value.run (F := Ideal) m ρ)

theorem dil_kernel_frame : Cert.quiescent_DilKernel := by
  intro m ρ _
  exact Cert.DilKernel.Hand.run_args (F := Bits) m ρ

theorem dil_ideal_frame : Cert.quiescent_DilKernelIdeal := by
  intro m ρ _
  exact Cert.DilKernelIdeal.Hand.run_args (F := Ideal) m ρ

theorem fwd_kernel_frame : Cert.quiescent_FwdKernel := by
  intro m ρ _
  exact Cert.FwdKernel.Hand.run_args (F := Bits) m ρ

theorem fwd_ideal_frame : Cert.quiescent_FwdKernelIdeal := by
  intro m ρ _
  exact Cert.FwdKernelIdeal.Hand.run_args (F := Ideal) m ρ

theorem fwd_reference_frame : Cert.quiescent_FwdReferenceIdeal := by
  intro m ρ _
  exact (θ_run Cert.FwdReferenceIdeal.defs _ _).mono (fun r h => ⟨fun c => (h c).2.2.2, sem_eq_zero_of_no_sems (by decide) r.2⟩)
    (Cert.FwdReferenceIdeal.Value.run (F := Ideal) m ρ)

theorem up_reference_frame : Cert.quiescent_UpReferenceIdeal := by
  intro m ρ _
  exact (θ_run Cert.UpReferenceIdeal.defs _ _).mono (fun r h => ⟨fun c => (h c).2.2, sem_eq_zero_of_no_sems (by decide) r.2⟩)
    (Cert.UpReferenceIdeal.Value.run (F := Ideal) m ρ)

theorem up_value : Cert.algebraic_UpKernelIdeal_UpReferenceIdeal := by
  pair_intro
  · run_from Cert.UpKernelIdeal.Gen.run_main m g
  · run_from Cert.UpReferenceIdeal.Value.run m' g'
    · exact (Cert.UpKernelIdeal.Hand.final_gu m c).symm
    · exact (Cert.UpKernelIdeal.Hand.final_hid m c).symm

theorem dwUp_reference_frame : Cert.quiescent_DwUpReferenceIdeal := by
  intro m ρ _
  exact (θ_run Cert.DwUpReferenceIdeal.defs _ _).mono (fun r h => ⟨fun c => (h c).2, sem_eq_zero_of_no_sems (by decide) r.2⟩)
    (Cert.DwUpReferenceIdeal.Value.run (F := Ideal) m ρ)

theorem dwUp_value : Cert.algebraic_DwUpKernelIdeal_DwUpReferenceIdeal := by
  pair_intro
  · run_from Cert.DwUpKernelIdeal.Gen.run_main m g
  · run_from Cert.DwUpReferenceIdeal.Value.run m' g'
    exact (Cert.DwUpKernelIdeal.Hand.final m c).symm

theorem dn_reference_frame : Cert.quiescent_DnReferenceIdeal := by
  intro m ρ _
  exact (θ_run Cert.DnReferenceIdeal.defs _ _).mono (fun r h => ⟨fun c => (h c).2, sem_eq_zero_of_no_sems (by decide) r.2⟩)
    (Cert.DnReferenceIdeal.Value.run (F := Ideal) m ρ)

set_option maxRecDepth 16384 in
theorem dn_value : Cert.algebraic_DnKernelIdeal_DnReferenceIdeal := by
  pair_intro
  · run_from Cert.DnKernelIdeal.Gen.run_main m g
  · run_from Cert.DnReferenceIdeal.Value.run m' g'
    exact (Cert.DnKernelIdeal.Hand.final m c).symm

theorem dwDown_reference_frame : Cert.quiescent_DwDownReferenceIdeal := by
  intro m ρ _
  exact (θ_run Cert.DwDownReferenceIdeal.defs _ _).mono (fun r h => ⟨fun c => (h c).2, sem_eq_zero_of_no_sems (by decide) r.2⟩)
    (Cert.DwDownReferenceIdeal.Value.run (F := Ideal) m ρ)

theorem dwDown_value : Cert.algebraic_DwDownKernelIdeal_DwDownReferenceIdeal := by
  pair_intro
  · run_from Cert.DwDownKernelIdeal.Gen.run_main m g
  · run_from Cert.DwDownReferenceIdeal.Value.run m' g'
    exact (Cert.DwDownKernelIdeal.Hand.final m c).symm

theorem down_reference_frame : Cert.quiescent_DownReferenceIdeal := by
  intro m ρ _
  exact (θ_run Cert.DownReferenceIdeal.defs _ _).mono (fun r h => ⟨fun c => (h c).2, sem_eq_zero_of_no_sems (by decide) r.2⟩)
    (Cert.DownReferenceIdeal.Value.run (F := Ideal) m ρ)

theorem down_value : Cert.algebraic_DownKernelIdeal_DownReferenceIdeal := by
  pair_intro
  · run_from Cert.DownKernelIdeal.Gen.run_main m g
  · run_from Cert.DownReferenceIdeal.Value.run m' g'
    exact (Cert.DownKernelIdeal.Hand.final m c).symm

theorem dOut_reference_frame : Cert.quiescent_DoReferenceIdeal := by
  intro m ρ _
  exact (θ_run Cert.DoReferenceIdeal.defs _ _).mono (fun r h => ⟨fun c => (h c).2, sem_eq_zero_of_no_sems (by decide) r.2⟩)
    (Cert.DoReferenceIdeal.Value.run (F := Ideal) m ρ)

theorem dOut_value : Cert.algebraic_DoKernelIdeal_DoReferenceIdeal := by
  pair_intro
  · run_from Cert.DoKernelIdeal.Gen.run_main m g
  · run_from Cert.DoReferenceIdeal.Value.run m' g'
    exact (Cert.DoKernelIdeal.Hand.final m c).symm

theorem dwOut_reference_frame : Cert.quiescent_DwOutReferenceIdeal := by
  intro m ρ _
  exact (θ_run Cert.DwOutReferenceIdeal.defs _ _).mono (fun r h => ⟨fun c => (h c).2, sem_eq_zero_of_no_sems (by decide) r.2⟩)
    (Cert.DwOutReferenceIdeal.Value.run (F := Ideal) m ρ)

theorem dwOut_value : Cert.algebraic_DwOutKernelIdeal_DwOutReferenceIdeal := by
  pair_intro
  · run_from Cert.DwOutKernelIdeal.Gen.run_main m g
  · run_from Cert.DwOutReferenceIdeal.Value.run m' g'
    exact (Cert.DwOutKernelIdeal.Hand.final m c).symm

theorem dwQkv_reference_frame : Cert.quiescent_DwQkvReferenceIdeal := by
  intro m ρ _
  exact (θ_run Cert.DwQkvReferenceIdeal.defs _ _).mono (fun r h => ⟨fun c => (h c).2, sem_eq_zero_of_no_sems (by decide) r.2⟩)
    (Cert.DwQkvReferenceIdeal.Value.run (F := Ideal) m ρ)

theorem dwQkv_value : Cert.algebraic_DwQkvKernelIdeal_DwQkvReferenceIdeal := by
  pair_intro
  · run_from Cert.DwQkvKernelIdeal.Gen.run_main m g
  · run_from Cert.DwQkvReferenceIdeal.Value.run m' g'
    exact (Cert.DwQkvKernelIdeal.Hand.final m c).symm

theorem dnQkv_reference_frame : Cert.quiescent_DnQkvReferenceIdeal := by
  intro m ρ _
  exact (θ_run Cert.DnQkvReferenceIdeal.defs _ _).mono (fun r h => ⟨fun c => (h c).2, sem_eq_zero_of_no_sems (by decide) r.2⟩)
    (Cert.DnQkvReferenceIdeal.Value.run (F := Ideal) m ρ)

set_option maxRecDepth 16384 in
theorem dnQkv_value : Cert.algebraic_DnQkvKernelIdeal_DnQkvReferenceIdeal := by
  pair_intro
  · run_from Cert.DnQkvKernelIdeal.Gen.run_main m g
  · run_from Cert.DnQkvReferenceIdeal.Value.run m' g'
    exact (Cert.DnQkvKernelIdeal.Hand.final m c).symm

theorem qkv_reference_frame : Cert.quiescent_QkvReferenceIdeal := by
  intro m ρ _
  exact (θ_run Cert.QkvReferenceIdeal.defs _ _).mono (fun r h => ⟨fun c => (h c).2, sem_eq_zero_of_no_sems (by decide) r.2⟩)
    (Cert.QkvReferenceIdeal.Value.run (F := Ideal) m ρ)

theorem qkv_value : Cert.algebraic_QkvKernelIdeal_QkvReferenceIdeal := by
  pair_intro
  · run_from Cert.QkvKernelIdeal.Gen.run_main m g
  · run_from Cert.QkvReferenceIdeal.Value.run m' g'
    exact (Cert.QkvKernelIdeal.Hand.final m c).symm

theorem out_reference_frame : Cert.quiescent_OutReferenceIdeal := by
  intro m ρ _
  exact (θ_run Cert.OutReferenceIdeal.defs _ _).mono (fun r h => ⟨fun c => (h c).2, sem_eq_zero_of_no_sems (by decide) r.2⟩)
    (Cert.OutReferenceIdeal.Value.run (F := Ideal) m ρ)

theorem out_value : Cert.algebraic_OutKernelIdeal_OutReferenceIdeal := by
  pair_intro
  · run_from Cert.OutKernelIdeal.Gen.run_main m g
  · run_from Cert.OutReferenceIdeal.Value.run m' g'
    exact (Cert.OutKernelIdeal.Hand.final m c).symm

theorem norm_reference_frame : Cert.quiescent_NormReferenceIdeal := by
  intro m ρ _
  exact (θ_run Cert.NormReferenceIdeal.defs _ _).mono (fun r h => ⟨fun c => (h c).2, sem_eq_zero_of_no_sems (by decide) r.2⟩)
    (Cert.NormReferenceIdeal.Value.run (F := Ideal) m ρ)

theorem norm_value : Cert.algebraic_NormKernelIdeal_NormReferenceIdeal := by
  pair_intro
  · run_from Cert.NormKernelIdeal.Gen.run_main m g
  · run_from Cert.NormReferenceIdeal.Value.run m' g'
    exact (Cert.NormKernelIdeal.Hand.final m c).symm

theorem dNorm_reference_frame : Cert.quiescent_DNormReferenceIdeal := by
  intro m ρ _
  exact (θ_run Cert.DNormReferenceIdeal.defs _ _).mono (fun r h => ⟨fun c => (h c).2.2.2, sem_eq_zero_of_no_sems (by decide) r.2⟩)
    (Cert.DNormReferenceIdeal.Value.run (F := Ideal) m ρ)

theorem dNorm_value : Cert.algebraic_DNormKernelIdeal_DNormReferenceIdeal_pre_dnorm_args_finite := by
  pair_intro
  · run_from Cert.DNormKernelIdeal.Gen.run_main m g
  · run_from Cert.DNormReferenceIdeal.Value.run m' g'
    · have hp := hpre c
      obtain ⟨hD, hX, hG⟩ := Cert.DNormKernelIdeal.Hand.args_fin _ _ _ _ hp
      obtain ⟨e0, e1, e2, e3⟩ := hagree c
      rw [show Cert.DNormReferenceIdeal.Value.res_main_v37 m' c = _ from Cert.DNormReferenceIdeal.Read.res0 m' c, e0, e1, e2, e3]
      exact (Cert.DNormKernelIdeal.Hand.final_dx m c hD hX hG).symm
    · have hp := hpre c
      obtain ⟨hD, hX, hG⟩ := Cert.DNormKernelIdeal.Hand.args_fin _ _ _ _ hp
      obtain ⟨e0, e1, e2, e3⟩ := hagree c
      rw [show Cert.DNormReferenceIdeal.Value.res_main_v39 m' c = _ from Cert.DNormReferenceIdeal.Read.res1 m' c, e0, e1, e2, e3]
      exact (Cert.DNormKernelIdeal.Hand.final_dxb m c hD hX hG).symm
    · exact (Cert.DNormKernelIdeal.Hand.final_gain m c).symm

theorem loss_reference_frame : Cert.quiescent_LossReferenceIdeal := by
  intro m ρ _
  exact (θ_run Cert.LossReferenceIdeal.defs _ _).mono (fun r h => ⟨fun c => (h c).2.2.2.2, sem_eq_zero_of_no_sems (by decide) r.2⟩)
    (Cert.LossReferenceIdeal.Value.run (F := Ideal) m ρ)

theorem loss_value : Cert.algebraic_LossKernelIdeal_LossReferenceIdeal_pre_loss_args_finite := by
  pair_intro
  · run_from Cert.LossKernelIdeal.Gen.run_main m g
  · run_from Cert.LossReferenceIdeal.Value.run m' g'
    · have hp := hpre c
      obtain ⟨hX, hG, hT⟩ := Cert.LossKernelIdeal.Hand.args_fin _ _ _ hp
      obtain ⟨e0, e1, e2⟩ := hagree c
      rw [show Cert.LossReferenceIdeal.Value.res_main_v51 m' c = _ from Cert.LossReferenceIdeal.Read.res0 m' c, e0, e1, e2]
      exact (Cert.LossKernelIdeal.Hand.final_dx m c hX hG hT).symm
    · have hp := hpre c
      obtain ⟨hX, hG, hT⟩ := Cert.LossKernelIdeal.Hand.args_fin _ _ _ hp
      obtain ⟨e0, e1, e2⟩ := hagree c
      rw [show Cert.LossReferenceIdeal.Value.res_main_v52 m' c = _ from Cert.LossReferenceIdeal.Read.res1 m' c, e0, e1, e2]
      exact (Cert.LossKernelIdeal.Hand.final_dxb m c hX hG hT).symm
    · exact (Cert.LossKernelIdeal.Hand.final_gain m c).symm
    · exact (Cert.LossKernelIdeal.Hand.final_loss m c).symm

theorem dwf_reference_frame : Cert.quiescent_DwfReferenceIdeal := by
  intro m ρ _
  exact (θ_run Cert.DwfReferenceIdeal.defs _ _).mono (fun r h => ⟨fun c => (h c).2, sem_eq_zero_of_no_sems (by decide) r.2⟩)
    (Cert.DwfReferenceIdeal.Value.run (F := Ideal) m ρ)

theorem dwf_value : Cert.algebraic_DwfKernelIdeal_DwfReferenceIdeal := by
  pair_intro
  · run_from Cert.DwfKernelIdeal.Gen.run_main m g
  · run_from Cert.DwfReferenceIdeal.Value.run m' g'
    exact (Cert.DwfKernelIdeal.Hand.final m c).symm

theorem dnGate_reference_frame : Cert.quiescent_DnGateReferenceIdeal := by
  intro m ρ _
  exact (θ_run Cert.DnGateReferenceIdeal.defs _ _).mono (fun r h => ⟨fun c => (h c).2, sem_eq_zero_of_no_sems (by decide) r.2⟩)
    (Cert.DnGateReferenceIdeal.Value.run (F := Ideal) m ρ)

theorem dnGate_value : Cert.algebraic_DnGateKernelIdeal_DnGateReferenceIdeal := by
  pair_intro
  · run_from Cert.DnGateKernelIdeal.Gen.run_main m g
  · run_from Cert.DnGateReferenceIdeal.Value.run m' g'
    exact (Cert.DnGateKernelIdeal.Hand.final m c).symm

theorem hf_reference_frame : Cert.quiescent_HfReferenceIdeal := by
  intro m ρ _
  exact (θ_run Cert.HfReferenceIdeal.defs _ _).mono (fun r h => ⟨fun c => (h c).2, sem_eq_zero_of_no_sems (by decide) r.2⟩)
    (Cert.HfReferenceIdeal.Value.run (F := Ideal) m ρ)

theorem hf_value : Cert.algebraic_HfKernelIdeal_HfReferenceIdeal := by
  pair_intro
  · run_from Cert.HfKernelIdeal.Gen.run_main m g
  · run_from Cert.HfReferenceIdeal.Value.run m' g'
    exact (Cert.HfKernelIdeal.Hand.final m c).symm

theorem sum_reference_frame : Cert.quiescent_SumReferenceIdeal := by
  intro m ρ _
  exact (θ_run Cert.SumReferenceIdeal.defs _ _).mono (fun r h => ⟨fun c => (h c).2, sem_eq_zero_of_no_sems (by decide) r.2⟩)
    (Cert.SumReferenceIdeal.Value.run (F := Ideal) m ρ)

theorem sum_value : Cert.algebraic_SumKernelIdeal_SumReferenceIdeal := by
  pair_intro
  · run_from Cert.SumKernelIdeal.Gen.run_main m g
  · refine Idealize.ShloMosaic.θ_run_mono (Cert.SumReferenceIdeal.Value.run m' g') ?_
    intro r hr c
    refine ⟨(hr c).1.trans ?_, (hr c).2⟩
    rw [hagree c]
    exact (Cert.SumKernelIdeal.Hand.final m c).symm

theorem adam_reference_frame : Cert.quiescent_AdamReferenceIdeal := by
  intro m ρ _
  exact (θ_run Cert.AdamReferenceIdeal.defs _ _).mono (fun r h => ⟨fun c => (h c).2.2.2, sem_eq_zero_of_no_sems (by decide) r.2⟩)
    (Cert.AdamReferenceIdeal.Value.run (F := Ideal) m ρ)

theorem adam_value : Cert.algebraic_AdamKernelIdeal_AdamReferenceIdeal := by
  pair_intro
  · run_from Cert.AdamKernelIdeal.Gen.run_main m g
  · run_from Cert.AdamReferenceIdeal.Value.run m' g'
    · exact (Cert.AdamKernelIdeal.Hand.delta_final m c).symm
    · exact (Cert.AdamKernelIdeal.Hand.mom_final m c).symm
    · exact (Cert.AdamKernelIdeal.Hand.vel_final m c).symm

theorem forget_reference_frame : Cert.quiescent_ForgetReferenceIdeal := by
  intro m ρ _
  exact (θ_run Cert.ForgetReferenceIdeal.defs _ _).mono (fun r h => ⟨fun c => (h c).2.2, sem_eq_zero_of_no_sems (by decide) r.2⟩)
    (Cert.ForgetReferenceIdeal.Value.run (F := Ideal) m ρ)

set_option maxRecDepth 65536 in
theorem forget_value : Cert.algebraic_ForgetKernelIdeal_ForgetReferenceIdeal := by
  pair_intro
  · run_from Cert.ForgetKernelIdeal.Gen.run_main m g
  · refine Idealize.ShloMosaic.θ_run_mono (Cert.ForgetReferenceIdeal.Value.run m' g') ?_
    intro r hr c
    obtain ⟨h0, h1, ha, hb⟩ := hr c
    obtain ⟨e0, e1⟩ := hagree c
    refine ⟨h0.trans ((Cert.ForgetReferenceIdeal.Read.res0 _ _).trans ?_), h1.trans ((Cert.ForgetReferenceIdeal.Read.res1 _ _).trans ?_), ha, hb⟩
    · rw [e0, e1]
      exact (Cert.ForgetKernelIdeal.Hand.final2 m c).symm
    · rw [e0, e1]
      exact (Cert.ForgetKernelIdeal.Hand.final3 m c).symm

theorem dForget_reference_frame : Cert.quiescent_DForgetReferenceIdeal := by
  intro m ρ _
  exact (θ_run Cert.DForgetReferenceIdeal.defs _ _).mono (fun r h => ⟨fun c => (h c).2.2, sem_eq_zero_of_no_sems (by decide) r.2⟩)
    (Cert.DForgetReferenceIdeal.Value.run (F := Ideal) m ρ)

set_option maxRecDepth 65536 in
theorem dForget_value : Cert.algebraic_DForgetKernelIdeal_DForgetReferenceIdeal := by
  pair_intro
  · run_from Cert.DForgetKernelIdeal.Gen.run_main m g
  · run_from Cert.DForgetReferenceIdeal.Value.run m' g'
    · obtain ⟨e0, e1, e2, e3⟩ := hagree c
      rw [show Cert.DForgetReferenceIdeal.Value.res_main_v13 m' c = _ from Cert.DForgetReferenceIdeal.Read.res0 m' c, e0, e1, e2, e3]
      exact (Cert.DForgetKernelIdeal.Hand.final4 m c).symm
    · obtain ⟨e0, e1, e2, e3⟩ := hagree c
      rw [show Cert.DForgetReferenceIdeal.Value.res_main_v14 m' c = _ from Cert.DForgetReferenceIdeal.Read.res1 m' c, e0, e1, e2, e3]
      exact (Cert.DForgetKernelIdeal.Hand.final5 m c).symm

set_option maxHeartbeats 4000000 in
theorem claim : Cert.Claim :=
  ⟨Cert.GateKernel.Gen.facts, Cert.GateKernelIdeal.Gen.facts, Cert.GateReferenceIdeal.Gen.facts, Cert.AttnKernel.Gen.facts,
    Cert.AttnKernelIdeal.Gen.facts, Cert.AttnReferenceIdeal.Gen.facts, Cert.UpKernel.Gen.facts, Cert.UpKernelIdeal.Gen.facts,
    Cert.UpReferenceIdeal.Gen.facts, Cert.DwUpKernel.Gen.facts, Cert.DwUpKernelIdeal.Gen.facts, Cert.DwUpReferenceIdeal.Gen.facts,
    Cert.DnKernel.Gen.facts, Cert.DnKernelIdeal.Gen.facts, Cert.DnReferenceIdeal.Gen.facts, Cert.DwDownKernel.Gen.facts,
    Cert.DwDownKernelIdeal.Gen.facts, Cert.DwDownReferenceIdeal.Gen.facts, Cert.DownKernel.Gen.facts, Cert.DownKernelIdeal.Gen.facts,
    Cert.DownReferenceIdeal.Gen.facts, Cert.DoKernel.Gen.facts, Cert.DoKernelIdeal.Gen.facts, Cert.DoReferenceIdeal.Gen.facts,
    Cert.DwOutKernel.Gen.facts, Cert.DwOutKernelIdeal.Gen.facts, Cert.DwOutReferenceIdeal.Gen.facts, Cert.DwQkvKernel.Gen.facts,
    Cert.DwQkvKernelIdeal.Gen.facts, Cert.DwQkvReferenceIdeal.Gen.facts, Cert.DnQkvKernel.Gen.facts, Cert.DnQkvKernelIdeal.Gen.facts,
    Cert.DnQkvReferenceIdeal.Gen.facts, Cert.QkvKernel.Gen.facts, Cert.QkvKernelIdeal.Gen.facts, Cert.QkvReferenceIdeal.Gen.facts,
    Cert.OutKernel.Gen.facts, Cert.OutKernelIdeal.Gen.facts, Cert.OutReferenceIdeal.Gen.facts, Cert.NormKernel.Gen.facts,
    Cert.NormKernelIdeal.Gen.facts, Cert.NormReferenceIdeal.Gen.facts, Cert.DNormKernel.Gen.facts, Cert.DNormKernelIdeal.Gen.facts,
    Cert.DNormReferenceIdeal.Gen.facts, Cert.LossKernel.Gen.facts, Cert.LossKernelIdeal.Gen.facts, Cert.LossReferenceIdeal.Gen.facts,
    Cert.DwfKernel.Gen.facts, Cert.DwfKernelIdeal.Gen.facts, Cert.DwfReferenceIdeal.Gen.facts, Cert.DnGateKernel.Gen.facts,
    Cert.DnGateKernelIdeal.Gen.facts, Cert.DnGateReferenceIdeal.Gen.facts, Cert.HfKernel.Gen.facts, Cert.HfKernelIdeal.Gen.facts,
    Cert.HfReferenceIdeal.Gen.facts, Cert.ForgetKernel.Gen.facts, Cert.ForgetKernelIdeal.Gen.facts, Cert.ForgetReferenceIdeal.Gen.facts,
    Cert.DForgetKernel.Gen.facts, Cert.DForgetKernelIdeal.Gen.facts, Cert.DForgetReferenceIdeal.Gen.facts, Cert.SumKernel.Gen.facts,
    Cert.SumKernelIdeal.Gen.facts, Cert.SumReferenceIdeal.Gen.facts, Cert.AdamKernel.Gen.facts, Cert.AdamKernelIdeal.Gen.facts,
    Cert.AdamReferenceIdeal.Gen.facts, Cert.DDilKernel.Gen.facts, Cert.DDilKernelIdeal.Gen.facts, Cert.DDilReferenceIdeal.Gen.facts,
    Cert.DilKernel.Gen.facts, Cert.DilKernelIdeal.Gen.facts, Cert.FwdKernel.Gen.facts, Cert.FwdKernelIdeal.Gen.facts,
    Cert.FwdReferenceIdeal.Gen.facts, Cert.Pre_gate_args_finite.Gen.facts, Cert.Pre_dnorm_args_finite.Gen.facts,
    Cert.Pre_loss_args_finite.Gen.facts, fun m ρ _ => Cert.GateKernel.Gen.frame m ρ, fun m ρ _ => Cert.GateKernelIdeal.Gen.frame m ρ,
    fun m ρ _ => Cert.GateKernelIdeal.Gen.frame m ρ, gate_reference_frame, fun m ρ _ => gate_reference_frame m ρ trivial,
    attn_kernel_frame, attn_ideal_frame, attn_reference_frame, fun m ρ _ => Cert.UpKernel.Gen.frame m ρ, fun m ρ _ => Cert.UpKernelIdeal.Gen.frame m ρ,
    up_reference_frame, fun m ρ _ => Cert.DwUpKernel.Gen.frame m ρ, fun m ρ _ => Cert.DwUpKernelIdeal.Gen.frame m ρ,
    dwUp_reference_frame, fun m ρ _ => Cert.DnKernel.Gen.frame m ρ, fun m ρ _ => Cert.DnKernelIdeal.Gen.frame m ρ,
    dn_reference_frame, fun m ρ _ => Cert.DwDownKernel.Gen.frame m ρ, fun m ρ _ => Cert.DwDownKernelIdeal.Gen.frame m ρ,
    dwDown_reference_frame, fun m ρ _ => Cert.DownKernel.Gen.frame m ρ, fun m ρ _ => Cert.DownKernelIdeal.Gen.frame m ρ,
    down_reference_frame, fun m ρ _ => Cert.DoKernel.Gen.frame m ρ, fun m ρ _ => Cert.DoKernelIdeal.Gen.frame m ρ,
    dOut_reference_frame, fun m ρ _ => Cert.DwOutKernel.Gen.frame m ρ, fun m ρ _ => Cert.DwOutKernelIdeal.Gen.frame m ρ,
    dwOut_reference_frame, fun m ρ _ => Cert.DwQkvKernel.Gen.frame m ρ, fun m ρ _ => Cert.DwQkvKernelIdeal.Gen.frame m ρ,
    dwQkv_reference_frame, fun m ρ _ => Cert.DnQkvKernel.Gen.frame m ρ, fun m ρ _ => Cert.DnQkvKernelIdeal.Gen.frame m ρ,
    dnQkv_reference_frame, fun m ρ _ => Cert.QkvKernel.Gen.frame m ρ, fun m ρ _ => Cert.QkvKernelIdeal.Gen.frame m ρ,
    qkv_reference_frame, fun m ρ _ => Cert.OutKernel.Gen.frame m ρ, fun m ρ _ => Cert.OutKernelIdeal.Gen.frame m ρ,
    out_reference_frame, fun m ρ _ => Cert.NormKernel.Gen.frame m ρ, fun m ρ _ => Cert.NormKernelIdeal.Gen.frame m ρ,
    norm_reference_frame, fun m ρ _ => Cert.DNormKernel.Gen.frame m ρ, fun m ρ _ => Cert.DNormKernelIdeal.Gen.frame m ρ,
    fun m ρ _ => Cert.DNormKernelIdeal.Gen.frame m ρ, dNorm_reference_frame, fun m ρ _ => dNorm_reference_frame m ρ trivial,
    fun m ρ _ => Cert.LossKernel.Gen.frame m ρ, fun m ρ _ => Cert.LossKernelIdeal.Gen.frame m ρ, fun m ρ _ => Cert.LossKernelIdeal.Gen.frame m ρ,
    loss_reference_frame, fun m ρ _ => loss_reference_frame m ρ trivial, fun m ρ _ => Cert.DwfKernel.Gen.frame m ρ,
    fun m ρ _ => Cert.DwfKernelIdeal.Gen.frame m ρ, dwf_reference_frame, fun m ρ _ => Cert.DnGateKernel.Gen.frame m ρ,
    fun m ρ _ => Cert.DnGateKernelIdeal.Gen.frame m ρ, dnGate_reference_frame, fun m ρ _ => Cert.HfKernel.Gen.frame m ρ,
    fun m ρ _ => Cert.HfKernelIdeal.Gen.frame m ρ, hf_reference_frame, fun m ρ _ => Cert.ForgetKernel.Gen.frame m ρ,
    fun m ρ _ => Cert.ForgetKernelIdeal.Gen.frame m ρ, forget_reference_frame, fun m ρ _ => Cert.DForgetKernel.Gen.frame m ρ,
    fun m ρ _ => Cert.DForgetKernelIdeal.Gen.frame m ρ, dForget_reference_frame, fun m ρ _ => Cert.SumKernel.Gen.frame m ρ,
    fun m ρ _ => Cert.SumKernelIdeal.Gen.frame m ρ, sum_reference_frame, fun m ρ _ => Cert.AdamKernel.Gen.frame m ρ,
    fun m ρ _ => Cert.AdamKernelIdeal.Gen.frame m ρ, adam_reference_frame, dDil_kernel_frame, dDil_ideal_frame,
    dDil_reference_frame, dil_kernel_frame, dil_ideal_frame, fwd_kernel_frame, fwd_ideal_frame, fwd_reference_frame,
    trivial, gate_value, trivial, trivial, up_value, trivial, dwUp_value, trivial, dn_value, trivial, dwDown_value,
    trivial, down_value, trivial, dOut_value, trivial, dwOut_value, trivial, dwQkv_value, trivial, dnQkv_value,
    trivial, qkv_value, trivial, out_value, trivial, norm_value, trivial, dNorm_value, trivial, loss_value, trivial,
    dwf_value, trivial, dnGate_value, trivial, hf_value, trivial, forget_value, trivial, dForget_value, trivial,
    sum_value, trivial, adam_value, trivial, trivial, trivial⟩

end Cert.Proof

end
